-- ==== Defs.lean ====
def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_GmlpBwd (m : (ℓ : Loc Cert.GmlpBwd.nD Cert.GmlpBwd.τ Cert.GmlpBwd.sig) → Buf (Elt Bits) ℓ) : Prop :=
  True

def Pre_GmlpBwdIdeal (m : (ℓ : Loc Cert.GmlpBwdIdeal.nD Cert.GmlpBwdIdeal.τ Cert.GmlpBwdIdeal.sig) → Buf (Elt Ideal) ℓ) : Prop :=
  True

def Pre_GmlpBwdIdeal_finite_gmlp_bwd [hPre_finite_gmlp_bwd : Cert.Pre_finite_gmlp_bwd.Facts] (m : (ℓ : Loc Cert.GmlpBwdIdeal.nD Cert.GmlpBwdIdeal.τ Cert.GmlpBwdIdeal.sig) → Buf (Elt Ideal) ℓ) : Prop :=
  ∀ c : Dev Cert.GmlpBwdIdeal.nD,
    (Cert.Pre_finite_gmlp_bwd.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5))).1 = (fun _ => 1#1)
    ∧ (Cert.Pre_finite_gmlp_bwd.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5))).2.1 = (fun _ => 1#1)
    ∧ (Cert.Pre_finite_gmlp_bwd.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5))).2.2.1 = (fun _ => 1#1)
    ∧ (Cert.Pre_finite_gmlp_bwd.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5))).2.2.2.1 = (fun _ => 1#1)
    ∧ (Cert.Pre_finite_gmlp_bwd.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5))).2.2.2.2.1 = (fun _ => 1#1)
    ∧ (Cert.Pre_finite_gmlp_bwd.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5))).2.2.2.2.2 = (fun _ => 1#1)

def Pre_GmlpBwdRefIdeal (m : (ℓ : Loc Cert.GmlpBwdRefIdeal.nD Cert.GmlpBwdRefIdeal.τ Cert.GmlpBwdRefIdeal.sig) → Buf (Elt Ideal) ℓ) : Prop :=
  True

def Pre_GmlpBwdRefIdeal_finite_gmlp_bwd [hPre_finite_gmlp_bwd : Cert.Pre_finite_gmlp_bwd.Facts] (m : (ℓ : Loc Cert.GmlpBwdRefIdeal.nD Cert.GmlpBwdRefIdeal.τ Cert.GmlpBwdRefIdeal.sig) → Buf (Elt Ideal) ℓ) : Prop :=
  ∀ c : Dev Cert.GmlpBwdRefIdeal.nD,
    (Cert.Pre_finite_gmlp_bwd.fn (F := Ideal) (m ((c.tc : Thread Cert.GmlpBwdRefIdeal.nD Cert.GmlpBwdRefIdeal.τ).loc Cert.GmlpBwdRefIdeal.main_arg0)) (m ((c.tc : Thread Cert.GmlpBwdRefIdeal.nD Cert.GmlpBwdRefIdeal.τ).loc Cert.GmlpBwdRefIdeal.main_arg1)) (m ((c.tc : Thread Cert.GmlpBwdRefIdeal.nD Cert.GmlpBwdRefIdeal.τ).loc Cert.GmlpBwdRefIdeal.main_arg2)) (m ((c.tc : Thread Cert.GmlpBwdRefIdeal.nD Cert.GmlpBwdRefIdeal.τ).loc Cert.GmlpBwdRefIdeal.main_arg3)) (m ((c.tc : Thread Cert.GmlpBwdRefIdeal.nD Cert.GmlpBwdRefIdeal.τ).loc Cert.GmlpBwdRefIdeal.main_arg4)) (m ((c.tc : Thread Cert.GmlpBwdRefIdeal.nD Cert.GmlpBwdRefIdeal.τ).loc Cert.GmlpBwdRefIdeal.main_arg5))).1 = (fun _ => 1#1)
    ∧ (Cert.Pre_finite_gmlp_bwd.fn (F := Ideal) (m ((c.tc : Thread Cert.GmlpBwdRefIdeal.nD Cert.GmlpBwdRefIdeal.τ).loc Cert.GmlpBwdRefIdeal.main_arg0)) (m ((c.tc : Thread Cert.GmlpBwdRefIdeal.nD Cert.GmlpBwdRefIdeal.τ).loc Cert.GmlpBwdRefIdeal.main_arg1)) (m ((c.tc : Thread Cert.GmlpBwdRefIdeal.nD Cert.GmlpBwdRefIdeal.τ).loc Cert.GmlpBwdRefIdeal.main_arg2)) (m ((c.tc : Thread Cert.GmlpBwdRefIdeal.nD Cert.GmlpBwdRefIdeal.τ).loc Cert.GmlpBwdRefIdeal.main_arg3)) (m ((c.tc : Thread Cert.GmlpBwdRefIdeal.nD Cert.GmlpBwdRefIdeal.τ).loc Cert.GmlpBwdRefIdeal.main_arg4)) (m ((c.tc : Thread Cert.GmlpBwdRefIdeal.nD Cert.GmlpBwdRefIdeal.τ).loc Cert.GmlpBwdRefIdeal.main_arg5))).2.1 = (fun _ => 1#1)
    ∧ (Cert.Pre_finite_gmlp_bwd.fn (F := Ideal) (m ((c.tc : Thread Cert.GmlpBwdRefIdeal.nD Cert.GmlpBwdRefIdeal.τ).loc Cert.GmlpBwdRefIdeal.main_arg0)) (m ((c.tc : Thread Cert.GmlpBwdRefIdeal.nD Cert.GmlpBwdRefIdeal.τ).loc Cert.GmlpBwdRefIdeal.main_arg1)) (m ((c.tc : Thread Cert.GmlpBwdRefIdeal.nD Cert.GmlpBwdRefIdeal.τ).loc Cert.GmlpBwdRefIdeal.main_arg2)) (m ((c.tc : Thread Cert.GmlpBwdRefIdeal.nD Cert.GmlpBwdRefIdeal.τ).loc Cert.GmlpBwdRefIdeal.main_arg3)) (m ((c.tc : Thread Cert.GmlpBwdRefIdeal.nD Cert.GmlpBwdRefIdeal.τ).loc Cert.GmlpBwdRefIdeal.main_arg4)) (m ((c.tc : Thread Cert.GmlpBwdRefIdeal.nD Cert.GmlpBwdRefIdeal.τ).loc Cert.GmlpBwdRefIdeal.main_arg5))).2.2.1 = (fun _ => 1#1)
    ∧ (Cert.Pre_finite_gmlp_bwd.fn (F := Ideal) (m ((c.tc : Thread Cert.GmlpBwdRefIdeal.nD Cert.GmlpBwdRefIdeal.τ).loc Cert.GmlpBwdRefIdeal.main_arg0)) (m ((c.tc : Thread Cert.GmlpBwdRefIdeal.nD Cert.GmlpBwdRefIdeal.τ).loc Cert.GmlpBwdRefIdeal.main_arg1)) (m ((c.tc : Thread Cert.GmlpBwdRefIdeal.nD Cert.GmlpBwdRefIdeal.τ).loc Cert.GmlpBwdRefIdeal.main_arg2)) (m ((c.tc : Thread Cert.GmlpBwdRefIdeal.nD Cert.GmlpBwdRefIdeal.τ).loc Cert.GmlpBwdRefIdeal.main_arg3)) (m ((c.tc : Thread Cert.GmlpBwdRefIdeal.nD Cert.GmlpBwdRefIdeal.τ).loc Cert.GmlpBwdRefIdeal.main_arg4)) (m ((c.tc : Thread Cert.GmlpBwdRefIdeal.nD Cert.GmlpBwdRefIdeal.τ).loc Cert.GmlpBwdRefIdeal.main_arg5))).2.2.2.1 = (fun _ => 1#1)
    ∧ (Cert.Pre_finite_gmlp_bwd.fn (F := Ideal) (m ((c.tc : Thread Cert.GmlpBwdRefIdeal.nD Cert.GmlpBwdRefIdeal.τ).loc Cert.GmlpBwdRefIdeal.main_arg0)) (m ((c.tc : Thread Cert.GmlpBwdRefIdeal.nD Cert.GmlpBwdRefIdeal.τ).loc Cert.GmlpBwdRefIdeal.main_arg1)) (m ((c.tc : Thread Cert.GmlpBwdRefIdeal.nD Cert.GmlpBwdRefIdeal.τ).loc Cert.GmlpBwdRefIdeal.main_arg2)) (m ((c.tc : Thread Cert.GmlpBwdRefIdeal.nD Cert.GmlpBwdRefIdeal.τ).loc Cert.GmlpBwdRefIdeal.main_arg3)) (m ((c.tc : Thread Cert.GmlpBwdRefIdeal.nD Cert.GmlpBwdRefIdeal.τ).loc Cert.GmlpBwdRefIdeal.main_arg4)) (m ((c.tc : Thread Cert.GmlpBwdRefIdeal.nD Cert.GmlpBwdRefIdeal.τ).loc Cert.GmlpBwdRefIdeal.main_arg5))).2.2.2.2.1 = (fun _ => 1#1)
    ∧ (Cert.Pre_finite_gmlp_bwd.fn (F := Ideal) (m ((c.tc : Thread Cert.GmlpBwdRefIdeal.nD Cert.GmlpBwdRefIdeal.τ).loc Cert.GmlpBwdRefIdeal.main_arg0)) (m ((c.tc : Thread Cert.GmlpBwdRefIdeal.nD Cert.GmlpBwdRefIdeal.τ).loc Cert.GmlpBwdRefIdeal.main_arg1)) (m ((c.tc : Thread Cert.GmlpBwdRefIdeal.nD Cert.GmlpBwdRefIdeal.τ).loc Cert.GmlpBwdRefIdeal.main_arg2)) (m ((c.tc : Thread Cert.GmlpBwdRefIdeal.nD Cert.GmlpBwdRefIdeal.τ).loc Cert.GmlpBwdRefIdeal.main_arg3)) (m ((c.tc : Thread Cert.GmlpBwdRefIdeal.nD Cert.GmlpBwdRefIdeal.τ).loc Cert.GmlpBwdRefIdeal.main_arg4)) (m ((c.tc : Thread Cert.GmlpBwdRefIdeal.nD Cert.GmlpBwdRefIdeal.τ).loc Cert.GmlpBwdRefIdeal.main_arg5))).2.2.2.2.2 = (fun _ => 1#1)

def Pre_NormTwoBwd (m : (ℓ : Loc Cert.NormTwoBwd.nD Cert.NormTwoBwd.τ Cert.NormTwoBwd.sig) → Buf (Elt Bits) ℓ) : Prop :=
  True

def Pre_NormTwoBwdIdeal (m : (ℓ : Loc Cert.NormTwoBwdIdeal.nD Cert.NormTwoBwdIdeal.τ Cert.NormTwoBwdIdeal.sig) → Buf (Elt Ideal) ℓ) : Prop :=
  True

def Pre_NormTwoBwdIdeal_finite_norm_two_bwd [hPre_finite_norm_two_bwd : Cert.Pre_finite_norm_two_bwd.Facts] (m : (ℓ : Loc Cert.NormTwoBwdIdeal.nD Cert.NormTwoBwdIdeal.τ Cert.NormTwoBwdIdeal.sig) → Buf (Elt Ideal) ℓ) : Prop :=
  ∀ c : Dev Cert.NormTwoBwdIdeal.nD,
    (Cert.Pre_finite_norm_two_bwd.fn (F := Ideal) (m ((c.tc : Thread Cert.NormTwoBwdIdeal.nD Cert.NormTwoBwdIdeal.τ).loc Cert.NormTwoBwdIdeal.main_arg0)) (m ((c.tc : Thread Cert.NormTwoBwdIdeal.nD Cert.NormTwoBwdIdeal.τ).loc Cert.NormTwoBwdIdeal.main_arg1)) (m ((c.tc : Thread Cert.NormTwoBwdIdeal.nD Cert.NormTwoBwdIdeal.τ).loc Cert.NormTwoBwdIdeal.main_arg2)) (m ((c.tc : Thread Cert.NormTwoBwdIdeal.nD Cert.NormTwoBwdIdeal.τ).loc Cert.NormTwoBwdIdeal.main_arg3)) (m ((c.tc : Thread Cert.NormTwoBwdIdeal.nD Cert.NormTwoBwdIdeal.τ).loc Cert.NormTwoBwdIdeal.main_arg4)) (m ((c.tc : Thread Cert.NormTwoBwdIdeal.nD Cert.NormTwoBwdIdeal.τ).loc Cert.NormTwoBwdIdeal.main_arg5)) (m ((c.tc : Thread Cert.NormTwoBwdIdeal.nD Cert.NormTwoBwdIdeal.τ).loc Cert.NormTwoBwdIdeal.main_arg6)) (m ((c.tc : Thread Cert.NormTwoBwdIdeal.nD Cert.NormTwoBwdIdeal.τ).loc Cert.NormTwoBwdIdeal.main_arg7))).1 = (fun _ => 1#1)
    ∧ (Cert.Pre_finite_norm_two_bwd.fn (F := Ideal) (m ((c.tc : Thread Cert.NormTwoBwdIdeal.nD Cert.NormTwoBwdIdeal.τ).loc Cert.NormTwoBwdIdeal.main_arg0)) (m ((c.tc : Thread Cert.NormTwoBwdIdeal.nD Cert.NormTwoBwdIdeal.τ).loc Cert.NormTwoBwdIdeal.main_arg1)) (m ((c.tc : Thread Cert.NormTwoBwdIdeal.nD Cert.NormTwoBwdIdeal.τ).loc Cert.NormTwoBwdIdeal.main_arg2)) (m ((c.tc : Thread Cert.NormTwoBwdIdeal.nD Cert.NormTwoBwdIdeal.τ).loc Cert.NormTwoBwdIdeal.main_arg3)) (m ((c.tc : Thread Cert.NormTwoBwdIdeal.nD Cert.NormTwoBwdIdeal.τ).loc Cert.NormTwoBwdIdeal.main_arg4)) (m ((c.tc : Thread Cert.NormTwoBwdIdeal.nD Cert.NormTwoBwdIdeal.τ).loc Cert.NormTwoBwdIdeal.main_arg5)) (m ((c.tc : Thread Cert.NormTwoBwdIdeal.nD Cert.NormTwoBwdIdeal.τ).loc Cert.NormTwoBwdIdeal.main_arg6)) (m ((c.tc : Thread Cert.NormTwoBwdIdeal.nD Cert.NormTwoBwdIdeal.τ).loc Cert.NormTwoBwdIdeal.main_arg7))).2.1 = (fun _ => 1#1)
    ∧ (Cert.Pre_finite_norm_two_bwd.fn (F := Ideal) (m ((c.tc : Thread Cert.NormTwoBwdIdeal.nD Cert.NormTwoBwdIdeal.τ).loc Cert.NormTwoBwdIdeal.main_arg0)) (m ((c.tc : Thread Cert.NormTwoBwdIdeal.nD Cert.NormTwoBwdIdeal.τ).loc Cert.NormTwoBwdIdeal.main_arg1)) (m ((c.tc : Thread Cert.NormTwoBwdIdeal.nD Cert.NormTwoBwdIdeal.τ).loc Cert.NormTwoBwdIdeal.main_arg2)) (m ((c.tc : Thread Cert.NormTwoBwdIdeal.nD Cert.NormTwoBwdIdeal.τ).loc Cert.NormTwoBwdIdeal.main_arg3)) (m ((c.tc : Thread Cert.NormTwoBwdIdeal.nD Cert.NormTwoBwdIdeal.τ).loc Cert.NormTwoBwdIdeal.main_arg4)) (m ((c.tc : Thread Cert.NormTwoBwdIdeal.nD Cert.NormTwoBwdIdeal.τ).loc Cert.NormTwoBwdIdeal.main_arg5)) (m ((c.tc : Thread Cert.NormTwoBwdIdeal.nD Cert.NormTwoBwdIdeal.τ).loc Cert.NormTwoBwdIdeal.main_arg6)) (m ((c.tc : Thread Cert.NormTwoBwdIdeal.nD Cert.NormTwoBwdIdeal.τ).loc Cert.NormTwoBwdIdeal.main_arg7))).2.2.1 = (fun _ => 1#1)
    ∧ (Cert.Pre_finite_norm_two_bwd.fn (F := Ideal) (m ((c.tc : Thread Cert.NormTwoBwdIdeal.nD Cert.NormTwoBwdIdeal.τ).loc Cert.NormTwoBwdIdeal.main_arg0)) (m ((c.tc : Thread Cert.NormTwoBwdIdeal.nD Cert.NormTwoBwdIdeal.τ).loc Cert.NormTwoBwdIdeal.main_arg1)) (m ((c.tc : Thread Cert.NormTwoBwdIdeal.nD Cert.NormTwoBwdIdeal.τ).loc Cert.NormTwoBwdIdeal.main_arg2)) (m ((c.tc : Thread Cert.NormTwoBwdIdeal.nD Cert.NormTwoBwdIdeal.τ).loc Cert.NormTwoBwdIdeal.main_arg3)) (m ((c.tc : Thread Cert.NormTwoBwdIdeal.nD Cert.NormTwoBwdIdeal.τ).loc Cert.NormTwoBwdIdeal.main_arg4)) (m ((c.tc : Thread Cert.NormTwoBwdIdeal.nD Cert.NormTwoBwdIdeal.τ).loc Cert.NormTwoBwdIdeal.main_arg5)) (m ((c.tc : Thread Cert.NormTwoBwdIdeal.nD Cert.NormTwoBwdIdeal.τ).loc Cert.NormTwoBwdIdeal.main_arg6)) (m ((c.tc : Thread Cert.NormTwoBwdIdeal.nD Cert.NormTwoBwdIdeal.τ).loc Cert.NormTwoBwdIdeal.main_arg7))).2.2.2.1 = (fun _ => 1#1)
    ∧ (Cert.Pre_finite_norm_two_bwd.fn (F := Ideal) (m ((c.tc : Thread Cert.NormTwoBwdIdeal.nD Cert.NormTwoBwdIdeal.τ).loc Cert.NormTwoBwdIdeal.main_arg0)) (m ((c.tc : Thread Cert.NormTwoBwdIdeal.nD Cert.NormTwoBwdIdeal.τ).loc Cert.NormTwoBwdIdeal.main_arg1)) (m ((c.tc : Thread Cert.NormTwoBwdIdeal.nD Cert.NormTwoBwdIdeal.τ).loc Cert.NormTwoBwdIdeal.main_arg2)) (m ((c.tc : Thread Cert.NormTwoBwdIdeal.nD Cert.NormTwoBwdIdeal.τ).loc Cert.NormTwoBwdIdeal.main_arg3)) (m ((c.tc : Thread Cert.NormTwoBwdIdeal.nD Cert.NormTwoBwdIdeal.τ).loc Cert.NormTwoBwdIdeal.main_arg4)) (m ((c.tc : Thread Cert.NormTwoBwdIdeal.nD Cert.NormTwoBwdIdeal.τ).loc Cert.NormTwoBwdIdeal.main_arg5)) (m ((c.tc : Thread Cert.NormTwoBwdIdeal.nD Cert.NormTwoBwdIdeal.τ).loc Cert.NormTwoBwdIdeal.main_arg6)) (m ((c.tc : Thread Cert.NormTwoBwdIdeal.nD Cert.NormTwoBwdIdeal.τ).loc Cert.NormTwoBwdIdeal.main_arg7))).2.2.2.2.1 = (fun _ => 1#1)
    ∧ (Cert.Pre_finite_norm_two_bwd.fn (F := Ideal) (m ((c.tc : Thread Cert.NormTwoBwdIdeal.nD Cert.NormTwoBwdIdeal.τ).loc Cert.NormTwoBwdIdeal.main_arg0)) (m ((c.tc : Thread Cert.NormTwoBwdIdeal.nD Cert.NormTwoBwdIdeal.τ).loc Cert.NormTwoBwdIdeal.main_arg1)) (m ((c.tc : Thread Cert.NormTwoBwdIdeal.nD Cert.NormTwoBwdIdeal.τ).loc Cert.NormTwoBwdIdeal.main_arg2)) (m ((c.tc : Thread Cert.NormTwoBwdIdeal.nD Cert.NormTwoBwdIdeal.τ).loc Cert.NormTwoBwdIdeal.main_arg3)) (m ((c.tc : Thread Cert.NormTwoBwdIdeal.nD Cert.NormTwoBwdIdeal.τ).loc Cert.NormTwoBwdIdeal.main_arg4)) (m ((c.tc : Thread Cert.NormTwoBwdIdeal.nD Cert.NormTwoBwdIdeal.τ).loc Cert.NormTwoBwdIdeal.main_arg5)) (m ((c.tc : Thread Cert.NormTwoBwdIdeal.nD Cert.NormTwoBwdIdeal.τ).loc Cert.NormTwoBwdIdeal.main_arg6)) (m ((c.tc : Thread Cert.NormTwoBwdIdeal.nD Cert.NormTwoBwdIdeal.τ).loc Cert.NormTwoBwdIdeal.main_arg7))).2.2.2.2.2 = (fun _ => 1#1)

def Pre_NormTwoBwdRefIdeal (m : (ℓ : Loc Cert.NormTwoBwdRefIdeal.nD Cert.NormTwoBwdRefIdeal.τ Cert.NormTwoBwdRefIdeal.sig) → Buf (Elt Ideal) ℓ) : Prop :=
  True

def Pre_NormTwoBwdRefIdeal_finite_norm_two_bwd [hPre_finite_norm_two_bwd : Cert.Pre_finite_norm_two_bwd.Facts] (m : (ℓ : Loc Cert.NormTwoBwdRefIdeal.nD Cert.NormTwoBwdRefIdeal.τ Cert.NormTwoBwdRefIdeal.sig) → Buf (Elt Ideal) ℓ) : Prop :=
  ∀ c : Dev Cert.NormTwoBwdRefIdeal.nD,
    (Cert.Pre_finite_norm_two_bwd.fn (F := Ideal) (m ((c.tc : Thread Cert.NormTwoBwdRefIdeal.nD Cert.NormTwoBwdRefIdeal.τ).loc Cert.NormTwoBwdRefIdeal.main_arg0)) (m ((c.tc : Thread Cert.NormTwoBwdRefIdeal.nD Cert.NormTwoBwdRefIdeal.τ).loc Cert.NormTwoBwdRefIdeal.main_arg1)) (m ((c.tc : Thread Cert.NormTwoBwdRefIdeal.nD Cert.NormTwoBwdRefIdeal.τ).loc Cert.NormTwoBwdRefIdeal.main_arg2)) (m ((c.tc : Thread Cert.NormTwoBwdRefIdeal.nD Cert.NormTwoBwdRefIdeal.τ).loc Cert.NormTwoBwdRefIdeal.main_arg3)) (m ((c.tc : Thread Cert.NormTwoBwdRefIdeal.nD Cert.NormTwoBwdRefIdeal.τ).loc Cert.NormTwoBwdRefIdeal.main_arg4)) (m ((c.tc : Thread Cert.NormTwoBwdRefIdeal.nD Cert.NormTwoBwdRefIdeal.τ).loc Cert.NormTwoBwdRefIdeal.main_arg5)) (m ((c.tc : Thread Cert.NormTwoBwdRefIdeal.nD Cert.NormTwoBwdRefIdeal.τ).loc Cert.NormTwoBwdRefIdeal.main_arg6)) (m ((c.tc : Thread Cert.NormTwoBwdRefIdeal.nD Cert.NormTwoBwdRefIdeal.τ).loc Cert.NormTwoBwdRefIdeal.main_arg7))).1 = (fun _ => 1#1)
    ∧ (Cert.Pre_finite_norm_two_bwd.fn (F := Ideal) (m ((c.tc : Thread Cert.NormTwoBwdRefIdeal.nD Cert.NormTwoBwdRefIdeal.τ).loc Cert.NormTwoBwdRefIdeal.main_arg0)) (m ((c.tc : Thread Cert.NormTwoBwdRefIdeal.nD Cert.NormTwoBwdRefIdeal.τ).loc Cert.NormTwoBwdRefIdeal.main_arg1)) (m ((c.tc : Thread Cert.NormTwoBwdRefIdeal.nD Cert.NormTwoBwdRefIdeal.τ).loc Cert.NormTwoBwdRefIdeal.main_arg2)) (m ((c.tc : Thread Cert.NormTwoBwdRefIdeal.nD Cert.NormTwoBwdRefIdeal.τ).loc Cert.NormTwoBwdRefIdeal.main_arg3)) (m ((c.tc : Thread Cert.NormTwoBwdRefIdeal.nD Cert.NormTwoBwdRefIdeal.τ).loc Cert.NormTwoBwdRefIdeal.main_arg4)) (m ((c.tc : Thread Cert.NormTwoBwdRefIdeal.nD Cert.NormTwoBwdRefIdeal.τ).loc Cert.NormTwoBwdRefIdeal.main_arg5)) (m ((c.tc : Thread Cert.NormTwoBwdRefIdeal.nD Cert.NormTwoBwdRefIdeal.τ).loc Cert.NormTwoBwdRefIdeal.main_arg6)) (m ((c.tc : Thread Cert.NormTwoBwdRefIdeal.nD Cert.NormTwoBwdRefIdeal.τ).loc Cert.NormTwoBwdRefIdeal.main_arg7))).2.1 = (fun _ => 1#1)
    ∧ (Cert.Pre_finite_norm_two_bwd.fn (F := Ideal) (m ((c.tc : Thread Cert.NormTwoBwdRefIdeal.nD Cert.NormTwoBwdRefIdeal.τ).loc Cert.NormTwoBwdRefIdeal.main_arg0)) (m ((c.tc : Thread Cert.NormTwoBwdRefIdeal.nD Cert.NormTwoBwdRefIdeal.τ).loc Cert.NormTwoBwdRefIdeal.main_arg1)) (m ((c.tc : Thread Cert.NormTwoBwdRefIdeal.nD Cert.NormTwoBwdRefIdeal.τ).loc Cert.NormTwoBwdRefIdeal.main_arg2)) (m ((c.tc : Thread Cert.NormTwoBwdRefIdeal.nD Cert.NormTwoBwdRefIdeal.τ).loc Cert.NormTwoBwdRefIdeal.main_arg3)) (m ((c.tc : Thread Cert.NormTwoBwdRefIdeal.nD Cert.NormTwoBwdRefIdeal.τ).loc Cert.NormTwoBwdRefIdeal.main_arg4)) (m ((c.tc : Thread Cert.NormTwoBwdRefIdeal.nD Cert.NormTwoBwdRefIdeal.τ).loc Cert.NormTwoBwdRefIdeal.main_arg5)) (m ((c.tc : Thread Cert.NormTwoBwdRefIdeal.nD Cert.NormTwoBwdRefIdeal.τ).loc Cert.NormTwoBwdRefIdeal.main_arg6)) (m ((c.tc : Thread Cert.NormTwoBwdRefIdeal.nD Cert.NormTwoBwdRefIdeal.τ).loc Cert.NormTwoBwdRefIdeal.main_arg7))).2.2.1 = (fun _ => 1#1)
    ∧ (Cert.Pre_finite_norm_two_bwd.fn (F := Ideal) (m ((c.tc : Thread Cert.NormTwoBwdRefIdeal.nD Cert.NormTwoBwdRefIdeal.τ).loc Cert.NormTwoBwdRefIdeal.main_arg0)) (m ((c.tc : Thread Cert.NormTwoBwdRefIdeal.nD Cert.NormTwoBwdRefIdeal.τ).loc Cert.NormTwoBwdRefIdeal.main_arg1)) (m ((c.tc : Thread Cert.NormTwoBwdRefIdeal.nD Cert.NormTwoBwdRefIdeal.τ).loc Cert.NormTwoBwdRefIdeal.main_arg2)) (m ((c.tc : Thread Cert.NormTwoBwdRefIdeal.nD Cert.NormTwoBwdRefIdeal.τ).loc Cert.NormTwoBwdRefIdeal.main_arg3)) (m ((c.tc : Thread Cert.NormTwoBwdRefIdeal.nD Cert.NormTwoBwdRefIdeal.τ).loc Cert.NormTwoBwdRefIdeal.main_arg4)) (m ((c.tc : Thread Cert.NormTwoBwdRefIdeal.nD Cert.NormTwoBwdRefIdeal.τ).loc Cert.NormTwoBwdRefIdeal.main_arg5)) (m ((c.tc : Thread Cert.NormTwoBwdRefIdeal.nD Cert.NormTwoBwdRefIdeal.τ).loc Cert.NormTwoBwdRefIdeal.main_arg6)) (m ((c.tc : Thread Cert.NormTwoBwdRefIdeal.nD Cert.NormTwoBwdRefIdeal.τ).loc Cert.NormTwoBwdRefIdeal.main_arg7))).2.2.2.1 = (fun _ => 1#1)
    ∧ (Cert.Pre_finite_norm_two_bwd.fn (F := Ideal) (m ((c.tc : Thread Cert.NormTwoBwdRefIdeal.nD Cert.NormTwoBwdRefIdeal.τ).loc Cert.NormTwoBwdRefIdeal.main_arg0)) (m ((c.tc : Thread Cert.NormTwoBwdRefIdeal.nD Cert.NormTwoBwdRefIdeal.τ).loc Cert.NormTwoBwdRefIdeal.main_arg1)) (m ((c.tc : Thread Cert.NormTwoBwdRefIdeal.nD Cert.NormTwoBwdRefIdeal.τ).loc Cert.NormTwoBwdRefIdeal.main_arg2)) (m ((c.tc : Thread Cert.NormTwoBwdRefIdeal.nD Cert.NormTwoBwdRefIdeal.τ).loc Cert.NormTwoBwdRefIdeal.main_arg3)) (m ((c.tc : Thread Cert.NormTwoBwdRefIdeal.nD Cert.NormTwoBwdRefIdeal.τ).loc Cert.NormTwoBwdRefIdeal.main_arg4)) (m ((c.tc : Thread Cert.NormTwoBwdRefIdeal.nD Cert.NormTwoBwdRefIdeal.τ).loc Cert.NormTwoBwdRefIdeal.main_arg5)) (m ((c.tc : Thread Cert.NormTwoBwdRefIdeal.nD Cert.NormTwoBwdRefIdeal.τ).loc Cert.NormTwoBwdRefIdeal.main_arg6)) (m ((c.tc : Thread Cert.NormTwoBwdRefIdeal.nD Cert.NormTwoBwdRefIdeal.τ).loc Cert.NormTwoBwdRefIdeal.main_arg7))).2.2.2.2.1 = (fun _ => 1#1)
    ∧ (Cert.Pre_finite_norm_two_bwd.fn (F := Ideal) (m ((c.tc : Thread Cert.NormTwoBwdRefIdeal.nD Cert.NormTwoBwdRefIdeal.τ).loc Cert.NormTwoBwdRefIdeal.main_arg0)) (m ((c.tc : Thread Cert.NormTwoBwdRefIdeal.nD Cert.NormTwoBwdRefIdeal.τ).loc Cert.NormTwoBwdRefIdeal.main_arg1)) (m ((c.tc : Thread Cert.NormTwoBwdRefIdeal.nD Cert.NormTwoBwdRefIdeal.τ).loc Cert.NormTwoBwdRefIdeal.main_arg2)) (m ((c.tc : Thread Cert.NormTwoBwdRefIdeal.nD Cert.NormTwoBwdRefIdeal.τ).loc Cert.NormTwoBwdRefIdeal.main_arg3)) (m ((c.tc : Thread Cert.NormTwoBwdRefIdeal.nD Cert.NormTwoBwdRefIdeal.τ).loc Cert.NormTwoBwdRefIdeal.main_arg4)) (m ((c.tc : Thread Cert.NormTwoBwdRefIdeal.nD Cert.NormTwoBwdRefIdeal.τ).loc Cert.NormTwoBwdRefIdeal.main_arg5)) (m ((c.tc : Thread Cert.NormTwoBwdRefIdeal.nD Cert.NormTwoBwdRefIdeal.τ).loc Cert.NormTwoBwdRefIdeal.main_arg6)) (m ((c.tc : Thread Cert.NormTwoBwdRefIdeal.nD Cert.NormTwoBwdRefIdeal.τ).loc Cert.NormTwoBwdRefIdeal.main_arg7))).2.2.2.2.2 = (fun _ => 1#1)

def Pre_NormOneBwd (m : (ℓ : Loc Cert.NormOneBwd.nD Cert.NormOneBwd.τ Cert.NormOneBwd.sig) → Buf (Elt Bits) ℓ) : Prop :=
  True

def Pre_NormOneBwdIdeal (m : (ℓ : Loc Cert.NormOneBwdIdeal.nD Cert.NormOneBwdIdeal.τ Cert.NormOneBwdIdeal.sig) → Buf (Elt Ideal) ℓ) : Prop :=
  True

def Pre_NormOneBwdIdeal_finite_norm_one_bwd [hPre_finite_norm_one_bwd : Cert.Pre_finite_norm_one_bwd.Facts] (m : (ℓ : Loc Cert.NormOneBwdIdeal.nD Cert.NormOneBwdIdeal.τ Cert.NormOneBwdIdeal.sig) → Buf (Elt Ideal) ℓ) : Prop :=
  ∀ c : Dev Cert.NormOneBwdIdeal.nD,
    (Cert.Pre_finite_norm_one_bwd.fn (F := Ideal) (m ((c.tc : Thread Cert.NormOneBwdIdeal.nD Cert.NormOneBwdIdeal.τ).loc Cert.NormOneBwdIdeal.main_arg0)) (m ((c.tc : Thread Cert.NormOneBwdIdeal.nD Cert.NormOneBwdIdeal.τ).loc Cert.NormOneBwdIdeal.main_arg1)) (m ((c.tc : Thread Cert.NormOneBwdIdeal.nD Cert.NormOneBwdIdeal.τ).loc Cert.NormOneBwdIdeal.main_arg2)) (m ((c.tc : Thread Cert.NormOneBwdIdeal.nD Cert.NormOneBwdIdeal.τ).loc Cert.NormOneBwdIdeal.main_arg3)) (m ((c.tc : Thread Cert.NormOneBwdIdeal.nD Cert.NormOneBwdIdeal.τ).loc Cert.NormOneBwdIdeal.main_arg4)) (m ((c.tc : Thread Cert.NormOneBwdIdeal.nD Cert.NormOneBwdIdeal.τ).loc Cert.NormOneBwdIdeal.main_arg5))).1 = (fun _ => 1#1)
    ∧ (Cert.Pre_finite_norm_one_bwd.fn (F := Ideal) (m ((c.tc : Thread Cert.NormOneBwdIdeal.nD Cert.NormOneBwdIdeal.τ).loc Cert.NormOneBwdIdeal.main_arg0)) (m ((c.tc : Thread Cert.NormOneBwdIdeal.nD Cert.NormOneBwdIdeal.τ).loc Cert.NormOneBwdIdeal.main_arg1)) (m ((c.tc : Thread Cert.NormOneBwdIdeal.nD Cert.NormOneBwdIdeal.τ).loc Cert.NormOneBwdIdeal.main_arg2)) (m ((c.tc : Thread Cert.NormOneBwdIdeal.nD Cert.NormOneBwdIdeal.τ).loc Cert.NormOneBwdIdeal.main_arg3)) (m ((c.tc : Thread Cert.NormOneBwdIdeal.nD Cert.NormOneBwdIdeal.τ).loc Cert.NormOneBwdIdeal.main_arg4)) (m ((c.tc : Thread Cert.NormOneBwdIdeal.nD Cert.NormOneBwdIdeal.τ).loc Cert.NormOneBwdIdeal.main_arg5))).2.1 = (fun _ => 1#1)
    ∧ (Cert.Pre_finite_norm_one_bwd.fn (F := Ideal) (m ((c.tc : Thread Cert.NormOneBwdIdeal.nD Cert.NormOneBwdIdeal.τ).loc Cert.NormOneBwdIdeal.main_arg0)) (m ((c.tc : Thread Cert.NormOneBwdIdeal.nD Cert.NormOneBwdIdeal.τ).loc Cert.NormOneBwdIdeal.main_arg1)) (m ((c.tc : Thread Cert.NormOneBwdIdeal.nD Cert.NormOneBwdIdeal.τ).loc Cert.NormOneBwdIdeal.main_arg2)) (m ((c.tc : Thread Cert.NormOneBwdIdeal.nD Cert.NormOneBwdIdeal.τ).loc Cert.NormOneBwdIdeal.main_arg3)) (m ((c.tc : Thread Cert.NormOneBwdIdeal.nD Cert.NormOneBwdIdeal.τ).loc Cert.NormOneBwdIdeal.main_arg4)) (m ((c.tc : Thread Cert.NormOneBwdIdeal.nD Cert.NormOneBwdIdeal.τ).loc Cert.NormOneBwdIdeal.main_arg5))).2.2.1 = (fun _ => 1#1)
    ∧ (Cert.Pre_finite_norm_one_bwd.fn (F := Ideal) (m ((c.tc : Thread Cert.NormOneBwdIdeal.nD Cert.NormOneBwdIdeal.τ).loc Cert.NormOneBwdIdeal.main_arg0)) (m ((c.tc : Thread Cert.NormOneBwdIdeal.nD Cert.NormOneBwdIdeal.τ).loc Cert.NormOneBwdIdeal.main_arg1)) (m ((c.tc : Thread Cert.NormOneBwdIdeal.nD Cert.NormOneBwdIdeal.τ).loc Cert.NormOneBwdIdeal.main_arg2)) (m ((c.tc : Thread Cert.NormOneBwdIdeal.nD Cert.NormOneBwdIdeal.τ).loc Cert.NormOneBwdIdeal.main_arg3)) (m ((c.tc : Thread Cert.NormOneBwdIdeal.nD Cert.NormOneBwdIdeal.τ).loc Cert.NormOneBwdIdeal.main_arg4)) (m ((c.tc : Thread Cert.NormOneBwdIdeal.nD Cert.NormOneBwdIdeal.τ).loc Cert.NormOneBwdIdeal.main_arg5))).2.2.2 = (fun _ => 1#1)

def Pre_NormOneBwdRefIdeal (m : (ℓ : Loc Cert.NormOneBwdRefIdeal.nD Cert.NormOneBwdRefIdeal.τ Cert.NormOneBwdRefIdeal.sig) → Buf (Elt Ideal) ℓ) : Prop :=
  True

def Pre_NormOneBwdRefIdeal_finite_norm_one_bwd [hPre_finite_norm_one_bwd : Cert.Pre_finite_norm_one_bwd.Facts] (m : (ℓ : Loc Cert.NormOneBwdRefIdeal.nD Cert.NormOneBwdRefIdeal.τ Cert.NormOneBwdRefIdeal.sig) → Buf (Elt Ideal) ℓ) : Prop :=
  ∀ c : Dev Cert.NormOneBwdRefIdeal.nD,
    (Cert.Pre_finite_norm_one_bwd.fn (F := Ideal) (m ((c.tc : Thread Cert.NormOneBwdRefIdeal.nD Cert.NormOneBwdRefIdeal.τ).loc Cert.NormOneBwdRefIdeal.main_arg0)) (m ((c.tc : Thread Cert.NormOneBwdRefIdeal.nD Cert.NormOneBwdRefIdeal.τ).loc Cert.NormOneBwdRefIdeal.main_arg1)) (m ((c.tc : Thread Cert.NormOneBwdRefIdeal.nD Cert.NormOneBwdRefIdeal.τ).loc Cert.NormOneBwdRefIdeal.main_arg2)) (m ((c.tc : Thread Cert.NormOneBwdRefIdeal.nD Cert.NormOneBwdRefIdeal.τ).loc Cert.NormOneBwdRefIdeal.main_arg3)) (m ((c.tc : Thread Cert.NormOneBwdRefIdeal.nD Cert.NormOneBwdRefIdeal.τ).loc Cert.NormOneBwdRefIdeal.main_arg4)) (m ((c.tc : Thread Cert.NormOneBwdRefIdeal.nD Cert.NormOneBwdRefIdeal.τ).loc Cert.NormOneBwdRefIdeal.main_arg5))).1 = (fun _ => 1#1)
    ∧ (Cert.Pre_finite_norm_one_bwd.fn (F := Ideal) (m ((c.tc : Thread Cert.NormOneBwdRefIdeal.nD Cert.NormOneBwdRefIdeal.τ).loc Cert.NormOneBwdRefIdeal.main_arg0)) (m ((c.tc : Thread Cert.NormOneBwdRefIdeal.nD Cert.NormOneBwdRefIdeal.τ).loc Cert.NormOneBwdRefIdeal.main_arg1)) (m ((c.tc : Thread Cert.NormOneBwdRefIdeal.nD Cert.NormOneBwdRefIdeal.τ).loc Cert.NormOneBwdRefIdeal.main_arg2)) (m ((c.tc : Thread Cert.NormOneBwdRefIdeal.nD Cert.NormOneBwdRefIdeal.τ).loc Cert.NormOneBwdRefIdeal.main_arg3)) (m ((c.tc : Thread Cert.NormOneBwdRefIdeal.nD Cert.NormOneBwdRefIdeal.τ).loc Cert.NormOneBwdRefIdeal.main_arg4)) (m ((c.tc : Thread Cert.NormOneBwdRefIdeal.nD Cert.NormOneBwdRefIdeal.τ).loc Cert.NormOneBwdRefIdeal.main_arg5))).2.1 = (fun _ => 1#1)
    ∧ (Cert.Pre_finite_norm_one_bwd.fn (F := Ideal) (m ((c.tc : Thread Cert.NormOneBwdRefIdeal.nD Cert.NormOneBwdRefIdeal.τ).loc Cert.NormOneBwdRefIdeal.main_arg0)) (m ((c.tc : Thread Cert.NormOneBwdRefIdeal.nD Cert.NormOneBwdRefIdeal.τ).loc Cert.NormOneBwdRefIdeal.main_arg1)) (m ((c.tc : Thread Cert.NormOneBwdRefIdeal.nD Cert.NormOneBwdRefIdeal.τ).loc Cert.NormOneBwdRefIdeal.main_arg2)) (m ((c.tc : Thread Cert.NormOneBwdRefIdeal.nD Cert.NormOneBwdRefIdeal.τ).loc Cert.NormOneBwdRefIdeal.main_arg3)) (m ((c.tc : Thread Cert.NormOneBwdRefIdeal.nD Cert.NormOneBwdRefIdeal.τ).loc Cert.NormOneBwdRefIdeal.main_arg4)) (m ((c.tc : Thread Cert.NormOneBwdRefIdeal.nD Cert.NormOneBwdRefIdeal.τ).loc Cert.NormOneBwdRefIdeal.main_arg5))).2.2.1 = (fun _ => 1#1)
    ∧ (Cert.Pre_finite_norm_one_bwd.fn (F := Ideal) (m ((c.tc : Thread Cert.NormOneBwdRefIdeal.nD Cert.NormOneBwdRefIdeal.τ).loc Cert.NormOneBwdRefIdeal.main_arg0)) (m ((c.tc : Thread Cert.NormOneBwdRefIdeal.nD Cert.NormOneBwdRefIdeal.τ).loc Cert.NormOneBwdRefIdeal.main_arg1)) (m ((c.tc : Thread Cert.NormOneBwdRefIdeal.nD Cert.NormOneBwdRefIdeal.τ).loc Cert.NormOneBwdRefIdeal.main_arg2)) (m ((c.tc : Thread Cert.NormOneBwdRefIdeal.nD Cert.NormOneBwdRefIdeal.τ).loc Cert.NormOneBwdRefIdeal.main_arg3)) (m ((c.tc : Thread Cert.NormOneBwdRefIdeal.nD Cert.NormOneBwdRefIdeal.τ).loc Cert.NormOneBwdRefIdeal.main_arg4)) (m ((c.tc : Thread Cert.NormOneBwdRefIdeal.nD Cert.NormOneBwdRefIdeal.τ).loc Cert.NormOneBwdRefIdeal.main_arg5))).2.2.2 = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_finite_loss_head [hPre_finite_loss_head : Cert.Pre_finite_loss_head.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_finite_loss_head.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4))).1 = (fun _ => 1#1)
    ∧ (Cert.Pre_finite_loss_head.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4))).2.1 = (fun _ => 1#1)
    ∧ (Cert.Pre_finite_loss_head.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4))).2.2.1 = (fun _ => 1#1)
    ∧ (Cert.Pre_finite_loss_head.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4))).2.2.2.1 = (fun _ => 1#1)
    ∧ (Cert.Pre_finite_loss_head.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4))).2.2.2.2 = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_finite_loss_head [hPre_finite_loss_head : Cert.Pre_finite_loss_head.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_finite_loss_head.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4))).1 = (fun _ => 1#1)
    ∧ (Cert.Pre_finite_loss_head.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4))).2.1 = (fun _ => 1#1)
    ∧ (Cert.Pre_finite_loss_head.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4))).2.2.1 = (fun _ => 1#1)
    ∧ (Cert.Pre_finite_loss_head.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4))).2.2.2.1 = (fun _ => 1#1)
    ∧ (Cert.Pre_finite_loss_head.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4))).2.2.2.2 = (fun _ => 1#1)

def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_SwigluBwdIdeal_finite_swiglu_bwd [hPre_finite_swiglu_bwd : Cert.Pre_finite_swiglu_bwd.Facts] (m : (ℓ : Loc Cert.SwigluBwdIdeal.nD Cert.SwigluBwdIdeal.τ Cert.SwigluBwdIdeal.sig) → Buf (Elt Ideal) ℓ) : Prop :=
  ∀ c : Dev Cert.SwigluBwdIdeal.nD,
    (Cert.Pre_finite_swiglu_bwd.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1)) (m ((c.tc : Thread Cert.SwigluBwdIdeal.nD Cert.SwigluBwdIdeal.τ).loc Cert.SwigluBwdIdeal.main_arg2)) (m ((c.tc : Thread Cert.SwigluBwdIdeal.nD Cert.SwigluBwdIdeal.τ).loc Cert.SwigluBwdIdeal.main_arg3))).1 = (fun _ => 1#1)
    ∧ (Cert.Pre_finite_swiglu_bwd.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1)) (m ((c.tc : Thread Cert.SwigluBwdIdeal.nD Cert.SwigluBwdIdeal.τ).loc Cert.SwigluBwdIdeal.main_arg2)) (m ((c.tc : Thread Cert.SwigluBwdIdeal.nD Cert.SwigluBwdIdeal.τ).loc Cert.SwigluBwdIdeal.main_arg3))).2.1 = (fun _ => 1#1)
    ∧ (Cert.Pre_finite_swiglu_bwd.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1)) (m ((c.tc : Thread Cert.SwigluBwdIdeal.nD Cert.SwigluBwdIdeal.τ).loc Cert.SwigluBwdIdeal.main_arg2)) (m ((c.tc : Thread Cert.SwigluBwdIdeal.nD Cert.SwigluBwdIdeal.τ).loc Cert.SwigluBwdIdeal.main_arg3))).2.2.1 = (fun _ => 1#1)
    ∧ (Cert.Pre_finite_swiglu_bwd.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1)) (m ((c.tc : Thread Cert.SwigluBwdIdeal.nD Cert.SwigluBwdIdeal.τ).loc Cert.SwigluBwdIdeal.main_arg2)) (m ((c.tc : Thread Cert.SwigluBwdIdeal.nD Cert.SwigluBwdIdeal.τ).loc Cert.SwigluBwdIdeal.main_arg3))).2.2.2 = (fun _ => 1#1)

def Pre_SwigluBwdRefIdeal (m : (ℓ : Loc Cert.SwigluBwdRefIdeal.nD Cert.SwigluBwdRefIdeal.τ Cert.SwigluBwdRefIdeal.sig) → Buf (Elt Ideal) ℓ) : Prop :=
  True

def Pre_SwigluBwdRefIdeal_finite_swiglu_bwd [hPre_finite_swiglu_bwd : Cert.Pre_finite_swiglu_bwd.Facts] (m : (ℓ : Loc Cert.SwigluBwdRefIdeal.nD Cert.SwigluBwdRefIdeal.τ Cert.SwigluBwdRefIdeal.sig) → Buf (Elt Ideal) ℓ) : Prop :=
  ∀ c : Dev Cert.SwigluBwdRefIdeal.nD,
    (Cert.Pre_finite_swiglu_bwd.fn (F := Ideal) (m ((c.tc : Thread Cert.SwigluBwdRefIdeal.nD Cert.SwigluBwdRefIdeal.τ).loc Cert.SwigluBwdRefIdeal.main_arg0)) (m ((c.tc : Thread Cert.SwigluBwdRefIdeal.nD Cert.SwigluBwdRefIdeal.τ).loc Cert.SwigluBwdRefIdeal.main_arg1)) (m ((c.tc : Thread Cert.SwigluBwdRefIdeal.nD Cert.SwigluBwdRefIdeal.τ).loc Cert.SwigluBwdRefIdeal.main_arg2)) (m ((c.tc : Thread Cert.SwigluBwdRefIdeal.nD Cert.SwigluBwdRefIdeal.τ).loc Cert.SwigluBwdRefIdeal.main_arg3))).1 = (fun _ => 1#1)
    ∧ (Cert.Pre_finite_swiglu_bwd.fn (F := Ideal) (m ((c.tc : Thread Cert.SwigluBwdRefIdeal.nD Cert.SwigluBwdRefIdeal.τ).loc Cert.SwigluBwdRefIdeal.main_arg0)) (m ((c.tc : Thread Cert.SwigluBwdRefIdeal.nD Cert.SwigluBwdRefIdeal.τ).loc Cert.SwigluBwdRefIdeal.main_arg1)) (m ((c.tc : Thread Cert.SwigluBwdRefIdeal.nD Cert.SwigluBwdRefIdeal.τ).loc Cert.SwigluBwdRefIdeal.main_arg2)) (m ((c.tc : Thread Cert.SwigluBwdRefIdeal.nD Cert.SwigluBwdRefIdeal.τ).loc Cert.SwigluBwdRefIdeal.main_arg3))).2.1 = (fun _ => 1#1)
    ∧ (Cert.Pre_finite_swiglu_bwd.fn (F := Ideal) (m ((c.tc : Thread Cert.SwigluBwdRefIdeal.nD Cert.SwigluBwdRefIdeal.τ).loc Cert.SwigluBwdRefIdeal.main_arg0)) (m ((c.tc : Thread Cert.SwigluBwdRefIdeal.nD Cert.SwigluBwdRefIdeal.τ).loc Cert.SwigluBwdRefIdeal.main_arg1)) (m ((c.tc : Thread Cert.SwigluBwdRefIdeal.nD Cert.SwigluBwdRefIdeal.τ).loc Cert.SwigluBwdRefIdeal.main_arg2)) (m ((c.tc : Thread Cert.SwigluBwdRefIdeal.nD Cert.SwigluBwdRefIdeal.τ).loc Cert.SwigluBwdRefIdeal.main_arg3))).2.2.1 = (fun _ => 1#1)
    ∧ (Cert.Pre_finite_swiglu_bwd.fn (F := Ideal) (m ((c.tc : Thread Cert.SwigluBwdRefIdeal.nD Cert.SwigluBwdRefIdeal.τ).loc Cert.SwigluBwdRefIdeal.main_arg0)) (m ((c.tc : Thread Cert.SwigluBwdRefIdeal.nD Cert.SwigluBwdRefIdeal.τ).loc Cert.SwigluBwdRefIdeal.main_arg1)) (m ((c.tc : Thread Cert.SwigluBwdRefIdeal.nD Cert.SwigluBwdRefIdeal.τ).loc Cert.SwigluBwdRefIdeal.main_arg2)) (m ((c.tc : Thread Cert.SwigluBwdRefIdeal.nD Cert.SwigluBwdRefIdeal.τ).loc Cert.SwigluBwdRefIdeal.main_arg3))).2.2.2 = (fun _ => 1#1)

def Pre_HgFwd (m : (ℓ : Loc Cert.HgFwd.nD Cert.HgFwd.τ Cert.HgFwd.sig) → Buf (Elt Bits) ℓ) : Prop :=
  True

def Pre_HgFwdIdeal (m : (ℓ : Loc Cert.HgFwdIdeal.nD Cert.HgFwdIdeal.τ Cert.HgFwdIdeal.sig) → Buf (Elt Ideal) ℓ) : Prop :=
  True

def Pre_HgFwdIdeal_finite_hg_fwd [hPre_finite_hg_fwd : Cert.Pre_finite_hg_fwd.Facts] (m : (ℓ : Loc Cert.HgFwdIdeal.nD Cert.HgFwdIdeal.τ Cert.HgFwdIdeal.sig) → Buf (Elt Ideal) ℓ) : Prop :=
  ∀ c : Dev Cert.HgFwdIdeal.nD,
    (Cert.Pre_finite_hg_fwd.fn (F := Ideal) (m ((c.tc : Thread Cert.HgFwdIdeal.nD Cert.HgFwdIdeal.τ).loc Cert.HgFwdIdeal.main_arg0)) (m ((c.tc : Thread Cert.HgFwdIdeal.nD Cert.HgFwdIdeal.τ).loc Cert.HgFwdIdeal.main_arg1)) (m ((c.tc : Thread Cert.HgFwdIdeal.nD Cert.HgFwdIdeal.τ).loc Cert.HgFwdIdeal.main_arg2))).1 = (fun _ => 1#1)
    ∧ (Cert.Pre_finite_hg_fwd.fn (F := Ideal) (m ((c.tc : Thread Cert.HgFwdIdeal.nD Cert.HgFwdIdeal.τ).loc Cert.HgFwdIdeal.main_arg0)) (m ((c.tc : Thread Cert.HgFwdIdeal.nD Cert.HgFwdIdeal.τ).loc Cert.HgFwdIdeal.main_arg1)) (m ((c.tc : Thread Cert.HgFwdIdeal.nD Cert.HgFwdIdeal.τ).loc Cert.HgFwdIdeal.main_arg2))).2 = (fun _ => 1#1)

def Pre_HgFwdRefIdeal (m : (ℓ : Loc Cert.HgFwdRefIdeal.nD Cert.HgFwdRefIdeal.τ Cert.HgFwdRefIdeal.sig) → Buf (Elt Ideal) ℓ) : Prop :=
  True

def Pre_HgFwdRefIdeal_finite_hg_fwd [hPre_finite_hg_fwd : Cert.Pre_finite_hg_fwd.Facts] (m : (ℓ : Loc Cert.HgFwdRefIdeal.nD Cert.HgFwdRefIdeal.τ Cert.HgFwdRefIdeal.sig) → Buf (Elt Ideal) ℓ) : Prop :=
  ∀ c : Dev Cert.HgFwdRefIdeal.nD,
    (Cert.Pre_finite_hg_fwd.fn (F := Ideal) (m ((c.tc : Thread Cert.HgFwdRefIdeal.nD Cert.HgFwdRefIdeal.τ).loc Cert.HgFwdRefIdeal.main_arg0)) (m ((c.tc : Thread Cert.HgFwdRefIdeal.nD Cert.HgFwdRefIdeal.τ).loc Cert.HgFwdRefIdeal.main_arg1)) (m ((c.tc : Thread Cert.HgFwdRefIdeal.nD Cert.HgFwdRefIdeal.τ).loc Cert.HgFwdRefIdeal.main_arg2))).1 = (fun _ => 1#1)
    ∧ (Cert.Pre_finite_hg_fwd.fn (F := Ideal) (m ((c.tc : Thread Cert.HgFwdRefIdeal.nD Cert.HgFwdRefIdeal.τ).loc Cert.HgFwdRefIdeal.main_arg0)) (m ((c.tc : Thread Cert.HgFwdRefIdeal.nD Cert.HgFwdRefIdeal.τ).loc Cert.HgFwdRefIdeal.main_arg1)) (m ((c.tc : Thread Cert.HgFwdRefIdeal.nD Cert.HgFwdRefIdeal.τ).loc Cert.HgFwdRefIdeal.main_arg2))).2 = (fun _ => 1#1)

def Pre_HgBwd (m : (ℓ : Loc Cert.HgBwd.nD Cert.HgBwd.τ Cert.HgBwd.sig) → Buf (Elt Bits) ℓ) : Prop :=
  True

def Pre_HgBwdIdeal (m : (ℓ : Loc Cert.HgBwdIdeal.nD Cert.HgBwdIdeal.τ Cert.HgBwdIdeal.sig) → Buf (Elt Ideal) ℓ) : Prop :=
  True

def Pre_HgBwdRefIdeal (m : (ℓ : Loc Cert.HgBwdRefIdeal.nD Cert.HgBwdRefIdeal.τ Cert.HgBwdRefIdeal.sig) → Buf (Elt Ideal) ℓ) : Prop :=
  True

def Pre_GmlpFwd (m : (ℓ : Loc Cert.GmlpFwd.nD Cert.GmlpFwd.τ Cert.GmlpFwd.sig) → Buf (Elt Bits) ℓ) : Prop :=
  True

def Pre_GmlpFwdIdeal (m : (ℓ : Loc Cert.GmlpFwdIdeal.nD Cert.GmlpFwdIdeal.τ Cert.GmlpFwdIdeal.sig) → Buf (Elt Ideal) ℓ) : Prop :=
  True

def Pre_GmlpFwdIdeal_finite_gmlp_fwd [hPre_finite_gmlp_fwd : Cert.Pre_finite_gmlp_fwd.Facts] (m : (ℓ : Loc Cert.GmlpFwdIdeal.nD Cert.GmlpFwdIdeal.τ Cert.GmlpFwdIdeal.sig) → Buf (Elt Ideal) ℓ) : Prop :=
  ∀ c : Dev Cert.GmlpFwdIdeal.nD,
    (Cert.Pre_finite_gmlp_fwd.fn (F := Ideal) (m ((c.tc : Thread Cert.GmlpFwdIdeal.nD Cert.GmlpFwdIdeal.τ).loc Cert.GmlpFwdIdeal.main_arg0)) (m ((c.tc : Thread Cert.GmlpFwdIdeal.nD Cert.GmlpFwdIdeal.τ).loc Cert.GmlpFwdIdeal.main_arg1)) (m ((c.tc : Thread Cert.GmlpFwdIdeal.nD Cert.GmlpFwdIdeal.τ).loc Cert.GmlpFwdIdeal.main_arg2)) (m ((c.tc : Thread Cert.GmlpFwdIdeal.nD Cert.GmlpFwdIdeal.τ).loc Cert.GmlpFwdIdeal.main_arg3)) (m ((c.tc : Thread Cert.GmlpFwdIdeal.nD Cert.GmlpFwdIdeal.τ).loc Cert.GmlpFwdIdeal.main_arg4))).1 = (fun _ => 1#1)
    ∧ (Cert.Pre_finite_gmlp_fwd.fn (F := Ideal) (m ((c.tc : Thread Cert.GmlpFwdIdeal.nD Cert.GmlpFwdIdeal.τ).loc Cert.GmlpFwdIdeal.main_arg0)) (m ((c.tc : Thread Cert.GmlpFwdIdeal.nD Cert.GmlpFwdIdeal.τ).loc Cert.GmlpFwdIdeal.main_arg1)) (m ((c.tc : Thread Cert.GmlpFwdIdeal.nD Cert.GmlpFwdIdeal.τ).loc Cert.GmlpFwdIdeal.main_arg2)) (m ((c.tc : Thread Cert.GmlpFwdIdeal.nD Cert.GmlpFwdIdeal.τ).loc Cert.GmlpFwdIdeal.main_arg3)) (m ((c.tc : Thread Cert.GmlpFwdIdeal.nD Cert.GmlpFwdIdeal.τ).loc Cert.GmlpFwdIdeal.main_arg4))).2.1 = (fun _ => 1#1)
    ∧ (Cert.Pre_finite_gmlp_fwd.fn (F := Ideal) (m ((c.tc : Thread Cert.GmlpFwdIdeal.nD Cert.GmlpFwdIdeal.τ).loc Cert.GmlpFwdIdeal.main_arg0)) (m ((c.tc : Thread Cert.GmlpFwdIdeal.nD Cert.GmlpFwdIdeal.τ).loc Cert.GmlpFwdIdeal.main_arg1)) (m ((c.tc : Thread Cert.GmlpFwdIdeal.nD Cert.GmlpFwdIdeal.τ).loc Cert.GmlpFwdIdeal.main_arg2)) (m ((c.tc : Thread Cert.GmlpFwdIdeal.nD Cert.GmlpFwdIdeal.τ).loc Cert.GmlpFwdIdeal.main_arg3)) (m ((c.tc : Thread Cert.GmlpFwdIdeal.nD Cert.GmlpFwdIdeal.τ).loc Cert.GmlpFwdIdeal.main_arg4))).2.2.1 = (fun _ => 1#1)
    ∧ (Cert.Pre_finite_gmlp_fwd.fn (F := Ideal) (m ((c.tc : Thread Cert.GmlpFwdIdeal.nD Cert.GmlpFwdIdeal.τ).loc Cert.GmlpFwdIdeal.main_arg0)) (m ((c.tc : Thread Cert.GmlpFwdIdeal.nD Cert.GmlpFwdIdeal.τ).loc Cert.GmlpFwdIdeal.main_arg1)) (m ((c.tc : Thread Cert.GmlpFwdIdeal.nD Cert.GmlpFwdIdeal.τ).loc Cert.GmlpFwdIdeal.main_arg2)) (m ((c.tc : Thread Cert.GmlpFwdIdeal.nD Cert.GmlpFwdIdeal.τ).loc Cert.GmlpFwdIdeal.main_arg3)) (m ((c.tc : Thread Cert.GmlpFwdIdeal.nD Cert.GmlpFwdIdeal.τ).loc Cert.GmlpFwdIdeal.main_arg4))).2.2.2.1 = (fun _ => 1#1)
    ∧ (Cert.Pre_finite_gmlp_fwd.fn (F := Ideal) (m ((c.tc : Thread Cert.GmlpFwdIdeal.nD Cert.GmlpFwdIdeal.τ).loc Cert.GmlpFwdIdeal.main_arg0)) (m ((c.tc : Thread Cert.GmlpFwdIdeal.nD Cert.GmlpFwdIdeal.τ).loc Cert.GmlpFwdIdeal.main_arg1)) (m ((c.tc : Thread Cert.GmlpFwdIdeal.nD Cert.GmlpFwdIdeal.τ).loc Cert.GmlpFwdIdeal.main_arg2)) (m ((c.tc : Thread Cert.GmlpFwdIdeal.nD Cert.GmlpFwdIdeal.τ).loc Cert.GmlpFwdIdeal.main_arg3)) (m ((c.tc : Thread Cert.GmlpFwdIdeal.nD Cert.GmlpFwdIdeal.τ).loc Cert.GmlpFwdIdeal.main_arg4))).2.2.2.2 = (fun _ => 1#1)

def Pre_GmlpFwdRefIdeal (m : (ℓ : Loc Cert.GmlpFwdRefIdeal.nD Cert.GmlpFwdRefIdeal.τ Cert.GmlpFwdRefIdeal.sig) → Buf (Elt Ideal) ℓ) : Prop :=
  True

def Pre_GmlpFwdRefIdeal_finite_gmlp_fwd [hPre_finite_gmlp_fwd : Cert.Pre_finite_gmlp_fwd.Facts] (m : (ℓ : Loc Cert.GmlpFwdRefIdeal.nD Cert.GmlpFwdRefIdeal.τ Cert.GmlpFwdRefIdeal.sig) → Buf (Elt Ideal) ℓ) : Prop :=
  ∀ c : Dev Cert.GmlpFwdRefIdeal.nD,
    (Cert.Pre_finite_gmlp_fwd.fn (F := Ideal) (m ((c.tc : Thread Cert.GmlpFwdRefIdeal.nD Cert.GmlpFwdRefIdeal.τ).loc Cert.GmlpFwdRefIdeal.main_arg0)) (m ((c.tc : Thread Cert.GmlpFwdRefIdeal.nD Cert.GmlpFwdRefIdeal.τ).loc Cert.GmlpFwdRefIdeal.main_arg1)) (m ((c.tc : Thread Cert.GmlpFwdRefIdeal.nD Cert.GmlpFwdRefIdeal.τ).loc Cert.GmlpFwdRefIdeal.main_arg2)) (m ((c.tc : Thread Cert.GmlpFwdRefIdeal.nD Cert.GmlpFwdRefIdeal.τ).loc Cert.GmlpFwdRefIdeal.main_arg3)) (m ((c.tc : Thread Cert.GmlpFwdRefIdeal.nD Cert.GmlpFwdRefIdeal.τ).loc Cert.GmlpFwdRefIdeal.main_arg4))).1 = (fun _ => 1#1)
    ∧ (Cert.Pre_finite_gmlp_fwd.fn (F := Ideal) (m ((c.tc : Thread Cert.GmlpFwdRefIdeal.nD Cert.GmlpFwdRefIdeal.τ).loc Cert.GmlpFwdRefIdeal.main_arg0)) (m ((c.tc : Thread Cert.GmlpFwdRefIdeal.nD Cert.GmlpFwdRefIdeal.τ).loc Cert.GmlpFwdRefIdeal.main_arg1)) (m ((c.tc : Thread Cert.GmlpFwdRefIdeal.nD Cert.GmlpFwdRefIdeal.τ).loc Cert.GmlpFwdRefIdeal.main_arg2)) (m ((c.tc : Thread Cert.GmlpFwdRefIdeal.nD Cert.GmlpFwdRefIdeal.τ).loc Cert.GmlpFwdRefIdeal.main_arg3)) (m ((c.tc : Thread Cert.GmlpFwdRefIdeal.nD Cert.GmlpFwdRefIdeal.τ).loc Cert.GmlpFwdRefIdeal.main_arg4))).2.1 = (fun _ => 1#1)
    ∧ (Cert.Pre_finite_gmlp_fwd.fn (F := Ideal) (m ((c.tc : Thread Cert.GmlpFwdRefIdeal.nD Cert.GmlpFwdRefIdeal.τ).loc Cert.GmlpFwdRefIdeal.main_arg0)) (m ((c.tc : Thread Cert.GmlpFwdRefIdeal.nD Cert.GmlpFwdRefIdeal.τ).loc Cert.GmlpFwdRefIdeal.main_arg1)) (m ((c.tc : Thread Cert.GmlpFwdRefIdeal.nD Cert.GmlpFwdRefIdeal.τ).loc Cert.GmlpFwdRefIdeal.main_arg2)) (m ((c.tc : Thread Cert.GmlpFwdRefIdeal.nD Cert.GmlpFwdRefIdeal.τ).loc Cert.GmlpFwdRefIdeal.main_arg3)) (m ((c.tc : Thread Cert.GmlpFwdRefIdeal.nD Cert.GmlpFwdRefIdeal.τ).loc Cert.GmlpFwdRefIdeal.main_arg4))).2.2.1 = (fun _ => 1#1)
    ∧ (Cert.Pre_finite_gmlp_fwd.fn (F := Ideal) (m ((c.tc : Thread Cert.GmlpFwdRefIdeal.nD Cert.GmlpFwdRefIdeal.τ).loc Cert.GmlpFwdRefIdeal.main_arg0)) (m ((c.tc : Thread Cert.GmlpFwdRefIdeal.nD Cert.GmlpFwdRefIdeal.τ).loc Cert.GmlpFwdRefIdeal.main_arg1)) (m ((c.tc : Thread Cert.GmlpFwdRefIdeal.nD Cert.GmlpFwdRefIdeal.τ).loc Cert.GmlpFwdRefIdeal.main_arg2)) (m ((c.tc : Thread Cert.GmlpFwdRefIdeal.nD Cert.GmlpFwdRefIdeal.τ).loc Cert.GmlpFwdRefIdeal.main_arg3)) (m ((c.tc : Thread Cert.GmlpFwdRefIdeal.nD Cert.GmlpFwdRefIdeal.τ).loc Cert.GmlpFwdRefIdeal.main_arg4))).2.2.2.1 = (fun _ => 1#1)
    ∧ (Cert.Pre_finite_gmlp_fwd.fn (F := Ideal) (m ((c.tc : Thread Cert.GmlpFwdRefIdeal.nD Cert.GmlpFwdRefIdeal.τ).loc Cert.GmlpFwdRefIdeal.main_arg0)) (m ((c.tc : Thread Cert.GmlpFwdRefIdeal.nD Cert.GmlpFwdRefIdeal.τ).loc Cert.GmlpFwdRefIdeal.main_arg1)) (m ((c.tc : Thread Cert.GmlpFwdRefIdeal.nD Cert.GmlpFwdRefIdeal.τ).loc Cert.GmlpFwdRefIdeal.main_arg2)) (m ((c.tc : Thread Cert.GmlpFwdRefIdeal.nD Cert.GmlpFwdRefIdeal.τ).loc Cert.GmlpFwdRefIdeal.main_arg3)) (m ((c.tc : Thread Cert.GmlpFwdRefIdeal.nD Cert.GmlpFwdRefIdeal.τ).loc Cert.GmlpFwdRefIdeal.main_arg4))).2.2.2.2 = (fun _ => 1#1)

def Pre_SwigluFwd (m : (ℓ : Loc Cert.SwigluFwd.nD Cert.SwigluFwd.τ Cert.SwigluFwd.sig) → Buf (Elt Bits) ℓ) : Prop :=
  True

def Pre_SwigluFwdIdeal (m : (ℓ : Loc Cert.SwigluFwdIdeal.nD Cert.SwigluFwdIdeal.τ Cert.SwigluFwdIdeal.sig) → Buf (Elt Ideal) ℓ) : Prop :=
  True

def Pre_SwigluFwdIdeal_finite_swiglu_fwd [hPre_finite_swiglu_fwd : Cert.Pre_finite_swiglu_fwd.Facts] (m : (ℓ : Loc Cert.SwigluFwdIdeal.nD Cert.SwigluFwdIdeal.τ Cert.SwigluFwdIdeal.sig) → Buf (Elt Ideal) ℓ) : Prop :=
  ∀ c : Dev Cert.SwigluFwdIdeal.nD,
    (Cert.Pre_finite_swiglu_fwd.fn (F := Ideal) (m ((c.tc : Thread Cert.SwigluFwdIdeal.nD Cert.SwigluFwdIdeal.τ).loc Cert.SwigluFwdIdeal.main_arg0)) (m ((c.tc : Thread Cert.SwigluFwdIdeal.nD Cert.SwigluFwdIdeal.τ).loc Cert.SwigluFwdIdeal.main_arg1))).1 = (fun _ => 1#1)
    ∧ (Cert.Pre_finite_swiglu_fwd.fn (F := Ideal) (m ((c.tc : Thread Cert.SwigluFwdIdeal.nD Cert.SwigluFwdIdeal.τ).loc Cert.SwigluFwdIdeal.main_arg0)) (m ((c.tc : Thread Cert.SwigluFwdIdeal.nD Cert.SwigluFwdIdeal.τ).loc Cert.SwigluFwdIdeal.main_arg1))).2 = (fun _ => 1#1)

def Pre_SwigluFwdRefIdeal (m : (ℓ : Loc Cert.SwigluFwdRefIdeal.nD Cert.SwigluFwdRefIdeal.τ Cert.SwigluFwdRefIdeal.sig) → Buf (Elt Ideal) ℓ) : Prop :=
  True

def Pre_SwigluFwdRefIdeal_finite_swiglu_fwd [hPre_finite_swiglu_fwd : Cert.Pre_finite_swiglu_fwd.Facts] (m : (ℓ : Loc Cert.SwigluFwdRefIdeal.nD Cert.SwigluFwdRefIdeal.τ Cert.SwigluFwdRefIdeal.sig) → Buf (Elt Ideal) ℓ) : Prop :=
  ∀ c : Dev Cert.SwigluFwdRefIdeal.nD,
    (Cert.Pre_finite_swiglu_fwd.fn (F := Ideal) (m ((c.tc : Thread Cert.SwigluFwdRefIdeal.nD Cert.SwigluFwdRefIdeal.τ).loc Cert.SwigluFwdRefIdeal.main_arg0)) (m ((c.tc : Thread Cert.SwigluFwdRefIdeal.nD Cert.SwigluFwdRefIdeal.τ).loc Cert.SwigluFwdRefIdeal.main_arg1))).1 = (fun _ => 1#1)
    ∧ (Cert.Pre_finite_swiglu_fwd.fn (F := Ideal) (m ((c.tc : Thread Cert.SwigluFwdRefIdeal.nD Cert.SwigluFwdRefIdeal.τ).loc Cert.SwigluFwdRefIdeal.main_arg0)) (m ((c.tc : Thread Cert.SwigluFwdRefIdeal.nD Cert.SwigluFwdRefIdeal.τ).loc Cert.SwigluFwdRefIdeal.main_arg1))).2 = (fun _ => 1#1)

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_NormOneFwd (m : (ℓ : Loc Cert.NormOneFwd.nD Cert.NormOneFwd.τ Cert.NormOneFwd.sig) → Buf (Elt Bits) ℓ) : Prop :=
  True

def Pre_NormOneFwdIdeal (m : (ℓ : Loc Cert.NormOneFwdIdeal.nD Cert.NormOneFwdIdeal.τ Cert.NormOneFwdIdeal.sig) → Buf (Elt Ideal) ℓ) : Prop :=
  True

def Pre_NormOneFwdRefIdeal (m : (ℓ : Loc Cert.NormOneFwdRefIdeal.nD Cert.NormOneFwdRefIdeal.τ Cert.NormOneFwdRefIdeal.sig) → Buf (Elt Ideal) ℓ) : Prop :=
  True

def Pre_NormTwoFwd (m : (ℓ : Loc Cert.NormTwoFwd.nD Cert.NormTwoFwd.τ Cert.NormTwoFwd.sig) → Buf (Elt Bits) ℓ) : Prop :=
  True

def Pre_NormTwoFwdIdeal (m : (ℓ : Loc Cert.NormTwoFwdIdeal.nD Cert.NormTwoFwdIdeal.τ Cert.NormTwoFwdIdeal.sig) → Buf (Elt Ideal) ℓ) : Prop :=
  True

def Pre_NormTwoFwdRefIdeal (m : (ℓ : Loc Cert.NormTwoFwdRefIdeal.nD Cert.NormTwoFwdRefIdeal.τ Cert.NormTwoFwdRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_AdaMod (m : (ℓ : Loc Cert.AdaMod.nD Cert.AdaMod.τ Cert.AdaMod.sig) → Buf (Elt Bits) ℓ) : Prop :=
  True

def Pre_AdaModIdeal (m : (ℓ : Loc Cert.AdaModIdeal.nD Cert.AdaModIdeal.τ Cert.AdaModIdeal.sig) → Buf (Elt Ideal) ℓ) : Prop :=
  True

def Pre_AdaModRefIdeal (m : (ℓ : Loc Cert.AdaModRefIdeal.nD Cert.AdaModRefIdeal.τ Cert.AdaModRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_FfnInDw (m : (ℓ : Loc Cert.FfnInDw.nD Cert.FfnInDw.τ Cert.FfnInDw.sig) → Buf (Elt Bits) ℓ) : Prop :=
  True

def Pre_FfnInDwIdeal (m : (ℓ : Loc Cert.FfnInDwIdeal.nD Cert.FfnInDwIdeal.τ Cert.FfnInDwIdeal.sig) → Buf (Elt Ideal) ℓ) : Prop :=
  True

def Pre_FfnInDwRefIdeal (m : (ℓ : Loc Cert.FfnInDwRefIdeal.nD Cert.FfnInDwRefIdeal.τ Cert.FfnInDwRefIdeal.sig) → Buf (Elt Ideal) ℓ) : Prop :=
  True

def Pre_BranchDx (m : (ℓ : Loc Cert.BranchDx.nD Cert.BranchDx.τ Cert.BranchDx.sig) → Buf (Elt Bits) ℓ) : Prop :=
  True

def Pre_BranchDxIdeal (m : (ℓ : Loc Cert.BranchDxIdeal.nD Cert.BranchDxIdeal.τ Cert.BranchDxIdeal.sig) → Buf (Elt Ideal) ℓ) : Prop :=
  True

def Pre_BranchDxRefIdeal (m : (ℓ : Loc Cert.BranchDxRefIdeal.nD Cert.BranchDxRefIdeal.τ Cert.BranchDxRefIdeal.sig) → Buf (Elt Ideal) ℓ) : Prop :=
  True

def Pre_FfnInDx (m : (ℓ : Loc Cert.FfnInDx.nD Cert.FfnInDx.τ Cert.FfnInDx.sig) → Buf (Elt Bits) ℓ) : Prop :=
  True

def Pre_FfnInDxIdeal (m : (ℓ : Loc Cert.FfnInDxIdeal.nD Cert.FfnInDxIdeal.τ Cert.FfnInDxIdeal.sig) → Buf (Elt Ideal) ℓ) : Prop :=
  True

def Pre_FfnInDxRefIdeal (m : (ℓ : Loc Cert.FfnInDxRefIdeal.nD Cert.FfnInDxRefIdeal.τ Cert.FfnInDxRefIdeal.sig) → Buf (Elt Ideal) ℓ) : Prop :=
  True

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5))
      ∧ r.2.sem = fun _ => 0)

def quiescent_GmlpBwd [hGmlpBwd : Cert.GmlpBwd.Facts] : Prop :=
  ∀ (m : (ℓ : Loc Cert.GmlpBwd.nD Cert.GmlpBwd.τ Cert.GmlpBwd.sig) → Buf (Elt Bits) ℓ) (g : Dev Cert.GmlpBwd.nD → PrngReg), Pre_GmlpBwd m →
    θ_run (Cert.GmlpBwd.defs (F := Bits)) (onTc (τ := Cert.GmlpBwd.τ) (Cert.GmlpBwd.main (F := Bits))) ⟨m, fun _ => 0, g⟩ (fun r => (∀ c : Dev Cert.GmlpBwd.nD,
      r.2.mem ((c.tc : Thread Cert.GmlpBwd.nD Cert.GmlpBwd.τ).loc Cert.GmlpBwd.main_arg0) = m ((c.tc : Thread Cert.GmlpBwd.nD Cert.GmlpBwd.τ).loc Cert.GmlpBwd.main_arg0)
      ∧ r.2.mem ((c.tc : Thread Cert.GmlpBwd.nD Cert.GmlpBwd.τ).loc Cert.GmlpBwd.main_arg1) = m ((c.tc : Thread Cert.GmlpBwd.nD Cert.GmlpBwd.τ).loc Cert.GmlpBwd.main_arg1)
      ∧ r.2.mem ((c.tc : Thread Cert.GmlpBwd.nD Cert.GmlpBwd.τ).loc Cert.GmlpBwd.main_arg2) = m ((c.tc : Thread Cert.GmlpBwd.nD Cert.GmlpBwd.τ).loc Cert.GmlpBwd.main_arg2)
      ∧ r.2.mem ((c.tc : Thread Cert.GmlpBwd.nD Cert.GmlpBwd.τ).loc Cert.GmlpBwd.main_arg3) = m ((c.tc : Thread Cert.GmlpBwd.nD Cert.GmlpBwd.τ).loc Cert.GmlpBwd.main_arg3)
      ∧ r.2.mem ((c.tc : Thread Cert.GmlpBwd.nD Cert.GmlpBwd.τ).loc Cert.GmlpBwd.main_arg4) = m ((c.tc : Thread Cert.GmlpBwd.nD Cert.GmlpBwd.τ).loc Cert.GmlpBwd.main_arg4)
      ∧ r.2.mem ((c.tc : Thread Cert.GmlpBwd.nD Cert.GmlpBwd.τ).loc Cert.GmlpBwd.main_arg5) = m ((c.tc : Thread Cert.GmlpBwd.nD Cert.GmlpBwd.τ).loc Cert.GmlpBwd.main_arg5))
      ∧ r.2.sem = fun _ => 0)

def quiescent_GmlpBwdIdeal [hGmlpBwdIdeal : Cert.GmlpBwdIdeal.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg), Pre_GmlpBwdIdeal m →
    θ_run (Cert.GmlpBwdIdeal.defs (F := Ideal)) (onTc (τ := Cert.GmlpBwdIdeal.τ) (Cert.GmlpBwdIdeal.main (F := Ideal))) ⟨m, fun _ => 0, g⟩ (fun r => (∀ c : Dev Cert.GmlpBwdIdeal.nD,
      r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
      ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
      ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
      ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
      ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4)
      ∧ r.2.mem ((c.tc : Thread Cert.GmlpBwdIdeal.nD Cert.GmlpBwdIdeal.τ).loc Cert.GmlpBwdIdeal.main_arg5) = m ((c.tc : Thread Cert.GmlpBwdIdeal.nD Cert.GmlpBwdIdeal.τ).loc Cert.GmlpBwdIdeal.main_arg5))
      ∧ r.2.sem = fun _ => 0)

def quiescent_GmlpBwdIdeal_pre_finite_gmlp_bwd [hGmlpBwdIdeal : Cert.GmlpBwdIdeal.Facts] [hPre_finite_gmlp_bwd : Cert.Pre_finite_gmlp_bwd.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg), Pre_GmlpBwdIdeal_finite_gmlp_bwd m →
    θ_run (Cert.GmlpBwdIdeal.defs (F := Ideal)) (onTc (τ := Cert.GmlpBwdIdeal.τ) (Cert.GmlpBwdIdeal.main (F := Ideal))) ⟨m, fun _ => 0, g⟩ (fun r => (∀ c : Dev Cert.GmlpBwdIdeal.nD,
      r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
      ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
      ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
      ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
      ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4)
      ∧ r.2.mem ((c.tc : Thread Cert.GmlpBwdIdeal.nD Cert.GmlpBwdIdeal.τ).loc Cert.GmlpBwdIdeal.main_arg5) = m ((c.tc : Thread Cert.GmlpBwdIdeal.nD Cert.GmlpBwdIdeal.τ).loc Cert.GmlpBwdIdeal.main_arg5))
      ∧ r.2.sem = fun _ => 0)

def quiescent_GmlpBwdRefIdeal [hGmlpBwdRefIdeal : Cert.GmlpBwdRefIdeal.Facts] : Prop :=
  ∀ (m : (ℓ : Loc Cert.GmlpBwdRefIdeal.nD Cert.GmlpBwdRefIdeal.τ Cert.GmlpBwdRefIdeal.sig) → Buf (Elt Ideal) ℓ) (g : Dev Cert.GmlpBwdRefIdeal.nD → PrngReg), Pre_GmlpBwdRefIdeal m →
    θ_run (Cert.GmlpBwdRefIdeal.defs (F := Ideal)) (onTc (τ := Cert.GmlpBwdRefIdeal.τ) (Cert.GmlpBwdRefIdeal.main (F := Ideal))) ⟨m, fun _ => 0, g⟩ (fun r => (∀ c : Dev Cert.GmlpBwdRefIdeal.nD,
      r.2.mem ((c.tc : Thread Cert.GmlpBwdRefIdeal.nD Cert.GmlpBwdRefIdeal.τ).loc Cert.GmlpBwdRefIdeal.main_arg0) = m ((c.tc : Thread Cert.GmlpBwdRefIdeal.nD Cert.GmlpBwdRefIdeal.τ).loc Cert.GmlpBwdRefIdeal.main_arg0)
      ∧ r.2.mem ((c.tc : Thread Cert.GmlpBwdRefIdeal.nD Cert.GmlpBwdRefIdeal.τ).loc Cert.GmlpBwdRefIdeal.main_arg1) = m ((c.tc : Thread Cert.GmlpBwdRefIdeal.nD Cert.GmlpBwdRefIdeal.τ).loc Cert.GmlpBwdRefIdeal.main_arg1)
      ∧ r.2.mem ((c.tc : Thread Cert.GmlpBwdRefIdeal.nD Cert.GmlpBwdRefIdeal.τ).loc Cert.GmlpBwdRefIdeal.main_arg2) = m ((c.tc : Thread Cert.GmlpBwdRefIdeal.nD Cert.GmlpBwdRefIdeal.τ).loc Cert.GmlpBwdRefIdeal.main_arg2)
      ∧ r.2.mem ((c.tc : Thread Cert.GmlpBwdRefIdeal.nD Cert.GmlpBwdRefIdeal.τ).loc Cert.GmlpBwdRefIdeal.main_arg3) = m ((c.tc : Thread Cert.GmlpBwdRefIdeal.nD Cert.GmlpBwdRefIdeal.τ).loc Cert.GmlpBwdRefIdeal.main_arg3)
      ∧ r.2.mem ((c.tc : Thread Cert.GmlpBwdRefIdeal.nD Cert.GmlpBwdRefIdeal.τ).loc Cert.GmlpBwdRefIdeal.main_arg4) = m ((c.tc : Thread Cert.GmlpBwdRefIdeal.nD Cert.GmlpBwdRefIdeal.τ).loc Cert.GmlpBwdRefIdeal.main_arg4)
      ∧ r.2.mem ((c.tc : Thread Cert.GmlpBwdRefIdeal.nD Cert.GmlpBwdRefIdeal.τ).loc Cert.GmlpBwdRefIdeal.main_arg5) = m ((c.tc : Thread Cert.GmlpBwdRefIdeal.nD Cert.GmlpBwdRefIdeal.τ).loc Cert.GmlpBwdRefIdeal.main_arg5))
      ∧ r.2.sem = fun _ => 0)

def quiescent_GmlpBwdRefIdeal_pre_finite_gmlp_bwd [hGmlpBwdRefIdeal : Cert.GmlpBwdRefIdeal.Facts] [hPre_finite_gmlp_bwd : Cert.Pre_finite_gmlp_bwd.Facts] : Prop :=
  ∀ (m : (ℓ : Loc Cert.GmlpBwdRefIdeal.nD Cert.GmlpBwdRefIdeal.τ Cert.GmlpBwdRefIdeal.sig) → Buf (Elt Ideal) ℓ) (g : Dev Cert.GmlpBwdRefIdeal.nD → PrngReg), Pre_GmlpBwdRefIdeal_finite_gmlp_bwd m →
    θ_run (Cert.GmlpBwdRefIdeal.defs (F := Ideal)) (onTc (τ := Cert.GmlpBwdRefIdeal.τ) (Cert.GmlpBwdRefIdeal.main (F := Ideal))) ⟨m, fun _ => 0, g⟩ (fun r => (∀ c : Dev Cert.GmlpBwdRefIdeal.nD,
      r.2.mem ((c.tc : Thread Cert.GmlpBwdRefIdeal.nD Cert.GmlpBwdRefIdeal.τ).loc Cert.GmlpBwdRefIdeal.main_arg0) = m ((c.tc : Thread Cert.GmlpBwdRefIdeal.nD Cert.GmlpBwdRefIdeal.τ).loc Cert.GmlpBwdRefIdeal.main_arg0)
      ∧ r.2.mem ((c.tc : Thread Cert.GmlpBwdRefIdeal.nD Cert.GmlpBwdRefIdeal.τ).loc Cert.GmlpBwdRefIdeal.main_arg1) = m ((c.tc : Thread Cert.GmlpBwdRefIdeal.nD Cert.GmlpBwdRefIdeal.τ).loc Cert.GmlpBwdRefIdeal.main_arg1)
      ∧ r.2.mem ((c.tc : Thread Cert.GmlpBwdRefIdeal.nD Cert.GmlpBwdRefIdeal.τ).loc Cert.GmlpBwdRefIdeal.main_arg2) = m ((c.tc : Thread Cert.GmlpBwdRefIdeal.nD Cert.GmlpBwdRefIdeal.τ).loc Cert.GmlpBwdRefIdeal.main_arg2)
      ∧ r.2.mem ((c.tc : Thread Cert.GmlpBwdRefIdeal.nD Cert.GmlpBwdRefIdeal.τ).loc Cert.GmlpBwdRefIdeal.main_arg3) = m ((c.tc : Thread Cert.GmlpBwdRefIdeal.nD Cert.GmlpBwdRefIdeal.τ).loc Cert.GmlpBwdRefIdeal.main_arg3)
      ∧ r.2.mem ((c.tc : Thread Cert.GmlpBwdRefIdeal.nD Cert.GmlpBwdRefIdeal.τ).loc Cert.GmlpBwdRefIdeal.main_arg4) = m ((c.tc : Thread Cert.GmlpBwdRefIdeal.nD Cert.GmlpBwdRefIdeal.τ).loc Cert.GmlpBwdRefIdeal.main_arg4)
      ∧ r.2.mem ((c.tc : Thread Cert.GmlpBwdRefIdeal.nD Cert.GmlpBwdRefIdeal.τ).loc Cert.GmlpBwdRefIdeal.main_arg5) = m ((c.tc : Thread Cert.GmlpBwdRefIdeal.nD Cert.GmlpBwdRefIdeal.τ).loc Cert.GmlpBwdRefIdeal.main_arg5))
      ∧ r.2.sem = fun _ => 0)

def quiescent_NormTwoBwd [hNormTwoBwd : Cert.NormTwoBwd.Facts] : Prop :=
  ∀ (m : (ℓ : Loc Cert.NormTwoBwd.nD Cert.NormTwoBwd.τ Cert.NormTwoBwd.sig) → Buf (Elt Bits) ℓ) (g : Dev Cert.NormTwoBwd.nD → PrngReg), Pre_NormTwoBwd m →
    θ_run (Cert.NormTwoBwd.defs (F := Bits)) (onTc (τ := Cert.NormTwoBwd.τ) (Cert.NormTwoBwd.main (F := Bits))) ⟨m, fun _ => 0, g⟩ (fun r => (∀ c : Dev Cert.NormTwoBwd.nD,
      r.2.mem ((c.tc : Thread Cert.NormTwoBwd.nD Cert.NormTwoBwd.τ).loc Cert.NormTwoBwd.main_arg0) = m ((c.tc : Thread Cert.NormTwoBwd.nD Cert.NormTwoBwd.τ).loc Cert.NormTwoBwd.main_arg0)
      ∧ r.2.mem ((c.tc : Thread Cert.NormTwoBwd.nD Cert.NormTwoBwd.τ).loc Cert.NormTwoBwd.main_arg1) = m ((c.tc : Thread Cert.NormTwoBwd.nD Cert.NormTwoBwd.τ).loc Cert.NormTwoBwd.main_arg1)
      ∧ r.2.mem ((c.tc : Thread Cert.NormTwoBwd.nD Cert.NormTwoBwd.τ).loc Cert.NormTwoBwd.main_arg2) = m ((c.tc : Thread Cert.NormTwoBwd.nD Cert.NormTwoBwd.τ).loc Cert.NormTwoBwd.main_arg2)
      ∧ r.2.mem ((c.tc : Thread Cert.NormTwoBwd.nD Cert.NormTwoBwd.τ).loc Cert.NormTwoBwd.main_arg3) = m ((c.tc : Thread Cert.NormTwoBwd.nD Cert.NormTwoBwd.τ).loc Cert.NormTwoBwd.main_arg3)
      ∧ r.2.mem ((c.tc : Thread Cert.NormTwoBwd.nD Cert.NormTwoBwd.τ).loc Cert.NormTwoBwd.main_arg4) = m ((c.tc : Thread Cert.NormTwoBwd.nD Cert.NormTwoBwd.τ).loc Cert.NormTwoBwd.main_arg4)
      ∧ r.2.mem ((c.tc : Thread Cert.NormTwoBwd.nD Cert.NormTwoBwd.τ).loc Cert.NormTwoBwd.main_arg5) = m ((c.tc : Thread Cert.NormTwoBwd.nD Cert.NormTwoBwd.τ).loc Cert.NormTwoBwd.main_arg5)
      ∧ r.2.mem ((c.tc : Thread Cert.NormTwoBwd.nD Cert.NormTwoBwd.τ).loc Cert.NormTwoBwd.main_arg6) = m ((c.tc : Thread Cert.NormTwoBwd.nD Cert.NormTwoBwd.τ).loc Cert.NormTwoBwd.main_arg6)
      ∧ r.2.mem ((c.tc : Thread Cert.NormTwoBwd.nD Cert.NormTwoBwd.τ).loc Cert.NormTwoBwd.main_arg7) = m ((c.tc : Thread Cert.NormTwoBwd.nD Cert.NormTwoBwd.τ).loc Cert.NormTwoBwd.main_arg7))
      ∧ r.2.sem = fun _ => 0)

def quiescent_NormTwoBwdIdeal [hNormTwoBwdIdeal : Cert.NormTwoBwdIdeal.Facts] : Prop :=
  ∀ (m : (ℓ : Loc Cert.NormTwoBwdIdeal.nD Cert.NormTwoBwdIdeal.τ Cert.NormTwoBwdIdeal.sig) → Buf (Elt Ideal) ℓ) (g : Dev Cert.NormTwoBwdIdeal.nD → PrngReg), Pre_NormTwoBwdIdeal m →
    θ_run (Cert.NormTwoBwdIdeal.defs (F := Ideal)) (onTc (τ := Cert.NormTwoBwdIdeal.τ) (Cert.NormTwoBwdIdeal.main (F := Ideal))) ⟨m, fun _ => 0, g⟩ (fun r => (∀ c : Dev Cert.NormTwoBwdIdeal.nD,
      r.2.mem ((c.tc : Thread Cert.NormTwoBwdIdeal.nD Cert.NormTwoBwdIdeal.τ).loc Cert.NormTwoBwdIdeal.main_arg0) = m ((c.tc : Thread Cert.NormTwoBwdIdeal.nD Cert.NormTwoBwdIdeal.τ).loc Cert.NormTwoBwdIdeal.main_arg0)
      ∧ r.2.mem ((c.tc : Thread Cert.NormTwoBwdIdeal.nD Cert.NormTwoBwdIdeal.τ).loc Cert.NormTwoBwdIdeal.main_arg1) = m ((c.tc : Thread Cert.NormTwoBwdIdeal.nD Cert.NormTwoBwdIdeal.τ).loc Cert.NormTwoBwdIdeal.main_arg1)
      ∧ r.2.mem ((c.tc : Thread Cert.NormTwoBwdIdeal.nD Cert.NormTwoBwdIdeal.τ).loc Cert.NormTwoBwdIdeal.main_arg2) = m ((c.tc : Thread Cert.NormTwoBwdIdeal.nD Cert.NormTwoBwdIdeal.τ).loc Cert.NormTwoBwdIdeal.main_arg2)
      ∧ r.2.mem ((c.tc : Thread Cert.NormTwoBwdIdeal.nD Cert.NormTwoBwdIdeal.τ).loc Cert.NormTwoBwdIdeal.main_arg3) = m ((c.tc : Thread Cert.NormTwoBwdIdeal.nD Cert.NormTwoBwdIdeal.τ).loc Cert.NormTwoBwdIdeal.main_arg3)
      ∧ r.2.mem ((c.tc : Thread Cert.NormTwoBwdIdeal.nD Cert.NormTwoBwdIdeal.τ).loc Cert.NormTwoBwdIdeal.main_arg4) = m ((c.tc : Thread Cert.NormTwoBwdIdeal.nD Cert.NormTwoBwdIdeal.τ).loc Cert.NormTwoBwdIdeal.main_arg4)
      ∧ r.2.mem ((c.tc : Thread Cert.NormTwoBwdIdeal.nD Cert.NormTwoBwdIdeal.τ).loc Cert.NormTwoBwdIdeal.main_arg5) = m ((c.tc : Thread Cert.NormTwoBwdIdeal.nD Cert.NormTwoBwdIdeal.τ).loc Cert.NormTwoBwdIdeal.main_arg5)
      ∧ r.2.mem ((c.tc : Thread Cert.NormTwoBwdIdeal.nD Cert.NormTwoBwdIdeal.τ).loc Cert.NormTwoBwdIdeal.main_arg6) = m ((c.tc : Thread Cert.NormTwoBwdIdeal.nD Cert.NormTwoBwdIdeal.τ).loc Cert.NormTwoBwdIdeal.main_arg6)
      ∧ r.2.mem ((c.tc : Thread Cert.NormTwoBwdIdeal.nD Cert.NormTwoBwdIdeal.τ).loc Cert.NormTwoBwdIdeal.main_arg7) = m ((c.tc : Thread Cert.NormTwoBwdIdeal.nD Cert.NormTwoBwdIdeal.τ).loc Cert.NormTwoBwdIdeal.main_arg7))
      ∧ r.2.sem = fun _ => 0)

def quiescent_NormTwoBwdIdeal_pre_finite_norm_two_bwd [hNormTwoBwdIdeal : Cert.NormTwoBwdIdeal.Facts] [hPre_finite_norm_two_bwd : Cert.Pre_finite_norm_two_bwd.Facts] : Prop :=
  ∀ (m : (ℓ : Loc Cert.NormTwoBwdIdeal.nD Cert.NormTwoBwdIdeal.τ Cert.NormTwoBwdIdeal.sig) → Buf (Elt Ideal) ℓ) (g : Dev Cert.NormTwoBwdIdeal.nD → PrngReg), Pre_NormTwoBwdIdeal_finite_norm_two_bwd m →
    θ_run (Cert.NormTwoBwdIdeal.defs (F := Ideal)) (onTc (τ := Cert.NormTwoBwdIdeal.τ) (Cert.NormTwoBwdIdeal.main (F := Ideal))) ⟨m, fun _ => 0, g⟩ (fun r => (∀ c : Dev Cert.NormTwoBwdIdeal.nD,
      r.2.mem ((c.tc : Thread Cert.NormTwoBwdIdeal.nD Cert.NormTwoBwdIdeal.τ).loc Cert.NormTwoBwdIdeal.main_arg0) = m ((c.tc : Thread Cert.NormTwoBwdIdeal.nD Cert.NormTwoBwdIdeal.τ).loc Cert.NormTwoBwdIdeal.main_arg0)
      ∧ r.2.mem ((c.tc : Thread Cert.NormTwoBwdIdeal.nD Cert.NormTwoBwdIdeal.τ).loc Cert.NormTwoBwdIdeal.main_arg1) = m ((c.tc : Thread Cert.NormTwoBwdIdeal.nD Cert.NormTwoBwdIdeal.τ).loc Cert.NormTwoBwdIdeal.main_arg1)
      ∧ r.2.mem ((c.tc : Thread Cert.NormTwoBwdIdeal.nD Cert.NormTwoBwdIdeal.τ).loc Cert.NormTwoBwdIdeal.main_arg2) = m ((c.tc : Thread Cert.NormTwoBwdIdeal.nD Cert.NormTwoBwdIdeal.τ).loc Cert.NormTwoBwdIdeal.main_arg2)
      ∧ r.2.mem ((c.tc : Thread Cert.NormTwoBwdIdeal.nD Cert.NormTwoBwdIdeal.τ).loc Cert.NormTwoBwdIdeal.main_arg3) = m ((c.tc : Thread Cert.NormTwoBwdIdeal.nD Cert.NormTwoBwdIdeal.τ).loc Cert.NormTwoBwdIdeal.main_arg3)
      ∧ r.2.mem ((c.tc : Thread Cert.NormTwoBwdIdeal.nD Cert.NormTwoBwdIdeal.τ).loc Cert.NormTwoBwdIdeal.main_arg4) = m ((c.tc : Thread Cert.NormTwoBwdIdeal.nD Cert.NormTwoBwdIdeal.τ).loc Cert.NormTwoBwdIdeal.main_arg4)
      ∧ r.2.mem ((c.tc : Thread Cert.NormTwoBwdIdeal.nD Cert.NormTwoBwdIdeal.τ).loc Cert.NormTwoBwdIdeal.main_arg5) = m ((c.tc : Thread Cert.NormTwoBwdIdeal.nD Cert.NormTwoBwdIdeal.τ).loc Cert.NormTwoBwdIdeal.main_arg5)
      ∧ r.2.mem ((c.tc : Thread Cert.NormTwoBwdIdeal.nD Cert.NormTwoBwdIdeal.τ).loc Cert.NormTwoBwdIdeal.main_arg6) = m ((c.tc : Thread Cert.NormTwoBwdIdeal.nD Cert.NormTwoBwdIdeal.τ).loc Cert.NormTwoBwdIdeal.main_arg6)
      ∧ r.2.mem ((c.tc : Thread Cert.NormTwoBwdIdeal.nD Cert.NormTwoBwdIdeal.τ).loc Cert.NormTwoBwdIdeal.main_arg7) = m ((c.tc : Thread Cert.NormTwoBwdIdeal.nD Cert.NormTwoBwdIdeal.τ).loc Cert.NormTwoBwdIdeal.main_arg7))
      ∧ r.2.sem = fun _ => 0)

def quiescent_NormTwoBwdRefIdeal [hNormTwoBwdRefIdeal : Cert.NormTwoBwdRefIdeal.Facts] : Prop :=
  ∀ (m : (ℓ : Loc Cert.NormTwoBwdRefIdeal.nD Cert.NormTwoBwdRefIdeal.τ Cert.NormTwoBwdRefIdeal.sig) → Buf (Elt Ideal) ℓ) (g : Dev Cert.NormTwoBwdRefIdeal.nD → PrngReg), Pre_NormTwoBwdRefIdeal m →
    θ_run (Cert.NormTwoBwdRefIdeal.defs (F := Ideal)) (onTc (τ := Cert.NormTwoBwdRefIdeal.τ) (Cert.NormTwoBwdRefIdeal.main (F := Ideal))) ⟨m, fun _ => 0, g⟩ (fun r => (∀ c : Dev Cert.NormTwoBwdRefIdeal.nD,
      r.2.mem ((c.tc : Thread Cert.NormTwoBwdRefIdeal.nD Cert.NormTwoBwdRefIdeal.τ).loc Cert.NormTwoBwdRefIdeal.main_arg0) = m ((c.tc : Thread Cert.NormTwoBwdRefIdeal.nD Cert.NormTwoBwdRefIdeal.τ).loc Cert.NormTwoBwdRefIdeal.main_arg0)
      ∧ r.2.mem ((c.tc : Thread Cert.NormTwoBwdRefIdeal.nD Cert.NormTwoBwdRefIdeal.τ).loc Cert.NormTwoBwdRefIdeal.main_arg1) = m ((c.tc : Thread Cert.NormTwoBwdRefIdeal.nD Cert.NormTwoBwdRefIdeal.τ).loc Cert.NormTwoBwdRefIdeal.main_arg1)
      ∧ r.2.mem ((c.tc : Thread Cert.NormTwoBwdRefIdeal.nD Cert.NormTwoBwdRefIdeal.τ).loc Cert.NormTwoBwdRefIdeal.main_arg2) = m ((c.tc : Thread Cert.NormTwoBwdRefIdeal.nD Cert.NormTwoBwdRefIdeal.τ).loc Cert.NormTwoBwdRefIdeal.main_arg2)
      ∧ r.2.mem ((c.tc : Thread Cert.NormTwoBwdRefIdeal.nD Cert.NormTwoBwdRefIdeal.τ).loc Cert.NormTwoBwdRefIdeal.main_arg3) = m ((c.tc : Thread Cert.NormTwoBwdRefIdeal.nD Cert.NormTwoBwdRefIdeal.τ).loc Cert.NormTwoBwdRefIdeal.main_arg3)
      ∧ r.2.mem ((c.tc : Thread Cert.NormTwoBwdRefIdeal.nD Cert.NormTwoBwdRefIdeal.τ).loc Cert.NormTwoBwdRefIdeal.main_arg4) = m ((c.tc : Thread Cert.NormTwoBwdRefIdeal.nD Cert.NormTwoBwdRefIdeal.τ).loc Cert.NormTwoBwdRefIdeal.main_arg4)
      ∧ r.2.mem ((c.tc : Thread Cert.NormTwoBwdRefIdeal.nD Cert.NormTwoBwdRefIdeal.τ).loc Cert.NormTwoBwdRefIdeal.main_arg5) = m ((c.tc : Thread Cert.NormTwoBwdRefIdeal.nD Cert.NormTwoBwdRefIdeal.τ).loc Cert.NormTwoBwdRefIdeal.main_arg5)
      ∧ r.2.mem ((c.tc : Thread Cert.NormTwoBwdRefIdeal.nD Cert.NormTwoBwdRefIdeal.τ).loc Cert.NormTwoBwdRefIdeal.main_arg6) = m ((c.tc : Thread Cert.NormTwoBwdRefIdeal.nD Cert.NormTwoBwdRefIdeal.τ).loc Cert.NormTwoBwdRefIdeal.main_arg6)
      ∧ r.2.mem ((c.tc : Thread Cert.NormTwoBwdRefIdeal.nD Cert.NormTwoBwdRefIdeal.τ).loc Cert.NormTwoBwdRefIdeal.main_arg7) = m ((c.tc : Thread Cert.NormTwoBwdRefIdeal.nD Cert.NormTwoBwdRefIdeal.τ).loc Cert.NormTwoBwdRefIdeal.main_arg7))
      ∧ r.2.sem = fun _ => 0)

def quiescent_NormTwoBwdRefIdeal_pre_finite_norm_two_bwd [hNormTwoBwdRefIdeal : Cert.NormTwoBwdRefIdeal.Facts] [hPre_finite_norm_two_bwd : Cert.Pre_finite_norm_two_bwd.Facts] : Prop :=
  ∀ (m : (ℓ : Loc Cert.NormTwoBwdRefIdeal.nD Cert.NormTwoBwdRefIdeal.τ Cert.NormTwoBwdRefIdeal.sig) → Buf (Elt Ideal) ℓ) (g : Dev Cert.NormTwoBwdRefIdeal.nD → PrngReg), Pre_NormTwoBwdRefIdeal_finite_norm_two_bwd m →
    θ_run (Cert.NormTwoBwdRefIdeal.defs (F := Ideal)) (onTc (τ := Cert.NormTwoBwdRefIdeal.τ) (Cert.NormTwoBwdRefIdeal.main (F := Ideal))) ⟨m, fun _ => 0, g⟩ (fun r => (∀ c : Dev Cert.NormTwoBwdRefIdeal.nD,
      r.2.mem ((c.tc : Thread Cert.NormTwoBwdRefIdeal.nD Cert.NormTwoBwdRefIdeal.τ).loc Cert.NormTwoBwdRefIdeal.main_arg0) = m ((c.tc : Thread Cert.NormTwoBwdRefIdeal.nD Cert.NormTwoBwdRefIdeal.τ).loc Cert.NormTwoBwdRefIdeal.main_arg0)
      ∧ r.2.mem ((c.tc : Thread Cert.NormTwoBwdRefIdeal.nD Cert.NormTwoBwdRefIdeal.τ).loc Cert.NormTwoBwdRefIdeal.main_arg1) = m ((c.tc : Thread Cert.NormTwoBwdRefIdeal.nD Cert.NormTwoBwdRefIdeal.τ).loc Cert.NormTwoBwdRefIdeal.main_arg1)
      ∧ r.2.mem ((c.tc : Thread Cert.NormTwoBwdRefIdeal.nD Cert.NormTwoBwdRefIdeal.τ).loc Cert.NormTwoBwdRefIdeal.main_arg2) = m ((c.tc : Thread Cert.NormTwoBwdRefIdeal.nD Cert.NormTwoBwdRefIdeal.τ).loc Cert.NormTwoBwdRefIdeal.main_arg2)
      ∧ r.2.mem ((c.tc : Thread Cert.NormTwoBwdRefIdeal.nD Cert.NormTwoBwdRefIdeal.τ).loc Cert.NormTwoBwdRefIdeal.main_arg3) = m ((c.tc : Thread Cert.NormTwoBwdRefIdeal.nD Cert.NormTwoBwdRefIdeal.τ).loc Cert.NormTwoBwdRefIdeal.main_arg3)
      ∧ r.2.mem ((c.tc : Thread Cert.NormTwoBwdRefIdeal.nD Cert.NormTwoBwdRefIdeal.τ).loc Cert.NormTwoBwdRefIdeal.main_arg4) = m ((c.tc : Thread Cert.NormTwoBwdRefIdeal.nD Cert.NormTwoBwdRefIdeal.τ).loc Cert.NormTwoBwdRefIdeal.main_arg4)
      ∧ r.2.mem ((c.tc : Thread Cert.NormTwoBwdRefIdeal.nD Cert.NormTwoBwdRefIdeal.τ).loc Cert.NormTwoBwdRefIdeal.main_arg5) = m ((c.tc : Thread Cert.NormTwoBwdRefIdeal.nD Cert.NormTwoBwdRefIdeal.τ).loc Cert.NormTwoBwdRefIdeal.main_arg5)
      ∧ r.2.mem ((c.tc : Thread Cert.NormTwoBwdRefIdeal.nD Cert.NormTwoBwdRefIdeal.τ).loc Cert.NormTwoBwdRefIdeal.main_arg6) = m ((c.tc : Thread Cert.NormTwoBwdRefIdeal.nD Cert.NormTwoBwdRefIdeal.τ).loc Cert.NormTwoBwdRefIdeal.main_arg6)
      ∧ r.2.mem ((c.tc : Thread Cert.NormTwoBwdRefIdeal.nD Cert.NormTwoBwdRefIdeal.τ).loc Cert.NormTwoBwdRefIdeal.main_arg7) = m ((c.tc : Thread Cert.NormTwoBwdRefIdeal.nD Cert.NormTwoBwdRefIdeal.τ).loc Cert.NormTwoBwdRefIdeal.main_arg7))
      ∧ r.2.sem = fun _ => 0)

def quiescent_NormOneBwd [hNormOneBwd : Cert.NormOneBwd.Facts] : Prop :=
  ∀ (m : (ℓ : Loc Cert.NormOneBwd.nD Cert.NormOneBwd.τ Cert.NormOneBwd.sig) → Buf (Elt Bits) ℓ) (g : Dev Cert.NormOneBwd.nD → PrngReg), Pre_NormOneBwd m →
    θ_run (Cert.NormOneBwd.defs (F := Bits)) (onTc (τ := Cert.NormOneBwd.τ) (Cert.NormOneBwd.main (F := Bits))) ⟨m, fun _ => 0, g⟩ (fun r => (∀ c : Dev Cert.NormOneBwd.nD,
      r.2.mem ((c.tc : Thread Cert.NormOneBwd.nD Cert.NormOneBwd.τ).loc Cert.NormOneBwd.main_arg0) = m ((c.tc : Thread Cert.NormOneBwd.nD Cert.NormOneBwd.τ).loc Cert.NormOneBwd.main_arg0)
      ∧ r.2.mem ((c.tc : Thread Cert.NormOneBwd.nD Cert.NormOneBwd.τ).loc Cert.NormOneBwd.main_arg1) = m ((c.tc : Thread Cert.NormOneBwd.nD Cert.NormOneBwd.τ).loc Cert.NormOneBwd.main_arg1)
      ∧ r.2.mem ((c.tc : Thread Cert.NormOneBwd.nD Cert.NormOneBwd.τ).loc Cert.NormOneBwd.main_arg2) = m ((c.tc : Thread Cert.NormOneBwd.nD Cert.NormOneBwd.τ).loc Cert.NormOneBwd.main_arg2)
      ∧ r.2.mem ((c.tc : Thread Cert.NormOneBwd.nD Cert.NormOneBwd.τ).loc Cert.NormOneBwd.main_arg3) = m ((c.tc : Thread Cert.NormOneBwd.nD Cert.NormOneBwd.τ).loc Cert.NormOneBwd.main_arg3)
      ∧ r.2.mem ((c.tc : Thread Cert.NormOneBwd.nD Cert.NormOneBwd.τ).loc Cert.NormOneBwd.main_arg4) = m ((c.tc : Thread Cert.NormOneBwd.nD Cert.NormOneBwd.τ).loc Cert.NormOneBwd.main_arg4)
      ∧ r.2.mem ((c.tc : Thread Cert.NormOneBwd.nD Cert.NormOneBwd.τ).loc Cert.NormOneBwd.main_arg5) = m ((c.tc : Thread Cert.NormOneBwd.nD Cert.NormOneBwd.τ).loc Cert.NormOneBwd.main_arg5))
      ∧ r.2.sem = fun _ => 0)

def quiescent_NormOneBwdIdeal [hNormOneBwdIdeal : Cert.NormOneBwdIdeal.Facts] : Prop :=
  ∀ (m : (ℓ : Loc Cert.NormOneBwdIdeal.nD Cert.NormOneBwdIdeal.τ Cert.NormOneBwdIdeal.sig) → Buf (Elt Ideal) ℓ) (g : Dev Cert.NormOneBwdIdeal.nD → PrngReg), Pre_NormOneBwdIdeal m →
    θ_run (Cert.NormOneBwdIdeal.defs (F := Ideal)) (onTc (τ := Cert.NormOneBwdIdeal.τ) (Cert.NormOneBwdIdeal.main (F := Ideal))) ⟨m, fun _ => 0, g⟩ (fun r => (∀ c : Dev Cert.NormOneBwdIdeal.nD,
      r.2.mem ((c.tc : Thread Cert.NormOneBwdIdeal.nD Cert.NormOneBwdIdeal.τ).loc Cert.NormOneBwdIdeal.main_arg0) = m ((c.tc : Thread Cert.NormOneBwdIdeal.nD Cert.NormOneBwdIdeal.τ).loc Cert.NormOneBwdIdeal.main_arg0)
      ∧ r.2.mem ((c.tc : Thread Cert.NormOneBwdIdeal.nD Cert.NormOneBwdIdeal.τ).loc Cert.NormOneBwdIdeal.main_arg1) = m ((c.tc : Thread Cert.NormOneBwdIdeal.nD Cert.NormOneBwdIdeal.τ).loc Cert.NormOneBwdIdeal.main_arg1)
      ∧ r.2.mem ((c.tc : Thread Cert.NormOneBwdIdeal.nD Cert.NormOneBwdIdeal.τ).loc Cert.NormOneBwdIdeal.main_arg2) = m ((c.tc : Thread Cert.NormOneBwdIdeal.nD Cert.NormOneBwdIdeal.τ).loc Cert.NormOneBwdIdeal.main_arg2)
      ∧ r.2.mem ((c.tc : Thread Cert.NormOneBwdIdeal.nD Cert.NormOneBwdIdeal.τ).loc Cert.NormOneBwdIdeal.main_arg3) = m ((c.tc : Thread Cert.NormOneBwdIdeal.nD Cert.NormOneBwdIdeal.τ).loc Cert.NormOneBwdIdeal.main_arg3)
      ∧ r.2.mem ((c.tc : Thread Cert.NormOneBwdIdeal.nD Cert.NormOneBwdIdeal.τ).loc Cert.NormOneBwdIdeal.main_arg4) = m ((c.tc : Thread Cert.NormOneBwdIdeal.nD Cert.NormOneBwdIdeal.τ).loc Cert.NormOneBwdIdeal.main_arg4)
      ∧ r.2.mem ((c.tc : Thread Cert.NormOneBwdIdeal.nD Cert.NormOneBwdIdeal.τ).loc Cert.NormOneBwdIdeal.main_arg5) = m ((c.tc : Thread Cert.NormOneBwdIdeal.nD Cert.NormOneBwdIdeal.τ).loc Cert.NormOneBwdIdeal.main_arg5))
      ∧ r.2.sem = fun _ => 0)

def quiescent_NormOneBwdIdeal_pre_finite_norm_one_bwd [hNormOneBwdIdeal : Cert.NormOneBwdIdeal.Facts] [hPre_finite_norm_one_bwd : Cert.Pre_finite_norm_one_bwd.Facts] : Prop :=
  ∀ (m : (ℓ : Loc Cert.NormOneBwdIdeal.nD Cert.NormOneBwdIdeal.τ Cert.NormOneBwdIdeal.sig) → Buf (Elt Ideal) ℓ) (g : Dev Cert.NormOneBwdIdeal.nD → PrngReg), Pre_NormOneBwdIdeal_finite_norm_one_bwd m →
    θ_run (Cert.NormOneBwdIdeal.defs (F := Ideal)) (onTc (τ := Cert.NormOneBwdIdeal.τ) (Cert.NormOneBwdIdeal.main (F := Ideal))) ⟨m, fun _ => 0, g⟩ (fun r => (∀ c : Dev Cert.NormOneBwdIdeal.nD,
      r.2.mem ((c.tc : Thread Cert.NormOneBwdIdeal.nD Cert.NormOneBwdIdeal.τ).loc Cert.NormOneBwdIdeal.main_arg0) = m ((c.tc : Thread Cert.NormOneBwdIdeal.nD Cert.NormOneBwdIdeal.τ).loc Cert.NormOneBwdIdeal.main_arg0)
      ∧ r.2.mem ((c.tc : Thread Cert.NormOneBwdIdeal.nD Cert.NormOneBwdIdeal.τ).loc Cert.NormOneBwdIdeal.main_arg1) = m ((c.tc : Thread Cert.NormOneBwdIdeal.nD Cert.NormOneBwdIdeal.τ).loc Cert.NormOneBwdIdeal.main_arg1)
      ∧ r.2.mem ((c.tc : Thread Cert.NormOneBwdIdeal.nD Cert.NormOneBwdIdeal.τ).loc Cert.NormOneBwdIdeal.main_arg2) = m ((c.tc : Thread Cert.NormOneBwdIdeal.nD Cert.NormOneBwdIdeal.τ).loc Cert.NormOneBwdIdeal.main_arg2)
      ∧ r.2.mem ((c.tc : Thread Cert.NormOneBwdIdeal.nD Cert.NormOneBwdIdeal.τ).loc Cert.NormOneBwdIdeal.main_arg3) = m ((c.tc : Thread Cert.NormOneBwdIdeal.nD Cert.NormOneBwdIdeal.τ).loc Cert.NormOneBwdIdeal.main_arg3)
      ∧ r.2.mem ((c.tc : Thread Cert.NormOneBwdIdeal.nD Cert.NormOneBwdIdeal.τ).loc Cert.NormOneBwdIdeal.main_arg4) = m ((c.tc : Thread Cert.NormOneBwdIdeal.nD Cert.NormOneBwdIdeal.τ).loc Cert.NormOneBwdIdeal.main_arg4)
      ∧ r.2.mem ((c.tc : Thread Cert.NormOneBwdIdeal.nD Cert.NormOneBwdIdeal.τ).loc Cert.NormOneBwdIdeal.main_arg5) = m ((c.tc : Thread Cert.NormOneBwdIdeal.nD Cert.NormOneBwdIdeal.τ).loc Cert.NormOneBwdIdeal.main_arg5))
      ∧ r.2.sem = fun _ => 0)

def quiescent_NormOneBwdRefIdeal [hNormOneBwdRefIdeal : Cert.NormOneBwdRefIdeal.Facts] : Prop :=
  ∀ (m : (ℓ : Loc Cert.NormOneBwdRefIdeal.nD Cert.NormOneBwdRefIdeal.τ Cert.NormOneBwdRefIdeal.sig) → Buf (Elt Ideal) ℓ) (g : Dev Cert.NormOneBwdRefIdeal.nD → PrngReg), Pre_NormOneBwdRefIdeal m →
    θ_run (Cert.NormOneBwdRefIdeal.defs (F := Ideal)) (onTc (τ := Cert.NormOneBwdRefIdeal.τ) (Cert.NormOneBwdRefIdeal.main (F := Ideal))) ⟨m, fun _ => 0, g⟩ (fun r => (∀ c : Dev Cert.NormOneBwdRefIdeal.nD,
      r.2.mem ((c.tc : Thread Cert.NormOneBwdRefIdeal.nD Cert.NormOneBwdRefIdeal.τ).loc Cert.NormOneBwdRefIdeal.main_arg0) = m ((c.tc : Thread Cert.NormOneBwdRefIdeal.nD Cert.NormOneBwdRefIdeal.τ).loc Cert.NormOneBwdRefIdeal.main_arg0)
      ∧ r.2.mem ((c.tc : Thread Cert.NormOneBwdRefIdeal.nD Cert.NormOneBwdRefIdeal.τ).loc Cert.NormOneBwdRefIdeal.main_arg1) = m ((c.tc : Thread Cert.NormOneBwdRefIdeal.nD Cert.NormOneBwdRefIdeal.τ).loc Cert.NormOneBwdRefIdeal.main_arg1)
      ∧ r.2.mem ((c.tc : Thread Cert.NormOneBwdRefIdeal.nD Cert.NormOneBwdRefIdeal.τ).loc Cert.NormOneBwdRefIdeal.main_arg2) = m ((c.tc : Thread Cert.NormOneBwdRefIdeal.nD Cert.NormOneBwdRefIdeal.τ).loc Cert.NormOneBwdRefIdeal.main_arg2)
      ∧ r.2.mem ((c.tc : Thread Cert.NormOneBwdRefIdeal.nD Cert.NormOneBwdRefIdeal.τ).loc Cert.NormOneBwdRefIdeal.main_arg3) = m ((c.tc : Thread Cert.NormOneBwdRefIdeal.nD Cert.NormOneBwdRefIdeal.τ).loc Cert.NormOneBwdRefIdeal.main_arg3)
      ∧ r.2.mem ((c.tc : Thread Cert.NormOneBwdRefIdeal.nD Cert.NormOneBwdRefIdeal.τ).loc Cert.NormOneBwdRefIdeal.main_arg4) = m ((c.tc : Thread Cert.NormOneBwdRefIdeal.nD Cert.NormOneBwdRefIdeal.τ).loc Cert.NormOneBwdRefIdeal.main_arg4)
      ∧ r.2.mem ((c.tc : Thread Cert.NormOneBwdRefIdeal.nD Cert.NormOneBwdRefIdeal.τ).loc Cert.NormOneBwdRefIdeal.main_arg5) = m ((c.tc : Thread Cert.NormOneBwdRefIdeal.nD Cert.NormOneBwdRefIdeal.τ).loc Cert.NormOneBwdRefIdeal.main_arg5))
      ∧ r.2.sem = fun _ => 0)

def quiescent_NormOneBwdRefIdeal_pre_finite_norm_one_bwd [hNormOneBwdRefIdeal : Cert.NormOneBwdRefIdeal.Facts] [hPre_finite_norm_one_bwd : Cert.Pre_finite_norm_one_bwd.Facts] : Prop :=
  ∀ (m : (ℓ : Loc Cert.NormOneBwdRefIdeal.nD Cert.NormOneBwdRefIdeal.τ Cert.NormOneBwdRefIdeal.sig) → Buf (Elt Ideal) ℓ) (g : Dev Cert.NormOneBwdRefIdeal.nD → PrngReg), Pre_NormOneBwdRefIdeal_finite_norm_one_bwd m →
    θ_run (Cert.NormOneBwdRefIdeal.defs (F := Ideal)) (onTc (τ := Cert.NormOneBwdRefIdeal.τ) (Cert.NormOneBwdRefIdeal.main (F := Ideal))) ⟨m, fun _ => 0, g⟩ (fun r => (∀ c : Dev Cert.NormOneBwdRefIdeal.nD,
      r.2.mem ((c.tc : Thread Cert.NormOneBwdRefIdeal.nD Cert.NormOneBwdRefIdeal.τ).loc Cert.NormOneBwdRefIdeal.main_arg0) = m ((c.tc : Thread Cert.NormOneBwdRefIdeal.nD Cert.NormOneBwdRefIdeal.τ).loc Cert.NormOneBwdRefIdeal.main_arg0)
      ∧ r.2.mem ((c.tc : Thread Cert.NormOneBwdRefIdeal.nD Cert.NormOneBwdRefIdeal.τ).loc Cert.NormOneBwdRefIdeal.main_arg1) = m ((c.tc : Thread Cert.NormOneBwdRefIdeal.nD Cert.NormOneBwdRefIdeal.τ).loc Cert.NormOneBwdRefIdeal.main_arg1)
      ∧ r.2.mem ((c.tc : Thread Cert.NormOneBwdRefIdeal.nD Cert.NormOneBwdRefIdeal.τ).loc Cert.NormOneBwdRefIdeal.main_arg2) = m ((c.tc : Thread Cert.NormOneBwdRefIdeal.nD Cert.NormOneBwdRefIdeal.τ).loc Cert.NormOneBwdRefIdeal.main_arg2)
      ∧ r.2.mem ((c.tc : Thread Cert.NormOneBwdRefIdeal.nD Cert.NormOneBwdRefIdeal.τ).loc Cert.NormOneBwdRefIdeal.main_arg3) = m ((c.tc : Thread Cert.NormOneBwdRefIdeal.nD Cert.NormOneBwdRefIdeal.τ).loc Cert.NormOneBwdRefIdeal.main_arg3)
      ∧ r.2.mem ((c.tc : Thread Cert.NormOneBwdRefIdeal.nD Cert.NormOneBwdRefIdeal.τ).loc Cert.NormOneBwdRefIdeal.main_arg4) = m ((c.tc : Thread Cert.NormOneBwdRefIdeal.nD Cert.NormOneBwdRefIdeal.τ).loc Cert.NormOneBwdRefIdeal.main_arg4)
      ∧ r.2.mem ((c.tc : Thread Cert.NormOneBwdRefIdeal.nD Cert.NormOneBwdRefIdeal.τ).loc Cert.NormOneBwdRefIdeal.main_arg5) = m ((c.tc : Thread Cert.NormOneBwdRefIdeal.nD Cert.NormOneBwdRefIdeal.τ).loc Cert.NormOneBwdRefIdeal.main_arg5))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3)
      ∧ r.2.mem ((c.tc : Thread Cert.LossHead.nD Cert.LossHead.τ).loc Cert.LossHead.main_arg4) = m ((c.tc : Thread Cert.LossHead.nD Cert.LossHead.τ).loc Cert.LossHead.main_arg4))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ r.2.sem = fun _ => 0)

def quiescent_LossHeadIdeal_pre_finite_loss_head [hLossHeadIdeal : Cert.LossHeadIdeal.Facts] [hPre_finite_loss_head : Cert.Pre_finite_loss_head.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_finite_loss_head m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4))
      ∧ r.2.sem = fun _ => 0)

def quiescent_LossHeadRefIdeal_pre_finite_loss_head [hLossHeadRefIdeal : Cert.LossHeadRefIdeal.Facts] [hPre_finite_loss_head : Cert.Pre_finite_loss_head.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_finite_loss_head m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4))
      ∧ r.2.sem = fun _ => 0)

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1)
      ∧ r.2.mem ((c.tc : Thread Cert.SwigluBwd.nD Cert.SwigluBwd.τ).loc Cert.SwigluBwd.main_arg2) = m ((c.tc : Thread Cert.SwigluBwd.nD Cert.SwigluBwd.τ).loc Cert.SwigluBwd.main_arg2)
      ∧ r.2.mem ((c.tc : Thread Cert.SwigluBwd.nD Cert.SwigluBwd.τ).loc Cert.SwigluBwd.main_arg3) = m ((c.tc : Thread Cert.SwigluBwd.nD Cert.SwigluBwd.τ).loc Cert.SwigluBwd.main_arg3))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
      ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2)
      ∧ r.2.mem ((c.tc : Thread Cert.SwigluBwdIdeal.nD Cert.SwigluBwdIdeal.τ).loc Cert.SwigluBwdIdeal.main_arg3) = m ((c.tc : Thread Cert.SwigluBwdIdeal.nD Cert.SwigluBwdIdeal.τ).loc Cert.SwigluBwdIdeal.main_arg3))
      ∧ r.2.sem = fun _ => 0)

def quiescent_SwigluBwdIdeal_pre_finite_swiglu_bwd [hSwigluBwdIdeal : Cert.SwigluBwdIdeal.Facts] [hPre_finite_swiglu_bwd : Cert.Pre_finite_swiglu_bwd.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal_finite_swiglu_bwd m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
      ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2)
      ∧ r.2.mem ((c.tc : Thread Cert.SwigluBwdIdeal.nD Cert.SwigluBwdIdeal.τ).loc Cert.SwigluBwdIdeal.main_arg3) = m ((c.tc : Thread Cert.SwigluBwdIdeal.nD Cert.SwigluBwdIdeal.τ).loc Cert.SwigluBwdIdeal.main_arg3))
      ∧ r.2.sem = fun _ => 0)

def quiescent_SwigluBwdRefIdeal [hSwigluBwdRefIdeal : Cert.SwigluBwdRefIdeal.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1)
      ∧ r.2.mem ((c.tc : Thread Cert.SwigluBwdRefIdeal.nD Cert.SwigluBwdRefIdeal.τ).loc Cert.SwigluBwdRefIdeal.main_arg2) = m ((c.tc : Thread Cert.SwigluBwdRefIdeal.nD Cert.SwigluBwdRefIdeal.τ).loc Cert.SwigluBwdRefIdeal.main_arg2)
      ∧ r.2.mem ((c.tc : Thread Cert.SwigluBwdRefIdeal.nD Cert.SwigluBwdRefIdeal.τ).loc Cert.SwigluBwdRefIdeal.main_arg3) = m ((c.tc : Thread Cert.SwigluBwdRefIdeal.nD Cert.SwigluBwdRefIdeal.τ).loc Cert.SwigluBwdRefIdeal.main_arg3))
      ∧ r.2.sem = fun _ => 0)

def quiescent_SwigluBwdRefIdeal_pre_finite_swiglu_bwd [hSwigluBwdRefIdeal : Cert.SwigluBwdRefIdeal.Facts] [hPre_finite_swiglu_bwd : Cert.Pre_finite_swiglu_bwd.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal_finite_swiglu_bwd m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1)
      ∧ r.2.mem ((c.tc : Thread Cert.SwigluBwdRefIdeal.nD Cert.SwigluBwdRefIdeal.τ).loc Cert.SwigluBwdRefIdeal.main_arg2) = m ((c.tc : Thread Cert.SwigluBwdRefIdeal.nD Cert.SwigluBwdRefIdeal.τ).loc Cert.SwigluBwdRefIdeal.main_arg2)
      ∧ r.2.mem ((c.tc : Thread Cert.SwigluBwdRefIdeal.nD Cert.SwigluBwdRefIdeal.τ).loc Cert.SwigluBwdRefIdeal.main_arg3) = m ((c.tc : Thread Cert.SwigluBwdRefIdeal.nD Cert.SwigluBwdRefIdeal.τ).loc Cert.SwigluBwdRefIdeal.main_arg3))
      ∧ r.2.sem = fun _ => 0)

def quiescent_HgFwd [hHgFwd : Cert.HgFwd.Facts] : Prop :=
  ∀ (m : (ℓ : Loc Cert.HgFwd.nD Cert.HgFwd.τ Cert.HgFwd.sig) → Buf (Elt Bits) ℓ) (g : Dev Cert.HgFwd.nD → PrngReg), Pre_HgFwd m →
    θ_run (Cert.HgFwd.defs (F := Bits)) (onTc (τ := Cert.HgFwd.τ) (Cert.HgFwd.main (F := Bits))) ⟨m, fun _ => 0, g⟩ (fun r => (∀ c : Dev Cert.HgFwd.nD,
      r.2.mem ((c.tc : Thread Cert.HgFwd.nD Cert.HgFwd.τ).loc Cert.HgFwd.main_arg0) = m ((c.tc : Thread Cert.HgFwd.nD Cert.HgFwd.τ).loc Cert.HgFwd.main_arg0)
      ∧ r.2.mem ((c.tc : Thread Cert.HgFwd.nD Cert.HgFwd.τ).loc Cert.HgFwd.main_arg1) = m ((c.tc : Thread Cert.HgFwd.nD Cert.HgFwd.τ).loc Cert.HgFwd.main_arg1)
      ∧ r.2.mem ((c.tc : Thread Cert.HgFwd.nD Cert.HgFwd.τ).loc Cert.HgFwd.main_arg2) = m ((c.tc : Thread Cert.HgFwd.nD Cert.HgFwd.τ).loc Cert.HgFwd.main_arg2))
      ∧ r.2.sem = fun _ => 0)

def quiescent_HgFwdIdeal [hHgFwdIdeal : Cert.HgFwdIdeal.Facts] : Prop :=
  ∀ (m : (ℓ : Loc Cert.HgFwdIdeal.nD Cert.HgFwdIdeal.τ Cert.HgFwdIdeal.sig) → Buf (Elt Ideal) ℓ) (g : Dev Cert.HgFwdIdeal.nD → PrngReg), Pre_HgFwdIdeal m →
    θ_run (Cert.HgFwdIdeal.defs (F := Ideal)) (onTc (τ := Cert.HgFwdIdeal.τ) (Cert.HgFwdIdeal.main (F := Ideal))) ⟨m, fun _ => 0, g⟩ (fun r => (∀ c : Dev Cert.HgFwdIdeal.nD,
      r.2.mem ((c.tc : Thread Cert.HgFwdIdeal.nD Cert.HgFwdIdeal.τ).loc Cert.HgFwdIdeal.main_arg0) = m ((c.tc : Thread Cert.HgFwdIdeal.nD Cert.HgFwdIdeal.τ).loc Cert.HgFwdIdeal.main_arg0)
      ∧ r.2.mem ((c.tc : Thread Cert.HgFwdIdeal.nD Cert.HgFwdIdeal.τ).loc Cert.HgFwdIdeal.main_arg1) = m ((c.tc : Thread Cert.HgFwdIdeal.nD Cert.HgFwdIdeal.τ).loc Cert.HgFwdIdeal.main_arg1)
      ∧ r.2.mem ((c.tc : Thread Cert.HgFwdIdeal.nD Cert.HgFwdIdeal.τ).loc Cert.HgFwdIdeal.main_arg2) = m ((c.tc : Thread Cert.HgFwdIdeal.nD Cert.HgFwdIdeal.τ).loc Cert.HgFwdIdeal.main_arg2))
      ∧ r.2.sem = fun _ => 0)

def quiescent_HgFwdIdeal_pre_finite_hg_fwd [hHgFwdIdeal : Cert.HgFwdIdeal.Facts] [hPre_finite_hg_fwd : Cert.Pre_finite_hg_fwd.Facts] : Prop :=
  ∀ (m : (ℓ : Loc Cert.HgFwdIdeal.nD Cert.HgFwdIdeal.τ Cert.HgFwdIdeal.sig) → Buf (Elt Ideal) ℓ) (g : Dev Cert.HgFwdIdeal.nD → PrngReg), Pre_HgFwdIdeal_finite_hg_fwd m →
    θ_run (Cert.HgFwdIdeal.defs (F := Ideal)) (onTc (τ := Cert.HgFwdIdeal.τ) (Cert.HgFwdIdeal.main (F := Ideal))) ⟨m, fun _ => 0, g⟩ (fun r => (∀ c : Dev Cert.HgFwdIdeal.nD,
      r.2.mem ((c.tc : Thread Cert.HgFwdIdeal.nD Cert.HgFwdIdeal.τ).loc Cert.HgFwdIdeal.main_arg0) = m ((c.tc : Thread Cert.HgFwdIdeal.nD Cert.HgFwdIdeal.τ).loc Cert.HgFwdIdeal.main_arg0)
      ∧ r.2.mem ((c.tc : Thread Cert.HgFwdIdeal.nD Cert.HgFwdIdeal.τ).loc Cert.HgFwdIdeal.main_arg1) = m ((c.tc : Thread Cert.HgFwdIdeal.nD Cert.HgFwdIdeal.τ).loc Cert.HgFwdIdeal.main_arg1)
      ∧ r.2.mem ((c.tc : Thread Cert.HgFwdIdeal.nD Cert.HgFwdIdeal.τ).loc Cert.HgFwdIdeal.main_arg2) = m ((c.tc : Thread Cert.HgFwdIdeal.nD Cert.HgFwdIdeal.τ).loc Cert.HgFwdIdeal.main_arg2))
      ∧ r.2.sem = fun _ => 0)

def quiescent_HgFwdRefIdeal [hHgFwdRefIdeal : Cert.HgFwdRefIdeal.Facts] : Prop :=
  ∀ (m : (ℓ : Loc Cert.HgFwdRefIdeal.nD Cert.HgFwdRefIdeal.τ Cert.HgFwdRefIdeal.sig) → Buf (Elt Ideal) ℓ) (g : Dev Cert.HgFwdRefIdeal.nD → PrngReg), Pre_HgFwdRefIdeal m →
    θ_run (Cert.HgFwdRefIdeal.defs (F := Ideal)) (onTc (τ := Cert.HgFwdRefIdeal.τ) (Cert.HgFwdRefIdeal.main (F := Ideal))) ⟨m, fun _ => 0, g⟩ (fun r => (∀ c : Dev Cert.HgFwdRefIdeal.nD,
      r.2.mem ((c.tc : Thread Cert.HgFwdRefIdeal.nD Cert.HgFwdRefIdeal.τ).loc Cert.HgFwdRefIdeal.main_arg0) = m ((c.tc : Thread Cert.HgFwdRefIdeal.nD Cert.HgFwdRefIdeal.τ).loc Cert.HgFwdRefIdeal.main_arg0)
      ∧ r.2.mem ((c.tc : Thread Cert.HgFwdRefIdeal.nD Cert.HgFwdRefIdeal.τ).loc Cert.HgFwdRefIdeal.main_arg1) = m ((c.tc : Thread Cert.HgFwdRefIdeal.nD Cert.HgFwdRefIdeal.τ).loc Cert.HgFwdRefIdeal.main_arg1)
      ∧ r.2.mem ((c.tc : Thread Cert.HgFwdRefIdeal.nD Cert.HgFwdRefIdeal.τ).loc Cert.HgFwdRefIdeal.main_arg2) = m ((c.tc : Thread Cert.HgFwdRefIdeal.nD Cert.HgFwdRefIdeal.τ).loc Cert.HgFwdRefIdeal.main_arg2))
      ∧ r.2.sem = fun _ => 0)

def quiescent_HgFwdRefIdeal_pre_finite_hg_fwd [hHgFwdRefIdeal : Cert.HgFwdRefIdeal.Facts] [hPre_finite_hg_fwd : Cert.Pre_finite_hg_fwd.Facts] : Prop :=
  ∀ (m : (ℓ : Loc Cert.HgFwdRefIdeal.nD Cert.HgFwdRefIdeal.τ Cert.HgFwdRefIdeal.sig) → Buf (Elt Ideal) ℓ) (g : Dev Cert.HgFwdRefIdeal.nD → PrngReg), Pre_HgFwdRefIdeal_finite_hg_fwd m →
    θ_run (Cert.HgFwdRefIdeal.defs (F := Ideal)) (onTc (τ := Cert.HgFwdRefIdeal.τ) (Cert.HgFwdRefIdeal.main (F := Ideal))) ⟨m, fun _ => 0, g⟩ (fun r => (∀ c : Dev Cert.HgFwdRefIdeal.nD,
      r.2.mem ((c.tc : Thread Cert.HgFwdRefIdeal.nD Cert.HgFwdRefIdeal.τ).loc Cert.HgFwdRefIdeal.main_arg0) = m ((c.tc : Thread Cert.HgFwdRefIdeal.nD Cert.HgFwdRefIdeal.τ).loc Cert.HgFwdRefIdeal.main_arg0)
      ∧ r.2.mem ((c.tc : Thread Cert.HgFwdRefIdeal.nD Cert.HgFwdRefIdeal.τ).loc Cert.HgFwdRefIdeal.main_arg1) = m ((c.tc : Thread Cert.HgFwdRefIdeal.nD Cert.HgFwdRefIdeal.τ).loc Cert.HgFwdRefIdeal.main_arg1)
      ∧ r.2.mem ((c.tc : Thread Cert.HgFwdRefIdeal.nD Cert.HgFwdRefIdeal.τ).loc Cert.HgFwdRefIdeal.main_arg2) = m ((c.tc : Thread Cert.HgFwdRefIdeal.nD Cert.HgFwdRefIdeal.τ).loc Cert.HgFwdRefIdeal.main_arg2))
      ∧ r.2.sem = fun _ => 0)

def quiescent_HgBwd [hHgBwd : Cert.HgBwd.Facts] : Prop :=
  ∀ (m : (ℓ : Loc Cert.HgBwd.nD Cert.HgBwd.τ Cert.HgBwd.sig) → Buf (Elt Bits) ℓ) (g : Dev Cert.HgBwd.nD → PrngReg), Pre_HgBwd m →
    θ_run (Cert.HgBwd.defs (F := Bits)) (onTc (τ := Cert.HgBwd.τ) (Cert.HgBwd.main (F := Bits))) ⟨m, fun _ => 0, g⟩ (fun r => (∀ c : Dev Cert.HgBwd.nD,
      r.2.mem ((c.tc : Thread Cert.HgBwd.nD Cert.HgBwd.τ).loc Cert.HgBwd.main_arg0) = m ((c.tc : Thread Cert.HgBwd.nD Cert.HgBwd.τ).loc Cert.HgBwd.main_arg0)
      ∧ r.2.mem ((c.tc : Thread Cert.HgBwd.nD Cert.HgBwd.τ).loc Cert.HgBwd.main_arg1) = m ((c.tc : Thread Cert.HgBwd.nD Cert.HgBwd.τ).loc Cert.HgBwd.main_arg1)
      ∧ r.2.mem ((c.tc : Thread Cert.HgBwd.nD Cert.HgBwd.τ).loc Cert.HgBwd.main_arg2) = m ((c.tc : Thread Cert.HgBwd.nD Cert.HgBwd.τ).loc Cert.HgBwd.main_arg2)
      ∧ r.2.mem ((c.tc : Thread Cert.HgBwd.nD Cert.HgBwd.τ).loc Cert.HgBwd.main_arg3) = m ((c.tc : Thread Cert.HgBwd.nD Cert.HgBwd.τ).loc Cert.HgBwd.main_arg3)
      ∧ r.2.mem ((c.tc : Thread Cert.HgBwd.nD Cert.HgBwd.τ).loc Cert.HgBwd.main_arg4) = m ((c.tc : Thread Cert.HgBwd.nD Cert.HgBwd.τ).loc Cert.HgBwd.main_arg4)
      ∧ r.2.mem ((c.tc : Thread Cert.HgBwd.nD Cert.HgBwd.τ).loc Cert.HgBwd.main_arg5) = m ((c.tc : Thread Cert.HgBwd.nD Cert.HgBwd.τ).loc Cert.HgBwd.main_arg5))
      ∧ r.2.sem = fun _ => 0)

def quiescent_HgBwdIdeal [hHgBwdIdeal : Cert.HgBwdIdeal.Facts] : Prop :=
  ∀ (m : (ℓ : Loc Cert.HgBwdIdeal.nD Cert.HgBwdIdeal.τ Cert.HgBwdIdeal.sig) → Buf (Elt Ideal) ℓ) (g : Dev Cert.HgBwdIdeal.nD → PrngReg), Pre_HgBwdIdeal m →
    θ_run (Cert.HgBwdIdeal.defs (F := Ideal)) (onTc (τ := Cert.HgBwdIdeal.τ) (Cert.HgBwdIdeal.main (F := Ideal))) ⟨m, fun _ => 0, g⟩ (fun r => (∀ c : Dev Cert.HgBwdIdeal.nD,
      r.2.mem ((c.tc : Thread Cert.HgBwdIdeal.nD Cert.HgBwdIdeal.τ).loc Cert.HgBwdIdeal.main_arg0) = m ((c.tc : Thread Cert.HgBwdIdeal.nD Cert.HgBwdIdeal.τ).loc Cert.HgBwdIdeal.main_arg0)
      ∧ r.2.mem ((c.tc : Thread Cert.HgBwdIdeal.nD Cert.HgBwdIdeal.τ).loc Cert.HgBwdIdeal.main_arg1) = m ((c.tc : Thread Cert.HgBwdIdeal.nD Cert.HgBwdIdeal.τ).loc Cert.HgBwdIdeal.main_arg1)
      ∧ r.2.mem ((c.tc : Thread Cert.HgBwdIdeal.nD Cert.HgBwdIdeal.τ).loc Cert.HgBwdIdeal.main_arg2) = m ((c.tc : Thread Cert.HgBwdIdeal.nD Cert.HgBwdIdeal.τ).loc Cert.HgBwdIdeal.main_arg2)
      ∧ r.2.mem ((c.tc : Thread Cert.HgBwdIdeal.nD Cert.HgBwdIdeal.τ).loc Cert.HgBwdIdeal.main_arg3) = m ((c.tc : Thread Cert.HgBwdIdeal.nD Cert.HgBwdIdeal.τ).loc Cert.HgBwdIdeal.main_arg3)
      ∧ r.2.mem ((c.tc : Thread Cert.HgBwdIdeal.nD Cert.HgBwdIdeal.τ).loc Cert.HgBwdIdeal.main_arg4) = m ((c.tc : Thread Cert.HgBwdIdeal.nD Cert.HgBwdIdeal.τ).loc Cert.HgBwdIdeal.main_arg4)
      ∧ r.2.mem ((c.tc : Thread Cert.HgBwdIdeal.nD Cert.HgBwdIdeal.τ).loc Cert.HgBwdIdeal.main_arg5) = m ((c.tc : Thread Cert.HgBwdIdeal.nD Cert.HgBwdIdeal.τ).loc Cert.HgBwdIdeal.main_arg5))
      ∧ r.2.sem = fun _ => 0)

def quiescent_HgBwdRefIdeal [hHgBwdRefIdeal : Cert.HgBwdRefIdeal.Facts] : Prop :=
  ∀ (m : (ℓ : Loc Cert.HgBwdRefIdeal.nD Cert.HgBwdRefIdeal.τ Cert.HgBwdRefIdeal.sig) → Buf (Elt Ideal) ℓ) (g : Dev Cert.HgBwdRefIdeal.nD → PrngReg), Pre_HgBwdRefIdeal m →
    θ_run (Cert.HgBwdRefIdeal.defs (F := Ideal)) (onTc (τ := Cert.HgBwdRefIdeal.τ) (Cert.HgBwdRefIdeal.main (F := Ideal))) ⟨m, fun _ => 0, g⟩ (fun r => (∀ c : Dev Cert.HgBwdRefIdeal.nD,
      r.2.mem ((c.tc : Thread Cert.HgBwdRefIdeal.nD Cert.HgBwdRefIdeal.τ).loc Cert.HgBwdRefIdeal.main_arg0) = m ((c.tc : Thread Cert.HgBwdRefIdeal.nD Cert.HgBwdRefIdeal.τ).loc Cert.HgBwdRefIdeal.main_arg0)
      ∧ r.2.mem ((c.tc : Thread Cert.HgBwdRefIdeal.nD Cert.HgBwdRefIdeal.τ).loc Cert.HgBwdRefIdeal.main_arg1) = m ((c.tc : Thread Cert.HgBwdRefIdeal.nD Cert.HgBwdRefIdeal.τ).loc Cert.HgBwdRefIdeal.main_arg1)
      ∧ r.2.mem ((c.tc : Thread Cert.HgBwdRefIdeal.nD Cert.HgBwdRefIdeal.τ).loc Cert.HgBwdRefIdeal.main_arg2) = m ((c.tc : Thread Cert.HgBwdRefIdeal.nD Cert.HgBwdRefIdeal.τ).loc Cert.HgBwdRefIdeal.main_arg2)
      ∧ r.2.mem ((c.tc : Thread Cert.HgBwdRefIdeal.nD Cert.HgBwdRefIdeal.τ).loc Cert.HgBwdRefIdeal.main_arg3) = m ((c.tc : Thread Cert.HgBwdRefIdeal.nD Cert.HgBwdRefIdeal.τ).loc Cert.HgBwdRefIdeal.main_arg3)
      ∧ r.2.mem ((c.tc : Thread Cert.HgBwdRefIdeal.nD Cert.HgBwdRefIdeal.τ).loc Cert.HgBwdRefIdeal.main_arg4) = m ((c.tc : Thread Cert.HgBwdRefIdeal.nD Cert.HgBwdRefIdeal.τ).loc Cert.HgBwdRefIdeal.main_arg4)
      ∧ r.2.mem ((c.tc : Thread Cert.HgBwdRefIdeal.nD Cert.HgBwdRefIdeal.τ).loc Cert.HgBwdRefIdeal.main_arg5) = m ((c.tc : Thread Cert.HgBwdRefIdeal.nD Cert.HgBwdRefIdeal.τ).loc Cert.HgBwdRefIdeal.main_arg5))
      ∧ r.2.sem = fun _ => 0)

def quiescent_GmlpFwd [hGmlpFwd : Cert.GmlpFwd.Facts] : Prop :=
  ∀ (m : (ℓ : Loc Cert.GmlpFwd.nD Cert.GmlpFwd.τ Cert.GmlpFwd.sig) → Buf (Elt Bits) ℓ) (g : Dev Cert.GmlpFwd.nD → PrngReg), Pre_GmlpFwd m →
    θ_run (Cert.GmlpFwd.defs (F := Bits)) (onTc (τ := Cert.GmlpFwd.τ) (Cert.GmlpFwd.main (F := Bits))) ⟨m, fun _ => 0, g⟩ (fun r => (∀ c : Dev Cert.GmlpFwd.nD,
      r.2.mem ((c.tc : Thread Cert.GmlpFwd.nD Cert.GmlpFwd.τ).loc Cert.GmlpFwd.main_arg0) = m ((c.tc : Thread Cert.GmlpFwd.nD Cert.GmlpFwd.τ).loc Cert.GmlpFwd.main_arg0)
      ∧ r.2.mem ((c.tc : Thread Cert.GmlpFwd.nD Cert.GmlpFwd.τ).loc Cert.GmlpFwd.main_arg1) = m ((c.tc : Thread Cert.GmlpFwd.nD Cert.GmlpFwd.τ).loc Cert.GmlpFwd.main_arg1)
      ∧ r.2.mem ((c.tc : Thread Cert.GmlpFwd.nD Cert.GmlpFwd.τ).loc Cert.GmlpFwd.main_arg2) = m ((c.tc : Thread Cert.GmlpFwd.nD Cert.GmlpFwd.τ).loc Cert.GmlpFwd.main_arg2)
      ∧ r.2.mem ((c.tc : Thread Cert.GmlpFwd.nD Cert.GmlpFwd.τ).loc Cert.GmlpFwd.main_arg3) = m ((c.tc : Thread Cert.GmlpFwd.nD Cert.GmlpFwd.τ).loc Cert.GmlpFwd.main_arg3)
      ∧ r.2.mem ((c.tc : Thread Cert.GmlpFwd.nD Cert.GmlpFwd.τ).loc Cert.GmlpFwd.main_arg4) = m ((c.tc : Thread Cert.GmlpFwd.nD Cert.GmlpFwd.τ).loc Cert.GmlpFwd.main_arg4))
      ∧ r.2.sem = fun _ => 0)

def quiescent_GmlpFwdIdeal [hGmlpFwdIdeal : Cert.GmlpFwdIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg), Pre_GmlpFwdIdeal m →
    θ_run (Cert.GmlpFwdIdeal.defs (F := Ideal)) (onTc (τ := Cert.GmlpFwdIdeal.τ) (Cert.GmlpFwdIdeal.main (F := Ideal))) ⟨m, fun _ => 0, g⟩ (fun r => (∀ c : Dev Cert.GmlpFwdIdeal.nD,
      r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
      ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
      ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
      ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
      ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4))
      ∧ r.2.sem = fun _ => 0)

def quiescent_GmlpFwdIdeal_pre_finite_gmlp_fwd [hGmlpFwdIdeal : Cert.GmlpFwdIdeal.Facts] [hPre_finite_gmlp_fwd : Cert.Pre_finite_gmlp_fwd.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg), Pre_GmlpFwdIdeal_finite_gmlp_fwd m →
    θ_run (Cert.GmlpFwdIdeal.defs (F := Ideal)) (onTc (τ := Cert.GmlpFwdIdeal.τ) (Cert.GmlpFwdIdeal.main (F := Ideal))) ⟨m, fun _ => 0, g⟩ (fun r => (∀ c : Dev Cert.GmlpFwdIdeal.nD,
      r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
      ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
      ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
      ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
      ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4))
      ∧ r.2.sem = fun _ => 0)

def quiescent_GmlpFwdRefIdeal [hGmlpFwdRefIdeal : Cert.GmlpFwdRefIdeal.Facts] : Prop :=
  ∀ (m : (ℓ : Loc Cert.GmlpFwdRefIdeal.nD Cert.GmlpFwdRefIdeal.τ Cert.GmlpFwdRefIdeal.sig) → Buf (Elt Ideal) ℓ) (g : Dev Cert.GmlpFwdRefIdeal.nD → PrngReg), Pre_GmlpFwdRefIdeal m →
    θ_run (Cert.GmlpFwdRefIdeal.defs (F := Ideal)) (onTc (τ := Cert.GmlpFwdRefIdeal.τ) (Cert.GmlpFwdRefIdeal.main (F := Ideal))) ⟨m, fun _ => 0, g⟩ (fun r => (∀ c : Dev Cert.GmlpFwdRefIdeal.nD,
      r.2.mem ((c.tc : Thread Cert.GmlpFwdRefIdeal.nD Cert.GmlpFwdRefIdeal.τ).loc Cert.GmlpFwdRefIdeal.main_arg0) = m ((c.tc : Thread Cert.GmlpFwdRefIdeal.nD Cert.GmlpFwdRefIdeal.τ).loc Cert.GmlpFwdRefIdeal.main_arg0)
      ∧ r.2.mem ((c.tc : Thread Cert.GmlpFwdRefIdeal.nD Cert.GmlpFwdRefIdeal.τ).loc Cert.GmlpFwdRefIdeal.main_arg1) = m ((c.tc : Thread Cert.GmlpFwdRefIdeal.nD Cert.GmlpFwdRefIdeal.τ).loc Cert.GmlpFwdRefIdeal.main_arg1)
      ∧ r.2.mem ((c.tc : Thread Cert.GmlpFwdRefIdeal.nD Cert.GmlpFwdRefIdeal.τ).loc Cert.GmlpFwdRefIdeal.main_arg2) = m ((c.tc : Thread Cert.GmlpFwdRefIdeal.nD Cert.GmlpFwdRefIdeal.τ).loc Cert.GmlpFwdRefIdeal.main_arg2)
      ∧ r.2.mem ((c.tc : Thread Cert.GmlpFwdRefIdeal.nD Cert.GmlpFwdRefIdeal.τ).loc Cert.GmlpFwdRefIdeal.main_arg3) = m ((c.tc : Thread Cert.GmlpFwdRefIdeal.nD Cert.GmlpFwdRefIdeal.τ).loc Cert.GmlpFwdRefIdeal.main_arg3)
      ∧ r.2.mem ((c.tc : Thread Cert.GmlpFwdRefIdeal.nD Cert.GmlpFwdRefIdeal.τ).loc Cert.GmlpFwdRefIdeal.main_arg4) = m ((c.tc : Thread Cert.GmlpFwdRefIdeal.nD Cert.GmlpFwdRefIdeal.τ).loc Cert.GmlpFwdRefIdeal.main_arg4))
      ∧ r.2.sem = fun _ => 0)

def quiescent_GmlpFwdRefIdeal_pre_finite_gmlp_fwd [hGmlpFwdRefIdeal : Cert.GmlpFwdRefIdeal.Facts] [hPre_finite_gmlp_fwd : Cert.Pre_finite_gmlp_fwd.Facts] : Prop :=
  ∀ (m : (ℓ : Loc Cert.GmlpFwdRefIdeal.nD Cert.GmlpFwdRefIdeal.τ Cert.GmlpFwdRefIdeal.sig) → Buf (Elt Ideal) ℓ) (g : Dev Cert.GmlpFwdRefIdeal.nD → PrngReg), Pre_GmlpFwdRefIdeal_finite_gmlp_fwd m →
    θ_run (Cert.GmlpFwdRefIdeal.defs (F := Ideal)) (onTc (τ := Cert.GmlpFwdRefIdeal.τ) (Cert.GmlpFwdRefIdeal.main (F := Ideal))) ⟨m, fun _ => 0, g⟩ (fun r => (∀ c : Dev Cert.GmlpFwdRefIdeal.nD,
      r.2.mem ((c.tc : Thread Cert.GmlpFwdRefIdeal.nD Cert.GmlpFwdRefIdeal.τ).loc Cert.GmlpFwdRefIdeal.main_arg0) = m ((c.tc : Thread Cert.GmlpFwdRefIdeal.nD Cert.GmlpFwdRefIdeal.τ).loc Cert.GmlpFwdRefIdeal.main_arg0)
      ∧ r.2.mem ((c.tc : Thread Cert.GmlpFwdRefIdeal.nD Cert.GmlpFwdRefIdeal.τ).loc Cert.GmlpFwdRefIdeal.main_arg1) = m ((c.tc : Thread Cert.GmlpFwdRefIdeal.nD Cert.GmlpFwdRefIdeal.τ).loc Cert.GmlpFwdRefIdeal.main_arg1)
      ∧ r.2.mem ((c.tc : Thread Cert.GmlpFwdRefIdeal.nD Cert.GmlpFwdRefIdeal.τ).loc Cert.GmlpFwdRefIdeal.main_arg2) = m ((c.tc : Thread Cert.GmlpFwdRefIdeal.nD Cert.GmlpFwdRefIdeal.τ).loc Cert.GmlpFwdRefIdeal.main_arg2)
      ∧ r.2.mem ((c.tc : Thread Cert.GmlpFwdRefIdeal.nD Cert.GmlpFwdRefIdeal.τ).loc Cert.GmlpFwdRefIdeal.main_arg3) = m ((c.tc : Thread Cert.GmlpFwdRefIdeal.nD Cert.GmlpFwdRefIdeal.τ).loc Cert.GmlpFwdRefIdeal.main_arg3)
      ∧ r.2.mem ((c.tc : Thread Cert.GmlpFwdRefIdeal.nD Cert.GmlpFwdRefIdeal.τ).loc Cert.GmlpFwdRefIdeal.main_arg4) = m ((c.tc : Thread Cert.GmlpFwdRefIdeal.nD Cert.GmlpFwdRefIdeal.τ).loc Cert.GmlpFwdRefIdeal.main_arg4))
      ∧ r.2.sem = fun _ => 0)

def quiescent_SwigluFwd [hSwigluFwd : Cert.SwigluFwd.Facts] : Prop :=
  ∀ (m : (ℓ : Loc Cert.SwigluFwd.nD Cert.SwigluFwd.τ Cert.SwigluFwd.sig) → Buf (Elt Bits) ℓ) (g : Dev Cert.SwigluFwd.nD → PrngReg), Pre_SwigluFwd m →
    θ_run (Cert.SwigluFwd.defs (F := Bits)) (onTc (τ := Cert.SwigluFwd.τ) (Cert.SwigluFwd.main (F := Bits))) ⟨m, fun _ => 0, g⟩ (fun r => (∀ c : Dev Cert.SwigluFwd.nD,
      r.2.mem ((c.tc : Thread Cert.SwigluFwd.nD Cert.SwigluFwd.τ).loc Cert.SwigluFwd.main_arg0) = m ((c.tc : Thread Cert.SwigluFwd.nD Cert.SwigluFwd.τ).loc Cert.SwigluFwd.main_arg0)
      ∧ r.2.mem ((c.tc : Thread Cert.SwigluFwd.nD Cert.SwigluFwd.τ).loc Cert.SwigluFwd.main_arg1) = m ((c.tc : Thread Cert.SwigluFwd.nD Cert.SwigluFwd.τ).loc Cert.SwigluFwd.main_arg1))
      ∧ r.2.sem = fun _ => 0)

def quiescent_SwigluFwdIdeal [hSwigluFwdIdeal : Cert.SwigluFwdIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg), Pre_SwigluFwdIdeal m →
    θ_run (Cert.SwigluFwdIdeal.defs (F := Ideal)) (onTc (τ := Cert.SwigluFwdIdeal.τ) (Cert.SwigluFwdIdeal.main (F := Ideal))) ⟨m, fun _ => 0, g⟩ (fun r => (∀ c : Dev Cert.SwigluFwdIdeal.nD,
      r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0)
      ∧ r.2.mem ((c.tc : Thread Cert.SwigluFwdIdeal.nD Cert.SwigluFwdIdeal.τ).loc Cert.SwigluFwdIdeal.main_arg1) = m ((c.tc : Thread Cert.SwigluFwdIdeal.nD Cert.SwigluFwdIdeal.τ).loc Cert.SwigluFwdIdeal.main_arg1))
      ∧ r.2.sem = fun _ => 0)

def quiescent_SwigluFwdIdeal_pre_finite_swiglu_fwd [hSwigluFwdIdeal : Cert.SwigluFwdIdeal.Facts] [hPre_finite_swiglu_fwd : Cert.Pre_finite_swiglu_fwd.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg), Pre_SwigluFwdIdeal_finite_swiglu_fwd m →
    θ_run (Cert.SwigluFwdIdeal.defs (F := Ideal)) (onTc (τ := Cert.SwigluFwdIdeal.τ) (Cert.SwigluFwdIdeal.main (F := Ideal))) ⟨m, fun _ => 0, g⟩ (fun r => (∀ c : Dev Cert.SwigluFwdIdeal.nD,
      r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0)
      ∧ r.2.mem ((c.tc : Thread Cert.SwigluFwdIdeal.nD Cert.SwigluFwdIdeal.τ).loc Cert.SwigluFwdIdeal.main_arg1) = m ((c.tc : Thread Cert.SwigluFwdIdeal.nD Cert.SwigluFwdIdeal.τ).loc Cert.SwigluFwdIdeal.main_arg1))
      ∧ r.2.sem = fun _ => 0)

def quiescent_SwigluFwdRefIdeal [hSwigluFwdRefIdeal : Cert.SwigluFwdRefIdeal.Facts] : Prop :=
  ∀ (m : (ℓ : Loc Cert.SwigluFwdRefIdeal.nD Cert.SwigluFwdRefIdeal.τ Cert.SwigluFwdRefIdeal.sig) → Buf (Elt Ideal) ℓ) (g : Dev Cert.SwigluFwdRefIdeal.nD → PrngReg), Pre_SwigluFwdRefIdeal m →
    θ_run (Cert.SwigluFwdRefIdeal.defs (F := Ideal)) (onTc (τ := Cert.SwigluFwdRefIdeal.τ) (Cert.SwigluFwdRefIdeal.main (F := Ideal))) ⟨m, fun _ => 0, g⟩ (fun r => (∀ c : Dev Cert.SwigluFwdRefIdeal.nD,
      r.2.mem ((c.tc : Thread Cert.SwigluFwdRefIdeal.nD Cert.SwigluFwdRefIdeal.τ).loc Cert.SwigluFwdRefIdeal.main_arg0) = m ((c.tc : Thread Cert.SwigluFwdRefIdeal.nD Cert.SwigluFwdRefIdeal.τ).loc Cert.SwigluFwdRefIdeal.main_arg0)
      ∧ r.2.mem ((c.tc : Thread Cert.SwigluFwdRefIdeal.nD Cert.SwigluFwdRefIdeal.τ).loc Cert.SwigluFwdRefIdeal.main_arg1) = m ((c.tc : Thread Cert.SwigluFwdRefIdeal.nD Cert.SwigluFwdRefIdeal.τ).loc Cert.SwigluFwdRefIdeal.main_arg1))
      ∧ r.2.sem = fun _ => 0)

def quiescent_SwigluFwdRefIdeal_pre_finite_swiglu_fwd [hSwigluFwdRefIdeal : Cert.SwigluFwdRefIdeal.Facts] [hPre_finite_swiglu_fwd : Cert.Pre_finite_swiglu_fwd.Facts] : Prop :=
  ∀ (m : (ℓ : Loc Cert.SwigluFwdRefIdeal.nD Cert.SwigluFwdRefIdeal.τ Cert.SwigluFwdRefIdeal.sig) → Buf (Elt Ideal) ℓ) (g : Dev Cert.SwigluFwdRefIdeal.nD → PrngReg), Pre_SwigluFwdRefIdeal_finite_swiglu_fwd m →
    θ_run (Cert.SwigluFwdRefIdeal.defs (F := Ideal)) (onTc (τ := Cert.SwigluFwdRefIdeal.τ) (Cert.SwigluFwdRefIdeal.main (F := Ideal))) ⟨m, fun _ => 0, g⟩ (fun r => (∀ c : Dev Cert.SwigluFwdRefIdeal.nD,
      r.2.mem ((c.tc : Thread Cert.SwigluFwdRefIdeal.nD Cert.SwigluFwdRefIdeal.τ).loc Cert.SwigluFwdRefIdeal.main_arg0) = m ((c.tc : Thread Cert.SwigluFwdRefIdeal.nD Cert.SwigluFwdRefIdeal.τ).loc Cert.SwigluFwdRefIdeal.main_arg0)
      ∧ r.2.mem ((c.tc : Thread Cert.SwigluFwdRefIdeal.nD Cert.SwigluFwdRefIdeal.τ).loc Cert.SwigluFwdRefIdeal.main_arg1) = m ((c.tc : Thread Cert.SwigluFwdRefIdeal.nD Cert.SwigluFwdRefIdeal.τ).loc Cert.SwigluFwdRefIdeal.main_arg1))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4))
      ∧ r.2.sem = fun _ => 0)

def quiescent_NormOneFwd [hNormOneFwd : Cert.NormOneFwd.Facts] : Prop :=
  ∀ (m : (ℓ : Loc Cert.NormOneFwd.nD Cert.NormOneFwd.τ Cert.NormOneFwd.sig) → Buf (Elt Bits) ℓ) (g : Dev Cert.NormOneFwd.nD → PrngReg), Pre_NormOneFwd m →
    θ_run (Cert.NormOneFwd.defs (F := Bits)) (onTc (τ := Cert.NormOneFwd.τ) (Cert.NormOneFwd.main (F := Bits))) ⟨m, fun _ => 0, g⟩ (fun r => (∀ c : Dev Cert.NormOneFwd.nD,
      r.2.mem ((c.tc : Thread Cert.NormOneFwd.nD Cert.NormOneFwd.τ).loc Cert.NormOneFwd.main_arg0) = m ((c.tc : Thread Cert.NormOneFwd.nD Cert.NormOneFwd.τ).loc Cert.NormOneFwd.main_arg0)
      ∧ r.2.mem ((c.tc : Thread Cert.NormOneFwd.nD Cert.NormOneFwd.τ).loc Cert.NormOneFwd.main_arg1) = m ((c.tc : Thread Cert.NormOneFwd.nD Cert.NormOneFwd.τ).loc Cert.NormOneFwd.main_arg1)
      ∧ r.2.mem ((c.tc : Thread Cert.NormOneFwd.nD Cert.NormOneFwd.τ).loc Cert.NormOneFwd.main_arg2) = m ((c.tc : Thread Cert.NormOneFwd.nD Cert.NormOneFwd.τ).loc Cert.NormOneFwd.main_arg2)
      ∧ r.2.mem ((c.tc : Thread Cert.NormOneFwd.nD Cert.NormOneFwd.τ).loc Cert.NormOneFwd.main_arg3) = m ((c.tc : Thread Cert.NormOneFwd.nD Cert.NormOneFwd.τ).loc Cert.NormOneFwd.main_arg3))
      ∧ r.2.sem = fun _ => 0)

def quiescent_NormOneFwdIdeal [hNormOneFwdIdeal : Cert.NormOneFwdIdeal.Facts] : Prop :=
  ∀ (m : (ℓ : Loc Cert.NormOneFwdIdeal.nD Cert.NormOneFwdIdeal.τ Cert.NormOneFwdIdeal.sig) → Buf (Elt Ideal) ℓ) (g : Dev Cert.NormOneFwdIdeal.nD → PrngReg), Pre_NormOneFwdIdeal m →
    θ_run (Cert.NormOneFwdIdeal.defs (F := Ideal)) (onTc (τ := Cert.NormOneFwdIdeal.τ) (Cert.NormOneFwdIdeal.main (F := Ideal))) ⟨m, fun _ => 0, g⟩ (fun r => (∀ c : Dev Cert.NormOneFwdIdeal.nD,
      r.2.mem ((c.tc : Thread Cert.NormOneFwdIdeal.nD Cert.NormOneFwdIdeal.τ).loc Cert.NormOneFwdIdeal.main_arg0) = m ((c.tc : Thread Cert.NormOneFwdIdeal.nD Cert.NormOneFwdIdeal.τ).loc Cert.NormOneFwdIdeal.main_arg0)
      ∧ r.2.mem ((c.tc : Thread Cert.NormOneFwdIdeal.nD Cert.NormOneFwdIdeal.τ).loc Cert.NormOneFwdIdeal.main_arg1) = m ((c.tc : Thread Cert.NormOneFwdIdeal.nD Cert.NormOneFwdIdeal.τ).loc Cert.NormOneFwdIdeal.main_arg1)
      ∧ r.2.mem ((c.tc : Thread Cert.NormOneFwdIdeal.nD Cert.NormOneFwdIdeal.τ).loc Cert.NormOneFwdIdeal.main_arg2) = m ((c.tc : Thread Cert.NormOneFwdIdeal.nD Cert.NormOneFwdIdeal.τ).loc Cert.NormOneFwdIdeal.main_arg2)
      ∧ r.2.mem ((c.tc : Thread Cert.NormOneFwdIdeal.nD Cert.NormOneFwdIdeal.τ).loc Cert.NormOneFwdIdeal.main_arg3) = m ((c.tc : Thread Cert.NormOneFwdIdeal.nD Cert.NormOneFwdIdeal.τ).loc Cert.NormOneFwdIdeal.main_arg3))
      ∧ r.2.sem = fun _ => 0)

def quiescent_NormOneFwdRefIdeal [hNormOneFwdRefIdeal : Cert.NormOneFwdRefIdeal.Facts] : Prop :=
  ∀ (m : (ℓ : Loc Cert.NormOneFwdRefIdeal.nD Cert.NormOneFwdRefIdeal.τ Cert.NormOneFwdRefIdeal.sig) → Buf (Elt Ideal) ℓ) (g : Dev Cert.NormOneFwdRefIdeal.nD → PrngReg), Pre_NormOneFwdRefIdeal m →
    θ_run (Cert.NormOneFwdRefIdeal.defs (F := Ideal)) (onTc (τ := Cert.NormOneFwdRefIdeal.τ) (Cert.NormOneFwdRefIdeal.main (F := Ideal))) ⟨m, fun _ => 0, g⟩ (fun r => (∀ c : Dev Cert.NormOneFwdRefIdeal.nD,
      r.2.mem ((c.tc : Thread Cert.NormOneFwdRefIdeal.nD Cert.NormOneFwdRefIdeal.τ).loc Cert.NormOneFwdRefIdeal.main_arg0) = m ((c.tc : Thread Cert.NormOneFwdRefIdeal.nD Cert.NormOneFwdRefIdeal.τ).loc Cert.NormOneFwdRefIdeal.main_arg0)
      ∧ r.2.mem ((c.tc : Thread Cert.NormOneFwdRefIdeal.nD Cert.NormOneFwdRefIdeal.τ).loc Cert.NormOneFwdRefIdeal.main_arg1) = m ((c.tc : Thread Cert.NormOneFwdRefIdeal.nD Cert.NormOneFwdRefIdeal.τ).loc Cert.NormOneFwdRefIdeal.main_arg1)
      ∧ r.2.mem ((c.tc : Thread Cert.NormOneFwdRefIdeal.nD Cert.NormOneFwdRefIdeal.τ).loc Cert.NormOneFwdRefIdeal.main_arg2) = m ((c.tc : Thread Cert.NormOneFwdRefIdeal.nD Cert.NormOneFwdRefIdeal.τ).loc Cert.NormOneFwdRefIdeal.main_arg2)
      ∧ r.2.mem ((c.tc : Thread Cert.NormOneFwdRefIdeal.nD Cert.NormOneFwdRefIdeal.τ).loc Cert.NormOneFwdRefIdeal.main_arg3) = m ((c.tc : Thread Cert.NormOneFwdRefIdeal.nD Cert.NormOneFwdRefIdeal.τ).loc Cert.NormOneFwdRefIdeal.main_arg3))
      ∧ r.2.sem = fun _ => 0)

def quiescent_NormTwoFwd [hNormTwoFwd : Cert.NormTwoFwd.Facts] : Prop :=
  ∀ (m : (ℓ : Loc Cert.NormTwoFwd.nD Cert.NormTwoFwd.τ Cert.NormTwoFwd.sig) → Buf (Elt Bits) ℓ) (g : Dev Cert.NormTwoFwd.nD → PrngReg), Pre_NormTwoFwd m →
    θ_run (Cert.NormTwoFwd.defs (F := Bits)) (onTc (τ := Cert.NormTwoFwd.τ) (Cert.NormTwoFwd.main (F := Bits))) ⟨m, fun _ => 0, g⟩ (fun r => (∀ c : Dev Cert.NormTwoFwd.nD,
      r.2.mem ((c.tc : Thread Cert.NormTwoFwd.nD Cert.NormTwoFwd.τ).loc Cert.NormTwoFwd.main_arg0) = m ((c.tc : Thread Cert.NormTwoFwd.nD Cert.NormTwoFwd.τ).loc Cert.NormTwoFwd.main_arg0)
      ∧ r.2.mem ((c.tc : Thread Cert.NormTwoFwd.nD Cert.NormTwoFwd.τ).loc Cert.NormTwoFwd.main_arg1) = m ((c.tc : Thread Cert.NormTwoFwd.nD Cert.NormTwoFwd.τ).loc Cert.NormTwoFwd.main_arg1)
      ∧ r.2.mem ((c.tc : Thread Cert.NormTwoFwd.nD Cert.NormTwoFwd.τ).loc Cert.NormTwoFwd.main_arg2) = m ((c.tc : Thread Cert.NormTwoFwd.nD Cert.NormTwoFwd.τ).loc Cert.NormTwoFwd.main_arg2)
      ∧ r.2.mem ((c.tc : Thread Cert.NormTwoFwd.nD Cert.NormTwoFwd.τ).loc Cert.NormTwoFwd.main_arg3) = m ((c.tc : Thread Cert.NormTwoFwd.nD Cert.NormTwoFwd.τ).loc Cert.NormTwoFwd.main_arg3)
      ∧ r.2.mem ((c.tc : Thread Cert.NormTwoFwd.nD Cert.NormTwoFwd.τ).loc Cert.NormTwoFwd.main_arg4) = m ((c.tc : Thread Cert.NormTwoFwd.nD Cert.NormTwoFwd.τ).loc Cert.NormTwoFwd.main_arg4)
      ∧ r.2.mem ((c.tc : Thread Cert.NormTwoFwd.nD Cert.NormTwoFwd.τ).loc Cert.NormTwoFwd.main_arg5) = m ((c.tc : Thread Cert.NormTwoFwd.nD Cert.NormTwoFwd.τ).loc Cert.NormTwoFwd.main_arg5))
      ∧ r.2.sem = fun _ => 0)

def quiescent_NormTwoFwdIdeal [hNormTwoFwdIdeal : Cert.NormTwoFwdIdeal.Facts] : Prop :=
  ∀ (m : (ℓ : Loc Cert.NormTwoFwdIdeal.nD Cert.NormTwoFwdIdeal.τ Cert.NormTwoFwdIdeal.sig) → Buf (Elt Ideal) ℓ) (g : Dev Cert.NormTwoFwdIdeal.nD → PrngReg), Pre_NormTwoFwdIdeal m →
    θ_run (Cert.NormTwoFwdIdeal.defs (F := Ideal)) (onTc (τ := Cert.NormTwoFwdIdeal.τ) (Cert.NormTwoFwdIdeal.main (F := Ideal))) ⟨m, fun _ => 0, g⟩ (fun r => (∀ c : Dev Cert.NormTwoFwdIdeal.nD,
      r.2.mem ((c.tc : Thread Cert.NormTwoFwdIdeal.nD Cert.NormTwoFwdIdeal.τ).loc Cert.NormTwoFwdIdeal.main_arg0) = m ((c.tc : Thread Cert.NormTwoFwdIdeal.nD Cert.NormTwoFwdIdeal.τ).loc Cert.NormTwoFwdIdeal.main_arg0)
      ∧ r.2.mem ((c.tc : Thread Cert.NormTwoFwdIdeal.nD Cert.NormTwoFwdIdeal.τ).loc Cert.NormTwoFwdIdeal.main_arg1) = m ((c.tc : Thread Cert.NormTwoFwdIdeal.nD Cert.NormTwoFwdIdeal.τ).loc Cert.NormTwoFwdIdeal.main_arg1)
      ∧ r.2.mem ((c.tc : Thread Cert.NormTwoFwdIdeal.nD Cert.NormTwoFwdIdeal.τ).loc Cert.NormTwoFwdIdeal.main_arg2) = m ((c.tc : Thread Cert.NormTwoFwdIdeal.nD Cert.NormTwoFwdIdeal.τ).loc Cert.NormTwoFwdIdeal.main_arg2)
      ∧ r.2.mem ((c.tc : Thread Cert.NormTwoFwdIdeal.nD Cert.NormTwoFwdIdeal.τ).loc Cert.NormTwoFwdIdeal.main_arg3) = m ((c.tc : Thread Cert.NormTwoFwdIdeal.nD Cert.NormTwoFwdIdeal.τ).loc Cert.NormTwoFwdIdeal.main_arg3)
      ∧ r.2.mem ((c.tc : Thread Cert.NormTwoFwdIdeal.nD Cert.NormTwoFwdIdeal.τ).loc Cert.NormTwoFwdIdeal.main_arg4) = m ((c.tc : Thread Cert.NormTwoFwdIdeal.nD Cert.NormTwoFwdIdeal.τ).loc Cert.NormTwoFwdIdeal.main_arg4)
      ∧ r.2.mem ((c.tc : Thread Cert.NormTwoFwdIdeal.nD Cert.NormTwoFwdIdeal.τ).loc Cert.NormTwoFwdIdeal.main_arg5) = m ((c.tc : Thread Cert.NormTwoFwdIdeal.nD Cert.NormTwoFwdIdeal.τ).loc Cert.NormTwoFwdIdeal.main_arg5))
      ∧ r.2.sem = fun _ => 0)

def quiescent_NormTwoFwdRefIdeal [hNormTwoFwdRefIdeal : Cert.NormTwoFwdRefIdeal.Facts] : Prop :=
  ∀ (m : (ℓ : Loc Cert.NormTwoFwdRefIdeal.nD Cert.NormTwoFwdRefIdeal.τ Cert.NormTwoFwdRefIdeal.sig) → Buf (Elt Ideal) ℓ) (g : Dev Cert.NormTwoFwdRefIdeal.nD → PrngReg), Pre_NormTwoFwdRefIdeal m →
    θ_run (Cert.NormTwoFwdRefIdeal.defs (F := Ideal)) (onTc (τ := Cert.NormTwoFwdRefIdeal.τ) (Cert.NormTwoFwdRefIdeal.main (F := Ideal))) ⟨m, fun _ => 0, g⟩ (fun r => (∀ c : Dev Cert.NormTwoFwdRefIdeal.nD,
      r.2.mem ((c.tc : Thread Cert.NormTwoFwdRefIdeal.nD Cert.NormTwoFwdRefIdeal.τ).loc Cert.NormTwoFwdRefIdeal.main_arg0) = m ((c.tc : Thread Cert.NormTwoFwdRefIdeal.nD Cert.NormTwoFwdRefIdeal.τ).loc Cert.NormTwoFwdRefIdeal.main_arg0)
      ∧ r.2.mem ((c.tc : Thread Cert.NormTwoFwdRefIdeal.nD Cert.NormTwoFwdRefIdeal.τ).loc Cert.NormTwoFwdRefIdeal.main_arg1) = m ((c.tc : Thread Cert.NormTwoFwdRefIdeal.nD Cert.NormTwoFwdRefIdeal.τ).loc Cert.NormTwoFwdRefIdeal.main_arg1)
      ∧ r.2.mem ((c.tc : Thread Cert.NormTwoFwdRefIdeal.nD Cert.NormTwoFwdRefIdeal.τ).loc Cert.NormTwoFwdRefIdeal.main_arg2) = m ((c.tc : Thread Cert.NormTwoFwdRefIdeal.nD Cert.NormTwoFwdRefIdeal.τ).loc Cert.NormTwoFwdRefIdeal.main_arg2)
      ∧ r.2.mem ((c.tc : Thread Cert.NormTwoFwdRefIdeal.nD Cert.NormTwoFwdRefIdeal.τ).loc Cert.NormTwoFwdRefIdeal.main_arg3) = m ((c.tc : Thread Cert.NormTwoFwdRefIdeal.nD Cert.NormTwoFwdRefIdeal.τ).loc Cert.NormTwoFwdRefIdeal.main_arg3)
      ∧ r.2.mem ((c.tc : Thread Cert.NormTwoFwdRefIdeal.nD Cert.NormTwoFwdRefIdeal.τ).loc Cert.NormTwoFwdRefIdeal.main_arg4) = m ((c.tc : Thread Cert.NormTwoFwdRefIdeal.nD Cert.NormTwoFwdRefIdeal.τ).loc Cert.NormTwoFwdRefIdeal.main_arg4)
      ∧ r.2.mem ((c.tc : Thread Cert.NormTwoFwdRefIdeal.nD Cert.NormTwoFwdRefIdeal.τ).loc Cert.NormTwoFwdRefIdeal.main_arg5) = m ((c.tc : Thread Cert.NormTwoFwdRefIdeal.nD Cert.NormTwoFwdRefIdeal.τ).loc Cert.NormTwoFwdRefIdeal.main_arg5))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3))
      ∧ r.2.sem = fun _ => 0)

def quiescent_AdaMod [hAdaMod : Cert.AdaMod.Facts] : Prop :=
  ∀ (m : (ℓ : Loc Cert.AdaMod.nD Cert.AdaMod.τ Cert.AdaMod.sig) → Buf (Elt Bits) ℓ) (g : Dev Cert.AdaMod.nD → PrngReg), Pre_AdaMod m →
    θ_run (Cert.AdaMod.defs (F := Bits)) (onTc (τ := Cert.AdaMod.τ) (Cert.AdaMod.main (F := Bits))) ⟨m, fun _ => 0, g⟩ (fun r => (∀ c : Dev Cert.AdaMod.nD,
      r.2.mem ((c.tc : Thread Cert.AdaMod.nD Cert.AdaMod.τ).loc Cert.AdaMod.main_arg0) = m ((c.tc : Thread Cert.AdaMod.nD Cert.AdaMod.τ).loc Cert.AdaMod.main_arg0)
      ∧ r.2.mem ((c.tc : Thread Cert.AdaMod.nD Cert.AdaMod.τ).loc Cert.AdaMod.main_arg1) = m ((c.tc : Thread Cert.AdaMod.nD Cert.AdaMod.τ).loc Cert.AdaMod.main_arg1))
      ∧ r.2.sem = fun _ => 0)

def quiescent_AdaModIdeal [hAdaModIdeal : Cert.AdaModIdeal.Facts] : Prop :=
  ∀ (m : (ℓ : Loc Cert.AdaModIdeal.nD Cert.AdaModIdeal.τ Cert.AdaModIdeal.sig) → Buf (Elt Ideal) ℓ) (g : Dev Cert.AdaModIdeal.nD → PrngReg), Pre_AdaModIdeal m →
    θ_run (Cert.AdaModIdeal.defs (F := Ideal)) (onTc (τ := Cert.AdaModIdeal.τ) (Cert.AdaModIdeal.main (F := Ideal))) ⟨m, fun _ => 0, g⟩ (fun r => (∀ c : Dev Cert.AdaModIdeal.nD,
      r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
      ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1))
      ∧ r.2.sem = fun _ => 0)

def quiescent_AdaModRefIdeal [hAdaModRefIdeal : Cert.AdaModRefIdeal.Facts] : Prop :=
  ∀ (m : (ℓ : Loc Cert.AdaModRefIdeal.nD Cert.AdaModRefIdeal.τ Cert.AdaModRefIdeal.sig) → Buf (Elt Ideal) ℓ) (g : Dev Cert.AdaModRefIdeal.nD → PrngReg), Pre_AdaModRefIdeal m →
    θ_run (Cert.AdaModRefIdeal.defs (F := Ideal)) (onTc (τ := Cert.AdaModRefIdeal.τ) (Cert.AdaModRefIdeal.main (F := Ideal))) ⟨m, fun _ => 0, g⟩ (fun r => (∀ c : Dev Cert.AdaModRefIdeal.nD,
      r.2.mem ((c.tc : Thread Cert.AdaModRefIdeal.nD Cert.AdaModRefIdeal.τ).loc Cert.AdaModRefIdeal.main_arg0) = m ((c.tc : Thread Cert.AdaModRefIdeal.nD Cert.AdaModRefIdeal.τ).loc Cert.AdaModRefIdeal.main_arg0)
      ∧ r.2.mem ((c.tc : Thread Cert.AdaModRefIdeal.nD Cert.AdaModRefIdeal.τ).loc Cert.AdaModRefIdeal.main_arg1) = m ((c.tc : Thread Cert.AdaModRefIdeal.nD Cert.AdaModRefIdeal.τ).loc Cert.AdaModRefIdeal.main_arg1))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1))
      ∧ r.2.sem = fun _ => 0)

def quiescent_FfnInDw [hFfnInDw : Cert.FfnInDw.Facts] : Prop :=
  ∀ (m : (ℓ : Loc Cert.FfnInDw.nD Cert.FfnInDw.τ Cert.FfnInDw.sig) → Buf (Elt Bits) ℓ) (g : Dev Cert.FfnInDw.nD → PrngReg), Pre_FfnInDw m →
    θ_run (Cert.FfnInDw.defs (F := Bits)) (onTc (τ := Cert.FfnInDw.τ) (Cert.FfnInDw.main (F := Bits))) ⟨m, fun _ => 0, g⟩ (fun r => (∀ c : Dev Cert.FfnInDw.nD,
      r.2.mem ((c.tc : Thread Cert.FfnInDw.nD Cert.FfnInDw.τ).loc Cert.FfnInDw.main_arg0) = m ((c.tc : Thread Cert.FfnInDw.nD Cert.FfnInDw.τ).loc Cert.FfnInDw.main_arg0)
      ∧ r.2.mem ((c.tc : Thread Cert.FfnInDw.nD Cert.FfnInDw.τ).loc Cert.FfnInDw.main_arg1) = m ((c.tc : Thread Cert.FfnInDw.nD Cert.FfnInDw.τ).loc Cert.FfnInDw.main_arg1))
      ∧ r.2.sem = fun _ => 0)

def quiescent_FfnInDwIdeal [hFfnInDwIdeal : Cert.FfnInDwIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg), Pre_FfnInDwIdeal m →
    θ_run (Cert.FfnInDwIdeal.defs (F := Ideal)) (onTc (τ := Cert.FfnInDwIdeal.τ) (Cert.FfnInDwIdeal.main (F := Ideal))) ⟨m, fun _ => 0, g⟩ (fun r => (∀ c : Dev Cert.FfnInDwIdeal.nD,
      r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
      ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ r.2.sem = fun _ => 0)

def quiescent_FfnInDwRefIdeal [hFfnInDwRefIdeal : Cert.FfnInDwRefIdeal.Facts] : Prop :=
  ∀ (m : (ℓ : Loc Cert.FfnInDwRefIdeal.nD Cert.FfnInDwRefIdeal.τ Cert.FfnInDwRefIdeal.sig) → Buf (Elt Ideal) ℓ) (g : Dev Cert.FfnInDwRefIdeal.nD → PrngReg), Pre_FfnInDwRefIdeal m →
    θ_run (Cert.FfnInDwRefIdeal.defs (F := Ideal)) (onTc (τ := Cert.FfnInDwRefIdeal.τ) (Cert.FfnInDwRefIdeal.main (F := Ideal))) ⟨m, fun _ => 0, g⟩ (fun r => (∀ c : Dev Cert.FfnInDwRefIdeal.nD,
      r.2.mem ((c.tc : Thread Cert.FfnInDwRefIdeal.nD Cert.FfnInDwRefIdeal.τ).loc Cert.FfnInDwRefIdeal.main_arg0) = m ((c.tc : Thread Cert.FfnInDwRefIdeal.nD Cert.FfnInDwRefIdeal.τ).loc Cert.FfnInDwRefIdeal.main_arg0)
      ∧ r.2.mem ((c.tc : Thread Cert.FfnInDwRefIdeal.nD Cert.FfnInDwRefIdeal.τ).loc Cert.FfnInDwRefIdeal.main_arg1) = m ((c.tc : Thread Cert.FfnInDwRefIdeal.nD Cert.FfnInDwRefIdeal.τ).loc Cert.FfnInDwRefIdeal.main_arg1))
      ∧ r.2.sem = fun _ => 0)

def quiescent_BranchDx [hBranchDx : Cert.BranchDx.Facts] : Prop :=
  ∀ (m : (ℓ : Loc Cert.BranchDx.nD Cert.BranchDx.τ Cert.BranchDx.sig) → Buf (Elt Bits) ℓ) (g : Dev Cert.BranchDx.nD → PrngReg), Pre_BranchDx m →
    θ_run (Cert.BranchDx.defs (F := Bits)) (onTc (τ := Cert.BranchDx.τ) (Cert.BranchDx.main (F := Bits))) ⟨m, fun _ => 0, g⟩ (fun r => (∀ c : Dev Cert.BranchDx.nD,
      r.2.mem ((c.tc : Thread Cert.BranchDx.nD Cert.BranchDx.τ).loc Cert.BranchDx.main_arg0) = m ((c.tc : Thread Cert.BranchDx.nD Cert.BranchDx.τ).loc Cert.BranchDx.main_arg0)
      ∧ r.2.mem ((c.tc : Thread Cert.BranchDx.nD Cert.BranchDx.τ).loc Cert.BranchDx.main_arg1) = m ((c.tc : Thread Cert.BranchDx.nD Cert.BranchDx.τ).loc Cert.BranchDx.main_arg1))
      ∧ r.2.sem = fun _ => 0)

def quiescent_BranchDxIdeal [hBranchDxIdeal : Cert.BranchDxIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg), Pre_BranchDxIdeal m →
    θ_run (Cert.BranchDxIdeal.defs (F := Ideal)) (onTc (τ := Cert.BranchDxIdeal.τ) (Cert.BranchDxIdeal.main (F := Ideal))) ⟨m, fun _ => 0, g⟩ (fun r => (∀ c : Dev Cert.BranchDxIdeal.nD,
      r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
      ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ r.2.sem = fun _ => 0)

def quiescent_BranchDxRefIdeal [hBranchDxRefIdeal : Cert.BranchDxRefIdeal.Facts] : Prop :=
  ∀ (m : (ℓ : Loc Cert.BranchDxRefIdeal.nD Cert.BranchDxRefIdeal.τ Cert.BranchDxRefIdeal.sig) → Buf (Elt Ideal) ℓ) (g : Dev Cert.BranchDxRefIdeal.nD → PrngReg), Pre_BranchDxRefIdeal m →
    θ_run (Cert.BranchDxRefIdeal.defs (F := Ideal)) (onTc (τ := Cert.BranchDxRefIdeal.τ) (Cert.BranchDxRefIdeal.main (F := Ideal))) ⟨m, fun _ => 0, g⟩ (fun r => (∀ c : Dev Cert.BranchDxRefIdeal.nD,
      r.2.mem ((c.tc : Thread Cert.BranchDxRefIdeal.nD Cert.BranchDxRefIdeal.τ).loc Cert.BranchDxRefIdeal.main_arg0) = m ((c.tc : Thread Cert.BranchDxRefIdeal.nD Cert.BranchDxRefIdeal.τ).loc Cert.BranchDxRefIdeal.main_arg0)
      ∧ r.2.mem ((c.tc : Thread Cert.BranchDxRefIdeal.nD Cert.BranchDxRefIdeal.τ).loc Cert.BranchDxRefIdeal.main_arg1) = m ((c.tc : Thread Cert.BranchDxRefIdeal.nD Cert.BranchDxRefIdeal.τ).loc Cert.BranchDxRefIdeal.main_arg1))
      ∧ r.2.sem = fun _ => 0)

def quiescent_FfnInDx [hFfnInDx : Cert.FfnInDx.Facts] : Prop :=
  ∀ (m : (ℓ : Loc Cert.FfnInDx.nD Cert.FfnInDx.τ Cert.FfnInDx.sig) → Buf (Elt Bits) ℓ) (g : Dev Cert.FfnInDx.nD → PrngReg), Pre_FfnInDx m →
    θ_run (Cert.FfnInDx.defs (F := Bits)) (onTc (τ := Cert.FfnInDx.τ) (Cert.FfnInDx.main (F := Bits))) ⟨m, fun _ => 0, g⟩ (fun r => (∀ c : Dev Cert.FfnInDx.nD,
      r.2.mem ((c.tc : Thread Cert.FfnInDx.nD Cert.FfnInDx.τ).loc Cert.FfnInDx.main_arg0) = m ((c.tc : Thread Cert.FfnInDx.nD Cert.FfnInDx.τ).loc Cert.FfnInDx.main_arg0)
      ∧ r.2.mem ((c.tc : Thread Cert.FfnInDx.nD Cert.FfnInDx.τ).loc Cert.FfnInDx.main_arg1) = m ((c.tc : Thread Cert.FfnInDx.nD Cert.FfnInDx.τ).loc Cert.FfnInDx.main_arg1))
      ∧ r.2.sem = fun _ => 0)

def quiescent_FfnInDxIdeal [hFfnInDxIdeal : Cert.FfnInDxIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg), Pre_FfnInDxIdeal m →
    θ_run (Cert.FfnInDxIdeal.defs (F := Ideal)) (onTc (τ := Cert.FfnInDxIdeal.τ) (Cert.FfnInDxIdeal.main (F := Ideal))) ⟨m, fun _ => 0, g⟩ (fun r => (∀ c : Dev Cert.FfnInDxIdeal.nD,
      r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
      ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1))
      ∧ r.2.sem = fun _ => 0)

def quiescent_FfnInDxRefIdeal [hFfnInDxRefIdeal : Cert.FfnInDxRefIdeal.Facts] : Prop :=
  ∀ (m : (ℓ : Loc Cert.FfnInDxRefIdeal.nD Cert.FfnInDxRefIdeal.τ Cert.FfnInDxRefIdeal.sig) → Buf (Elt Ideal) ℓ) (g : Dev Cert.FfnInDxRefIdeal.nD → PrngReg), Pre_FfnInDxRefIdeal m →
    θ_run (Cert.FfnInDxRefIdeal.defs (F := Ideal)) (onTc (τ := Cert.FfnInDxRefIdeal.τ) (Cert.FfnInDxRefIdeal.main (F := Ideal))) ⟨m, fun _ => 0, g⟩ (fun r => (∀ c : Dev Cert.FfnInDxRefIdeal.nD,
      r.2.mem ((c.tc : Thread Cert.FfnInDxRefIdeal.nD Cert.FfnInDxRefIdeal.τ).loc Cert.FfnInDxRefIdeal.main_arg0) = m ((c.tc : Thread Cert.FfnInDxRefIdeal.nD Cert.FfnInDxRefIdeal.τ).loc Cert.FfnInDxRefIdeal.main_arg0)
      ∧ r.2.mem ((c.tc : Thread Cert.FfnInDxRefIdeal.nD Cert.FfnInDxRefIdeal.τ).loc Cert.FfnInDxRefIdeal.main_arg1) = m ((c.tc : Thread Cert.FfnInDxRefIdeal.nD Cert.FfnInDxRefIdeal.τ).loc Cert.FfnInDxRefIdeal.main_arg1))
      ∧ r.2.sem = fun _ => 0)

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)) →
    ∃ (v0 : (c : Dev Cert.MergeBwdIdeal.nD) → Buf (Elt Ideal) ((c.tc : Thread Cert.MergeBwdIdeal.nD Cert.MergeBwdIdeal.τ).loc Cert.MergeBwdIdeal.main_v8_0)) (v1 : (c : Dev Cert.MergeBwdIdeal.nD) → Buf (Elt Ideal) ((c.tc : Thread Cert.MergeBwdIdeal.nD Cert.MergeBwdIdeal.τ).loc Cert.MergeBwdIdeal.main_v8_1)) (v2 : (c : Dev Cert.MergeBwdIdeal.nD) → Buf (Elt Ideal) ((c.tc : Thread Cert.MergeBwdIdeal.nD Cert.MergeBwdIdeal.τ).loc Cert.MergeBwdIdeal.main_v8_2)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v8_0) = v0 c
          ∧ r.2.mem ((c.tc : Thread Cert.MergeBwdIdeal.nD Cert.MergeBwdIdeal.τ).loc Cert.MergeBwdIdeal.main_v8_1) = v1 c
          ∧ r.2.mem ((c.tc : Thread Cert.MergeBwdIdeal.nD Cert.MergeBwdIdeal.τ).loc Cert.MergeBwdIdeal.main_v8_2) = v2 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v43) = v0 c
          ∧ r.2.mem ((c.tc : Thread Cert.MergeBwdRefIdeal.nD Cert.MergeBwdRefIdeal.τ).loc Cert.MergeBwdRefIdeal.main_v45) = v1 c
          ∧ r.2.mem ((c.tc : Thread Cert.MergeBwdRefIdeal.nD Cert.MergeBwdRefIdeal.τ).loc Cert.MergeBwdRefIdeal.main_v47) = v2 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5))

def preserves_GmlpBwd_GmlpBwdIdeal : Prop :=
  IdealRules.named_const.Statement Cert.GmlpBwdIdeal.κ "gelu_cubic" .f32 0x3D372713#32 ((8943 / 200000 : ℝ) : EReal)
  ∧ IdealRules.named_const.Statement Cert.GmlpBwdIdeal.κ "gelu_cubic_thrice" .f32 0x3E095D4F#32 ((26829 / 200000 : ℝ) : EReal)

def algebraic_GmlpBwdIdeal_GmlpBwdRefIdeal_pre_finite_gmlp_bwd [hGmlpBwdIdeal : Cert.GmlpBwdIdeal.Facts] [hGmlpBwdRefIdeal : Cert.GmlpBwdRefIdeal.Facts] [hPre_finite_gmlp_bwd : Cert.Pre_finite_gmlp_bwd.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg)
    (m' : (ℓ : Loc Cert.GmlpBwdRefIdeal.nD Cert.GmlpBwdRefIdeal.τ Cert.GmlpBwdRefIdeal.sig) → Buf (Elt Ideal) ℓ) (g' : Dev Cert.GmlpBwdRefIdeal.nD → PrngReg), Pre_GmlpBwdIdeal_finite_gmlp_bwd m →
    (∀ c : Dev Cert.GmlpBwdIdeal.nD,
      m' ((c.tc : Thread Cert.GmlpBwdRefIdeal.nD Cert.GmlpBwdRefIdeal.τ).loc Cert.GmlpBwdRefIdeal.main_arg0) = m ((c.tc : Thread Cert.GmlpBwdIdeal.nD Cert.GmlpBwdIdeal.τ).loc Cert.GmlpBwdIdeal.main_arg0)
      ∧ m' ((c.tc : Thread Cert.GmlpBwdRefIdeal.nD Cert.GmlpBwdRefIdeal.τ).loc Cert.GmlpBwdRefIdeal.main_arg1) = m ((c.tc : Thread Cert.GmlpBwdIdeal.nD Cert.GmlpBwdIdeal.τ).loc Cert.GmlpBwdIdeal.main_arg1)
      ∧ m' ((c.tc : Thread Cert.GmlpBwdRefIdeal.nD Cert.GmlpBwdRefIdeal.τ).loc Cert.GmlpBwdRefIdeal.main_arg2) = m ((c.tc : Thread Cert.GmlpBwdIdeal.nD Cert.GmlpBwdIdeal.τ).loc Cert.GmlpBwdIdeal.main_arg2)
      ∧ m' ((c.tc : Thread Cert.GmlpBwdRefIdeal.nD Cert.GmlpBwdRefIdeal.τ).loc Cert.GmlpBwdRefIdeal.main_arg3) = m ((c.tc : Thread Cert.GmlpBwdIdeal.nD Cert.GmlpBwdIdeal.τ).loc Cert.GmlpBwdIdeal.main_arg3)
      ∧ m' ((c.tc : Thread Cert.GmlpBwdRefIdeal.nD Cert.GmlpBwdRefIdeal.τ).loc Cert.GmlpBwdRefIdeal.main_arg4) = m ((c.tc : Thread Cert.GmlpBwdIdeal.nD Cert.GmlpBwdIdeal.τ).loc Cert.GmlpBwdIdeal.main_arg4)
      ∧ m' ((c.tc : Thread Cert.GmlpBwdRefIdeal.nD Cert.GmlpBwdRefIdeal.τ).loc Cert.GmlpBwdRefIdeal.main_arg5) = m ((c.tc : Thread Cert.GmlpBwdIdeal.nD Cert.GmlpBwdIdeal.τ).loc Cert.GmlpBwdIdeal.main_arg5)) →
    ∃ (v0 : (c : Dev Cert.GmlpBwdIdeal.nD) → Buf (Elt Ideal) ((c.tc : Thread Cert.GmlpBwdIdeal.nD Cert.GmlpBwdIdeal.τ).loc Cert.GmlpBwdIdeal.main_v6_0)) (v1 : (c : Dev Cert.GmlpBwdIdeal.nD) → Buf (Elt Ideal) ((c.tc : Thread Cert.GmlpBwdIdeal.nD Cert.GmlpBwdIdeal.τ).loc Cert.GmlpBwdIdeal.main_v6_1)) (v2 : (c : Dev Cert.GmlpBwdIdeal.nD) → Buf (Elt Ideal) ((c.tc : Thread Cert.GmlpBwdIdeal.nD Cert.GmlpBwdIdeal.τ).loc Cert.GmlpBwdIdeal.main_v6_2)) (v3 : (c : Dev Cert.GmlpBwdIdeal.nD) → Buf (Elt Ideal) ((c.tc : Thread Cert.GmlpBwdIdeal.nD Cert.GmlpBwdIdeal.τ).loc Cert.GmlpBwdIdeal.main_v6_3)),
      θ_run (Cert.GmlpBwdIdeal.defs (F := Ideal)) (onTc (τ := Cert.GmlpBwdIdeal.τ) (Cert.GmlpBwdIdeal.main (F := Ideal))) ⟨m, fun _ => 0, g⟩ (fun r => ∀ c : Dev Cert.GmlpBwdIdeal.nD,
          r.2.mem ((c.tc : Thread Cert.GmlpBwdIdeal.nD Cert.GmlpBwdIdeal.τ).loc Cert.GmlpBwdIdeal.main_v6_0) = v0 c
          ∧ r.2.mem ((c.tc : Thread Cert.GmlpBwdIdeal.nD Cert.GmlpBwdIdeal.τ).loc Cert.GmlpBwdIdeal.main_v6_1) = v1 c
          ∧ r.2.mem ((c.tc : Thread Cert.GmlpBwdIdeal.nD Cert.GmlpBwdIdeal.τ).loc Cert.GmlpBwdIdeal.main_v6_2) = v2 c
          ∧ r.2.mem ((c.tc : Thread Cert.GmlpBwdIdeal.nD Cert.GmlpBwdIdeal.τ).loc Cert.GmlpBwdIdeal.main_v6_3) = v3 c
          ∧ r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
          ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
          ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
          ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
          ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4)
          ∧ r.2.mem ((c.tc : Thread Cert.GmlpBwdIdeal.nD Cert.GmlpBwdIdeal.τ).loc Cert.GmlpBwdIdeal.main_arg5) = m ((c.tc : Thread Cert.GmlpBwdIdeal.nD Cert.GmlpBwdIdeal.τ).loc Cert.GmlpBwdIdeal.main_arg5))
      ∧ θ_run (Cert.GmlpBwdRefIdeal.defs (F := Ideal)) (onTc (τ := Cert.GmlpBwdRefIdeal.τ) (Cert.GmlpBwdRefIdeal.main (F := Ideal))) ⟨m', fun _ => 0, g'⟩ (fun r => ∀ c : Dev Cert.GmlpBwdRefIdeal.nD,
          r.2.mem ((c.tc : Thread Cert.GmlpBwdRefIdeal.nD Cert.GmlpBwdRefIdeal.τ).loc Cert.GmlpBwdRefIdeal.main_v177) = v0 c
          ∧ r.2.mem ((c.tc : Thread Cert.GmlpBwdRefIdeal.nD Cert.GmlpBwdRefIdeal.τ).loc Cert.GmlpBwdRefIdeal.main_v179) = v1 c
          ∧ r.2.mem ((c.tc : Thread Cert.GmlpBwdRefIdeal.nD Cert.GmlpBwdRefIdeal.τ).loc Cert.GmlpBwdRefIdeal.main_v180) = v2 c
          ∧ r.2.mem ((c.tc : Thread Cert.GmlpBwdRefIdeal.nD Cert.GmlpBwdRefIdeal.τ).loc Cert.GmlpBwdRefIdeal.main_v182) = v3 c
          ∧ r.2.mem ((c.tc : Thread Cert.GmlpBwdRefIdeal.nD Cert.GmlpBwdRefIdeal.τ).loc Cert.GmlpBwdRefIdeal.main_arg0) = m' ((c.tc : Thread Cert.GmlpBwdRefIdeal.nD Cert.GmlpBwdRefIdeal.τ).loc Cert.GmlpBwdRefIdeal.main_arg0)
          ∧ r.2.mem ((c.tc : Thread Cert.GmlpBwdRefIdeal.nD Cert.GmlpBwdRefIdeal.τ).loc Cert.GmlpBwdRefIdeal.main_arg1) = m' ((c.tc : Thread Cert.GmlpBwdRefIdeal.nD Cert.GmlpBwdRefIdeal.τ).loc Cert.GmlpBwdRefIdeal.main_arg1)
          ∧ r.2.mem ((c.tc : Thread Cert.GmlpBwdRefIdeal.nD Cert.GmlpBwdRefIdeal.τ).loc Cert.GmlpBwdRefIdeal.main_arg2) = m' ((c.tc : Thread Cert.GmlpBwdRefIdeal.nD Cert.GmlpBwdRefIdeal.τ).loc Cert.GmlpBwdRefIdeal.main_arg2)
          ∧ r.2.mem ((c.tc : Thread Cert.GmlpBwdRefIdeal.nD Cert.GmlpBwdRefIdeal.τ).loc Cert.GmlpBwdRefIdeal.main_arg3) = m' ((c.tc : Thread Cert.GmlpBwdRefIdeal.nD Cert.GmlpBwdRefIdeal.τ).loc Cert.GmlpBwdRefIdeal.main_arg3)
          ∧ r.2.mem ((c.tc : Thread Cert.GmlpBwdRefIdeal.nD Cert.GmlpBwdRefIdeal.τ).loc Cert.GmlpBwdRefIdeal.main_arg4) = m' ((c.tc : Thread Cert.GmlpBwdRefIdeal.nD Cert.GmlpBwdRefIdeal.τ).loc Cert.GmlpBwdRefIdeal.main_arg4)
          ∧ r.2.mem ((c.tc : Thread Cert.GmlpBwdRefIdeal.nD Cert.GmlpBwdRefIdeal.τ).loc Cert.GmlpBwdRefIdeal.main_arg5) = m' ((c.tc : Thread Cert.GmlpBwdRefIdeal.nD Cert.GmlpBwdRefIdeal.τ).loc Cert.GmlpBwdRefIdeal.main_arg5))

def preserves_NormTwoBwd_NormTwoBwdIdeal : Prop :=
  True

def algebraic_NormTwoBwdIdeal_NormTwoBwdRefIdeal_pre_finite_norm_two_bwd [hNormTwoBwdIdeal : Cert.NormTwoBwdIdeal.Facts] [hNormTwoBwdRefIdeal : Cert.NormTwoBwdRefIdeal.Facts] [hPre_finite_norm_two_bwd : Cert.Pre_finite_norm_two_bwd.Facts] : Prop :=
  ∀ (m : (ℓ : Loc Cert.NormTwoBwdIdeal.nD Cert.NormTwoBwdIdeal.τ Cert.NormTwoBwdIdeal.sig) → Buf (Elt Ideal) ℓ) (g : Dev Cert.NormTwoBwdIdeal.nD → PrngReg)
    (m' : (ℓ : Loc Cert.NormTwoBwdRefIdeal.nD Cert.NormTwoBwdRefIdeal.τ Cert.NormTwoBwdRefIdeal.sig) → Buf (Elt Ideal) ℓ) (g' : Dev Cert.NormTwoBwdRefIdeal.nD → PrngReg), Pre_NormTwoBwdIdeal_finite_norm_two_bwd m →
    (∀ c : Dev Cert.NormTwoBwdIdeal.nD,
      m' ((c.tc : Thread Cert.NormTwoBwdRefIdeal.nD Cert.NormTwoBwdRefIdeal.τ).loc Cert.NormTwoBwdRefIdeal.main_arg0) = m ((c.tc : Thread Cert.NormTwoBwdIdeal.nD Cert.NormTwoBwdIdeal.τ).loc Cert.NormTwoBwdIdeal.main_arg0)
      ∧ m' ((c.tc : Thread Cert.NormTwoBwdRefIdeal.nD Cert.NormTwoBwdRefIdeal.τ).loc Cert.NormTwoBwdRefIdeal.main_arg1) = m ((c.tc : Thread Cert.NormTwoBwdIdeal.nD Cert.NormTwoBwdIdeal.τ).loc Cert.NormTwoBwdIdeal.main_arg1)
      ∧ m' ((c.tc : Thread Cert.NormTwoBwdRefIdeal.nD Cert.NormTwoBwdRefIdeal.τ).loc Cert.NormTwoBwdRefIdeal.main_arg2) = m ((c.tc : Thread Cert.NormTwoBwdIdeal.nD Cert.NormTwoBwdIdeal.τ).loc Cert.NormTwoBwdIdeal.main_arg2)
      ∧ m' ((c.tc : Thread Cert.NormTwoBwdRefIdeal.nD Cert.NormTwoBwdRefIdeal.τ).loc Cert.NormTwoBwdRefIdeal.main_arg3) = m ((c.tc : Thread Cert.NormTwoBwdIdeal.nD Cert.NormTwoBwdIdeal.τ).loc Cert.NormTwoBwdIdeal.main_arg3)
      ∧ m' ((c.tc : Thread Cert.NormTwoBwdRefIdeal.nD Cert.NormTwoBwdRefIdeal.τ).loc Cert.NormTwoBwdRefIdeal.main_arg4) = m ((c.tc : Thread Cert.NormTwoBwdIdeal.nD Cert.NormTwoBwdIdeal.τ).loc Cert.NormTwoBwdIdeal.main_arg4)
      ∧ m' ((c.tc : Thread Cert.NormTwoBwdRefIdeal.nD Cert.NormTwoBwdRefIdeal.τ).loc Cert.NormTwoBwdRefIdeal.main_arg5) = m ((c.tc : Thread Cert.NormTwoBwdIdeal.nD Cert.NormTwoBwdIdeal.τ).loc Cert.NormTwoBwdIdeal.main_arg5)
      ∧ m' ((c.tc : Thread Cert.NormTwoBwdRefIdeal.nD Cert.NormTwoBwdRefIdeal.τ).loc Cert.NormTwoBwdRefIdeal.main_arg6) = m ((c.tc : Thread Cert.NormTwoBwdIdeal.nD Cert.NormTwoBwdIdeal.τ).loc Cert.NormTwoBwdIdeal.main_arg6)
      ∧ m' ((c.tc : Thread Cert.NormTwoBwdRefIdeal.nD Cert.NormTwoBwdRefIdeal.τ).loc Cert.NormTwoBwdRefIdeal.main_arg7) = m ((c.tc : Thread Cert.NormTwoBwdIdeal.nD Cert.NormTwoBwdIdeal.τ).loc Cert.NormTwoBwdIdeal.main_arg7)) →
    ∃ (v0 : (c : Dev Cert.NormTwoBwdIdeal.nD) → Buf (Elt Ideal) ((c.tc : Thread Cert.NormTwoBwdIdeal.nD Cert.NormTwoBwdIdeal.τ).loc Cert.NormTwoBwdIdeal.main_v9_0)) (v1 : (c : Dev Cert.NormTwoBwdIdeal.nD) → Buf (Elt Ideal) ((c.tc : Thread Cert.NormTwoBwdIdeal.nD Cert.NormTwoBwdIdeal.τ).loc Cert.NormTwoBwdIdeal.main_v9_1)) (v2 : (c : Dev Cert.NormTwoBwdIdeal.nD) → Buf (Elt Ideal) ((c.tc : Thread Cert.NormTwoBwdIdeal.nD Cert.NormTwoBwdIdeal.τ).loc Cert.NormTwoBwdIdeal.main_v9_2)),
      θ_run (Cert.NormTwoBwdIdeal.defs (F := Ideal)) (onTc (τ := Cert.NormTwoBwdIdeal.τ) (Cert.NormTwoBwdIdeal.main (F := Ideal))) ⟨m, fun _ => 0, g⟩ (fun r => ∀ c : Dev Cert.NormTwoBwdIdeal.nD,
          r.2.mem ((c.tc : Thread Cert.NormTwoBwdIdeal.nD Cert.NormTwoBwdIdeal.τ).loc Cert.NormTwoBwdIdeal.main_v9_0) = v0 c
          ∧ r.2.mem ((c.tc : Thread Cert.NormTwoBwdIdeal.nD Cert.NormTwoBwdIdeal.τ).loc Cert.NormTwoBwdIdeal.main_v9_1) = v1 c
          ∧ r.2.mem ((c.tc : Thread Cert.NormTwoBwdIdeal.nD Cert.NormTwoBwdIdeal.τ).loc Cert.NormTwoBwdIdeal.main_v9_2) = v2 c
          ∧ r.2.mem ((c.tc : Thread Cert.NormTwoBwdIdeal.nD Cert.NormTwoBwdIdeal.τ).loc Cert.NormTwoBwdIdeal.main_arg0) = m ((c.tc : Thread Cert.NormTwoBwdIdeal.nD Cert.NormTwoBwdIdeal.τ).loc Cert.NormTwoBwdIdeal.main_arg0)
          ∧ r.2.mem ((c.tc : Thread Cert.NormTwoBwdIdeal.nD Cert.NormTwoBwdIdeal.τ).loc Cert.NormTwoBwdIdeal.main_arg1) = m ((c.tc : Thread Cert.NormTwoBwdIdeal.nD Cert.NormTwoBwdIdeal.τ).loc Cert.NormTwoBwdIdeal.main_arg1)
          ∧ r.2.mem ((c.tc : Thread Cert.NormTwoBwdIdeal.nD Cert.NormTwoBwdIdeal.τ).loc Cert.NormTwoBwdIdeal.main_arg2) = m ((c.tc : Thread Cert.NormTwoBwdIdeal.nD Cert.NormTwoBwdIdeal.τ).loc Cert.NormTwoBwdIdeal.main_arg2)
          ∧ r.2.mem ((c.tc : Thread Cert.NormTwoBwdIdeal.nD Cert.NormTwoBwdIdeal.τ).loc Cert.NormTwoBwdIdeal.main_arg3) = m ((c.tc : Thread Cert.NormTwoBwdIdeal.nD Cert.NormTwoBwdIdeal.τ).loc Cert.NormTwoBwdIdeal.main_arg3)
          ∧ r.2.mem ((c.tc : Thread Cert.NormTwoBwdIdeal.nD Cert.NormTwoBwdIdeal.τ).loc Cert.NormTwoBwdIdeal.main_arg4) = m ((c.tc : Thread Cert.NormTwoBwdIdeal.nD Cert.NormTwoBwdIdeal.τ).loc Cert.NormTwoBwdIdeal.main_arg4)
          ∧ r.2.mem ((c.tc : Thread Cert.NormTwoBwdIdeal.nD Cert.NormTwoBwdIdeal.τ).loc Cert.NormTwoBwdIdeal.main_arg5) = m ((c.tc : Thread Cert.NormTwoBwdIdeal.nD Cert.NormTwoBwdIdeal.τ).loc Cert.NormTwoBwdIdeal.main_arg5)
          ∧ r.2.mem ((c.tc : Thread Cert.NormTwoBwdIdeal.nD Cert.NormTwoBwdIdeal.τ).loc Cert.NormTwoBwdIdeal.main_arg6) = m ((c.tc : Thread Cert.NormTwoBwdIdeal.nD Cert.NormTwoBwdIdeal.τ).loc Cert.NormTwoBwdIdeal.main_arg6)
          ∧ r.2.mem ((c.tc : Thread Cert.NormTwoBwdIdeal.nD Cert.NormTwoBwdIdeal.τ).loc Cert.NormTwoBwdIdeal.main_arg7) = m ((c.tc : Thread Cert.NormTwoBwdIdeal.nD Cert.NormTwoBwdIdeal.τ).loc Cert.NormTwoBwdIdeal.main_arg7))
      ∧ θ_run (Cert.NormTwoBwdRefIdeal.defs (F := Ideal)) (onTc (τ := Cert.NormTwoBwdRefIdeal.τ) (Cert.NormTwoBwdRefIdeal.main (F := Ideal))) ⟨m', fun _ => 0, g'⟩ (fun r => ∀ c : Dev Cert.NormTwoBwdRefIdeal.nD,
          r.2.mem ((c.tc : Thread Cert.NormTwoBwdRefIdeal.nD Cert.NormTwoBwdRefIdeal.τ).loc Cert.NormTwoBwdRefIdeal.main_v72) = v0 c
          ∧ r.2.mem ((c.tc : Thread Cert.NormTwoBwdRefIdeal.nD Cert.NormTwoBwdRefIdeal.τ).loc Cert.NormTwoBwdRefIdeal.main_v74) = v1 c
          ∧ r.2.mem ((c.tc : Thread Cert.NormTwoBwdRefIdeal.nD Cert.NormTwoBwdRefIdeal.τ).loc Cert.NormTwoBwdRefIdeal.main_v76) = v2 c
          ∧ r.2.mem ((c.tc : Thread Cert.NormTwoBwdRefIdeal.nD Cert.NormTwoBwdRefIdeal.τ).loc Cert.NormTwoBwdRefIdeal.main_arg0) = m' ((c.tc : Thread Cert.NormTwoBwdRefIdeal.nD Cert.NormTwoBwdRefIdeal.τ).loc Cert.NormTwoBwdRefIdeal.main_arg0)
          ∧ r.2.mem ((c.tc : Thread Cert.NormTwoBwdRefIdeal.nD Cert.NormTwoBwdRefIdeal.τ).loc Cert.NormTwoBwdRefIdeal.main_arg1) = m' ((c.tc : Thread Cert.NormTwoBwdRefIdeal.nD Cert.NormTwoBwdRefIdeal.τ).loc Cert.NormTwoBwdRefIdeal.main_arg1)
          ∧ r.2.mem ((c.tc : Thread Cert.NormTwoBwdRefIdeal.nD Cert.NormTwoBwdRefIdeal.τ).loc Cert.NormTwoBwdRefIdeal.main_arg2) = m' ((c.tc : Thread Cert.NormTwoBwdRefIdeal.nD Cert.NormTwoBwdRefIdeal.τ).loc Cert.NormTwoBwdRefIdeal.main_arg2)
          ∧ r.2.mem ((c.tc : Thread Cert.NormTwoBwdRefIdeal.nD Cert.NormTwoBwdRefIdeal.τ).loc Cert.NormTwoBwdRefIdeal.main_arg3) = m' ((c.tc : Thread Cert.NormTwoBwdRefIdeal.nD Cert.NormTwoBwdRefIdeal.τ).loc Cert.NormTwoBwdRefIdeal.main_arg3)
          ∧ r.2.mem ((c.tc : Thread Cert.NormTwoBwdRefIdeal.nD Cert.NormTwoBwdRefIdeal.τ).loc Cert.NormTwoBwdRefIdeal.main_arg4) = m' ((c.tc : Thread Cert.NormTwoBwdRefIdeal.nD Cert.NormTwoBwdRefIdeal.τ).loc Cert.NormTwoBwdRefIdeal.main_arg4)
          ∧ r.2.mem ((c.tc : Thread Cert.NormTwoBwdRefIdeal.nD Cert.NormTwoBwdRefIdeal.τ).loc Cert.NormTwoBwdRefIdeal.main_arg5) = m' ((c.tc : Thread Cert.NormTwoBwdRefIdeal.nD Cert.NormTwoBwdRefIdeal.τ).loc Cert.NormTwoBwdRefIdeal.main_arg5)
          ∧ r.2.mem ((c.tc : Thread Cert.NormTwoBwdRefIdeal.nD Cert.NormTwoBwdRefIdeal.τ).loc Cert.NormTwoBwdRefIdeal.main_arg6) = m' ((c.tc : Thread Cert.NormTwoBwdRefIdeal.nD Cert.NormTwoBwdRefIdeal.τ).loc Cert.NormTwoBwdRefIdeal.main_arg6)
          ∧ r.2.mem ((c.tc : Thread Cert.NormTwoBwdRefIdeal.nD Cert.NormTwoBwdRefIdeal.τ).loc Cert.NormTwoBwdRefIdeal.main_arg7) = m' ((c.tc : Thread Cert.NormTwoBwdRefIdeal.nD Cert.NormTwoBwdRefIdeal.τ).loc Cert.NormTwoBwdRefIdeal.main_arg7))

def preserves_NormOneBwd_NormOneBwdIdeal : Prop :=
  True

def algebraic_NormOneBwdIdeal_NormOneBwdRefIdeal_pre_finite_norm_one_bwd [hNormOneBwdIdeal : Cert.NormOneBwdIdeal.Facts] [hNormOneBwdRefIdeal : Cert.NormOneBwdRefIdeal.Facts] [hPre_finite_norm_one_bwd : Cert.Pre_finite_norm_one_bwd.Facts] : Prop :=
  ∀ (m : (ℓ : Loc Cert.NormOneBwdIdeal.nD Cert.NormOneBwdIdeal.τ Cert.NormOneBwdIdeal.sig) → Buf (Elt Ideal) ℓ) (g : Dev Cert.NormOneBwdIdeal.nD → PrngReg)
    (m' : (ℓ : Loc Cert.NormOneBwdRefIdeal.nD Cert.NormOneBwdRefIdeal.τ Cert.NormOneBwdRefIdeal.sig) → Buf (Elt Ideal) ℓ) (g' : Dev Cert.NormOneBwdRefIdeal.nD → PrngReg), Pre_NormOneBwdIdeal_finite_norm_one_bwd m →
    (∀ c : Dev Cert.NormOneBwdIdeal.nD,
      m' ((c.tc : Thread Cert.NormOneBwdRefIdeal.nD Cert.NormOneBwdRefIdeal.τ).loc Cert.NormOneBwdRefIdeal.main_arg0) = m ((c.tc : Thread Cert.NormOneBwdIdeal.nD Cert.NormOneBwdIdeal.τ).loc Cert.NormOneBwdIdeal.main_arg0)
      ∧ m' ((c.tc : Thread Cert.NormOneBwdRefIdeal.nD Cert.NormOneBwdRefIdeal.τ).loc Cert.NormOneBwdRefIdeal.main_arg1) = m ((c.tc : Thread Cert.NormOneBwdIdeal.nD Cert.NormOneBwdIdeal.τ).loc Cert.NormOneBwdIdeal.main_arg1)
      ∧ m' ((c.tc : Thread Cert.NormOneBwdRefIdeal.nD Cert.NormOneBwdRefIdeal.τ).loc Cert.NormOneBwdRefIdeal.main_arg2) = m ((c.tc : Thread Cert.NormOneBwdIdeal.nD Cert.NormOneBwdIdeal.τ).loc Cert.NormOneBwdIdeal.main_arg2)
      ∧ m' ((c.tc : Thread Cert.NormOneBwdRefIdeal.nD Cert.NormOneBwdRefIdeal.τ).loc Cert.NormOneBwdRefIdeal.main_arg3) = m ((c.tc : Thread Cert.NormOneBwdIdeal.nD Cert.NormOneBwdIdeal.τ).loc Cert.NormOneBwdIdeal.main_arg3)
      ∧ m' ((c.tc : Thread Cert.NormOneBwdRefIdeal.nD Cert.NormOneBwdRefIdeal.τ).loc Cert.NormOneBwdRefIdeal.main_arg4) = m ((c.tc : Thread Cert.NormOneBwdIdeal.nD Cert.NormOneBwdIdeal.τ).loc Cert.NormOneBwdIdeal.main_arg4)
      ∧ m' ((c.tc : Thread Cert.NormOneBwdRefIdeal.nD Cert.NormOneBwdRefIdeal.τ).loc Cert.NormOneBwdRefIdeal.main_arg5) = m ((c.tc : Thread Cert.NormOneBwdIdeal.nD Cert.NormOneBwdIdeal.τ).loc Cert.NormOneBwdIdeal.main_arg5)) →
    ∃ (v0 : (c : Dev Cert.NormOneBwdIdeal.nD) → Buf (Elt Ideal) ((c.tc : Thread Cert.NormOneBwdIdeal.nD Cert.NormOneBwdIdeal.τ).loc Cert.NormOneBwdIdeal.main_v3_0)) (v1 : (c : Dev Cert.NormOneBwdIdeal.nD) → Buf (Elt Ideal) ((c.tc : Thread Cert.NormOneBwdIdeal.nD Cert.NormOneBwdIdeal.τ).loc Cert.NormOneBwdIdeal.main_v3_1)),
      θ_run (Cert.NormOneBwdIdeal.defs (F := Ideal)) (onTc (τ := Cert.NormOneBwdIdeal.τ) (Cert.NormOneBwdIdeal.main (F := Ideal))) ⟨m, fun _ => 0, g⟩ (fun r => ∀ c : Dev Cert.NormOneBwdIdeal.nD,
          r.2.mem ((c.tc : Thread Cert.NormOneBwdIdeal.nD Cert.NormOneBwdIdeal.τ).loc Cert.NormOneBwdIdeal.main_v3_0) = v0 c
          ∧ r.2.mem ((c.tc : Thread Cert.NormOneBwdIdeal.nD Cert.NormOneBwdIdeal.τ).loc Cert.NormOneBwdIdeal.main_v3_1) = v1 c
          ∧ r.2.mem ((c.tc : Thread Cert.NormOneBwdIdeal.nD Cert.NormOneBwdIdeal.τ).loc Cert.NormOneBwdIdeal.main_arg0) = m ((c.tc : Thread Cert.NormOneBwdIdeal.nD Cert.NormOneBwdIdeal.τ).loc Cert.NormOneBwdIdeal.main_arg0)
          ∧ r.2.mem ((c.tc : Thread Cert.NormOneBwdIdeal.nD Cert.NormOneBwdIdeal.τ).loc Cert.NormOneBwdIdeal.main_arg1) = m ((c.tc : Thread Cert.NormOneBwdIdeal.nD Cert.NormOneBwdIdeal.τ).loc Cert.NormOneBwdIdeal.main_arg1)
          ∧ r.2.mem ((c.tc : Thread Cert.NormOneBwdIdeal.nD Cert.NormOneBwdIdeal.τ).loc Cert.NormOneBwdIdeal.main_arg2) = m ((c.tc : Thread Cert.NormOneBwdIdeal.nD Cert.NormOneBwdIdeal.τ).loc Cert.NormOneBwdIdeal.main_arg2)
          ∧ r.2.mem ((c.tc : Thread Cert.NormOneBwdIdeal.nD Cert.NormOneBwdIdeal.τ).loc Cert.NormOneBwdIdeal.main_arg3) = m ((c.tc : Thread Cert.NormOneBwdIdeal.nD Cert.NormOneBwdIdeal.τ).loc Cert.NormOneBwdIdeal.main_arg3)
          ∧ r.2.mem ((c.tc : Thread Cert.NormOneBwdIdeal.nD Cert.NormOneBwdIdeal.τ).loc Cert.NormOneBwdIdeal.main_arg4) = m ((c.tc : Thread Cert.NormOneBwdIdeal.nD Cert.NormOneBwdIdeal.τ).loc Cert.NormOneBwdIdeal.main_arg4)
          ∧ r.2.mem ((c.tc : Thread Cert.NormOneBwdIdeal.nD Cert.NormOneBwdIdeal.τ).loc Cert.NormOneBwdIdeal.main_arg5) = m ((c.tc : Thread Cert.NormOneBwdIdeal.nD Cert.NormOneBwdIdeal.τ).loc Cert.NormOneBwdIdeal.main_arg5))
      ∧ θ_run (Cert.NormOneBwdRefIdeal.defs (F := Ideal)) (onTc (τ := Cert.NormOneBwdRefIdeal.τ) (Cert.NormOneBwdRefIdeal.main (F := Ideal))) ⟨m', fun _ => 0, g'⟩ (fun r => ∀ c : Dev Cert.NormOneBwdRefIdeal.nD,
          r.2.mem ((c.tc : Thread Cert.NormOneBwdRefIdeal.nD Cert.NormOneBwdRefIdeal.τ).loc Cert.NormOneBwdRefIdeal.main_v60) = v0 c
          ∧ r.2.mem ((c.tc : Thread Cert.NormOneBwdRefIdeal.nD Cert.NormOneBwdRefIdeal.τ).loc Cert.NormOneBwdRefIdeal.main_v62) = v1 c
          ∧ r.2.mem ((c.tc : Thread Cert.NormOneBwdRefIdeal.nD Cert.NormOneBwdRefIdeal.τ).loc Cert.NormOneBwdRefIdeal.main_arg0) = m' ((c.tc : Thread Cert.NormOneBwdRefIdeal.nD Cert.NormOneBwdRefIdeal.τ).loc Cert.NormOneBwdRefIdeal.main_arg0)
          ∧ r.2.mem ((c.tc : Thread Cert.NormOneBwdRefIdeal.nD Cert.NormOneBwdRefIdeal.τ).loc Cert.NormOneBwdRefIdeal.main_arg1) = m' ((c.tc : Thread Cert.NormOneBwdRefIdeal.nD Cert.NormOneBwdRefIdeal.τ).loc Cert.NormOneBwdRefIdeal.main_arg1)
          ∧ r.2.mem ((c.tc : Thread Cert.NormOneBwdRefIdeal.nD Cert.NormOneBwdRefIdeal.τ).loc Cert.NormOneBwdRefIdeal.main_arg2) = m' ((c.tc : Thread Cert.NormOneBwdRefIdeal.nD Cert.NormOneBwdRefIdeal.τ).loc Cert.NormOneBwdRefIdeal.main_arg2)
          ∧ r.2.mem ((c.tc : Thread Cert.NormOneBwdRefIdeal.nD Cert.NormOneBwdRefIdeal.τ).loc Cert.NormOneBwdRefIdeal.main_arg3) = m' ((c.tc : Thread Cert.NormOneBwdRefIdeal.nD Cert.NormOneBwdRefIdeal.τ).loc Cert.NormOneBwdRefIdeal.main_arg3)
          ∧ r.2.mem ((c.tc : Thread Cert.NormOneBwdRefIdeal.nD Cert.NormOneBwdRefIdeal.τ).loc Cert.NormOneBwdRefIdeal.main_arg4) = m' ((c.tc : Thread Cert.NormOneBwdRefIdeal.nD Cert.NormOneBwdRefIdeal.τ).loc Cert.NormOneBwdRefIdeal.main_arg4)
          ∧ r.2.mem ((c.tc : Thread Cert.NormOneBwdRefIdeal.nD Cert.NormOneBwdRefIdeal.τ).loc Cert.NormOneBwdRefIdeal.main_arg5) = m' ((c.tc : Thread Cert.NormOneBwdRefIdeal.nD Cert.NormOneBwdRefIdeal.τ).loc Cert.NormOneBwdRefIdeal.main_arg5))

def preserves_LossHead_LossHeadIdeal : Prop :=
  True

def algebraic_LossHeadIdeal_LossHeadRefIdeal_pre_finite_loss_head [hLossHeadIdeal : Cert.LossHeadIdeal.Facts] [hLossHeadRefIdeal : Cert.LossHeadRefIdeal.Facts] [hPre_finite_loss_head : Cert.Pre_finite_loss_head.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_finite_loss_head m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)
      ∧ m' ((c.tc : Thread Cert.LossHeadRefIdeal.nD Cert.LossHeadRefIdeal.τ).loc Cert.LossHeadRefIdeal.main_arg4) = m ((c.tc : Thread Cert.LossHeadIdeal.nD Cert.LossHeadIdeal.τ).loc Cert.LossHeadIdeal.main_arg4)) →
    ∃ (v0 : (c : Dev Cert.LossHeadIdeal.nD) → Buf (Elt Ideal) ((c.tc : Thread Cert.LossHeadIdeal.nD Cert.LossHeadIdeal.τ).loc Cert.LossHeadIdeal.main_v9_0)) (v1 : (c : Dev Cert.LossHeadIdeal.nD) → Buf (Elt Ideal) ((c.tc : Thread Cert.LossHeadIdeal.nD Cert.LossHeadIdeal.τ).loc Cert.LossHeadIdeal.main_v9_1)) (v2 : (c : Dev Cert.LossHeadIdeal.nD) → Buf (Elt Ideal) ((c.tc : Thread Cert.LossHeadIdeal.nD Cert.LossHeadIdeal.τ).loc Cert.LossHeadIdeal.main_v9_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v9_0) = v0 c
          ∧ r.2.mem ((c.tc : Thread Cert.LossHeadIdeal.nD Cert.LossHeadIdeal.τ).loc Cert.LossHeadIdeal.main_v9_1) = v1 c
          ∧ r.2.mem ((c.tc : Thread Cert.LossHeadIdeal.nD Cert.LossHeadIdeal.τ).loc Cert.LossHeadIdeal.main_v9_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
          ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v68) = v0 c
          ∧ r.2.mem ((c.tc : Thread Cert.LossHeadRefIdeal.nD Cert.LossHeadRefIdeal.τ).loc Cert.LossHeadRefIdeal.main_v70) = v1 c
          ∧ r.2.mem ((c.tc : Thread Cert.LossHeadRefIdeal.nD Cert.LossHeadRefIdeal.τ).loc Cert.LossHeadRefIdeal.main_v67) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3)
          ∧ r.2.mem ((c.tc : Thread Cert.LossHeadRefIdeal.nD Cert.LossHeadRefIdeal.τ).loc Cert.LossHeadRefIdeal.main_arg4) = m' ((c.tc : Thread Cert.LossHeadRefIdeal.nD Cert.LossHeadRefIdeal.τ).loc Cert.LossHeadRefIdeal.main_arg4))

def preserves_SwigluBwd_SwigluBwdIdeal : Prop :=
  True

def algebraic_SwigluBwdIdeal_SwigluBwdRefIdeal_pre_finite_swiglu_bwd [hSwigluBwdIdeal : Cert.SwigluBwdIdeal.Facts] [hSwigluBwdRefIdeal : Cert.SwigluBwdRefIdeal.Facts] [hPre_finite_swiglu_bwd : Cert.Pre_finite_swiglu_bwd.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.SwigluBwdRefIdeal.nD Cert.SwigluBwdRefIdeal.τ Cert.SwigluBwdRefIdeal.sig) → Buf (Elt Ideal) ℓ) (g' : Dev Cert.SwigluBwdRefIdeal.nD → PrngReg), Pre_SwigluBwdIdeal_finite_swiglu_bwd m →
    (∀ c : Dev Cert.SwigluBwdIdeal.nD,
      m' ((c.tc : Thread Cert.SwigluBwdRefIdeal.nD Cert.SwigluBwdRefIdeal.τ).loc Cert.SwigluBwdRefIdeal.main_arg0) = m ((c.tc : Thread Cert.SwigluBwdIdeal.nD Cert.SwigluBwdIdeal.τ).loc Cert.SwigluBwdIdeal.main_arg0)
      ∧ m' ((c.tc : Thread Cert.SwigluBwdRefIdeal.nD Cert.SwigluBwdRefIdeal.τ).loc Cert.SwigluBwdRefIdeal.main_arg1) = m ((c.tc : Thread Cert.SwigluBwdIdeal.nD Cert.SwigluBwdIdeal.τ).loc Cert.SwigluBwdIdeal.main_arg1)
      ∧ m' ((c.tc : Thread Cert.SwigluBwdRefIdeal.nD Cert.SwigluBwdRefIdeal.τ).loc Cert.SwigluBwdRefIdeal.main_arg2) = m ((c.tc : Thread Cert.SwigluBwdIdeal.nD Cert.SwigluBwdIdeal.τ).loc Cert.SwigluBwdIdeal.main_arg2)
      ∧ m' ((c.tc : Thread Cert.SwigluBwdRefIdeal.nD Cert.SwigluBwdRefIdeal.τ).loc Cert.SwigluBwdRefIdeal.main_arg3) = m ((c.tc : Thread Cert.SwigluBwdIdeal.nD Cert.SwigluBwdIdeal.τ).loc Cert.SwigluBwdIdeal.main_arg3)) →
    ∃ (v0 : (c : Dev Cert.SwigluBwdIdeal.nD) → Buf (Elt Ideal) ((c.tc : Thread Cert.SwigluBwdIdeal.nD Cert.SwigluBwdIdeal.τ).loc Cert.SwigluBwdIdeal.main_v11)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v11) = v0 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
          ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2)
          ∧ r.2.mem ((c.tc : Thread Cert.SwigluBwdIdeal.nD Cert.SwigluBwdIdeal.τ).loc Cert.SwigluBwdIdeal.main_arg3) = m ((c.tc : Thread Cert.SwigluBwdIdeal.nD Cert.SwigluBwdIdeal.τ).loc Cert.SwigluBwdIdeal.main_arg3))
      ∧ θ_run (Cert.SwigluBwdRefIdeal.defs (F := Ideal)) (onTc (τ := Cert.SwigluBwdRefIdeal.τ) (Cert.SwigluBwdRefIdeal.main (F := Ideal))) ⟨m', fun _ => 0, g'⟩ (fun r => ∀ c : Dev Cert.SwigluBwdRefIdeal.nD,
          r.2.mem ((c.tc : Thread Cert.SwigluBwdRefIdeal.nD Cert.SwigluBwdRefIdeal.τ).loc Cert.SwigluBwdRefIdeal.main_v13) = v0 c
          ∧ r.2.mem ((c.tc : Thread Cert.SwigluBwdRefIdeal.nD Cert.SwigluBwdRefIdeal.τ).loc Cert.SwigluBwdRefIdeal.main_arg0) = m' ((c.tc : Thread Cert.SwigluBwdRefIdeal.nD Cert.SwigluBwdRefIdeal.τ).loc Cert.SwigluBwdRefIdeal.main_arg0)
          ∧ r.2.mem ((c.tc : Thread Cert.SwigluBwdRefIdeal.nD Cert.SwigluBwdRefIdeal.τ).loc Cert.SwigluBwdRefIdeal.main_arg1) = m' ((c.tc : Thread Cert.SwigluBwdRefIdeal.nD Cert.SwigluBwdRefIdeal.τ).loc Cert.SwigluBwdRefIdeal.main_arg1)
          ∧ r.2.mem ((c.tc : Thread Cert.SwigluBwdRefIdeal.nD Cert.SwigluBwdRefIdeal.τ).loc Cert.SwigluBwdRefIdeal.main_arg2) = m' ((c.tc : Thread Cert.SwigluBwdRefIdeal.nD Cert.SwigluBwdRefIdeal.τ).loc Cert.SwigluBwdRefIdeal.main_arg2)
          ∧ r.2.mem ((c.tc : Thread Cert.SwigluBwdRefIdeal.nD Cert.SwigluBwdRefIdeal.τ).loc Cert.SwigluBwdRefIdeal.main_arg3) = m' ((c.tc : Thread Cert.SwigluBwdRefIdeal.nD Cert.SwigluBwdRefIdeal.τ).loc Cert.SwigluBwdRefIdeal.main_arg3))

def preserves_HgFwd_HgFwdIdeal : Prop :=
  IdealRules.named_const.Statement Cert.HgFwdIdeal.κ "exp_clamp" .f32 0x42A00000#32 ⊤

def algebraic_HgFwdIdeal_HgFwdRefIdeal_pre_finite_hg_fwd [hHgFwdIdeal : Cert.HgFwdIdeal.Facts] [hHgFwdRefIdeal : Cert.HgFwdRefIdeal.Facts] [hPre_finite_hg_fwd : Cert.Pre_finite_hg_fwd.Facts] : Prop :=
  ∀ (m : (ℓ : Loc Cert.HgFwdIdeal.nD Cert.HgFwdIdeal.τ Cert.HgFwdIdeal.sig) → Buf (Elt Ideal) ℓ) (g : Dev Cert.HgFwdIdeal.nD → PrngReg)
    (m' : (ℓ : Loc Cert.HgFwdRefIdeal.nD Cert.HgFwdRefIdeal.τ Cert.HgFwdRefIdeal.sig) → Buf (Elt Ideal) ℓ) (g' : Dev Cert.HgFwdRefIdeal.nD → PrngReg), Pre_HgFwdIdeal_finite_hg_fwd m →
    (∀ c : Dev Cert.HgFwdIdeal.nD,
      m' ((c.tc : Thread Cert.HgFwdRefIdeal.nD Cert.HgFwdRefIdeal.τ).loc Cert.HgFwdRefIdeal.main_arg0) = m ((c.tc : Thread Cert.HgFwdIdeal.nD Cert.HgFwdIdeal.τ).loc Cert.HgFwdIdeal.main_arg0)
      ∧ m' ((c.tc : Thread Cert.HgFwdRefIdeal.nD Cert.HgFwdRefIdeal.τ).loc Cert.HgFwdRefIdeal.main_arg1) = m ((c.tc : Thread Cert.HgFwdIdeal.nD Cert.HgFwdIdeal.τ).loc Cert.HgFwdIdeal.main_arg1)
      ∧ m' ((c.tc : Thread Cert.HgFwdRefIdeal.nD Cert.HgFwdRefIdeal.τ).loc Cert.HgFwdRefIdeal.main_arg2) = m ((c.tc : Thread Cert.HgFwdIdeal.nD Cert.HgFwdIdeal.τ).loc Cert.HgFwdIdeal.main_arg2)) →
    ∃ (v0 : (c : Dev Cert.HgFwdIdeal.nD) → Buf (Elt Ideal) ((c.tc : Thread Cert.HgFwdIdeal.nD Cert.HgFwdIdeal.τ).loc Cert.HgFwdIdeal.main_v1_0)) (v1 : (c : Dev Cert.HgFwdIdeal.nD) → Buf (Elt Ideal) ((c.tc : Thread Cert.HgFwdIdeal.nD Cert.HgFwdIdeal.τ).loc Cert.HgFwdIdeal.main_v1_1)) (v2 : (c : Dev Cert.HgFwdIdeal.nD) → Buf (Elt Ideal) ((c.tc : Thread Cert.HgFwdIdeal.nD Cert.HgFwdIdeal.τ).loc Cert.HgFwdIdeal.main_v1_2)),
      θ_run (Cert.HgFwdIdeal.defs (F := Ideal)) (onTc (τ := Cert.HgFwdIdeal.τ) (Cert.HgFwdIdeal.main (F := Ideal))) ⟨m, fun _ => 0, g⟩ (fun r => ∀ c : Dev Cert.HgFwdIdeal.nD,
          r.2.mem ((c.tc : Thread Cert.HgFwdIdeal.nD Cert.HgFwdIdeal.τ).loc Cert.HgFwdIdeal.main_v1_0) = v0 c
          ∧ r.2.mem ((c.tc : Thread Cert.HgFwdIdeal.nD Cert.HgFwdIdeal.τ).loc Cert.HgFwdIdeal.main_v1_1) = v1 c
          ∧ r.2.mem ((c.tc : Thread Cert.HgFwdIdeal.nD Cert.HgFwdIdeal.τ).loc Cert.HgFwdIdeal.main_v1_2) = v2 c
          ∧ r.2.mem ((c.tc : Thread Cert.HgFwdIdeal.nD Cert.HgFwdIdeal.τ).loc Cert.HgFwdIdeal.main_arg0) = m ((c.tc : Thread Cert.HgFwdIdeal.nD Cert.HgFwdIdeal.τ).loc Cert.HgFwdIdeal.main_arg0)
          ∧ r.2.mem ((c.tc : Thread Cert.HgFwdIdeal.nD Cert.HgFwdIdeal.τ).loc Cert.HgFwdIdeal.main_arg1) = m ((c.tc : Thread Cert.HgFwdIdeal.nD Cert.HgFwdIdeal.τ).loc Cert.HgFwdIdeal.main_arg1)
          ∧ r.2.mem ((c.tc : Thread Cert.HgFwdIdeal.nD Cert.HgFwdIdeal.τ).loc Cert.HgFwdIdeal.main_arg2) = m ((c.tc : Thread Cert.HgFwdIdeal.nD Cert.HgFwdIdeal.τ).loc Cert.HgFwdIdeal.main_arg2))
      ∧ θ_run (Cert.HgFwdRefIdeal.defs (F := Ideal)) (onTc (τ := Cert.HgFwdRefIdeal.τ) (Cert.HgFwdRefIdeal.main (F := Ideal))) ⟨m', fun _ => 0, g'⟩ (fun r => ∀ c : Dev Cert.HgFwdRefIdeal.nD,
          r.2.mem ((c.tc : Thread Cert.HgFwdRefIdeal.nD Cert.HgFwdRefIdeal.τ).loc Cert.HgFwdRefIdeal.main_v70) = v0 c
          ∧ r.2.mem ((c.tc : Thread Cert.HgFwdRefIdeal.nD Cert.HgFwdRefIdeal.τ).loc Cert.HgFwdRefIdeal.main_v71) = v1 c
          ∧ r.2.mem ((c.tc : Thread Cert.HgFwdRefIdeal.nD Cert.HgFwdRefIdeal.τ).loc Cert.HgFwdRefIdeal.main_v73) = v2 c
          ∧ r.2.mem ((c.tc : Thread Cert.HgFwdRefIdeal.nD Cert.HgFwdRefIdeal.τ).loc Cert.HgFwdRefIdeal.main_arg0) = m' ((c.tc : Thread Cert.HgFwdRefIdeal.nD Cert.HgFwdRefIdeal.τ).loc Cert.HgFwdRefIdeal.main_arg0)
          ∧ r.2.mem ((c.tc : Thread Cert.HgFwdRefIdeal.nD Cert.HgFwdRefIdeal.τ).loc Cert.HgFwdRefIdeal.main_arg1) = m' ((c.tc : Thread Cert.HgFwdRefIdeal.nD Cert.HgFwdRefIdeal.τ).loc Cert.HgFwdRefIdeal.main_arg1)
          ∧ r.2.mem ((c.tc : Thread Cert.HgFwdRefIdeal.nD Cert.HgFwdRefIdeal.τ).loc Cert.HgFwdRefIdeal.main_arg2) = m' ((c.tc : Thread Cert.HgFwdRefIdeal.nD Cert.HgFwdRefIdeal.τ).loc Cert.HgFwdRefIdeal.main_arg2))

def preserves_HgBwd_HgBwdIdeal : Prop :=
  IdealRules.named_const.Statement Cert.HgBwdIdeal.κ "exp_clamp" .f32 0x42A00000#32 ⊤

def preserves_GmlpFwd_GmlpFwdIdeal : Prop :=
  IdealRules.named_const.Statement Cert.GmlpFwdIdeal.κ "gelu_cubic" .f32 0x3D372713#32 ((8943 / 200000 : ℝ) : EReal)

def algebraic_GmlpFwdIdeal_GmlpFwdRefIdeal_pre_finite_gmlp_fwd [hGmlpFwdIdeal : Cert.GmlpFwdIdeal.Facts] [hGmlpFwdRefIdeal : Cert.GmlpFwdRefIdeal.Facts] [hPre_finite_gmlp_fwd : Cert.Pre_finite_gmlp_fwd.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg)
    (m' : (ℓ : Loc Cert.GmlpFwdRefIdeal.nD Cert.GmlpFwdRefIdeal.τ Cert.GmlpFwdRefIdeal.sig) → Buf (Elt Ideal) ℓ) (g' : Dev Cert.GmlpFwdRefIdeal.nD → PrngReg), Pre_GmlpFwdIdeal_finite_gmlp_fwd m →
    (∀ c : Dev Cert.GmlpFwdIdeal.nD,
      m' ((c.tc : Thread Cert.GmlpFwdRefIdeal.nD Cert.GmlpFwdRefIdeal.τ).loc Cert.GmlpFwdRefIdeal.main_arg0) = m ((c.tc : Thread Cert.GmlpFwdIdeal.nD Cert.GmlpFwdIdeal.τ).loc Cert.GmlpFwdIdeal.main_arg0)
      ∧ m' ((c.tc : Thread Cert.GmlpFwdRefIdeal.nD Cert.GmlpFwdRefIdeal.τ).loc Cert.GmlpFwdRefIdeal.main_arg1) = m ((c.tc : Thread Cert.GmlpFwdIdeal.nD Cert.GmlpFwdIdeal.τ).loc Cert.GmlpFwdIdeal.main_arg1)
      ∧ m' ((c.tc : Thread Cert.GmlpFwdRefIdeal.nD Cert.GmlpFwdRefIdeal.τ).loc Cert.GmlpFwdRefIdeal.main_arg2) = m ((c.tc : Thread Cert.GmlpFwdIdeal.nD Cert.GmlpFwdIdeal.τ).loc Cert.GmlpFwdIdeal.main_arg2)
      ∧ m' ((c.tc : Thread Cert.GmlpFwdRefIdeal.nD Cert.GmlpFwdRefIdeal.τ).loc Cert.GmlpFwdRefIdeal.main_arg3) = m ((c.tc : Thread Cert.GmlpFwdIdeal.nD Cert.GmlpFwdIdeal.τ).loc Cert.GmlpFwdIdeal.main_arg3)
      ∧ m' ((c.tc : Thread Cert.GmlpFwdRefIdeal.nD Cert.GmlpFwdRefIdeal.τ).loc Cert.GmlpFwdRefIdeal.main_arg4) = m ((c.tc : Thread Cert.GmlpFwdIdeal.nD Cert.GmlpFwdIdeal.τ).loc Cert.GmlpFwdIdeal.main_arg4)) →
    ∃ (v0 : (c : Dev Cert.GmlpFwdIdeal.nD) → Buf (Elt Ideal) ((c.tc : Thread Cert.GmlpFwdIdeal.nD Cert.GmlpFwdIdeal.τ).loc Cert.GmlpFwdIdeal.main_v5)),
      θ_run (Cert.GmlpFwdIdeal.defs (F := Ideal)) (onTc (τ := Cert.GmlpFwdIdeal.τ) (Cert.GmlpFwdIdeal.main (F := Ideal))) ⟨m, fun _ => 0, g⟩ (fun r => ∀ c : Dev Cert.GmlpFwdIdeal.nD,
          r.2.mem ((c.tc : Thread Cert.GmlpFwdIdeal.nD Cert.GmlpFwdIdeal.τ).loc Cert.GmlpFwdIdeal.main_v5) = v0 c
          ∧ r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
          ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
          ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
          ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
          ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4))
      ∧ θ_run (Cert.GmlpFwdRefIdeal.defs (F := Ideal)) (onTc (τ := Cert.GmlpFwdRefIdeal.τ) (Cert.GmlpFwdRefIdeal.main (F := Ideal))) ⟨m', fun _ => 0, g'⟩ (fun r => ∀ c : Dev Cert.GmlpFwdRefIdeal.nD,
          r.2.mem ((c.tc : Thread Cert.GmlpFwdRefIdeal.nD Cert.GmlpFwdRefIdeal.τ).loc Cert.GmlpFwdRefIdeal.main_v74) = v0 c
          ∧ r.2.mem ((c.tc : Thread Cert.GmlpFwdRefIdeal.nD Cert.GmlpFwdRefIdeal.τ).loc Cert.GmlpFwdRefIdeal.main_arg0) = m' ((c.tc : Thread Cert.GmlpFwdRefIdeal.nD Cert.GmlpFwdRefIdeal.τ).loc Cert.GmlpFwdRefIdeal.main_arg0)
          ∧ r.2.mem ((c.tc : Thread Cert.GmlpFwdRefIdeal.nD Cert.GmlpFwdRefIdeal.τ).loc Cert.GmlpFwdRefIdeal.main_arg1) = m' ((c.tc : Thread Cert.GmlpFwdRefIdeal.nD Cert.GmlpFwdRefIdeal.τ).loc Cert.GmlpFwdRefIdeal.main_arg1)
          ∧ r.2.mem ((c.tc : Thread Cert.GmlpFwdRefIdeal.nD Cert.GmlpFwdRefIdeal.τ).loc Cert.GmlpFwdRefIdeal.main_arg2) = m' ((c.tc : Thread Cert.GmlpFwdRefIdeal.nD Cert.GmlpFwdRefIdeal.τ).loc Cert.GmlpFwdRefIdeal.main_arg2)
          ∧ r.2.mem ((c.tc : Thread Cert.GmlpFwdRefIdeal.nD Cert.GmlpFwdRefIdeal.τ).loc Cert.GmlpFwdRefIdeal.main_arg3) = m' ((c.tc : Thread Cert.GmlpFwdRefIdeal.nD Cert.GmlpFwdRefIdeal.τ).loc Cert.GmlpFwdRefIdeal.main_arg3)
          ∧ r.2.mem ((c.tc : Thread Cert.GmlpFwdRefIdeal.nD Cert.GmlpFwdRefIdeal.τ).loc Cert.GmlpFwdRefIdeal.main_arg4) = m' ((c.tc : Thread Cert.GmlpFwdRefIdeal.nD Cert.GmlpFwdRefIdeal.τ).loc Cert.GmlpFwdRefIdeal.main_arg4))

def preserves_SwigluFwd_SwigluFwdIdeal : Prop :=
  True

def algebraic_SwigluFwdIdeal_SwigluFwdRefIdeal_pre_finite_swiglu_fwd [hSwigluFwdIdeal : Cert.SwigluFwdIdeal.Facts] [hSwigluFwdRefIdeal : Cert.SwigluFwdRefIdeal.Facts] [hPre_finite_swiglu_fwd : Cert.Pre_finite_swiglu_fwd.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg)
    (m' : (ℓ : Loc Cert.SwigluFwdRefIdeal.nD Cert.SwigluFwdRefIdeal.τ Cert.SwigluFwdRefIdeal.sig) → Buf (Elt Ideal) ℓ) (g' : Dev Cert.SwigluFwdRefIdeal.nD → PrngReg), Pre_SwigluFwdIdeal_finite_swiglu_fwd m →
    (∀ c : Dev Cert.SwigluFwdIdeal.nD,
      m' ((c.tc : Thread Cert.SwigluFwdRefIdeal.nD Cert.SwigluFwdRefIdeal.τ).loc Cert.SwigluFwdRefIdeal.main_arg0) = m ((c.tc : Thread Cert.SwigluFwdIdeal.nD Cert.SwigluFwdIdeal.τ).loc Cert.SwigluFwdIdeal.main_arg0)
      ∧ m' ((c.tc : Thread Cert.SwigluFwdRefIdeal.nD Cert.SwigluFwdRefIdeal.τ).loc Cert.SwigluFwdRefIdeal.main_arg1) = m ((c.tc : Thread Cert.SwigluFwdIdeal.nD Cert.SwigluFwdIdeal.τ).loc Cert.SwigluFwdIdeal.main_arg1)) →
    ∃ (v0 : (c : Dev Cert.SwigluFwdIdeal.nD) → Buf (Elt Ideal) ((c.tc : Thread Cert.SwigluFwdIdeal.nD Cert.SwigluFwdIdeal.τ).loc Cert.SwigluFwdIdeal.main_v6_0)) (v1 : (c : Dev Cert.SwigluFwdIdeal.nD) → Buf (Elt Ideal) ((c.tc : Thread Cert.SwigluFwdIdeal.nD Cert.SwigluFwdIdeal.τ).loc Cert.SwigluFwdIdeal.main_v6_1)),
      θ_run (Cert.SwigluFwdIdeal.defs (F := Ideal)) (onTc (τ := Cert.SwigluFwdIdeal.τ) (Cert.SwigluFwdIdeal.main (F := Ideal))) ⟨m, fun _ => 0, g⟩ (fun r => ∀ c : Dev Cert.SwigluFwdIdeal.nD,
          r.2.mem ((c.tc : Thread Cert.SwigluFwdIdeal.nD Cert.SwigluFwdIdeal.τ).loc Cert.SwigluFwdIdeal.main_v6_0) = v0 c
          ∧ r.2.mem ((c.tc : Thread Cert.SwigluFwdIdeal.nD Cert.SwigluFwdIdeal.τ).loc Cert.SwigluFwdIdeal.main_v6_1) = v1 c
          ∧ r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0)
          ∧ r.2.mem ((c.tc : Thread Cert.SwigluFwdIdeal.nD Cert.SwigluFwdIdeal.τ).loc Cert.SwigluFwdIdeal.main_arg1) = m ((c.tc : Thread Cert.SwigluFwdIdeal.nD Cert.SwigluFwdIdeal.τ).loc Cert.SwigluFwdIdeal.main_arg1))
      ∧ θ_run (Cert.SwigluFwdRefIdeal.defs (F := Ideal)) (onTc (τ := Cert.SwigluFwdRefIdeal.τ) (Cert.SwigluFwdRefIdeal.main (F := Ideal))) ⟨m', fun _ => 0, g'⟩ (fun r => ∀ c : Dev Cert.SwigluFwdRefIdeal.nD,
          r.2.mem ((c.tc : Thread Cert.SwigluFwdRefIdeal.nD Cert.SwigluFwdRefIdeal.τ).loc Cert.SwigluFwdRefIdeal.main_v11) = v0 c
          ∧ r.2.mem ((c.tc : Thread Cert.SwigluFwdRefIdeal.nD Cert.SwigluFwdRefIdeal.τ).loc Cert.SwigluFwdRefIdeal.main_v13) = v1 c
          ∧ r.2.mem ((c.tc : Thread Cert.SwigluFwdRefIdeal.nD Cert.SwigluFwdRefIdeal.τ).loc Cert.SwigluFwdRefIdeal.main_arg0) = m' ((c.tc : Thread Cert.SwigluFwdRefIdeal.nD Cert.SwigluFwdRefIdeal.τ).loc Cert.SwigluFwdRefIdeal.main_arg0)
          ∧ r.2.mem ((c.tc : Thread Cert.SwigluFwdRefIdeal.nD Cert.SwigluFwdRefIdeal.τ).loc Cert.SwigluFwdRefIdeal.main_arg1) = m' ((c.tc : Thread Cert.SwigluFwdRefIdeal.nD Cert.SwigluFwdRefIdeal.τ).loc Cert.SwigluFwdRefIdeal.main_arg1))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)) →
    ∃ (v0 : (c : Dev Cert.MergeFwdIdeal.nD) → Buf (Elt Ideal) ((c.tc : Thread Cert.MergeFwdIdeal.nD Cert.MergeFwdIdeal.τ).loc Cert.MergeFwdIdeal.main_v6_0)) (v1 : (c : Dev Cert.MergeFwdIdeal.nD) → Buf (Elt Ideal) ((c.tc : Thread Cert.MergeFwdIdeal.nD Cert.MergeFwdIdeal.τ).loc Cert.MergeFwdIdeal.main_v6_1)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v6_0) = v0 c
          ∧ r.2.mem ((c.tc : Thread Cert.MergeFwdIdeal.nD Cert.MergeFwdIdeal.τ).loc Cert.MergeFwdIdeal.main_v6_1) = v1 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v30) = v0 c
          ∧ r.2.mem ((c.tc : Thread Cert.MergeFwdRefIdeal.nD Cert.MergeFwdRefIdeal.τ).loc Cert.MergeFwdRefIdeal.main_v32) = v1 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4))

def preserves_NormOneFwd_NormOneFwdIdeal : Prop :=
  True

def algebraic_NormOneFwdIdeal_NormOneFwdRefIdeal [hNormOneFwdIdeal : Cert.NormOneFwdIdeal.Facts] [hNormOneFwdRefIdeal : Cert.NormOneFwdRefIdeal.Facts] : Prop :=
  ∀ (m : (ℓ : Loc Cert.NormOneFwdIdeal.nD Cert.NormOneFwdIdeal.τ Cert.NormOneFwdIdeal.sig) → Buf (Elt Ideal) ℓ) (g : Dev Cert.NormOneFwdIdeal.nD → PrngReg)
    (m' : (ℓ : Loc Cert.NormOneFwdRefIdeal.nD Cert.NormOneFwdRefIdeal.τ Cert.NormOneFwdRefIdeal.sig) → Buf (Elt Ideal) ℓ) (g' : Dev Cert.NormOneFwdRefIdeal.nD → PrngReg), Pre_NormOneFwdIdeal m →
    (∀ c : Dev Cert.NormOneFwdIdeal.nD,
      m' ((c.tc : Thread Cert.NormOneFwdRefIdeal.nD Cert.NormOneFwdRefIdeal.τ).loc Cert.NormOneFwdRefIdeal.main_arg0) = m ((c.tc : Thread Cert.NormOneFwdIdeal.nD Cert.NormOneFwdIdeal.τ).loc Cert.NormOneFwdIdeal.main_arg0)
      ∧ m' ((c.tc : Thread Cert.NormOneFwdRefIdeal.nD Cert.NormOneFwdRefIdeal.τ).loc Cert.NormOneFwdRefIdeal.main_arg1) = m ((c.tc : Thread Cert.NormOneFwdIdeal.nD Cert.NormOneFwdIdeal.τ).loc Cert.NormOneFwdIdeal.main_arg1)
      ∧ m' ((c.tc : Thread Cert.NormOneFwdRefIdeal.nD Cert.NormOneFwdRefIdeal.τ).loc Cert.NormOneFwdRefIdeal.main_arg2) = m ((c.tc : Thread Cert.NormOneFwdIdeal.nD Cert.NormOneFwdIdeal.τ).loc Cert.NormOneFwdIdeal.main_arg2)
      ∧ m' ((c.tc : Thread Cert.NormOneFwdRefIdeal.nD Cert.NormOneFwdRefIdeal.τ).loc Cert.NormOneFwdRefIdeal.main_arg3) = m ((c.tc : Thread Cert.NormOneFwdIdeal.nD Cert.NormOneFwdIdeal.τ).loc Cert.NormOneFwdIdeal.main_arg3)) →
    ∃ (v0 : (c : Dev Cert.NormOneFwdIdeal.nD) → Buf (Elt Ideal) ((c.tc : Thread Cert.NormOneFwdIdeal.nD Cert.NormOneFwdIdeal.τ).loc Cert.NormOneFwdIdeal.main_v1)),
      θ_run (Cert.NormOneFwdIdeal.defs (F := Ideal)) (onTc (τ := Cert.NormOneFwdIdeal.τ) (Cert.NormOneFwdIdeal.main (F := Ideal))) ⟨m, fun _ => 0, g⟩ (fun r => ∀ c : Dev Cert.NormOneFwdIdeal.nD,
          r.2.mem ((c.tc : Thread Cert.NormOneFwdIdeal.nD Cert.NormOneFwdIdeal.τ).loc Cert.NormOneFwdIdeal.main_v1) = v0 c
          ∧ r.2.mem ((c.tc : Thread Cert.NormOneFwdIdeal.nD Cert.NormOneFwdIdeal.τ).loc Cert.NormOneFwdIdeal.main_arg0) = m ((c.tc : Thread Cert.NormOneFwdIdeal.nD Cert.NormOneFwdIdeal.τ).loc Cert.NormOneFwdIdeal.main_arg0)
          ∧ r.2.mem ((c.tc : Thread Cert.NormOneFwdIdeal.nD Cert.NormOneFwdIdeal.τ).loc Cert.NormOneFwdIdeal.main_arg1) = m ((c.tc : Thread Cert.NormOneFwdIdeal.nD Cert.NormOneFwdIdeal.τ).loc Cert.NormOneFwdIdeal.main_arg1)
          ∧ r.2.mem ((c.tc : Thread Cert.NormOneFwdIdeal.nD Cert.NormOneFwdIdeal.τ).loc Cert.NormOneFwdIdeal.main_arg2) = m ((c.tc : Thread Cert.NormOneFwdIdeal.nD Cert.NormOneFwdIdeal.τ).loc Cert.NormOneFwdIdeal.main_arg2)
          ∧ r.2.mem ((c.tc : Thread Cert.NormOneFwdIdeal.nD Cert.NormOneFwdIdeal.τ).loc Cert.NormOneFwdIdeal.main_arg3) = m ((c.tc : Thread Cert.NormOneFwdIdeal.nD Cert.NormOneFwdIdeal.τ).loc Cert.NormOneFwdIdeal.main_arg3))
      ∧ θ_run (Cert.NormOneFwdRefIdeal.defs (F := Ideal)) (onTc (τ := Cert.NormOneFwdRefIdeal.τ) (Cert.NormOneFwdRefIdeal.main (F := Ideal))) ⟨m', fun _ => 0, g'⟩ (fun r => ∀ c : Dev Cert.NormOneFwdRefIdeal.nD,
          r.2.mem ((c.tc : Thread Cert.NormOneFwdRefIdeal.nD Cert.NormOneFwdRefIdeal.τ).loc Cert.NormOneFwdRefIdeal.main_v23) = v0 c
          ∧ r.2.mem ((c.tc : Thread Cert.NormOneFwdRefIdeal.nD Cert.NormOneFwdRefIdeal.τ).loc Cert.NormOneFwdRefIdeal.main_arg0) = m' ((c.tc : Thread Cert.NormOneFwdRefIdeal.nD Cert.NormOneFwdRefIdeal.τ).loc Cert.NormOneFwdRefIdeal.main_arg0)
          ∧ r.2.mem ((c.tc : Thread Cert.NormOneFwdRefIdeal.nD Cert.NormOneFwdRefIdeal.τ).loc Cert.NormOneFwdRefIdeal.main_arg1) = m' ((c.tc : Thread Cert.NormOneFwdRefIdeal.nD Cert.NormOneFwdRefIdeal.τ).loc Cert.NormOneFwdRefIdeal.main_arg1)
          ∧ r.2.mem ((c.tc : Thread Cert.NormOneFwdRefIdeal.nD Cert.NormOneFwdRefIdeal.τ).loc Cert.NormOneFwdRefIdeal.main_arg2) = m' ((c.tc : Thread Cert.NormOneFwdRefIdeal.nD Cert.NormOneFwdRefIdeal.τ).loc Cert.NormOneFwdRefIdeal.main_arg2)
          ∧ r.2.mem ((c.tc : Thread Cert.NormOneFwdRefIdeal.nD Cert.NormOneFwdRefIdeal.τ).loc Cert.NormOneFwdRefIdeal.main_arg3) = m' ((c.tc : Thread Cert.NormOneFwdRefIdeal.nD Cert.NormOneFwdRefIdeal.τ).loc Cert.NormOneFwdRefIdeal.main_arg3))

def preserves_NormTwoFwd_NormTwoFwdIdeal : Prop :=
  True

def algebraic_NormTwoFwdIdeal_NormTwoFwdRefIdeal [hNormTwoFwdIdeal : Cert.NormTwoFwdIdeal.Facts] [hNormTwoFwdRefIdeal : Cert.NormTwoFwdRefIdeal.Facts] : Prop :=
  ∀ (m : (ℓ : Loc Cert.NormTwoFwdIdeal.nD Cert.NormTwoFwdIdeal.τ Cert.NormTwoFwdIdeal.sig) → Buf (Elt Ideal) ℓ) (g : Dev Cert.NormTwoFwdIdeal.nD → PrngReg)
    (m' : (ℓ : Loc Cert.NormTwoFwdRefIdeal.nD Cert.NormTwoFwdRefIdeal.τ Cert.NormTwoFwdRefIdeal.sig) → Buf (Elt Ideal) ℓ) (g' : Dev Cert.NormTwoFwdRefIdeal.nD → PrngReg), Pre_NormTwoFwdIdeal m →
    (∀ c : Dev Cert.NormTwoFwdIdeal.nD,
      m' ((c.tc : Thread Cert.NormTwoFwdRefIdeal.nD Cert.NormTwoFwdRefIdeal.τ).loc Cert.NormTwoFwdRefIdeal.main_arg0) = m ((c.tc : Thread Cert.NormTwoFwdIdeal.nD Cert.NormTwoFwdIdeal.τ).loc Cert.NormTwoFwdIdeal.main_arg0)
      ∧ m' ((c.tc : Thread Cert.NormTwoFwdRefIdeal.nD Cert.NormTwoFwdRefIdeal.τ).loc Cert.NormTwoFwdRefIdeal.main_arg1) = m ((c.tc : Thread Cert.NormTwoFwdIdeal.nD Cert.NormTwoFwdIdeal.τ).loc Cert.NormTwoFwdIdeal.main_arg1)
      ∧ m' ((c.tc : Thread Cert.NormTwoFwdRefIdeal.nD Cert.NormTwoFwdRefIdeal.τ).loc Cert.NormTwoFwdRefIdeal.main_arg2) = m ((c.tc : Thread Cert.NormTwoFwdIdeal.nD Cert.NormTwoFwdIdeal.τ).loc Cert.NormTwoFwdIdeal.main_arg2)
      ∧ m' ((c.tc : Thread Cert.NormTwoFwdRefIdeal.nD Cert.NormTwoFwdRefIdeal.τ).loc Cert.NormTwoFwdRefIdeal.main_arg3) = m ((c.tc : Thread Cert.NormTwoFwdIdeal.nD Cert.NormTwoFwdIdeal.τ).loc Cert.NormTwoFwdIdeal.main_arg3)
      ∧ m' ((c.tc : Thread Cert.NormTwoFwdRefIdeal.nD Cert.NormTwoFwdRefIdeal.τ).loc Cert.NormTwoFwdRefIdeal.main_arg4) = m ((c.tc : Thread Cert.NormTwoFwdIdeal.nD Cert.NormTwoFwdIdeal.τ).loc Cert.NormTwoFwdIdeal.main_arg4)
      ∧ m' ((c.tc : Thread Cert.NormTwoFwdRefIdeal.nD Cert.NormTwoFwdRefIdeal.τ).loc Cert.NormTwoFwdRefIdeal.main_arg5) = m ((c.tc : Thread Cert.NormTwoFwdIdeal.nD Cert.NormTwoFwdIdeal.τ).loc Cert.NormTwoFwdIdeal.main_arg5)) →
    ∃ (v0 : (c : Dev Cert.NormTwoFwdIdeal.nD) → Buf (Elt Ideal) ((c.tc : Thread Cert.NormTwoFwdIdeal.nD Cert.NormTwoFwdIdeal.τ).loc Cert.NormTwoFwdIdeal.main_v5)),
      θ_run (Cert.NormTwoFwdIdeal.defs (F := Ideal)) (onTc (τ := Cert.NormTwoFwdIdeal.τ) (Cert.NormTwoFwdIdeal.main (F := Ideal))) ⟨m, fun _ => 0, g⟩ (fun r => ∀ c : Dev Cert.NormTwoFwdIdeal.nD,
          r.2.mem ((c.tc : Thread Cert.NormTwoFwdIdeal.nD Cert.NormTwoFwdIdeal.τ).loc Cert.NormTwoFwdIdeal.main_v5) = v0 c
          ∧ r.2.mem ((c.tc : Thread Cert.NormTwoFwdIdeal.nD Cert.NormTwoFwdIdeal.τ).loc Cert.NormTwoFwdIdeal.main_arg0) = m ((c.tc : Thread Cert.NormTwoFwdIdeal.nD Cert.NormTwoFwdIdeal.τ).loc Cert.NormTwoFwdIdeal.main_arg0)
          ∧ r.2.mem ((c.tc : Thread Cert.NormTwoFwdIdeal.nD Cert.NormTwoFwdIdeal.τ).loc Cert.NormTwoFwdIdeal.main_arg1) = m ((c.tc : Thread Cert.NormTwoFwdIdeal.nD Cert.NormTwoFwdIdeal.τ).loc Cert.NormTwoFwdIdeal.main_arg1)
          ∧ r.2.mem ((c.tc : Thread Cert.NormTwoFwdIdeal.nD Cert.NormTwoFwdIdeal.τ).loc Cert.NormTwoFwdIdeal.main_arg2) = m ((c.tc : Thread Cert.NormTwoFwdIdeal.nD Cert.NormTwoFwdIdeal.τ).loc Cert.NormTwoFwdIdeal.main_arg2)
          ∧ r.2.mem ((c.tc : Thread Cert.NormTwoFwdIdeal.nD Cert.NormTwoFwdIdeal.τ).loc Cert.NormTwoFwdIdeal.main_arg3) = m ((c.tc : Thread Cert.NormTwoFwdIdeal.nD Cert.NormTwoFwdIdeal.τ).loc Cert.NormTwoFwdIdeal.main_arg3)
          ∧ r.2.mem ((c.tc : Thread Cert.NormTwoFwdIdeal.nD Cert.NormTwoFwdIdeal.τ).loc Cert.NormTwoFwdIdeal.main_arg4) = m ((c.tc : Thread Cert.NormTwoFwdIdeal.nD Cert.NormTwoFwdIdeal.τ).loc Cert.NormTwoFwdIdeal.main_arg4)
          ∧ r.2.mem ((c.tc : Thread Cert.NormTwoFwdIdeal.nD Cert.NormTwoFwdIdeal.τ).loc Cert.NormTwoFwdIdeal.main_arg5) = m ((c.tc : Thread Cert.NormTwoFwdIdeal.nD Cert.NormTwoFwdIdeal.τ).loc Cert.NormTwoFwdIdeal.main_arg5))
      ∧ θ_run (Cert.NormTwoFwdRefIdeal.defs (F := Ideal)) (onTc (τ := Cert.NormTwoFwdRefIdeal.τ) (Cert.NormTwoFwdRefIdeal.main (F := Ideal))) ⟨m', fun _ => 0, g'⟩ (fun r => ∀ c : Dev Cert.NormTwoFwdRefIdeal.nD,
          r.2.mem ((c.tc : Thread Cert.NormTwoFwdRefIdeal.nD Cert.NormTwoFwdRefIdeal.τ).loc Cert.NormTwoFwdRefIdeal.main_v27) = v0 c
          ∧ r.2.mem ((c.tc : Thread Cert.NormTwoFwdRefIdeal.nD Cert.NormTwoFwdRefIdeal.τ).loc Cert.NormTwoFwdRefIdeal.main_arg0) = m' ((c.tc : Thread Cert.NormTwoFwdRefIdeal.nD Cert.NormTwoFwdRefIdeal.τ).loc Cert.NormTwoFwdRefIdeal.main_arg0)
          ∧ r.2.mem ((c.tc : Thread Cert.NormTwoFwdRefIdeal.nD Cert.NormTwoFwdRefIdeal.τ).loc Cert.NormTwoFwdRefIdeal.main_arg1) = m' ((c.tc : Thread Cert.NormTwoFwdRefIdeal.nD Cert.NormTwoFwdRefIdeal.τ).loc Cert.NormTwoFwdRefIdeal.main_arg1)
          ∧ r.2.mem ((c.tc : Thread Cert.NormTwoFwdRefIdeal.nD Cert.NormTwoFwdRefIdeal.τ).loc Cert.NormTwoFwdRefIdeal.main_arg2) = m' ((c.tc : Thread Cert.NormTwoFwdRefIdeal.nD Cert.NormTwoFwdRefIdeal.τ).loc Cert.NormTwoFwdRefIdeal.main_arg2)
          ∧ r.2.mem ((c.tc : Thread Cert.NormTwoFwdRefIdeal.nD Cert.NormTwoFwdRefIdeal.τ).loc Cert.NormTwoFwdRefIdeal.main_arg3) = m' ((c.tc : Thread Cert.NormTwoFwdRefIdeal.nD Cert.NormTwoFwdRefIdeal.τ).loc Cert.NormTwoFwdRefIdeal.main_arg3)
          ∧ r.2.mem ((c.tc : Thread Cert.NormTwoFwdRefIdeal.nD Cert.NormTwoFwdRefIdeal.τ).loc Cert.NormTwoFwdRefIdeal.main_arg4) = m' ((c.tc : Thread Cert.NormTwoFwdRefIdeal.nD Cert.NormTwoFwdRefIdeal.τ).loc Cert.NormTwoFwdRefIdeal.main_arg4)
          ∧ r.2.mem ((c.tc : Thread Cert.NormTwoFwdRefIdeal.nD Cert.NormTwoFwdRefIdeal.τ).loc Cert.NormTwoFwdRefIdeal.main_arg5) = m' ((c.tc : Thread Cert.NormTwoFwdRefIdeal.nD Cert.NormTwoFwdRefIdeal.τ).loc Cert.NormTwoFwdRefIdeal.main_arg5))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)) →
    ∃ (v0 : (c : Dev Cert.FfnOutIdeal.nD) → Buf (Elt Ideal) ((c.tc : Thread Cert.FfnOutIdeal.nD Cert.FfnOutIdeal.τ).loc Cert.FfnOutIdeal.main_v5_0)) (v1 : (c : Dev Cert.FfnOutIdeal.nD) → Buf (Elt Ideal) ((c.tc : Thread Cert.FfnOutIdeal.nD Cert.FfnOutIdeal.τ).loc Cert.FfnOutIdeal.main_v5_1)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v5_0) = v0 c
          ∧ r.2.mem ((c.tc : Thread Cert.FfnOutIdeal.nD Cert.FfnOutIdeal.τ).loc Cert.FfnOutIdeal.main_v5_1) = v1 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v3) = v0 c
          ∧ r.2.mem ((c.tc : Thread Cert.FfnOutRefIdeal.nD Cert.FfnOutRefIdeal.τ).loc Cert.FfnOutRefIdeal.main_v8) = v1 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3))

def preserves_AdaMod_AdaModIdeal : Prop :=
  True

def algebraic_AdaModIdeal_AdaModRefIdeal [hAdaModIdeal : Cert.AdaModIdeal.Facts] [hAdaModRefIdeal : Cert.AdaModRefIdeal.Facts] : Prop :=
  ∀ (m : (ℓ : Loc Cert.AdaModIdeal.nD Cert.AdaModIdeal.τ Cert.AdaModIdeal.sig) → Buf (Elt Ideal) ℓ) (g : Dev Cert.AdaModIdeal.nD → PrngReg)
    (m' : (ℓ : Loc Cert.AdaModRefIdeal.nD Cert.AdaModRefIdeal.τ Cert.AdaModRefIdeal.sig) → Buf (Elt Ideal) ℓ) (g' : Dev Cert.AdaModRefIdeal.nD → PrngReg), Pre_AdaModIdeal m →
    (∀ c : Dev Cert.AdaModIdeal.nD,
      m' ((c.tc : Thread Cert.AdaModRefIdeal.nD Cert.AdaModRefIdeal.τ).loc Cert.AdaModRefIdeal.main_arg0) = m ((c.tc : Thread Cert.AdaModIdeal.nD Cert.AdaModIdeal.τ).loc Cert.AdaModIdeal.main_arg0)
      ∧ m' ((c.tc : Thread Cert.AdaModRefIdeal.nD Cert.AdaModRefIdeal.τ).loc Cert.AdaModRefIdeal.main_arg1) = m ((c.tc : Thread Cert.AdaModIdeal.nD Cert.AdaModIdeal.τ).loc Cert.AdaModIdeal.main_arg1)) →
    ∃ (v0 : (c : Dev Cert.AdaModIdeal.nD) → Buf (Elt Ideal) ((c.tc : Thread Cert.AdaModIdeal.nD Cert.AdaModIdeal.τ).loc Cert.AdaModIdeal.main_v2_0)) (v1 : (c : Dev Cert.AdaModIdeal.nD) → Buf (Elt Ideal) ((c.tc : Thread Cert.AdaModIdeal.nD Cert.AdaModIdeal.τ).loc Cert.AdaModIdeal.main_v2_1)),
      θ_run (Cert.AdaModIdeal.defs (F := Ideal)) (onTc (τ := Cert.AdaModIdeal.τ) (Cert.AdaModIdeal.main (F := Ideal))) ⟨m, fun _ => 0, g⟩ (fun r => ∀ c : Dev Cert.AdaModIdeal.nD,
          r.2.mem ((c.tc : Thread Cert.AdaModIdeal.nD Cert.AdaModIdeal.τ).loc Cert.AdaModIdeal.main_v2_0) = v0 c
          ∧ r.2.mem ((c.tc : Thread Cert.AdaModIdeal.nD Cert.AdaModIdeal.τ).loc Cert.AdaModIdeal.main_v2_1) = v1 c
          ∧ r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
          ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1))
      ∧ θ_run (Cert.AdaModRefIdeal.defs (F := Ideal)) (onTc (τ := Cert.AdaModRefIdeal.τ) (Cert.AdaModRefIdeal.main (F := Ideal))) ⟨m', fun _ => 0, g'⟩ (fun r => ∀ c : Dev Cert.AdaModRefIdeal.nD,
          r.2.mem ((c.tc : Thread Cert.AdaModRefIdeal.nD Cert.AdaModRefIdeal.τ).loc Cert.AdaModRefIdeal.main_v3) = v0 c
          ∧ r.2.mem ((c.tc : Thread Cert.AdaModRefIdeal.nD Cert.AdaModRefIdeal.τ).loc Cert.AdaModRefIdeal.main_v1) = v1 c
          ∧ r.2.mem ((c.tc : Thread Cert.AdaModRefIdeal.nD Cert.AdaModRefIdeal.τ).loc Cert.AdaModRefIdeal.main_arg0) = m' ((c.tc : Thread Cert.AdaModRefIdeal.nD Cert.AdaModRefIdeal.τ).loc Cert.AdaModRefIdeal.main_arg0)
          ∧ r.2.mem ((c.tc : Thread Cert.AdaModRefIdeal.nD Cert.AdaModRefIdeal.τ).loc Cert.AdaModRefIdeal.main_arg1) = m' ((c.tc : Thread Cert.AdaModRefIdeal.nD Cert.AdaModRefIdeal.τ).loc Cert.AdaModRefIdeal.main_arg1))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)) →
    ∃ (v0 : (c : Dev Cert.ProjInIdeal.nD) → Buf (Elt Ideal) ((c.tc : Thread Cert.ProjInIdeal.nD Cert.ProjInIdeal.τ).loc Cert.ProjInIdeal.main_v6)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v6) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v2) = v0 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1))

def preserves_FfnInDw_FfnInDwIdeal : Prop :=
  True

def algebraic_FfnInDwIdeal_FfnInDwRefIdeal [hFfnInDwIdeal : Cert.FfnInDwIdeal.Facts] [hFfnInDwRefIdeal : Cert.FfnInDwRefIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg)
    (m' : (ℓ : Loc Cert.FfnInDwRefIdeal.nD Cert.FfnInDwRefIdeal.τ Cert.FfnInDwRefIdeal.sig) → Buf (Elt Ideal) ℓ) (g' : Dev Cert.FfnInDwRefIdeal.nD → PrngReg), Pre_FfnInDwIdeal m →
    (∀ c : Dev Cert.FfnInDwIdeal.nD,
      m' ((c.tc : Thread Cert.FfnInDwRefIdeal.nD Cert.FfnInDwRefIdeal.τ).loc Cert.FfnInDwRefIdeal.main_arg0) = m ((c.tc : Thread Cert.FfnInDwIdeal.nD Cert.FfnInDwIdeal.τ).loc Cert.FfnInDwIdeal.main_arg0)
      ∧ m' ((c.tc : Thread Cert.FfnInDwRefIdeal.nD Cert.FfnInDwRefIdeal.τ).loc Cert.FfnInDwRefIdeal.main_arg1) = m ((c.tc : Thread Cert.FfnInDwIdeal.nD Cert.FfnInDwIdeal.τ).loc Cert.FfnInDwIdeal.main_arg1)) →
    ∃ (v0 : (c : Dev Cert.FfnInDwIdeal.nD) → Buf (Elt Ideal) ((c.tc : Thread Cert.FfnInDwIdeal.nD Cert.FfnInDwIdeal.τ).loc Cert.FfnInDwIdeal.main_v6)),
      θ_run (Cert.FfnInDwIdeal.defs (F := Ideal)) (onTc (τ := Cert.FfnInDwIdeal.τ) (Cert.FfnInDwIdeal.main (F := Ideal))) ⟨m, fun _ => 0, g⟩ (fun r => ∀ c : Dev Cert.FfnInDwIdeal.nD,
          r.2.mem ((c.tc : Thread Cert.FfnInDwIdeal.nD Cert.FfnInDwIdeal.τ).loc Cert.FfnInDwIdeal.main_v6) = v0 c
          ∧ r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
          ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ θ_run (Cert.FfnInDwRefIdeal.defs (F := Ideal)) (onTc (τ := Cert.FfnInDwRefIdeal.τ) (Cert.FfnInDwRefIdeal.main (F := Ideal))) ⟨m', fun _ => 0, g'⟩ (fun r => ∀ c : Dev Cert.FfnInDwRefIdeal.nD,
          r.2.mem ((c.tc : Thread Cert.FfnInDwRefIdeal.nD Cert.FfnInDwRefIdeal.τ).loc Cert.FfnInDwRefIdeal.main_v8) = v0 c
          ∧ r.2.mem ((c.tc : Thread Cert.FfnInDwRefIdeal.nD Cert.FfnInDwRefIdeal.τ).loc Cert.FfnInDwRefIdeal.main_arg0) = m' ((c.tc : Thread Cert.FfnInDwRefIdeal.nD Cert.FfnInDwRefIdeal.τ).loc Cert.FfnInDwRefIdeal.main_arg0)
          ∧ r.2.mem ((c.tc : Thread Cert.FfnInDwRefIdeal.nD Cert.FfnInDwRefIdeal.τ).loc Cert.FfnInDwRefIdeal.main_arg1) = m' ((c.tc : Thread Cert.FfnInDwRefIdeal.nD Cert.FfnInDwRefIdeal.τ).loc Cert.FfnInDwRefIdeal.main_arg1))

def preserves_BranchDx_BranchDxIdeal : Prop :=
  True

def algebraic_BranchDxIdeal_BranchDxRefIdeal [hBranchDxIdeal : Cert.BranchDxIdeal.Facts] [hBranchDxRefIdeal : Cert.BranchDxRefIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg)
    (m' : (ℓ : Loc Cert.BranchDxRefIdeal.nD Cert.BranchDxRefIdeal.τ Cert.BranchDxRefIdeal.sig) → Buf (Elt Ideal) ℓ) (g' : Dev Cert.BranchDxRefIdeal.nD → PrngReg), Pre_BranchDxIdeal m →
    (∀ c : Dev Cert.BranchDxIdeal.nD,
      m' ((c.tc : Thread Cert.BranchDxRefIdeal.nD Cert.BranchDxRefIdeal.τ).loc Cert.BranchDxRefIdeal.main_arg0) = m ((c.tc : Thread Cert.BranchDxIdeal.nD Cert.BranchDxIdeal.τ).loc Cert.BranchDxIdeal.main_arg0)
      ∧ m' ((c.tc : Thread Cert.BranchDxRefIdeal.nD Cert.BranchDxRefIdeal.τ).loc Cert.BranchDxRefIdeal.main_arg1) = m ((c.tc : Thread Cert.BranchDxIdeal.nD Cert.BranchDxIdeal.τ).loc Cert.BranchDxIdeal.main_arg1)) →
    ∃ (v0 : (c : Dev Cert.BranchDxIdeal.nD) → Buf (Elt Ideal) ((c.tc : Thread Cert.BranchDxIdeal.nD Cert.BranchDxIdeal.τ).loc Cert.BranchDxIdeal.main_v4)),
      θ_run (Cert.BranchDxIdeal.defs (F := Ideal)) (onTc (τ := Cert.BranchDxIdeal.τ) (Cert.BranchDxIdeal.main (F := Ideal))) ⟨m, fun _ => 0, g⟩ (fun r => ∀ c : Dev Cert.BranchDxIdeal.nD,
          r.2.mem ((c.tc : Thread Cert.BranchDxIdeal.nD Cert.BranchDxIdeal.τ).loc Cert.BranchDxIdeal.main_v4) = v0 c
          ∧ r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
          ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ θ_run (Cert.BranchDxRefIdeal.defs (F := Ideal)) (onTc (τ := Cert.BranchDxRefIdeal.τ) (Cert.BranchDxRefIdeal.main (F := Ideal))) ⟨m', fun _ => 0, g'⟩ (fun r => ∀ c : Dev Cert.BranchDxRefIdeal.nD,
          r.2.mem ((c.tc : Thread Cert.BranchDxRefIdeal.nD Cert.BranchDxRefIdeal.τ).loc Cert.BranchDxRefIdeal.main_v4) = v0 c
          ∧ r.2.mem ((c.tc : Thread Cert.BranchDxRefIdeal.nD Cert.BranchDxRefIdeal.τ).loc Cert.BranchDxRefIdeal.main_arg0) = m' ((c.tc : Thread Cert.BranchDxRefIdeal.nD Cert.BranchDxRefIdeal.τ).loc Cert.BranchDxRefIdeal.main_arg0)
          ∧ r.2.mem ((c.tc : Thread Cert.BranchDxRefIdeal.nD Cert.BranchDxRefIdeal.τ).loc Cert.BranchDxRefIdeal.main_arg1) = m' ((c.tc : Thread Cert.BranchDxRefIdeal.nD Cert.BranchDxRefIdeal.τ).loc Cert.BranchDxRefIdeal.main_arg1))

def preserves_FfnInDx_FfnInDxIdeal : Prop :=
  True

def algebraic_FfnInDxIdeal_FfnInDxRefIdeal [hFfnInDxIdeal : Cert.FfnInDxIdeal.Facts] [hFfnInDxRefIdeal : Cert.FfnInDxRefIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg)
    (m' : (ℓ : Loc Cert.FfnInDxRefIdeal.nD Cert.FfnInDxRefIdeal.τ Cert.FfnInDxRefIdeal.sig) → Buf (Elt Ideal) ℓ) (g' : Dev Cert.FfnInDxRefIdeal.nD → PrngReg), Pre_FfnInDxIdeal m →
    (∀ c : Dev Cert.FfnInDxIdeal.nD,
      m' ((c.tc : Thread Cert.FfnInDxRefIdeal.nD Cert.FfnInDxRefIdeal.τ).loc Cert.FfnInDxRefIdeal.main_arg0) = m ((c.tc : Thread Cert.FfnInDxIdeal.nD Cert.FfnInDxIdeal.τ).loc Cert.FfnInDxIdeal.main_arg0)
      ∧ m' ((c.tc : Thread Cert.FfnInDxRefIdeal.nD Cert.FfnInDxRefIdeal.τ).loc Cert.FfnInDxRefIdeal.main_arg1) = m ((c.tc : Thread Cert.FfnInDxIdeal.nD Cert.FfnInDxIdeal.τ).loc Cert.FfnInDxIdeal.main_arg1)) →
    ∃ (v0 : (c : Dev Cert.FfnInDxIdeal.nD) → Buf (Elt Ideal) ((c.tc : Thread Cert.FfnInDxIdeal.nD Cert.FfnInDxIdeal.τ).loc Cert.FfnInDxIdeal.main_v8)),
      θ_run (Cert.FfnInDxIdeal.defs (F := Ideal)) (onTc (τ := Cert.FfnInDxIdeal.τ) (Cert.FfnInDxIdeal.main (F := Ideal))) ⟨m, fun _ => 0, g⟩ (fun r => ∀ c : Dev Cert.FfnInDxIdeal.nD,
          r.2.mem ((c.tc : Thread Cert.FfnInDxIdeal.nD Cert.FfnInDxIdeal.τ).loc Cert.FfnInDxIdeal.main_v8) = v0 c
          ∧ r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
          ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1))
      ∧ θ_run (Cert.FfnInDxRefIdeal.defs (F := Ideal)) (onTc (τ := Cert.FfnInDxRefIdeal.τ) (Cert.FfnInDxRefIdeal.main (F := Ideal))) ⟨m', fun _ => 0, g'⟩ (fun r => ∀ c : Dev Cert.FfnInDxRefIdeal.nD,
          r.2.mem ((c.tc : Thread Cert.FfnInDxRefIdeal.nD Cert.FfnInDxRefIdeal.τ).loc Cert.FfnInDxRefIdeal.main_v4) = v0 c
          ∧ r.2.mem ((c.tc : Thread Cert.FfnInDxRefIdeal.nD Cert.FfnInDxRefIdeal.τ).loc Cert.FfnInDxRefIdeal.main_arg0) = m' ((c.tc : Thread Cert.FfnInDxRefIdeal.nD Cert.FfnInDxRefIdeal.τ).loc Cert.FfnInDxRefIdeal.main_arg0)
          ∧ r.2.mem ((c.tc : Thread Cert.FfnInDxRefIdeal.nD Cert.FfnInDxRefIdeal.τ).loc Cert.FfnInDxRefIdeal.main_arg1) = m' ((c.tc : Thread Cert.FfnInDxRefIdeal.nD Cert.FfnInDxRefIdeal.τ).loc Cert.FfnInDxRefIdeal.main_arg1))

def Claim : Prop :=
  ∃ (hMergeBwd : Cert.MergeBwd.Facts) (hMergeBwdIdeal : Cert.MergeBwdIdeal.Facts) (hMergeBwdRefIdeal : Cert.MergeBwdRefIdeal.Facts) (hGmlpBwd : Cert.GmlpBwd.Facts) (hGmlpBwdIdeal : Cert.GmlpBwdIdeal.Facts) (hGmlpBwdRefIdeal : Cert.GmlpBwdRefIdeal.Facts) (hNormTwoBwd : Cert.NormTwoBwd.Facts) (hNormTwoBwdIdeal : Cert.NormTwoBwdIdeal.Facts) (hNormTwoBwdRefIdeal : Cert.NormTwoBwdRefIdeal.Facts) (hNormOneBwd : Cert.NormOneBwd.Facts) (hNormOneBwdIdeal : Cert.NormOneBwdIdeal.Facts) (hNormOneBwdRefIdeal : Cert.NormOneBwdRefIdeal.Facts) (hLossHead : Cert.LossHead.Facts) (hLossHeadIdeal : Cert.LossHeadIdeal.Facts) (hLossHeadRefIdeal : Cert.LossHeadRefIdeal.Facts) (hSwigluBwd : Cert.SwigluBwd.Facts) (hSwigluBwdIdeal : Cert.SwigluBwdIdeal.Facts) (hSwigluBwdRefIdeal : Cert.SwigluBwdRefIdeal.Facts) (hHgFwd : Cert.HgFwd.Facts) (hHgFwdIdeal : Cert.HgFwdIdeal.Facts) (hHgFwdRefIdeal : Cert.HgFwdRefIdeal.Facts) (hHgBwd : Cert.HgBwd.Facts) (hHgBwdIdeal : Cert.HgBwdIdeal.Facts) (hHgBwdRefIdeal : Cert.HgBwdRefIdeal.Facts) (hGmlpFwd : Cert.GmlpFwd.Facts) (hGmlpFwdIdeal : Cert.GmlpFwdIdeal.Facts) (hGmlpFwdRefIdeal : Cert.GmlpFwdRefIdeal.Facts) (hSwigluFwd : Cert.SwigluFwd.Facts) (hSwigluFwdIdeal : Cert.SwigluFwdIdeal.Facts) (hSwigluFwdRefIdeal : Cert.SwigluFwdRefIdeal.Facts) (hMergeFwd : Cert.MergeFwd.Facts) (hMergeFwdIdeal : Cert.MergeFwdIdeal.Facts) (hMergeFwdRefIdeal : Cert.MergeFwdRefIdeal.Facts) (hNormOneFwd : Cert.NormOneFwd.Facts) (hNormOneFwdIdeal : Cert.NormOneFwdIdeal.Facts) (hNormOneFwdRefIdeal : Cert.NormOneFwdRefIdeal.Facts) (hNormTwoFwd : Cert.NormTwoFwd.Facts) (hNormTwoFwdIdeal : Cert.NormTwoFwdIdeal.Facts) (hNormTwoFwdRefIdeal : Cert.NormTwoFwdRefIdeal.Facts) (hFfnOut : Cert.FfnOut.Facts) (hFfnOutIdeal : Cert.FfnOutIdeal.Facts) (hFfnOutRefIdeal : Cert.FfnOutRefIdeal.Facts) (hAdaMod : Cert.AdaMod.Facts) (hAdaModIdeal : Cert.AdaModIdeal.Facts) (hAdaModRefIdeal : Cert.AdaModRefIdeal.Facts) (hProjIn : Cert.ProjIn.Facts) (hProjInIdeal : Cert.ProjInIdeal.Facts) (hProjInRefIdeal : Cert.ProjInRefIdeal.Facts) (hFfnInDw : Cert.FfnInDw.Facts) (hFfnInDwIdeal : Cert.FfnInDwIdeal.Facts) (hFfnInDwRefIdeal : Cert.FfnInDwRefIdeal.Facts) (hBranchDx : Cert.BranchDx.Facts) (hBranchDxIdeal : Cert.BranchDxIdeal.Facts) (hBranchDxRefIdeal : Cert.BranchDxRefIdeal.Facts) (hFfnInDx : Cert.FfnInDx.Facts) (hFfnInDxIdeal : Cert.FfnInDxIdeal.Facts) (hFfnInDxRefIdeal : Cert.FfnInDxRefIdeal.Facts) (hPre_finite_gmlp_bwd : Cert.Pre_finite_gmlp_bwd.Facts) (hPre_finite_norm_two_bwd : Cert.Pre_finite_norm_two_bwd.Facts) (hPre_finite_norm_one_bwd : Cert.Pre_finite_norm_one_bwd.Facts) (hPre_finite_loss_head : Cert.Pre_finite_loss_head.Facts) (hPre_finite_swiglu_bwd : Cert.Pre_finite_swiglu_bwd.Facts) (hPre_finite_hg_fwd : Cert.Pre_finite_hg_fwd.Facts) (hPre_finite_gmlp_fwd : Cert.Pre_finite_gmlp_fwd.Facts) (hPre_finite_swiglu_fwd : Cert.Pre_finite_swiglu_fwd.Facts),
    quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_GmlpBwd (hGmlpBwd := hGmlpBwd)
    ∧ quiescent_GmlpBwdIdeal (hGmlpBwdIdeal := hGmlpBwdIdeal)
    ∧ quiescent_GmlpBwdIdeal_pre_finite_gmlp_bwd (hGmlpBwdIdeal := hGmlpBwdIdeal) (hPre_finite_gmlp_bwd := hPre_finite_gmlp_bwd)
    ∧ quiescent_GmlpBwdRefIdeal (hGmlpBwdRefIdeal := hGmlpBwdRefIdeal)
    ∧ quiescent_GmlpBwdRefIdeal_pre_finite_gmlp_bwd (hGmlpBwdRefIdeal := hGmlpBwdRefIdeal) (hPre_finite_gmlp_bwd := hPre_finite_gmlp_bwd)
    ∧ quiescent_NormTwoBwd (hNormTwoBwd := hNormTwoBwd)
    ∧ quiescent_NormTwoBwdIdeal (hNormTwoBwdIdeal := hNormTwoBwdIdeal)
    ∧ quiescent_NormTwoBwdIdeal_pre_finite_norm_two_bwd (hNormTwoBwdIdeal := hNormTwoBwdIdeal) (hPre_finite_norm_two_bwd := hPre_finite_norm_two_bwd)
    ∧ quiescent_NormTwoBwdRefIdeal (hNormTwoBwdRefIdeal := hNormTwoBwdRefIdeal)
    ∧ quiescent_NormTwoBwdRefIdeal_pre_finite_norm_two_bwd (hNormTwoBwdRefIdeal := hNormTwoBwdRefIdeal) (hPre_finite_norm_two_bwd := hPre_finite_norm_two_bwd)
    ∧ quiescent_NormOneBwd (hNormOneBwd := hNormOneBwd)
    ∧ quiescent_NormOneBwdIdeal (hNormOneBwdIdeal := hNormOneBwdIdeal)
    ∧ quiescent_NormOneBwdIdeal_pre_finite_norm_one_bwd (hNormOneBwdIdeal := hNormOneBwdIdeal) (hPre_finite_norm_one_bwd := hPre_finite_norm_one_bwd)
    ∧ quiescent_NormOneBwdRefIdeal (hNormOneBwdRefIdeal := hNormOneBwdRefIdeal)
    ∧ quiescent_NormOneBwdRefIdeal_pre_finite_norm_one_bwd (hNormOneBwdRefIdeal := hNormOneBwdRefIdeal) (hPre_finite_norm_one_bwd := hPre_finite_norm_one_bwd)
    ∧ quiescent_LossHead (hLossHead := hLossHead)
    ∧ quiescent_LossHeadIdeal (hLossHeadIdeal := hLossHeadIdeal)
    ∧ quiescent_LossHeadIdeal_pre_finite_loss_head (hLossHeadIdeal := hLossHeadIdeal) (hPre_finite_loss_head := hPre_finite_loss_head)
    ∧ quiescent_LossHeadRefIdeal (hLossHeadRefIdeal := hLossHeadRefIdeal)
    ∧ quiescent_LossHeadRefIdeal_pre_finite_loss_head (hLossHeadRefIdeal := hLossHeadRefIdeal) (hPre_finite_loss_head := hPre_finite_loss_head)
    ∧ quiescent_SwigluBwd (hSwigluBwd := hSwigluBwd)
    ∧ quiescent_SwigluBwdIdeal (hSwigluBwdIdeal := hSwigluBwdIdeal)
    ∧ quiescent_SwigluBwdIdeal_pre_finite_swiglu_bwd (hSwigluBwdIdeal := hSwigluBwdIdeal) (hPre_finite_swiglu_bwd := hPre_finite_swiglu_bwd)
    ∧ quiescent_SwigluBwdRefIdeal (hSwigluBwdRefIdeal := hSwigluBwdRefIdeal)
    ∧ quiescent_SwigluBwdRefIdeal_pre_finite_swiglu_bwd (hSwigluBwdRefIdeal := hSwigluBwdRefIdeal) (hPre_finite_swiglu_bwd := hPre_finite_swiglu_bwd)
    ∧ quiescent_HgFwd (hHgFwd := hHgFwd)
    ∧ quiescent_HgFwdIdeal (hHgFwdIdeal := hHgFwdIdeal)
    ∧ quiescent_HgFwdIdeal_pre_finite_hg_fwd (hHgFwdIdeal := hHgFwdIdeal) (hPre_finite_hg_fwd := hPre_finite_hg_fwd)
    ∧ quiescent_HgFwdRefIdeal (hHgFwdRefIdeal := hHgFwdRefIdeal)
    ∧ quiescent_HgFwdRefIdeal_pre_finite_hg_fwd (hHgFwdRefIdeal := hHgFwdRefIdeal) (hPre_finite_hg_fwd := hPre_finite_hg_fwd)
    ∧ quiescent_HgBwd (hHgBwd := hHgBwd)
    ∧ quiescent_HgBwdIdeal (hHgBwdIdeal := hHgBwdIdeal)
    ∧ quiescent_HgBwdRefIdeal (hHgBwdRefIdeal := hHgBwdRefIdeal)
    ∧ quiescent_GmlpFwd (hGmlpFwd := hGmlpFwd)
    ∧ quiescent_GmlpFwdIdeal (hGmlpFwdIdeal := hGmlpFwdIdeal)
    ∧ quiescent_GmlpFwdIdeal_pre_finite_gmlp_fwd (hGmlpFwdIdeal := hGmlpFwdIdeal) (hPre_finite_gmlp_fwd := hPre_finite_gmlp_fwd)
    ∧ quiescent_GmlpFwdRefIdeal (hGmlpFwdRefIdeal := hGmlpFwdRefIdeal)
    ∧ quiescent_GmlpFwdRefIdeal_pre_finite_gmlp_fwd (hGmlpFwdRefIdeal := hGmlpFwdRefIdeal) (hPre_finite_gmlp_fwd := hPre_finite_gmlp_fwd)
    ∧ quiescent_SwigluFwd (hSwigluFwd := hSwigluFwd)
    ∧ quiescent_SwigluFwdIdeal (hSwigluFwdIdeal := hSwigluFwdIdeal)
    ∧ quiescent_SwigluFwdIdeal_pre_finite_swiglu_fwd (hSwigluFwdIdeal := hSwigluFwdIdeal) (hPre_finite_swiglu_fwd := hPre_finite_swiglu_fwd)
    ∧ quiescent_SwigluFwdRefIdeal (hSwigluFwdRefIdeal := hSwigluFwdRefIdeal)
    ∧ quiescent_SwigluFwdRefIdeal_pre_finite_swiglu_fwd (hSwigluFwdRefIdeal := hSwigluFwdRefIdeal) (hPre_finite_swiglu_fwd := hPre_finite_swiglu_fwd)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_NormOneFwd (hNormOneFwd := hNormOneFwd)
    ∧ quiescent_NormOneFwdIdeal (hNormOneFwdIdeal := hNormOneFwdIdeal)
    ∧ quiescent_NormOneFwdRefIdeal (hNormOneFwdRefIdeal := hNormOneFwdRefIdeal)
    ∧ quiescent_NormTwoFwd (hNormTwoFwd := hNormTwoFwd)
    ∧ quiescent_NormTwoFwdIdeal (hNormTwoFwdIdeal := hNormTwoFwdIdeal)
    ∧ quiescent_NormTwoFwdRefIdeal (hNormTwoFwdRefIdeal := hNormTwoFwdRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_AdaMod (hAdaMod := hAdaMod)
    ∧ quiescent_AdaModIdeal (hAdaModIdeal := hAdaModIdeal)
    ∧ quiescent_AdaModRefIdeal (hAdaModRefIdeal := hAdaModRefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_FfnInDw (hFfnInDw := hFfnInDw)
    ∧ quiescent_FfnInDwIdeal (hFfnInDwIdeal := hFfnInDwIdeal)
    ∧ quiescent_FfnInDwRefIdeal (hFfnInDwRefIdeal := hFfnInDwRefIdeal)
    ∧ quiescent_BranchDx (hBranchDx := hBranchDx)
    ∧ quiescent_BranchDxIdeal (hBranchDxIdeal := hBranchDxIdeal)
    ∧ quiescent_BranchDxRefIdeal (hBranchDxRefIdeal := hBranchDxRefIdeal)
    ∧ quiescent_FfnInDx (hFfnInDx := hFfnInDx)
    ∧ quiescent_FfnInDxIdeal (hFfnInDxIdeal := hFfnInDxIdeal)
    ∧ quiescent_FfnInDxRefIdeal (hFfnInDxRefIdeal := hFfnInDxRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_GmlpBwd_GmlpBwdIdeal
    ∧ algebraic_GmlpBwdIdeal_GmlpBwdRefIdeal_pre_finite_gmlp_bwd (hGmlpBwdIdeal := hGmlpBwdIdeal) (hGmlpBwdRefIdeal := hGmlpBwdRefIdeal) (hPre_finite_gmlp_bwd := hPre_finite_gmlp_bwd)
    ∧ preserves_NormTwoBwd_NormTwoBwdIdeal
    ∧ algebraic_NormTwoBwdIdeal_NormTwoBwdRefIdeal_pre_finite_norm_two_bwd (hNormTwoBwdIdeal := hNormTwoBwdIdeal) (hNormTwoBwdRefIdeal := hNormTwoBwdRefIdeal) (hPre_finite_norm_two_bwd := hPre_finite_norm_two_bwd)
    ∧ preserves_NormOneBwd_NormOneBwdIdeal
    ∧ algebraic_NormOneBwdIdeal_NormOneBwdRefIdeal_pre_finite_norm_one_bwd (hNormOneBwdIdeal := hNormOneBwdIdeal) (hNormOneBwdRefIdeal := hNormOneBwdRefIdeal) (hPre_finite_norm_one_bwd := hPre_finite_norm_one_bwd)
    ∧ preserves_LossHead_LossHeadIdeal
    ∧ algebraic_LossHeadIdeal_LossHeadRefIdeal_pre_finite_loss_head (hLossHeadIdeal := hLossHeadIdeal) (hLossHeadRefIdeal := hLossHeadRefIdeal) (hPre_finite_loss_head := hPre_finite_loss_head)
    ∧ preserves_SwigluBwd_SwigluBwdIdeal
    ∧ algebraic_SwigluBwdIdeal_SwigluBwdRefIdeal_pre_finite_swiglu_bwd (hSwigluBwdIdeal := hSwigluBwdIdeal) (hSwigluBwdRefIdeal := hSwigluBwdRefIdeal) (hPre_finite_swiglu_bwd := hPre_finite_swiglu_bwd)
    ∧ preserves_HgFwd_HgFwdIdeal
    ∧ algebraic_HgFwdIdeal_HgFwdRefIdeal_pre_finite_hg_fwd (hHgFwdIdeal := hHgFwdIdeal) (hHgFwdRefIdeal := hHgFwdRefIdeal) (hPre_finite_hg_fwd := hPre_finite_hg_fwd)
    ∧ preserves_HgBwd_HgBwdIdeal
    ∧ preserves_GmlpFwd_GmlpFwdIdeal
    ∧ algebraic_GmlpFwdIdeal_GmlpFwdRefIdeal_pre_finite_gmlp_fwd (hGmlpFwdIdeal := hGmlpFwdIdeal) (hGmlpFwdRefIdeal := hGmlpFwdRefIdeal) (hPre_finite_gmlp_fwd := hPre_finite_gmlp_fwd)
    ∧ preserves_SwigluFwd_SwigluFwdIdeal
    ∧ algebraic_SwigluFwdIdeal_SwigluFwdRefIdeal_pre_finite_swiglu_fwd (hSwigluFwdIdeal := hSwigluFwdIdeal) (hSwigluFwdRefIdeal := hSwigluFwdRefIdeal) (hPre_finite_swiglu_fwd := hPre_finite_swiglu_fwd)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_NormOneFwd_NormOneFwdIdeal
    ∧ algebraic_NormOneFwdIdeal_NormOneFwdRefIdeal (hNormOneFwdIdeal := hNormOneFwdIdeal) (hNormOneFwdRefIdeal := hNormOneFwdRefIdeal)
    ∧ preserves_NormTwoFwd_NormTwoFwdIdeal
    ∧ algebraic_NormTwoFwdIdeal_NormTwoFwdRefIdeal (hNormTwoFwdIdeal := hNormTwoFwdIdeal) (hNormTwoFwdRefIdeal := hNormTwoFwdRefIdeal)
    ∧ preserves_FfnOut_FfnOutIdeal
    ∧ algebraic_FfnOutIdeal_FfnOutRefIdeal (hFfnOutIdeal := hFfnOutIdeal) (hFfnOutRefIdeal := hFfnOutRefIdeal)
    ∧ preserves_AdaMod_AdaModIdeal
    ∧ algebraic_AdaModIdeal_AdaModRefIdeal (hAdaModIdeal := hAdaModIdeal) (hAdaModRefIdeal := hAdaModRefIdeal)
    ∧ preserves_ProjIn_ProjInIdeal
    ∧ algebraic_ProjInIdeal_ProjInRefIdeal (hProjInIdeal := hProjInIdeal) (hProjInRefIdeal := hProjInRefIdeal)
    ∧ preserves_FfnInDw_FfnInDwIdeal
    ∧ algebraic_FfnInDwIdeal_FfnInDwRefIdeal (hFfnInDwIdeal := hFfnInDwIdeal) (hFfnInDwRefIdeal := hFfnInDwRefIdeal)
    ∧ preserves_BranchDx_BranchDxIdeal
    ∧ algebraic_BranchDxIdeal_BranchDxRefIdeal (hBranchDxIdeal := hBranchDxIdeal) (hBranchDxRefIdeal := hBranchDxRefIdeal)
    ∧ preserves_FfnInDx_FfnInDxIdeal
    ∧ algebraic_FfnInDxIdeal_FfnInDxRefIdeal (hFfnInDxIdeal := hFfnInDxIdeal) (hFfnInDxRefIdeal := hFfnInDxRefIdeal)
-- ==== Pre_finite_gmlp_bwd.lean ====
abbrev S1x2048x10240 : Shape := ⟨3, ![1, 2048, 10240]⟩
abbrev S1x2048x1024 : Shape := ⟨3, ![1, 2048, 1024]⟩
abbrev S1x1024 : Shape := ⟨2, ![1, 1024]⟩
abbrev S1x8x128x128 : Shape := ⟨4, ![1, 8, 128, 128]⟩
abbrev S1x8x128 : Shape := ⟨3, ![1, 8, 128]⟩
abbrev S1x2048x2048 : Shape := ⟨3, ![1, 2048, 2048]⟩
abbrev S_ : Shape := ⟨0, ![]⟩

class Facts : Prop where
  slices_S1x2048x10240_S1x2048x2048_0_0_0 : S1x2048x10240.Slices ![0, 0, 0] S1x2048x2048
  bcast_S_S1x2048x2048 : S_.BroadcastsInDim S1x2048x2048 (![] : Fin 0 → Fin S1x2048x2048.rank)
  bcast_S_S1x2048x1024 : S_.BroadcastsInDim S1x2048x1024 (![] : Fin 0 → Fin S1x2048x1024.rank)
  bcast_S_S1x1024 : S_.BroadcastsInDim S1x1024 (![] : Fin 0 → Fin S1x1024.rank)
  bcast_S_S1x8x128x128 : S_.BroadcastsInDim S1x8x128x128 (![] : Fin 0 → Fin S1x8x128x128.rank)
  bcast_S_S1x8x128 : S_.BroadcastsInDim S1x8x128 (![] : Fin 0 → Fin S1x8x128.rank)

variable [Facts]

def fn_part1 {F : FTy → Type} [FloatOps F] (main_v3 : IVec S1x2048x2048 1) (main_v6 : IVec S1x2048x1024 1) (main_v9 : IVec S1x1024 1) (main_v12 : IVec S1x1024 1) (main_v15 : IVec S1x8x128x128 1) (main_v16 : FVec F S1x8x128 .f32) (main_v17 : FVec F S1x8x128 .f32) : IVec S1x2048x2048 1 × IVec S1x2048x1024 1 × IVec S1x1024 1 × IVec S1x1024 1 × IVec S1x8x128x128 1 × IVec S1x8x128 1 :=
  let main_v18 : IVec S1x8x128 1 := cmpf .olt main_v16 main_v17
  (main_v3, main_v6, main_v9, main_v12, main_v15, main_v18)

def fn {F : FTy → Type} [FloatOps F] (main_arg0 : FVec F S1x2048x10240 .f32) (main_arg1 : FVec F S1x2048x1024 .f32) (main_arg2 : FVec F S1x1024 .f32) (main_arg3 : FVec F S1x1024 .f32) (main_arg4 : FVec F S1x8x128x128 .f32) (main_arg5 : FVec F S1x8x128 .f32) : IVec S1x2048x2048 1 × IVec S1x2048x1024 1 × IVec S1x1024 1 × IVec S1x1024 1 × IVec S1x8x128x128 1 × IVec S1x8x128 1 :=
  let main_v0 : FVec F S1x2048x2048 .f32 := (extractStridedSlice S1x2048x2048 ![0, 0, 0] · slices_S1x2048x10240_S1x2048x2048_0_0_0) main_arg0
  let main_v1 : FVec F S1x2048x2048 .f32 := Host.absf main_v0
  let main_cst : FVec F S_ .f32 := constant S_ .f32 0x7F800000#32
  let main_v2 : FVec F S1x2048x2048 .f32 := broadcastInDim S1x2048x2048 ![] bcast_S_S1x2048x2048 main_cst
  let main_v3 : IVec S1x2048x2048 1 := cmpf .olt main_v1 main_v2
  let main_v4 : FVec F S1x2048x1024 .f32 := Host.absf main_arg1
  let main_cst_0 : FVec F S_ .f32 := constant S_ .f32 0x7F800000#32
  let main_v5 : FVec F S1x2048x1024 .f32 := broadcastInDim S1x2048x1024 ![] bcast_S_S1x2048x1024 main_cst_0
  let main_v6 : IVec S1x2048x1024 1 := cmpf .olt main_v4 main_v5
  let main_v7 : FVec F S1x1024 .f32 := Host.absf main_arg2
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_v10 : FVec F S1x1024 .f32 := Host.absf main_arg3
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_v13 : FVec F S1x8x128x128 .f32 := Host.absf main_arg4
  let main_cst_3 : FVec F S_ .f32 := constant S_ .f32 0x7F800000#32
  let main_v14 : FVec F S1x8x128x128 .f32 := broadcastInDim S1x8x128x128 ![] bcast_S_S1x8x128x128 main_cst_3
  let main_v15 : IVec S1x8x128x128 1 := cmpf .olt main_v13 main_v14
  let main_v16 : FVec F S1x8x128 .f32 := Host.absf main_arg5
  let main_cst_4 : FVec F S_ .f32 := constant S_ .f32 0x7F800000#32
  let main_v17 : FVec F S1x8x128 .f32 := broadcastInDim S1x8x128 ![] bcast_S_S1x8x128 main_cst_4
  fn_part1 (F := F) main_v3 main_v6 main_v9 main_v12 main_v15 main_v16 main_v17
-- ==== Pre_finite_gmlp_fwd.lean ====
abbrev S1x2048x10240 : Shape := ⟨3, ![1, 2048, 10240]⟩
abbrev S1x1024 : Shape := ⟨2, ![1, 1024]⟩
abbrev S1x8x128x128 : Shape := ⟨4, ![1, 8, 128, 128]⟩
abbrev S1x8x128 : Shape := ⟨3, ![1, 8, 128]⟩
abbrev S1x2048x2048 : Shape := ⟨3, ![1, 2048, 2048]⟩
abbrev S_ : Shape := ⟨0, ![]⟩

class Facts : Prop where
  slices_S1x2048x10240_S1x2048x2048_0_0_0 : S1x2048x10240.Slices ![0, 0, 0] S1x2048x2048
  bcast_S_S1x2048x2048 : S_.BroadcastsInDim S1x2048x2048 (![] : Fin 0 → Fin S1x2048x2048.rank)
  bcast_S_S1x1024 : S_.BroadcastsInDim S1x1024 (![] : Fin 0 → Fin S1x1024.rank)
  bcast_S_S1x8x128x128 : S_.BroadcastsInDim S1x8x128x128 (![] : Fin 0 → Fin S1x8x128x128.rank)
  bcast_S_S1x8x128 : S_.BroadcastsInDim S1x8x128 (![] : Fin 0 → Fin S1x8x128.rank)

variable [Facts]

def fn {F : FTy → Type} [FloatOps F] (main_arg0 : FVec F S1x2048x10240 .f32) (main_arg1 : FVec F S1x1024 .f32) (main_arg2 : FVec F S1x1024 .f32) (main_arg3 : FVec F S1x8x128x128 .f32) (main_arg4 : FVec F S1x8x128 .f32) : IVec S1x2048x2048 1 × IVec S1x1024 1 × IVec S1x1024 1 × IVec S1x8x128x128 1 × IVec S1x8x128 1 :=
  let main_v0 : FVec F S1x2048x2048 .f32 := (extractStridedSlice S1x2048x2048 ![0, 0, 0] · slices_S1x2048x10240_S1x2048x2048_0_0_0) main_arg0
  let main_v1 : FVec F S1x2048x2048 .f32 := Host.absf main_v0
  let main_cst : FVec F S_ .f32 := constant S_ .f32 0x7F800000#32
  let main_v2 : FVec F S1x2048x2048 .f32 := broadcastInDim S1x2048x2048 ![] bcast_S_S1x2048x2048 main_cst
  let main_v3 : IVec S1x2048x2048 1 := cmpf .olt main_v1 main_v2
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_v7 : FVec F S1x1024 .f32 := Host.absf main_arg2
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_v10 : FVec F S1x8x128x128 .f32 := Host.absf main_arg3
  let main_cst_2 : FVec F S_ .f32 := constant S_ .f32 0x7F800000#32
  let main_v11 : FVec F S1x8x128x128 .f32 := broadcastInDim S1x8x128x128 ![] bcast_S_S1x8x128x128 main_cst_2
  let main_v12 : IVec S1x8x128x128 1 := cmpf .olt main_v10 main_v11
  let main_v13 : FVec F S1x8x128 .f32 := Host.absf main_arg4
  let main_cst_3 : FVec F S_ .f32 := constant S_ .f32 0x7F800000#32
  let main_v14 : FVec F S1x8x128 .f32 := broadcastInDim S1x8x128 ![] bcast_S_S1x8x128 main_cst_3
  let main_v15 : IVec S1x8x128 1 := cmpf .olt main_v13 main_v14
  (main_v3, main_v6, main_v9, main_v12, main_v15)
-- ==== Pre_finite_hg_fwd.lean ====
abbrev S1x2048x10240 : Shape := ⟨3, ![1, 2048, 10240]⟩
abbrev S2x1024 : Shape := ⟨2, ![2, 1024]⟩
abbrev S1x1024 : Shape := ⟨2, ![1, 1024]⟩
abbrev S1x2048x3072 : Shape := ⟨3, ![1, 2048, 3072]⟩
abbrev S_ : Shape := ⟨0, ![]⟩

class Facts : Prop where
  slices_S1x2048x10240_S1x2048x3072_0_0_2048 : S1x2048x10240.Slices ![0, 0, 2048] S1x2048x3072
  bcast_S_S1x2048x3072 : S_.BroadcastsInDim S1x2048x3072 (![] : Fin 0 → Fin S1x2048x3072.rank)
  bcast_S_S2x1024 : S_.BroadcastsInDim S2x1024 (![] : Fin 0 → Fin S2x1024.rank)

variable [Facts]

def fn {F : FTy → Type} [FloatOps F] (main_arg0 : FVec F S1x2048x10240 .f32) (main_arg1 : FVec F S2x1024 .f32) (main_arg2 : FVec F S1x1024 .f32) : IVec S1x2048x3072 1 × IVec S2x1024 1 :=
  let main_v0 : FVec F S1x2048x3072 .f32 := (extractStridedSlice S1x2048x3072 ![0, 0, 2048] · slices_S1x2048x10240_S1x2048x3072_0_0_2048) main_arg0
  let main_v1 : FVec F S1x2048x3072 .f32 := Host.absf main_v0
  let main_cst : FVec F S_ .f32 := constant S_ .f32 0x7F800000#32
  let main_v2 : FVec F S1x2048x3072 .f32 := broadcastInDim S1x2048x3072 ![] bcast_S_S1x2048x3072 main_cst
  let main_v3 : IVec S1x2048x3072 1 := cmpf .olt main_v1 main_v2
  let main_v4 : FVec F S2x1024 .f32 := Host.absf main_arg1
  let main_cst_0 : FVec F S_ .f32 := constant S_ .f32 0x7F800000#32
  let main_v5 : FVec F S2x1024 .f32 := broadcastInDim S2x1024 ![] bcast_S_S2x1024 main_cst_0
  let main_v6 : IVec S2x1024 1 := cmpf .olt main_v4 main_v5
  (main_v3, main_v6)
-- ==== Pre_finite_loss_head.lean ====
abbrev S1x2048x2048 : Shape := ⟨3, ![1, 2048, 2048]⟩
abbrev S1x2048 : Shape := ⟨2, ![1, 2048]⟩
abbrev S2048 : Shape := ⟨1, ![2048]⟩
abbrev S_ : Shape := ⟨0, ![]⟩

class Facts : Prop where
  bcast_S_S1x2048x2048 : S_.BroadcastsInDim S1x2048x2048 (![] : Fin 0 → Fin S1x2048x2048.rank)
  bcast_S_S1x2048 : S_.BroadcastsInDim S1x2048 (![] : Fin 0 → Fin S1x2048.rank)
  bcast_S_S2048 : S_.BroadcastsInDim S2048 (![] : Fin 0 → Fin S2048.rank)

variable [Facts]

def fn {F : FTy → Type} [FloatOps F] (main_arg0 : FVec F S1x2048x2048 .f32) (main_arg1 : FVec F S1x2048x2048 .f32) (main_arg2 : FVec F S1x2048 .f32) (main_arg3 : FVec F S2048 .f32) (main_arg4 : FVec F S1x2048x2048 .f32) : IVec S1x2048x2048 1 × IVec S1x2048x2048 1 × IVec S1x2048 1 × IVec S2048 1 × IVec S1x2048x2048 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S1x2048x2048 .f32 := Host.absf main_arg1
  let main_cst_0 : FVec F S_ .f32 := constant S_ .f32 0x7F800000#32
  let main_v4 : FVec F S1x2048x2048 .f32 := broadcastInDim S1x2048x2048 ![] bcast_S_S1x2048x2048 main_cst_0
  let main_v5 : IVec S1x2048x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_v12 : FVec F S1x2048x2048 .f32 := Host.absf main_arg4
  let main_cst_3 : FVec F S_ .f32 := constant S_ .f32 0x7F800000#32
  let main_v13 : FVec F S1x2048x2048 .f32 := broadcastInDim S1x2048x2048 ![] bcast_S_S1x2048x2048 main_cst_3
  let main_v14 : IVec S1x2048x2048 1 := cmpf .olt main_v12 main_v13
  (main_v2, main_v5, main_v8, main_v11, main_v14)
-- ==== Pre_finite_norm_one_bwd.lean ====
abbrev S1x2048x2048 : Shape := ⟨3, ![1, 2048, 2048]⟩
abbrev S1x2048 : Shape := ⟨2, ![1, 2048]⟩
abbrev S_ : Shape := ⟨0, ![]⟩

class Facts : Prop where
  bcast_S_S1x2048x2048 : S_.BroadcastsInDim S1x2048x2048 (![] : Fin 0 → Fin S1x2048x2048.rank)
  bcast_S_S1x2048 : S_.BroadcastsInDim S1x2048 (![] : Fin 0 → Fin S1x2048.rank)

variable [Facts]

def fn {F : FTy → Type} [FloatOps F] (main_arg0 : FVec F S1x2048x2048 .f32) (main_arg1 : FVec F S1x2048 .f32) (main_arg2 : FVec F S1x2048 .f32) (main_arg3 : FVec F S1x2048 .f32) (main_arg4 : FVec F S1x2048x2048 .f32) (main_arg5 : FVec F S1x2048x2048 .f32) : IVec S1x2048x2048 1 × IVec S1x2048 1 × IVec S1x2048 1 × IVec S1x2048x2048 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x2048x2048 .f32 := Host.absf main_arg4
  let main_cst_2 : FVec F S_ .f32 := constant S_ .f32 0x7F800000#32
  let main_v10 : FVec F S1x2048x2048 .f32 := broadcastInDim S1x2048x2048 ![] bcast_S_S1x2048x2048 main_cst_2
  let main_v11 : IVec S1x2048x2048 1 := cmpf .olt main_v9 main_v10
  (main_v2, main_v5, main_v8, main_v11)
-- ==== Pre_finite_norm_two_bwd.lean ====
abbrev S1x2048x2048 : Shape := ⟨3, ![1, 2048, 2048]⟩
abbrev S1x2048 : Shape := ⟨2, ![1, 2048]⟩
abbrev S_ : Shape := ⟨0, ![]⟩

class Facts : Prop where
  bcast_S_S1x2048x2048 : S_.BroadcastsInDim S1x2048x2048 (![] : Fin 0 → Fin S1x2048x2048.rank)
  bcast_S_S1x2048 : S_.BroadcastsInDim S1x2048 (![] : Fin 0 → Fin S1x2048.rank)

variable [Facts]

def fn {F : FTy → Type} [FloatOps F] (main_arg0 : FVec F S1x2048x2048 .f32) (main_arg1 : FVec F S1x2048x2048 .f32) (main_arg2 : FVec F S1x2048 .f32) (main_arg3 : FVec F S1x2048 .f32) (main_arg4 : FVec F S1x2048 .f32) (main_arg5 : FVec F S1x2048 .f32) (main_arg6 : FVec F S1x2048x2048 .f32) (main_arg7 : FVec F S1x2048x2048 .f32) : IVec S1x2048x2048 1 × IVec S1x2048x2048 1 × IVec S1x2048 1 × IVec S1x2048 1 × IVec S1x2048 1 × IVec S1x2048x2048 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S1x2048x2048 .f32 := Host.absf main_arg1
  let main_cst_0 : FVec F S_ .f32 := constant S_ .f32 0x7F800000#32
  let main_v4 : FVec F S1x2048x2048 .f32 := broadcastInDim S1x2048x2048 ![] bcast_S_S1x2048x2048 main_cst_0
  let main_v5 : IVec S1x2048x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_v12 : FVec F S1x2048 .f32 := Host.absf main_arg4
  let main_cst_3 : FVec F S_ .f32 := constant S_ .f32 0x7F800000#32
  let main_v13 : FVec F S1x2048 .f32 := broadcastInDim S1x2048 ![] bcast_S_S1x2048 main_cst_3
  let main_v14 : IVec S1x2048 1 := cmpf .olt main_v12 main_v13
  let main_v15 : FVec F S1x2048x2048 .f32 := Host.absf main_arg6
  let main_cst_4 : FVec F S_ .f32 := constant S_ .f32 0x7F800000#32
  let main_v16 : FVec F S1x2048x2048 .f32 := broadcastInDim S1x2048x2048 ![] bcast_S_S1x2048x2048 main_cst_4
  let main_v17 : IVec S1x2048x2048 1 := cmpf .olt main_v15 main_v16
  (main_v2, main_v5, main_v8, main_v11, main_v14, main_v17)
-- ==== Pre_finite_swiglu_bwd.lean ====
abbrev S1x2048x2048 : Shape := ⟨3, ![1, 2048, 2048]⟩
abbrev S1x2048x11264 : Shape := ⟨3, ![1, 2048, 11264]⟩
abbrev S1x5632x2048 : Shape := ⟨3, ![1, 5632, 2048]⟩
abbrev S_ : Shape := ⟨0, ![]⟩

class Facts : Prop where
  bcast_S_S1x2048x2048 : S_.BroadcastsInDim S1x2048x2048 (![] : Fin 0 → Fin S1x2048x2048.rank)
  bcast_S_S1x2048x11264 : S_.BroadcastsInDim S1x2048x11264 (![] : Fin 0 → Fin S1x2048x11264.rank)
  bcast_S_S1x5632x2048 : S_.BroadcastsInDim S1x5632x2048 (![] : Fin 0 → Fin S1x5632x2048.rank)

variable [Facts]

def fn {F : FTy → Type} [FloatOps F] (main_arg0 : FVec F S1x2048x2048 .f32) (main_arg1 : FVec F S1x2048x11264 .f32) (main_arg2 : FVec F S1x5632x2048 .f32) (main_arg3 : FVec F S1x2048x2048 .f32) : IVec S1x2048x2048 1 × IVec S1x2048x11264 1 × IVec S1x5632x2048 1 × IVec S1x2048x2048 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S1x2048x11264 .f32 := Host.absf main_arg1
  let main_cst_0 : FVec F S_ .f32 := constant S_ .f32 0x7F800000#32
  let main_v4 : FVec F S1x2048x11264 .f32 := broadcastInDim S1x2048x11264 ![] bcast_S_S1x2048x11264 main_cst_0
  let main_v5 : IVec S1x2048x11264 1 := cmpf .olt main_v3 main_v4
  let main_v6 : FVec F S1x5632x2048 .f32 := Host.absf main_arg2
  let main_cst_1 : FVec F S_ .f32 := constant S_ .f32 0x7F800000#32
  let main_v7 : FVec F S1x5632x2048 .f32 := broadcastInDim S1x5632x2048 ![] bcast_S_S1x5632x2048 main_cst_1
  let main_v8 : IVec S1x5632x2048 1 := cmpf .olt main_v6 main_v7
  let main_v9 : FVec F S1x2048x2048 .f32 := Host.absf main_arg3
  let main_cst_2 : FVec F S_ .f32 := constant S_ .f32 0x7F800000#32
  let main_v10 : FVec F S1x2048x2048 .f32 := broadcastInDim S1x2048x2048 ![] bcast_S_S1x2048x2048 main_cst_2
  let main_v11 : IVec S1x2048x2048 1 := cmpf .olt main_v9 main_v10
  (main_v2, main_v5, main_v8, main_v11)
-- ==== Pre_finite_swiglu_fwd.lean ====
abbrev S1x2048x2048 : Shape := ⟨3, ![1, 2048, 2048]⟩
abbrev S1x2048x11264 : Shape := ⟨3, ![1, 2048, 11264]⟩
abbrev S_ : Shape := ⟨0, ![]⟩

class Facts : Prop where
  bcast_S_S1x2048x2048 : S_.BroadcastsInDim S1x2048x2048 (![] : Fin 0 → Fin S1x2048x2048.rank)
  bcast_S_S1x2048x11264 : S_.BroadcastsInDim S1x2048x11264 (![] : Fin 0 → Fin S1x2048x11264.rank)

variable [Facts]

def fn {F : FTy → Type} [FloatOps F] (main_arg0 : FVec F S1x2048x2048 .f32) (main_arg1 : FVec F S1x2048x11264 .f32) : IVec S1x2048x2048 1 × IVec S1x2048x11264 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S1x2048x11264 .f32 := Host.absf main_arg1
  let main_cst_0 : FVec F S_ .f32 := constant S_ .f32 0x7F800000#32
  let main_v4 : FVec F S1x2048x11264 .f32 := broadcastInDim S1x2048x11264 ![] bcast_S_S1x2048x11264 main_cst_0
  let main_v5 : IVec S1x2048x11264 1 := cmpf .olt main_v3 main_v4
  (main_v2, main_v5)
-- ==== MergeBwd.lean ====
abbrev S1x2048x10240 : Shape := ⟨3, ![1, 2048, 10240]⟩
abbrev S1x2048x2048 : Shape := ⟨3, ![1, 2048, 2048]⟩
abbrev S1x4096 : Shape := ⟨2, ![1, 4096]⟩
abbrev S2048x10240 : Shape := ⟨2, ![2048, 10240]⟩
abbrev S2048x2048 : Shape := ⟨2, ![2048, 2048]⟩
abbrev S2x2048x2048 : Shape := ⟨3, ![2, 2048, 2048]⟩
abbrev S1024x2048 : Shape := ⟨2, ![1024, 2048]⟩
abbrev S512x2048 : Shape := ⟨2, ![512, 2048]⟩
abbrev S1024x512 : Shape := ⟨2, ![1024, 512]⟩
abbrev S1x512 : Shape := ⟨2, ![1, 512]⟩
abbrev S2x1024x512 : Shape := ⟨3, ![2, 1024, 512]⟩
abbrev S1x1024x512 : Shape := ⟨3, ![1, 1024, 512]⟩

abbrev nBuf : Space → Nat
  | .hbm => 17
  | .vmem => 22
  | .smem => 0
  | _ => 0

abbrev bufTy : (tb : Table) → Fin (tcTables nBuf tb) → BufTy
  | .hbm, ⟨0, _⟩ => ⟨S1x2048x10240, .f32⟩
  | .hbm, ⟨1, _⟩ => ⟨S1x2048x2048, .f32⟩
  | .hbm, ⟨2, _⟩ => ⟨S1x2048x2048, .f32⟩
  | .hbm, ⟨3, _⟩ => ⟨S1x4096, .f32⟩
  | .hbm, ⟨4, _⟩ => ⟨S1x2048x2048, .f32⟩
  | .hbm, ⟨5, _⟩ => ⟨S1x2048x2048, .f32⟩
  | .hbm, ⟨6, _⟩ => ⟨S2048x10240, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S2048x2048, .f32⟩
  | .hbm, ⟨11, _⟩ => ⟨S2048x2048, .bf16⟩
  | .hbm, ⟨12, _⟩ => ⟨S2048x2048, .f32⟩
  | .hbm, ⟨13, _⟩ => ⟨S2048x2048, .bf16⟩
  | .hbm, ⟨14, _⟩ => ⟨S2048x2048, .bf16⟩
  | .hbm, ⟨15, _⟩ => ⟨S2048x2048, .bf16⟩
  | .hbm, ⟨16, _⟩ => ⟨S2x2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S2x1024x512, .bf16⟩
  | .local _ .vmem, ⟨21, _⟩ => ⟨S2x1024x512, .bf16⟩
  | _, _ => ⟨S1x2048x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S2x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== MergeBwdRefIdeal.lean ====
abbrev S1x2048x10240 : Shape := ⟨3, ![1, 2048, 10240]⟩
abbrev S1x2048x2048 : Shape := ⟨3, ![1, 2048, 2048]⟩
abbrev S1x4096 : Shape := ⟨2, ![1, 4096]⟩
abbrev S1x2048 : Shape := ⟨2, ![1, 2048]⟩
abbrev S2048 : Shape := ⟨1, ![2048]⟩
abbrev S1x1x2048 : Shape := ⟨3, ![1, 1, 2048]⟩
abbrev S_ : Shape := ⟨0, ![]⟩
abbrev S2048x2048 : Shape := ⟨2, ![2048, 2048]⟩
abbrev S2x2048x2048 : Shape := ⟨3, ![2, 2048, 2048]⟩

abbrev nBuf : Space → Nat
  | .hbm => 60
  | .vmem => 0
  | .smem => 0
  | _ => 0

abbrev bufTy : (tb : Table) → Fin (tcTables nBuf tb) → BufTy
  | .hbm, ⟨0, _⟩ => ⟨S1x2048x10240, .f32⟩
  | .hbm, ⟨1, _⟩ => ⟨S1x2048x2048, .f32⟩
  | .hbm, ⟨2, _⟩ => ⟨S1x2048x2048, .f32⟩
  | .hbm, ⟨3, _⟩ => ⟨S1x4096, .f32⟩
  | .hbm, ⟨4, _⟩ => ⟨S1x2048x2048, .f32⟩
  | .hbm, ⟨5, _⟩ => ⟨S1x2048x2048, .f32⟩
  | .hbm, ⟨6, _⟩ => ⟨S1x2048x2048, .f32⟩
  | .hbm, ⟨7, _⟩ => ⟨S1x2048x2048, .f32⟩
  | .hbm, ⟨8, _⟩ => ⟨S1x2048, .f32⟩
  | .hbm, ⟨9, _⟩ => ⟨S2048, .f32⟩
  | .hbm, ⟨10, _⟩ => ⟨S1x1x2048, .f32⟩
  | .hbm, ⟨11, _⟩ => ⟨S1x2048x2048, .f32⟩
  | .hbm, ⟨12, _⟩ => ⟨S1x2048x2048, .f32⟩
  | .hbm, ⟨13, _⟩ => ⟨S1x2048x2048, .f32⟩
  | .hbm, ⟨14, _⟩ => ⟨S1x2048x2048, .f32⟩
  | .hbm, ⟨15, _⟩ => ⟨S_, .f32⟩
  | .hbm, ⟨16, _⟩ => ⟨S1x2048x2048, .f32⟩
  | .hbm, ⟨17, _⟩ => ⟨S1x2048x2048, .f32⟩
  | .hbm, ⟨18, _⟩ => ⟨S_, .f32⟩
  | .hbm, ⟨19, _⟩ => ⟨S1x2048x2048, .f32⟩
  | .hbm, ⟨20, _⟩ => ⟨S1x2048x2048, .f32⟩
  | .hbm, ⟨21, _⟩ => ⟨S_, .f32⟩
  | .hbm, ⟨22, _⟩ => ⟨S1x2048x2048, .f32⟩
  | .hbm, ⟨23, _⟩ => ⟨S1x2048x2048, .f32⟩
  | .hbm, ⟨24, _⟩ => ⟨S1x2048x2048, .f32⟩
  | .hbm, ⟨25, _⟩ => ⟨S1x2048, .f32⟩
  | .hbm, ⟨26, _⟩ => ⟨S2048, .f32⟩
  | .hbm, ⟨27, _⟩ => ⟨S1x1x2048, .f32⟩
  | .hbm, ⟨28, _⟩ => ⟨S1x2048x2048, .f32⟩
  | .hbm, ⟨29, _⟩ => ⟨S1x2048x2048, .f32⟩
  | .hbm, ⟨30, _⟩ => ⟨S1x2048x2048, .f32⟩
  | .hbm, ⟨31, _⟩ => ⟨S1x2048x2048, .f32⟩
  | .hbm, ⟨32, _⟩ => ⟨S_, .f32⟩
  | .hbm, ⟨33, _⟩ => ⟨S1x2048x2048, .f32⟩
  | .hbm, ⟨34, _⟩ => ⟨S1x2048x2048, .f32⟩
  | .hbm, ⟨35, _⟩ => ⟨S_, .f32⟩
  | .hbm, ⟨36, _⟩ => ⟨S1x2048x2048, .f32⟩
  | .hbm, ⟨37, _⟩ => ⟨S1x2048x2048, .f32⟩
  | .hbm, ⟨38, _⟩ => ⟨S_, .f32⟩
  | .hbm, ⟨39, _⟩ => ⟨S1x2048x2048, .f32⟩
  | .hbm, ⟨40, _⟩ => ⟨S1x2048x2048, .f32⟩
  | .hbm, ⟨41, _⟩ => ⟨S1x2048x2048, .f32⟩
  | .hbm, ⟨42, _⟩ => ⟨S1x2048x2048, .f32⟩
  | .hbm, ⟨43, _⟩ => ⟨S1x2048x2048, .f32⟩
  | .hbm, ⟨44, _⟩ => ⟨S1x2048x2048, .f32⟩
  | .hbm, ⟨45, _⟩ => ⟨S2048x2048, .f32⟩
  | .hbm, ⟨46, _⟩ => ⟨S1x2048x2048, .f32⟩
  | .hbm, ⟨47, _⟩ => ⟨S1x2048x2048, .f32⟩
  | .hbm, ⟨48, _⟩ => ⟨S1x2048x2048, .f32⟩
  | .hbm, ⟨49, _⟩ => ⟨S1x2048x2048, .f32⟩
  | .hbm, ⟨50, _⟩ => ⟨S1x2048x2048, .f32⟩
  | .hbm, ⟨51, _⟩ => ⟨S1x2048x2048, .f32⟩
  | .hbm, ⟨52, _⟩ => ⟨S1x2048x2048, .f32⟩
  | .hbm, ⟨53, _⟩ => ⟨S1x2048x2048, .f32⟩
  | .hbm, ⟨54, _⟩ => ⟨S2048x2048, .f32⟩
  | .hbm, ⟨55, _⟩ => ⟨S2048x2048, .bf16⟩
  | .hbm, ⟨56, _⟩ => ⟨S2048x2048, .f32⟩
  | .hbm, ⟨57, _⟩ => ⟨S2048x2048, .bf16⟩
  | .hbm, ⟨58, _⟩ => ⟨S2x2048x2048, .f32⟩
  | .hbm, ⟨59, _⟩ => ⟨S2x2048x2048, .bf16⟩
  | _, _ => ⟨S1x2048x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩

abbrev nD : Nat := 1
abbrev τ : Topo := Topo.v7x

variable {F : FTy → Type} [FloatOps F]
-- ==== GmlpBwd.lean ====
abbrev S1x2048x10240 : Shape := ⟨3, ![1, 2048, 10240]⟩
abbrev S1x2048x1024 : Shape := ⟨3, ![1, 2048, 1024]⟩
abbrev S1x1024 : Shape := ⟨2, ![1, 1024]⟩
abbrev S1x8x128x128 : Shape := ⟨4, ![1, 8, 128, 128]⟩
abbrev S1x8x128 : Shape := ⟨3, ![1, 8, 128]⟩
abbrev S8x128 : Shape := ⟨2, ![8, 128]⟩
abbrev S8x128x1 : Shape := ⟨3, ![8, 128, 1]⟩
abbrev S8x128x128 : Shape := ⟨3, ![8, 128, 128]⟩
abbrev S2048x10240 : Shape := ⟨2, ![2048, 10240]⟩
abbrev S2048x1024 : Shape := ⟨2, ![2048, 1024]⟩
abbrev S2048x2048 : Shape := ⟨2, ![2048, 2048]⟩
abbrev S8x1024 : Shape := ⟨2, ![8, 1024]⟩
abbrev S128x1024 : Shape := ⟨2, ![128, 1024]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S1x128 : Shape := ⟨2, ![1, 128]⟩
abbrev S1x128x1 : Shape := ⟨3, ![1, 128, 1]⟩

abbrev nBuf : Space → Nat
  | .hbm => 16
  | .vmem => 17
  | .smem => 0
  | _ => 0

abbrev bufTy : (tb : Table) → Fin (tcTables nBuf tb) → BufTy
  | .hbm, ⟨0, _⟩ => ⟨S1x2048x10240, .f32⟩
  | .hbm, ⟨1, _⟩ => ⟨S1x2048x1024, .f32⟩
  | .hbm, ⟨2, _⟩ => ⟨S1x1024, .f32⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S8x128, .f32⟩
  | .hbm, ⟨7, _⟩ => ⟨S8x128x1, .f32⟩
  | .hbm, ⟨8, _⟩ => ⟨S8x128x128, .f32⟩
  | .hbm, ⟨9, _⟩ => ⟨S2048x10240, .f32⟩
  | .hbm, ⟨10, _⟩ => ⟨S2048x1024, .f32⟩
  | .hbm, ⟨11, _⟩ => ⟨S8x128x128, .f32⟩
  | .hbm, ⟨12, _⟩ => ⟨S2048x2048, .bf16⟩
  | .hbm, ⟨13, _⟩ => ⟨S8x1024, .f32⟩
  | .hbm, ⟨14, _⟩ => ⟨S8x128x128, .f32⟩
  | .hbm, ⟨15, _⟩ => ⟨S8x128x1, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S8x128x128, .f32⟩
  | .local _ .vmem, ⟨10, _⟩ => ⟨S128x2048, .bf16⟩
  | .local _ .vmem, ⟨11, _⟩ => ⟨S128x2048, .bf16⟩
  | .local _ .vmem, ⟨12, _⟩ => ⟨S8x1024, .f32⟩
  | .local _ .vmem, ⟨13, _⟩ => ⟨S8x128x128, .f32⟩
  | .local _ .vmem, ⟨14, _⟩ => ⟨S8x128x1, .f32⟩
  | .local _ .vmem, ⟨15, _⟩ => ⟨S8x128x128, .f32⟩
  | .local _ .vmem, ⟨16, _⟩ => ⟨S128x1024, .f32⟩
  | _, _ => ⟨S1x2048x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v628 : BitVec 1 := Scalar.cmpi .eq arg0 c15_i32
  let v629 : BitVec 32 := Scalar.extui v628
  let c0_i32_373 : BitVec 32 := 0#32
  let v630 : BitVec 1 := Scalar.cmpi .ne v629 c0_i32_373
  v630

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GmlpBwdIdeal.lean ====
variable {F : FTy → Type} [FloatOps F] [Named F]
def κ : String → Option EReal := fun
  | "gelu_cubic" => some ((8943 / 200000 : ℝ) : EReal)
  | "gelu_cubic_thrice" => some ((26829 / 200000 : ℝ) : EReal)
  | _ => none
-- ==== GmlpBwdRefIdeal.lean ====
abbrev S1x2048x10240 : Shape := ⟨3, ![1, 2048, 10240]⟩
abbrev S1x2048x1024 : Shape := ⟨3, ![1, 2048, 1024]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩
abbrev S1024 : Shape := ⟨1, ![1024]⟩
abbrev S8x128x128 : Shape := ⟨3, ![8, 128, 128]⟩
abbrev S8x128 : Shape := ⟨2, ![8, 128]⟩
abbrev S1x2048 : Shape := ⟨2, ![1, 2048]⟩
abbrev S1x2048x1 : Shape := ⟨3, ![1, 2048, 1]⟩
abbrev S1x1x1024 : Shape := ⟨3, ![1, 1, 1024]⟩
abbrev S1x16x128x8x128 : Shape := ⟨5, ![1, 16, 128, 8, 128]⟩
abbrev S128x128 : Shape := ⟨2, ![128, 128]⟩
abbrev S1x128x128 : Shape := ⟨3, ![1, 128, 128]⟩
abbrev S8x1x16x128x128 : Shape := ⟨5, ![8, 1, 16, 128, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S2048 : Shape := ⟨1, ![2048]⟩
abbrev S2048x1024 : Shape := ⟨2, ![2048, 1024]⟩
abbrev S2048x2048 : Shape := ⟨2, ![2048, 2048]⟩
abbrev S6x1024 : Shape := ⟨2, ![6, 1024]⟩
abbrev S8x1024 : Shape := ⟨2, ![8, 1024]⟩
abbrev S8x128x1 : Shape := ⟨3, ![8, 128, 1]⟩

abbrev nBuf : Space → Nat
  | .hbm => 251
  | .vmem => 0
  | .smem => 0
  | _ => 0

abbrev hbmTy0_0 (i : Nat) : BufTy := match i % 128 with
  | 0 => ⟨S1x2048x10240, .f32⟩
  | 1 => ⟨S1x2048x1024, .f32⟩
  | 2 => ⟨S1x1024, .f32⟩
  | 3 => ⟨S1x1024, .f32⟩
  | 4 => ⟨S1x8x128x128, .f32⟩
  | 5 => ⟨S1x8x128, .f32⟩
  | 6 => ⟨S1x2048x1024, .f32⟩
  | 7 => ⟨S1x2048x1024, .f32⟩
  | 8 => ⟨S1x2048x1024, .f32⟩
  | 9 => ⟨S1x2048x1024, .f32⟩
  | 10 => ⟨S1x2048x1024, .f32⟩
  | 11 => ⟨S_, .f32⟩
  | 12 => ⟨S1x2048x1024, .f32⟩
  | 13 => ⟨S1x2048x1024, .f32⟩
  | 14 => ⟨S_, .f32⟩
  | 15 => ⟨S1x2048x1024, .f32⟩
  | 16 => ⟨S1x2048x1024, .f32⟩
  | 17 => ⟨S_, .f32⟩
  | 18 => ⟨S1x2048x1024, .f32⟩
  | 19 => ⟨S1x2048x1024, .f32⟩
  | 20 => ⟨S1x2048x1024, .f32⟩
  | 21 => ⟨S_, .f32⟩
  | 22 => ⟨S1x2048x1024, .f32⟩
  | 23 => ⟨S1x2048x1024, .f32⟩
  | 24 => ⟨S1x2048x1024, .f32⟩
  | 25 => ⟨S_, .f32⟩
  | 26 => ⟨S1x2048x1024, .f32⟩
  | 27 => ⟨S1x2048x1024, .f32⟩
  | 28 => ⟨S_, .f32⟩
  | 29 => ⟨S1x2048x1024, .f32⟩
  | 30 => ⟨S1x2048x1024, .f32⟩
  | 31 => ⟨S1x2048x1024, .f32⟩
  | 32 => ⟨S_, .f32⟩
  | 33 => ⟨S1x2048x1024, .f32⟩
  | 34 => ⟨S1x2048x1024, .f32⟩
  | 35 => ⟨S_, .f32⟩
  | 36 => ⟨S1x2048x1024, .f32⟩
  | 37 => ⟨S1x2048x1024, .f32⟩
  | 38 => ⟨S1x2048x1024, .f32⟩
  | 39 => ⟨S1x2048x1024, .f32⟩
  | 40 => ⟨S1x2048x1024, .f32⟩
  | 41 => ⟨S1x2048x1024, .f32⟩
  | 42 => ⟨S_, .f32⟩
  | 43 => ⟨S1x2048x1024, .f32⟩
  | 44 => ⟨S1x2048x1024, .f32⟩
  | 45 => ⟨S_, .f32⟩
  | 46 => ⟨S1x2048x1024, .f32⟩
  | 47 => ⟨S1x2048x1024, .f32⟩
  | 48 => ⟨S_, .f32⟩
  | 49 => ⟨S1x2048x1024, .f32⟩
  | 50 => ⟨S1x2048x1024, .f32⟩
  | 51 => ⟨S1x2048x1024, .f32⟩
  | 52 => ⟨S_, .f32⟩
  | 53 => ⟨S1x2048x1024, .f32⟩
  | 54 => ⟨S1x2048x1024, .f32⟩
  | 55 => ⟨S1x2048x1024, .f32⟩
  | 56 => ⟨S_, .f32⟩
  | 57 => ⟨S1x2048x1024, .f32⟩
  | 58 => ⟨S1x2048x1024, .f32⟩
  | 59 => ⟨S_, .f32⟩
  | 60 => ⟨S1x2048x1024, .f32⟩
  | 61 => ⟨S1x2048x1024, .f32⟩
  | 62 => ⟨S1x2048x1024, .f32⟩
  | 63 => ⟨S_, .f32⟩
  | 64 => ⟨S1x2048x1024, .f32⟩
  | 65 => ⟨S1x2048x1024, .f32⟩
  | 66 => ⟨S_, .f32⟩
  | 67 => ⟨S1x2048x1024, .f32⟩
  | 68 => ⟨S1x2048x1024, .f32⟩
  | 69 => ⟨S1x2048x1024, .f32⟩
  | 70 => ⟨S1024, .f32⟩
  | 71 => ⟨S1024, .f32⟩
  | 72 => ⟨S8x128x128, .f32⟩
  | 73 => ⟨S8x128, .f32⟩
  | 74 => ⟨S_, .f32⟩
  | 75 => ⟨S1x2048, .f32⟩
  | 76 => ⟨S1x2048x1, .f32⟩
  | 77 => ⟨S_, .f32⟩
  | 78 => ⟨S1x2048x1, .f32⟩
  | 79 => ⟨S1x2048x1, .f32⟩
  | 80 => ⟨S1x2048x1024, .f32⟩
  | 81 => ⟨S1x2048x1024, .f32⟩
  | 82 => ⟨S1x2048x1024, .f32⟩
  | 83 => ⟨S_, .f32⟩
  | 84 => ⟨S1x2048x1024, .f32⟩
  | 85 => ⟨S1x2048x1024, .f32⟩
  | 86 => ⟨S_, .f32⟩
  | 87 => ⟨S1x2048, .f32⟩
  | 88 => ⟨S1x2048x1, .f32⟩
  | 89 => ⟨S_, .f32⟩
  | 90 => ⟨S1x2048x1, .f32⟩
  | 91 => ⟨S1x2048x1, .f32⟩
  | 92 => ⟨S1x2048x1024, .f32⟩
  | 93 => ⟨S1x2048x1024, .f32⟩
  | 94 => ⟨S_, .f32⟩
  | 95 => ⟨S1x2048x1, .f32⟩
  | 96 => ⟨S1x2048x1, .f32⟩
  | 97 => ⟨S1x2048x1, .f32⟩
  | 98 => ⟨S1x2048x1, .f32⟩
  | 99 => ⟨S_, .f32⟩
  | 100 => ⟨S1x2048x1, .f32⟩
  | 101 => ⟨S1x2048x1, .f32⟩
  | 102 => ⟨S1x2048x1024, .f32⟩
  | 103 => ⟨S1x2048x1024, .f32⟩
  | 104 => ⟨S1x1x1024, .f32⟩
  | 105 => ⟨S1x2048x1024, .f32⟩
  | 106 => ⟨S1x2048x1024, .f32⟩
  | 107 => ⟨S1x1x1024, .f32⟩
  | 108 => ⟨S1x2048x1024, .f32⟩
  | 109 => ⟨S1x2048x1024, .f32⟩
  | 110 => ⟨S1x16x128x8x128, .f32⟩
  | 111 => ⟨S_, .i1⟩
  | 112 => ⟨S128x128, .i1⟩
  | 113 => ⟨S128x128, .i32⟩
  | 114 => ⟨S_, .i32⟩
  | 115 => ⟨S128x128, .i32⟩
  | 116 => ⟨S128x128, .i32⟩
  | 117 => ⟨S128x128, .i32⟩
  | 118 => ⟨S128x128, .i1⟩
  | 119 => ⟨S_, .i1⟩
  | 120 => ⟨S128x128, .i1⟩
  | 121 => ⟨S128x128, .i1⟩
  | 122 => ⟨S1x128x128, .i1⟩
  | 123 => ⟨S_, .i32⟩
  | 124 => ⟨S_, .f32⟩
  | 125 => ⟨S8x128x128, .i1⟩
  | 126 => ⟨S8x128x128, .f32⟩
  | 127 => ⟨S8x128x128, .f32⟩
  | _ => ⟨S1x2048x10240, .f32⟩

abbrev hbmTy0_1 (i : Nat) : BufTy := match i % 128 with
  | 0 => ⟨S_, .f32⟩
  | 1 => ⟨S8x128x128, .f32⟩
  | 2 => ⟨S8x1x16x128x128, .f32⟩
  | 3 => ⟨S1x16x128x8x128, .f32⟩
  | 4 => ⟨S128x8, .f32⟩
  | 5 => ⟨S1x1x128x8x1, .f32⟩
  | 6 => ⟨S1x16x128x8x128, .f32⟩
  | 7 => ⟨S1x16x128x8x128, .f32⟩
  | 8 => ⟨S1x2048x1024, .f32⟩
  | 9 => ⟨S1x2048x1024, .f32⟩
  | 10 => ⟨S1x2048x1024, .f32⟩
  | 11 => ⟨S1x2048x1024, .f32⟩
  | 12 => ⟨S1x16x128x8x128, .f32⟩
  | 13 => ⟨S_, .f32⟩
  | 14 => ⟨S1x128x8, .f32⟩
  | 15 => ⟨S1x1x128x8x1, .f32⟩
  | 16 => ⟨S_, .f32⟩
  | 17 => ⟨S128x8, .f32⟩
  | 18 => ⟨S8x128, .f32⟩
  | 19 => ⟨S8x1x16x128x128, .f32⟩
  | 20 => ⟨S8x128x128, .f32⟩
  | 21 => ⟨S8x1x16x128x128, .f32⟩
  | 22 => ⟨S1x16x128x8x128, .f32⟩
  | 23 => ⟨S_, .f32⟩
  | 24 => ⟨S8x128x128, .f32⟩
  | 25 => ⟨S8x128x128, .f32⟩
  | 26 => ⟨S1x2048x1024, .f32⟩
  | 27 => ⟨S_, .f32⟩
  | 28 => ⟨S1x1024, .f32⟩
  | 29 => ⟨S1x1x1024, .f32⟩
  | 30 => ⟨S_, .f32⟩
  | 31 => ⟨S1024, .f32⟩
  | 32 => ⟨S1x2048x1024, .f32⟩
  | 33 => ⟨S_, .f32⟩
  | 34 => ⟨S1x1024, .f32⟩
  | 35 => ⟨S1x1x1024, .f32⟩
  | 36 => ⟨S1x2048x1024, .f32⟩
  | 37 => ⟨S1x2048x1024, .f32⟩
  | 38 => ⟨S_, .f32⟩
  | 39 => ⟨S1024, .f32⟩
  | 40 => ⟨S1x2048x1024, .f32⟩
  | 41 => ⟨S_, .f32⟩
  | 42 => ⟨S1x2048, .f32⟩
  | 43 => ⟨S1x2048x1, .f32⟩
  | 44 => ⟨S1x2048x1024, .f32⟩
  | 45 => ⟨S1x2048x1024, .f32⟩
  | 46 => ⟨S1x2048x1, .f32⟩
  | 47 => ⟨S1x2048x1024, .f32⟩
  | 48 => ⟨S_, .f32⟩
  | 49 => ⟨S1x2048, .f32⟩
  | 50 => ⟨S1x2048x1, .f32⟩
  | 51 => ⟨S_, .f32⟩
  | 52 => ⟨S1x2048x1, .f32⟩
  | 53 => ⟨S1x2048x1, .f32⟩
  | 54 => ⟨S_, .f32⟩
  | 55 => ⟨S2048, .f32⟩
  | 56 => ⟨S1x2048, .f32⟩
  | 57 => ⟨S1x2048x1024, .f32⟩
  | 58 => ⟨S1x2048x1024, .f32⟩
  | 59 => ⟨S1x2048x1024, .f32⟩
  | 60 => ⟨S_, .f32⟩
  | 61 => ⟨S1x2048, .f32⟩
  | 62 => ⟨S1x2048x1, .f32⟩
  | 63 => ⟨S1x2048x1024, .f32⟩
  | 64 => ⟨S1x2048x1, .f32⟩
  | 65 => ⟨S_, .f32⟩
  | 66 => ⟨S1x2048x1, .f32⟩
  | 67 => ⟨S1x2048x1, .f32⟩
  | 68 => ⟨S_, .f32⟩
  | 69 => ⟨S2048, .f32⟩
  | 70 => ⟨S1x2048, .f32⟩
  | 71 => ⟨S1x2048x1024, .f32⟩
  | 72 => ⟨S1x2048x1024, .f32⟩
  | 73 => ⟨S1x8x128, .f32⟩
  | 74 => ⟨S1x8x128x128, .f32⟩
  | 75 => ⟨S1x1024, .f32⟩
  | 76 => ⟨S1x1024, .f32⟩
  | 77 => ⟨S1x2048x1024, .f32⟩
  | 78 => ⟨S1x2048x1024, .f32⟩
  | 79 => ⟨S_, .f32⟩
  | 80 => ⟨S1x2048x1024, .f32⟩
  | 81 => ⟨S1x2048x1024, .f32⟩
  | 82 => ⟨S1x2048x1024, .f32⟩
  | 83 => ⟨S_, .f32⟩
  | 84 => ⟨S1x2048x1024, .f32⟩
  | 85 => ⟨S1x2048x1024, .f32⟩
  | 86 => ⟨S1x2048x1024, .f32⟩
  | 87 => ⟨S_, .f32⟩
  | 88 => ⟨S1x2048x1024, .f32⟩
  | 89 => ⟨S1x2048x1024, .f32⟩
  | 90 => ⟨S_, .f32⟩
  | 91 => ⟨S1x2048x1024, .f32⟩
  | 92 => ⟨S1x2048x1024, .f32⟩
  | 93 => ⟨S1x2048x1024, .f32⟩
  | 94 => ⟨S1x2048x1024, .f32⟩
  | 95 => ⟨S1x2048x1024, .f32⟩
  | 96 => ⟨S1x2048x1024, .f32⟩
  | 97 => ⟨S_, .f32⟩
  | 98 => ⟨S1x2048x1024, .f32⟩
  | 99 => ⟨S1x2048x1024, .f32⟩
  | 100 => ⟨S1x2048x1024, .f32⟩
  | 101 => ⟨S_, .f32⟩
  | 102 => ⟨S1x2048x1024, .f32⟩
  | 103 => ⟨S1x2048x1024, .f32⟩
  | 104 => ⟨S1x2048x1024, .f32⟩
  | 105 => ⟨S_, .f32⟩
  | 106 => ⟨S1x2048x1024, .f32⟩
  | 107 => ⟨S1x2048x1024, .f32⟩
  | 108 => ⟨S_, .f32⟩
  | 109 => ⟨S1x2048x1024, .f32⟩
  | 110 => ⟨S1x2048x1024, .f32⟩
  | 111 => ⟨S1x2048x1024, .f32⟩
  | 112 => ⟨S1x2048x1024, .f32⟩
  | 113 => ⟨S2048x1024, .f32⟩
  | 114 => ⟨S2048x1024, .f32⟩
  | 115 => ⟨S2048x2048, .f32⟩
  | 116 => ⟨S2048x2048, .bf16⟩
  | 117 => ⟨S_, .f32⟩
  | 118 => ⟨S6x1024, .f32⟩
  | 119 => ⟨S8x1024, .f32⟩
  | 120 => ⟨S8x128x128, .f32⟩
  | 121 => ⟨S8x128, .f32⟩
  | 122 => ⟨S8x128x1, .f32⟩
  | _ => ⟨S1x2048x10240, .f32⟩

abbrev hbmTy (i : Nat) : BufTy := match i / 128 with
  | 0 => hbmTy0_0 i
  | 1 => hbmTy0_1 i
  | _ => ⟨S1x2048x10240, .f32⟩

abbrev bufTy : (tb : Table) → Fin (tcTables nBuf tb) → BufTy
  | .hbm, ⟨i, _⟩ => hbmTy i
  | _, _ => ⟨S1x2048x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_cst_12 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_13 : Ref sig .tc := ⟨.hbm, 63, rfl⟩
abbrev main_v43 : Ref sig .tc := ⟨.hbm, 64, rfl⟩
abbrev main_v44 : Ref sig .tc := ⟨.hbm, 65, rfl⟩
abbrev main_cst_14 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_15 : Ref sig .tc := ⟨.hbm, 74, rfl⟩
abbrev main_v52 : Ref sig .tc := ⟨.hbm, 75, rfl⟩
abbrev main_v53 : Ref sig .tc := ⟨.hbm, 76, rfl⟩
abbrev main_cst_16 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_17 : Ref sig .tc := ⟨.hbm, 83, rfl⟩
abbrev main_v59 : Ref sig .tc := ⟨.hbm, 84, rfl⟩
abbrev main_v60 : Ref sig .tc := ⟨.hbm, 85, rfl⟩
abbrev main_cst_18 : Ref sig .tc := ⟨.hbm, 86, rfl⟩
abbrev main_v61 : Ref sig .tc := ⟨.hbm, 87, rfl⟩
abbrev main_v62 : Ref sig .tc := ⟨.hbm, 88, rfl⟩
abbrev main_cst_19 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_20 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_21 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c : Ref sig .tc := ⟨.hbm, 111, rfl⟩
abbrev main_v82 : Ref sig .tc := ⟨.hbm, 112, rfl⟩
abbrev main_call0_v0 : Ref sig .tc := ⟨.hbm, 113, rfl⟩
abbrev main_call0_c : Ref sig .tc := ⟨.hbm, 114, rfl⟩
abbrev main_call0_v1 : Ref sig .tc := ⟨.hbm, 115, rfl⟩
abbrev main_call0_v2 : Ref sig .tc := ⟨.hbm, 116, rfl⟩
abbrev main_call0_v3 : Ref sig .tc := ⟨.hbm, 117, rfl⟩
abbrev main_call0_v4 : Ref sig .tc := ⟨.hbm, 118, rfl⟩
abbrev main_call0_c_0 : Ref sig .tc := ⟨.hbm, 119, rfl⟩
abbrev main_call0_v5 : Ref sig .tc := ⟨.hbm, 120, rfl⟩
abbrev main_v83 : Ref sig .tc := ⟨.hbm, 121, rfl⟩
abbrev main_v84 : Ref sig .tc := ⟨.hbm, 122, rfl⟩
abbrev main_c_22 : Ref sig .tc := ⟨.hbm, 123, rfl⟩
abbrev main_call1_v0 : Ref sig .tc := ⟨.hbm, 124, rfl⟩
abbrev main_v85_1 : Ref sig .tc := ⟨.hbm, 125, rfl⟩
abbrev main_call1_v2 : Ref sig .tc := ⟨.hbm, 126, rfl⟩
abbrev main_v85_0 : Ref sig .tc := ⟨.hbm, 127, rfl⟩
abbrev main_call1_cst : Ref sig .tc := ⟨.hbm, 128, rfl⟩
abbrev main_v85_2 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_23 : Ref sig .tc := ⟨.hbm, 141, rfl⟩
abbrev main_v97 : Ref sig .tc := ⟨.hbm, 142, rfl⟩
abbrev main_v98 : Ref sig .tc := ⟨.hbm, 143, rfl⟩
abbrev main_cst_24 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_call2_cst : Ref sig .tc := ⟨.hbm, 151, rfl⟩
abbrev main_call2_v0 : Ref sig .tc := ⟨.hbm, 152, rfl⟩
abbrev main_v105 : Ref sig .tc := ⟨.hbm, 153, rfl⟩
abbrev main_v106 : Ref sig .tc := ⟨.hbm, 154, rfl⟩
abbrev main_cst_25 : Ref sig .tc := ⟨.hbm, 155, rfl⟩
abbrev main_v107 : Ref sig .tc := ⟨.hbm, 156, rfl⟩
abbrev main_v108 : Ref sig .tc := ⟨.hbm, 157, rfl⟩
abbrev main_cst_26 : Ref sig .tc := ⟨.hbm, 158, rfl⟩
abbrev main_v109 : Ref sig .tc := ⟨.hbm, 159, rfl⟩
abbrev main_v110 : Ref sig .tc := ⟨.hbm, 160, rfl⟩
abbrev main_cst_27 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_cst_28 : Ref sig .tc := ⟨.hbm, 166, rfl⟩
abbrev main_v115 : Ref sig .tc := ⟨.hbm, 167, rfl⟩
abbrev main_v116 : Ref sig .tc := ⟨.hbm, 168, rfl⟩
abbrev main_cst_29 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_cst_30 : Ref sig .tc := ⟨.hbm, 176, rfl⟩
abbrev main_v123 : Ref sig .tc := ⟨.hbm, 177, rfl⟩
abbrev main_v124 : Ref sig .tc := ⟨.hbm, 178, rfl⟩
abbrev main_cst_31 : Ref sig .tc := ⟨.hbm, 179, rfl⟩
abbrev main_v125 : Ref sig .tc := ⟨.hbm, 180, rfl⟩
abbrev main_v126 : Ref sig .tc := ⟨.hbm, 181, rfl⟩
abbrev main_cst_32 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_cst_33 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_cst_34 : Ref sig .tc := ⟨.hbm, 193, rfl⟩
abbrev main_v136 : Ref sig .tc := ⟨.hbm, 194, rfl⟩
abbrev main_v137 : Ref sig .tc := ⟨.hbm, 195, rfl⟩
abbrev main_cst_35 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_cst_36 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_cst_37 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_cst_38 : Ref sig .tc := ⟨.hbm, 215, rfl⟩
abbrev main_v154 : Ref sig .tc := ⟨.hbm, 216, rfl⟩
abbrev main_v155 : Ref sig .tc := ⟨.hbm, 217, rfl⟩
abbrev main_cst_39 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_cst_40 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_cst_41 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_cst_42 : Ref sig .tc := ⟨.hbm, 233, rfl⟩
abbrev main_v168 : Ref sig .tc := ⟨.hbm, 234, rfl⟩
abbrev main_v169 : Ref sig .tc := ⟨.hbm, 235, rfl⟩
abbrev main_cst_43 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_cst_44 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩

abbrev nD : Nat := 1
abbrev τ : Topo := Topo.v7x

variable {F : FTy → Type} [FloatOps F]
-- ==== NormTwoBwd.lean ====
abbrev S1x2048x2048 : Shape := ⟨3, ![1, 2048, 2048]⟩
abbrev S1x2048 : Shape := ⟨2, ![1, 2048]⟩
abbrev S1x1x2048 : Shape := ⟨3, ![1, 1, 2048]⟩
abbrev S2048x2048 : Shape := ⟨2, ![2048, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 20
  | .vmem => 16
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048x2048, .f32⟩
  | .hbm, ⟨7, _⟩ => ⟨S1x2048x2048, .f32⟩
  | .hbm, ⟨8, _⟩ => ⟨S1x1x2048, .f32⟩
  | .hbm, ⟨9, _⟩ => ⟨S1x2048x2048, .f32⟩
  | .hbm, ⟨10, _⟩ => ⟨S1x2048x2048, .f32⟩
  | .hbm, ⟨11, _⟩ => ⟨S1x2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .bf16⟩
  | .hbm, ⟨17, _⟩ => ⟨S2048x2048, .f32⟩
  | .hbm, ⟨18, _⟩ => ⟨S8x2048, .f32⟩
  | .hbm, ⟨19, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S8x2048, .f32⟩
  | .local _ .vmem, ⟨14, _⟩ => ⟨S256x2048, .bf16⟩
  | .local _ .vmem, ⟨15, _⟩ => ⟨S256x2048, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== NormTwoBwdRefIdeal.lean ====
abbrev S1x2048x2048 : Shape := ⟨3, ![1, 2048, 2048]⟩
abbrev S1x2048 : Shape := ⟨2, ![1, 2048]⟩
abbrev S1x1x2048 : Shape := ⟨3, ![1, 1, 2048]⟩
abbrev S2048 : Shape := ⟨1, ![2048]⟩
abbrev S_ : Shape := ⟨0, ![]⟩
abbrev S1x2048x1 : Shape := ⟨3, ![1, 2048, 1]⟩
abbrev S2048x2048 : Shape := ⟨2, ![2048, 2048]⟩
abbrev S4x2048 : Shape := ⟨2, ![4, 2048]⟩
abbrev S8x2048 : Shape := ⟨2, ![8, 2048]⟩

abbrev nBuf : Space → Nat
  | .hbm => 102
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048x2048, .f32⟩
  | .hbm, ⟨7, _⟩ => ⟨S1x2048x2048, .f32⟩
  | .hbm, ⟨8, _⟩ => ⟨S1x1x2048, .f32⟩
  | .hbm, ⟨9, _⟩ => ⟨S1x2048x2048, .f32⟩
  | .hbm, ⟨10, _⟩ => ⟨S1x2048x2048, .f32⟩
  | .hbm, ⟨11, _⟩ => ⟨S1x2048x2048, .f32⟩
  | .hbm, ⟨12, _⟩ => ⟨S2048, .f32⟩
  | .hbm, ⟨13, _⟩ => ⟨S1x2048x2048, .f32⟩
  | .hbm, ⟨14, _⟩ => ⟨S_, .f32⟩
  | .hbm, ⟨15, _⟩ => ⟨S1x2048, .f32⟩
  | .hbm, ⟨16, _⟩ => ⟨S1x2048x1, .f32⟩
  | .hbm, ⟨17, _⟩ => ⟨S_, .f32⟩
  | .hbm, ⟨18, _⟩ => ⟨S1x2048x1, .f32⟩
  | .hbm, ⟨19, _⟩ => ⟨S1x2048x1, .f32⟩
  | .hbm, ⟨20, _⟩ => ⟨S_, .f32⟩
  | .hbm, ⟨21, _⟩ => ⟨S1x2048x1, .f32⟩
  | .hbm, ⟨22, _⟩ => ⟨S1x2048x1, .f32⟩
  | .hbm, ⟨23, _⟩ => ⟨S1x2048x1, .f32⟩
  | .hbm, ⟨24, _⟩ => ⟨S1x2048x1, .f32⟩
  | .hbm, ⟨25, _⟩ => ⟨S_, .f32⟩
  | .hbm, ⟨26, _⟩ => ⟨S1x2048x1, .f32⟩
  | .hbm, ⟨27, _⟩ => ⟨S1x2048x1, .f32⟩
  | .hbm, ⟨28, _⟩ => ⟨S1x2048x2048, .f32⟩
  | .hbm, ⟨29, _⟩ => ⟨S1x2048x2048, .f32⟩
  | .hbm, ⟨30, _⟩ => ⟨S1x1x2048, .f32⟩
  | .hbm, ⟨31, _⟩ => ⟨S1x2048x2048, .f32⟩
  | .hbm, ⟨32, _⟩ => ⟨S1x2048x2048, .f32⟩
  | .hbm, ⟨33, _⟩ => ⟨S1x1x2048, .f32⟩
  | .hbm, ⟨34, _⟩ => ⟨S_, .f32⟩
  | .hbm, ⟨35, _⟩ => ⟨S1x1x2048, .f32⟩
  | .hbm, ⟨36, _⟩ => ⟨S1x1x2048, .f32⟩
  | .hbm, ⟨37, _⟩ => ⟨S1x2048x2048, .f32⟩
  | .hbm, ⟨38, _⟩ => ⟨S1x2048x2048, .f32⟩
  | .hbm, ⟨39, _⟩ => ⟨S1x1x2048, .f32⟩
  | .hbm, ⟨40, _⟩ => ⟨S1x2048x2048, .f32⟩
  | .hbm, ⟨41, _⟩ => ⟨S1x2048x2048, .f32⟩
  | .hbm, ⟨42, _⟩ => ⟨S1x2048x2048, .f32⟩
  | .hbm, ⟨43, _⟩ => ⟨S_, .f32⟩
  | .hbm, ⟨44, _⟩ => ⟨S1x2048, .f32⟩
  | .hbm, ⟨45, _⟩ => ⟨S1x1x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S1x2048x2048, .f32⟩
  | .hbm, ⟨50, _⟩ => ⟨S_, .f32⟩
  | .hbm, ⟨51, _⟩ => ⟨S1x2048, .f32⟩
  | .hbm, ⟨52, _⟩ => ⟨S1x1x2048, .f32⟩
  | .hbm, ⟨53, _⟩ => ⟨S1x2048x2048, .f32⟩
  | .hbm, ⟨54, _⟩ => ⟨S1x2048x2048, .f32⟩
  | .hbm, ⟨55, _⟩ => ⟨S_, .f32⟩
  | .hbm, ⟨56, _⟩ => ⟨S2048, .f32⟩
  | .hbm, ⟨57, _⟩ => ⟨S1x2048, .f32⟩
  | .hbm, ⟨58, _⟩ => ⟨S1x2048x2048, .f32⟩
  | .hbm, ⟨59, _⟩ => ⟨S_, .f32⟩
  | .hbm, ⟨60, _⟩ => ⟨S1x2048, .f32⟩
  | .hbm, ⟨61, _⟩ => ⟨S1x1x2048, .f32⟩
  | .hbm, ⟨62, _⟩ => ⟨S1x2048x2048, .f32⟩
  | .hbm, ⟨63, _⟩ => ⟨S1x2048x2048, .f32⟩
  | .hbm, ⟨64, _⟩ => ⟨S_, .f32⟩
  | .hbm, ⟨65, _⟩ => ⟨S2048, .f32⟩
  | .hbm, ⟨66, _⟩ => ⟨S1x2048x2048, .f32⟩
  | .hbm, ⟨67, _⟩ => ⟨S_, .f32⟩
  | .hbm, ⟨68, _⟩ => ⟨S1x2048, .f32⟩
  | .hbm, ⟨69, _⟩ => ⟨S1x2048x1, .f32⟩
  | .hbm, ⟨70, _⟩ => ⟨S1x2048x2048, .f32⟩
  | .hbm, ⟨71, _⟩ => ⟨S1x2048x2048, .f32⟩
  | .hbm, ⟨72, _⟩ => ⟨S1x2048x2048, .f32⟩
  | .hbm, ⟨73, _⟩ => ⟨S1x2048x1, .f32⟩
  | .hbm, ⟨74, _⟩ => ⟨S_, .f32⟩
  | .hbm, ⟨75, _⟩ => ⟨S1x2048x1, .f32⟩
  | .hbm, ⟨76, _⟩ => ⟨S1x2048x1, .f32⟩
  | .hbm, ⟨77, _⟩ => ⟨S_, .f32⟩
  | .hbm, ⟨78, _⟩ => ⟨S2048, .f32⟩
  | .hbm, ⟨79, _⟩ => ⟨S1x2048, .f32⟩
  | .hbm, ⟨80, _⟩ => ⟨S1x2048x2048, .f32⟩
  | .hbm, ⟨81, _⟩ => ⟨S1x2048x2048, .f32⟩
  | .hbm, ⟨82, _⟩ => ⟨S1x2048x2048, .f32⟩
  | .hbm, ⟨83, _⟩ => ⟨S1x2048x2048, .f32⟩
  | .hbm, ⟨84, _⟩ => ⟨S1x2048x2048, .f32⟩
  | .hbm, ⟨85, _⟩ => ⟨S1x2048, .f32⟩
  | .hbm, ⟨86, _⟩ => ⟨S1x2048x2048, .f32⟩
  | .hbm, ⟨87, _⟩ => ⟨S1x2048x2048, .f32⟩
  | .hbm, ⟨88, _⟩ => ⟨S1x2048x2048, .f32⟩
  | .hbm, ⟨89, _⟩ => ⟨S1x2048x2048, .f32⟩
  | .hbm, ⟨90, _⟩ => ⟨S_, .f32⟩
  | .hbm, ⟨91, _⟩ => ⟨S1x2048, .f32⟩
  | .hbm, ⟨92, _⟩ => ⟨S1x1x2048, .f32⟩
  | .hbm, ⟨93, _⟩ => ⟨S_, .f32⟩
  | .hbm, ⟨94, _⟩ => ⟨S2048, .f32⟩
  | .hbm, ⟨95, _⟩ => ⟨S1x2048, .f32⟩
  | .hbm, ⟨96, _⟩ => ⟨S2048x2048, .f32⟩
  | .hbm, ⟨97, _⟩ => ⟨S_, .f32⟩
  | .hbm, ⟨98, _⟩ => ⟨S4x2048, .f32⟩
  | .hbm, ⟨99, _⟩ => ⟨S8x2048, .f32⟩
  | .hbm, ⟨100, _⟩ => ⟨S2048x2048, .f32⟩
  | .hbm, ⟨101, _⟩ => ⟨S2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_11 : Ref sig .tc := ⟨.hbm, 74, rfl⟩
abbrev main_v54 : Ref sig .tc := ⟨.hbm, 75, rfl⟩
abbrev main_v55 : Ref sig .tc := ⟨.hbm, 76, rfl⟩
abbrev main_cst_12 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_13 : Ref sig .tc := ⟨.hbm, 90, rfl⟩
abbrev main_v68 : Ref sig .tc := ⟨.hbm, 91, rfl⟩
abbrev main_v69 : Ref sig .tc := ⟨.hbm, 92, rfl⟩
abbrev main_cst_14 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_15 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩

abbrev nD : Nat := 1
abbrev τ : Topo := Topo.v7x

variable {F : FTy → Type} [FloatOps F]
-- ==== NormOneBwd.lean ====
abbrev S1x2048x2048 : Shape := ⟨3, ![1, 2048, 2048]⟩
abbrev S1x2048 : Shape := ⟨2, ![1, 2048]⟩
abbrev S2048x2048 : Shape := ⟨2, ![2048, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 11
  | .vmem => 11
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048x2048, .f32⟩
  | .hbm, ⟨5, _⟩ => ⟨S1x2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S8x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormOneBwdRefIdeal.lean ====
abbrev S1x2048x2048 : Shape := ⟨3, ![1, 2048, 2048]⟩
abbrev S1x2048 : Shape := ⟨2, ![1, 2048]⟩
abbrev S2048 : Shape := ⟨1, ![2048]⟩
abbrev S_ : Shape := ⟨0, ![]⟩
abbrev S1x2048x1 : Shape := ⟨3, ![1, 2048, 1]⟩
abbrev S1x1x2048 : Shape := ⟨3, ![1, 1, 2048]⟩
abbrev S2048x2048 : Shape := ⟨2, ![2048, 2048]⟩
abbrev S5x2048 : Shape := ⟨2, ![5, 2048]⟩
abbrev S8x2048 : Shape := ⟨2, ![8, 2048]⟩

abbrev nBuf : Space → Nat
  | .hbm => 84
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048x2048, .f32⟩
  | .hbm, ⟨5, _⟩ => ⟨S1x2048x2048, .f32⟩
  | .hbm, ⟨6, _⟩ => ⟨S2048, .f32⟩
  | .hbm, ⟨7, _⟩ => ⟨S1x2048x2048, .f32⟩
  | .hbm, ⟨8, _⟩ => ⟨S_, .f32⟩
  | .hbm, ⟨9, _⟩ => ⟨S1x2048, .f32⟩
  | .hbm, ⟨10, _⟩ => ⟨S1x2048x1, .f32⟩
  | .hbm, ⟨11, _⟩ => ⟨S_, .f32⟩
  | .hbm, ⟨12, _⟩ => ⟨S1x2048x1, .f32⟩
  | .hbm, ⟨13, _⟩ => ⟨S1x2048x1, .f32⟩
  | .hbm, ⟨14, _⟩ => ⟨S_, .f32⟩
  | .hbm, ⟨15, _⟩ => ⟨S1x2048x1, .f32⟩
  | .hbm, ⟨16, _⟩ => ⟨S1x2048x1, .f32⟩
  | .hbm, ⟨17, _⟩ => ⟨S1x2048x1, .f32⟩
  | .hbm, ⟨18, _⟩ => ⟨S1x2048x1, .f32⟩
  | .hbm, ⟨19, _⟩ => ⟨S_, .f32⟩
  | .hbm, ⟨20, _⟩ => ⟨S1x2048x1, .f32⟩
  | .hbm, ⟨21, _⟩ => ⟨S1x2048x1, .f32⟩
  | .hbm, ⟨22, _⟩ => ⟨S1x2048x2048, .f32⟩
  | .hbm, ⟨23, _⟩ => ⟨S1x2048x2048, .f32⟩
  | .hbm, ⟨24, _⟩ => ⟨S1x1x2048, .f32⟩
  | .hbm, ⟨25, _⟩ => ⟨S1x2048x2048, .f32⟩
  | .hbm, ⟨26, _⟩ => ⟨S1x2048x2048, .f32⟩
  | .hbm, ⟨27, _⟩ => ⟨S1x1x2048, .f32⟩
  | .hbm, ⟨28, _⟩ => ⟨S_, .f32⟩
  | .hbm, ⟨29, _⟩ => ⟨S1x1x2048, .f32⟩
  | .hbm, ⟨30, _⟩ => ⟨S1x1x2048, .f32⟩
  | .hbm, ⟨31, _⟩ => ⟨S1x2048x2048, .f32⟩
  | .hbm, ⟨32, _⟩ => ⟨S1x2048x2048, .f32⟩
  | .hbm, ⟨33, _⟩ => ⟨S1x1x2048, .f32⟩
  | .hbm, ⟨34, _⟩ => ⟨S1x2048x2048, .f32⟩
  | .hbm, ⟨35, _⟩ => ⟨S1x2048x2048, .f32⟩
  | .hbm, ⟨36, _⟩ => ⟨S1x2048x2048, .f32⟩
  | .hbm, ⟨37, _⟩ => ⟨S_, .f32⟩
  | .hbm, ⟨38, _⟩ => ⟨S1x2048, .f32⟩
  | .hbm, ⟨39, _⟩ => ⟨S1x1x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S1x2048x2048, .f32⟩
  | .hbm, ⟨44, _⟩ => ⟨S_, .f32⟩
  | .hbm, ⟨45, _⟩ => ⟨S1x2048, .f32⟩
  | .hbm, ⟨46, _⟩ => ⟨S1x1x2048, .f32⟩
  | .hbm, ⟨47, _⟩ => ⟨S1x2048x2048, .f32⟩
  | .hbm, ⟨48, _⟩ => ⟨S1x2048x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S1x2048x2048, .f32⟩
  | .hbm, ⟨53, _⟩ => ⟨S_, .f32⟩
  | .hbm, ⟨54, _⟩ => ⟨S1x2048, .f32⟩
  | .hbm, ⟨55, _⟩ => ⟨S1x1x2048, .f32⟩
  | .hbm, ⟨56, _⟩ => ⟨S1x2048x2048, .f32⟩
  | .hbm, ⟨57, _⟩ => ⟨S1x2048x2048, .f32⟩
  | .hbm, ⟨58, _⟩ => ⟨S_, .f32⟩
  | .hbm, ⟨59, _⟩ => ⟨S2048, .f32⟩
  | .hbm, ⟨60, _⟩ => ⟨S1x2048x2048, .f32⟩
  | .hbm, ⟨61, _⟩ => ⟨S_, .f32⟩
  | .hbm, ⟨62, _⟩ => ⟨S1x2048, .f32⟩
  | .hbm, ⟨63, _⟩ => ⟨S1x2048x1, .f32⟩
  | .hbm, ⟨64, _⟩ => ⟨S1x2048x2048, .f32⟩
  | .hbm, ⟨65, _⟩ => ⟨S1x2048x2048, .f32⟩
  | .hbm, ⟨66, _⟩ => ⟨S1x2048x2048, .f32⟩
  | .hbm, ⟨67, _⟩ => ⟨S1x2048x1, .f32⟩
  | .hbm, ⟨68, _⟩ => ⟨S_, .f32⟩
  | .hbm, ⟨69, _⟩ => ⟨S1x2048x1, .f32⟩
  | .hbm, ⟨70, _⟩ => ⟨S1x2048x1, .f32⟩
  | .hbm, ⟨71, _⟩ => ⟨S_, .f32⟩
  | .hbm, ⟨72, _⟩ => ⟨S2048, .f32⟩
  | .hbm, ⟨73, _⟩ => ⟨S1x2048, .f32⟩
  | .hbm, ⟨74, _⟩ => ⟨S1x2048x2048, .f32⟩
  | .hbm, ⟨75, _⟩ => ⟨S1x2048x2048, .f32⟩
  | .hbm, ⟨76, _⟩ => ⟨S1x2048x2048, .f32⟩
  | .hbm, ⟨77, _⟩ => ⟨S1x2048x2048, .f32⟩
  | .hbm, ⟨78, _⟩ => ⟨S1x2048x2048, .f32⟩
  | .hbm, ⟨79, _⟩ => ⟨S1x2048, .f32⟩
  | .hbm, ⟨80, _⟩ => ⟨S2048x2048, .f32⟩
  | .hbm, ⟨81, _⟩ => ⟨S_, .f32⟩
  | .hbm, ⟨82, _⟩ => ⟨S5x2048, .f32⟩
  | .hbm, ⟨83, _⟩ => ⟨S8x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== LossHead.lean ====
abbrev S1x2048x2048 : Shape := ⟨3, ![1, 2048, 2048]⟩
abbrev S1x2048 : Shape := ⟨2, ![1, 2048]⟩
abbrev S2048 : Shape := ⟨1, ![2048]⟩
abbrev S1x1x2048 : Shape := ⟨3, ![1, 1, 2048]⟩
abbrev S2048x2048 : Shape := ⟨2, ![2048, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 17
  | .vmem => 13
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048, .f32⟩
  | .hbm, ⟨3, _⟩ => ⟨S2048, .f32⟩
  | .hbm, ⟨4, _⟩ => ⟨S1x2048x2048, .f32⟩
  | .hbm, ⟨5, _⟩ => ⟨S1x1x2048, .f32⟩
  | .hbm, ⟨6, _⟩ => ⟨S1x2048x2048, .f32⟩
  | .hbm, ⟨7, _⟩ => ⟨S1x2048x2048, .f32⟩
  | .hbm, ⟨8, _⟩ => ⟨S1x2048x2048, .f32⟩
  | .hbm, ⟨9, _⟩ => ⟨S2048x2048, .f32⟩
  | .hbm, ⟨10, _⟩ => ⟨S2048x2048, .f32⟩
  | .hbm, ⟨11, _⟩ => ⟨S1x2048, .f32⟩
  | .hbm, ⟨12, _⟩ => ⟨S2048x2048, .f32⟩
  | .hbm, ⟨13, _⟩ => ⟨S2048x2048, .bf16⟩
  | .hbm, ⟨14, _⟩ => ⟨S2048x2048, .f32⟩
  | .hbm, ⟨15, _⟩ => ⟨S2048x2048, .bf16⟩
  | .hbm, ⟨16, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S8x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossHeadRefIdeal.lean ====
abbrev S1x2048x2048 : Shape := ⟨3, ![1, 2048, 2048]⟩
abbrev S1x2048 : Shape := ⟨2, ![1, 2048]⟩
abbrev S2048 : Shape := ⟨1, ![2048]⟩
abbrev S1x1x2048 : Shape := ⟨3, ![1, 1, 2048]⟩
abbrev S_ : Shape := ⟨0, ![]⟩
abbrev S1x2048x1 : Shape := ⟨3, ![1, 2048, 1]⟩
abbrev S1x1 : Shape := ⟨2, ![1, 1]⟩
abbrev S5x2048 : Shape := ⟨2, ![5, 2048]⟩
abbrev S8x2048 : Shape := ⟨2, ![8, 2048]⟩
abbrev S2048x2048 : Shape := ⟨2, ![2048, 2048]⟩

abbrev nBuf : Space → Nat
  | .hbm => 96
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048, .f32⟩
  | .hbm, ⟨3, _⟩ => ⟨S2048, .f32⟩
  | .hbm, ⟨4, _⟩ => ⟨S1x2048x2048, .f32⟩
  | .hbm, ⟨5, _⟩ => ⟨S1x1x2048, .f32⟩
  | .hbm, ⟨6, _⟩ => ⟨S1x2048x2048, .f32⟩
  | .hbm, ⟨7, _⟩ => ⟨S1x2048x2048, .f32⟩
  | .hbm, ⟨8, _⟩ => ⟨S1x2048x2048, .f32⟩
  | .hbm, ⟨9, _⟩ => ⟨S1x2048x2048, .f32⟩
  | .hbm, ⟨10, _⟩ => ⟨S_, .f32⟩
  | .hbm, ⟨11, _⟩ => ⟨S1x2048, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S_, .f32⟩
  | .hbm, ⟨17, _⟩ => ⟨S1x2048x1, .f32⟩
  | .hbm, ⟨18, _⟩ => ⟨S1x2048x1, .f32⟩
  | .hbm, ⟨19, _⟩ => ⟨S1x2048x1, .f32⟩
  | .hbm, ⟨20, _⟩ => ⟨S1x2048x1, .f32⟩
  | .hbm, ⟨21, _⟩ => ⟨S_, .f32⟩
  | .hbm, ⟨22, _⟩ => ⟨S1x2048x1, .f32⟩
  | .hbm, ⟨23, _⟩ => ⟨S1x2048x1, .f32⟩
  | .hbm, ⟨24, _⟩ => ⟨S1x2048x2048, .f32⟩
  | .hbm, ⟨25, _⟩ => ⟨S1x2048x2048, .f32⟩
  | .hbm, ⟨26, _⟩ => ⟨S1x1x2048, .f32⟩
  | .hbm, ⟨27, _⟩ => ⟨S1x2048x2048, .f32⟩
  | .hbm, ⟨28, _⟩ => ⟨S1x2048x2048, .f32⟩
  | .hbm, ⟨29, _⟩ => ⟨S1x2048x2048, .f32⟩
  | .hbm, ⟨30, _⟩ => ⟨S1x2048x2048, .f32⟩
  | .hbm, ⟨31, _⟩ => ⟨S_, .f32⟩
  | .hbm, ⟨32, _⟩ => ⟨S1x2048x2048, .f32⟩
  | .hbm, ⟨33, _⟩ => ⟨S1x2048x2048, .f32⟩
  | .hbm, ⟨34, _⟩ => ⟨S_, .f32⟩
  | .hbm, ⟨35, _⟩ => ⟨S1x2048, .f32⟩
  | .hbm, ⟨36, _⟩ => ⟨S_, .f32⟩
  | .hbm, ⟨37, _⟩ => ⟨S1x2048, .f32⟩
  | .hbm, ⟨38, _⟩ => ⟨S1x2048, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1x2048, .f32⟩
  | .hbm, ⟨47, _⟩ => ⟨S_, .f32⟩
  | .hbm, ⟨48, _⟩ => ⟨S1x2048, .f32⟩
  | .hbm, ⟨49, _⟩ => ⟨S1x2048, .f32⟩
  | .hbm, ⟨50, _⟩ => ⟨S1x2048x2048, .f32⟩
  | .hbm, ⟨51, _⟩ => ⟨S1x2048x2048, .f32⟩
  | .hbm, ⟨52, _⟩ => ⟨S1x2048x2048, .f32⟩
  | .hbm, ⟨53, _⟩ => ⟨S_, .f32⟩
  | .hbm, ⟨54, _⟩ => ⟨S1x2048, .f32⟩
  | .hbm, ⟨55, _⟩ => ⟨S1x1x2048, .f32⟩
  | .hbm, ⟨56, _⟩ => ⟨S1x2048x2048, .f32⟩
  | .hbm, ⟨57, _⟩ => ⟨S1x2048x2048, .f32⟩
  | .hbm, ⟨58, _⟩ => ⟨S_, .f32⟩
  | .hbm, ⟨59, _⟩ => ⟨S2048, .f32⟩
  | .hbm, ⟨60, _⟩ => ⟨S1x2048x2048, .f32⟩
  | .hbm, ⟨61, _⟩ => ⟨S_, .f32⟩
  | .hbm, ⟨62, _⟩ => ⟨S1x2048, .f32⟩
  | .hbm, ⟨63, _⟩ => ⟨S1x2048x1, .f32⟩
  | .hbm, ⟨64, _⟩ => ⟨S1x2048x2048, .f32⟩
  | .hbm, ⟨65, _⟩ => ⟨S1x2048x2048, .f32⟩
  | .hbm, ⟨66, _⟩ => ⟨S1x2048x1, .f32⟩
  | .hbm, ⟨67, _⟩ => ⟨S_, .f32⟩
  | .hbm, ⟨68, _⟩ => ⟨S1x2048x1, .f32⟩
  | .hbm, ⟨69, _⟩ => ⟨S1x2048x1, .f32⟩
  | .hbm, ⟨70, _⟩ => ⟨S_, .f32⟩
  | .hbm, ⟨71, _⟩ => ⟨S2048, .f32⟩
  | .hbm, ⟨72, _⟩ => ⟨S1x2048, .f32⟩
  | .hbm, ⟨73, _⟩ => ⟨S1x2048x2048, .f32⟩
  | .hbm, ⟨74, _⟩ => ⟨S1x2048x2048, .f32⟩
  | .hbm, ⟨75, _⟩ => ⟨S1x2048x2048, .f32⟩
  | .hbm, ⟨76, _⟩ => ⟨S1x2048x2048, .f32⟩
  | .hbm, ⟨77, _⟩ => ⟨S1x2048x2048, .f32⟩
  | .hbm, ⟨78, _⟩ => ⟨S1x2048x2048, .f32⟩
  | .hbm, ⟨79, _⟩ => ⟨S1x2048x2048, .f32⟩
  | .hbm, ⟨80, _⟩ => ⟨S1x2048x2048, .f32⟩
  | .hbm, ⟨81, _⟩ => ⟨S_, .f32⟩
  | .hbm, ⟨82, _⟩ => ⟨S1x2048, .f32⟩
  | .hbm, ⟨83, _⟩ => ⟨S1x1x2048, .f32⟩
  | .hbm, ⟨84, _⟩ => ⟨S_, .f32⟩
  | .hbm, ⟨85, _⟩ => ⟨S2048, .f32⟩
  | .hbm, ⟨86, _⟩ => ⟨S1x2048, .f32⟩
  | .hbm, ⟨87, _⟩ => ⟨S1x1, .f32⟩
  | .hbm, ⟨88, _⟩ => ⟨S1x2048, .f32⟩
  | .hbm, ⟨89, _⟩ => ⟨S1x2048, .f32⟩
  | .hbm, ⟨90, _⟩ => ⟨S_, .f32⟩
  | .hbm, ⟨91, _⟩ => ⟨S5x2048, .f32⟩
  | .hbm, ⟨92, _⟩ => ⟨S8x2048, .f32⟩
  | .hbm, ⟨93, _⟩ => ⟨S2048x2048, .f32⟩
  | .hbm, ⟨94, _⟩ => ⟨S2048x2048, .f32⟩
  | .hbm, ⟨95, _⟩ => ⟨S2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_v60 : Ref sig .tc := ⟨.hbm, 83, rfl⟩
abbrev main_cst_17 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_18 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩

abbrev nD : Nat := 1
abbrev τ : Topo := Topo.v7x

variable {F : FTy → Type} [FloatOps F]
-- ==== SwigluBwd.lean ====
abbrev S1x2048x2048 : Shape := ⟨3, ![1, 2048, 2048]⟩
abbrev S1x2048x11264 : Shape := ⟨3, ![1, 2048, 11264]⟩
abbrev S1x5632x2048 : Shape := ⟨3, ![1, 5632, 2048]⟩
abbrev S2048x2048 : Shape := ⟨2, ![2048, 2048]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S2048x5632 : Shape := ⟨2, ![2048, 5632]⟩
abbrev S2x2048x5632 : Shape := ⟨3, ![2, 2048, 5632]⟩
abbrev S256x2048 : Shape := ⟨2, ![256, 2048]⟩
abbrev S1x2048x1408 : Shape := ⟨3, ![1, 2048, 1408]⟩
abbrev S256x1408 : Shape := ⟨2, ![256, 1408]⟩
abbrev S2x256x1408 : Shape := ⟨3, ![2, 256, 1408]⟩
abbrev S2048x1408 : Shape := ⟨2, ![2048, 1408]⟩
abbrev S1x256x1408 : Shape := ⟨3, ![1, 256, 1408]⟩
abbrev S5632x2048 : Shape := ⟨2, ![5632, 2048]⟩
abbrev S512x2048 : Shape := ⟨2, ![512, 2048]⟩
abbrev S1408x2048 : Shape := ⟨2, ![1408, 2048]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 17
  | .vmem => 18
  | .smem => 0
  | _ => 0

abbrev bufTy : (tb : Table) → Fin (tcTables nBuf tb) → BufTy
  | .hbm, ⟨0, _⟩ => ⟨S1x2048x2048, .f32⟩
  | .hbm, ⟨1, _⟩ => ⟨S1x2048x11264, .f32⟩
  | .hbm, ⟨2, _⟩ => ⟨S1x5632x2048, .f32⟩
  | .hbm, ⟨3, _⟩ => ⟨S1x2048x2048, .f32⟩
  | .hbm, ⟨4, _⟩ => ⟨S2048x2048, .f32⟩
  | .hbm, ⟨5, _⟩ => ⟨S2048x2048, .bf16⟩
  | .hbm, ⟨6, _⟩ => ⟨S2048x2048, .f32⟩
  | .hbm, ⟨7, _⟩ => ⟨S2048x2048, .bf16⟩
  | .hbm, ⟨8, _⟩ => ⟨S2048x11264, .f32⟩
  | .hbm, ⟨9, _⟩ => ⟨S2048x11264, .bf16⟩
  | .hbm, ⟨10, _⟩ => ⟨S2048x8x1408, .bf16⟩
  | .hbm, ⟨11, _⟩ => ⟨S8x2048x1408, .bf16⟩
  | .hbm, ⟨12, _⟩ => ⟨S2048x5632, .bf16⟩
  | .hbm, ⟨13, _⟩ => ⟨S2x2048x5632, .bf16⟩
  | .hbm, ⟨14, _⟩ => ⟨S5632x2048, .f32⟩
  | .hbm, ⟨15, _⟩ => ⟨S5632x2048, .bf16⟩
  | .hbm, ⟨16, _⟩ => ⟨S2x2048x5632, .bf16⟩
  | .local _ .vmem, ⟨0, _⟩ => ⟨S256x2048, .bf16⟩
  | .local _ .vmem, ⟨1, _⟩ => ⟨S256x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S256x1408, .bf16⟩
  | .local _ .vmem, ⟨7, _⟩ => ⟨S256x1408, .bf16⟩
  | .local _ .vmem, ⟨8, _⟩ => ⟨S2x256x1408, .bf16⟩
  | .local _ .vmem, ⟨9, _⟩ => ⟨S2x256x1408, .bf16⟩
  | .local _ .vmem, ⟨10, _⟩ => ⟨S512x2048, .bf16⟩
  | .local _ .vmem, ⟨11, _⟩ => ⟨S512x2048, .bf16⟩
  | .local _ .vmem, ⟨12, _⟩ => ⟨S1408x2048, .bf16⟩
  | .local _ .vmem, ⟨13, _⟩ => ⟨S1408x2048, .bf16⟩
  | .local _ .vmem, ⟨14, _⟩ => ⟨S2x512x1408, .bf16⟩
  | .local _ .vmem, ⟨15, _⟩ => ⟨S2x512x1408, .bf16⟩
  | .local _ .vmem, ⟨16, _⟩ => ⟨S2x512x1408, .bf16⟩
  | .local _ .vmem, ⟨17, _⟩ => ⟨S2x512x1408, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![4, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false]

abbrev stage1_1 : Fin 2 → Memref sig .tc .vmem S1408x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S2x512x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S2x512x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== SwigluBwdRefIdeal.lean ====
abbrev S1x2048x2048 : Shape := ⟨3, ![1, 2048, 2048]⟩
abbrev S1x2048x11264 : Shape := ⟨3, ![1, 2048, 11264]⟩
abbrev S1x5632x2048 : Shape := ⟨3, ![1, 5632, 2048]⟩
abbrev S2048x11264 : Shape := ⟨2, ![2048, 11264]⟩
abbrev S1x2048x5632 : Shape := ⟨3, ![1, 2048, 5632]⟩
abbrev S_ : Shape := ⟨0, ![]⟩
abbrev S5632x2048 : Shape := ⟨2, ![5632, 2048]⟩
abbrev S2x2048x5632 : Shape := ⟨3, ![2, 2048, 5632]⟩

abbrev nBuf : Space → Nat
  | .hbm => 33
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x11264, .f32⟩
  | .hbm, ⟨2, _⟩ => ⟨S1x5632x2048, .f32⟩
  | .hbm, ⟨3, _⟩ => ⟨S1x2048x2048, .f32⟩
  | .hbm, ⟨4, _⟩ => ⟨S2048x11264, .f32⟩
  | .hbm, ⟨5, _⟩ => ⟨S1x2048x11264, .f32⟩
  | .hbm, ⟨6, _⟩ => ⟨S1x2048x5632, .f32⟩
  | .hbm, ⟨7, _⟩ => ⟨S1x2048x5632, .f32⟩
  | .hbm, ⟨8, _⟩ => ⟨S1x2048x5632, .f32⟩
  | .hbm, ⟨9, _⟩ => ⟨S1x2048x5632, .f32⟩
  | .hbm, ⟨10, _⟩ => ⟨S_, .f32⟩
  | .hbm, ⟨11, _⟩ => ⟨S1x2048x5632, .f32⟩
  | .hbm, ⟨12, _⟩ => ⟨S1x2048x5632, .f32⟩
  | .hbm, ⟨13, _⟩ => ⟨S_, .f32⟩
  | .hbm, ⟨14, _⟩ => ⟨S1x2048x5632, .f32⟩
  | .hbm, ⟨15, _⟩ => ⟨S1x2048x5632, .f32⟩
  | .hbm, ⟨16, _⟩ => ⟨S_, .f32⟩
  | .hbm, ⟨17, _⟩ => ⟨S1x2048x5632, .f32⟩
  | .hbm, ⟨18, _⟩ => ⟨S1x2048x5632, .f32⟩
  | .hbm, ⟨19, _⟩ => ⟨S1x2048x5632, .f32⟩
  | .hbm, ⟨20, _⟩ => ⟨S1x2048x5632, .f32⟩
  | .hbm, ⟨21, _⟩ => ⟨S1x2048x5632, .f32⟩
  | .hbm, ⟨22, _⟩ => ⟨S5632x2048, .f32⟩
  | .hbm, ⟨23, _⟩ => ⟨S1x2048x2048, .f32⟩
  | .hbm, ⟨24, _⟩ => ⟨S1x2048x5632, .f32⟩
  | .hbm, ⟨25, _⟩ => ⟨S1x2048x5632, .f32⟩
  | .hbm, ⟨26, _⟩ => ⟨S1x2048x5632, .f32⟩
  | .hbm, ⟨27, _⟩ => ⟨S1x2048x5632, .f32⟩
  | .hbm, ⟨28, _⟩ => ⟨S1x2048x5632, .f32⟩
  | .hbm, ⟨29, _⟩ => ⟨S1x2048x5632, .f32⟩
  | .hbm, ⟨30, _⟩ => ⟨S1x2048x5632, .f32⟩
  | .hbm, ⟨31, _⟩ => ⟨S2x2048x5632, .f32⟩
  | .hbm, ⟨32, _⟩ => ⟨S2x2048x5632, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== HgFwd.lean ====
abbrev S1x2048x10240 : Shape := ⟨3, ![1, 2048, 10240]⟩
abbrev S2x1024 : Shape := ⟨2, ![2, 1024]⟩
abbrev S1x1024 : Shape := ⟨2, ![1, 1024]⟩
abbrev S2048x10240 : Shape := ⟨2, ![2048, 10240]⟩
abbrev S2048x1024 : Shape := ⟨2, ![2048, 1024]⟩
abbrev S32x8x128x128 : Shape := ⟨4, ![32, 8, 128, 128]⟩
abbrev S64x1024 : Shape := ⟨2, ![64, 1024]⟩
abbrev S1x8x128x128 : Shape := ⟨4, ![1, 8, 128, 128]⟩
abbrev S8x128x128 : Shape := ⟨3, ![8, 128, 128]⟩
abbrev S64x64 : Shape := ⟨2, ![64, 64]⟩
abbrev S1x128x128 : Shape := ⟨3, ![1, 128, 128]⟩
abbrev S128x128 : Shape := ⟨2, ![128, 128]⟩
abbrev S1x1x128x128 : Shape := ⟨4, ![1, 1, 128, 128]⟩
abbrev S64x128 : Shape := ⟨2, ![64, 128]⟩
abbrev S1x128 : Shape := ⟨2, ![1, 128]⟩
abbrev S64 : Shape := ⟨1, ![64]⟩
abbrev S64x1 : Shape := ⟨2, ![64, 1]⟩

abbrev nBuf : Space → Nat
  | .hbm => 7
  | .vmem => 17
  | .smem => 0
  | _ => 0

abbrev bufTy : (tb : Table) → Fin (tcTables nBuf tb) → BufTy
  | .hbm, ⟨0, _⟩ => ⟨S1x2048x10240, .f32⟩
  | .hbm, ⟨1, _⟩ => ⟨S2x1024, .f32⟩
  | .hbm, ⟨2, _⟩ => ⟨S1x1024, .f32⟩
  | .hbm, ⟨3, _⟩ => ⟨S2048x10240, .f32⟩
  | .hbm, ⟨4, _⟩ => ⟨S2048x1024, .bf16⟩
  | .hbm, ⟨5, _⟩ => ⟨S2048x1024, .f32⟩
  | .hbm, ⟨6, _⟩ => ⟨S32x8x128x128, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S2x1024, .f32⟩
  | .local _ .vmem, ⟨9, _⟩ => ⟨S1x1024, .f32⟩
  | .local _ .vmem, ⟨10, _⟩ => ⟨S64x1024, .bf16⟩
  | .local _ .vmem, ⟨11, _⟩ => ⟨S64x1024, .bf16⟩
  | .local _ .vmem, ⟨12, _⟩ => ⟨S64x1024, .f32⟩
  | .local _ .vmem, ⟨13, _⟩ => ⟨S64x1024, .f32⟩
  | .local _ .vmem, ⟨14, _⟩ => ⟨S1x8x128x128, .f32⟩
  | .local _ .vmem, ⟨15, _⟩ => ⟨S1x8x128x128, .f32⟩
  | .local _ .vmem, ⟨16, _⟩ => ⟨S8x128x128, .f32⟩
  | _, _ => ⟨S1x2048x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== HgFwdIdeal.lean ====
variable {F : FTy → Type} [FloatOps F] [Named F]
def κ : String → Option EReal := fun
  | "exp_clamp" => some ⊤
  | _ => none
-- ==== HgFwdRefIdeal.lean ====
abbrev S1x2048x10240 : Shape := ⟨3, ![1, 2048, 10240]⟩
abbrev S2x1024 : Shape := ⟨2, ![2, 1024]⟩
abbrev S1x1024 : Shape := ⟨2, ![1, 1024]⟩
abbrev S_ : Shape := ⟨0, ![]⟩
abbrev S1024 : Shape := ⟨1, ![1024]⟩
abbrev S1x2048x1024 : Shape := ⟨3, ![1, 2048, 1024]⟩
abbrev S1x1x1024 : Shape := ⟨3, ![1, 1, 1024]⟩
abbrev S1x32x64x8x128 : Shape := ⟨5, ![1, 32, 64, 8, 128]⟩
abbrev S32x1x8x64x128 : Shape := ⟨5, ![32, 1, 8, 64, 128]⟩
abbrev S64x64 : Shape := ⟨2, ![64, 64]⟩
abbrev S1x8x128x128 : Shape := ⟨4, ![1, 8, 128, 128]⟩
abbrev S32x1x8x128x128 : Shape := ⟨5, ![32, 1, 8, 128, 128]⟩
abbrev S1x1x8x64x128 : Shape := ⟨5, ![1, 1, 8, 64, 128]⟩
abbrev S1x8x64x128 : Shape := ⟨4, ![1, 8, 64, 128]⟩
abbrev S1x8x64x1x128 : Shape := ⟨5, ![1, 8, 64, 1, 128]⟩
abbrev S1x8x1x64x128 : Shape := ⟨5, ![1, 8, 1, 64, 128]⟩
abbrev S1x8x64x64x128 : Shape := ⟨5, ![1, 8, 64, 64, 128]⟩
abbrev S64x64x1 : Shape := ⟨3, ![64, 64, 1]⟩
abbrev S1x8x64x64 : Shape := ⟨4, ![1, 8, 64, 64]⟩
abbrev S1x8x1x128 : Shape := ⟨4, ![1, 8, 1, 128]⟩
abbrev S1x8x128 : Shape := ⟨3, ![1, 8, 128]⟩
abbrev S1x8x128x1 : Shape := ⟨4, ![1, 8, 128, 1]⟩
abbrev S1x1x8x128x128 : Shape := ⟨5, ![1, 1, 8, 128, 128]⟩
abbrev S1x2048x8x128 : Shape := ⟨4, ![1, 2048, 8, 128]⟩
abbrev S1x2048x8 : Shape := ⟨3, ![1, 2048, 8]⟩
abbrev S1x2048x8x1 : Shape := ⟨4, ![1, 2048, 8, 1]⟩
abbrev S2048x1024 : Shape := ⟨2, ![2048, 1024]⟩
abbrev S32x8x128x128 : Shape := ⟨4, ![32, 8, 128, 128]⟩

abbrev nBuf : Space → Nat
  | .hbm => 206
  | .vmem => 0
  | .smem => 0
  | _ => 0

abbrev hbmTy0_0 (i : Nat) : BufTy := match i % 128 with
  | 0 => ⟨S1x2048x10240, .f32⟩
  | 1 => ⟨S2x1024, .f32⟩
  | 2 => ⟨S1x1024, .f32⟩
  | 3 => ⟨S_, .f32⟩
  | 4 => ⟨S1024, .f32⟩
  | 5 => ⟨S_, .f32⟩
  | 6 => ⟨S1024, .f32⟩
  | 7 => ⟨S1024, .f32⟩
  | 8 => ⟨S1x1024, .f32⟩
  | 9 => ⟨S2x1024, .f32⟩
  | 10 => ⟨S2x1024, .f32⟩
  | 11 => ⟨S2x1024, .f32⟩
  | 12 => ⟨S_, .f32⟩
  | 13 => ⟨S1024, .f32⟩
  | 14 => ⟨S1x1024, .f32⟩
  | 15 => ⟨S2x1024, .f32⟩
  | 16 => ⟨S2x1024, .f32⟩
  | 17 => ⟨S_, .f32⟩
  | 18 => ⟨S_, .f32⟩
  | 19 => ⟨S2x1024, .f32⟩
  | 20 => ⟨S1x1024, .f32⟩
  | 21 => ⟨S1024, .f32⟩
  | 22 => ⟨S1x2048x1024, .f32⟩
  | 23 => ⟨S1x2048x1024, .f32⟩
  | 24 => ⟨S1x2048x1024, .f32⟩
  | 25 => ⟨S_, .f32⟩
  | 26 => ⟨S1024, .f32⟩
  | 27 => ⟨S1024, .f32⟩
  | 28 => ⟨S1x2048x1024, .f32⟩
  | 29 => ⟨S1x2048x1024, .f32⟩
  | 30 => ⟨S_, .f32⟩
  | 31 => ⟨S1x2048x1024, .f32⟩
  | 32 => ⟨S1x2048x1024, .f32⟩
  | 33 => ⟨S_, .f32⟩
  | 34 => ⟨S1x2048x1024, .f32⟩
  | 35 => ⟨S1x2048x1024, .f32⟩
  | 36 => ⟨S1x1x1024, .f32⟩
  | 37 => ⟨S1x2048x1024, .f32⟩
  | 38 => ⟨S1x2048x1024, .f32⟩
  | 39 => ⟨S1x1x1024, .f32⟩
  | 40 => ⟨S1x2048x1024, .f32⟩
  | 41 => ⟨S1x2048x1024, .f32⟩
  | 42 => ⟨S1x2048x1024, .f32⟩
  | 43 => ⟨S_, .f32⟩
  | 44 => ⟨S1x2048x1024, .f32⟩
  | 45 => ⟨S1x2048x1024, .f32⟩
  | 46 => ⟨S1x2048x1024, .f32⟩
  | 47 => ⟨S1x2048x1024, .f32⟩
  | 48 => ⟨S_, .f32⟩
  | 49 => ⟨S1x2048x1024, .f32⟩
  | 50 => ⟨S1x2048x1024, .f32⟩
  | 51 => ⟨S_, .f32⟩
  | 52 => ⟨S1x2048x1024, .f32⟩
  | 53 => ⟨S1x2048x1024, .f32⟩
  | 54 => ⟨S1x2048x1024, .f32⟩
  | 55 => ⟨S1x32x64x8x128, .f32⟩
  | 56 => ⟨S32x1x8x64x128, .f32⟩
  | 57 => ⟨S1x32x64x8x128, .f32⟩
  | 58 => ⟨S32x1x8x64x128, .f32⟩
  | 59 => ⟨S1x32x64x8x128, .f32⟩
  | 60 => ⟨S32x1x8x64x128, .f32⟩
  | 61 => ⟨S1x32x64x8x128, .f32⟩
  | 62 => ⟨S32x1x8x64x128, .f32⟩
  | 63 => ⟨S_, .i1⟩
  | 64 => ⟨S64x64, .i1⟩
  | 65 => ⟨S64x64, .i32⟩
  | 66 => ⟨S_, .i32⟩
  | 67 => ⟨S64x64, .i32⟩
  | 68 => ⟨S64x64, .i32⟩
  | 69 => ⟨S64x64, .i32⟩
  | 70 => ⟨S64x64, .i1⟩
  | 71 => ⟨S_, .i1⟩
  | 72 => ⟨S64x64, .i1⟩
  | 73 => ⟨S64x64, .i1⟩
  | 74 => ⟨S_, .f32⟩
  | 75 => ⟨S1x8x128x128, .f32⟩
  | 76 => ⟨S_, .f32⟩
  | 77 => ⟨S32x1x8x64x128, .f32⟩
  | 78 => ⟨S_, .f32⟩
  | 79 => ⟨S32x1x8x128x128, .f32⟩
  | 80 => ⟨S_, .i32⟩
  | 81 => ⟨S32x1x8x64x128, .f32⟩
  | 82 => ⟨S32x1x8x64x128, .f32⟩
  | 83 => ⟨S32x1x8x64x128, .f32⟩
  | 84 => ⟨S32x1x8x64x128, .f32⟩
  | 85 => ⟨S64x64, .i1⟩
  | 86 => ⟨S_, .i32⟩
  | 87 => ⟨S1x8x128x128, .f32⟩
  | 88 => ⟨S32x1x8x64x128, .f32⟩
  | 89 => ⟨S32x1x8x128x128, .f32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S1x1x8x64x128, .f32⟩
  | 97 => ⟨S1x8x64x128, .f32⟩
  | 98 => ⟨S_, .i32⟩
  | 99 => ⟨S_, .i32⟩
  | 100 => ⟨S_, .i32⟩
  | 101 => ⟨S_, .i32⟩
  | 102 => ⟨S1x1x8x64x128, .f32⟩
  | 103 => ⟨S1x8x64x128, .f32⟩
  | 104 => ⟨S_, .i32⟩
  | 105 => ⟨S_, .i32⟩
  | 106 => ⟨S_, .i32⟩
  | 107 => ⟨S_, .i32⟩
  | 108 => ⟨S1x1x8x64x128, .f32⟩
  | 109 => ⟨S1x8x64x128, .f32⟩
  | 110 => ⟨S_, .i32⟩
  | 111 => ⟨S_, .i32⟩
  | 112 => ⟨S_, .i32⟩
  | 113 => ⟨S_, .i32⟩
  | 114 => ⟨S1x1x8x64x128, .f32⟩
  | 115 => ⟨S1x8x64x128, .f32⟩
  | 116 => ⟨S_, .f32⟩
  | 117 => ⟨S_, .f32⟩
  | 118 => ⟨S1x8x64x128, .f32⟩
  | 119 => ⟨S1x8x64x128, .f32⟩
  | 120 => ⟨S1x8x64x128, .f32⟩
  | 121 => ⟨S1x8x64x128, .f32⟩
  | 122 => ⟨S1x8x64x1x128, .f32⟩
  | 123 => ⟨S1x8x1x64x128, .f32⟩
  | 124 => ⟨S1x8x64x64x128, .f32⟩
  | 125 => ⟨S1x8x64x64x128, .f32⟩
  | 126 => ⟨S1x8x64x64x128, .f32⟩
  | 127 => ⟨S64x64x1, .i1⟩
  | _ => ⟨S1x2048x10240, .f32⟩

abbrev hbmTy0_1 (i : Nat) : BufTy := match i % 128 with
  | 0 => ⟨S_, .f32⟩
  | 1 => ⟨S_, .f32⟩
  | 2 => ⟨S1x8x64x64x128, .i1⟩
  | 3 => ⟨S1x8x64x64x128, .f32⟩
  | 4 => ⟨S1x8x64x64x128, .f32⟩
  | 5 => ⟨S1x8x64x64x128, .f32⟩
  | 6 => ⟨S1x8x64x1x128, .f32⟩
  | 7 => ⟨S1x8x1x64x128, .f32⟩
  | 8 => ⟨S1x8x64x64x128, .f32⟩
  | 9 => ⟨S1x8x64x64x128, .f32⟩
  | 10 => ⟨S1x8x64x64x128, .f32⟩
  | 11 => ⟨S1x8x64x64x128, .f32⟩
  | 12 => ⟨S_, .f32⟩
  | 13 => ⟨S1x8x64x64, .f32⟩
  | 14 => ⟨S1x8x64x128, .f32⟩
  | 15 => ⟨S1x8x64x128, .f32⟩
  | 16 => ⟨S1x8x1x128, .f32⟩
  | 17 => ⟨S1x8x128, .f32⟩
  | 18 => ⟨S1x8x128, .f32⟩
  | 19 => ⟨S1x8x128x1, .f32⟩
  | 20 => ⟨S1x8x128x128, .f32⟩
  | 21 => ⟨S1x8x128x128, .f32⟩
  | 22 => ⟨S1x8x64x128, .f32⟩
  | 23 => ⟨S1x8x64x128, .f32⟩
  | 24 => ⟨S1x8x64x128, .f32⟩
  | 25 => ⟨S1x8x64x128, .f32⟩
  | 26 => ⟨S1x8x128x128, .f32⟩
  | 27 => ⟨S1x8x128x128, .f32⟩
  | 28 => ⟨S1x1x8x64x128, .f32⟩
  | 29 => ⟨S_, .i32⟩
  | 30 => ⟨S_, .i32⟩
  | 31 => ⟨S_, .i32⟩
  | 32 => ⟨S_, .i32⟩
  | 33 => ⟨S32x1x8x64x128, .f32⟩
  | 34 => ⟨S1x1x8x128x128, .f32⟩
  | 35 => ⟨S_, .i32⟩
  | 36 => ⟨S_, .i32⟩
  | 37 => ⟨S_, .i32⟩
  | 38 => ⟨S_, .i32⟩
  | 39 => ⟨S32x1x8x128x128, .f32⟩
  | 40 => ⟨S_, .i32⟩
  | 41 => ⟨S_, .i32⟩
  | 42 => ⟨S1x32x64x8x128, .f32⟩
  | 43 => ⟨S1x2048x8x128, .f32⟩
  | 44 => ⟨S1x2048x1024, .f32⟩
  | 45 => ⟨S1024, .f32⟩
  | 46 => ⟨S1x2048x8x128, .f32⟩
  | 47 => ⟨S_, .f32⟩
  | 48 => ⟨S1x2048x8, .f32⟩
  | 49 => ⟨S1x2048x8x1, .f32⟩
  | 50 => ⟨S_, .f32⟩
  | 51 => ⟨S1x2048x8x1, .f32⟩
  | 52 => ⟨S1x2048x8x1, .f32⟩
  | 53 => ⟨S_, .f32⟩
  | 54 => ⟨S1x2048x8x1, .f32⟩
  | 55 => ⟨S1x2048x8x1, .f32⟩
  | 56 => ⟨S1x2048x8x1, .f32⟩
  | 57 => ⟨S1x2048x8x128, .f32⟩
  | 58 => ⟨S1x2048x8x128, .f32⟩
  | 59 => ⟨S1x2048x1024, .f32⟩
  | 60 => ⟨S1x1x1024, .f32⟩
  | 61 => ⟨S1x2048x1024, .f32⟩
  | 62 => ⟨S1x2048x1024, .f32⟩
  | 63 => ⟨S1x2048x1024, .f32⟩
  | 64 => ⟨S1x2048x1024, .f32⟩
  | 65 => ⟨S_, .f32⟩
  | 66 => ⟨S1x2048x1024, .f32⟩
  | 67 => ⟨S1x2048x1024, .f32⟩
  | 68 => ⟨S_, .f32⟩
  | 69 => ⟨S1x2048x1024, .f32⟩
  | 70 => ⟨S1x2048x1024, .f32⟩
  | 71 => ⟨S1x2048x1024, .f32⟩
  | 72 => ⟨S1x2048x1024, .f32⟩
  | 73 => ⟨S2048x1024, .f32⟩
  | 74 => ⟨S2048x1024, .bf16⟩
  | 75 => ⟨S2048x1024, .f32⟩
  | 76 => ⟨S32x8x128x128, .f32⟩
  | 77 => ⟨S32x8x128x128, .f32⟩
  | _ => ⟨S1x2048x10240, .f32⟩

abbrev hbmTy (i : Nat) : BufTy := match i / 128 with
  | 0 => hbmTy0_0 i
  | 1 => hbmTy0_1 i
  | _ => ⟨S1x2048x10240, .f32⟩

abbrev bufTy : (tb : Table) → Fin (tcTables nBuf tb) → BufTy
  | .hbm, ⟨i, _⟩ => hbmTy i
  | _, _ => ⟨S1x2048x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c : Ref sig .tc := ⟨.hbm, 63, rfl⟩
abbrev main_v43 : Ref sig .tc := ⟨.hbm, 64, rfl⟩
abbrev main_call2_v0 : Ref sig .tc := ⟨.hbm, 65, rfl⟩
abbrev main_call2_c : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_0 : Ref sig .tc := ⟨.hbm, 71, rfl⟩
abbrev main_call2_v5 : Ref sig .tc := ⟨.hbm, 72, rfl⟩
abbrev main_v44 : Ref sig .tc := ⟨.hbm, 73, rfl⟩
abbrev main_cst_6 : Ref sig .tc := ⟨.hbm, 74, rfl⟩
abbrev main_v45 : Ref sig .tc := ⟨.hbm, 75, rfl⟩
abbrev main_cst_7 : Ref sig .tc := ⟨.hbm, 76, rfl⟩
abbrev main_v46 : Ref sig .tc := ⟨.hbm, 77, rfl⟩
abbrev main_cst_8 : Ref sig .tc := ⟨.hbm, 78, rfl⟩
abbrev main_v47 : Ref sig .tc := ⟨.hbm, 79, rfl⟩
abbrev main_c_9 : Ref sig .tc := ⟨.hbm, 80, rfl⟩
abbrev main_v48_0 : Ref sig .tc := ⟨.hbm, 81, rfl⟩
abbrev main_v48_1 : Ref sig .tc := ⟨.hbm, 82, rfl⟩
abbrev main_v48_2 : Ref sig .tc := ⟨.hbm, 83, rfl⟩
abbrev main_v48_3 : Ref sig .tc := ⟨.hbm, 84, rfl⟩
abbrev main_v48_4 : Ref sig .tc := ⟨.hbm, 85, rfl⟩
abbrev main_v48_5 : Ref sig .tc := ⟨.hbm, 86, rfl⟩
abbrev main_v48_6 : Ref sig .tc := ⟨.hbm, 87, rfl⟩
abbrev main_v48_7 : Ref sig .tc := ⟨.hbm, 88, rfl⟩
abbrev main_v48_8 : Ref sig .tc := ⟨.hbm, 89, rfl⟩
abbrev main_while0c_c_21 : Ref sig .tc := ⟨.hbm, 90, rfl⟩
abbrev main_while0c_v74 : Ref sig .tc := ⟨.hbm, 91, rfl⟩
abbrev main_while0b_call3_c : Ref sig .tc := ⟨.hbm, 92, rfl⟩
abbrev main_while0b_call3_c_0 : Ref sig .tc := ⟨.hbm, 93, rfl⟩
abbrev main_while0b_call3_c_1 : Ref sig .tc := ⟨.hbm, 94, rfl⟩
abbrev main_while0b_call3_c_2 : Ref sig .tc := ⟨.hbm, 95, rfl⟩
abbrev main_while0b_call3_v0 : Ref sig .tc := ⟨.hbm, 96, rfl⟩
abbrev main_while0b_v74 : Ref sig .tc := ⟨.hbm, 97, rfl⟩
abbrev main_while0b_call4_c : Ref sig .tc := ⟨.hbm, 98, rfl⟩
abbrev main_while0b_call4_c_0 : Ref sig .tc := ⟨.hbm, 99, rfl⟩
abbrev main_while0b_call4_c_1 : Ref sig .tc := ⟨.hbm, 100, rfl⟩
abbrev main_while0b_call4_c_2 : Ref sig .tc := ⟨.hbm, 101, rfl⟩
abbrev main_while0b_call4_v0 : Ref sig .tc := ⟨.hbm, 102, rfl⟩
abbrev main_while0b_v75 : Ref sig .tc := ⟨.hbm, 103, rfl⟩
abbrev main_while0b_call5_c : Ref sig .tc := ⟨.hbm, 104, rfl⟩
abbrev main_while0b_call5_c_0 : Ref sig .tc := ⟨.hbm, 105, rfl⟩
abbrev main_while0b_call5_c_1 : Ref sig .tc := ⟨.hbm, 106, rfl⟩
abbrev main_while0b_call5_c_2 : Ref sig .tc := ⟨.hbm, 107, rfl⟩
abbrev main_while0b_call5_v0 : Ref sig .tc := ⟨.hbm, 108, rfl⟩
abbrev main_while0b_v76 : Ref sig .tc := ⟨.hbm, 109, rfl⟩
abbrev main_while0b_call6_c : Ref sig .tc := ⟨.hbm, 110, rfl⟩
abbrev main_while0b_call6_c_0 : Ref sig .tc := ⟨.hbm, 111, rfl⟩
abbrev main_while0b_call6_c_1 : Ref sig .tc := ⟨.hbm, 112, rfl⟩
abbrev main_while0b_call6_c_2 : Ref sig .tc := ⟨.hbm, 113, rfl⟩
abbrev main_while0b_call6_v0 : Ref sig .tc := ⟨.hbm, 114, rfl⟩
abbrev main_while0b_v77 : Ref sig .tc := ⟨.hbm, 115, rfl⟩
abbrev main_while0b_call7_call0_cst : Ref sig .tc := ⟨.hbm, 116, rfl⟩
abbrev main_while0b_call7_call0_v0 : Ref sig .tc := ⟨.hbm, 117, rfl⟩
abbrev main_while0b_v78 : Ref sig .tc := ⟨.hbm, 118, rfl⟩
abbrev main_while0b_v79 : Ref sig .tc := ⟨.hbm, 119, rfl⟩
abbrev main_while0b_v80 : Ref sig .tc := ⟨.hbm, 120, rfl⟩
abbrev main_while0b_v81 : Ref sig .tc := ⟨.hbm, 121, rfl⟩
abbrev main_while0b_v82 : Ref sig .tc := ⟨.hbm, 122, rfl⟩
abbrev main_while0b_v83 : Ref sig .tc := ⟨.hbm, 123, rfl⟩
abbrev main_while0b_v84 : Ref sig .tc := ⟨.hbm, 124, rfl⟩
abbrev main_while0b_v85 : Ref sig .tc := ⟨.hbm, 125, rfl⟩
abbrev main_while0b_v86 : Ref sig .tc := ⟨.hbm, 126, rfl⟩
abbrev main_while0b_v87 : Ref sig .tc := ⟨.hbm, 127, rfl⟩
abbrev main_while0b_cst_21 : Ref sig .tc := ⟨.hbm, 128, rfl⟩
abbrev main_while0b_call8_v0 : Ref sig .tc := ⟨.hbm, 129, rfl⟩
abbrev main_while0b_call8_v1 : Ref sig .tc := ⟨.hbm, 130, rfl⟩
abbrev main_while0b_call8_v2 : Ref sig .tc := ⟨.hbm, 131, rfl⟩
abbrev main_while0b_v88 : Ref sig .tc := ⟨.hbm, 132, rfl⟩
abbrev main_while0b_v89 : Ref sig .tc := ⟨.hbm, 133, rfl⟩
abbrev main_while0b_v90 : Ref sig .tc := ⟨.hbm, 134, rfl⟩
abbrev main_while0b_v91 : Ref sig .tc := ⟨.hbm, 135, rfl⟩
abbrev main_while0b_v92 : Ref sig .tc := ⟨.hbm, 136, rfl⟩
abbrev main_while0b_v93 : Ref sig .tc := ⟨.hbm, 137, rfl⟩
abbrev main_while0b_v94 : Ref sig .tc := ⟨.hbm, 138, rfl⟩
abbrev main_while0b_v95 : Ref sig .tc := ⟨.hbm, 139, rfl⟩
abbrev main_while0b_cst_22 : Ref sig .tc := ⟨.hbm, 140, rfl⟩
abbrev main_while0b_v96 : Ref sig .tc := ⟨.hbm, 141, rfl⟩
abbrev main_while0b_v97 : Ref sig .tc := ⟨.hbm, 142, rfl⟩
abbrev main_while0b_v98 : Ref sig .tc := ⟨.hbm, 143, rfl⟩
abbrev main_while0b_v99 : Ref sig .tc := ⟨.hbm, 144, rfl⟩
abbrev main_while0b_v100 : Ref sig .tc := ⟨.hbm, 145, rfl⟩
abbrev main_while0b_v101 : Ref sig .tc := ⟨.hbm, 146, rfl⟩
abbrev main_while0b_v102 : Ref sig .tc := ⟨.hbm, 147, rfl⟩
abbrev main_while0b_v103 : Ref sig .tc := ⟨.hbm, 148, rfl⟩
abbrev main_while0b_v104 : Ref sig .tc := ⟨.hbm, 149, rfl⟩
abbrev main_while0b_v105 : Ref sig .tc := ⟨.hbm, 150, rfl⟩
abbrev main_while0b_v106 : Ref sig .tc := ⟨.hbm, 151, rfl⟩
abbrev main_while0b_v107 : Ref sig .tc := ⟨.hbm, 152, rfl⟩
abbrev main_while0b_v108 : Ref sig .tc := ⟨.hbm, 153, rfl⟩
abbrev main_while0b_v109 : Ref sig .tc := ⟨.hbm, 154, rfl⟩
abbrev main_while0b_v110 : Ref sig .tc := ⟨.hbm, 155, rfl⟩
abbrev main_while0b_call9_v0 : Ref sig .tc := ⟨.hbm, 156, rfl⟩
abbrev main_while0b_call9_c : Ref sig .tc := ⟨.hbm, 157, rfl⟩
abbrev main_while0b_call9_c_0 : Ref sig .tc := ⟨.hbm, 158, rfl⟩
abbrev main_while0b_call9_c_1 : Ref sig .tc := ⟨.hbm, 159, rfl⟩
abbrev main_while0b_call9_c_2 : Ref sig .tc := ⟨.hbm, 160, rfl⟩
abbrev main_while0b_v111 : Ref sig .tc := ⟨.hbm, 161, rfl⟩
abbrev main_while0b_call10_v0 : Ref sig .tc := ⟨.hbm, 162, rfl⟩
abbrev main_while0b_call10_c : Ref sig .tc := ⟨.hbm, 163, rfl⟩
abbrev main_while0b_call10_c_0 : Ref sig .tc := ⟨.hbm, 164, rfl⟩
abbrev main_while0b_call10_c_1 : Ref sig .tc := ⟨.hbm, 165, rfl⟩
abbrev main_while0b_call10_c_2 : Ref sig .tc := ⟨.hbm, 166, rfl⟩
abbrev main_while0b_v112 : Ref sig .tc := ⟨.hbm, 167, rfl⟩
abbrev main_while0b_c_23 : Ref sig .tc := ⟨.hbm, 168, rfl⟩
abbrev main_while0b_v113 : Ref sig .tc := ⟨.hbm, 169, rfl⟩
abbrev main_v49 : Ref sig .tc := ⟨.hbm, 170, rfl⟩
abbrev main_v50 : Ref sig .tc := ⟨.hbm, 171, rfl⟩
abbrev main_v51 : Ref sig .tc := ⟨.hbm, 172, rfl⟩
abbrev main_v52 : Ref sig .tc := ⟨.hbm, 173, rfl⟩
abbrev main_v53 : Ref sig .tc := ⟨.hbm, 174, rfl⟩
abbrev main_cst_10 : Ref sig .tc := ⟨.hbm, 175, rfl⟩
abbrev main_v54 : Ref sig .tc := ⟨.hbm, 176, rfl⟩
abbrev main_v55 : Ref sig .tc := ⟨.hbm, 177, rfl⟩
abbrev main_cst_11 : Ref sig .tc := ⟨.hbm, 178, rfl⟩
abbrev main_v56 : Ref sig .tc := ⟨.hbm, 179, rfl⟩
abbrev main_v57 : Ref sig .tc := ⟨.hbm, 180, rfl⟩
abbrev main_cst_12 : Ref sig .tc := ⟨.hbm, 181, rfl⟩
abbrev main_v58 : Ref sig .tc := ⟨.hbm, 182, rfl⟩
abbrev main_v59 : Ref sig .tc := ⟨.hbm, 183, rfl⟩
abbrev main_v60 : Ref sig .tc := ⟨.hbm, 184, rfl⟩
abbrev main_v61 : Ref sig .tc := ⟨.hbm, 185, rfl⟩
abbrev main_v62 : Ref sig .tc := ⟨.hbm, 186, rfl⟩
abbrev main_v63 : Ref sig .tc := ⟨.hbm, 187, rfl⟩
abbrev main_v64 : Ref sig .tc := ⟨.hbm, 188, rfl⟩
abbrev main_v65 : Ref sig .tc := ⟨.hbm, 189, rfl⟩
abbrev main_v66 : Ref sig .tc := ⟨.hbm, 190, rfl⟩
abbrev main_call11_v0 : Ref sig .tc := ⟨.hbm, 191, rfl⟩
abbrev main_call11_v1 : Ref sig .tc := ⟨.hbm, 192, rfl⟩
abbrev main_call11_cst : Ref sig .tc := ⟨.hbm, 193, rfl⟩
abbrev main_call11_v2 : Ref sig .tc := ⟨.hbm, 194, rfl⟩
abbrev main_call11_v3 : Ref sig .tc := ⟨.hbm, 195, rfl⟩
abbrev main_call11_cst_0 : Ref sig .tc := ⟨.hbm, 196, rfl⟩
abbrev main_call11_v4 : Ref sig .tc := ⟨.hbm, 197, rfl⟩
abbrev main_call11_v5 : Ref sig .tc := ⟨.hbm, 198, rfl⟩
abbrev main_v67 : Ref sig .tc := ⟨.hbm, 199, rfl⟩
abbrev main_v68 : Ref sig .tc := ⟨.hbm, 200, rfl⟩
abbrev main_v69 : Ref sig .tc := ⟨.hbm, 201, rfl⟩
abbrev main_v70 : Ref sig .tc := ⟨.hbm, 202, rfl⟩
abbrev main_v71 : Ref sig .tc := ⟨.hbm, 203, rfl⟩
abbrev main_v72 : Ref sig .tc := ⟨.hbm, 204, rfl⟩
abbrev main_v73 : Ref sig .tc := ⟨.hbm, 205, rfl⟩

abbrev nD : Nat := 1
abbrev τ : Topo := Topo.v7x

variable {F : FTy → Type} [FloatOps F]

abbrev main_while0_count : Scf.Loop 32 := ⟨0#32, 32#32, 1#32⟩
-- ==== HgBwd.lean ====
abbrev S1x2048x10240 : Shape := ⟨3, ![1, 2048, 10240]⟩
abbrev S1x2048x1024 : Shape := ⟨3, ![1, 2048, 1024]⟩
abbrev S2x1024 : Shape := ⟨2, ![2, 1024]⟩
abbrev S1x1024 : Shape := ⟨2, ![1, 1024]⟩
abbrev S2048x2048 : Shape := ⟨2, ![2048, 2048]⟩
abbrev S2x2048x2048 : Shape := ⟨3, ![2, 2048, 2048]⟩
abbrev S2048x1024 : Shape := ⟨2, ![2048, 1024]⟩
abbrev S_ : Shape := ⟨0, ![]⟩
abbrev S1024 : Shape := ⟨1, ![1024]⟩
abbrev S32x64x8x128 : Shape := ⟨4, ![32, 64, 8, 128]⟩
abbrev S32x8x64x128 : Shape := ⟨4, ![32, 8, 64, 128]⟩
abbrev S64x64 : Shape := ⟨2, ![64, 64]⟩
abbrev S32x32 : Shape := ⟨2, ![32, 32]⟩
abbrev S32x8x1x128 : Shape := ⟨4, ![32, 8, 1, 128]⟩
abbrev S32x8x128x128 : Shape := ⟨4, ![32, 8, 128, 128]⟩
abbrev S32x8x128 : Shape := ⟨3, ![32, 8, 128]⟩
abbrev S32x1x8x128 : Shape := ⟨4, ![32, 1, 8, 128]⟩
abbrev S1x32x8x128 : Shape := ⟨4, ![1, 32, 8, 128]⟩
abbrev S32x32x8x128 : Shape := ⟨4, ![32, 32, 8, 128]⟩
abbrev S32x32x1x1 : Shape := ⟨4, ![32, 32, 1, 1]⟩
abbrev S8x128x128x32 : Shape := ⟨4, ![8, 128, 128, 32]⟩
abbrev S32x8x64x1x128 : Shape := ⟨5, ![32, 8, 64, 1, 128]⟩
abbrev S32x8x1x64x128 : Shape := ⟨5, ![32, 8, 1, 64, 128]⟩
abbrev S32x8x64x64x128 : Shape := ⟨5, ![32, 8, 64, 64, 128]⟩
abbrev S64x64x1 : Shape := ⟨3, ![64, 64, 1]⟩
abbrev S32x8x64x64 : Shape := ⟨4, ![32, 8, 64, 64]⟩
abbrev S2048x8x128 : Shape := ⟨3, ![2048, 8, 128]⟩
abbrev S2048x10240 : Shape := ⟨2, ![2048, 10240]⟩
abbrev S8x1024 : Shape := ⟨2, ![8, 1024]⟩
abbrev S2x2048 : Shape := ⟨2, ![2, 2048]⟩
abbrev S64x1024 : Shape := ⟨2, ![64, 1024]⟩
abbrev S1x8x128x128 : Shape := ⟨4, ![1, 8, 128, 128]⟩
abbrev S64x2048 : Shape := ⟨2, ![64, 2048]⟩
abbrev S2x64x2048 : Shape := ⟨3, ![2, 64, 2048]⟩
abbrev S64x10240 : Shape := ⟨2, ![64, 10240]⟩
abbrev S8x128x128 : Shape := ⟨3, ![8, 128, 128]⟩
abbrev S1x64x2048 : Shape := ⟨3, ![1, 64, 2048]⟩
abbrev S1x2048 : Shape := ⟨2, ![1, 2048]⟩
abbrev S2048 : Shape := ⟨1, ![2048]⟩
abbrev S64x128 : Shape := ⟨2, ![64, 128]⟩
abbrev S1x128 : Shape := ⟨2, ![1, 128]⟩
abbrev S64 : Shape := ⟨1, ![64]⟩
abbrev S64x1 : Shape := ⟨2, ![64, 1]⟩
abbrev S128 : Shape := ⟨1, ![128]⟩
abbrev S64x4096 : Shape := ⟨2, ![64, 4096]⟩
abbrev S1x1x128x128 : Shape := ⟨4, ![1, 1, 128, 128]⟩
abbrev S128x128 : Shape := ⟨2, ![128, 128]⟩
abbrev S1x128x128 : Shape := ⟨3, ![1, 128, 128]⟩

abbrev nBuf : Space → Nat
  | .hbm => 155
  | .vmem => 33
  | .smem => 0
  | _ => 0

abbrev hbmTy0_0 (i : Nat) : BufTy := match i % 128 with
  | 0 => ⟨S1x2048x10240, .f32⟩
  | 1 => ⟨S1x2048x1024, .f32⟩
  | 2 => ⟨S2x1024, .f32⟩
  | 3 => ⟨S1x1024, .f32⟩
  | 4 => ⟨S2048x2048, .bf16⟩
  | 5 => ⟨S2x2048x2048, .bf16⟩
  | 6 => ⟨S1x2048x1024, .f32⟩
  | 7 => ⟨S2048x1024, .f32⟩
  | 8 => ⟨S1x2048x1024, .f32⟩
  | 9 => ⟨S2048x1024, .f32⟩
  | 10 => ⟨S1x2048x1024, .f32⟩
  | 11 => ⟨S2048x1024, .f32⟩
  | 12 => ⟨S_, .f32⟩
  | 13 => ⟨S1024, .f32⟩
  | 14 => ⟨S_, .f32⟩
  | 15 => ⟨S1024, .f32⟩
  | 16 => ⟨S1024, .f32⟩
  | 17 => ⟨S1x1024, .f32⟩
  | 18 => ⟨S2x1024, .f32⟩
  | 19 => ⟨S2x1024, .f32⟩
  | 20 => ⟨S2x1024, .f32⟩
  | 21 => ⟨S_, .f32⟩
  | 22 => ⟨S1024, .f32⟩
  | 23 => ⟨S1x1024, .f32⟩
  | 24 => ⟨S2x1024, .f32⟩
  | 25 => ⟨S2x1024, .f32⟩
  | 26 => ⟨S_, .f32⟩
  | 27 => ⟨S_, .f32⟩
  | 28 => ⟨S2x1024, .f32⟩
  | 29 => ⟨S1x1024, .f32⟩
  | 30 => ⟨S1024, .f32⟩
  | 31 => ⟨S_, .f32⟩
  | 32 => ⟨S1024, .f32⟩
  | 33 => ⟨S1024, .f32⟩
  | 34 => ⟨S2048x1024, .f32⟩
  | 35 => ⟨S2048x1024, .f32⟩
  | 36 => ⟨S_, .f32⟩
  | 37 => ⟨S2048x1024, .f32⟩
  | 38 => ⟨S2048x1024, .f32⟩
  | 39 => ⟨S_, .f32⟩
  | 40 => ⟨S2048x1024, .f32⟩
  | 41 => ⟨S2048x1024, .f32⟩
  | 42 => ⟨S1x1024, .f32⟩
  | 43 => ⟨S2048x1024, .f32⟩
  | 44 => ⟨S2048x1024, .f32⟩
  | 45 => ⟨S1x1024, .f32⟩
  | 46 => ⟨S2048x1024, .f32⟩
  | 47 => ⟨S2048x1024, .f32⟩
  | 48 => ⟨S2048x1024, .f32⟩
  | 49 => ⟨S_, .f32⟩
  | 50 => ⟨S2048x1024, .f32⟩
  | 51 => ⟨S2048x1024, .f32⟩
  | 52 => ⟨S2048x1024, .f32⟩
  | 53 => ⟨S2048x1024, .f32⟩
  | 54 => ⟨S_, .f32⟩
  | 55 => ⟨S2048x1024, .f32⟩
  | 56 => ⟨S2048x1024, .f32⟩
  | 57 => ⟨S_, .f32⟩
  | 58 => ⟨S2048x1024, .f32⟩
  | 59 => ⟨S2048x1024, .f32⟩
  | 60 => ⟨S2048x1024, .f32⟩
  | 61 => ⟨S32x64x8x128, .f32⟩
  | 62 => ⟨S32x8x64x128, .f32⟩
  | 63 => ⟨S32x64x8x128, .f32⟩
  | 64 => ⟨S32x8x64x128, .f32⟩
  | 65 => ⟨S32x64x8x128, .f32⟩
  | 66 => ⟨S32x8x64x128, .f32⟩
  | 67 => ⟨S32x64x8x128, .f32⟩
  | 68 => ⟨S32x8x64x128, .f32⟩
  | 69 => ⟨S_, .i1⟩
  | 70 => ⟨S64x64, .i1⟩
  | 71 => ⟨S64x64, .i32⟩
  | 72 => ⟨S_, .i32⟩
  | 73 => ⟨S64x64, .i32⟩
  | 74 => ⟨S64x64, .i32⟩
  | 75 => ⟨S64x64, .i32⟩
  | 76 => ⟨S64x64, .i1⟩
  | 77 => ⟨S_, .i1⟩
  | 78 => ⟨S64x64, .i1⟩
  | 79 => ⟨S64x64, .i1⟩
  | 80 => ⟨S_, .i1⟩
  | 81 => ⟨S32x32, .i1⟩
  | 82 => ⟨S32x32, .i32⟩
  | 83 => ⟨S_, .i32⟩
  | 84 => ⟨S32x32, .i32⟩
  | 85 => ⟨S32x32, .i32⟩
  | 86 => ⟨S32x32, .i32⟩
  | 87 => ⟨S32x32, .i1⟩
  | 88 => ⟨S_, .i1⟩
  | 89 => ⟨S32x32, .i1⟩
  | 90 => ⟨S32x32, .i1⟩
  | 91 => ⟨S_, .f32⟩
  | 92 => ⟨S_, .f32⟩
  | 93 => ⟨S32x8x64x128, .f32⟩
  | 94 => ⟨S32x8x1x128, .f32⟩
  | 95 => ⟨S32x8x64x128, .f32⟩
  | 96 => ⟨S32x8x64x128, .f32⟩
  | 97 => ⟨S32x8x64x128, .f32⟩
  | 98 => ⟨S32x8x64x128, .f32⟩
  | 99 => ⟨S32x8x128x128, .f32⟩
  | 100 => ⟨S32x8x128, .f32⟩
  | 101 => ⟨S_, .f32⟩
  | 102 => ⟨S_, .f32⟩
  | 103 => ⟨S32x8x128, .f32⟩
  | 104 => ⟨S32x8x128, .f32⟩
  | 105 => ⟨S32x8x128, .f32⟩
  | 106 => ⟨S32x1x8x128, .f32⟩
  | 107 => ⟨S1x32x8x128, .f32⟩
  | 108 => ⟨S32x32x8x128, .f32⟩
  | 109 => ⟨S32x32x8x128, .f32⟩
  | 110 => ⟨S32x32x8x128, .f32⟩
  | 111 => ⟨S32x32x1x1, .i1⟩
  | 112 => ⟨S_, .f32⟩
  | 113 => ⟨S_, .f32⟩
  | 114 => ⟨S32x32x8x128, .i1⟩
  | 115 => ⟨S32x32x8x128, .f32⟩
  | 116 => ⟨S32x32x8x128, .f32⟩
  | 117 => ⟨S32x32x8x128, .f32⟩
  | 118 => ⟨S8x128x128x32, .f32⟩
  | 119 => ⟨S32x8x128x128, .f32⟩
  | 120 => ⟨S32x8x64x128, .f32⟩
  | 121 => ⟨S32x8x64x128, .f32⟩
  | 122 => ⟨S32x8x64x128, .f32⟩
  | 123 => ⟨S32x8x64x1x128, .f32⟩
  | 124 => ⟨S32x8x1x64x128, .f32⟩
  | 125 => ⟨S32x8x64x64x128, .f32⟩
  | 126 => ⟨S32x8x64x64x128, .f32⟩
  | 127 => ⟨S32x8x64x64x128, .f32⟩
  | _ => ⟨S1x2048x10240, .f32⟩

abbrev hbmTy0_1 (i : Nat) : BufTy := match i % 128 with
  | 0 => ⟨S64x64x1, .i1⟩
  | 1 => ⟨S_, .f32⟩
  | 2 => ⟨S_, .f32⟩
  | 3 => ⟨S32x8x64x64x128, .i1⟩
  | 4 => ⟨S32x8x64x64x128, .f32⟩
  | 5 => ⟨S32x8x64x64x128, .f32⟩
  | 6 => ⟨S32x8x64x64x128, .f32⟩
  | 7 => ⟨S32x8x64x1x128, .f32⟩
  | 8 => ⟨S32x8x1x64x128, .f32⟩
  | 9 => ⟨S32x8x64x64x128, .f32⟩
  | 10 => ⟨S32x8x64x64x128, .f32⟩
  | 11 => ⟨S32x8x64x64x128, .f32⟩
  | 12 => ⟨S32x8x64x64x128, .f32⟩
  | 13 => ⟨S_, .f32⟩
  | 14 => ⟨S32x8x64x64, .f32⟩
  | 15 => ⟨S32x8x64x128, .f32⟩
  | 16 => ⟨S32x8x64x128, .f32⟩
  | 17 => ⟨S32x64x8x128, .f32⟩
  | 18 => ⟨S2048x8x128, .f32⟩
  | 19 => ⟨S2048x10240, .f32⟩
  | 20 => ⟨S2048x1024, .f32⟩
  | 21 => ⟨S32x8x128x128, .f32⟩
  | 22 => ⟨S2048x1024, .f32⟩
  | 23 => ⟨S2048x10240, .bf16⟩
  | 24 => ⟨S8x1024, .f32⟩
  | 25 => ⟨S2x1024, .f32⟩
  | 26 => ⟨S2x2048, .f32⟩
  | _ => ⟨S1x2048x10240, .f32⟩

abbrev hbmTy (i : Nat) : BufTy := match i / 128 with
  | 0 => hbmTy0_0 i
  | 1 => hbmTy0_1 i
  | _ => ⟨S1x2048x10240, .f32⟩

abbrev bufTy : (tb : Table) → Fin (tcTables nBuf tb) → BufTy
  | .hbm, ⟨i, _⟩ => hbmTy i
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S1x8x128x128, .f32⟩
  | .local _ .vmem, ⟨11, _⟩ => ⟨S1x8x128x128, .f32⟩
  | .local _ .vmem, ⟨12, _⟩ => ⟨S1x8x128x128, .f32⟩
  | .local _ .vmem, ⟨13, _⟩ => ⟨S1x8x128x128, .f32⟩
  | .local _ .vmem, ⟨14, _⟩ => ⟨S64x1024, .f32⟩
  | .local _ .vmem, ⟨15, _⟩ => ⟨S64x1024, .f32⟩
  | .local _ .vmem, ⟨16, _⟩ => ⟨S2x1024, .f32⟩
  | .local _ .vmem, ⟨17, _⟩ => ⟨S1x1024, .f32⟩
  | .local _ .vmem, ⟨18, _⟩ => ⟨S64x2048, .bf16⟩
  | .local _ .vmem, ⟨19, _⟩ => ⟨S64x2048, .bf16⟩
  | .local _ .vmem, ⟨20, _⟩ => ⟨S2x64x2048, .bf16⟩
  | .local _ .vmem, ⟨21, _⟩ => ⟨S2x64x2048, .bf16⟩
  | .local _ .vmem, ⟨22, _⟩ => ⟨S64x10240, .bf16⟩
  | .local _ .vmem, ⟨23, _⟩ => ⟨S64x10240, .bf16⟩
  | .local _ .vmem, ⟨24, _⟩ => ⟨S8x1024, .f32⟩
  | .local _ .vmem, ⟨25, _⟩ => ⟨S2x1024, .f32⟩
  | .local _ .vmem, ⟨26, _⟩ => ⟨S2x2048, .f32⟩
  | .local _ .vmem, ⟨27, _⟩ => ⟨S8x128x128, .f32⟩
  | .local _ .vmem, ⟨28, _⟩ => ⟨S1x1024, .f32⟩
  | .local _ .vmem, ⟨29, _⟩ => ⟨S64x1024, .f32⟩
  | .local _ .vmem, ⟨30, _⟩ => ⟨S64x1024, .f32⟩
  | .local _ .vmem, ⟨31, _⟩ => ⟨S64x1024, .f32⟩
  | .local _ .vmem, ⟨32, _⟩ => ⟨S1x1024, .f32⟩
  | _, _ => ⟨S1x2048x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_call0_cst : Ref sig .tc := ⟨.hbm, 26, rfl⟩
abbrev main_call0_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c : Ref sig .tc := ⟨.hbm, 69, rfl⟩
abbrev main_v46 : Ref sig .tc := ⟨.hbm, 70, rfl⟩
abbrev main_call2_v0 : Ref sig .tc := ⟨.hbm, 71, rfl⟩
abbrev main_call2_c : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_c_0 : Ref sig .tc := ⟨.hbm, 77, rfl⟩
abbrev main_call2_v5 : Ref sig .tc := ⟨.hbm, 78, rfl⟩
abbrev main_v47 : Ref sig .tc := ⟨.hbm, 79, rfl⟩
abbrev main_c_6 : Ref sig .tc := ⟨.hbm, 80, rfl⟩
abbrev main_v48 : Ref sig .tc := ⟨.hbm, 81, rfl⟩
abbrev main_call3_v0 : Ref sig .tc := ⟨.hbm, 82, rfl⟩
abbrev main_call3_c : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_c_0 : Ref sig .tc := ⟨.hbm, 88, rfl⟩
abbrev main_call3_v5 : Ref sig .tc := ⟨.hbm, 89, rfl⟩
abbrev main_v49 : Ref sig .tc := ⟨.hbm, 90, rfl⟩
abbrev main_call4_call0_cst : Ref sig .tc := ⟨.hbm, 91, rfl⟩
abbrev main_call4_call0_v0 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_call5_call0_cst : Ref sig .tc := ⟨.hbm, 101, rfl⟩
abbrev main_call5_call0_v0 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_7 : Ref sig .tc := ⟨.hbm, 112, rfl⟩
abbrev main_call6_v0 : Ref sig .tc := ⟨.hbm, 113, rfl⟩
abbrev main_call6_v1 : Ref sig .tc := ⟨.hbm, 114, rfl⟩
abbrev main_call6_v2 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_cst_8 : Ref sig .tc := ⟨.hbm, 129, rfl⟩
abbrev main_call7_v0 : Ref sig .tc := ⟨.hbm, 130, rfl⟩
abbrev main_call7_v1 : Ref sig .tc := ⟨.hbm, 131, rfl⟩
abbrev main_call7_v2 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_cst_9 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97_0 : Ref sig .tc := ⟨.hbm, 151, rfl⟩
abbrev main_v97_1 : Ref sig .tc := ⟨.hbm, 152, rfl⟩
abbrev main_v97_2 : Ref sig .tc := ⟨.hbm, 153, rfl⟩
abbrev main_v97_3 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25
abbrev cc0_sem15_0 : DmaSem sig := 26

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c31_i32 : BitVec 32 := 31#32
  let v1387 : BitVec 1 := Scalar.cmpi .eq arg0 c31_i32
  let v1388 : BitVec 32 := Scalar.extui v1387
  let c0_i32_571 : BitVec 32 := 0#32
  let v1389 : BitVec 1 := Scalar.cmpi .ne v1388 c0_i32_571
  v1389

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c3_i32 : BitVec 32 := 3#32
  let c0_i32 : BitVec 32 := 0#32
  ![v0.toNat, c3_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c5_i32 : BitVec 32 := 5#32
  let c0_i32 : BitVec 32 := 0#32
  ![v0.toNat, c5_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 4 → Nat :=
  let arg0 : BitVec 32 := BitVec.ofNat 32 (i 0).val
  let c32_i32 : BitVec 32 := 32#32
  let v0 : BitVec 32 := Scalar.subi c32_i32 arg0
  let c31_i32 : BitVec 32 := 31#32
  let v1 : BitVec 32 := Scalar.minsi v0 c31_i32
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S64x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x64x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x10240 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== HgBwdIdeal.lean ====
variable {F : FTy → Type} [FloatOps F] [Named F]
def κ : String → Option EReal := fun
  | "exp_clamp" => some ⊤
  | _ => none
-- ==== HgBwdRefIdeal.lean ====
abbrev S1x2048x10240 : Shape := ⟨3, ![1, 2048, 10240]⟩
abbrev S1x2048x1024 : Shape := ⟨3, ![1, 2048, 1024]⟩
abbrev S2x1024 : Shape := ⟨2, ![2, 1024]⟩
abbrev S1x1024 : Shape := ⟨2, ![1, 1024]⟩
abbrev S2048x2048 : Shape := ⟨2, ![2048, 2048]⟩
abbrev S2x2048x2048 : Shape := ⟨3, ![2, 2048, 2048]⟩
abbrev S2048x10240 : Shape := ⟨2, ![2048, 10240]⟩
abbrev S_ : Shape := ⟨0, ![]⟩
abbrev S4096 : Shape := ⟨1, ![4096]⟩
abbrev S2048x1024 : Shape := ⟨2, ![2048, 1024]⟩
abbrev S1024 : Shape := ⟨1, ![1024]⟩
abbrev S32x64x8x128 : Shape := ⟨4, ![32, 64, 8, 128]⟩
abbrev S32x8x64x128 : Shape := ⟨4, ![32, 8, 64, 128]⟩
abbrev S64x64 : Shape := ⟨2, ![64, 64]⟩
abbrev S32x32 : Shape := ⟨2, ![32, 32]⟩
abbrev S32x8x1x128 : Shape := ⟨4, ![32, 8, 1, 128]⟩
abbrev S32x8x128x128 : Shape := ⟨4, ![32, 8, 128, 128]⟩
abbrev S32x8x128 : Shape := ⟨3, ![32, 8, 128]⟩
abbrev S32x1x8x128 : Shape := ⟨4, ![32, 1, 8, 128]⟩
abbrev S1x32x8x128 : Shape := ⟨4, ![1, 32, 8, 128]⟩
abbrev S32x32x8x128 : Shape := ⟨4, ![32, 32, 8, 128]⟩
abbrev S32x32x1x1 : Shape := ⟨4, ![32, 32, 1, 1]⟩
abbrev S8x128x128x32 : Shape := ⟨4, ![8, 128, 128, 32]⟩
abbrev S32x8x64x1x128 : Shape := ⟨5, ![32, 8, 64, 1, 128]⟩
abbrev S32x8x1x64x128 : Shape := ⟨5, ![32, 8, 1, 64, 128]⟩
abbrev S32x8x64x64x128 : Shape := ⟨5, ![32, 8, 64, 64, 128]⟩
abbrev S64x64x1 : Shape := ⟨3, ![64, 64, 1]⟩
abbrev S32x8x64x64 : Shape := ⟨4, ![32, 8, 64, 64]⟩
abbrev S2048x8x128 : Shape := ⟨3, ![2048, 8, 128]⟩
abbrev S2048x8 : Shape := ⟨2, ![2048, 8]⟩
abbrev S2048x8x1 : Shape := ⟨3, ![2048, 8, 1]⟩
abbrev S2048 : Shape := ⟨1, ![2048]⟩
abbrev S1x2048 : Shape := ⟨2, ![1, 2048]⟩
abbrev S1x2048x2048 : Shape := ⟨3, ![1, 2048, 2048]⟩
abbrev S32x8x128x64 : Shape := ⟨4, ![32, 8, 128, 64]⟩
abbrev S8x128x32x32 : Shape := ⟨4, ![8, 128, 32, 32]⟩
abbrev S7x1024 : Shape := ⟨2, ![7, 1024]⟩
abbrev S8x1024 : Shape := ⟨2, ![8, 1024]⟩
abbrev S2x2048 : Shape := ⟨2, ![2, 2048]⟩

abbrev nBuf : Space → Nat
  | .hbm => 439
  | .vmem => 0
  | .smem => 0
  | _ => 0

abbrev hbmTy0_0 (i : Nat) : BufTy := match i % 128 with
  | 0 => ⟨S1x2048x10240, .f32⟩
  | 1 => ⟨S1x2048x1024, .f32⟩
  | 2 => ⟨S2x1024, .f32⟩
  | 3 => ⟨S1x1024, .f32⟩
  | 4 => ⟨S2048x2048, .bf16⟩
  | 5 => ⟨S2x2048x2048, .bf16⟩
  | 6 => ⟨S2048x10240, .f32⟩
  | 7 => ⟨S_, .f32⟩
  | 8 => ⟨S4096, .f32⟩
  | 9 => ⟨S2048x2048, .f32⟩
  | 10 => ⟨S2048x1024, .f32⟩
  | 11 => ⟨S2048x1024, .f32⟩
  | 12 => ⟨S2048x1024, .f32⟩
  | 13 => ⟨S2048x1024, .f32⟩
  | 14 => ⟨S2048x2048, .f32⟩
  | 15 => ⟨S2048x2048, .f32⟩
  | 16 => ⟨S_, .f32⟩
  | 17 => ⟨S1024, .f32⟩
  | 18 => ⟨S1x1024, .f32⟩
  | 19 => ⟨S2x1024, .f32⟩
  | 20 => ⟨S2x1024, .i1⟩
  | 21 => ⟨S2x1024, .f32⟩
  | 22 => ⟨S_, .f32⟩
  | 23 => ⟨S1024, .f32⟩
  | 24 => ⟨S_, .f32⟩
  | 25 => ⟨S1024, .f32⟩
  | 26 => ⟨S1024, .f32⟩
  | 27 => ⟨S_, .f32⟩
  | 28 => ⟨S1024, .f32⟩
  | 29 => ⟨S1024, .i1⟩
  | 30 => ⟨S_, .f32⟩
  | 31 => ⟨S1024, .f32⟩
  | 32 => ⟨S1024, .i1⟩
  | 33 => ⟨S_, .f32⟩
  | 34 => ⟨S1024, .f32⟩
  | 35 => ⟨S_, .f32⟩
  | 36 => ⟨S1024, .f32⟩
  | 37 => ⟨S_, .f32⟩
  | 38 => ⟨S1024, .f32⟩
  | 39 => ⟨S1024, .f32⟩
  | 40 => ⟨S1024, .f32⟩
  | 41 => ⟨S1x1024, .f32⟩
  | 42 => ⟨S2x1024, .f32⟩
  | 43 => ⟨S2x1024, .f32⟩
  | 44 => ⟨S2x1024, .f32⟩
  | 45 => ⟨S_, .f32⟩
  | 46 => ⟨S1024, .f32⟩
  | 47 => ⟨S1x1024, .f32⟩
  | 48 => ⟨S2x1024, .f32⟩
  | 49 => ⟨S2x1024, .f32⟩
  | 50 => ⟨S1x1024, .f32⟩
  | 51 => ⟨S_, .f32⟩
  | 52 => ⟨S1x1024, .f32⟩
  | 53 => ⟨S1x1024, .f32⟩
  | 54 => ⟨S_, .f32⟩
  | 55 => ⟨S_, .f32⟩
  | 56 => ⟨S2x1024, .f32⟩
  | 57 => ⟨S1x1024, .f32⟩
  | 58 => ⟨S1024, .f32⟩
  | 59 => ⟨S_, .f32⟩
  | 60 => ⟨S1024, .f32⟩
  | 61 => ⟨S1024, .f32⟩
  | 62 => ⟨S2048x1024, .f32⟩
  | 63 => ⟨S2048x1024, .f32⟩
  | 64 => ⟨S_, .f32⟩
  | 65 => ⟨S2048x1024, .f32⟩
  | 66 => ⟨S2048x1024, .f32⟩
  | 67 => ⟨S_, .f32⟩
  | 68 => ⟨S2048x1024, .f32⟩
  | 69 => ⟨S2048x1024, .f32⟩
  | 70 => ⟨S_, .f32⟩
  | 71 => ⟨S2048x1024, .f32⟩
  | 72 => ⟨S2048x1024, .f32⟩
  | 73 => ⟨S2048x1024, .f32⟩
  | 74 => ⟨S1x1024, .f32⟩
  | 75 => ⟨S2048x1024, .f32⟩
  | 76 => ⟨S2048x1024, .f32⟩
  | 77 => ⟨S1x1024, .f32⟩
  | 78 => ⟨S2048x1024, .f32⟩
  | 79 => ⟨S2048x1024, .f32⟩
  | 80 => ⟨S2048x1024, .f32⟩
  | 81 => ⟨S_, .f32⟩
  | 82 => ⟨S2048x1024, .f32⟩
  | 83 => ⟨S2048x1024, .f32⟩
  | 84 => ⟨S2048x1024, .f32⟩
  | 85 => ⟨S2048x1024, .f32⟩
  | 86 => ⟨S_, .f32⟩
  | 87 => ⟨S2048x1024, .f32⟩
  | 88 => ⟨S2048x1024, .f32⟩
  | 89 => ⟨S_, .f32⟩
  | 90 => ⟨S2048x1024, .f32⟩
  | 91 => ⟨S2048x1024, .f32⟩
  | 92 => ⟨S_, .f32⟩
  | 93 => ⟨S2048x1024, .f32⟩
  | 94 => ⟨S2048x1024, .f32⟩
  | 95 => ⟨S2048x1024, .f32⟩
  | 96 => ⟨S2048x1024, .f32⟩
  | 97 => ⟨S32x64x8x128, .f32⟩
  | 98 => ⟨S32x8x64x128, .f32⟩
  | 99 => ⟨S32x64x8x128, .f32⟩
  | 100 => ⟨S32x8x64x128, .f32⟩
  | 101 => ⟨S32x64x8x128, .f32⟩
  | 102 => ⟨S32x8x64x128, .f32⟩
  | 103 => ⟨S32x64x8x128, .f32⟩
  | 104 => ⟨S32x8x64x128, .f32⟩
  | 105 => ⟨S_, .i1⟩
  | 106 => ⟨S64x64, .i1⟩
  | 107 => ⟨S64x64, .i32⟩
  | 108 => ⟨S_, .i32⟩
  | 109 => ⟨S64x64, .i32⟩
  | 110 => ⟨S64x64, .i32⟩
  | 111 => ⟨S64x64, .i32⟩
  | 112 => ⟨S64x64, .i1⟩
  | 113 => ⟨S_, .i1⟩
  | 114 => ⟨S64x64, .i1⟩
  | 115 => ⟨S64x64, .i1⟩
  | 116 => ⟨S_, .i1⟩
  | 117 => ⟨S32x32, .i1⟩
  | 118 => ⟨S32x32, .i32⟩
  | 119 => ⟨S_, .i32⟩
  | 120 => ⟨S32x32, .i32⟩
  | 121 => ⟨S32x32, .i32⟩
  | 122 => ⟨S32x32, .i32⟩
  | 123 => ⟨S32x32, .i1⟩
  | 124 => ⟨S_, .i1⟩
  | 125 => ⟨S32x32, .i1⟩
  | 126 => ⟨S32x32, .i1⟩
  | 127 => ⟨S_, .f32⟩
  | _ => ⟨S1x2048x10240, .f32⟩

abbrev hbmTy0_1 (i : Nat) : BufTy := match i % 128 with
  | 0 => ⟨S_, .f32⟩
  | 1 => ⟨S32x8x64x128, .f32⟩
  | 2 => ⟨S32x8x1x128, .f32⟩
  | 3 => ⟨S32x8x64x128, .f32⟩
  | 4 => ⟨S32x8x64x128, .f32⟩
  | 5 => ⟨S32x8x64x128, .f32⟩
  | 6 => ⟨S32x8x64x128, .f32⟩
  | 7 => ⟨S32x8x128x128, .f32⟩
  | 8 => ⟨S32x8x128, .f32⟩
  | 9 => ⟨S_, .f32⟩
  | 10 => ⟨S_, .f32⟩
  | 11 => ⟨S32x8x128, .f32⟩
  | 12 => ⟨S32x8x128, .f32⟩
  | 13 => ⟨S32x8x128, .f32⟩
  | 14 => ⟨S32x1x8x128, .f32⟩
  | 15 => ⟨S1x32x8x128, .f32⟩
  | 16 => ⟨S32x32x8x128, .f32⟩
  | 17 => ⟨S32x32x8x128, .f32⟩
  | 18 => ⟨S32x32x8x128, .f32⟩
  | 19 => ⟨S32x32x1x1, .i1⟩
  | 20 => ⟨S_, .f32⟩
  | 21 => ⟨S_, .f32⟩
  | 22 => ⟨S32x32x8x128, .i1⟩
  | 23 => ⟨S32x32x8x128, .f32⟩
  | 24 => ⟨S32x32x8x128, .f32⟩
  | 25 => ⟨S_, .f32⟩
  | 26 => ⟨S32x32x8x128, .f32⟩
  | 27 => ⟨S32x32x8x128, .f32⟩
  | 28 => ⟨S8x128x128x32, .f32⟩
  | 29 => ⟨S32x8x128x128, .f32⟩
  | 30 => ⟨S32x8x64x128, .f32⟩
  | 31 => ⟨S32x8x64x128, .f32⟩
  | 32 => ⟨S32x8x64x128, .f32⟩
  | 33 => ⟨S32x8x64x1x128, .f32⟩
  | 34 => ⟨S32x8x1x64x128, .f32⟩
  | 35 => ⟨S32x8x64x64x128, .f32⟩
  | 36 => ⟨S32x8x64x64x128, .f32⟩
  | 37 => ⟨S32x8x64x64x128, .f32⟩
  | 38 => ⟨S64x64x1, .i1⟩
  | 39 => ⟨S_, .f32⟩
  | 40 => ⟨S_, .f32⟩
  | 41 => ⟨S32x8x64x64x128, .i1⟩
  | 42 => ⟨S32x8x64x64x128, .f32⟩
  | 43 => ⟨S32x8x64x64x128, .f32⟩
  | 44 => ⟨S_, .f32⟩
  | 45 => ⟨S32x8x64x64x128, .f32⟩
  | 46 => ⟨S32x8x64x64x128, .f32⟩
  | 47 => ⟨S32x8x64x1x128, .f32⟩
  | 48 => ⟨S32x8x1x64x128, .f32⟩
  | 49 => ⟨S32x8x64x64x128, .f32⟩
  | 50 => ⟨S32x8x64x64x128, .f32⟩
  | 51 => ⟨S32x8x64x64x128, .f32⟩
  | 52 => ⟨S32x8x64x64x128, .f32⟩
  | 53 => ⟨S_, .f32⟩
  | 54 => ⟨S32x8x64x64, .f32⟩
  | 55 => ⟨S32x8x64x128, .f32⟩
  | 56 => ⟨S32x8x64x128, .f32⟩
  | 57 => ⟨S32x64x8x128, .f32⟩
  | 58 => ⟨S2048x8x128, .f32⟩
  | 59 => ⟨S2048x8x128, .f32⟩
  | 60 => ⟨S_, .f32⟩
  | 61 => ⟨S2048x8, .f32⟩
  | 62 => ⟨S2048x8x1, .f32⟩
  | 63 => ⟨S_, .f32⟩
  | 64 => ⟨S2048x8x1, .f32⟩
  | 65 => ⟨S2048x8x1, .f32⟩
  | 66 => ⟨S_, .f32⟩
  | 67 => ⟨S2048x8x1, .f32⟩
  | 68 => ⟨S2048x8x1, .f32⟩
  | 69 => ⟨S2048x8x1, .f32⟩
  | 70 => ⟨S2048x8x1, .f32⟩
  | 71 => ⟨S_, .f32⟩
  | 72 => ⟨S2048x8x1, .f32⟩
  | 73 => ⟨S2048x8x1, .f32⟩
  | 74 => ⟨S2048x8x128, .f32⟩
  | 75 => ⟨S2048x8x128, .f32⟩
  | 76 => ⟨S2048x1024, .f32⟩
  | 77 => ⟨S1024, .f32⟩
  | 78 => ⟨S1x1024, .f32⟩
  | 79 => ⟨S2048x1024, .f32⟩
  | 80 => ⟨S2048x1024, .f32⟩
  | 81 => ⟨S2048x1024, .f32⟩
  | 82 => ⟨S2048x1024, .f32⟩
  | 83 => ⟨S_, .f32⟩
  | 84 => ⟨S2048x1024, .f32⟩
  | 85 => ⟨S2048x1024, .f32⟩
  | 86 => ⟨S_, .f32⟩
  | 87 => ⟨S2048x1024, .f32⟩
  | 88 => ⟨S2048x1024, .f32⟩
  | 89 => ⟨S_, .f32⟩
  | 90 => ⟨S2048x1024, .f32⟩
  | 91 => ⟨S2048x1024, .f32⟩
  | 92 => ⟨S2048x1024, .f32⟩
  | 93 => ⟨S2048x1024, .f32⟩
  | 94 => ⟨S2048x1024, .f32⟩
  | 95 => ⟨S2048, .f32⟩
  | 96 => ⟨S1x2048, .f32⟩
  | 97 => ⟨S2048x2048, .f32⟩
  | 98 => ⟨S2048x2048, .f32⟩
  | 99 => ⟨S2048, .f32⟩
  | 100 => ⟨S1x2048, .f32⟩
  | 101 => ⟨S2048x2048, .f32⟩
  | 102 => ⟨S2048x2048, .f32⟩
  | 103 => ⟨S2048x2048, .f32⟩
  | 104 => ⟨S2048x1024, .f32⟩
  | 105 => ⟨S1x2048x2048, .bf16⟩
  | 106 => ⟨S2048x2048, .bf16⟩
  | 107 => ⟨S2048x2048, .f32⟩
  | 108 => ⟨S1x2048x2048, .bf16⟩
  | 109 => ⟨S2048x2048, .bf16⟩
  | 110 => ⟨S2048x2048, .f32⟩
  | 111 => ⟨S_, .f32⟩
  | 112 => ⟨S2048, .f32⟩
  | 113 => ⟨S1x2048, .f32⟩
  | 114 => ⟨S_, .f32⟩
  | 115 => ⟨S2048, .f32⟩
  | 116 => ⟨S_, .f32⟩
  | 117 => ⟨S4096, .f32⟩
  | 118 => ⟨S_, .f32⟩
  | 119 => ⟨S2048, .f32⟩
  | 120 => ⟨S1x2048, .f32⟩
  | 121 => ⟨S_, .f32⟩
  | 122 => ⟨S2048, .f32⟩
  | 123 => ⟨S_, .f32⟩
  | 124 => ⟨S4096, .f32⟩
  | 125 => ⟨S4096, .f32⟩
  | 126 => ⟨S2048x1024, .f32⟩
  | 127 => ⟨S2048x1024, .f32⟩
  | _ => ⟨S1x2048x10240, .f32⟩

abbrev hbmTy0_2 (i : Nat) : BufTy := match i % 128 with
  | 0 => ⟨S2048x1024, .f32⟩
  | 1 => ⟨S2048x1024, .f32⟩
  | 2 => ⟨S2048x1024, .f32⟩
  | 3 => ⟨S2048x1024, .f32⟩
  | 4 => ⟨S2048x1024, .f32⟩
  | 5 => ⟨S_, .f32⟩
  | 6 => ⟨S1024, .f32⟩
  | 7 => ⟨S1x1024, .f32⟩
  | 8 => ⟨S2048x1024, .f32⟩
  | 9 => ⟨S2048x1024, .f32⟩
  | 10 => ⟨S_, .f32⟩
  | 11 => ⟨S1024, .f32⟩
  | 12 => ⟨S1x1024, .f32⟩
  | 13 => ⟨S2048x8x128, .f32⟩
  | 14 => ⟨S2048x8x128, .f32⟩
  | 15 => ⟨S_, .f32⟩
  | 16 => ⟨S2048x8, .f32⟩
  | 17 => ⟨S2048x8x1, .f32⟩
  | 18 => ⟨S2048x8x128, .f32⟩
  | 19 => ⟨S2048x8x128, .f32⟩
  | 20 => ⟨S2048x8x1, .f32⟩
  | 21 => ⟨S_, .f32⟩
  | 22 => ⟨S2048x8x1, .f32⟩
  | 23 => ⟨S2048x8x1, .f32⟩
  | 24 => ⟨S_, .f32⟩
  | 25 => ⟨S2048x8, .f32⟩
  | 26 => ⟨S2048x8x128, .f32⟩
  | 27 => ⟨S2048x8x128, .f32⟩
  | 28 => ⟨S2048x8x128, .f32⟩
  | 29 => ⟨S2048x8x128, .f32⟩
  | 30 => ⟨S2048x8x128, .f32⟩
  | 31 => ⟨S32x64x8x128, .f32⟩
  | 32 => ⟨S32x8x64x128, .f32⟩
  | 33 => ⟨S32x8x128x64, .f32⟩
  | 34 => ⟨S32x8x64x128, .f32⟩
  | 35 => ⟨S32x8x64x64, .f32⟩
  | 36 => ⟨S32x8x64x64x128, .f32⟩
  | 37 => ⟨S32x8x64x64x128, .f32⟩
  | 38 => ⟨S32x8x64x64x128, .f32⟩
  | 39 => ⟨S32x8x64x64x128, .f32⟩
  | 40 => ⟨S32x8x64x64x128, .f32⟩
  | 41 => ⟨S_, .f32⟩
  | 42 => ⟨S32x8x64x128, .f32⟩
  | 43 => ⟨S32x8x1x64x128, .f32⟩
  | 44 => ⟨S32x8x64x64x128, .f32⟩
  | 45 => ⟨S32x8x64x64x128, .f32⟩
  | 46 => ⟨S_, .f32⟩
  | 47 => ⟨S32x8x64x128, .f32⟩
  | 48 => ⟨S32x8x64x1x128, .f32⟩
  | 49 => ⟨S_, .f32⟩
  | 50 => ⟨S32x8x64x128, .f32⟩
  | 51 => ⟨S_, .f32⟩
  | 52 => ⟨S32x8x64x128, .f32⟩
  | 53 => ⟨S32x8x64x64x128, .f32⟩
  | 54 => ⟨S_, .f32⟩
  | 55 => ⟨S32x8x64x64x128, .f32⟩
  | 56 => ⟨S32x8x64x64x128, .f32⟩
  | 57 => ⟨S_, .f32⟩
  | 58 => ⟨S32x8x64x128, .f32⟩
  | 59 => ⟨S32x8x64x1x128, .f32⟩
  | 60 => ⟨S32x8x64x64x128, .f32⟩
  | 61 => ⟨S_, .f32⟩
  | 62 => ⟨S32x8x64x128, .f32⟩
  | 63 => ⟨S32x8x1x64x128, .f32⟩
  | 64 => ⟨S_, .f32⟩
  | 65 => ⟨S32x8x64x128, .f32⟩
  | 66 => ⟨S_, .f32⟩
  | 67 => ⟨S32x8x64x128, .f32⟩
  | 68 => ⟨S32x8x64x128, .f32⟩
  | 69 => ⟨S32x8x128x128, .f32⟩
  | 70 => ⟨S32x8x128x128, .f32⟩
  | 71 => ⟨S32x8x64x128, .f32⟩
  | 72 => ⟨S32x8x64x128, .f32⟩
  | 73 => ⟨S32x8x64x128, .f32⟩
  | 74 => ⟨S32x8x64x128, .f32⟩
  | 75 => ⟨S32x8x64x128, .f32⟩
  | 76 => ⟨S32x8x64x128, .f32⟩
  | 77 => ⟨S8x128x128x32, .f32⟩
  | 78 => ⟨S8x128x32x32, .f32⟩
  | 79 => ⟨S32x32x8x128, .f32⟩
  | 80 => ⟨S8x128x128x32, .f32⟩
  | 81 => ⟨S32x8x128x128, .f32⟩
  | 82 => ⟨S32x32x8x128, .f32⟩
  | 83 => ⟨S_, .f32⟩
  | 84 => ⟨S32x32x8x128, .f32⟩
  | 85 => ⟨S32x32x8x128, .f32⟩
  | 86 => ⟨S_, .f32⟩
  | 87 => ⟨S32x8x128, .f32⟩
  | 88 => ⟨S32x1x8x128, .f32⟩
  | 89 => ⟨S32x32x8x128, .f32⟩
  | 90 => ⟨S_, .f32⟩
  | 91 => ⟨S32x8x128, .f32⟩
  | 92 => ⟨S1x32x8x128, .f32⟩
  | 93 => ⟨S_, .f32⟩
  | 94 => ⟨S32x8x128, .f32⟩
  | 95 => ⟨S_, .f32⟩
  | 96 => ⟨S32x8x128, .f32⟩
  | 97 => ⟨S32x8x128, .f32⟩
  | 98 => ⟨S32x8x128, .f32⟩
  | 99 => ⟨S32x8x1x128, .f32⟩
  | 100 => ⟨S_, .f32⟩
  | 101 => ⟨S_, .f32⟩
  | 102 => ⟨S32x8x128, .f32⟩
  | 103 => ⟨S32x8x1x128, .f32⟩
  | 104 => ⟨S32x8x1x128, .f32⟩
  | 105 => ⟨S32x8x128x64, .f32⟩
  | 106 => ⟨S32x8x64x128, .f32⟩
  | 107 => ⟨S32x8x64x128, .f32⟩
  | 108 => ⟨S32x8x128x64, .f32⟩
  | 109 => ⟨S32x8x64x128, .f32⟩
  | 110 => ⟨S32x8x64x128, .f32⟩
  | 111 => ⟨S32x8x64x128, .f32⟩
  | 112 => ⟨S32x8x64x128, .f32⟩
  | 113 => ⟨S32x8x64x128, .f32⟩
  | 114 => ⟨S_, .f32⟩
  | 115 => ⟨S32x8x128, .f32⟩
  | 116 => ⟨S32x8x1x128, .f32⟩
  | 117 => ⟨S32x8x64x128, .f32⟩
  | 118 => ⟨S32x8x1x128, .f32⟩
  | 119 => ⟨S32x8x64x128, .f32⟩
  | 120 => ⟨S_, .f32⟩
  | 121 => ⟨S32x8x64x128, .f32⟩
  | 122 => ⟨S32x8x64x128, .f32⟩
  | 123 => ⟨S_, .f32⟩
  | 124 => ⟨S_, .f32⟩
  | 125 => ⟨S32x8x64x128, .f32⟩
  | 126 => ⟨S32x64x8x128, .f32⟩
  | 127 => ⟨S2048x1024, .f32⟩
  | _ => ⟨S1x2048x10240, .f32⟩

abbrev hbmTy0_3 (i : Nat) : BufTy := match i % 128 with
  | 0 => ⟨S32x64x8x128, .f32⟩
  | 1 => ⟨S2048x1024, .f32⟩
  | 2 => ⟨S32x64x8x128, .f32⟩
  | 3 => ⟨S2048x1024, .f32⟩
  | 4 => ⟨S32x64x8x128, .f32⟩
  | 5 => ⟨S2048x1024, .f32⟩
  | 6 => ⟨S2048x1024, .f32⟩
  | 7 => ⟨S2048x1024, .f32⟩
  | 8 => ⟨S2048x1024, .f32⟩
  | 9 => ⟨S2048x1024, .f32⟩
  | 10 => ⟨S2048x1024, .f32⟩
  | 11 => ⟨S2048x1024, .f32⟩
  | 12 => ⟨S2048x1024, .f32⟩
  | 13 => ⟨S_, .f32⟩
  | 14 => ⟨S1024, .f32⟩
  | 15 => ⟨S1x1024, .f32⟩
  | 16 => ⟨S_, .f32⟩
  | 17 => ⟨S1024, .f32⟩
  | 18 => ⟨S2048x1024, .f32⟩
  | 19 => ⟨S2048x1024, .f32⟩
  | 20 => ⟨S2048x1024, .f32⟩
  | 21 => ⟨S_, .f32⟩
  | 22 => ⟨S1024, .f32⟩
  | 23 => ⟨S1x1024, .f32⟩
  | 24 => ⟨S_, .f32⟩
  | 25 => ⟨S1024, .f32⟩
  | 26 => ⟨S2048x1024, .f32⟩
  | 27 => ⟨S1024, .f32⟩
  | 28 => ⟨S1024, .f32⟩
  | 29 => ⟨S1x1024, .f32⟩
  | 30 => ⟨S_, .f32⟩
  | 31 => ⟨S2x1024, .f32⟩
  | 32 => ⟨S_, .f32⟩
  | 33 => ⟨S_, .f32⟩
  | 34 => ⟨S2x1024, .f32⟩
  | 35 => ⟨S2x1024, .f32⟩
  | 36 => ⟨S2x1024, .f32⟩
  | 37 => ⟨S2x1024, .f32⟩
  | 38 => ⟨S_, .f32⟩
  | 39 => ⟨S1024, .f32⟩
  | 40 => ⟨S1x1024, .f32⟩
  | 41 => ⟨S1x1024, .f32⟩
  | 42 => ⟨S2x1024, .f32⟩
  | 43 => ⟨S2x1024, .f32⟩
  | 44 => ⟨S_, .f32⟩
  | 45 => ⟨S1024, .f32⟩
  | 46 => ⟨S2x1024, .f32⟩
  | 47 => ⟨S2x1024, .f32⟩
  | 48 => ⟨S2x1024, .f32⟩
  | 49 => ⟨S2048x10240, .f32⟩
  | 50 => ⟨S2048x10240, .bf16⟩
  | 51 => ⟨S_, .f32⟩
  | 52 => ⟨S7x1024, .f32⟩
  | 53 => ⟨S8x1024, .f32⟩
  | 54 => ⟨S2x2048, .f32⟩
  | _ => ⟨S1x2048x10240, .f32⟩

abbrev hbmTy (i : Nat) : BufTy := match i / 128 with
  | 0 => hbmTy0_0 i
  | 1 => hbmTy0_1 i
  | 2 => hbmTy0_2 i
  | 3 => hbmTy0_3 i
  | _ => ⟨S1x2048x10240, .f32⟩

abbrev bufTy : (tb : Table) → Fin (tcTables nBuf tb) → BufTy
  | .hbm, ⟨i, _⟩ => hbmTy i
  | _, _ => ⟨S1x2048x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_call0_call0_cst : Ref sig .tc := ⟨.hbm, 54, rfl⟩
abbrev main_call0_call0_v0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_v45 : Ref sig .tc := ⟨.hbm, 66, rfl⟩
abbrev main_cst_12 : Ref sig .tc := ⟨.hbm, 67, rfl⟩
abbrev main_v46 : Ref sig .tc := ⟨.hbm, 68, rfl⟩
abbrev main_v47 : Ref sig .tc := ⟨.hbm, 69, rfl⟩
abbrev main_cst_13 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_14 : Ref sig .tc := ⟨.hbm, 81, rfl⟩
abbrev main_v58 : Ref sig .tc := ⟨.hbm, 82, rfl⟩
abbrev main_v59 : Ref sig .tc := ⟨.hbm, 83, rfl⟩
abbrev main_call1_v0 : Ref sig .tc := ⟨.hbm, 84, rfl⟩
abbrev main_call1_v1 : Ref sig .tc := ⟨.hbm, 85, rfl⟩
abbrev main_call1_cst : Ref sig .tc := ⟨.hbm, 86, rfl⟩
abbrev main_call1_v2 : Ref sig .tc := ⟨.hbm, 87, rfl⟩
abbrev main_call1_v3 : Ref sig .tc := ⟨.hbm, 88, rfl⟩
abbrev main_call1_cst_0 : Ref sig .tc := ⟨.hbm, 89, rfl⟩
abbrev main_call1_v4 : Ref sig .tc := ⟨.hbm, 90, rfl⟩
abbrev main_v60_2 : Ref sig .tc := ⟨.hbm, 91, rfl⟩
abbrev main_call1_cst_1 : Ref sig .tc := ⟨.hbm, 92, rfl⟩
abbrev main_call1_v6 : Ref sig .tc := ⟨.hbm, 93, rfl⟩
abbrev main_call1_v7 : Ref sig .tc := ⟨.hbm, 94, rfl⟩
abbrev main_v60_1 : Ref sig .tc := ⟨.hbm, 95, rfl⟩
abbrev main_v60_0 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_c : Ref sig .tc := ⟨.hbm, 105, rfl⟩
abbrev main_v69 : Ref sig .tc := ⟨.hbm, 106, rfl⟩
abbrev main_call2_v0 : Ref sig .tc := ⟨.hbm, 107, rfl⟩
abbrev main_call2_c : Ref sig .tc := ⟨.hbm, 108, rfl⟩
abbrev main_call2_v1 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_call2_c_0 : Ref sig .tc := ⟨.hbm, 113, rfl⟩
abbrev main_call2_v5 : Ref sig .tc := ⟨.hbm, 114, rfl⟩
abbrev main_v70 : Ref sig .tc := ⟨.hbm, 115, rfl⟩
abbrev main_c_15 : Ref sig .tc := ⟨.hbm, 116, rfl⟩
abbrev main_v71 : Ref sig .tc := ⟨.hbm, 117, rfl⟩
abbrev main_call3_v0 : Ref sig .tc := ⟨.hbm, 118, rfl⟩
abbrev main_call3_c : Ref sig .tc := ⟨.hbm, 119, rfl⟩
abbrev main_call3_v1 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_c_0 : Ref sig .tc := ⟨.hbm, 124, rfl⟩
abbrev main_call3_v5 : Ref sig .tc := ⟨.hbm, 125, rfl⟩
abbrev main_v72 : Ref sig .tc := ⟨.hbm, 126, rfl⟩
abbrev main_call4_call0_cst : Ref sig .tc := ⟨.hbm, 127, rfl⟩
abbrev main_call4_call0_v0 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_call5_call0_cst : Ref sig .tc := ⟨.hbm, 137, rfl⟩
abbrev main_call5_call0_v0 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_cst_16 : Ref sig .tc := ⟨.hbm, 148, rfl⟩
abbrev main_call6_v0 : Ref sig .tc := ⟨.hbm, 149, rfl⟩
abbrev main_v90_1 : Ref sig .tc := ⟨.hbm, 150, rfl⟩
abbrev main_call6_v2 : Ref sig .tc := ⟨.hbm, 151, rfl⟩
abbrev main_v90_0 : Ref sig .tc := ⟨.hbm, 152, rfl⟩
abbrev main_call6_cst : Ref sig .tc := ⟨.hbm, 153, rfl⟩
abbrev main_v90_2 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_cst_17 : Ref sig .tc := ⟨.hbm, 167, rfl⟩
abbrev main_call7_v0 : Ref sig .tc := ⟨.hbm, 168, rfl⟩
abbrev main_v103_1 : Ref sig .tc := ⟨.hbm, 169, rfl⟩
abbrev main_call7_v2 : Ref sig .tc := ⟨.hbm, 170, rfl⟩
abbrev main_v103_0 : Ref sig .tc := ⟨.hbm, 171, rfl⟩
abbrev main_call7_cst : Ref sig .tc := ⟨.hbm, 172, rfl⟩
abbrev main_v103_2 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_cst_18 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_cst_19 : Ref sig .tc := ⟨.hbm, 188, rfl⟩
abbrev main_v117 : Ref sig .tc := ⟨.hbm, 189, rfl⟩
abbrev main_v118 : Ref sig .tc := ⟨.hbm, 190, rfl⟩
abbrev main_cst_20 : Ref sig .tc := ⟨.hbm, 191, rfl⟩
abbrev main_v119 : Ref sig .tc := ⟨.hbm, 192, rfl⟩
abbrev main_v120 : Ref sig .tc := ⟨.hbm, 193, rfl⟩
abbrev main_cst_21 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_cst_22 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_call8_v0 : Ref sig .tc := ⟨.hbm, 209, rfl⟩
abbrev main_call8_v1 : Ref sig .tc := ⟨.hbm, 210, rfl⟩
abbrev main_call8_cst : Ref sig .tc := ⟨.hbm, 211, rfl⟩
abbrev main_call8_v2 : Ref sig .tc := ⟨.hbm, 212, rfl⟩
abbrev main_call8_v3 : Ref sig .tc := ⟨.hbm, 213, rfl⟩
abbrev main_call8_cst_0 : Ref sig .tc := ⟨.hbm, 214, rfl⟩
abbrev main_call8_v4 : Ref sig .tc := ⟨.hbm, 215, rfl⟩
abbrev main_v134_2 : Ref sig .tc := ⟨.hbm, 216, rfl⟩
abbrev main_call8_cst_1 : Ref sig .tc := ⟨.hbm, 217, rfl⟩
abbrev main_call8_v6 : Ref sig .tc := ⟨.hbm, 218, rfl⟩
abbrev main_call8_v7 : Ref sig .tc := ⟨.hbm, 219, rfl⟩
abbrev main_v134_1 : Ref sig .tc := ⟨.hbm, 220, rfl⟩
abbrev main_v134_0 : Ref sig .tc := ⟨.hbm, 221, rfl⟩
abbrev main_v135 : Ref sig .tc := ⟨.hbm, 222, rfl⟩
abbrev main_v136 : Ref sig .tc := ⟨.hbm, 223, rfl⟩
abbrev main_v137 : Ref sig .tc := ⟨.hbm, 224, rfl⟩
abbrev main_v138 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_v151 : Ref sig .tc := ⟨.hbm, 238, rfl⟩
abbrev main_cst_23 : Ref sig .tc := ⟨.hbm, 239, rfl⟩
abbrev main_v152 : Ref sig .tc := ⟨.hbm, 240, rfl⟩
abbrev main_v153 : Ref sig .tc := ⟨.hbm, 241, rfl⟩
abbrev main_cst_24 : Ref sig .tc := ⟨.hbm, 242, rfl⟩
abbrev main_v154 : Ref sig .tc := ⟨.hbm, 243, rfl⟩
abbrev main_cst_25 : Ref sig .tc := ⟨.hbm, 244, rfl⟩
abbrev main_v155 : Ref sig .tc := ⟨.hbm, 245, rfl⟩
abbrev main_cst_26 : Ref sig .tc := ⟨.hbm, 246, rfl⟩
abbrev main_v156 : Ref sig .tc := ⟨.hbm, 247, rfl⟩
abbrev main_v157 : Ref sig .tc := ⟨.hbm, 248, rfl⟩
abbrev main_cst_27 : Ref sig .tc := ⟨.hbm, 249, rfl⟩
abbrev main_v158 : Ref sig .tc := ⟨.hbm, 250, rfl⟩
abbrev main_cst_28 : Ref sig .tc := ⟨.hbm, 251, rfl⟩
abbrev main_v159 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_call9_v0 : Ref sig .tc := ⟨.hbm, 256, rfl⟩
abbrev main_call9_v1 : Ref sig .tc := ⟨.hbm, 257, rfl⟩
abbrev main_call9_v2 : Ref sig .tc := ⟨.hbm, 258, rfl⟩
abbrev main_v163 : Ref sig .tc := ⟨.hbm, 259, rfl⟩
abbrev main_v164 : Ref sig .tc := ⟨.hbm, 260, rfl⟩
abbrev main_cst_29 : Ref sig .tc := ⟨.hbm, 261, rfl⟩
abbrev main_v165 : Ref sig .tc := ⟨.hbm, 262, rfl⟩
abbrev main_v166 : Ref sig .tc := ⟨.hbm, 263, rfl⟩
abbrev main_v167 : Ref sig .tc := ⟨.hbm, 264, rfl⟩
abbrev main_v168 : Ref sig .tc := ⟨.hbm, 265, rfl⟩
abbrev main_cst_30 : Ref sig .tc := ⟨.hbm, 266, rfl⟩
abbrev main_v169 : Ref sig .tc := ⟨.hbm, 267, rfl⟩
abbrev main_v170 : Ref sig .tc := ⟨.hbm, 268, rfl⟩
abbrev main_v171 : Ref sig .tc := ⟨.hbm, 269, rfl⟩
abbrev main_v172 : Ref sig .tc := ⟨.hbm, 270, rfl⟩
abbrev main_cst_31 : Ref sig .tc := ⟨.hbm, 271, rfl⟩
abbrev main_v173 : Ref sig .tc := ⟨.hbm, 272, rfl⟩
abbrev main_v174 : Ref sig .tc := ⟨.hbm, 273, rfl⟩
abbrev main_v175 : Ref sig .tc := ⟨.hbm, 274, rfl⟩
abbrev main_v176 : Ref sig .tc := ⟨.hbm, 275, rfl⟩
abbrev main_v177 : Ref sig .tc := ⟨.hbm, 276, rfl⟩
abbrev main_cst_32 : Ref sig .tc := ⟨.hbm, 277, rfl⟩
abbrev main_v178 : Ref sig .tc := ⟨.hbm, 278, rfl⟩
abbrev main_v179 : Ref sig .tc := ⟨.hbm, 279, rfl⟩
abbrev main_cst_33 : Ref sig .tc := ⟨.hbm, 280, rfl⟩
abbrev main_v180 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_v184 : Ref sig .tc := ⟨.hbm, 285, rfl⟩
abbrev main_v185 : Ref sig .tc := ⟨.hbm, 286, rfl⟩
abbrev main_v186 : Ref sig .tc := ⟨.hbm, 287, rfl⟩
abbrev main_v187 : Ref sig .tc := ⟨.hbm, 288, rfl⟩
abbrev main_v188 : Ref sig .tc := ⟨.hbm, 289, rfl⟩
abbrev main_v189 : Ref sig .tc := ⟨.hbm, 290, rfl⟩
abbrev main_v190 : Ref sig .tc := ⟨.hbm, 291, rfl⟩
abbrev main_v191 : Ref sig .tc := ⟨.hbm, 292, rfl⟩
abbrev main_v192 : Ref sig .tc := ⟨.hbm, 293, rfl⟩
abbrev main_v193 : Ref sig .tc := ⟨.hbm, 294, rfl⟩
abbrev main_v194 : Ref sig .tc := ⟨.hbm, 295, rfl⟩
abbrev main_v195 : Ref sig .tc := ⟨.hbm, 296, rfl⟩
abbrev main_cst_34 : Ref sig .tc := ⟨.hbm, 297, rfl⟩
abbrev main_v196 : Ref sig .tc := ⟨.hbm, 298, rfl⟩
abbrev main_v197 : Ref sig .tc := ⟨.hbm, 299, rfl⟩
abbrev main_v198 : Ref sig .tc := ⟨.hbm, 300, rfl⟩
abbrev main_v199 : Ref sig .tc := ⟨.hbm, 301, rfl⟩
abbrev main_cst_35 : Ref sig .tc := ⟨.hbm, 302, rfl⟩
abbrev main_v200 : Ref sig .tc := ⟨.hbm, 303, rfl⟩
abbrev main_v201 : Ref sig .tc := ⟨.hbm, 304, rfl⟩
abbrev main_cst_36 : Ref sig .tc := ⟨.hbm, 305, rfl⟩
abbrev main_v202 : Ref sig .tc := ⟨.hbm, 306, rfl⟩
abbrev main_cst_37 : Ref sig .tc := ⟨.hbm, 307, rfl⟩
abbrev main_v203 : Ref sig .tc := ⟨.hbm, 308, rfl⟩
abbrev main_v204 : Ref sig .tc := ⟨.hbm, 309, rfl⟩
abbrev main_call10_cst : Ref sig .tc := ⟨.hbm, 310, rfl⟩
abbrev main_call10_v0 : Ref sig .tc := ⟨.hbm, 311, rfl⟩
abbrev main_v205 : Ref sig .tc := ⟨.hbm, 312, rfl⟩
abbrev main_cst_38 : Ref sig .tc := ⟨.hbm, 313, rfl⟩
abbrev main_v206 : Ref sig .tc := ⟨.hbm, 314, rfl⟩
abbrev main_v207 : Ref sig .tc := ⟨.hbm, 315, rfl⟩
abbrev main_v208 : Ref sig .tc := ⟨.hbm, 316, rfl⟩
abbrev main_cst_39 : Ref sig .tc := ⟨.hbm, 317, rfl⟩
abbrev main_v209 : Ref sig .tc := ⟨.hbm, 318, rfl⟩
abbrev main_v210 : Ref sig .tc := ⟨.hbm, 319, rfl⟩
abbrev main_cst_40 : Ref sig .tc := ⟨.hbm, 320, rfl⟩
abbrev main_v211 : Ref sig .tc := ⟨.hbm, 321, rfl⟩
abbrev main_cst_41 : Ref sig .tc := ⟨.hbm, 322, rfl⟩
abbrev main_v212 : Ref sig .tc := ⟨.hbm, 323, rfl⟩
abbrev main_v213 : Ref sig .tc := ⟨.hbm, 324, rfl⟩
abbrev main_v214 : Ref sig .tc := ⟨.hbm, 325, rfl⟩
abbrev main_v215 : Ref sig .tc := ⟨.hbm, 326, rfl⟩
abbrev main_v216 : Ref sig .tc := ⟨.hbm, 327, rfl⟩
abbrev main_v217 : Ref sig .tc := ⟨.hbm, 328, rfl⟩
abbrev main_v218 : Ref sig .tc := ⟨.hbm, 329, rfl⟩
abbrev main_v219 : Ref sig .tc := ⟨.hbm, 330, rfl⟩
abbrev main_v220 : Ref sig .tc := ⟨.hbm, 331, rfl⟩
abbrev main_v221 : Ref sig .tc := ⟨.hbm, 332, rfl⟩
abbrev main_v222 : Ref sig .tc := ⟨.hbm, 333, rfl⟩
abbrev main_v223 : Ref sig .tc := ⟨.hbm, 334, rfl⟩
abbrev main_v224 : Ref sig .tc := ⟨.hbm, 335, rfl⟩
abbrev main_v225 : Ref sig .tc := ⟨.hbm, 336, rfl⟩
abbrev main_v226 : Ref sig .tc := ⟨.hbm, 337, rfl⟩
abbrev main_v227 : Ref sig .tc := ⟨.hbm, 338, rfl⟩
abbrev main_call11_cst : Ref sig .tc := ⟨.hbm, 339, rfl⟩
abbrev main_call11_v0 : Ref sig .tc := ⟨.hbm, 340, rfl⟩
abbrev main_v228 : Ref sig .tc := ⟨.hbm, 341, rfl⟩
abbrev main_cst_42 : Ref sig .tc := ⟨.hbm, 342, rfl⟩
abbrev main_v229 : Ref sig .tc := ⟨.hbm, 343, rfl⟩
abbrev main_v230 : Ref sig .tc := ⟨.hbm, 344, rfl⟩
abbrev main_v231 : Ref sig .tc := ⟨.hbm, 345, rfl⟩
abbrev main_cst_43 : Ref sig .tc := ⟨.hbm, 346, rfl⟩
abbrev main_v232 : Ref sig .tc := ⟨.hbm, 347, rfl⟩
abbrev main_v233 : Ref sig .tc := ⟨.hbm, 348, rfl⟩
abbrev main_cst_44 : Ref sig .tc := ⟨.hbm, 349, rfl⟩
abbrev main_v234 : Ref sig .tc := ⟨.hbm, 350, rfl⟩
abbrev main_cst_45 : Ref sig .tc := ⟨.hbm, 351, rfl⟩
abbrev main_v235 : Ref sig .tc := ⟨.hbm, 352, rfl⟩
abbrev main_v236 : Ref sig .tc := ⟨.hbm, 353, rfl⟩
abbrev main_v237 : Ref sig .tc := ⟨.hbm, 354, rfl⟩
abbrev main_v238 : Ref sig .tc := ⟨.hbm, 355, rfl⟩
abbrev main_call12_call0_cst : Ref sig .tc := ⟨.hbm, 356, rfl⟩
abbrev main_call12_call0_v0 : Ref sig .tc := ⟨.hbm, 357, rfl⟩
abbrev main_v239 : Ref sig .tc := ⟨.hbm, 358, rfl⟩
abbrev main_v240 : Ref sig .tc := ⟨.hbm, 359, rfl⟩
abbrev main_v241 : Ref sig .tc := ⟨.hbm, 360, rfl⟩
abbrev main_v242 : Ref sig .tc := ⟨.hbm, 361, rfl⟩
abbrev main_v243 : Ref sig .tc := ⟨.hbm, 362, rfl⟩
abbrev main_v244 : Ref sig .tc := ⟨.hbm, 363, rfl⟩
abbrev main_v245 : Ref sig .tc := ⟨.hbm, 364, rfl⟩
abbrev main_v246 : Ref sig .tc := ⟨.hbm, 365, rfl⟩
abbrev main_v247 : Ref sig .tc := ⟨.hbm, 366, rfl⟩
abbrev main_v248 : Ref sig .tc := ⟨.hbm, 367, rfl⟩
abbrev main_v249 : Ref sig .tc := ⟨.hbm, 368, rfl⟩
abbrev main_v250 : Ref sig .tc := ⟨.hbm, 369, rfl⟩
abbrev main_cst_46 : Ref sig .tc := ⟨.hbm, 370, rfl⟩
abbrev main_v251 : Ref sig .tc := ⟨.hbm, 371, rfl⟩
abbrev main_v252 : Ref sig .tc := ⟨.hbm, 372, rfl⟩
abbrev main_v253 : Ref sig .tc := ⟨.hbm, 373, rfl⟩
abbrev main_v254 : Ref sig .tc := ⟨.hbm, 374, rfl⟩
abbrev main_v255 : Ref sig .tc := ⟨.hbm, 375, rfl⟩
abbrev main_cst_47 : Ref sig .tc := ⟨.hbm, 376, rfl⟩
abbrev main_v256 : Ref sig .tc := ⟨.hbm, 377, rfl⟩
abbrev main_v257 : Ref sig .tc := ⟨.hbm, 378, rfl⟩
abbrev main_call13_call0_cst : Ref sig .tc := ⟨.hbm, 379, rfl⟩
abbrev main_call13_call0_v0 : Ref sig .tc := ⟨.hbm, 380, rfl⟩
abbrev main_v258 : Ref sig .tc := ⟨.hbm, 381, rfl⟩
abbrev main_v259 : Ref sig .tc := ⟨.hbm, 382, rfl⟩
abbrev main_v260 : Ref sig .tc := ⟨.hbm, 383, rfl⟩
abbrev main_v261 : Ref sig .tc := ⟨.hbm, 384, rfl⟩
abbrev main_v262 : Ref sig .tc := ⟨.hbm, 385, rfl⟩
abbrev main_v263 : Ref sig .tc := ⟨.hbm, 386, rfl⟩
abbrev main_v264 : Ref sig .tc := ⟨.hbm, 387, rfl⟩
abbrev main_v265 : Ref sig .tc := ⟨.hbm, 388, rfl⟩
abbrev main_v266 : Ref sig .tc := ⟨.hbm, 389, rfl⟩
abbrev main_call14_v0 : Ref sig .tc := ⟨.hbm, 390, rfl⟩
abbrev main_call14_v1 : Ref sig .tc := ⟨.hbm, 391, rfl⟩
abbrev main_call14_v2 : Ref sig .tc := ⟨.hbm, 392, rfl⟩
abbrev main_v267 : Ref sig .tc := ⟨.hbm, 393, rfl⟩
abbrev main_v268 : Ref sig .tc := ⟨.hbm, 394, rfl⟩
abbrev main_v269 : Ref sig .tc := ⟨.hbm, 395, rfl⟩
abbrev main_v270 : Ref sig .tc := ⟨.hbm, 396, rfl⟩
abbrev main_cst_48 : Ref sig .tc := ⟨.hbm, 397, rfl⟩
abbrev main_v271 : Ref sig .tc := ⟨.hbm, 398, rfl⟩
abbrev main_v272 : Ref sig .tc := ⟨.hbm, 399, rfl⟩
abbrev main_cst_49 : Ref sig .tc := ⟨.hbm, 400, rfl⟩
abbrev main_v273 : Ref sig .tc := ⟨.hbm, 401, rfl⟩
abbrev main_v274 : Ref sig .tc := ⟨.hbm, 402, rfl⟩
abbrev main_v275 : Ref sig .tc := ⟨.hbm, 403, rfl⟩
abbrev main_v276 : Ref sig .tc := ⟨.hbm, 404, rfl⟩
abbrev main_cst_50 : Ref sig .tc := ⟨.hbm, 405, rfl⟩
abbrev main_v277 : Ref sig .tc := ⟨.hbm, 406, rfl⟩
abbrev main_v278 : Ref sig .tc := ⟨.hbm, 407, rfl⟩
abbrev main_cst_51 : Ref sig .tc := ⟨.hbm, 408, rfl⟩
abbrev main_v279 : Ref sig .tc := ⟨.hbm, 409, rfl⟩
abbrev main_v280 : Ref sig .tc := ⟨.hbm, 410, rfl⟩
abbrev main_v281 : Ref sig .tc := ⟨.hbm, 411, rfl⟩
abbrev main_v282 : Ref sig .tc := ⟨.hbm, 412, rfl⟩
abbrev main_v283 : Ref sig .tc := ⟨.hbm, 413, rfl⟩
abbrev main_cst_52 : Ref sig .tc := ⟨.hbm, 414, rfl⟩
abbrev main_v284 : Ref sig .tc := ⟨.hbm, 415, rfl⟩
abbrev main_call15_call0_cst : Ref sig .tc := ⟨.hbm, 416, rfl⟩
abbrev main_call15_call0_v0 : Ref sig .tc := ⟨.hbm, 417, rfl⟩
abbrev main_v285 : Ref sig .tc := ⟨.hbm, 418, rfl⟩
abbrev main_v286 : Ref sig .tc := ⟨.hbm, 419, rfl⟩
abbrev main_v287 : Ref sig .tc := ⟨.hbm, 420, rfl⟩
abbrev main_v288 : Ref sig .tc := ⟨.hbm, 421, rfl⟩
abbrev main_cst_53 : Ref sig .tc := ⟨.hbm, 422, rfl⟩
abbrev main_v289 : Ref sig .tc := ⟨.hbm, 423, rfl⟩
abbrev main_v290 : Ref sig .tc := ⟨.hbm, 424, rfl⟩
abbrev main_v291 : Ref sig .tc := ⟨.hbm, 425, rfl⟩
abbrev main_v292 : Ref sig .tc := ⟨.hbm, 426, rfl⟩
abbrev main_v293 : Ref sig .tc := ⟨.hbm, 427, rfl⟩
abbrev main_cst_54 : Ref sig .tc := ⟨.hbm, 428, rfl⟩
abbrev main_v294 : Ref sig .tc := ⟨.hbm, 429, rfl⟩
abbrev main_v295 : Ref sig .tc := ⟨.hbm, 430, rfl⟩
abbrev main_v296 : Ref sig .tc := ⟨.hbm, 431, rfl⟩
abbrev main_v297 : Ref sig .tc := ⟨.hbm, 432, rfl⟩
abbrev main_v298 : Ref sig .tc := ⟨.hbm, 433, rfl⟩
abbrev main_v299 : Ref sig .tc := ⟨.hbm, 434, rfl⟩
abbrev main_cst_55 : Ref sig .tc := ⟨.hbm, 435, rfl⟩
abbrev main_v300 : Ref sig .tc := ⟨.hbm, 436, rfl⟩
abbrev main_v301 : Ref sig .tc := ⟨.hbm, 437, rfl⟩
abbrev main_v302 : Ref sig .tc := ⟨.hbm, 438, rfl⟩

abbrev nD : Nat := 1
abbrev τ : Topo := Topo.v7x

variable {F : FTy → Type} [FloatOps F]
-- ==== GmlpFwd.lean ====
abbrev S1x2048x10240 : Shape := ⟨3, ![1, 2048, 10240]⟩
abbrev S1x1024 : Shape := ⟨2, ![1, 1024]⟩
abbrev S1x8x128x128 : Shape := ⟨4, ![1, 8, 128, 128]⟩
abbrev S1x8x128 : Shape := ⟨3, ![1, 8, 128]⟩
abbrev S8x128 : Shape := ⟨2, ![8, 128]⟩
abbrev S8x128x1 : Shape := ⟨3, ![8, 128, 1]⟩
abbrev S8x128x128 : Shape := ⟨3, ![8, 128, 128]⟩
abbrev S2048x10240 : Shape := ⟨2, ![2048, 10240]⟩
abbrev S2048x1024 : Shape := ⟨2, ![2048, 1024]⟩
abbrev S128x1024 : Shape := ⟨2, ![128, 1024]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 11
  | .vmem => 10
  | .smem => 0
  | _ => 0

abbrev bufTy : (tb : Table) → Fin (tcTables nBuf tb) → BufTy
  | .hbm, ⟨0, _⟩ => ⟨S1x2048x10240, .f32⟩
  | .hbm, ⟨1, _⟩ => ⟨S1x1024, .f32⟩
  | .hbm, ⟨2, _⟩ => ⟨S1x1024, .f32⟩
  | .hbm, ⟨3, _⟩ => ⟨S1x8x128x128, .f32⟩
  | .hbm, ⟨4, _⟩ => ⟨S1x8x128, .f32⟩
  | .hbm, ⟨5, _⟩ => ⟨S8x128, .f32⟩
  | .hbm, ⟨6, _⟩ => ⟨S8x128x1, .f32⟩
  | .hbm, ⟨7, _⟩ => ⟨S8x128x128, .f32⟩
  | .hbm, ⟨8, _⟩ => ⟨S2048x10240, .f32⟩
  | .hbm, ⟨9, _⟩ => ⟨S8x128x128, .f32⟩
  | .hbm, ⟨10, _⟩ => ⟨S2048x1024, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S8x128x128, .f32⟩
  | .local _ .vmem, ⟨8, _⟩ => ⟨S128x1024, .bf16⟩
  | .local _ .vmem, ⟨9, _⟩ => ⟨S128x1024, .bf16⟩
  | _, _ => ⟨S1x2048x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GmlpFwdIdeal.lean ====
variable {F : FTy → Type} [FloatOps F] [Named F]
def κ : String → Option EReal := fun
  | "gelu_cubic" => some ((8943 / 200000 : ℝ) : EReal)
  | _ => none
-- ==== GmlpFwdRefIdeal.lean ====
abbrev S1x2048x10240 : Shape := ⟨3, ![1, 2048, 10240]⟩
abbrev S1x1024 : Shape := ⟨2, ![1, 1024]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S_ : Shape := ⟨0, ![]⟩
abbrev S1024 : Shape := ⟨1, ![1024]⟩
abbrev S8x128x128 : Shape := ⟨3, ![8, 128, 128]⟩
abbrev S8x128 : Shape := ⟨2, ![8, 128]⟩
abbrev S1x2048 : Shape := ⟨2, ![1, 2048]⟩
abbrev S1x2048x1 : Shape := ⟨3, ![1, 2048, 1]⟩
abbrev S1x1x1024 : Shape := ⟨3, ![1, 1, 1024]⟩
abbrev S1x16x128x8x128 : Shape := ⟨5, ![1, 16, 128, 8, 128]⟩
abbrev S128x128 : Shape := ⟨2, ![128, 128]⟩
abbrev S1x128x128 : Shape := ⟨3, ![1, 128, 128]⟩
abbrev S8x1x16x128x128 : Shape := ⟨5, ![8, 1, 16, 128, 128]⟩
abbrev S128x8 : Shape := ⟨2, ![128, 8]⟩
abbrev S1x1x128x8x1 : Shape := ⟨5, ![1, 1, 128, 8, 1]⟩
abbrev S2048x1024 : Shape := ⟨2, ![2048, 1024]⟩

abbrev nBuf : Space → Nat
  | .hbm => 108
  | .vmem => 0
  | .smem => 0
  | _ => 0

abbrev bufTy : (tb : Table) → Fin (tcTables nBuf tb) → BufTy
  | .hbm, ⟨0, _⟩ => ⟨S1x2048x10240, .f32⟩
  | .hbm, ⟨1, _⟩ => ⟨S1x1024, .f32⟩
  | .hbm, ⟨2, _⟩ => ⟨S1x1024, .f32⟩
  | .hbm, ⟨3, _⟩ => ⟨S1x8x128x128, .f32⟩
  | .hbm, ⟨4, _⟩ => ⟨S1x8x128, .f32⟩
  | .hbm, ⟨5, _⟩ => ⟨S1x2048x1024, .f32⟩
  | .hbm, ⟨6, _⟩ => ⟨S1x2048x1024, .f32⟩
  | .hbm, ⟨7, _⟩ => ⟨S1x2048x1024, .f32⟩
  | .hbm, ⟨8, _⟩ => ⟨S1x2048x1024, .f32⟩
  | .hbm, ⟨9, _⟩ => ⟨S_, .f32⟩
  | .hbm, ⟨10, _⟩ => ⟨S1x2048x1024, .f32⟩
  | .hbm, ⟨11, _⟩ => ⟨S1x2048x1024, .f32⟩
  | .hbm, ⟨12, _⟩ => ⟨S_, .f32⟩
  | .hbm, ⟨13, _⟩ => ⟨S1x2048x1024, .f32⟩
  | .hbm, ⟨14, _⟩ => ⟨S1x2048x1024, .f32⟩
  | .hbm, ⟨15, _⟩ => ⟨S1x2048x1024, .f32⟩
  | .hbm, ⟨16, _⟩ => ⟨S_, .f32⟩
  | .hbm, ⟨17, _⟩ => ⟨S1x2048x1024, .f32⟩
  | .hbm, ⟨18, _⟩ => ⟨S1x2048x1024, .f32⟩
  | .hbm, ⟨19, _⟩ => ⟨S1x2048x1024, .f32⟩
  | .hbm, ⟨20, _⟩ => ⟨S_, .f32⟩
  | .hbm, ⟨21, _⟩ => ⟨S1x2048x1024, .f32⟩
  | .hbm, ⟨22, _⟩ => ⟨S1x2048x1024, .f32⟩
  | .hbm, ⟨23, _⟩ => ⟨S_, .f32⟩
  | .hbm, ⟨24, _⟩ => ⟨S1x2048x1024, .f32⟩
  | .hbm, ⟨25, _⟩ => ⟨S1x2048x1024, .f32⟩
  | .hbm, ⟨26, _⟩ => ⟨S1x2048x1024, .f32⟩
  | .hbm, ⟨27, _⟩ => ⟨S1x2048x1024, .f32⟩
  | .hbm, ⟨28, _⟩ => ⟨S1x2048x1024, .f32⟩
  | .hbm, ⟨29, _⟩ => ⟨S_, .f32⟩
  | .hbm, ⟨30, _⟩ => ⟨S1x2048x1024, .f32⟩
  | .hbm, ⟨31, _⟩ => ⟨S1x2048x1024, .f32⟩
  | .hbm, ⟨32, _⟩ => ⟨S_, .f32⟩
  | .hbm, ⟨33, _⟩ => ⟨S1x2048x1024, .f32⟩
  | .hbm, ⟨34, _⟩ => ⟨S1x2048x1024, .f32⟩
  | .hbm, ⟨35, _⟩ => ⟨S1x2048x1024, .f32⟩
  | .hbm, ⟨36, _⟩ => ⟨S_, .f32⟩
  | .hbm, ⟨37, _⟩ => ⟨S1x2048x1024, .f32⟩
  | .hbm, ⟨38, _⟩ => ⟨S1x2048x1024, .f32⟩
  | .hbm, ⟨39, _⟩ => ⟨S1x2048x1024, .f32⟩
  | .hbm, ⟨40, _⟩ => ⟨S_, .f32⟩
  | .hbm, ⟨41, _⟩ => ⟨S1x2048x1024, .f32⟩
  | .hbm, ⟨42, _⟩ => ⟨S1x2048x1024, .f32⟩
  | .hbm, ⟨43, _⟩ => ⟨S_, .f32⟩
  | .hbm, ⟨44, _⟩ => ⟨S1x2048x1024, .f32⟩
  | .hbm, ⟨45, _⟩ => ⟨S1x2048x1024, .f32⟩
  | .hbm, ⟨46, _⟩ => ⟨S1x2048x1024, .f32⟩
  | .hbm, ⟨47, _⟩ => ⟨S1024, .f32⟩
  | .hbm, ⟨48, _⟩ => ⟨S1024, .f32⟩
  | .hbm, ⟨49, _⟩ => ⟨S8x128x128, .f32⟩
  | .hbm, ⟨50, _⟩ => ⟨S8x128, .f32⟩
  | .hbm, ⟨51, _⟩ => ⟨S_, .f32⟩
  | .hbm, ⟨52, _⟩ => ⟨S1x2048, .f32⟩
  | .hbm, ⟨53, _⟩ => ⟨S1x2048x1, .f32⟩
  | .hbm, ⟨54, _⟩ => ⟨S_, .f32⟩
  | .hbm, ⟨55, _⟩ => ⟨S1x2048x1, .f32⟩
  | .hbm, ⟨56, _⟩ => ⟨S1x2048x1, .f32⟩
  | .hbm, ⟨57, _⟩ => ⟨S1x2048x1024, .f32⟩
  | .hbm, ⟨58, _⟩ => ⟨S1x2048x1024, .f32⟩
  | .hbm, ⟨59, _⟩ => ⟨S1x2048x1024, .f32⟩
  | .hbm, ⟨60, _⟩ => ⟨S_, .f32⟩
  | .hbm, ⟨61, _⟩ => ⟨S1x2048, .f32⟩
  | .hbm, ⟨62, _⟩ => ⟨S1x2048x1, .f32⟩
  | .hbm, ⟨63, _⟩ => ⟨S_, .f32⟩
  | .hbm, ⟨64, _⟩ => ⟨S1x2048x1, .f32⟩
  | .hbm, ⟨65, _⟩ => ⟨S1x2048x1, .f32⟩
  | .hbm, ⟨66, _⟩ => ⟨S1x2048x1024, .f32⟩
  | .hbm, ⟨67, _⟩ => ⟨S1x2048x1024, .f32⟩
  | .hbm, ⟨68, _⟩ => ⟨S_, .f32⟩
  | .hbm, ⟨69, _⟩ => ⟨S1x2048x1, .f32⟩
  | .hbm, ⟨70, _⟩ => ⟨S1x2048x1, .f32⟩
  | .hbm, ⟨71, _⟩ => ⟨S1x2048x1, .f32⟩
  | .hbm, ⟨72, _⟩ => ⟨S1x2048x1024, .f32⟩
  | .hbm, ⟨73, _⟩ => ⟨S1x2048x1024, .f32⟩
  | .hbm, ⟨74, _⟩ => ⟨S1x1x1024, .f32⟩
  | .hbm, ⟨75, _⟩ => ⟨S1x2048x1024, .f32⟩
  | .hbm, ⟨76, _⟩ => ⟨S1x2048x1024, .f32⟩
  | .hbm, ⟨77, _⟩ => ⟨S1x1x1024, .f32⟩
  | .hbm, ⟨78, _⟩ => ⟨S1x2048x1024, .f32⟩
  | .hbm, ⟨79, _⟩ => ⟨S1x2048x1024, .f32⟩
  | .hbm, ⟨80, _⟩ => ⟨S1x16x128x8x128, .f32⟩
  | .hbm, ⟨81, _⟩ => ⟨S_, .i1⟩
  | .hbm, ⟨82, _⟩ => ⟨S128x128, .i1⟩
  | .hbm, ⟨83, _⟩ => ⟨S128x128, .i32⟩
  | .hbm, ⟨84, _⟩ => ⟨S_, .i32⟩
  | .hbm, ⟨85, _⟩ => ⟨S128x128, .i32⟩
  | .hbm, ⟨86, _⟩ => ⟨S128x128, .i32⟩
  | .hbm, ⟨87, _⟩ => ⟨S128x128, .i32⟩
  | .hbm, ⟨88, _⟩ => ⟨S128x128, .i1⟩
  | .hbm, ⟨89, _⟩ => ⟨S_, .i1⟩
  | .hbm, ⟨90, _⟩ => ⟨S128x128, .i1⟩
  | .hbm, ⟨91, _⟩ => ⟨S128x128, .i1⟩
  | .hbm, ⟨92, _⟩ => ⟨S1x128x128, .i1⟩
  | .hbm, ⟨93, _⟩ => ⟨S_, .i32⟩
  | .hbm, ⟨94, _⟩ => ⟨S_, .f32⟩
  | .hbm, ⟨95, _⟩ => ⟨S8x128x128, .i1⟩
  | .hbm, ⟨96, _⟩ => ⟨S8x128x128, .f32⟩
  | .hbm, ⟨97, _⟩ => ⟨S8x128x128, .f32⟩
  | .hbm, ⟨98, _⟩ => ⟨S8x1x16x128x128, .f32⟩
  | .hbm, ⟨99, _⟩ => ⟨S1x16x128x8x128, .f32⟩
  | .hbm, ⟨100, _⟩ => ⟨S128x8, .f32⟩
  | .hbm, ⟨101, _⟩ => ⟨S1x1x128x8x1, .f32⟩
  | .hbm, ⟨102, _⟩ => ⟨S1x16x128x8x128, .f32⟩
  | .hbm, ⟨103, _⟩ => ⟨S1x16x128x8x128, .f32⟩
  | .hbm, ⟨104, _⟩ => ⟨S1x2048x1024, .f32⟩
  | .hbm, ⟨105, _⟩ => ⟨S1x2048x1024, .f32⟩
  | .hbm, ⟨106, _⟩ => ⟨S2048x1024, .f32⟩
  | .hbm, ⟨107, _⟩ => ⟨S2048x1024, .bf16⟩
  | _, _ => ⟨S1x2048x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_13 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c : Ref sig .tc := ⟨.hbm, 81, rfl⟩
abbrev main_v61 : Ref sig .tc := ⟨.hbm, 82, rfl⟩
abbrev main_call0_v0 : Ref sig .tc := ⟨.hbm, 83, rfl⟩
abbrev main_call0_c : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_c_0 : Ref sig .tc := ⟨.hbm, 89, rfl⟩
abbrev main_call0_v5 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩

abbrev nD : Nat := 1
abbrev τ : Topo := Topo.v7x

variable {F : FTy → Type} [FloatOps F]
-- ==== SwigluFwd.lean ====
abbrev S1x2048x2048 : Shape := ⟨3, ![1, 2048, 2048]⟩
abbrev S1x2048x11264 : Shape := ⟨3, ![1, 2048, 11264]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S2048x2048 : Shape := ⟨2, ![2048, 2048]⟩
abbrev S2048x5632 : Shape := ⟨2, ![2048, 5632]⟩
abbrev S2x2048x5632 : Shape := ⟨3, ![2, 2048, 5632]⟩
abbrev S256x2048 : Shape := ⟨2, ![256, 2048]⟩
abbrev S1x2048x1408 : Shape := ⟨3, ![1, 2048, 1408]⟩
abbrev S256x1408 : Shape := ⟨2, ![256, 1408]⟩
abbrev S2x256x1408 : Shape := ⟨3, ![2, 256, 1408]⟩
abbrev S2048x1408 : Shape := ⟨2, ![2048, 1408]⟩
abbrev S1x256x1408 : Shape := ⟨3, ![1, 256, 1408]⟩

abbrev nBuf : Space → Nat
  | .hbm => 10
  | .vmem => 10
  | .smem => 0
  | _ => 0

abbrev bufTy : (tb : Table) → Fin (tcTables nBuf tb) → BufTy
  | .hbm, ⟨0, _⟩ => ⟨S1x2048x2048, .f32⟩
  | .hbm, ⟨1, _⟩ => ⟨S1x2048x11264, .f32⟩
  | .hbm, ⟨2, _⟩ => ⟨S2048x11264, .f32⟩
  | .hbm, ⟨3, _⟩ => ⟨S2048x11264, .bf16⟩
  | .hbm, ⟨4, _⟩ => ⟨S2048x8x1408, .bf16⟩
  | .hbm, ⟨5, _⟩ => ⟨S8x2048x1408, .bf16⟩
  | .hbm, ⟨6, _⟩ => ⟨S2048x2048, .f32⟩
  | .hbm, ⟨7, _⟩ => ⟨S2048x2048, .bf16⟩
  | .hbm, ⟨8, _⟩ => ⟨S2048x5632, .bf16⟩
  | .hbm, ⟨9, _⟩ => ⟨S2x2048x5632, .bf16⟩
  | .local _ .vmem, ⟨0, _⟩ => ⟨S256x2048, .bf16⟩
  | .local _ .vmem, ⟨1, _⟩ => ⟨S256x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S256x1408, .bf16⟩
  | .local _ .vmem, ⟨7, _⟩ => ⟨S256x1408, .bf16⟩
  | .local _ .vmem, ⟨8, _⟩ => ⟨S2x256x1408, .bf16⟩
  | .local _ .vmem, ⟨9, _⟩ => ⟨S2x256x1408, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6_0 : Ref sig .tc := ⟨.hbm, 8, rfl⟩
abbrev main_v6_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SwigluFwdRefIdeal.lean ====
abbrev S1x2048x2048 : Shape := ⟨3, ![1, 2048, 2048]⟩
abbrev S1x2048x11264 : Shape := ⟨3, ![1, 2048, 11264]⟩
abbrev S2048x11264 : Shape := ⟨2, ![2048, 11264]⟩
abbrev S1x2048x5632 : Shape := ⟨3, ![1, 2048, 5632]⟩
abbrev S_ : Shape := ⟨0, ![]⟩
abbrev S2048x5632 : Shape := ⟨2, ![2048, 5632]⟩
abbrev S2x2048x5632 : Shape := ⟨3, ![2, 2048, 5632]⟩

abbrev nBuf : Space → Nat
  | .hbm => 32
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x11264, .f32⟩
  | .hbm, ⟨2, _⟩ => ⟨S2048x11264, .f32⟩
  | .hbm, ⟨3, _⟩ => ⟨S1x2048x11264, .f32⟩
  | .hbm, ⟨4, _⟩ => ⟨S1x2048x5632, .f32⟩
  | .hbm, ⟨5, _⟩ => ⟨S1x2048x5632, .f32⟩
  | .hbm, ⟨6, _⟩ => ⟨S1x2048x5632, .f32⟩
  | .hbm, ⟨7, _⟩ => ⟨S1x2048x5632, .f32⟩
  | .hbm, ⟨8, _⟩ => ⟨S_, .f32⟩
  | .hbm, ⟨9, _⟩ => ⟨S1x2048x5632, .f32⟩
  | .hbm, ⟨10, _⟩ => ⟨S1x2048x5632, .f32⟩
  | .hbm, ⟨11, _⟩ => ⟨S_, .f32⟩
  | .hbm, ⟨12, _⟩ => ⟨S1x2048x5632, .f32⟩
  | .hbm, ⟨13, _⟩ => ⟨S1x2048x5632, .f32⟩
  | .hbm, ⟨14, _⟩ => ⟨S_, .f32⟩
  | .hbm, ⟨15, _⟩ => ⟨S1x2048x5632, .f32⟩
  | .hbm, ⟨16, _⟩ => ⟨S1x2048x5632, .f32⟩
  | .hbm, ⟨17, _⟩ => ⟨S1x2048x5632, .f32⟩
  | .hbm, ⟨18, _⟩ => ⟨S1x2048x5632, .f32⟩
  | .hbm, ⟨19, _⟩ => ⟨S1x2048x5632, .f32⟩
  | .hbm, ⟨20, _⟩ => ⟨S_, .f32⟩
  | .hbm, ⟨21, _⟩ => ⟨S1x2048x5632, .f32⟩
  | .hbm, ⟨22, _⟩ => ⟨S1x2048x5632, .f32⟩
  | .hbm, ⟨23, _⟩ => ⟨S1x2048x5632, .f32⟩
  | .hbm, ⟨24, _⟩ => ⟨S1x2048x5632, .f32⟩
  | .hbm, ⟨25, _⟩ => ⟨S1x2048x5632, .f32⟩
  | .hbm, ⟨26, _⟩ => ⟨S1x2048x5632, .f32⟩
  | .hbm, ⟨27, _⟩ => ⟨S1x2048x5632, .f32⟩
  | .hbm, ⟨28, _⟩ => ⟨S2048x5632, .f32⟩
  | .hbm, ⟨29, _⟩ => ⟨S2048x5632, .bf16⟩
  | .hbm, ⟨30, _⟩ => ⟨S2x2048x5632, .f32⟩
  | .hbm, ⟨31, _⟩ => ⟨S2x2048x5632, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v4_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v4_1 : Ref sig .tc := ⟨.hbm, 17, rfl⟩
abbrev main_v4_0 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩

abbrev nD : Nat := 1
abbrev τ : Topo := Topo.v7x

variable {F : FTy → Type} [FloatOps F]
-- ==== MergeFwd.lean ====
abbrev S1x2048x10240 : Shape := ⟨3, ![1, 2048, 10240]⟩
abbrev S1x2048x2048 : Shape := ⟨3, ![1, 2048, 2048]⟩
abbrev S1x2048x1024 : Shape := ⟨3, ![1, 2048, 1024]⟩
abbrev S1x4096 : Shape := ⟨2, ![1, 4096]⟩
abbrev S1x1024x2048 : Shape := ⟨3, ![1, 1024, 2048]⟩
abbrev S2048x10240 : Shape := ⟨2, ![2048, 10240]⟩
abbrev S2048x2048 : Shape := ⟨2, ![2048, 2048]⟩
abbrev S2048x1024 : Shape := ⟨2, ![2048, 1024]⟩
abbrev S1024x2048 : Shape := ⟨2, ![1024, 2048]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 13
  | .vmem => 18
  | .smem => 0
  | _ => 0

abbrev bufTy : (tb : Table) → Fin (tcTables nBuf tb) → BufTy
  | .hbm, ⟨0, _⟩ => ⟨S1x2048x10240, .f32⟩
  | .hbm, ⟨1, _⟩ => ⟨S1x2048x2048, .f32⟩
  | .hbm, ⟨2, _⟩ => ⟨S1x2048x1024, .f32⟩
  | .hbm, ⟨3, _⟩ => ⟨S1x4096, .f32⟩
  | .hbm, ⟨4, _⟩ => ⟨S1x1024x2048, .f32⟩
  | .hbm, ⟨5, _⟩ => ⟨S2048x10240, .f32⟩
  | .hbm, ⟨6, _⟩ => ⟨S2048x2048, .f32⟩
  | .hbm, ⟨7, _⟩ => ⟨S2048x1024, .f32⟩
  | .hbm, ⟨8, _⟩ => ⟨S2048x1024, .bf16⟩
  | .hbm, ⟨9, _⟩ => ⟨S1024x2048, .f32⟩
  | .hbm, ⟨10, _⟩ => ⟨S1024x2048, .bf16⟩
  | .hbm, ⟨11, _⟩ => ⟨S2048x2048, .bf16⟩
  | .hbm, ⟨12, _⟩ => ⟨S2048x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S1x2048x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== MergeFwdRefIdeal.lean ====
abbrev S1x2048x10240 : Shape := ⟨3, ![1, 2048, 10240]⟩
abbrev S1x2048x2048 : Shape := ⟨3, ![1, 2048, 2048]⟩
abbrev S1x2048x1024 : Shape := ⟨3, ![1, 2048, 1024]⟩
abbrev S1x4096 : Shape := ⟨2, ![1, 4096]⟩
abbrev S1x1024x2048 : Shape := ⟨3, ![1, 1024, 2048]⟩
abbrev S1024x2048 : Shape := ⟨2, ![1024, 2048]⟩
abbrev S1x2048 : Shape := ⟨2, ![1, 2048]⟩
abbrev S2048 : Shape := ⟨1, ![2048]⟩
abbrev S1x1x2048 : Shape := ⟨3, ![1, 1, 2048]⟩
abbrev S_ : Shape := ⟨0, ![]⟩
abbrev S2048x2048 : Shape := ⟨2, ![2048, 2048]⟩

abbrev nBuf : Space → Nat
  | .hbm => 42
  | .vmem => 0
  | .smem => 0
  | _ => 0

abbrev bufTy : (tb : Table) → Fin (tcTables nBuf tb) → BufTy
  | .hbm, ⟨0, _⟩ => ⟨S1x2048x10240, .f32⟩
  | .hbm, ⟨1, _⟩ => ⟨S1x2048x2048, .f32⟩
  | .hbm, ⟨2, _⟩ => ⟨S1x2048x1024, .f32⟩
  | .hbm, ⟨3, _⟩ => ⟨S1x4096, .f32⟩
  | .hbm, ⟨4, _⟩ => ⟨S1x1024x2048, .f32⟩
  | .hbm, ⟨5, _⟩ => ⟨S1024x2048, .f32⟩
  | .hbm, ⟨6, _⟩ => ⟨S1x2048x2048, .f32⟩
  | .hbm, ⟨7, _⟩ => ⟨S1x2048x2048, .f32⟩
  | .hbm, ⟨8, _⟩ => ⟨S1x2048, .f32⟩
  | .hbm, ⟨9, _⟩ => ⟨S2048, .f32⟩
  | .hbm, ⟨10, _⟩ => ⟨S1x1x2048, .f32⟩
  | .hbm, ⟨11, _⟩ => ⟨S1x2048x2048, .f32⟩
  | .hbm, ⟨12, _⟩ => ⟨S1x2048x2048, .f32⟩
  | .hbm, ⟨13, _⟩ => ⟨S1x2048x2048, .f32⟩
  | .hbm, ⟨14, _⟩ => ⟨S1x2048x2048, .f32⟩
  | .hbm, ⟨15, _⟩ => ⟨S_, .f32⟩
  | .hbm, ⟨16, _⟩ => ⟨S1x2048x2048, .f32⟩
  | .hbm, ⟨17, _⟩ => ⟨S1x2048x2048, .f32⟩
  | .hbm, ⟨18, _⟩ => ⟨S_, .f32⟩
  | .hbm, ⟨19, _⟩ => ⟨S1x2048x2048, .f32⟩
  | .hbm, ⟨20, _⟩ => ⟨S1x2048x2048, .f32⟩
  | .hbm, ⟨21, _⟩ => ⟨S1x2048x2048, .f32⟩
  | .hbm, ⟨22, _⟩ => ⟨S1x2048, .f32⟩
  | .hbm, ⟨23, _⟩ => ⟨S2048, .f32⟩
  | .hbm, ⟨24, _⟩ => ⟨S1x1x2048, .f32⟩
  | .hbm, ⟨25, _⟩ => ⟨S1x2048x2048, .f32⟩
  | .hbm, ⟨26, _⟩ => ⟨S1x2048x2048, .f32⟩
  | .hbm, ⟨27, _⟩ => ⟨S1x2048x2048, .f32⟩
  | .hbm, ⟨28, _⟩ => ⟨S1x2048x2048, .f32⟩
  | .hbm, ⟨29, _⟩ => ⟨S_, .f32⟩
  | .hbm, ⟨30, _⟩ => ⟨S1x2048x2048, .f32⟩
  | .hbm, ⟨31, _⟩ => ⟨S1x2048x2048, .f32⟩
  | .hbm, ⟨32, _⟩ => ⟨S_, .f32⟩
  | .hbm, ⟨33, _⟩ => ⟨S1x2048x2048, .f32⟩
  | .hbm, ⟨34, _⟩ => ⟨S1x2048x2048, .f32⟩
  | .hbm, ⟨35, _⟩ => ⟨S1x2048x2048, .f32⟩
  | .hbm, ⟨36, _⟩ => ⟨S1x2048x2048, .f32⟩
  | .hbm, ⟨37, _⟩ => ⟨S1x2048x2048, .f32⟩
  | .hbm, ⟨38, _⟩ => ⟨S2048x2048, .f32⟩
  | .hbm, ⟨39, _⟩ => ⟨S2048x2048, .bf16⟩
  | .hbm, ⟨40, _⟩ => ⟨S2048x2048, .f32⟩
  | .hbm, ⟨41, _⟩ => ⟨S2048x2048, .bf16⟩
  | _, _ => ⟨S1x2048x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== NormOneFwd.lean ====
abbrev S1x2048x2048 : Shape := ⟨3, ![1, 2048, 2048]⟩
abbrev S1x2048 : Shape := ⟨2, ![1, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormOneFwdRefIdeal.lean ====
abbrev S1x2048x2048 : Shape := ⟨3, ![1, 2048, 2048]⟩
abbrev S1x2048 : Shape := ⟨2, ![1, 2048]⟩
abbrev S2048 : Shape := ⟨1, ![2048]⟩
abbrev S_ : Shape := ⟨0, ![]⟩
abbrev S1x2048x1 : Shape := ⟨3, ![1, 2048, 1]⟩
abbrev S1x1x2048 : Shape := ⟨3, ![1, 1, 2048]⟩
abbrev S2048x2048 : Shape := ⟨2, ![2048, 2048]⟩

abbrev nBuf : Space → Nat
  | .hbm => 32
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048, .f32⟩
  | .hbm, ⟨5, _⟩ => ⟨S1x2048x2048, .f32⟩
  | .hbm, ⟨6, _⟩ => ⟨S_, .f32⟩
  | .hbm, ⟨7, _⟩ => ⟨S1x2048, .f32⟩
  | .hbm, ⟨8, _⟩ => ⟨S1x2048x1, .f32⟩
  | .hbm, ⟨9, _⟩ => ⟨S_, .f32⟩
  | .hbm, ⟨10, _⟩ => ⟨S1x2048x1, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S1x2048x1, .f32⟩
  | .hbm, ⟨16, _⟩ => ⟨S1x2048x2048, .f32⟩
  | .hbm, ⟨17, _⟩ => ⟨S1x2048x2048, .f32⟩
  | .hbm, ⟨18, _⟩ => ⟨S1x1x2048, .f32⟩
  | .hbm, ⟨19, _⟩ => ⟨S1x2048x2048, .f32⟩
  | .hbm, ⟨20, _⟩ => ⟨S1x2048x2048, .f32⟩
  | .hbm, ⟨21, _⟩ => ⟨S1x1x2048, .f32⟩
  | .hbm, ⟨22, _⟩ => ⟨S_, .f32⟩
  | .hbm, ⟨23, _⟩ => ⟨S1x1x2048, .f32⟩
  | .hbm, ⟨24, _⟩ => ⟨S1x1x2048, .f32⟩
  | .hbm, ⟨25, _⟩ => ⟨S1x2048x2048, .f32⟩
  | .hbm, ⟨26, _⟩ => ⟨S1x2048x2048, .f32⟩
  | .hbm, ⟨27, _⟩ => ⟨S1x1x2048, .f32⟩
  | .hbm, ⟨28, _⟩ => ⟨S1x2048x2048, .f32⟩
  | .hbm, ⟨29, _⟩ => ⟨S1x2048x2048, .f32⟩
  | .hbm, ⟨30, _⟩ => ⟨S2048x2048, .f32⟩
  | .hbm, ⟨31, _⟩ => ⟨S2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== NormTwoFwd.lean ====
abbrev S1x2048x2048 : Shape := ⟨3, ![1, 2048, 2048]⟩
abbrev S1x2048 : Shape := ⟨2, ![1, 2048]⟩
abbrev S1x1x2048 : Shape := ⟨3, ![1, 1, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 7
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x1x2048, .f32⟩
  | .hbm, ⟨7, _⟩ => ⟨S1x2048x2048, .f32⟩
  | .hbm, ⟨8, _⟩ => ⟨S1x2048x2048, .f32⟩
  | .hbm, ⟨9, _⟩ => ⟨S1x2048x2048, .f32⟩
  | .hbm, ⟨10, _⟩ => ⟨S2048x2048, .f32⟩
  | .hbm, ⟨11, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormTwoFwdRefIdeal.lean ====
abbrev S1x2048x2048 : Shape := ⟨3, ![1, 2048, 2048]⟩
abbrev S1x2048 : Shape := ⟨2, ![1, 2048]⟩
abbrev S1x1x2048 : Shape := ⟨3, ![1, 1, 2048]⟩
abbrev S2048 : Shape := ⟨1, ![2048]⟩
abbrev S_ : Shape := ⟨0, ![]⟩
abbrev S1x2048x1 : Shape := ⟨3, ![1, 2048, 1]⟩
abbrev S2048x2048 : Shape := ⟨2, ![2048, 2048]⟩

abbrev nBuf : Space → Nat
  | .hbm => 38
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x1x2048, .f32⟩
  | .hbm, ⟨7, _⟩ => ⟨S1x2048x2048, .f32⟩
  | .hbm, ⟨8, _⟩ => ⟨S1x2048x2048, .f32⟩
  | .hbm, ⟨9, _⟩ => ⟨S1x2048x2048, .f32⟩
  | .hbm, ⟨10, _⟩ => ⟨S2048, .f32⟩
  | .hbm, ⟨11, _⟩ => ⟨S1x2048x2048, .f32⟩
  | .hbm, ⟨12, _⟩ => ⟨S_, .f32⟩
  | .hbm, ⟨13, _⟩ => ⟨S1x2048, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S_, .f32⟩
  | .hbm, ⟨19, _⟩ => ⟨S1x2048x1, .f32⟩
  | .hbm, ⟨20, _⟩ => ⟨S1x2048x1, .f32⟩
  | .hbm, ⟨21, _⟩ => ⟨S1x2048x1, .f32⟩
  | .hbm, ⟨22, _⟩ => ⟨S1x2048x2048, .f32⟩
  | .hbm, ⟨23, _⟩ => ⟨S1x2048x2048, .f32⟩
  | .hbm, ⟨24, _⟩ => ⟨S1x1x2048, .f32⟩
  | .hbm, ⟨25, _⟩ => ⟨S1x2048x2048, .f32⟩
  | .hbm, ⟨26, _⟩ => ⟨S1x2048x2048, .f32⟩
  | .hbm, ⟨27, _⟩ => ⟨S1x1x2048, .f32⟩
  | .hbm, ⟨28, _⟩ => ⟨S_, .f32⟩
  | .hbm, ⟨29, _⟩ => ⟨S1x1x2048, .f32⟩
  | .hbm, ⟨30, _⟩ => ⟨S1x1x2048, .f32⟩
  | .hbm, ⟨31, _⟩ => ⟨S1x2048x2048, .f32⟩
  | .hbm, ⟨32, _⟩ => ⟨S1x2048x2048, .f32⟩
  | .hbm, ⟨33, _⟩ => ⟨S1x1x2048, .f32⟩
  | .hbm, ⟨34, _⟩ => ⟨S1x2048x2048, .f32⟩
  | .hbm, ⟨35, _⟩ => ⟨S1x2048x2048, .f32⟩
  | .hbm, ⟨36, _⟩ => ⟨S2048x2048, .f32⟩
  | .hbm, ⟨37, _⟩ => ⟨S2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== FfnOut.lean ====
abbrev S1x2048x2048 : Shape := ⟨3, ![1, 2048, 2048]⟩
abbrev S1x2048x5632 : Shape := ⟨3, ![1, 2048, 5632]⟩
abbrev S1x2048 : Shape := ⟨2, ![1, 2048]⟩
abbrev S1x5632x2048 : Shape := ⟨3, ![1, 5632, 2048]⟩
abbrev S2048x2048 : Shape := ⟨2, ![2048, 2048]⟩
abbrev S2048x5632 : Shape := ⟨2, ![2048, 5632]⟩
abbrev S5632x2048 : Shape := ⟨2, ![5632, 2048]⟩
abbrev S1024x5632 : Shape := ⟨2, ![1024, 5632]⟩
abbrev S5632x256 : Shape := ⟨2, ![5632, 256]⟩
abbrev S1024x256 : Shape := ⟨2, ![1024, 256]⟩
abbrev S1x256 : Shape := ⟨2, ![1, 256]⟩

abbrev nBuf : Space → Nat
  | .hbm => 11
  | .vmem => 12
  | .smem => 0
  | _ => 0

abbrev bufTy : (tb : Table) → Fin (tcTables nBuf tb) → BufTy
  | .hbm, ⟨0, _⟩ => ⟨S1x2048x2048, .f32⟩
  | .hbm, ⟨1, _⟩ => ⟨S1x2048x5632, .f32⟩
  | .hbm, ⟨2, _⟩ => ⟨S1x2048, .f32⟩
  | .hbm, ⟨3, _⟩ => ⟨S1x5632x2048, .f32⟩
  | .hbm, ⟨4, _⟩ => ⟨S2048x2048, .f32⟩
  | .hbm, ⟨5, _⟩ => ⟨S2048x5632, .f32⟩
  | .hbm, ⟨6, _⟩ => ⟨S2048x5632, .bf16⟩
  | .hbm, ⟨7, _⟩ => ⟨S5632x2048, .f32⟩
  | .hbm, ⟨8, _⟩ => ⟨S5632x2048, .bf16⟩
  | .hbm, ⟨9, _⟩ => ⟨S2048x2048, .bf16⟩
  | .hbm, ⟨10, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x256, .bf16⟩
  | .local _ .vmem, ⟨3, _⟩ => ⟨S5632x256, .bf16⟩
  | .local _ .vmem, ⟨4, _⟩ => ⟨S1024x256, .f32⟩
  | .local _ .vmem, ⟨5, _⟩ => ⟨S1024x256, .f32⟩
  | .local _ .vmem, ⟨6, _⟩ => ⟨S1x256, .f32⟩
  | .local _ .vmem, ⟨7, _⟩ => ⟨S1x256, .f32⟩
  | .local _ .vmem, ⟨8, _⟩ => ⟨S1024x256, .bf16⟩
  | .local _ .vmem, ⟨9, _⟩ => ⟨S1024x256, .bf16⟩
  | .local _ .vmem, ⟨10, _⟩ => ⟨S1024x256, .f32⟩
  | .local _ .vmem, ⟨11, _⟩ => ⟨S1024x256, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S5632x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnOutRefIdeal.lean ====
abbrev S1x2048x2048 : Shape := ⟨3, ![1, 2048, 2048]⟩
abbrev S1x2048x5632 : Shape := ⟨3, ![1, 2048, 5632]⟩
abbrev S1x2048 : Shape := ⟨2, ![1, 2048]⟩
abbrev S1x5632x2048 : Shape := ⟨3, ![1, 5632, 2048]⟩
abbrev S5632x2048 : Shape := ⟨2, ![5632, 2048]⟩
abbrev S2048x2048 : Shape := ⟨2, ![2048, 2048]⟩
abbrev S1x1x2048 : Shape := ⟨3, ![1, 1, 2048]⟩

abbrev nBuf : Space → Nat
  | .hbm => 13
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x5632, .f32⟩
  | .hbm, ⟨2, _⟩ => ⟨S1x2048, .f32⟩
  | .hbm, ⟨3, _⟩ => ⟨S1x5632x2048, .f32⟩
  | .hbm, ⟨4, _⟩ => ⟨S5632x2048, .f32⟩
  | .hbm, ⟨5, _⟩ => ⟨S1x2048x2048, .f32⟩
  | .hbm, ⟨6, _⟩ => ⟨S2048x2048, .f32⟩
  | .hbm, ⟨7, _⟩ => ⟨S2048x2048, .bf16⟩
  | .hbm, ⟨8, _⟩ => ⟨S1x1x2048, .f32⟩
  | .hbm, ⟨9, _⟩ => ⟨S1x2048x2048, .f32⟩
  | .hbm, ⟨10, _⟩ => ⟨S1x2048x2048, .f32⟩
  | .hbm, ⟨11, _⟩ => ⟨S1x2048x2048, .f32⟩
  | .hbm, ⟨12, _⟩ => ⟨S2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== AdaMod.lean ====
abbrev S8x2048 : Shape := ⟨2, ![8, 2048]⟩
abbrev S1x2048x1536 : Shape := ⟨3, ![1, 2048, 1536]⟩
abbrev S_ : Shape := ⟨0, ![]⟩
abbrev S16x2048 : Shape := ⟨2, ![16, 2048]⟩
abbrev S2048x1536 : Shape := ⟨2, ![2048, 1536]⟩
abbrev S16x1536 : Shape := ⟨2, ![16, 1536]⟩
abbrev S16x512 : Shape := ⟨2, ![16, 512]⟩
abbrev S512x1536 : Shape := ⟨2, ![512, 1536]⟩

abbrev nBuf : Space → Nat
  | .hbm => 8
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S1x2048x1536, .f32⟩
  | .hbm, ⟨2, _⟩ => ⟨S_, .i32⟩
  | .hbm, ⟨3, _⟩ => ⟨S_, .f32⟩
  | .hbm, ⟨4, _⟩ => ⟨S16x2048, .f32⟩
  | .hbm, ⟨5, _⟩ => ⟨S2048x1536, .f32⟩
  | .hbm, ⟨6, _⟩ => ⟨S16x1536, .f32⟩
  | .hbm, ⟨7, _⟩ => ⟨S16x2048, .f32⟩
  | .local _ .vmem, ⟨0, _⟩ => ⟨S16x512, .f32⟩
  | .local _ .vmem, ⟨1, _⟩ => ⟨S16x512, .f32⟩
  | .local _ .vmem, ⟨2, _⟩ => ⟨S512x1536, .f32⟩
  | .local _ .vmem, ⟨3, _⟩ => ⟨S512x1536, .f32⟩
  | .local _ .vmem, ⟨4, _⟩ => ⟨S16x1536, .f32⟩
  | .local _ .vmem, ⟨5, _⟩ => ⟨S16x512, .f32⟩
  | .local _ .vmem, ⟨6, _⟩ => ⟨S16x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaModRefIdeal.lean ====
abbrev S8x2048 : Shape := ⟨2, ![8, 2048]⟩
abbrev S1x2048x1536 : Shape := ⟨3, ![1, 2048, 1536]⟩
abbrev S_ : Shape := ⟨0, ![]⟩
abbrev S16x2048 : Shape := ⟨2, ![16, 2048]⟩
abbrev S2048x1536 : Shape := ⟨2, ![2048, 1536]⟩
abbrev S16x1536 : Shape := ⟨2, ![16, 1536]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S1x2048x1536, .f32⟩
  | .hbm, ⟨2, _⟩ => ⟨S_, .i32⟩
  | .hbm, ⟨3, _⟩ => ⟨S_, .f32⟩
  | .hbm, ⟨4, _⟩ => ⟨S16x2048, .f32⟩
  | .hbm, ⟨5, _⟩ => ⟨S16x2048, .f32⟩
  | .hbm, ⟨6, _⟩ => ⟨S16x2048, .f32⟩
  | .hbm, ⟨7, _⟩ => ⟨S_, .f32⟩
  | .hbm, ⟨8, _⟩ => ⟨S16x2048, .f32⟩
  | .hbm, ⟨9, _⟩ => ⟨S16x2048, .f32⟩
  | .hbm, ⟨10, _⟩ => ⟨S_, .f32⟩
  | .hbm, ⟨11, _⟩ => ⟨S16x2048, .f32⟩
  | .hbm, ⟨12, _⟩ => ⟨S16x2048, .f32⟩
  | .hbm, ⟨13, _⟩ => ⟨S16x2048, .f32⟩
  | .hbm, ⟨14, _⟩ => ⟨S2048x1536, .f32⟩
  | .hbm, ⟨15, _⟩ => ⟨S16x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_call1_v0 : Ref sig .tc := ⟨.hbm, 5, rfl⟩
abbrev main_call1_v1 : Ref sig .tc := ⟨.hbm, 6, rfl⟩
abbrev main_call1_cst : Ref sig .tc := ⟨.hbm, 7, rfl⟩
abbrev main_call1_v2 : Ref sig .tc := ⟨.hbm, 8, rfl⟩
abbrev main_call1_v3 : Ref sig .tc := ⟨.hbm, 9, rfl⟩
abbrev main_call1_cst_0 : Ref sig .tc := ⟨.hbm, 10, rfl⟩
abbrev main_call1_v4 : Ref sig .tc := ⟨.hbm, 11, rfl⟩
abbrev main_call1_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩

abbrev nD : Nat := 1
abbrev τ : Topo := Topo.v7x

variable {F : FTy → Type} [FloatOps F]
-- ==== ProjIn.lean ====
abbrev S1x2048x2048 : Shape := ⟨3, ![1, 2048, 2048]⟩
abbrev S1x2048x10240 : Shape := ⟨3, ![1, 2048, 10240]⟩
abbrev S2048x10240 : Shape := ⟨2, ![2048, 10240]⟩
abbrev S2048x8x1280 : Shape := ⟨3, ![2048, 8, 1280]⟩
abbrev S8x2048x1280 : Shape := ⟨3, ![8, 2048, 1280]⟩
abbrev S2048x2048 : Shape := ⟨2, ![2048, 2048]⟩
abbrev S1024x2048 : Shape := ⟨2, ![1024, 2048]⟩
abbrev S1x2048x1280 : Shape := ⟨3, ![1, 2048, 1280]⟩
abbrev S1024x1280 : Shape := ⟨2, ![1024, 1280]⟩
abbrev S2048x1280 : Shape := ⟨2, ![2048, 1280]⟩

abbrev nBuf : Space → Nat
  | .hbm => 9
  | .vmem => 6
  | .smem => 0
  | _ => 0

abbrev bufTy : (tb : Table) → Fin (tcTables nBuf tb) → BufTy
  | .hbm, ⟨0, _⟩ => ⟨S1x2048x2048, .f32⟩
  | .hbm, ⟨1, _⟩ => ⟨S1x2048x10240, .f32⟩
  | .hbm, ⟨2, _⟩ => ⟨S2048x10240, .f32⟩
  | .hbm, ⟨3, _⟩ => ⟨S2048x10240, .bf16⟩
  | .hbm, ⟨4, _⟩ => ⟨S2048x8x1280, .bf16⟩
  | .hbm, ⟨5, _⟩ => ⟨S8x2048x1280, .bf16⟩
  | .hbm, ⟨6, _⟩ => ⟨S2048x2048, .f32⟩
  | .hbm, ⟨7, _⟩ => ⟨S2048x2048, .bf16⟩
  | .hbm, ⟨8, _⟩ => ⟨S2048x10240, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1280, .bf16⟩
  | .local _ .vmem, ⟨3, _⟩ => ⟨S1x2048x1280, .bf16⟩
  | .local _ .vmem, ⟨4, _⟩ => ⟨S1024x1280, .f32⟩
  | .local _ .vmem, ⟨5, _⟩ => ⟨S1024x1280, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInRefIdeal.lean ====
abbrev S1x2048x2048 : Shape := ⟨3, ![1, 2048, 2048]⟩
abbrev S1x2048x10240 : Shape := ⟨3, ![1, 2048, 10240]⟩
abbrev S2048x10240 : Shape := ⟨2, ![2048, 10240]⟩

abbrev nBuf : Space → Nat
  | .hbm => 5
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x10240, .f32⟩
  | .hbm, ⟨2, _⟩ => ⟨S2048x10240, .f32⟩
  | .hbm, ⟨3, _⟩ => ⟨S1x2048x10240, .f32⟩
  | .hbm, ⟨4, _⟩ => ⟨S2048x10240, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnInDw.lean ====
abbrev S1x2048x2048 : Shape := ⟨3, ![1, 2048, 2048]⟩
abbrev S1x2048x11264 : Shape := ⟨3, ![1, 2048, 11264]⟩
abbrev S2048x11264 : Shape := ⟨2, ![2048, 11264]⟩
abbrev S2048x2x5632 : Shape := ⟨3, ![2048, 2, 5632]⟩
abbrev S2x2048x5632 : Shape := ⟨3, ![2, 2048, 5632]⟩
abbrev S2048x2048 : Shape := ⟨2, ![2048, 2048]⟩
abbrev S8x2048x1408 : Shape := ⟨3, ![8, 2048, 1408]⟩
abbrev S1x2048x1408 : Shape := ⟨3, ![1, 2048, 1408]⟩
abbrev S2048x1408 : Shape := ⟨2, ![2048, 1408]⟩

abbrev nBuf : Space → Nat
  | .hbm => 9
  | .vmem => 5
  | .smem => 0
  | _ => 0

abbrev bufTy : (tb : Table) → Fin (tcTables nBuf tb) → BufTy
  | .hbm, ⟨0, _⟩ => ⟨S1x2048x2048, .f32⟩
  | .hbm, ⟨1, _⟩ => ⟨S1x2048x11264, .f32⟩
  | .hbm, ⟨2, _⟩ => ⟨S2048x11264, .f32⟩
  | .hbm, ⟨3, _⟩ => ⟨S2048x11264, .bf16⟩
  | .hbm, ⟨4, _⟩ => ⟨S2048x2x5632, .bf16⟩
  | .hbm, ⟨5, _⟩ => ⟨S2x2048x5632, .bf16⟩
  | .hbm, ⟨6, _⟩ => ⟨S2048x2048, .f32⟩
  | .hbm, ⟨7, _⟩ => ⟨S2048x2048, .bf16⟩
  | .hbm, ⟨8, _⟩ => ⟨S8x2048x1408, .bf16⟩
  | .local _ .vmem, ⟨0, _⟩ => ⟨S2048x2048, .bf16⟩
  | .local _ .vmem, ⟨1, _⟩ => ⟨S1x2048x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwRefIdeal.lean ====
abbrev S1x2048x2048 : Shape := ⟨3, ![1, 2048, 2048]⟩
abbrev S1x2048x11264 : Shape := ⟨3, ![1, 2048, 11264]⟩
abbrev S_ : Shape := ⟨0, ![]⟩
abbrev S2048x11264 : Shape := ⟨2, ![2048, 11264]⟩
abbrev S2048x2048 : Shape := ⟨2, ![2048, 2048]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x11264, .f32⟩
  | .hbm, ⟨2, _⟩ => ⟨S_, .f32⟩
  | .hbm, ⟨3, _⟩ => ⟨S2048x11264, .f32⟩
  | .hbm, ⟨4, _⟩ => ⟨S2048x2048, .f32⟩
  | .hbm, ⟨5, _⟩ => ⟨S2048x11264, .f32⟩
  | .hbm, ⟨6, _⟩ => ⟨S2048x11264, .f32⟩
  | .hbm, ⟨7, _⟩ => ⟨S11264x2048, .f32⟩
  | .hbm, ⟨8, _⟩ => ⟨S2048x11264, .f32⟩
  | .hbm, ⟨9, _⟩ => ⟨S2048x8x1408, .f32⟩
  | .hbm, ⟨10, _⟩ => ⟨S8x2048x1408, .f32⟩
  | .hbm, ⟨11, _⟩ => ⟨S8x2048x1408, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== BranchDx.lean ====
abbrev S1x2048x2048 : Shape := ⟨3, ![1, 2048, 2048]⟩
abbrev S1x1024x2048 : Shape := ⟨3, ![1, 1024, 2048]⟩
abbrev S2048x2048 : Shape := ⟨2, ![2048, 2048]⟩
abbrev S1024x2048 : Shape := ⟨2, ![1024, 2048]⟩
abbrev S2048x1024 : Shape := ⟨2, ![2048, 1024]⟩
abbrev S512x2048 : Shape := ⟨2, ![512, 2048]⟩
abbrev S1024x512 : Shape := ⟨2, ![1024, 512]⟩

abbrev nBuf : Space → Nat
  | .hbm => 7
  | .vmem => 6
  | .smem => 0
  | _ => 0

abbrev bufTy : (tb : Table) → Fin (tcTables nBuf tb) → BufTy
  | .hbm, ⟨0, _⟩ => ⟨S1x2048x2048, .f32⟩
  | .hbm, ⟨1, _⟩ => ⟨S1x1024x2048, .f32⟩
  | .hbm, ⟨2, _⟩ => ⟨S2048x2048, .f32⟩
  | .hbm, ⟨3, _⟩ => ⟨S2048x2048, .bf16⟩
  | .hbm, ⟨4, _⟩ => ⟨S1024x2048, .f32⟩
  | .hbm, ⟨5, _⟩ => ⟨S1024x2048, .bf16⟩
  | .hbm, ⟨6, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDxRefIdeal.lean ====
abbrev S1x2048x2048 : Shape := ⟨3, ![1, 2048, 2048]⟩
abbrev S1x1024x2048 : Shape := ⟨3, ![1, 1024, 2048]⟩
abbrev S_ : Shape := ⟨0, ![]⟩
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x1024x2048, .f32⟩
  | .hbm, ⟨2, _⟩ => ⟨S_, .f32⟩
  | .hbm, ⟨3, _⟩ => ⟨S2048x1024, .f32⟩
  | .hbm, ⟨4, _⟩ => ⟨S1024x2048, .f32⟩
  | .hbm, ⟨5, _⟩ => ⟨S2048x2048, .f32⟩
  | .hbm, ⟨6, _⟩ => ⟨S2048x2048, .f32⟩
  | .hbm, ⟨7, _⟩ => ⟨S2048x1024, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnInDx.lean ====
abbrev S1x2048x11264 : Shape := ⟨3, ![1, 2048, 11264]⟩
abbrev S2048x11264 : Shape := ⟨2, ![2048, 11264]⟩
abbrev S2048x2x5632 : Shape := ⟨3, ![2048, 2, 5632]⟩
abbrev S2x2048x5632 : Shape := ⟨3, ![2, 2048, 5632]⟩
abbrev S2048x8x1408 : Shape := ⟨3, ![2048, 8, 1408]⟩
abbrev S8x2048x1408 : Shape := ⟨3, ![8, 2048, 1408]⟩
abbrev S2048x2048 : Shape := ⟨2, ![2048, 2048]⟩
abbrev S1x1024x1408 : Shape := ⟨3, ![1, 1024, 1408]⟩
abbrev S1x2048x1408 : Shape := ⟨3, ![1, 2048, 1408]⟩
abbrev S1024x2048 : Shape := ⟨2, ![1024, 2048]⟩
abbrev S1024x1408 : Shape := ⟨2, ![1024, 1408]⟩
abbrev S2048x1408 : Shape := ⟨2, ![2048, 1408]⟩

abbrev nBuf : Space → Nat
  | .hbm => 11
  | .vmem => 7
  | .smem => 0
  | _ => 0

abbrev bufTy : (tb : Table) → Fin (tcTables nBuf tb) → BufTy
  | .hbm, ⟨0, _⟩ => ⟨S1x2048x11264, .f32⟩
  | .hbm, ⟨1, _⟩ => ⟨S1x2048x11264, .f32⟩
  | .hbm, ⟨2, _⟩ => ⟨S2048x11264, .f32⟩
  | .hbm, ⟨3, _⟩ => ⟨S2048x11264, .bf16⟩
  | .hbm, ⟨4, _⟩ => ⟨S2048x2x5632, .bf16⟩
  | .hbm, ⟨5, _⟩ => ⟨S2x2048x5632, .bf16⟩
  | .hbm, ⟨6, _⟩ => ⟨S2048x11264, .f32⟩
  | .hbm, ⟨7, _⟩ => ⟨S2048x11264, .bf16⟩
  | .hbm, ⟨8, _⟩ => ⟨S2048x8x1408, .bf16⟩
  | .hbm, ⟨9, _⟩ => ⟨S8x2048x1408, .bf16⟩
  | .hbm, ⟨10, _⟩ => ⟨S2048x2048, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S1x2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDxRefIdeal.lean ====
abbrev S1x2048x11264 : Shape := ⟨3, ![1, 2048, 11264]⟩
abbrev S_ : Shape := ⟨0, ![]⟩
abbrev S2048x2048 : Shape := ⟨2, ![2048, 2048]⟩
abbrev S2048x11264 : Shape := ⟨2, ![2048, 11264]⟩

abbrev nBuf : Space → Nat
  | .hbm => 8
  | .vmem => 0
  | .smem => 0
  | _ => 0

abbrev bufTy : (tb : Table) → Fin (tcTables nBuf tb) → BufTy
  | .hbm, ⟨0, _⟩ => ⟨S1x2048x11264, .f32⟩
  | .hbm, ⟨1, _⟩ => ⟨S1x2048x11264, .f32⟩
  | .hbm, ⟨2, _⟩ => ⟨S_, .f32⟩
  | .hbm, ⟨3, _⟩ => ⟨S2048x2048, .f32⟩
  | .hbm, ⟨4, _⟩ => ⟨S2048x11264, .f32⟩
  | .hbm, ⟨5, _⟩ => ⟨S2048x11264, .f32⟩
  | .hbm, ⟨6, _⟩ => ⟨S2048x11264, .f32⟩
  | .hbm, ⟨7, _⟩ => ⟨S2048x2048, .f32⟩
  | _, _ => ⟨S1x2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.MergeValue.lean ====
module

public import proofs.«01_k».proof.Proof.Gen.MergeBwdIdeal.Value
public import proofs.«01_k».proof.Proof.Gen.MergeBwdRefIdeal.Read
public import Idealize.ShloMosaic.Lib.Pointwise
public import Idealize.ShloMosaic.Lib.Pipeline.ValueKit

set_option maxRecDepth 16384

@[expose] public section

noncomputable section
open Idealize.ShloMosaic Idealize.ShloMosaic.TcCoe Idealize.SL.Sem
open Idealize.ShloMosaic.Pipeline (Dat)
namespace Cert.MergeBwdIdeal.Merge
open Cert.MergeBwdIdeal Cert.MergeBwdIdeal.Gen

variable (m : (ℓ : Loc nD τ sig) → Buf (Elt Ideal) ℓ)

/-- The block each window reads or writes at a grid point. -/
theorem idx : ∀ t : Fin cfg0.N, win0_0.index t = ![t.val / 4, 0] ∧ win0_1.index t = ![t.val % 4, 0]
    ∧ win0_2.index t = ![t.val / 4, t.val % 4] ∧ win0_3.index t = ![t.val / 4, t.val % 4]
    ∧ win0_4.index t = ![t.val / 4, 12 + t.val % 4] ∧ win0_5.index t = ![t.val / 4, 16 + t.val % 4]
    ∧ win0_6.index t = ![0, t.val % 4] ∧ win0_7.index t = ![0, 4 + t.val % 4]
    ∧ win0_8.index t = ![t.val / 4, t.val % 4] ∧ win0_9.index t = ![t.val / 4, t.val % 4]
    ∧ win0_10.index t = ![0, t.val / 4, t.val % 4] :=
  (by decide +kernel : ∀ t : Fin grid0.N, _)

theorem point8 (c : Dev nD) (t : Fin cfg0.N) (y : S1024x512.Idx) :
    out0_8 (iblk m c 0 t) (iblk m c 1 t) (iblk m c 2 t) (iblk m c 3 t) (iblk m c 4 t) (iblk m c 5 t) (iblk m c 6 t) (iblk m c 7 t) y
      = Cert.MergeBwdRefIdeal.Read.val_main_v43 (F := Ideal) (m ((c : Thread nD τ).loc main_arg0)) (m ((c : Thread nD τ).loc main_arg3)) (m ((c : Thread nD τ).loc main_arg4)) (m ((c : Thread nD τ).loc main_arg5))
          (((cfg0.win 8).blk t).view.emb y) := by
  frame_out
  open Cert.MergeBwdRefIdeal.Read in
  pointwise [k0_pay6, k0_pay7, k0_pay5, k0_pay4, k0_pay3, val_main_v47, val_main_v46, val_main_v45, val_main_v44, val_main_v43, val_main_v42, val_main_v38, val_main_v35, val_main_v33, val_main_v12, val_main_v11, val_main_v10, val_main_v9, val_main_v8, val_main_v7, val_main_v6, val_main_v5, val_main_v4, val_main_v3, val_main_v2, val_main_v1, val_main_v0, val_main_v15, val_main_v14, val_main_v13, val_main_cst, val_main_cst_0, val_main_cst_1, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v34, val_main_v36, val_main_v37, val_main_v39, val_main_v40, val_main_v41, val_main_cst_2, val_main_cst_3, val_main_cst_4]
  simp only [zero_sub]
  blk_point [iblk, V, idx t]

theorem point9 (c : Dev nD) (t : Fin cfg0.N) (y : S1024x512.Idx) :
    out0_9 (iblk m c 0 t) (iblk m c 1 t) (iblk m c 2 t) (iblk m c 3 t) (iblk m c 4 t) (iblk m c 5 t) (iblk m c 6 t) (iblk m c 7 t) y
      = Cert.MergeBwdRefIdeal.Read.val_main_v45 (F := Ideal) (m ((c : Thread nD τ).loc main_arg0)) (m ((c : Thread nD τ).loc main_arg3)) (m ((c : Thread nD τ).loc main_arg4)) (m ((c : Thread nD τ).loc main_arg5))
          (((cfg0.win 9).blk t).view.emb y) := by
  frame_out
  open Cert.MergeBwdRefIdeal.Read in
  pointwise [k0_pay6, k0_pay7, k0_pay5, k0_pay4, k0_pay3, val_main_v47, val_main_v46, val_main_v45, val_main_v44, val_main_v43, val_main_v42, val_main_v38, val_main_v35, val_main_v33, val_main_v12, val_main_v11, val_main_v10, val_main_v9, val_main_v8, val_main_v7, val_main_v6, val_main_v5, val_main_v4, val_main_v3, val_main_v2, val_main_v1, val_main_v0, val_main_v15, val_main_v14, val_main_v13, val_main_cst, val_main_cst_0, val_main_cst_1, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v34, val_main_v36, val_main_v37, val_main_v39, val_main_v40, val_main_v41, val_main_cst_2, val_main_cst_3, val_main_cst_4]
  simp only [zero_sub]
  blk_point [iblk, V, idx t]

theorem point10 (c : Dev nD) (t : Fin cfg0.N) (y : S2x1024x512.Idx) :
    out0_10 (iblk m c 0 t) (iblk m c 1 t) (iblk m c 2 t) (iblk m c 3 t) (iblk m c 4 t) (iblk m c 5 t) (iblk m c 6 t) (iblk m c 7 t) y
      = Cert.MergeBwdRefIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (((cfg0.win 10).blk t).view.emb y) := by
  canon_tiles x h
  all_goals
    open Cert.MergeBwdRefIdeal.Read in
    pointwise [k0_pay8, k0_pay1, k0_pay2, k0_pay5, k0_pay4, k0_pay3, val_main_v47, val_main_v46, val_main_v45, val_main_v44, val_main_v43, val_main_v42, val_main_v38, val_main_v35, val_main_v33, val_main_v12, val_main_v11, val_main_v10, val_main_v9, val_main_v8, val_main_v7, val_main_v6, val_main_v5, val_main_v4, val_main_v3, val_main_v2, val_main_v1, val_main_v0, val_main_v15, val_main_v14, val_main_v13, val_main_cst, val_main_cst_0, val_main_cst_1, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v34, val_main_v36, val_main_v37, val_main_v39, val_main_v40, val_main_v41, val_main_cst_2, val_main_cst_3, val_main_cst_4]
  all_goals
    simp only [zero_sub, mul_assoc]
    have e0 : ((((cfg0.win 10).blk t).view.emb y) 0 : ℕ) = (y 0 : ℕ) := by blk_simp [idx t]; try omega
    first
      | (rw [dif_pos (show ((((cfg0.win 10).blk t).view.emb y) 0 : ℕ) < 1 by omega)]; blk_point [iblk, V, idx t])
      | (rw [dif_neg (show ¬ ((((cfg0.win 10).blk t).view.emb y) 0 : ℕ) < 1 by omega)]; blk_point [iblk, V, idx t])

theorem final8 (c : Dev nD) : (dats m 0 c).arrAt 8 cfg0.N
    = Cert.MergeBwdRefIdeal.Read.val_main_v43 (F := Ideal) (m ((c : Thread nD τ).loc main_arg0)) (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]
  exact point8 m c t y

theorem final9 (c : Dev nD) : (dats m 0 c).arrAt 9 cfg0.N
    = Cert.MergeBwdRefIdeal.Read.val_main_v45 (F := Ideal) (m ((c : Thread nD τ).loc main_arg0)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]
  exact point9 m c t y

theorem final10 (c : Dev nD) : (dats m 0 c).arrAt 10 cfg0.N
    = Cert.MergeBwdRefIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t _ y => ?_
  blk_simp
  rw [after0_10]
  exact point10 m c t y

end Cert.MergeBwdIdeal.Merge
-- ==== Proof.Reals.lean ====
module

public import Idealize.ShloMosaic.PureOps.Ideal
public import Idealize.ShloMosaic.PureOps.Ideal.Laws
public import Idealize.ShloMosaic.Lib.WordCmp

@[expose] public section

/-! Arithmetic at finite values: the operations of the idealized programs on coerced reals. -/

noncomputable section
namespace Cert.Reals
open Idealize.ShloMosaic

theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

theorem div_real (x y : ℝ) (h : y ≠ 0) : Ideal.div (x : EReal) (y : EReal) = ((x / y : ℝ) : EReal) := by
  rw [Ideal.div_coe h, ← EReal.coe_mul, mul_one_div]

theorem rsqrt_real (x : ℝ) (h : 0 < x) : Ideal.rsqrt (x : EReal) = (((Real.sqrt x)⁻¹ : ℝ) : EReal) := by
  show (if x < 0 then ⊥ else if x = 0 then ⊤ else _) = _
  rw [if_neg (not_lt.2 h.le), if_neg h.ne']

theorem tanh_real (x : ℝ) : Ideal.tanh (x : EReal) = ((Real.tanh x : ℝ) : EReal) := rfl

theorem exp_real (x : ℝ) : Ideal.exp (x : EReal) = ((Real.exp x : ℝ) : EReal) := rfl

theorem ite_real (p : Prop) [Decidable p] (x y : ℝ) : (if p then (x : EReal) else (y : EReal)) = ((if p then x else y : ℝ) : EReal) := by
  split <;> rfl

/-- A value whose absolute value is below infinity is a real. -/
theorem real_of_abs {x : EReal} (h : max x (-x) < ⊤) : ∃ r : ℝ, x = (r : EReal) := by
  induction x using EReal.rec with
  | bot => exact absurd h (by simp)
  | top => exact absurd h (by simp)
  | coe r => exact ⟨r, rfl⟩

theorem toReal_of_abs {x : EReal} (h : max x (-x) < ⊤) : x = (x.toReal : EReal) := by
  obtain ⟨r, rfl⟩ := real_of_abs h
  rw [EReal.toReal_coe]

theorem lift_one : (1 : EReal) = ((1 : ℝ) : EReal) := rfl
theorem lift_zero : (0 : EReal) = ((0 : ℝ) : EReal) := rfl

/-- The lower-triangle choice, its test on 32-bit row and column numbers, over finite values. -/
theorem select_sge {t s : ℕ} (ht : t < 128) (hs : s < 128) (x y : ℝ) :
    Scalar.select (IntOp.cmpi CmpIPredicate.sge (BitVec.ofNat 32 t) (BitVec.ofNat 32 s)) (x : EReal) (y : EReal)
      = ((if s ≤ t then x else y : ℝ) : EReal) := by
  rw [WordCmp.cmpi_sge_ofNat (by omega) (by omega)]
  by_cases h : s ≤ t <;> simp [Scalar.select, h]

/-! The literals, as reals. -/

theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_three : Ideal.ofBits .f32 0x40400000#32 = ((3 : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
/-- The square root of two over pi, as both programs spell it. -/
def gk : ℝ := 13386282 / 16777216
theorem lit_gk : Ideal.ofBits .f32 0x3F4C422A#32 = ((gk : ℝ) : EReal) := by
  simp [Ideal.ofBits, Ideal.ieee, gk, -EReal.coe_mul]; norm_num
/-- The small number under the square root, as both programs spell it. -/
def eps : ℝ := 8796093 / 8796093022208
theorem lit_eps : Ideal.ofBits .f32 0x358637BD#32 = ((eps : ℝ) : EReal) := by
  simp [Ideal.ofBits, Ideal.ieee, eps, -EReal.coe_mul]; norm_num
theorem eps_pos : 0 < eps := by norm_num [eps]
theorem lit_one : Ideal.ofBits .f32 0x3F800000#32 = ((1 : ℝ) : EReal) := by
  simp [Ideal.ofBits, Ideal.ieee, -EReal.coe_mul]; norm_num
theorem lit_zero : Ideal.ofBits .f32 0x00000000#32 = ((0 : ℝ) : EReal) := by
  simp [Ideal.ofBits, Ideal.ieee, -EReal.coe_mul]

theorem lit_inf : Ideal.ofBits .f32 0x7F800000#32 = (⊤ : EReal) := by
  simp [Ideal.ofBits, Ideal.ieee]

/-- The comparison that states finiteness holds. -/
theorem abs_lt_of_bit {x : EReal} (e : BitVec.ofBool (decide ((FloatOps.absf (F := Ideal) (φ := .f32) x : EReal) < Ideal.ofBits .f32 0x7F800000#32)) = 1#1) :
    max x (-x) < ⊤ := by
  rw [lit_inf] at e
  by_contra hn
  have hn' : ¬ (FloatOps.absf (F := Ideal) (φ := .f32) x : EReal) < ⊤ := hn
  rw [decide_eq_false hn'] at e
  exact absurd e (by decide)

end Cert.Reals
end
-- ==== Proof.GmlpModel.lean ====
module

public import proofs.«01_k».proof.Proof.Reals

@[expose] public section

/-! The gated spatial unit and its gradients, written over the reals: rows and columns are counted by natural numbers,
a chunk is 128 rows, a group is 128 columns. -/

noncomputable section
open Idealize.ShloMosaic
namespace Cert.Gmlp
open Cert.Reals

/-- The cubic coefficient of the tanh form of gelu. -/
def cub : ℝ := 8943 / 200000

def th (x : ℝ) : ℝ := Real.tanh (gk * (x + cub * (x * x * x)))
def gel (x : ℝ) : ℝ := x * (1 / 2 * (1 + th x))
def dgel (x : ℝ) : ℝ := 1 / 2 * (1 + th x) + x * (1 / 2) * (1 - th x * th x) * (gk * (1 + 3 * cub * (x * x)))

/-- The arguments, as real functions of their coordinates. -/
structure Args where
  U : ℕ → ℕ → ℝ
  V : ℕ → ℕ → ℝ
  Y : ℕ → ℕ → ℝ
  G : ℕ → ℝ
  B : ℕ → ℝ
  W : ℕ → ℕ → ℕ → ℝ
  S : ℕ → ℕ → ℝ

variable (a : Args)

def mu (r : ℕ) : ℝ := (∑ k : Fin 1024, gel (a.V r k)) / 1024
def vc (r k : ℕ) : ℝ := gel (a.V r k) - mu a r
def var (r : ℕ) : ℝ := (∑ k : Fin 1024, vc a r k * vc a r k) / 1024
def rstd (r : ℕ) : ℝ := (Real.sqrt (var a r + eps))⁻¹
def vh (r k : ℕ) : ℝ := vc a r k * rstd a r
def vn (r k : ℕ) : ℝ := vh a r k * a.G k + a.B k
def tri (g t s : ℕ) : ℝ := if s ≤ t then a.W g t s else 0
/-- The spatial mix: the lower triangle of the group's matrix over the chunk's rows, and the bias. -/
def sp (r k : ℕ) : ℝ := (∑ j : Fin 128, tri a (k / 128) (r % 128) j * vn a (r / 128 * 128 + j) k) + a.S (k / 128) (r % 128)
def ds (r k : ℕ) : ℝ := a.Y r k * gel (a.U r k)
def dvn (r k : ℕ) : ℝ := ∑ t : Fin 128, tri a (k / 128) t (r % 128) * ds a (r / 128 * 128 + t) k
def dvh (r k : ℕ) : ℝ := dvn a r k * a.G k
def m1 (r : ℕ) : ℝ := (∑ k : Fin 1024, dvh a r k) / 1024
def m2 (r : ℕ) : ℝ := (∑ k : Fin 1024, dvh a r k * vh a r k) / 1024
def dvg (r k : ℕ) : ℝ := rstd a r * (dvh a r k - m1 a r - vh a r k * m2 a r)
/-- The gradients of the two halves of the gate's input. -/
def du (r k : ℕ) : ℝ := a.Y r k * sp a r k * dgel (a.U r k)
def dv (r k : ℕ) : ℝ := dvg a r k * dgel (a.V r k)
/-- One chunk's part of each parameter's gradient. -/
def dGc (n k : ℕ) : ℝ := ∑ t : Fin 128, dvn a (128 * n + t) k * vh a (128 * n + t) k
def dBc (n k : ℕ) : ℝ := ∑ t : Fin 128, dvn a (128 * n + t) k
def dWc (n g t s : ℕ) : ℝ := if s ≤ t then ∑ d : Fin 128, ds a (128 * n + t) (128 * g + d) * vn a (128 * n + s) (128 * g + d) else 0
def dSc (n g t : ℕ) : ℝ := ∑ d : Fin 128, ds a (128 * n + t) (128 * g + d)

theorem var_pos (r : ℕ) : 0 < var a r + eps :=
  add_pos_of_nonneg_of_pos (div_nonneg (Finset.sum_nonneg fun k _ => mul_self_nonneg _) (by norm_num)) eps_pos

theorem sum_vc (r : ℕ) : ∑ k : Fin 1024, vc a r k = 0 := by
  simp only [vc, Finset.sum_sub_distrib, Finset.sum_const, Finset.card_univ, Fintype.card_fin, mu]
  ring

theorem rstd_sq (r : ℕ) : rstd a r / (var a r + eps) = rstd a r * (rstd a r * rstd a r) := by
  have h := var_pos a r
  rw [rstd, ← mul_inv, Real.mul_self_sqrt h.le, div_eq_mul_inv]

/-- The factor the variance's gradient puts before the centred value. -/
def pv (r : ℕ) : ℝ := (∑ k : Fin 1024, vc a r k * dvh a r k) * (-(1 / 2) * (rstd a r / (var a r + eps))) / 1024

/-- The gradient through mean and variance, added up as it is differentiated. -/
theorem dvg_eq (r k : ℕ) : dvh a r k * rstd a r + pv a r * (2 * vc a r k)
    + ((∑ j : Fin 1024, -(dvh a r j * rstd a r)) + ∑ j : Fin 1024, -(pv a r * (2 * vc a r j))) / 1024 = dvg a r k := by
  have h1 : (∑ j : Fin 1024, -(dvh a r j * rstd a r)) = -((∑ j : Fin 1024, dvh a r j) * rstd a r) := by
    rw [Finset.sum_neg_distrib, Finset.sum_mul]
  have h2 : (∑ j : Fin 1024, -(pv a r * (2 * vc a r j))) = 0 := by
    rw [Finset.sum_neg_distrib, ← Finset.mul_sum, ← Finset.mul_sum, sum_vc]; ring
  have h3 : (∑ j : Fin 1024, dvh a r j * vh a r j) = (∑ j : Fin 1024, vc a r j * dvh a r j) * rstd a r := by
    rw [Finset.sum_mul]; exact Finset.sum_congr rfl fun j _ => by rw [vh]; ring
  rw [h1, h2, dvg, m1, m2, h3, pv, rstd_sq, vh]
  ring

end Cert.Gmlp
end
-- ==== Proof.GmlpStages.lean ====
module

public import proofs.«01_k».proof.Proof.Gen.GmlpBwdIdeal.Frame
public import proofs.«01_k».proof.Proof.GmlpModel
public import Idealize.ShloMosaic.Lib.Pointwise
public import Idealize.ShloMosaic.Lib.Pipeline.ValueKit

set_option maxRecDepth 16384

@[expose] public section

/-! What the kernel computes for a whole chunk before it splits into groups: the gelu of both halves, their slopes, and
the normalised rows. -/

noncomputable section
open Idealize.ShloMosaic Idealize.ShloMosaic.TcCoe Idealize.SL.Sem
namespace Cert.GmlpBwdIdeal.Gmlp
open Cert.GmlpBwdIdeal Cert.GmlpBwdIdeal.Gen Cert.Gmlp Cert.Reals

theorem name_cub (b : BitVec (FTy.bits .f32)) : (Named.named (F := Ideal) κ "gelu_cubic" (φ := .f32) b : EReal) = ((cub : ℝ) : EReal) :=
  IdealRules.named_const.ideal_named_scalar κ "gelu_cubic" b _ (by rfl)

theorem name_thrice (b : BitVec (FTy.bits .f32)) : (Named.named (F := Ideal) κ "gelu_cubic_thrice" (φ := .f32) b : EReal) = ((3 * cub : ℝ) : EReal) := by
  rw [IdealRules.named_const.ideal_named_scalar κ "gelu_cubic_thrice" b _ (by rfl)]
  norm_num [cub]

variable (a : Args) (n : ℕ)

section
variable (x0 : Vec Ideal S128x1024 .f32) (h0 : ∀ i, x0 i = ((a.U (128 * n + i 0) (i 1) : ℝ) : EReal))
include h0

theorem gelU (y : S128x1024.Idx) : k0_pay16 x0 y = ((gel (a.U (128 * n + y 0) (y 1)) : ℝ) : EReal) := by
  pointwise [k0_pay16, k0_pay15, k0_pay14, k0_pay13]
  simp only [h0, name_cub, lit_half, lit_gk, lift_one, ← EReal.coe_add, ← EReal.coe_mul, tanh_real]
  congr 1
  unfold gel th
  ring_nf

theorem dgelU (y : S128x1024.Idx) : k0_pay17 x0 y = ((dgel (a.U (128 * n + y 0) (y 1)) : ℝ) : EReal) := by
  pointwise [k0_pay17, k0_pay15, k0_pay14, k0_pay13]
  simp only [h0, name_cub, name_thrice, lit_half, lit_gk, lift_one, ← EReal.coe_add, ← EReal.coe_sub, ← EReal.coe_mul, tanh_real]
  congr 1
  unfold dgel th
  ring_nf
end

section
variable (x1 : Vec Ideal S128x1024 .f32) (h1 : ∀ i, x1 i = ((a.V (128 * n + i 0) (i 1) : ℝ) : EReal))
include h1

theorem dgelV (y : S128x1024.Idx) : k0_pay22 (k0_pay18 x1) (k0_pay19 x1) k0_pay20 y = ((dgel (a.V (128 * n + y 0) (y 1)) : ℝ) : EReal) := by
  pointwise [k0_pay22, k0_pay21, k0_pay20, k0_pay19, k0_pay18]
  simp only [h1, name_cub, name_thrice, lit_half, lit_gk, lift_one, ← EReal.coe_add, ← EReal.coe_sub, ← EReal.coe_mul, tanh_real]
  congr 1
  unfold dgel th
  ring_nf

theorem vcV (y : S128x1024.Idx) : k0_pay23 (k0_pay18 x1) (k0_pay19 x1) k0_pay20 y = ((vc a (128 * n + y 0) (y 1) : ℝ) : EReal) := by
  have e : ∀ x : ℝ, 1 / 2 * x * (1 + Real.tanh (gk * (x + cub * x * (x * x)))) = gel x := fun x => by unfold gel th; ring_nf
  pointwise [k0_pay23, k0_pay21, k0_pay20, k0_pay19, k0_pay18]
  simp only [h1, name_cub, lit_half, lit_gk, lit_1024, lift_one, ← EReal.coe_add, ← EReal.coe_sub, ← EReal.coe_mul, tanh_real, e, sum_coe,
    div_real _ (1024 : ℝ) (by norm_num)]
  rfl

theorem rstdV (y : S128x1.Idx) : k0_pay24 (k0_pay18 x1) (k0_pay19 x1) k0_pay20 y = ((rstd a (128 * n + y 0) : ℝ) : EReal) := by
  pointwise [k0_pay24]
  simp only [vcV a n x1 h1, lit_eps, lit_1024, ← EReal.coe_add, ← EReal.coe_mul, sum_coe, div_real _ (1024 : ℝ) (by norm_num)]
  exact rsqrt_real _ (var_pos a _)

theorem vhV (y : S128x1024.Idx) : k0_pay25 (k0_pay18 x1) (k0_pay19 x1) k0_pay20 y = ((vh a (128 * n + y 0) (y 1) : ℝ) : EReal) := by
  pointwise [k0_pay25]
  simp only [vcV a n x1 h1, rstdV a n x1 h1, ← EReal.coe_mul]
  rfl
end

end Cert.GmlpBwdIdeal.Gmlp
end
-- ==== Proof.GmlpPieces.lean ====
module

public import proofs.«01_k».proof.Proof.GmlpStages
public import Idealize.ShloMosaic.Lib.Pipeline.ReadBack

set_option maxRecDepth 16384
set_option maxHeartbeats 1600000

@[expose] public section

/-! What one chunk of the kernel leaves in its four results and in the running sum of the bias gradient. -/

noncomputable section
open Idealize.ShloMosaic Idealize.ShloMosaic.TcCoe Idealize.SL.Sem
namespace Cert.GmlpBwdIdeal.Gmlp
open Cert.GmlpBwdIdeal Cert.GmlpBwdIdeal.Gen Cert.Gmlp Cert.Reals

/-- The arguments' blocks at a chunk hold real numbers. -/
structure Blocks (m : (ℓ : Loc nD τ sig) → Buf (Elt Ideal) ℓ) (a : Args) (c : Dev nD) (t : Fin cfg0.N) : Prop where
  u : ∀ i : S128x1024.Idx, iblk m c 0 t i = ((a.U (128 * t.val + i 0) (i 1) : ℝ) : EReal)
  v : ∀ i : S128x1024.Idx, iblk m c 1 t i = ((a.V (128 * t.val + i 0) (i 1) : ℝ) : EReal)
  y : ∀ i : S128x1024.Idx, iblk m c 2 t i = ((a.Y (128 * t.val + i 0) (i 1) : ℝ) : EReal)
  g : ∀ i : S1x1024.Idx, iblk m c 3 t i = ((a.G (i 1) : ℝ) : EReal)
  b : ∀ i : S1x1024.Idx, iblk m c 4 t i = ((a.B (i 1) : ℝ) : EReal)
  w : ∀ i : S8x128x128.Idx, iblk m c 5 t i = ((a.W (i 0) (i 1) (i 2) : ℝ) : EReal)
  s : ∀ i : S8x128x128.Idx, iblk m c 6 t i = ((a.S (i 0) (i 1) : ℝ) : EReal)

theorem grp {p : ℕ} (h : p < 128) : p / 128 = 0 ∧ (128 + p) / 128 = 1 ∧ (256 + p) / 128 = 2 ∧ (384 + p) / 128 = 3 ∧
    (512 + p) / 128 = 4 ∧ (640 + p) / 128 = 5 ∧ (768 + p) / 128 = 6 ∧ (896 + p) / 128 = 7 := by omega

theorem row_mod {n p : ℕ} (h : p < 128) : (128 * n + p) % 128 = p := by omega
theorem row_div {n p : ℕ} (h : p < 128) : (128 * n + p) / 128 * 128 = 128 * n := by omega

variable (m : (ℓ : Loc nD τ sig) → Buf (Elt Ideal) ℓ)
variable (a : Args) (n : ℕ)

theorem dv_of (c : Dev nD) (t : Fin cfg0.N) (b : Blocks m a c t) (D : Vec Ideal S128x1024 .f32)
    (hD : ∀ i : S128x1024.Idx, D i = ((dvh a (128 * t.val + i 0) (i 1) : ℝ) : EReal)) (x : S128x1024.Idx) :
    k0_pay1 (k0_pay22 (k0_pay18 (iblk m c 1 t)) (k0_pay19 (iblk m c 1 t)) k0_pay20) (k0_pay123 (k0_pay25 (k0_pay18 (iblk m c 1 t)) (k0_pay19 (iblk m c 1 t)) k0_pay20) D) (k0_pay124 (k0_pay24 (k0_pay18 (iblk m c 1 t)) (k0_pay19 (iblk m c 1 t)) k0_pay20)) x
     = ((dv a (128 * t.val + x 0) (x 1) : ℝ) : EReal) := by
  pointwise [k0_pay1, k0_pay123, k0_pay124]
  simp only [hD, vhV a _ _ b.v, rstdV a _ _ b.v, dgelV a _ _ b.v, ix2_0, ix2_1, lit_1024, ← EReal.coe_add, ← EReal.coe_sub, ← EReal.coe_mul, sum_coe,
    div_real _ (1024 : ℝ) (by norm_num)]
  rfl

theorem at3 {A B C : ℕ} (y : (⟨3, ![A, B, C]⟩ : Shape).Idx) (p : Fin A) (q : Fin B) (r : Fin C) (h0 : (p : ℕ) = y 0) (h1 : (q : ℕ) = y 1) (h2 : (r : ℕ) = y 2) :
    ix3 p q r = y := by
  funext i; apply Fin.ext
  match i with
  | 0 => exact h0
  | 1 => exact h1
  | 2 => exact h2

theorem at2 {A B : ℕ} (y : (⟨2, ![A, B]⟩ : Shape).Idx) (p : Fin A) (q : Fin B) (h0 : (p : ℕ) = y 0) (h1 : (q : ℕ) = y 1) :
    ix2 p q = y := by
  funext i; apply Fin.ext
  match i with
  | 0 => exact h0
  | 1 => exact h1

theorem canon_take (S : Shape) (e : EltTy) (k : ℕ) (y : S.Idx) : ∀ (L : List (View.Piece (Elt Ideal) S e)) (h : ∃ p ∈ L.take k, y ∈ p.1.set),
    View.canon L y = View.canon (L.take k) y := by
  induction k with
  | zero => intro L h; simp at h
  | succ k ih =>
    intro L h
    cases L with
    | nil => simp at h
    | cons p L =>
      by_cases hm : y ∈ p.1.set
      · obtain ⟨x, rfl⟩ := p.1.exists_idx_of_mem hm
        rw [show p.1.idx x = p.1.emb x from rfl, List.take_succ_cons]
        exact (View.canon_cons_emb p.1 p.2 L x).trans (View.canon_cons_emb p.1 p.2 _ x).symm
      · rw [List.take_succ_cons, View.canon_cons_of_not_mem _ _ hm, View.canon_cons_of_not_mem _ _ hm]
        refine ih L ?_
        obtain ⟨q, hq, hy⟩ := h
        rw [List.take_succ_cons] at hq
        rcases List.mem_cons.mp hq with rfl | hq
        · exact absurd hy hm
        · exact ⟨q, hq, hy⟩

theorem canon_drop (S : Shape) (e : EltTy) (k : ℕ) (y : S.Idx) : ∀ (L : List (View.Piece (Elt Ideal) S e)) (h : ∀ p ∈ L.take k, y ∉ p.1.set),
    View.canon L y = View.canon (L.drop k) y := by
  induction k with
  | zero => intro L h; rfl
  | succ k ih =>
    intro L h
    cases L with
    | nil => rfl
    | cons p L =>
      rw [List.take_succ_cons] at h
      rw [View.canon_cons_of_not_mem _ _ (h p List.mem_cons_self), List.drop_succ_cons]
      exact ih L fun q hq => h q (List.mem_cons_of_mem _ hq)

theorem dz_at (c : Dev nD) (t : Fin cfg0.N) (b : Blocks m a c t) (y : S128x2048.Idx) :
    (outsAt0 m c t.val t.isLt).1 y = ((if (y 1 : ℕ) < 1024 then du a (128 * t.val + y 0) (y 1) else dv a (128 * t.val + y 0) (y 1 - 1024) : ℝ) : EReal) := by
  by_cases hA : t.val % 16 = 0
  on_goal 1 => rw [outsAt0_A m c t hA (by omega)]
  on_goal 2 => by_cases hC : t.val % 16 = 15
  on_goal 2 => rw [outsAt0_C m c t hA hC]
  on_goal 3 => rw [outsAt0_B m c t hA hC]
  all_goals
    frame_out
    generalize hD : View.readCov (Val := Elt Ideal) _ _ _ = D
    canon_tiles x h using View.cover_of_tiledBy _ ![128, 128] (by sl_kernel_rfl) y
    case piece0 =>
      have hd : ∀ i : S128x1024.Idx, D i = ((dvh a (128 * t.val + i 0) (i 1) : ℝ) : EReal) := by
        intro i
        rw [← hD, View.readCov_eq_canon_ld _ _ _ (fun y => View.cover_of_tiledBy _ ![128, 128] (by sl_kernel_rfl) y), View.ld_unit_lit _ _ (by decide)]
        canon_tiles z hz using View.cover_of_tiledBy _ ![128, 128] (by sl_kernel_rfl) i
        all_goals
          pointwise [k0_pay122]
          simp only [b.y, b.g, b.w, gelU a _ _ b.u, lift_zero, ix2_0, ix2_1, ix3_0, ix3_1, ix3_2, ← EReal.coe_add, ← EReal.coe_mul,
           select_sge, z0_lt, z1_lt, Fin.is_lt, sum_coe]
          congr 1
          simp only [dvh, dvn, ds, tri, hz0, hz1, row_mod z0_lt, row_div z0_lt, grp z1_lt, ite_mul, zero_mul]
          rfl
      rw [dv_of m a c t b D hd x, if_neg (by omega), h0, h1, Nat.add_sub_cancel_left]
    all_goals
      clear hD
      pointwise []
      simp only [b.y, b.g, b.b, b.w, b.s, vhV a _ _ b.v, dgelU a _ _ b.u, lift_zero, ix2_0, ix2_1, ix3_0, ix3_1, ix3_2, ← EReal.coe_add, ← EReal.coe_mul,
         select_sge, x0_lt, x1_lt, Fin.is_lt, sum_coe]
      rw [if_pos (by omega)]
      congr 1
      simp only [du, sp, tri, vn, h0, h1, row_mod x0_lt, row_div x0_lt, grp x1_lt, ite_mul, zero_mul]
      rfl

theorem acc_step (c : Dev nD) (t : Fin cfg0.N) (b : Blocks m a c t) (hp : t.val - 1 < cfg0.N)
  (hA : ¬t.val % 16 = 0) (y : S8x128x128.Idx) :
    (outsAt0 m c t.val t.isLt).2.2.2.2 y = (outsAt0 m c (t.val - 1) hp).2.2.2.2 y + ((ds a (128 * t.val + y 1) (128 * y 0 + y 2) : ℝ) : EReal) := by
  by_cases hC : t.val % 16 = 15
  on_goal 1 => rw [outsAt0_C m c t hA hC]
  on_goal 2 => rw [outsAt0_B m c t hA hC]
  all_goals
    frame_open
    simp (disch := decide) only [↓ View.readCov_skip, ↓ View.readCov_cons_toLoadRect, ↓ View.readCov_fill]
    frame_out
    canon_tiles x h using View.cover_of_tiledBy _ ![1, 128, 128] (by sl_kernel_rfl) y
    all_goals
      simp only [read_unread_whole]
      pointwise []
      simp only [b.y, gelU a _ _ b.u, ix2_0, ix2_1, ix3_0, ix3_1, ix3_2, ← EReal.coe_mul]
      have xz : (x 0 : ℕ) = 0 := by omega
      refine congrArg₂ (· + ·) (congrArg _ (at3 _ _ _ _ (h0.trans (by rw [xz]; rfl)).symm h1.symm h2.symm)) (congrArg _ ?_)
      simp only [ds, h0, h1, h2, xz, Nat.add_zero, Nat.mul_one, Nat.mul_zero, Nat.zero_add, Nat.reduceMul]
      rfl

theorem acc_reset (c : Dev nD) (t : Fin cfg0.N) (b : Blocks m a c t)
  (hA : t.val % 16 = 0) (y : S8x128x128.Idx) :
    (outsAt0 m c t.val t.isLt).2.2.2.2 y = ((ds a (128 * t.val + y 1) (128 * y 0 + y 2) : ℝ) : EReal) := by
  rw [outsAt0_A m c t hA (by omega)]
  frame_open
  simp (disch := decide) only [↓ View.readCov_skip, ↓ View.readCov_cons_toLoadRect, ↓ View.readCov_fill]
  frame_out
  rw [canon_take _ _ 8 _ _ (by simp only [List.take_succ_cons, List.take_zero]; exact View.cover_of_tiledBy _ ![1, 128, 128] (by sl_kernel_rfl) y)]
  simp only [List.take_succ_cons, List.take_zero]
  canon_tiles x h using View.cover_of_tiledBy _ ![1, 128, 128] (by sl_kernel_rfl) y
  all_goals
      pointwise [k0_pay12]
      simp only [b.y, gelU a _ _ b.u, ix2_0, ix2_1, ix3_0, ix3_1, ix3_2, ← EReal.coe_mul, lift_zero, ← EReal.coe_add, zero_add]
      have xz : (x 0 : ℕ) = 0 := by omega
      refine (congrArg _ ?_)
      simp only [ds, h0, h1, h2, xz, Nat.add_zero, Nat.mul_one, Nat.mul_zero, Nat.zero_add, Nat.reduceMul]
      rfl

theorem dws_step (c : Dev nD) (t : Fin cfg0.N) (b : Blocks m a c t) (hp : t.val - 1 < cfg0.N)
  (hA : ¬t.val % 16 = 0) (y : S8x128x128.Idx) :
    (outsAt0 m c t.val t.isLt).2.2.1 y = (outsAt0 m c (t.val - 1) hp).2.2.1 y + ((dWc a t (y 0) (y 1) (y 2) : ℝ) : EReal) := by
  by_cases hC : t.val % 16 = 15
  on_goal 1 => rw [outsAt0_C m c t hA hC]
  on_goal 2 => rw [outsAt0_B m c t hA hC]
  all_goals
    frame_open
    simp (disch := decide) only [↓ View.readCov_skip, ↓ View.readCov_cons_toLoadRect, ↓ View.readCov_fill]
    frame_out
    canon_tiles x h using View.cover_of_tiledBy _ ![1, 128, 128] (by sl_kernel_rfl) y
    all_goals
      pointwise []
      simp only [b.y, b.g, b.b, gelU a _ _ b.u, vhV a _ _ b.v, ix2_0, ix2_1, ix3_0, ix3_1, ix3_2, ← EReal.coe_mul, ← EReal.coe_add, sum_coe, lift_zero, select_sge x1_lt x2_lt]
      have xz : (x 0 : ℕ) = 0 := by omega
      refine congrArg₂ (· + ·) (congrArg _ (at3 _ _ _ _ (h0.trans (by rw [xz]; rfl)).symm h1.symm h2.symm)) (congrArg _ ?_)
      simp only [dWc, ds, vn, h0, h1, h2, xz, Nat.add_zero, Nat.mul_one, Nat.mul_zero, Nat.zero_add, Nat.reduceMul]
      rfl

theorem dws_reset (c : Dev nD) (t : Fin cfg0.N) (b : Blocks m a c t)
  (hA : t.val % 16 = 0) (y : S8x128x128.Idx) :
    (outsAt0 m c t.val t.isLt).2.2.1 y = ((dWc a t (y 0) (y 1) (y 2) : ℝ) : EReal) := by
  rw [outsAt0_A m c t hA (by omega)]
  frame_open
  simp (disch := decide) only [↓ View.readCov_skip, ↓ View.readCov_cons_toLoadRect, ↓ View.readCov_fill]
  frame_out
  rw [canon_take _ _ 8 _ _ (by simp only [List.take_succ_cons, List.take_zero]; exact View.cover_of_tiledBy _ ![1, 128, 128] (by sl_kernel_rfl) y)]
  simp only [List.take_succ_cons, List.take_zero]
  canon_tiles x h using View.cover_of_tiledBy _ ![1, 128, 128] (by sl_kernel_rfl) y
  all_goals
      pointwise [k0_pay11]
      simp only [b.y, b.g, b.b, gelU a _ _ b.u, vhV a _ _ b.v, ix2_0, ix2_1, ix3_0, ix3_1, ix3_2, ← EReal.coe_mul, ← EReal.coe_add, sum_coe, lift_zero, select_sge x1_lt x2_lt, zero_add]
      have xz : (x 0 : ℕ) = 0 := by omega
      refine (congrArg _ ?_)
      simp only [dWc, ds, vn, h0, h1, h2, xz, Nat.add_zero, Nat.mul_one, Nat.mul_zero, Nat.zero_add, Nat.reduceMul]
      rfl

/-- One chunk's rows of the stacked gain and bias gradients: the first two of eight. -/
def dLc (a : Args) (n r k : ℕ) : ℝ := if r = 0 then dGc a n k else if r = 1 then dBc a n k else 0

theorem fill8 (y : S8x1024.Idx) : k0_pay10 (F := Ideal) y = ((0 : ℝ) : EReal) := by
  pointwise [k0_pay10, lift_zero]

theorem dbs_last (c : Dev nD) (t : Fin cfg0.N) (b : Blocks m a c t)
  (hC : t.val % 16 = 15) (y : S8x128x1.Idx) :
    (outsAt0 m c t.val t.isLt).2.2.2.1 y = (∑ d : Fin 128, (outsAt0 m c t.val t.isLt).2.2.2.2 (ix3 (y 0) (y 1) d) : EReal) := by
  have hA : ¬t.val % 16 = 0 := by omega
  simp only [acc_step m a c t b (by omega) hA]
  rw [outsAt0_C m c t hA hC]
  frame_open
  simp (disch := decide) only [↓ View.readCov_skip, ↓ View.readCov_cons_toLoadRect, ↓ View.readCov_fill]
  frame_out
  canon_tiles x h using View.cover_of_tiledBy _ ![1, 128, 1] (by sl_kernel_rfl) y
  all_goals
    simp only [read_unread_whole]
    pointwise [k0_pay2, k0_pay3, k0_pay4, k0_pay5, k0_pay6, k0_pay7, k0_pay8, k0_pay9]
    simp only [b.y, gelU a _ _ b.u, ix2_0, ix2_1, ix3_0, ix3_1, ix3_2, ← EReal.coe_mul]
    have xz : (x 0 : ℕ) = 0 := by omega
    refine Finset.sum_congr rfl fun d _ => ?_
    refine congrArg₂ (· + ·) (congrArg _ (at3 _ _ _ _ (h0.trans (by rw [xz]; rfl)).symm h1.symm rfl)) (congrArg _ ?_)
    simp only [ds, h0, h1, xz, Nat.add_zero, Nat.mul_one, Nat.mul_zero, Nat.zero_add, Nat.reduceMul]
    rfl

theorem read_writes_of_not_mem {sig : RefSig} {κ : Kind} {sp : Space} {S : Shape} {e : EltTy} (v : View sig κ sp S e) (f : v.ty.Contents (Elt Ideal)) (y : S.Idx) :
    ∀ L : List (View.Piece (Elt Ideal) S e), (∀ p ∈ L, y ∉ p.1.set) → v.read (Elt Ideal) (v.writes (Elt Ideal) f L) y = v.read (Elt Ideal) f y
  | [], _ => rfl
  | p :: L, h => by
    have hy' : y ∉ Finset.univ.map p.1.emb := by rw [Rect.map_emb_univ]; exact h p List.mem_cons_self
    rw [View.writes_cons, View.read_slice_write_of_not_mem p.1 _ _ _ hy']
    exact read_writes_of_not_mem v f y L fun q hq => h q (List.mem_cons_of_mem _ hq)

theorem rows2 {r k : ℕ} (Q : Prop) (hr : r < 2) (hk : k < 1024) :
    ((1 ≤ r ∧ r < 1 + 1) ∧ 896 ≤ k ∧ k < 896 + 128) ∨ ((0 ≤ r ∧ r < 0 + 1) ∧ 896 ≤ k ∧ k < 896 + 128) ∨ ((1 ≤ r ∧ r < 1 + 1) ∧ 768 ≤ k ∧ k < 768 + 128) ∨ ((0 ≤ r ∧ r < 0 + 1) ∧ 768 ≤ k ∧ k < 768 + 128) ∨ ((1 ≤ r ∧ r < 1 + 1) ∧ 640 ≤ k ∧ k < 640 + 128) ∨ ((0 ≤ r ∧ r < 0 + 1) ∧ 640 ≤ k ∧ k < 640 + 128) ∨ ((1 ≤ r ∧ r < 1 + 1) ∧ 512 ≤ k ∧ k < 512 + 128) ∨ ((0 ≤ r ∧ r < 0 + 1) ∧ 512 ≤ k ∧ k < 512 + 128) ∨ ((1 ≤ r ∧ r < 1 + 1) ∧ 384 ≤ k ∧ k < 384 + 128) ∨ ((0 ≤ r ∧ r < 0 + 1) ∧ 384 ≤ k ∧ k < 384 + 128) ∨ ((1 ≤ r ∧ r < 1 + 1) ∧ 256 ≤ k ∧ k < 256 + 128) ∨ ((0 ≤ r ∧ r < 0 + 1) ∧ 256 ≤ k ∧ k < 256 + 128) ∨ ((1 ≤ r ∧ r < 1 + 1) ∧ 128 ≤ k ∧ k < 128 + 128) ∨ ((0 ≤ r ∧ r < 0 + 1) ∧ 128 ≤ k ∧ k < 128 + 128) ∨ ((1 ≤ r ∧ r < 1 + 1) ∧ 0 ≤ k ∧ k < 0 + 128) ∨ ((0 ≤ r ∧ r < 0 + 1) ∧ 0 ≤ k ∧ k < 0 + 128) ∨ Q := by
  omega

theorem dln_step (c : Dev nD) (t : Fin cfg0.N) (b : Blocks m a c t) (hp : t.val - 1 < cfg0.N)
  (hA : ¬t.val % 16 = 0) (y : S8x1024.Idx) :
    (outsAt0 m c t.val t.isLt).2.1 y = (outsAt0 m c (t.val - 1) hp).2.1 y + ((dLc a t (y 0) (y 1) : ℝ) : EReal) := by
  have hy1 : (y 1 : ℕ) < 1024 := (y 1).isLt
  by_cases hC : t.val % 16 = 15
  on_goal 1 => rw [outsAt0_C m c t hA hC]
  on_goal 2 => rw [outsAt0_B m c t hA hC]
  all_goals
    frame_open
    simp (disch := decide) only [↓ View.readCov_skip, ↓ View.readCov_cons_toLoadRect, ↓ View.readCov_fill]
    frame_out
    by_cases hy : (y 0 : ℕ) < 2
    · rw [View.read_writes_apply_eq_canon _ _ _ _ (by
        simp only [List.exists_mem_cons_iff, Rect.mem_set_unit, Fin.forall_fin_two, Matrix.cons_val_zero, Matrix.cons_val_one]
        exact rows2 _ hy hy1)]
      canon_tiles x h using (by
        simp only [List.exists_mem_cons_iff, Rect.mem_set_unit, Fin.forall_fin_two, Matrix.cons_val_zero, Matrix.cons_val_one]
        exact rows2 _ hy hy1)
      all_goals
        pointwise [k0_pay121]
        simp only [b.y, b.w, gelU a _ _ b.u, vhV a _ _ b.v, ix2_0, ix2_1, ix3_0, ix3_1, ix3_2, ← EReal.coe_mul, ← EReal.coe_add, lift_zero, select_sge, Fin.is_lt, sum_coe]
        have xz : (x 0 : ℕ) = 0 := by omega
        refine congrArg₂ (· + ·) (congrArg _ (at2 _ _ _ (h0.trans (by rw [xz]; rfl)).symm h1.symm)) (congrArg _ ?_)
        simp only [dLc, h0, h1, xz, Nat.add_zero, reduceIte, Nat.one_ne_zero, dGc, dBc, dvn, ds, tri, row_mod, row_div, Fin.is_lt, grp x1_lt, ite_mul, zero_mul]
        rfl
    · rw [read_writes_of_not_mem _ _ _ _ (by
        simp only [List.forall_mem_cons, Rect.mem_set_unit, Fin.forall_fin_two, Matrix.cons_val_zero, Matrix.cons_val_one, List.not_mem_nil, false_implies, implies_true, and_true]
        omega)]
      rw [show dLc a t (y 0) (y 1) = 0 by rw [dLc, if_neg (by omega), if_neg (by omega)], Memref.IsWhole.read_unread, EReal.coe_zero, add_zero]

theorem dln_reset (c : Dev nD) (t : Fin cfg0.N) (b : Blocks m a c t)
  (hA : t.val % 16 = 0) (y : S8x1024.Idx) :
    (outsAt0 m c t.val t.isLt).2.1 y = ((dLc a t (y 0) (y 1) : ℝ) : EReal) := by
  have hy1 : (y 1 : ℕ) < 1024 := (y 1).isLt
  rw [outsAt0_A m c t hA (by omega)]
  frame_open
  simp (disch := decide) only [↓ View.readCov_skip, ↓ View.readCov_cons_toLoadRect, ↓ View.readCov_fill]
  frame_out
  by_cases hy : (y 0 : ℕ) < 2
  · rw [canon_take _ _ 16 _ _ (by
        simp only [List.take_succ_cons, List.take_zero, List.exists_mem_cons_iff, Rect.mem_set_unit, Fin.forall_fin_two, Matrix.cons_val_zero, Matrix.cons_val_one]
        exact rows2 _ hy hy1)]
    simp only [List.take_succ_cons, List.take_zero]
    canon_tiles x h using (by
        simp only [List.exists_mem_cons_iff, Rect.mem_set_unit, Fin.forall_fin_two, Matrix.cons_val_zero, Matrix.cons_val_one]
        exact rows2 _ hy hy1)
    all_goals
      pointwise [k0_pay121]
      simp only [fill8, b.y, b.w, gelU a _ _ b.u, vhV a _ _ b.v, ix2_0, ix2_1, ix3_0, ix3_1, ix3_2, ← EReal.coe_mul, ← EReal.coe_add, lift_zero, select_sge, Fin.is_lt, sum_coe, zero_add]
      have xz : (x 0 : ℕ) = 0 := by omega
      refine (congrArg _ ?_)
      simp only [dLc, h0, h1, xz, Nat.add_zero, reduceIte, Nat.one_ne_zero, dGc, dBc, dvn, ds, tri, row_mod, row_div, Fin.is_lt, grp x1_lt, ite_mul, zero_mul]
      rfl
  · rw [canon_drop _ _ 16 _ _ (by
        simp only [List.take_succ_cons, List.take_zero, List.forall_mem_cons, Rect.mem_set_unit, Fin.forall_fin_two, Matrix.cons_val_zero, Matrix.cons_val_one, List.not_mem_nil, false_implies, implies_true, and_true]
        omega)]
    simp only [List.drop_succ_cons, List.drop_zero]
    rw [View.canon_cons_unit_lit _ _ _ (by decide), fill8, show dLc a t (y 0) (y 1) = 0 by rw [dLc, if_neg (by omega), if_neg (by omega)]]

end Cert.GmlpBwdIdeal.Gmlp
end
-- ==== Proof.GmlpSums.lean ====
module

public import proofs.«01_k».proof.Proof.Gen.GmlpBwdRefIdeal.Read
public import proofs.«01_k».proof.Proof.GmlpModel
public import Idealize.ShloMosaic.Lib.Pointwise
public import Idealize.ShloMosaic.Lib.Pipeline.ValueKit

set_option maxRecDepth 16384

@[expose] public section

/-! The reductions over several axes and the contraction over three of the reference's gradient, as plain sums. -/

noncomputable section
open Idealize.ShloMosaic Idealize.ShloMosaic.TcCoe Idealize.SL.Sem
namespace Cert.GmlpBwdRefIdeal.Gmlp
open Cert.GmlpBwdRefIdeal Cert.GmlpBwdRefIdeal.Read Cert.Gmlp Cert.Reals

/-- A reduction is the sum over the indices that drop to the result's index. -/
theorem reduce_by {s t : Shape} {axes : List (Fin s.rank)} (h : s.ReducesTo axes t) (x : s.Idx → EReal) (c : EReal) (j : t.Idx)
    {K : Type} [Fintype K] (e : K → s.Idx) (r : s.Idx → K) (hr : ∀ k, r (e k) = k) (hd : ∀ k, h.drop (e k) = j)
    (he : ∀ i, h.drop i = j → e (r i) = i) : Ideal.hostReduceAdd h x c j = c + ∑ k, x (e k) := by
  unfold Ideal.hostReduceAdd
  refine congrArg (c + ·) (Finset.sum_bij' (fun i _ => r i) (fun k _ => e k) (fun _ _ => Finset.mem_univ _)
    (fun k _ => Finset.mem_filter.mpr ⟨Finset.mem_univ _, hd k⟩) (fun i hi => he i (Finset.mem_filter.mp hi).2) (fun k _ => hr k)
    (fun i hi => congrArg x (he i (Finset.mem_filter.mp hi).2).symm))

/-- The sum over chunk and feature. -/
theorem red_14 (x : S1x16x128x8x128.Idx → EReal) (c : EReal) (j : S1x128x8.Idx) :
    Ideal.hostReduceAdd Gen.reducesTo_S1x16x128x8x128_S1x128x8_d1_4 x c j = c + ∑ n : Fin 16, ∑ d : Fin 128, x (ix5 0 n (j 1) (j 2) d) := by
  rw [reduce_by _ x c j (K := Fin 16 × Fin 128) (fun k => ix5 0 k.1 (j 1) (j 2) k.2) (fun i => (i 1, i 4)) (fun _ => rfl)]
  · rw [Fintype.sum_prod_type]
  · intro k; funext b; apply Fin.ext
    match b with
    | ⟨0, _⟩ => show 0 = (j 0 : ℕ); have : ((j 0 : Fin _) : ℕ) < 1 := (j 0).isLt; omega
    | ⟨1, _⟩ => rfl
    | ⟨2, _⟩ => rfl
  · intro i e; funext b; apply Fin.ext
    match b with
    | ⟨0, _⟩ => show 0 = (i 0 : ℕ); have : ((i 0 : Fin _) : ℕ) < 1 := (i 0).isLt; omega
    | ⟨1, _⟩ => rfl
    | ⟨2, _⟩ => exact (congrArg Fin.val (congrFun e 1)).symm
    | ⟨3, _⟩ => exact (congrArg Fin.val (congrFun e 2)).symm
    | ⟨4, _⟩ => rfl

theorem red_014 (x : S1x1x128x8x1.Idx → EReal) (c : EReal) (j : S128x8.Idx) :
    Ideal.hostReduceAdd Gen.reducesTo_S1x1x128x8x1_S128x8_d0_1_4 x c j = c + x (ix5 0 0 (j 0) (j 1) 0) := by
  rw [reduce_by _ x c j (K := Unit) (fun k => ix5 0 0 (j 0) (j 1) 0) (fun i => ()) (fun _ => rfl)]
  · simp
  · intro k; funext b; apply Fin.ext
    match b with
    | ⟨0, _⟩ => rfl
    | ⟨1, _⟩ => rfl
  · intro i e; funext b; apply Fin.ext
    match b with
    | ⟨0, _⟩ => show 0 = (i 0 : ℕ); have : ((i 0 : Fin _) : ℕ) < 1 := (i 0).isLt; omega
    | ⟨1, _⟩ => show 0 = (i 1 : ℕ); have : ((i 1 : Fin _) : ℕ) < 1 := (i 1).isLt; omega
    | ⟨2, _⟩ => exact (congrArg Fin.val (congrFun e 0)).symm
    | ⟨3, _⟩ => exact (congrArg Fin.val (congrFun e 1)).symm
    | ⟨4, _⟩ => show 0 = (i 4 : ℕ); have : ((i 4 : Fin _) : ℕ) < 1 := (i 4).isLt; omega

theorem red_01 (x : S1x1x1024.Idx → EReal) (c : EReal) (j : S1024.Idx) :
    Ideal.hostReduceAdd Gen.reducesTo_S1x1x1024_S1024_d0_1 x c j = c + x (ix3 0 0 (j 0)) := by
  rw [reduce_by _ x c j (K := Unit) (fun k => ix3 0 0 (j 0)) (fun i => ()) (fun _ => rfl)]
  · simp
  · intro k; funext b; apply Fin.ext
    match b with
    | ⟨0, _⟩ => rfl
  · intro i e; funext b; apply Fin.ext
    match b with
    | ⟨0, _⟩ => show 0 = (i 0 : ℕ); have : ((i 0 : Fin _) : ℕ) < 1 := (i 0).isLt; omega
    | ⟨1, _⟩ => show 0 = (i 1 : ℕ); have : ((i 1 : Fin _) : ℕ) < 1 := (i 1).isLt; omega
    | ⟨2, _⟩ => exact (congrArg Fin.val (congrFun e 0)).symm

theorem red_02 (x : S1x2048x1.Idx → EReal) (c : EReal) (j : S2048.Idx) :
    Ideal.hostReduceAdd Gen.reducesTo_S1x2048x1_S2048_d0_2 x c j = c + x (ix3 0 (j 0) 0) := by
  rw [reduce_by _ x c j (K := Unit) (fun k => ix3 0 (j 0) 0) (fun i => ()) (fun _ => rfl)]
  · simp
  · intro k; funext b; apply Fin.ext
    match b with
    | ⟨0, _⟩ => rfl
  · intro i e; funext b; apply Fin.ext
    match b with
    | ⟨0, _⟩ => show 0 = (i 0 : ℕ); have : ((i 0 : Fin _) : ℕ) < 1 := (i 0).isLt; omega
    | ⟨1, _⟩ => exact (congrArg Fin.val (congrFun e 0)).symm
    | ⟨2, _⟩ => show 0 = (i 2 : ℕ); have : ((i 2 : Fin _) : ℕ) < 1 := (i 2).isLt; omega

/-- The contraction over batch, chunk and feature. -/
theorem dot_3 (l : S8x1x16x128x128.Idx → EReal) (r : S1x16x128x8x128.Idx → EReal) (acc : S8x128x128.Idx → EReal) (j : S8x128x128.Idx) :
    Ideal.matmul dot_S8x1x16x128x128_S1x16x128x8x128_S8x128x128_123_014_4_2_0_3 l r acc j
      = acc j + ∑ n : Fin 16, ∑ d : Fin 128, l (ix5 (j 0) 0 n d (j 1)) * r (ix5 0 n (j 2) (j 0) d) := by
  unfold Ideal.matmul
  refine congrArg (acc j + ·) ?_
  rw [← Fintype.sum_prod_type' (f := fun n d => l (ix5 (j 0) 0 n d (j 1)) * r (ix5 0 n (j 2) (j 0) d))]
  let e : Fin 16 × Fin 128 → (dot_S8x1x16x128x128_S1x16x128x8x128_S8x128x128_123_014_4_2_0_3).contr.Idx := fun p q =>
    match q with
    | ⟨0, _⟩ => (0 : Fin 1)
    | ⟨1, _⟩ => p.1
    | ⟨2, _⟩ => p.2
  refine (Fintype.sum_equiv ⟨e, fun k => (k (⟨1, by decide⟩ : Fin 3), k (⟨2, by decide⟩ : Fin 3)), fun _ => rfl, fun k => ?_⟩ _ _ fun p => ?_).symm
  · funext q
    match q with
    | ⟨0, _⟩ => exact Subsingleton.elim (α := Fin 1) _ _
    | ⟨1, _⟩ => rfl
    | ⟨2, _⟩ => rfl
  · refine congrArg₂ (· * ·) (congrArg l ?_) (congrArg r ?_)
    · funext b; apply Fin.ext
      match b with
      | ⟨0, _⟩ => rfl
      | ⟨1, _⟩ => rfl
      | ⟨2, _⟩ => rfl
      | ⟨3, _⟩ => rfl
      | ⟨4, _⟩ => rfl
    · funext b; apply Fin.ext
      match b with
      | ⟨0, _⟩ => rfl
      | ⟨1, _⟩ => rfl
      | ⟨2, _⟩ => rfl
      | ⟨3, _⟩ => rfl
      | ⟨4, _⟩ => rfl

end Cert.GmlpBwdRefIdeal.Gmlp
end
-- ==== Proof.GmlpRef.lean ====
module

public import proofs.«01_k».proof.Proof.Gen.GmlpBwdRefIdeal.Read
public import proofs.«01_k».proof.Proof.GmlpModel
public import proofs.«01_k».proof.Proof.GmlpSums
public import Idealize.ShloMosaic.Lib.Pointwise
public import Idealize.ShloMosaic.Lib.Pipeline.ValueKit

set_option maxRecDepth 16384
set_option pp.maxSteps 2000

@[expose] public section

/-! What the gradient of the reference's forward lines computes, stage by stage, as real numbers. -/

noncomputable section
open Idealize.ShloMosaic Idealize.ShloMosaic.TcCoe Idealize.SL.Sem
namespace Cert.GmlpBwdRefIdeal.Gmlp
open Cert.GmlpBwdRefIdeal Cert.GmlpBwdRefIdeal.Read Cert.Gmlp Cert.Reals

theorem lit_num : Ideal.ofBits .f32 0x472EAB00#32 = ((44715 : ℝ) : EReal) := by
  simp [Ideal.ofBits, Ideal.ieee, -EReal.coe_mul]; norm_num
theorem lit_den : Ideal.ofBits .f32 0x49742400#32 = ((1000000 : ℝ) : EReal) := by
  simp [Ideal.ofBits, Ideal.ieee, -EReal.coe_mul]; norm_num

theorem sel_bit (c : BitVec 1) : Scalar.select c 1#1 0#1 = c := by revert c; decide
theorem addi_zero (x : BitVec 32) : IntOp.addi x 0#32 = x := BitVec.add_zero x
theorem sit_zero : (FloatOps.sitofp (F := Ideal) .f32 (0#32) : EReal) = ((0 : ℝ) : EReal) := by
  show ((((0#32 : BitVec 32).toInt : ℝ)) : EReal) = _
  norm_num
/-- A sum over all rows, chunk by chunk. -/
theorem sum_rows (f : ℕ → ℝ) : ∑ r : Fin 2048, f r = ∑ n : Fin 16, ∑ t : Fin 128, f (128 * n + t) := by
  rw [← Fintype.sum_prod_type', ← (finProdFinEquiv (m := 16) (n := 128)).sum_comp]
  refine Finset.sum_congr rfl fun x _ => ?_
  simp [finProdFinEquiv, add_comm]

/-- The arguments hold real numbers, where the reference reads them. -/
structure Args' (a : Args) (x0 : FVec Ideal S1x2048x10240 .f32) (x1 : FVec Ideal S1x2048x1024 .f32) (x2 x3 : FVec Ideal S1x1024 .f32)
    (x4 : FVec Ideal S1x8x128x128 .f32) (x5 : FVec Ideal S1x8x128 .f32) : Prop where
  u : ∀ i, (i 2 : ℕ) < 1024 → x0 i = ((a.U (i 1) (i 2) : ℝ) : EReal)
  v : ∀ i, 1024 ≤ (i 2 : ℕ) → (i 2 : ℕ) < 2048 → x0 i = ((a.V (i 1) (i 2 - 1024) : ℝ) : EReal)
  y : ∀ i, x1 i = ((a.Y (i 1) (i 2) : ℝ) : EReal)
  g : ∀ i, x2 i = ((a.G (i 1) : ℝ) : EReal)
  b : ∀ i, x3 i = ((a.B (i 1) : ℝ) : EReal)
  w : ∀ i, x4 i = ((a.W (i 1) (i 2) (i 3) : ℝ) : EReal)
  s : ∀ i, x5 i = ((a.S (i 1) (i 2) : ℝ) : EReal)

variable {a : Args} {x0 : FVec Ideal S1x2048x10240 .f32} {x1 : FVec Ideal S1x2048x1024 .f32} {x2 x3 : FVec Ideal S1x1024 .f32}
    {x4 : FVec Ideal S1x8x128x128 .f32} {x5 : FVec Ideal S1x8x128 .f32} (h : Args' a x0 x1 x2 x3 x4 x5)
include h

theorem r0 (i : S1x2048x1024.Idx) : val_main_v0 (F := Ideal) x0 i = ((a.U (i 1) (i 2) : ℝ) : EReal) := by
  rw [val_main_v0_apply]; exact h.u _ (i 2).isLt

theorem r1 (i : S1x2048x1024.Idx) : val_main_v1 (F := Ideal) x0 i = ((a.V (i 1) (i 2) : ℝ) : EReal) := by
  have hi : (i 2 : ℕ) < 1024 := (i 2).isLt
  rw [val_main_v1_apply, h.v _ (Nat.le_add_right 1024 _) (by show 1024 + (i 2 : ℕ) < 2048; omega)]
  exact congrArg (fun k : ℕ => ((a.V (i 1) k : ℝ) : EReal)) (Nat.add_sub_cancel_left 1024 _)

theorem r14 (i : S1x2048x1024.Idx) : val_main_v14 (F := Ideal) x0 i = ((th (a.U (i 1) (i 2)) : ℝ) : EReal) := by
  pointwise [val_main_v14, val_main_v13, val_main_v12, val_main_cst_2, val_main_v11, val_main_v10, val_main_v9, val_main_cst_1, val_main_v8, val_main_v7, val_main_cst_0, val_main_v3, val_main_v2]
  simp only [r0 h, lit_num, lit_den, lit_gk, ← EReal.coe_add, ← EReal.coe_mul, div_real _ (1000000 : ℝ) (by norm_num), tanh_real]
  congr 1
  unfold th cub
  ring_nf

theorem r37 (i : S1x2048x1024.Idx) : val_main_v37 (F := Ideal) x0 i = ((th (a.V (i 1) (i 2)) : ℝ) : EReal) := by
  pointwise [val_main_v37, val_main_v36, val_main_v35, val_main_cst_10, val_main_v34, val_main_v33, val_main_v32, val_main_cst_9, val_main_v31, val_main_v30, val_main_cst_8, val_main_v26, val_main_v25]
  simp only [r1 h, lit_num, lit_den, lit_gk, ← EReal.coe_add, ← EReal.coe_mul, div_real _ (1000000 : ℝ) (by norm_num), tanh_real]
  congr 1
  unfold th cub
  ring_nf

theorem r24 (i : S1x2048x1024.Idx) : val_main_v24 (F := Ideal) x0 i = ((gel (a.U (i 1) (i 2)) : ℝ) : EReal) := by
  pointwise [val_main_v24, val_main_v23, val_main_v22, val_main_cst_6, val_main_v21, val_main_v20, val_main_cst_5]
  simp only [r0 h, r14 h, lit_half, lift_one, ← EReal.coe_add, ← EReal.coe_mul]
  rfl

theorem r47 (i : S1x2048x1024.Idx) : val_main_v47 (F := Ideal) x0 i = ((gel (a.V (i 1) (i 2)) : ℝ) : EReal) := by
  pointwise [val_main_v47, val_main_v46, val_main_v45, val_main_cst_14, val_main_v44, val_main_v43, val_main_cst_13]
  simp only [r1 h, r37 h, lit_half, lift_one, ← EReal.coe_add, ← EReal.coe_mul]
  rfl

theorem r55 (i : S1x2048x1.Idx) : val_main_v55 (F := Ideal) x0 i = ((mu a (i 1) : ℝ) : EReal) := by
  pointwise [val_main_v55, val_main_v54, val_main_cst_16, val_main_v53, val_main_v52, val_main_cst_15]
  simp only [r47 h, lit_1024, lift_zero, sum_coe, ← EReal.coe_add, zero_add, div_real _ (1024 : ℝ) (by norm_num)]
  rfl

theorem r57 (i : S1x2048x1024.Idx) : val_main_v57 (F := Ideal) x0 i = ((vc a (i 1) (i 2) : ℝ) : EReal) := by
  pointwise [val_main_v57, val_main_v56]
  simp only [r47 h, r55 h, ← EReal.coe_sub]
  rfl

theorem r66 (i : S1x2048x1024.Idx) : val_main_v66 (F := Ideal) x0 i = ((vc a (i 1) (i 2) : ℝ) : EReal) := by
  pointwise [val_main_v66, val_main_v65]
  simp only [r47 h, r55 h, ← EReal.coe_sub]
  rfl

theorem r68 (i : S1x2048x1.Idx) : val_main_v68 (F := Ideal) x0 i = ((var a (i 1) + eps : ℝ) : EReal) := by
  pointwise [val_main_v68, val_main_v67, val_main_cst_20, val_main_v64, val_main_v63, val_main_cst_19, val_main_v62, val_main_v61, val_main_cst_18, val_main_v58]
  simp only [r57 h, lit_1024, lit_eps, lift_zero, sum_coe, ← EReal.coe_add, ← EReal.coe_mul, zero_add, div_real _ (1024 : ℝ) (by norm_num)]
  rfl

theorem r69 (i : S1x2048x1.Idx) : val_main_v69 (F := Ideal) x0 i = ((rstd a (i 1) : ℝ) : EReal) := by
  pointwise [val_main_v69]
  rw [r68 h]
  exact rsqrt_real _ (var_pos a _)

theorem r74 (i : S1x2048x1024.Idx) : val_main_v74 (F := Ideal) x0 i = ((vh a (i 1) (i 2) : ℝ) : EReal) := by
  pointwise [val_main_v74, val_main_v73]
  simp only [r66 h, r69 h, ← EReal.coe_mul]
  rfl

theorem r76 (i : S1x2048x1024.Idx) : val_main_v76 (F := Ideal) x2 i = ((a.G (i 2) : ℝ) : EReal) := by
  pointwise [val_main_v76, val_main_v75, val_main_v48]
  rw [h.g]
  rfl

theorem r80 (i : S1x2048x1024.Idx) : val_main_v80 (F := Ideal) x0 x2 x3 i = ((vn a (i 1) (i 2) : ℝ) : EReal) := by
  pointwise [val_main_v80, val_main_v79, val_main_v78, val_main_v77, val_main_v49]
  simp only [r74 h, r76 h, h.b, ← EReal.coe_mul, ← EReal.coe_add]
  rfl

theorem r81 (i : S1x16x128x8x128.Idx) : val_main_v81 (F := Ideal) x0 x2 x3 i = ((vn a (128 * i 1 + i 2) (128 * i 3 + i 4) : ℝ) : EReal) := by
  pointwise [val_main_v81]
  simp only [r80 h, Nat.mul_comm 128]
  rfl

theorem r85 (i : S8x128x128.Idx) : val_main_v85_0 (F := Ideal) x4 i = ((tri a (i 0) (i 1) (i 2) : ℝ) : EReal) := by
  pointwise [val_main_v85_0, val_main_v85_1, val_main_v84, val_main_v83, val_main_v82, val_main_call0_v4, val_main_call0_v5, val_main_call0_v3, val_main_call0_v2, val_main_call0_v1, val_main_call0_v0, val_main_call0_c, val_main_call0_c_0, val_main_call1_v2, val_main_call1_v0, val_main_c, val_main_c_22, val_main_v50]
  simp only [h.w, sel_bit, addi_zero, sit_zero]
  rw [select_sge (i 1).isLt (i 2).isLt]
  rfl

theorem r86 (i : S8x1x16x128x128.Idx) : val_main_v86 (F := Ideal) x0 x2 x3 x4 i = ((∑ j : Fin 128, tri a (i 0) (i 4) j * vn a (128 * i 2 + j) (128 * i 0 + i 3) : ℝ) : EReal) := by
  pointwise [val_main_v86]
  simp only [r81 h, r85 h, ← EReal.coe_mul, sum_coe, mul_comm (vn _ _ _)]
  rfl

theorem r92 (i : S1x2048x1024.Idx) : val_main_v92 (F := Ideal) x0 x2 x3 x4 x5 i = ((sp a (i 1) (i 2) : ℝ) : EReal) := by
  pointwise [val_main_v92, val_main_v91, val_main_v90, val_main_v89, val_main_v88, val_main_v87, val_main_v51]
  simp only [r86 h, h.s, ← EReal.coe_add]
  simp only [sp]
  refine congrArg _ (congrArg₂ (· + ·) (Finset.sum_congr rfl fun j _ => congrArg₂ (· * ·) rfl (congrArg₂ (vn a) ?_ ?_)) rfl)
  · exact congrArg (· + (j : ℕ)) (Nat.mul_comm 128 _)
  · exact Nat.div_add_mod _ _

theorem r94 (i : S1x2048x1024.Idx) : val_main_v94 (F := Ideal) x0 x1 i = ((ds a (i 1) (i 2) : ℝ) : EReal) := by
  pointwise [val_main_v94]
  simp only [r24 h, h.y, ← EReal.coe_mul, mul_comm (gel _)]
  rfl

theorem r96 (i : S1x16x128x8x128.Idx) : val_main_v96 (F := Ideal) x0 x1 i = ((ds a (128 * i 1 + i 2) (128 * i 3 + i 4) : ℝ) : EReal) := by
  pointwise [val_main_v96]
  simp only [r94 h, Nat.mul_comm 128]
  rfl

theorem r97 (i : S1x128x8.Idx) : val_main_v97 (F := Ideal) x0 x1 i = ((∑ n : Fin 16, dSc a n (i 2) (i 1) : ℝ) : EReal) := by
  rw [val_main_v97]
  pointwise [val_main_cst_23]
  rw [red_14]
  simp only [r96 h, sum_coe, lift_zero, ← EReal.coe_add, zero_add]
  rfl

theorem r182 (i : S8x128x1.Idx) : val_main_v182 (F := Ideal) x0 x1 i = ((∑ n : Fin 16, dSc a n (i 0) (i 1) : ℝ) : EReal) := by
  pointwise [val_main_v182, val_main_v181, val_main_v142, val_main_v100, val_main_v99, val_main_cst_24]
  rw [red_014]
  pointwise [val_main_v98]
  simp only [r97 h, lift_zero, ← EReal.coe_add, zero_add]
  rfl

theorem r102 (i : S8x128x128.Idx) : val_main_v102 (F := Ideal) x0 x1 x2 x3 i = ((∑ n : Fin 16, ∑ d : Fin 128, ds a (128 * n + i 1) (128 * i 0 + d) * vn a (128 * n + i 2) (128 * i 0 + d) : ℝ) : EReal) := by
  rw [val_main_v102]
  pointwise
  rw [dot_3]
  pointwise [val_main_v101]
  simp only [r96 h, r81 h, sum_coe, ← EReal.coe_mul]
  rfl

theorem r180 (i : S8x128x128.Idx) : val_main_v180 (F := Ideal) x0 x1 x2 x3 i = ((∑ n : Fin 16, dWc a n (i 0) (i 1) (i 2) : ℝ) : EReal) := by
  pointwise [val_main_v180, val_main_v143, val_main_v105, val_main_call2_v0, val_main_call2_cst, val_main_v85_1, val_main_v84, val_main_v83, val_main_v82, val_main_call0_v4, val_main_call0_v5, val_main_call0_v3, val_main_call0_v2, val_main_call0_v1, val_main_call0_v0, val_main_call0_c, val_main_call0_c_0, val_main_c]
  simp only [r102 h, sel_bit, addi_zero, lift_zero]
  rw [select_sge (i 1).isLt (i 2).isLt]
  refine congrArg _ ?_
  simp only [dWc]
  split
  · rfl
  · simp

theorem r103 (i : S8x1x16x128x128.Idx) : val_main_v103 (F := Ideal) x0 x1 x4 i = ((∑ t : Fin 128, tri a (i 0) t (i 4) * ds a (128 * i 2 + t) (128 * i 0 + i 3) : ℝ) : EReal) := by
  pointwise [val_main_v103, val_main_v101]
  simp only [r96 h, r85 h, ← EReal.coe_mul, sum_coe, mul_comm (ds _ _ _)]
  rfl

theorem r106 (i : S1x2048x1024.Idx) : val_main_v106 (F := Ideal) x0 x1 x4 i = ((dvn a (i 1) (i 2) : ℝ) : EReal) := by
  pointwise [val_main_v106, val_main_v104]
  simp only [r103 h]
  rw [dvn]
  refine congrArg _ (Finset.sum_congr rfl fun j _ => congrArg₂ (· * ·) rfl (congrArg₂ (ds a) ?_ ?_))
  · exact congrArg (· + (j : ℕ)) (Nat.mul_comm 128 _)
  · exact Nat.div_add_mod _ _

theorem r109 (i : S1024.Idx) : val_main_v109 (F := Ideal) x0 x1 x4 i = ((∑ n : Fin 16, dBc a n (i 0) : ℝ) : EReal) := by
  pointwise [val_main_v109, val_main_cst_26]
  rw [red_01]
  pointwise [val_main_v108, val_main_v107, val_main_cst_25]
  simp only [r106 h, lift_zero, sum_coe, ← EReal.coe_add, zero_add]
  exact congrArg _ (sum_rows fun r => dvn a r (i 0))

theorem r115 (i : S1024.Idx) : val_main_v115 (F := Ideal) x0 x1 x4 i = ((∑ n : Fin 16, dGc a n (i 0) : ℝ) : EReal) := by
  pointwise [val_main_v115, val_main_cst_28]
  rw [red_01]
  pointwise [val_main_v112, val_main_v111, val_main_v110, val_main_cst_27]
  simp only [r106 h, r74 h, lift_zero, sum_coe, ← EReal.coe_mul, ← EReal.coe_add, zero_add, mul_comm (vh _ _ _)]
  exact congrArg _ (sum_rows fun r => dvn a r (i 0) * vh a r (i 0))

theorem r114 (i : S1x2048x1024.Idx) : val_main_v114 (F := Ideal) x0 x1 x2 x4 i = ((dvh a (i 1) (i 2) : ℝ) : EReal) := by
  pointwise [val_main_v114, val_main_v113, val_main_v75, val_main_v48]
  simp only [r106 h, h.g, ← EReal.coe_mul]
  rfl

theorem r60 (i : S1x2048x1024.Idx) : val_main_v60 (F := Ideal) x0 i = ((2 * vc a (i 1) (i 2) : ℝ) : EReal) := by
  pointwise [val_main_v60, val_main_v59, val_main_cst_17]
  rw [r57 h, lit_two, ← EReal.coe_mul]

theorem r72 (i : S1x2048x1.Idx) : val_main_v72 (F := Ideal) x0 i = ((-(1 / 2) * (rstd a (i 1) / (var a (i 1) + eps)) : ℝ) : EReal) := by
  pointwise [val_main_v72, val_main_v71, val_main_v70, val_main_cst_21]
  simp only [r69 h, r68 h]
  rw [div_real _ _ (var_pos a _).ne', lit_neg_half, ← EReal.coe_mul]

theorem r120 (i : S1x2048x1024.Idx) : val_main_v120 (F := Ideal) x0 x1 x2 x4 i = ((dvh a (i 1) (i 2) * rstd a (i 1) : ℝ) : EReal) := by
  pointwise [val_main_v120, val_main_v119]
  simp only [r114 h, r69 h, ← EReal.coe_mul]
  rfl

theorem r126 (i : S1x2048x1.Idx) : val_main_v126 (F := Ideal) x0 x1 x2 x4 i = ((pv a (i 1) : ℝ) : EReal) := by
  pointwise [val_main_v126, val_main_v125, val_main_v121, val_main_v118, val_main_v117, val_main_v116, val_main_cst_29, val_main_cst_31]
  simp only [r114 h, r66 h, r72 h, lift_zero, sum_coe, ← EReal.coe_mul, ← EReal.coe_add, zero_add, lit_1024]
  rw [div_real _ _ (by norm_num)]
  rfl

theorem r130 (i : S1x2048x1024.Idx) : val_main_v130 (F := Ideal) x0 x1 x2 x4 i = ((pv a (i 1) * (2 * vc a (i 1) (i 2)) : ℝ) : EReal) := by
  pointwise [val_main_v130, val_main_v129, val_main_v128]
  rw [val_main_v127]
  pointwise [val_main_cst_32]
  rw [red_02]
  simp only [r126 h, r60 h, lift_zero, ← EReal.coe_mul, ← EReal.coe_add, zero_add]
  rfl

theorem r137 (i : S1x2048x1.Idx) : val_main_v137 (F := Ideal) x0 x1 x2 x4 i
    = ((((∑ j : Fin 1024, -(dvh a (i 1) j * rstd a (i 1))) + ∑ j : Fin 1024, -(pv a (i 1) * (2 * vc a (i 1) j))) / 1024 : ℝ) : EReal) := by
  pointwise [val_main_v137, val_main_v136, val_main_v135, val_main_v133, val_main_v132, val_main_v131, val_main_v124, val_main_v123, val_main_v122, val_main_cst_30, val_main_cst_33, val_main_cst_34]
  simp only [r120 h, r130 h, lift_zero, ← EReal.coe_neg, sum_coe, ← EReal.coe_add, zero_add, lit_1024]
  rw [div_real _ _ (by norm_num)]
  rfl

theorem r141 (i : S1x2048x1024.Idx) : val_main_v141 (F := Ideal) x0 x1 x2 x4 i = ((dvg a (i 1) (i 2) : ℝ) : EReal) := by
  pointwise [val_main_v141, val_main_v140, val_main_v139, val_main_v134]
  rw [val_main_v138]
  pointwise [val_main_cst_35]
  rw [red_02]
  simp only [r137 h, r120 h, r130 h, lift_zero, ← EReal.coe_add, zero_add]
  exact congrArg _ (dvg_eq a (i 1) (i 2))

theorem r95 (i : S1x2048x1024.Idx) : val_main_v95 (F := Ideal) x0 x1 x2 x3 x4 x5 i = ((a.Y (i 1) (i 2) * sp a (i 1) (i 2) : ℝ) : EReal) := by
  pointwise [val_main_v95]
  simp only [r92 h, h.y, ← EReal.coe_mul]

theorem r159 (i : S1x2048x1024.Idx) : val_main_v159 (F := Ideal) x0 x1 x2 x4 i = ((dv a (i 1) (i 2) : ℝ) : EReal) := by
  pointwise [val_main_v159, val_main_v158, val_main_v157, val_main_v156, val_main_v155, val_main_v154, val_main_v153, val_main_v152, val_main_v151, val_main_v150, val_main_v149, val_main_v148, val_main_v147, val_main_v146, val_main_cst_36, val_main_cst_37, val_main_cst_38, val_main_cst_39]
  simp only [r141 h]
  pointwise [val_main_v46, val_main_v45, val_main_v44, val_main_v43, val_main_v42, val_main_v41, val_main_v40, val_main_v39, val_main_v38, val_main_v29, val_main_v28, val_main_v27, val_main_cst_7, val_main_cst_11, val_main_cst_12, val_main_cst_13, val_main_cst_14]
  simp only [r1 h, r37 h, lit_half, lit_gk, lit_num, lit_den, lit_three, lift_one, ← EReal.coe_add, ← EReal.coe_sub, ← EReal.coe_mul, div_real _ (1000000 : ℝ) (by norm_num)]
  refine congrArg _ ?_
  simp only [dv, dgel, cub]
  ring

theorem r173 (i : S1x2048x1024.Idx) : val_main_v173 (F := Ideal) x0 x1 x2 x3 x4 x5 i = ((du a (i 1) (i 2) : ℝ) : EReal) := by
  pointwise [val_main_v173, val_main_v172, val_main_v171, val_main_v170, val_main_v169, val_main_v168, val_main_v167, val_main_v166, val_main_v165, val_main_v164, val_main_v163, val_main_v162, val_main_v161, val_main_v160, val_main_cst_40, val_main_cst_41, val_main_cst_42, val_main_cst_43]
  simp only [r95 h]
  pointwise [val_main_v23, val_main_v22, val_main_v21, val_main_v20, val_main_v19, val_main_v18, val_main_v17, val_main_v16, val_main_v15, val_main_v6, val_main_v5, val_main_v4, val_main_cst, val_main_cst_3, val_main_cst_4, val_main_cst_5, val_main_cst_6]
  simp only [r0 h, r14 h, lit_half, lit_gk, lit_num, lit_den, lit_three, lift_one, ← EReal.coe_add, ← EReal.coe_sub, ← EReal.coe_mul, div_real _ (1000000 : ℝ) (by norm_num)]
  refine congrArg _ ?_
  simp only [du, dgel, cub]
  ring

/-- The gradient of the gate's input. -/
theorem r177 (i : S2048x2048.Idx) : val_main_v177 (F := Ideal) x0 x1 x2 x3 x4 x5 i
    = ((if (i 1 : ℕ) < 1024 then du a (i 0) (i 1) else dv a (i 0) (i 1 - 1024) : ℝ) : EReal) := by
  pointwise [val_main_v177, val_main_v176, val_main_v174, val_main_v175]
  simp only [r173 h, r159 h]
  split_ifs <;> rfl

/-- The gradients of the norm's scale and shift, six zero rows below. -/
theorem r179 (i : S8x1024.Idx) : val_main_v179 (F := Ideal) x0 x1 x4 i
    = ((if (i 0 : ℕ) = 0 then ∑ n : Fin 16, dGc a n (i 1) else if (i 0 : ℕ) = 1 then ∑ n : Fin 16, dBc a n (i 1) else 0 : ℝ) : EReal) := by
  pointwise [val_main_v179, val_main_v178, val_main_v145, val_main_v144, val_main_cst_44]
  simp only [r115 h, r109 h, lift_zero]
  by_cases h0 : (i 0 : ℕ) = 0
  · rw [dif_pos (by omega), if_pos h0]; rfl
  · by_cases h1 : (i 0 : ℕ) = 1
    · rw [dif_neg (by omega), dif_pos (by omega), if_neg h0, if_pos h1]; rfl
    · rw [dif_neg (by omega), dif_neg (by omega), if_neg h0, if_neg h1]

end Cert.GmlpBwdRefIdeal.Gmlp
end
-- ==== Proof.GmlpValue.lean ====
module

public import proofs.«01_k».proof.Proof.Gen.GmlpBwdIdeal.Value
public import proofs.«01_k».proof.Proof.GmlpPieces
public import proofs.«01_k».proof.Proof.GmlpRef
public import proofs.«01_k».proof.Pre_finite_gmlp_bwd

set_option maxRecDepth 16384

@[expose] public section

/-! The four arrays the kernel leaves are those of the reference's gradient, the arguments being finite. -/

noncomputable section
open Idealize.ShloMosaic Idealize.ShloMosaic.TcCoe Idealize.SL.Sem
namespace Cert.GmlpBwdIdeal.Gmlp
open Cert.GmlpBwdIdeal Cert.GmlpBwdIdeal.Gen Cert.Gmlp Cert.Reals

/-- The arguments' real parts. -/
def mkArgs (x0 : S1x2048x10240.Idx → EReal) (x1 : S1x2048x1024.Idx → EReal) (x2 x3 : S1x1024.Idx → EReal)
    (x4 : S1x8x128x128.Idx → EReal) (x5 : S1x8x128.Idx → EReal) : Args where
  U r k := if h : r < 2048 ∧ k < 10240 then (x0 (ix3 0 ⟨r, h.1⟩ ⟨k, h.2⟩)).toReal else 0
  V r k := if h : r < 2048 ∧ k + 1024 < 10240 then (x0 (ix3 0 ⟨r, h.1⟩ ⟨k + 1024, h.2⟩)).toReal else 0
  Y r k := if h : r < 2048 ∧ k < 1024 then (x1 (ix3 0 ⟨r, h.1⟩ ⟨k, h.2⟩)).toReal else 0
  G k := if h : k < 1024 then (x2 (ix2 0 ⟨k, h⟩)).toReal else 0
  B k := if h : k < 1024 then (x3 (ix2 0 ⟨k, h⟩)).toReal else 0
  W g t s := if h : g < 8 ∧ t < 128 ∧ s < 128 then (x4 (ix4 0 ⟨g, h.1⟩ ⟨t, h.2.1⟩ ⟨s, h.2.2⟩)).toReal else 0
  S g t := if h : g < 8 ∧ t < 128 then (x5 (ix3 0 ⟨g, h.1⟩ ⟨t, h.2⟩)).toReal else 0

/-- What the precondition says of the arguments. -/
structure Finite (x0 : S1x2048x10240.Idx → EReal) (x1 : S1x2048x1024.Idx → EReal) (x2 x3 : S1x1024.Idx → EReal)
    (x4 : S1x8x128x128.Idx → EReal) (x5 : S1x8x128.Idx → EReal) : Prop where
  z : ∀ i, (i 2 : ℕ) < 2048 → max (x0 i) (-x0 i) < ⊤
  y : ∀ i, max (x1 i) (-x1 i) < ⊤
  g : ∀ i, max (x2 i) (-x2 i) < ⊤
  b : ∀ i, max (x3 i) (-x3 i) < ⊤
  w : ∀ i, max (x4 i) (-x4 i) < ⊤
  s : ∀ i, max (x5 i) (-x5 i) < ⊤

theorem at4 {A B C D : ℕ} (y : (⟨4, ![A, B, C, D]⟩ : Shape).Idx) (p : Fin A) (q : Fin B) (r : Fin C) (s : Fin D)
    (h0 : (p : ℕ) = y 0) (h1 : (q : ℕ) = y 1) (h2 : (r : ℕ) = y 2) (h3 : (s : ℕ) = y 3) : ix4 p q r s = y := by
  funext i; apply Fin.ext
  match i with
  | 0 => exact h0
  | 1 => exact h1
  | 2 => exact h2
  | 3 => exact h3

theorem real_args {x0 x1 x2 x3 x4 x5} (f : Finite x0 x1 x2 x3 x4 x5) :
    Cert.GmlpBwdRefIdeal.Gmlp.Args' (mkArgs x0 x1 x2 x3 x4 x5) x0 x1 x2 x3 x4 x5 := by
  constructor
  · intro i hi
    have z0 : ((i 0 : Fin _) : ℕ) < 1 := (i 0).isLt
    have h : (i 1 : ℕ) < 2048 ∧ (i 2 : ℕ) < 10240 := ⟨(i 1).isLt, (i 2).isLt⟩
    rw [toReal_of_abs (f.z i (by omega))]
    simp only [mkArgs, dif_pos h]
    rw [at3 i 0 ⟨_, h.1⟩ ⟨_, h.2⟩ (by show 0 = (i 0 : ℕ); omega) rfl rfl]
  · intro i hl hi
    have z0 : ((i 0 : Fin _) : ℕ) < 1 := (i 0).isLt
    have h : (i 1 : ℕ) < 2048 ∧ (i 2 : ℕ) - 1024 + 1024 < 10240 := ⟨(i 1).isLt, by omega⟩
    rw [toReal_of_abs (f.z i (by omega))]
    simp only [mkArgs, dif_pos h]
    rw [at3 i 0 ⟨_, h.1⟩ ⟨_, h.2⟩ (by show 0 = (i 0 : ℕ); omega) rfl (by show (i 2 : ℕ) - 1024 + 1024 = i 2; omega)]
  · intro i
    have z0 : ((i 0 : Fin _) : ℕ) < 1 := (i 0).isLt
    have h : (i 1 : ℕ) < 2048 ∧ (i 2 : ℕ) < 1024 := ⟨(i 1).isLt, (i 2).isLt⟩
    rw [toReal_of_abs (f.y i)]
    simp only [mkArgs, dif_pos h]
    rw [at3 i 0 ⟨_, h.1⟩ ⟨_, h.2⟩ (by show 0 = (i 0 : ℕ); omega) rfl rfl]
  · intro i
    have z0 : ((i 0 : Fin _) : ℕ) < 1 := (i 0).isLt
    have h : (i 1 : ℕ) < 1024 := (i 1).isLt
    rw [toReal_of_abs (f.g i)]
    simp only [mkArgs, dif_pos h]
    rw [at2 i 0 ⟨_, h⟩ (by show 0 = (i 0 : ℕ); omega) rfl]
  · intro i
    have z0 : ((i 0 : Fin _) : ℕ) < 1 := (i 0).isLt
    have h : (i 1 : ℕ) < 1024 := (i 1).isLt
    rw [toReal_of_abs (f.b i)]
    simp only [mkArgs, dif_pos h]
    rw [at2 i 0 ⟨_, h⟩ (by show 0 = (i 0 : ℕ); omega) rfl]
  · intro i
    have z0 : ((i 0 : Fin _) : ℕ) < 1 := (i 0).isLt
    have h : (i 1 : ℕ) < 8 ∧ (i 2 : ℕ) < 128 ∧ (i 3 : ℕ) < 128 := ⟨(i 1).isLt, (i 2).isLt, (i 3).isLt⟩
    rw [toReal_of_abs (f.w i)]
    simp only [mkArgs, dif_pos h]
    rw [at4 i 0 ⟨_, h.1⟩ ⟨_, h.2.1⟩ ⟨_, h.2.2⟩ (by show 0 = (i 0 : ℕ); omega) rfl rfl rfl]
  · intro i
    have z0 : ((i 0 : Fin _) : ℕ) < 1 := (i 0).isLt
    have h : (i 1 : ℕ) < 8 ∧ (i 2 : ℕ) < 128 := ⟨(i 1).isLt, (i 2).isLt⟩
    rw [toReal_of_abs (f.s i)]
    simp only [mkArgs, dif_pos h]
    rw [at3 i 0 ⟨_, h.1⟩ ⟨_, h.2⟩ (by show 0 = (i 0 : ℕ); omega) rfl rfl]

variable (m : (ℓ : Loc nD τ sig) → Buf (Elt Ideal) ℓ) (c : Dev nD)

/-- One device's arguments. -/
abbrev A0 : S1x2048x10240.Idx → EReal := m ((c : Thread nD τ).loc main_arg0)
abbrev A1 : S1x2048x1024.Idx → EReal := m ((c : Thread nD τ).loc main_arg1)
abbrev A2 : S1x1024.Idx → EReal := m ((c : Thread nD τ).loc main_arg2)
abbrev A3 : S1x1024.Idx → EReal := m ((c : Thread nD τ).loc main_arg3)
abbrev A4 : S1x8x128x128.Idx → EReal := m ((c : Thread nD τ).loc main_arg4)
abbrev A5 : S1x8x128.Idx → EReal := m ((c : Thread nD τ).loc main_arg5)

theorem idx : ∀ t : Fin cfg0.N, win0_0.index t = ![t.val, 0] ∧ win0_1.index t = ![t.val, 1] ∧ win0_2.index t = ![t.val, 0]
    ∧ win0_3.index t = ![0, 0] ∧ win0_4.index t = ![0, 0] ∧ win0_5.index t = ![0, 0, 0] ∧ win0_6.index t = ![0, 0, 0]
    ∧ win0_7.index t = ![t.val, 0] ∧ win0_8.index t = ![0, 0] ∧ win0_9.index t = ![0, 0, 0] ∧ win0_10.index t = ![0, 0, 0] :=
  (by decide +kernel : ∀ t : Fin grid0.N, _)

theorem t_lt (t : Fin cfg0.N) : t.val < 16 := lt_of_lt_of_eq t.isLt N_0

theorem blk0 (t : Fin cfg0.N) (i : S128x1024.Idx) (h : 128 * t.val + (i 0 : ℕ) < 2048) (h' : (i 1 : ℕ) < 10240) :
    iblk m c 0 t i = A0 m c (ix3 0 ⟨128 * t.val + i 0, h⟩ ⟨i 1, h'⟩) := by
  blk_point [iblk, V, idx t]
theorem blk1 (t : Fin cfg0.N) (i : S128x1024.Idx) (h : 128 * t.val + (i 0 : ℕ) < 2048) (h' : 1024 + (i 1 : ℕ) < 10240) :
    iblk m c 1 t i = A0 m c (ix3 0 ⟨128 * t.val + i 0, h⟩ ⟨1024 + i 1, h'⟩) := by
  blk_point [iblk, V, idx t]
theorem blk2 (t : Fin cfg0.N) (i : S128x1024.Idx) (h : 128 * t.val + (i 0 : ℕ) < 2048) :
    iblk m c 2 t i = A1 m c (ix3 0 ⟨128 * t.val + i 0, h⟩ (i 1)) := by
  blk_point [iblk, V, idx t]
theorem blk3 (t : Fin cfg0.N) (i : S1x1024.Idx) : iblk m c 3 t i = A2 m c (ix2 0 (i 1)) := by
  blk_point [iblk, V, idx t]
theorem blk4 (t : Fin cfg0.N) (i : S1x1024.Idx) : iblk m c 4 t i = A3 m c (ix2 0 (i 1)) := by
  blk_point [iblk, V, idx t]
theorem blk5 (t : Fin cfg0.N) (i : S8x128x128.Idx) : iblk m c 5 t i = A4 m c (ix4 0 (i 0) (i 1) (i 2)) := by
  blk_point [iblk, V, idx t]
theorem blk6 (t : Fin cfg0.N) (i : S8x128x128.Idx) : iblk m c 6 t i = A5 m c (ix3 0 (i 0) (i 1)) := by
  blk_point [iblk, V, idx t]

/-- The precondition, at one device's arguments. -/
def Fin1 : Prop := Finite (A0 m c) (A1 m c) (A2 m c) (A3 m c) (A4 m c) (A5 m c)

abbrev args : Args := mkArgs (A0 m c) (A1 m c) (A2 m c) (A3 m c) (A4 m c) (A5 m c)

theorem blocks (f : Fin1 m c) (t : Fin cfg0.N) : Blocks m (args m c) c t := by
  have ht := t_lt t
  have h := real_args f
  constructor
  · intro i
    have h0 : (i 0 : ℕ) < 128 := (i 0).isLt
    have h1 : (i 1 : ℕ) < 1024 := (i 1).isLt
    rw [blk0 m c t i (by omega) (by omega)]
    exact h.u _ h1
  · intro i
    have h0 : (i 0 : ℕ) < 128 := (i 0).isLt
    have h1 : (i 1 : ℕ) < 1024 := (i 1).isLt
    rw [blk1 m c t i (by omega) (by omega), h.v _ (Nat.le_add_right _ _) (by show 1024 + (i 1 : ℕ) < 2048; omega)]
    exact congrArg (fun k : ℕ => (((args m c).V (128 * t.val + i 0) k : ℝ) : EReal)) (Nat.add_sub_cancel_left 1024 _)
  · intro i
    have h0 : (i 0 : ℕ) < 128 := (i 0).isLt
    rw [blk2 m c t i (by omega)]
    exact h.y _
  · intro i; rw [blk3 m c t i]; exact h.g _
  · intro i; rw [blk4 m c t i]; exact h.b _
  · intro i; rw [blk5 m c t i]; exact h.w _
  · intro i; rw [blk6 m c t i]; exact h.s _

/-- A running sum, set at the first chunk and added to at the others. -/
theorem upto (f : (n : ℕ) → n < cfg0.N → EReal) (J : ℕ → ℝ) (h0 : ∀ h, f 0 h = ((J 0 : ℝ) : EReal))
    (hs : ∀ n (h : n + 1 < cfg0.N), f (n + 1) h = f n (by omega) + ((J (n + 1) : ℝ) : EReal)) :
    ∀ n (h : n < cfg0.N), f n h = ((∑ i ∈ Finset.range (n + 1), J i : ℝ) : EReal) := by
  intro n
  induction n with
  | zero => intro h; rw [h0]; simp
  | succ n ih => intro h; rw [hs, ih, Finset.sum_range_succ _ (n + 1), EReal.coe_add]

theorem small {n : ℕ} (h : n + 1 < cfg0.N) : ¬ (n + 1) % 16 = 0 := by
  have := lt_of_lt_of_eq h N_0
  omega

variable (f : Fin1 m c)
include f

theorem dln_upto (n : ℕ) (h : n < cfg0.N) (y : S8x1024.Idx) :
    (outsAt0 m c n h).2.1 y = ((∑ i ∈ Finset.range (n + 1), dLc (args m c) i (y 0) (y 1) : ℝ) : EReal) :=
  upto (fun n h => (outsAt0 m c n h).2.1 y) (fun i => dLc (args m c) i (y 0) (y 1))
    (fun h => dln_reset m (args m c) c ⟨0, h⟩ (blocks m c f _) rfl y)
    (fun n h => dln_step m (args m c) c ⟨n + 1, h⟩ (blocks m c f _) (by show n < _; omega) (small h) y) n h

theorem dws_upto (n : ℕ) (h : n < cfg0.N) (y : S8x128x128.Idx) :
    (outsAt0 m c n h).2.2.1 y = ((∑ i ∈ Finset.range (n + 1), dWc (args m c) i (y 0) (y 1) (y 2) : ℝ) : EReal) :=
  upto (fun n h => (outsAt0 m c n h).2.2.1 y) (fun i => dWc (args m c) i (y 0) (y 1) (y 2))
    (fun h => dws_reset m (args m c) c ⟨0, h⟩ (blocks m c f _) rfl y)
    (fun n h => dws_step m (args m c) c ⟨n + 1, h⟩ (blocks m c f _) (by show n < _; omega) (small h) y) n h

theorem acc_upto (n : ℕ) (h : n < cfg0.N) (y : S8x128x128.Idx) :
    (outsAt0 m c n h).2.2.2.2 y = ((∑ i ∈ Finset.range (n + 1), ds (args m c) (128 * i + y 1) (128 * y 0 + y 2) : ℝ) : EReal) :=
  upto (fun n h => (outsAt0 m c n h).2.2.2.2 y) (fun i => ds (args m c) (128 * i + y 1) (128 * y 0 + y 2))
    (fun h => acc_reset m (args m c) c ⟨0, h⟩ (blocks m c f _) rfl y)
    (fun n h => acc_step m (args m c) c ⟨n + 1, h⟩ (blocks m c f _) (by show n < _; omega) (small h) y) n h

theorem final7 : (dats m 0 c).arrAt 7 cfg0.N
    = Cert.GmlpBwdRefIdeal.Read.val_main_v177 (F := Ideal) (A0 m c) (A1 m c) (A2 m c) (A3 m c) (A4 m c) (A5 m c) := by
  refine (dats m 0 c).arrAt_eq_of_covers 7 _ (by decide +kernel) fun t _ y => ?_
  have ht := t_lt t
  have h0 : (y 0 : ℕ) < 128 := (y 0).isLt
  have e0 : ((((cfg0.win 7).blk t).view.emb y) 0 : ℕ) = 128 * t.val + (y 0 : ℕ) := by blk_simp [idx t]; try omega
  have e1 : ((((cfg0.win 7).blk t).view.emb y) 1 : ℕ) = (y 1 : ℕ) := by blk_simp [idx t]; try omega
  rw [Cert.GmlpBwdRefIdeal.Gmlp.r177 (real_args f)]
  rw [e0, e1]
  blk_simp
  rw [after0_7]
  exact dz_at m (args m c) c t (blocks m c f t) y

theorem final8 : (dats m 0 c).arrAt 8 cfg0.N
    = Cert.GmlpBwdRefIdeal.Read.val_main_v179 (F := Ideal) (A0 m c) (A1 m c) (A4 m c) := by
  refine (dats m 0 c).arrAt_eq_of_after_last 8 t0_15 (by decide +kernel) _ fun j => ?_
  rw [Cert.GmlpBwdRefIdeal.Gmlp.r179 (real_args f)]
  blk_simp
  rw [after0_8]
  refine (dln_upto m c f 15 _ j).trans (congrArg _ ?_)
  rw [Finset.sum_range]
  simp only [dLc]
  split_ifs
  · rfl
  · rfl
  · simp

theorem final9 : (dats m 0 c).arrAt 9 cfg0.N
    = Cert.GmlpBwdRefIdeal.Read.val_main_v180 (F := Ideal) (A0 m c) (A1 m c) (A2 m c) (A3 m c) := by
  refine (dats m 0 c).arrAt_eq_of_after_last 9 t0_15 (by decide +kernel) _ fun j => ?_
  rw [Cert.GmlpBwdRefIdeal.Gmlp.r180 (real_args f)]
  blk_simp
  rw [after0_9]
  refine (dws_upto m c f 15 _ j).trans (congrArg _ ?_)
  rw [Finset.sum_range]

theorem final10 : (dats m 0 c).arrAt 10 cfg0.N
    = Cert.GmlpBwdRefIdeal.Read.val_main_v182 (F := Ideal) (A0 m c) (A1 m c) := by
  refine (dats m 0 c).arrAt_eq_of_after_last 10 t0_15 (by decide +kernel) _ fun j => ?_
  rw [Cert.GmlpBwdRefIdeal.Gmlp.r182 (real_args f)]
  blk_simp
  rw [after0_10]
  rw [dbs_last m (args m c) c t0_15 (blocks m c f _) rfl j]
  simp only [acc_upto m c f, sum_coe]
  refine congrArg _ ?_
  rw [Finset.sum_comm]
  exact Finset.sum_range (fun i => dSc (args m c) i (j 0) (j 1))

end Cert.GmlpBwdIdeal.Gmlp
end
-- ==== Proof.GmlpFinite.lean ====
module

public import proofs.«01_k».proof.Defs
public import proofs.«01_k».proof.Proof.GmlpValue

set_option maxRecDepth 16384

@[expose] public section

/-! What the precondition says: the arguments the kernel reads are finite. -/

noncomputable section
open Idealize.ShloMosaic Idealize.ShloMosaic.TcCoe Idealize.SL.Sem
namespace Cert.GmlpBwdIdeal.Gmlp
open Cert.GmlpBwdIdeal Cert.GmlpBwdIdeal.Gen Cert.Gmlp Cert.Reals

variable [hP : Cert.Pre_finite_gmlp_bwd.Facts] (m : (ℓ : Loc nD τ sig) → Buf (Elt Ideal) ℓ) (c : Dev nD)

theorem fin_of_pre (h : Cert.Pre_GmlpBwdIdeal_finite_gmlp_bwd m) : Fin1 m c := by
  obtain ⟨h0, h1, h2, h3, h4, h5⟩ := h c
  constructor
  · intro i hi
    have z0 : ((i 0 : Fin _) : ℕ) < 1 := (i 0).isLt
    have e := congrFun h0 (ix3 (i 0) (i 1) ⟨i 2, hi⟩)
    pointwise [Cert.Pre_finite_gmlp_bwd.fn, Cert.Pre_finite_gmlp_bwd.fn_part1] at e
    have e' := abs_lt_of_bit e
    rwa [at3 i 0 (i 1) (i 2) (by show 0 = (i 0 : ℕ); omega) rfl rfl] at e'
  · exact fun i => abs_lt_of_bit (congrFun h1 i)
  · exact fun i => abs_lt_of_bit (congrFun h2 i)
  · exact fun i => abs_lt_of_bit (congrFun h3 i)
  · exact fun i => abs_lt_of_bit (congrFun h4 i)
  · exact fun i => abs_lt_of_bit (congrFun h5 i)

end Cert.GmlpBwdIdeal.Gmlp
end
-- ==== Proof.RmsModel.lean ====
module

public import proofs.«01_k».proof.Proof.GmlpSums
public import proofs.«01_k».proof.Proof.GmlpPieces

set_option maxRecDepth 16384

@[expose] public section

/-! The gradient of the root-mean-square norm over 2048 columns, as real numbers: the form the kernels compute and the form
the reference's gradient computes. -/

noncomputable section
open Idealize.ShloMosaic Idealize.ShloMosaic.TcCoe
namespace Cert.Rms
open Cert.Reals

/-- The mean square of a row, the small number added. -/
def ms (X : ℕ → ℕ → ℝ) (r : ℕ) : ℝ := (∑ k : Fin 2048, X r k * X r k) / 2048 + eps
def rs (X : ℕ → ℕ → ℝ) (r : ℕ) : ℝ := (Real.sqrt (ms X r))⁻¹
def xn (X : ℕ → ℕ → ℝ) (r k : ℕ) : ℝ := X r k * rs X r
/-- The norm's gradient with respect to its argument, `E` being that with respect to the normed row. -/
def gr (X E : ℕ → ℕ → ℝ) (r k : ℕ) : ℝ := rs X r * (E r k - xn X r k * ((∑ j : Fin 2048, E r j * xn X r j) / 2048))

theorem ms_pos (X : ℕ → ℕ → ℝ) (r : ℕ) : 0 < ms X r :=
  add_pos_of_nonneg_of_pos (div_nonneg (Finset.sum_nonneg fun k _ => mul_self_nonneg _) (by norm_num)) eps_pos

/-- The factor through which the row's mean square moves the result. -/
def cf (X E : ℕ → ℕ → ℝ) (r : ℕ) : ℝ := (∑ j : Fin 2048, X r j * E r j) * (-(1 / 2) * (rs X r / ms X r)) / 2048

theorem gr_eq (X E : ℕ → ℕ → ℝ) (r k : ℕ) : E r k * rs X r + (X r k * cf X E r + cf X E r * X r k) = gr X E r k := by
  have hs : rs X r / ms X r = rs X r * rs X r * rs X r := by
    have h1 : rs X r * rs X r = (ms X r)⁻¹ := by rw [rs, ← mul_inv, Real.mul_self_sqrt (ms_pos X r).le]
    rw [h1, div_eq_mul_inv, mul_comm]
  have hd : ∑ j : Fin 2048, E r j * xn X r j = (∑ j : Fin 2048, X r j * E r j) * rs X r := by
    rw [Finset.sum_mul]
    exact Finset.sum_congr rfl fun j _ => by simp only [xn]; ring
  rw [gr, cf, hs, hd, xn]
  ring

theorem lit_2048 : Ideal.ofBits .f32 0x45000000#32 = ((2048 : ℝ) : EReal) := by
  simp [Ideal.ofBits, Ideal.ieee, -EReal.coe_mul]; norm_num

/-- A sum over all rows, 256 at a time. -/
theorem sum_rows (f : ℕ → EReal) : ∑ r : Fin 2048, f r = ∑ n : Fin 8, ∑ t : Fin 256, f (256 * n + t) := by
  rw [← Fintype.sum_prod_type', ← (finProdFinEquiv (m := 8) (n := 256)).sum_comp]
  refine Finset.sum_congr rfl fun x _ => ?_
  simp [finProdFinEquiv, add_comm]

theorem red_01 (h : (⟨3, ![1, 1, 2048]⟩ : Shape).ReducesTo [0, 1] ⟨1, ![2048]⟩) (x : (⟨3, ![1, 1, 2048]⟩ : Shape).Idx → EReal) (c : EReal)
    (j : (⟨1, ![2048]⟩ : Shape).Idx) : Ideal.hostReduceAdd h x c j = c + x (ix3 0 0 (j 0)) := by
  rw [GmlpBwdRefIdeal.Gmlp.reduce_by _ x c j (K := Unit) (fun k => ix3 0 0 (j 0)) (fun i => ()) (fun _ => rfl)]
  · simp
  · intro k; funext b; apply Fin.ext
    match b with
    | ⟨0, _⟩ => rfl
  · intro i e; funext b; apply Fin.ext
    match b with
    | ⟨0, _⟩ => show 0 = (i 0 : ℕ); have : ((i 0 : Fin _) : ℕ) < 1 := (i 0).isLt; omega
    | ⟨1, _⟩ => show 0 = (i 1 : ℕ); have : ((i 1 : Fin _) : ℕ) < 1 := (i 1).isLt; omega
    | ⟨2, _⟩ => exact (congrArg Fin.val (congrFun e 0)).symm

theorem red_02 (h : (⟨3, ![1, 2048, 1]⟩ : Shape).ReducesTo [0, 2] ⟨1, ![2048]⟩) (x : (⟨3, ![1, 2048, 1]⟩ : Shape).Idx → EReal) (c : EReal)
    (j : (⟨1, ![2048]⟩ : Shape).Idx) : Ideal.hostReduceAdd h x c j = c + x (ix3 0 (j 0) 0) := by
  rw [GmlpBwdRefIdeal.Gmlp.reduce_by _ x c j (K := Unit) (fun k => ix3 0 (j 0) 0) (fun i => ()) (fun _ => rfl)]
  · simp
  · intro k; funext b; apply Fin.ext
    match b with
    | ⟨0, _⟩ => rfl
  · intro i e; funext b; apply Fin.ext
    match b with
    | ⟨0, _⟩ => show 0 = (i 0 : ℕ); have : ((i 0 : Fin _) : ℕ) < 1 := (i 0).isLt; omega
    | ⟨1, _⟩ => exact (congrArg Fin.val (congrFun e 0)).symm
    | ⟨2, _⟩ => show 0 = (i 2 : ℕ); have : ((i 2 : Fin _) : ℕ) < 1 := (i 2).isLt; omega

/-- The sum of a whole matrix of one layer. -/
theorem red_all (h : (⟨2, ![1, 2048]⟩ : Shape).ReducesTo [0, 1] ⟨0, ![]⟩) (x : (⟨2, ![1, 2048]⟩ : Shape).Idx → EReal) (c : EReal)
    (j : (⟨0, ![]⟩ : Shape).Idx) : Ideal.hostReduceAdd h x c j = c + ∑ r : Fin 2048, x (ix2 0 r) := by
  rw [GmlpBwdRefIdeal.Gmlp.reduce_by _ x c j (K := Fin 2048) (fun k => ix2 0 k) (fun i => i 1) (fun _ => rfl)]
  · intro k; funext b; exact b.elim0
  · intro i e; funext b; apply Fin.ext
    match b with
    | ⟨0, _⟩ => show 0 = (i 0 : ℕ); have : ((i 0 : Fin _) : ℕ) < 1 := (i 0).isLt; omega
    | ⟨1, _⟩ => rfl

/-- A running sum, set at the first block of rows and added to at the others. -/
theorem upto {N : ℕ} (f : (n : ℕ) → n < N → EReal) (J : ℕ → EReal) (h0 : ∀ h, f 0 h = J 0)
    (hs : ∀ n (h : n + 1 < N), f (n + 1) h = f n (by omega) + J (n + 1)) :
    ∀ n (h : n < N), f n h = ∑ i ∈ Finset.range (n + 1), J i := by
  intro n
  induction n with
  | zero => intro h; rw [h0]; simp
  | succ n ih => intro h; rw [hs, ih, Finset.sum_range_succ _ (n + 1)]

end Cert.Rms
end
-- ==== Proof.NormTwoRef.lean ====
module

public import proofs.«01_k».proof.Proof.Gen.NormTwoBwdRefIdeal.Read
public import proofs.«01_k».proof.Proof.RmsModel

set_option maxRecDepth 16384
set_option pp.maxSteps 2000

@[expose] public section

/-! What the gradient of the second norm's forward lines computes, stage by stage. -/

noncomputable section
open Idealize.ShloMosaic Idealize.ShloMosaic.TcCoe Idealize.SL.Sem
namespace Cert.NormTwoBwdRefIdeal.Norm
open Cert.NormTwoBwdRefIdeal Cert.NormTwoBwdRefIdeal.Read Cert.Rms Cert.Reals

/-- The finite arguments' real numbers: input, gated branch, gate, norm scale, modulation scale, cotangent. -/
structure Args where
  P : ℕ → ℕ → ℝ
  O : ℕ → ℕ → ℝ
  T : ℕ → ℝ
  G : ℕ → ℝ
  S : ℕ → ℝ
  H : ℕ → ℕ → ℝ

def Args.X (a : Args) (r k : ℕ) : ℝ := a.P r k + a.T k * a.O r k
def Args.E (a : Args) (r k : ℕ) : ℝ := a.H r k * (1 + a.S k) * a.G k

structure Args' (a : Args) (x0 x1 : FVec Ideal S1x2048x2048 .f32) (x2 x3 x4 : FVec Ideal S1x2048 .f32)
    (x6 : FVec Ideal S1x2048x2048 .f32) : Prop where
  p : ∀ i, x0 i = ((a.P (i 1) (i 2) : ℝ) : EReal)
  o : ∀ i, x1 i = ((a.O (i 1) (i 2) : ℝ) : EReal)
  t : ∀ i, x2 i = ((a.T (i 1) : ℝ) : EReal)
  g : ∀ i, x3 i = ((a.G (i 1) : ℝ) : EReal)
  s : ∀ i, x4 i = ((a.S (i 1) : ℝ) : EReal)
  h : ∀ i, x6 i = ((a.H (i 1) (i 2) : ℝ) : EReal)

variable {a : Args} {x0 x1 : FVec Ideal S1x2048x2048 .f32} {x2 x3 x4 : FVec Ideal S1x2048 .f32}
    {x6 : FVec Ideal S1x2048x2048 .f32} (x7 : FVec Ideal S1x2048x2048 .f32) (h : Args' a x0 x1 x2 x3 x4 x6)
include h

theorem r3 (i : S1x2048x2048.Idx) : val_main_v3 (F := Ideal) x0 x1 x2 i = ((a.X (i 1) (i 2) : ℝ) : EReal) := by
  pointwise [val_main_v3, val_main_v2, val_main_v1, val_main_v0]
  simp only [h.p, h.o, h.t, ← EReal.coe_mul, ← EReal.coe_add]
  rfl

theorem r11 (i : S1x2048x1.Idx) : val_main_v11 (F := Ideal) x0 x1 x2 i = ((ms a.X (i 1) : ℝ) : EReal) := by
  pointwise [val_main_v11, val_main_v10, val_main_cst_1, val_main_v9, val_main_v8, val_main_cst_0, val_main_v7, val_main_v6, val_main_cst, val_main_v5]
  simp only [r3 h, lit_2048, lit_eps, ← EReal.coe_mul, lift_zero, sum_coe, ← EReal.coe_add, div_real _ (2048 : ℝ) (by norm_num), zero_add]
  rfl

theorem r12 (i : S1x2048x1.Idx) : val_main_v12 (F := Ideal) x0 x1 x2 i = ((rs a.X (i 1) : ℝ) : EReal) := by
  pointwise [val_main_v12]
  rw [r11 h, rsqrt_real _ (ms_pos _ _)]
  rfl

theorem r15 (i : S1x2048x1.Idx) : val_main_v15 (F := Ideal) x0 x1 x2 i = ((-(1 / 2) * (rs a.X (i 1) / ms a.X (i 1)) : ℝ) : EReal) := by
  pointwise [val_main_v15, val_main_v14, val_main_cst_2, val_main_v13]
  rw [r11 h, r12 h, div_real _ _ (ms_pos _ _).ne', lit_neg_half, ← EReal.coe_mul]

theorem r17 (i : S1x2048x2048.Idx) : val_main_v17 (F := Ideal) x0 x1 x2 i = ((xn a.X (i 1) (i 2) : ℝ) : EReal) := by
  pointwise [val_main_v17, val_main_v16]
  simp only [r3 h, r12 h, ← EReal.coe_mul]
  rfl

theorem r45 (i : S1x2048x2048.Idx) : val_main_v45 (F := Ideal) x3 x4 x6 i = ((a.E (i 1) (i 2) : ℝ) : EReal) := by
  pointwise [val_main_v45, val_main_v44, val_main_v38, val_main_v37, val_main_v29, val_main_v23, val_main_v22, val_main_cst_3, val_main_v21, val_main_v18, val_main_v4]
  simp only [h.g, h.s, h.h, lift_one, lit_one, ← EReal.coe_add, ← EReal.coe_mul]
  rfl

theorem r49 (i : S1x2048x1.Idx) : val_main_v49 (F := Ideal) x0 x1 x2 x3 x4 x6 i = ((∑ j : Fin 2048, a.X (i 1) j * a.E (i 1) j : ℝ) : EReal) := by
  pointwise [val_main_v49, val_main_v48, val_main_v47, val_main_cst_10]
  simp only [r3 h, r45 h, ← EReal.coe_mul, lift_zero, sum_coe, ← EReal.coe_add, zero_add]
  rfl

theorem r58 (i : S1x2048x2048.Idx) : val_main_v58 (F := Ideal) x0 x1 x2 x3 x4 x6 i = ((cf a.X a.E (i 1) : ℝ) : EReal) := by
  pointwise [val_main_v58, val_main_v57]
  rw [val_main_v56]
  pointwise [val_main_cst_12]
  rw [red_02]
  pointwise [val_main_v55, val_main_v54, val_main_cst_11, val_main_v53]
  simp only [r49 h, r15 h, lit_2048, ← EReal.coe_mul, lift_zero, ← EReal.coe_add, zero_add, div_real _ (2048 : ℝ) (by norm_num)]
  rfl

/-- The gradient of the gated sum, the residual's cotangent added. -/
theorem r62 (i : S1x2048x2048.Idx) : val_main_v62 (F := Ideal) x0 x1 x2 x3 x4 x6 x7 i = x7 i + ((gr a.X a.E (i 1) (i 2) : ℝ) : EReal) := by
  pointwise [val_main_v62, val_main_v61, val_main_v60, val_main_v59, val_main_v52, val_main_v51, val_main_v50]
  simp only [r58 h, r3 h, r45 h, r12 h, ← EReal.coe_mul]
  rw [add_assoc, add_assoc, ← EReal.coe_add, ← EReal.coe_add]
  exact congrArg (fun y : ℝ => x7 i + (y : EReal)) (gr_eq _ _ _ _)

theorem r72 (D : ℕ → ℕ → EReal) (hD : ∀ i, x7 i = D (i 1) (i 2)) (i : S2048x2048.Idx) :
    val_main_v72 (F := Ideal) x0 x1 x2 x3 x4 x6 x7 i = D (i 0) (i 1) + ((gr a.X a.E (i 0) (i 1) : ℝ) : EReal) := by
  pointwise [val_main_v72]
  rw [r62 x7 h, hD]
  rfl

theorem r76 (D : ℕ → ℕ → EReal) (hD : ∀ i, x7 i = D (i 1) (i 2)) (i : S2048x2048.Idx) :
    val_main_v76 (F := Ideal) x0 x1 x2 x3 x4 x6 x7 i
      = ((a.T (i 1) : ℝ) : EReal) * (D (i 0) (i 1) + ((gr a.X a.E (i 0) (i 1) : ℝ) : EReal)) := by
  pointwise [val_main_v76, val_main_v75, val_main_v66, val_main_v65, val_main_v64, val_main_v0]
  rw [r62 x7 h, h.t, hD]
  rfl

/-- The four sums over the rows. -/
def J (a : Args) (D : ℕ → ℕ → EReal) (q r k : ℕ) : EReal :=
  if q = 0 then ((a.H r k : ℝ) : EReal) else if q = 1 then ((a.H r k * (xn a.X r k * a.G k) : ℝ) : EReal)
  else if q = 2 then ((a.H r k * (1 + a.S k) * xn a.X r k : ℝ) : EReal)
  else if q = 3 then (D r k + ((gr a.X a.E r k : ℝ) : EReal)) * ((a.O r k : ℝ) : EReal) else 0

theorem r74 (D : ℕ → ℕ → EReal) (hD : ∀ i, x7 i = D (i 1) (i 2)) (i : S8x2048.Idx) :
    val_main_v74 (F := Ideal) x0 x1 x2 x3 x4 x6 x7 i = ∑ r : Fin 2048, J a D (i 0) r (i 1) := by
  have e33 : ∀ j : S1x2048.Idx, val_main_v33 (F := Ideal) x6 j = ∑ r : Fin 2048, J a D 0 r (j 1) := by
    intro j
    pointwise [val_main_v33]
    rw [val_main_v32]
    pointwise [val_main_cst_5]
    rw [red_01]
    pointwise [val_main_v31, val_main_v30, val_main_cst_4]
    simp only [h.h, lit_zero, EReal.coe_zero, zero_add]
    rfl
  have e40 : ∀ j : S1x2048.Idx, val_main_v40 (F := Ideal) x0 x1 x2 x3 x6 j = ∑ r : Fin 2048, J a D 1 r (j 1) := by
    intro j
    pointwise [val_main_v40]
    rw [val_main_v39]
    pointwise [val_main_cst_7]
    rw [red_01]
    pointwise [val_main_v36, val_main_v35, val_main_cst_6, val_main_v34, val_main_v20, val_main_v19, val_main_v18, val_main_v4, val_main_v29]
    simp only [h.h, h.g, r17 h, lit_zero, EReal.coe_zero, zero_add, ← EReal.coe_mul]
    exact Finset.sum_congr rfl fun r _ => congrArg _ (mul_comm _ _)
  have e63 : ∀ j : S1x2048.Idx, val_main_v63 (F := Ideal) x0 x1 x2 x4 x6 j = ∑ r : Fin 2048, J a D 2 r (j 1) := by
    intro j
    pointwise [val_main_v63]
    rw [val_main_v46]
    pointwise [val_main_cst_9]
    rw [red_01]
    pointwise [val_main_v43, val_main_v42, val_main_cst_8, val_main_v41, val_main_v38, val_main_v37, val_main_v29, val_main_v23, val_main_v22, val_main_cst_3, val_main_v21]
    simp only [h.h, h.s, r17 h, lit_zero, lit_one, lift_one, EReal.coe_zero, zero_add, ← EReal.coe_mul, ← EReal.coe_add]
    exact Finset.sum_congr rfl fun r _ => congrArg _ (mul_comm _ _)
  have e71 : ∀ j : S1x2048.Idx, val_main_v71 (F := Ideal) x0 x1 x2 x3 x4 x6 x7 j = ∑ r : Fin 2048, J a D 3 r (j 1) := by
    intro j
    pointwise [val_main_v71]
    rw [val_main_v70]
    pointwise [val_main_cst_14]
    rw [red_01]
    pointwise [val_main_v69, val_main_v68, val_main_cst_13, val_main_v67, val_main_v64]
    simp only [r62 x7 h, hD, h.o, lit_zero, EReal.coe_zero, zero_add]
    rfl
  pointwise [val_main_v74, val_main_v73, val_main_cst_15]
  simp only [e33, e40, e63, e71]
  by_cases h0 : (i 0 : ℕ) = 0
  · rw [dif_pos (by omega)]; exact Finset.sum_congr rfl fun r _ => (congrArg (fun q : ℕ => J a D q r (i 1)) h0).symm
  by_cases h1 : (i 0 : ℕ) = 1
  · rw [dif_neg (by omega), dif_pos (by omega)]; exact Finset.sum_congr rfl fun r _ => (congrArg (fun q : ℕ => J a D q r (i 1)) h1).symm
  by_cases h2 : (i 0 : ℕ) = 2
  · rw [dif_neg (by omega), dif_neg (by omega), dif_pos (by omega)]; exact Finset.sum_congr rfl fun r _ => (congrArg (fun q : ℕ => J a D q r (i 1)) h2).symm
  by_cases h3 : (i 0 : ℕ) = 3
  · rw [dif_neg (by omega), dif_neg (by omega), dif_neg (by omega), dif_pos (by omega)]; exact Finset.sum_congr rfl fun r _ => (congrArg (fun q : ℕ => J a D q r (i 1)) h3).symm
  rw [dif_neg (by omega), dif_neg (by omega), dif_neg (by omega), dif_neg (by omega)]
  simp only [J, if_neg h0, if_neg h1, if_neg h2, if_neg h3, Finset.sum_const_zero, lit_zero, EReal.coe_zero]

end Cert.NormTwoBwdRefIdeal.Norm
end
-- ==== Proof.NormTwoValue.lean ====
module

public import proofs.«01_k».proof.Proof.Gen.NormTwoBwdIdeal.Value
public import proofs.«01_k».proof.Proof.NormTwoRef
public import Idealize.ShloMosaic.Lib.Pipeline.ReadBack

set_option maxRecDepth 16384
set_option maxHeartbeats 1600000
set_option pp.maxSteps 2000

@[expose] public section

/-! The three arrays the second norm's kernel leaves are those of the reference's gradient. -/

noncomputable section
open Idealize.ShloMosaic Idealize.ShloMosaic.TcCoe Idealize.SL.Sem
namespace Cert.NormTwoBwdIdeal.Norm
open Cert.NormTwoBwdIdeal Cert.NormTwoBwdIdeal.Gen Cert.Rms Cert.Reals
open Cert.NormTwoBwdRefIdeal.Norm (Args J)
open Cert.GmlpBwdIdeal.Gmlp (at2 at3 canon_take canon_drop read_writes_of_not_mem)

variable (m : (ℓ : Loc nD τ sig) → Buf (Elt Ideal) ℓ) (c : Dev nD)

abbrev A0 : S1x2048x2048.Idx → EReal := m ((c : Thread nD τ).loc main_arg0)
abbrev A1 : S1x2048x2048.Idx → EReal := m ((c : Thread nD τ).loc main_arg1)
abbrev A2 : S1x2048.Idx → EReal := m ((c : Thread nD τ).loc main_arg2)
abbrev A3 : S1x2048.Idx → EReal := m ((c : Thread nD τ).loc main_arg3)
abbrev A4 : S1x2048.Idx → EReal := m ((c : Thread nD τ).loc main_arg4)
abbrev A6 : S1x2048x2048.Idx → EReal := m ((c : Thread nD τ).loc main_arg6)
abbrev A7 : S1x2048x2048.Idx → EReal := m ((c : Thread nD τ).loc main_arg7)

/-- The entry of a matrix of one layer, of an argument that may be infinite. -/
def atE (x : S1x2048x2048.Idx → EReal) (r k : ℕ) : EReal := if h : r < 2048 ∧ k < 2048 then x (ix3 0 ⟨r, h.1⟩ ⟨k, h.2⟩) else 0
def at1 (x : S1x2048.Idx → EReal) (k : ℕ) : EReal := if h : k < 2048 then x (ix2 0 ⟨k, h⟩) else 0

theorem atE_eq (x : S1x2048x2048.Idx → EReal) (i : S1x2048x2048.Idx) : x i = atE x (i 1) (i 2) := by
  have z0 : ((i 0 : Fin _) : ℕ) < 1 := (i 0).isLt
  have h : (i 1 : ℕ) < 2048 ∧ (i 2 : ℕ) < 2048 := ⟨(i 1).isLt, (i 2).isLt⟩
  rw [atE, dif_pos h, at3 i 0 ⟨_, h.1⟩ ⟨_, h.2⟩ (by show 0 = (i 0 : ℕ); omega) rfl rfl]

theorem at1_eq (x : S1x2048.Idx → EReal) (i : S1x2048.Idx) : x i = at1 x (i 1) := by
  have z0 : ((i 0 : Fin _) : ℕ) < 1 := (i 0).isLt
  have h : (i 1 : ℕ) < 2048 := (i 1).isLt
  rw [at1, dif_pos h, at2 i 0 ⟨_, h⟩ (by show 0 = (i 0 : ℕ); omega) rfl]

/-- The arguments' real parts. -/
abbrev args : Args where
  P r k := (atE (A0 m c) r k).toReal
  O r k := (atE (A1 m c) r k).toReal
  T k := (at1 (A2 m c) k).toReal
  G k := (at1 (A3 m c) k).toReal
  S k := (at1 (A4 m c) k).toReal
  H r k := (atE (A6 m c) r k).toReal

/-- What the precondition says of the arguments. -/
structure Fin1 : Prop where
  p : ∀ i, max (A0 m c i) (-A0 m c i) < ⊤
  o : ∀ i, max (A1 m c i) (-A1 m c i) < ⊤
  t : ∀ i, max (A2 m c i) (-A2 m c i) < ⊤
  g : ∀ i, max (A3 m c i) (-A3 m c i) < ⊤
  s : ∀ i, max (A4 m c i) (-A4 m c i) < ⊤
  h : ∀ i, max (A6 m c i) (-A6 m c i) < ⊤

theorem realE {x : S1x2048x2048.Idx → EReal} (f : ∀ i, max (x i) (-x i) < ⊤) (i : S1x2048x2048.Idx) :
    x i = (((atE x (i 1) (i 2)).toReal : ℝ) : EReal) := by rw [← atE_eq]; exact toReal_of_abs (f i)
theorem real1 {x : S1x2048.Idx → EReal} (f : ∀ i, max (x i) (-x i) < ⊤) (i : S1x2048.Idx) :
    x i = (((at1 x (i 1)).toReal : ℝ) : EReal) := by rw [← at1_eq]; exact toReal_of_abs (f i)

theorem real_args (f : Fin1 m c) : Cert.NormTwoBwdRefIdeal.Norm.Args' (args m c) (A0 m c) (A1 m c) (A2 m c) (A3 m c) (A4 m c) (A6 m c) :=
  ⟨realE f.p, realE f.o, real1 f.t, real1 f.g, real1 f.s, realE f.h⟩

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0]
    ∧ win0_7.index t = ![t.val, 0] ∧ win0_8.index t = ![0, 0] ∧ win0_9.index t = ![t.val, 0] :=
  (by decide +kernel : ∀ t : Fin grid0.N, _)

theorem t_lt (t : Fin cfg0.N) : t.val < 8 := lt_of_lt_of_eq t.isLt N_0

theorem blk0 (t : Fin cfg0.N) (i : S256x2048.Idx) (h : 256 * t.val + (i 0 : ℕ) < 2048) :
    iblk m c 0 t i = A6 m c (ix3 0 ⟨256 * t.val + i 0, h⟩ (i 1)) := by
  blk_point [iblk, V, idx t]
theorem blk1 (t : Fin cfg0.N) (i : S256x2048.Idx) (h : 256 * t.val + (i 0 : ℕ) < 2048) :
    iblk m c 1 t i = Cert.NormTwoBwdRefIdeal.Read.val_main_v3 (F := Ideal) (A0 m c) (A1 m c) (A2 m c) (ix3 0 ⟨256 * t.val + i 0, h⟩ (i 1)) := by
  open Cert.NormTwoBwdRefIdeal.Read in
  pointwise [val_main_v3, val_main_v2, val_main_v1, val_main_v0]
  have e0 : ((((cfg0.win 1).blk t).view.emb i) 0 : ℕ) = 256 * t.val + (i 0 : ℕ) := by blk_simp [idx t]; try omega
  have e1 : ((((cfg0.win 1).blk t).view.emb i) 1 : ℕ) = (i 1 : ℕ) := by blk_simp [idx t]; try omega
  blk_simp [iblk, V]
  entry_read
  pointwise
  refine congrArg₂ (· + ·) (congrArg _ (congrArg₂ (ix3 0) (Fin.ext e0) (Fin.ext e1))) (congrArg₂ (· * ·) (congrArg _ (congrArg (ix2 0) (Fin.ext e1)))
    (congrArg _ (congrArg₂ (ix3 0) (Fin.ext e0) (Fin.ext e1))))
theorem blk2 (t : Fin cfg0.N) (i : S1x2048.Idx) : iblk m c 2 t i = A3 m c (ix2 0 (i 1)) := by
  blk_point [iblk, V, idx t]
theorem blk3 (t : Fin cfg0.N) (i : S1x2048.Idx) : iblk m c 3 t i = A4 m c (ix2 0 (i 1)) := by
  blk_point [iblk, V, idx t]
theorem blk4 (t : Fin cfg0.N) (i : S256x2048.Idx) (h : 256 * t.val + (i 0 : ℕ) < 2048) :
    iblk m c 4 t i = A7 m c (ix3 0 ⟨256 * t.val + i 0, h⟩ (i 1)) := by
  blk_point [iblk, V, idx t]
theorem blk5 (t : Fin cfg0.N) (i : S256x2048.Idx) (h : 256 * t.val + (i 0 : ℕ) < 2048) :
    iblk m c 5 t i = A1 m c (ix3 0 ⟨256 * t.val + i 0, h⟩ (i 1)) := by
  blk_point [iblk, V, idx t]
theorem blk6 (t : Fin cfg0.N) (i : S1x2048.Idx) : iblk m c 6 t i = A2 m c (ix2 0 (i 1)) := by
  blk_point [iblk, V, idx t]

/-- The arguments' blocks at a grid point. -/
structure Blocks (a : Args) (D : ℕ → ℕ → EReal) (t : Fin cfg0.N) : Prop where
  h : ∀ i : S256x2048.Idx, iblk m c 0 t i = ((a.H (256 * t.val + i 0) (i 1) : ℝ) : EReal)
  x : ∀ i : S256x2048.Idx, iblk m c 1 t i = ((a.X (256 * t.val + i 0) (i 1) : ℝ) : EReal)
  g : ∀ i : S1x2048.Idx, iblk m c 2 t i = ((a.G (i 1) : ℝ) : EReal)
  s : ∀ i : S1x2048.Idx, iblk m c 3 t i = ((a.S (i 1) : ℝ) : EReal)
  d : ∀ i : S256x2048.Idx, iblk m c 4 t i = D (256 * t.val + i 0) (i 1)
  o : ∀ i : S256x2048.Idx, iblk m c 5 t i = ((a.O (256 * t.val + i 0) (i 1) : ℝ) : EReal)
  t : ∀ i : S1x2048.Idx, iblk m c 6 t i = ((a.T (i 1) : ℝ) : EReal)

theorem blocks (f : Fin1 m c) (t : Fin cfg0.N) : Blocks m c (args m c) (atE (A7 m c)) t := by
  have ht := t_lt t
  have r := real_args m c f
  constructor
  · intro i; have h0 : (i 0 : ℕ) < 256 := (i 0).isLt
    rw [blk0 m c t i (by omega)]; exact r.h _
  · intro i; have h0 : (i 0 : ℕ) < 256 := (i 0).isLt
    rw [blk1 m c t i (by omega)]; exact Cert.NormTwoBwdRefIdeal.Norm.r3 r _
  · intro i; rw [blk2 m c t i]; exact r.g _
  · intro i; rw [blk3 m c t i]; exact r.s _
  · intro i; have h0 : (i 0 : ℕ) < 256 := (i 0).isLt
    rw [blk4 m c t i (by omega)]; exact atE_eq _ _
  · intro i; have h0 : (i 0 : ℕ) < 256 := (i 0).isLt
    rw [blk5 m c t i (by omega)]; exact r.o _
  · intro i; rw [blk6 m c t i]; exact r.t _

section stages
variable {m c} {a : Args} {D : ℕ → ℕ → EReal} {t : Fin cfg0.N} (b : Blocks m c a D t)
include b

theorem p5 (i : S256x1.Idx) : k0_pay5 (iblk m c 1 t) i = ((rs a.X (256 * t.val + i 0) : ℝ) : EReal) := by
  pointwise [k0_pay5, k0_pay4]
  simp only [b.x, lit_2048, lit_eps, ← EReal.coe_mul, lift_zero, sum_coe, ← EReal.coe_add, div_real _ (2048 : ℝ) (by norm_num), zero_add]
  exact rsqrt_real _ (ms_pos a.X _)

theorem p6 (i : S256x2048.Idx) : k0_pay6 (iblk m c 1 t) i = ((xn a.X (256 * t.val + i 0) (i 1) : ℝ) : EReal) := by
  pointwise [k0_pay6, k0_pay4]
  simp only [b.x, p5 b, ← EReal.coe_mul]
  rfl

theorem p7 (i : S1x2048.Idx) : k0_pay7 (iblk m c 3 t) i = ((1 + a.S (i 1) : ℝ) : EReal) := by
  pointwise [k0_pay7]
  simp only [b.s, lit_one, lift_one, ← EReal.coe_add]

theorem p2 (i : S256x2048.Idx) : k0_pay2 (iblk m c 0 t) i = ((a.H (256 * t.val + i 0) (i 1) : ℝ) : EReal) := by
  pointwise [k0_pay2]
  exact b.h i

theorem p11 (i : S256x2048.Idx) : k0_pay11 (k0_pay2 (iblk m c 0 t)) (iblk m c 2 t) (k0_pay5 (iblk m c 1 t)) (k0_pay6 (iblk m c 1 t)) (k0_pay7 (iblk m c 3 t)) (iblk m c 4 t) i
    = D (256 * t.val + i 0) (i 1) + ((gr a.X a.E (256 * t.val + i 0) (i 1) : ℝ) : EReal) := by
  pointwise [k0_pay11]
  simp only [p2 b, p5 b, p6 b, p7 b, b.g, b.d, lit_2048, ← EReal.coe_mul, ← EReal.coe_sub, lift_zero, sum_coe, ← EReal.coe_add, div_real _ (2048 : ℝ) (by norm_num), zero_add]
  rfl

end stages

variable {m c} {a : Args} {D : ℕ → ℕ → EReal} {t : Fin cfg0.N} (b : Blocks m c a D t)
include b

theorem dx_at (y : S256x2048.Idx) : (outsAt0 m c t.val t.isLt).1 y
    = D (256 * t.val + y 0) (y 1) + ((gr a.X a.E (256 * t.val + y 0) (y 1) : ℝ) : EReal) := by
  by_cases hA : t.val % 8 = 0
  on_goal 1 => rw [outsAt0_A m c t hA]
  on_goal 2 => rw [outsAt0_B m c t hA]
  all_goals
    frame_open
    frame_out
    exact p11 b y

theorem do_at (y : S256x2048.Idx) : (outsAt0 m c t.val t.isLt).2.2 y
    = (D (256 * t.val + y 0) (y 1) + ((gr a.X a.E (256 * t.val + y 0) (y 1) : ℝ) : EReal)) * ((a.T (y 1) : ℝ) : EReal) := by
  by_cases hA : t.val % 8 = 0
  on_goal 1 => rw [outsAt0_A m c t hA]
  on_goal 2 => rw [outsAt0_B m c t hA]
  all_goals
    frame_open
    frame_out
    pointwise [k0_pay1]
    simp only [p11 b, b.t]
    rfl

/-- One block's part of the sums over the rows. -/
def Jb (a : Args) (D : ℕ → ℕ → EReal) (n q k : ℕ) : EReal := ∑ t : Fin 256, J a D q (256 * n + t) k

omit b in
theorem rows4 {r k : ℕ} (Q : Prop) (hr : r < 4) (hk : k < 2048) :
    ((3 ≤ r ∧ r < 3 + 1) ∧ 0 ≤ k ∧ k < 0 + 2048) ∨ ((2 ≤ r ∧ r < 2 + 1) ∧ 0 ≤ k ∧ k < 0 + 2048)
      ∨ ((1 ≤ r ∧ r < 1 + 1) ∧ 0 ≤ k ∧ k < 0 + 2048) ∨ ((0 ≤ r ∧ r < 0 + 1) ∧ 0 ≤ k ∧ k < 0 + 2048) ∨ Q := by
  omega

theorem vec_step (hp : t.val - 1 < cfg0.N) (hA : ¬t.val % 8 = 0) (y : S8x2048.Idx) :
    (outsAt0 m c t.val t.isLt).2.1 y = (outsAt0 m c (t.val - 1) hp).2.1 y + Jb a D t (y 0) (y 1) := by
  have hy1 : (y 1 : ℕ) < 2048 := (y 1).isLt
  rw [outsAt0_B m c t hA]
  frame_open
  simp (disch := decide) only [↓ View.readCov_skip, ↓ View.readCov_cons_toLoadRect, ↓ View.readCov_fill]
  frame_out
  by_cases hy : (y 0 : ℕ) < 4
  · rw [View.read_writes_apply_eq_canon _ _ _ _ (by
      simp only [List.exists_mem_cons_iff, Rect.mem_set_unit, Fin.forall_fin_two, Matrix.cons_val_zero, Matrix.cons_val_one]
      exact rows4 _ hy hy1)]
    canon_tiles x h using (by
      simp only [List.exists_mem_cons_iff, Rect.mem_set_unit, Fin.forall_fin_two, Matrix.cons_val_zero, Matrix.cons_val_one]
      exact rows4 _ hy hy1)
    all_goals
      pointwise [k0_pay8, k0_pay9, k0_pay10, k0_pay12]
      simp only [p2 b, p6 b, p7 b, p11 b, b.g, b.o, lift_zero, ← EReal.coe_mul]
      have xz : (x 0 : ℕ) = 0 := by omega
      refine congrArg₂ (· + ·) (congrArg _ (at2 _ _ _ (h0.trans (by rw [xz]; rfl)).symm h1.symm)) ?_
      simp only [Jb, J, h0, h1, xz, Nat.add_zero, Nat.zero_add, reduceIte, Nat.one_ne_zero, Nat.reduceEqDiff, OfNat.ofNat_ne_zero, OfNat.ofNat_ne_one]
      rfl
  · rw [read_writes_of_not_mem _ _ _ _ (by
      simp only [List.forall_mem_cons, Rect.mem_set_unit, Fin.forall_fin_two, Matrix.cons_val_zero, Matrix.cons_val_one, List.not_mem_nil, false_implies, implies_true, and_true]
      omega)]
    rw [show Jb a D t (y 0) (y 1) = 0 by
      simp only [Jb, J, if_neg (show ¬ (y 0 : ℕ) = 0 by omega), if_neg (show ¬ (y 0 : ℕ) = 1 by omega), if_neg (show ¬ (y 0 : ℕ) = 2 by omega), if_neg (show ¬ (y 0 : ℕ) = 3 by omega), Finset.sum_const_zero],
      Memref.IsWhole.read_unread, add_zero]

omit b in
theorem fill8 (y : S8x2048.Idx) : k0_pay3 (F := Ideal) y = ((0 : ℝ) : EReal) := by
  pointwise [k0_pay3]; rfl

theorem vec_reset (hA : t.val % 8 = 0) (y : S8x2048.Idx) : (outsAt0 m c t.val t.isLt).2.1 y = Jb a D t (y 0) (y 1) := by
  have hy1 : (y 1 : ℕ) < 2048 := (y 1).isLt
  rw [outsAt0_A m c t hA]
  frame_open
  simp (disch := decide) only [↓ View.readCov_skip, ↓ View.readCov_cons_toLoadRect, ↓ View.readCov_fill]
  frame_out
  by_cases hy : (y 0 : ℕ) < 4
  · rw [canon_take _ _ 4 _ _ (by
        simp only [List.take_succ_cons, List.take_zero, List.exists_mem_cons_iff, Rect.mem_set_unit, Fin.forall_fin_two, Matrix.cons_val_zero, Matrix.cons_val_one]
        exact rows4 _ hy hy1)]
    simp only [List.take_succ_cons, List.take_zero]
    canon_tiles x h using (by
      simp only [List.exists_mem_cons_iff, Rect.mem_set_unit, Fin.forall_fin_two, Matrix.cons_val_zero, Matrix.cons_val_one]
      exact rows4 _ hy hy1)
    all_goals
      pointwise [k0_pay8, k0_pay9, k0_pay10, k0_pay12]
      simp only [fill8, p2 b, p6 b, p7 b, p11 b, b.g, b.o, lift_zero, ← EReal.coe_mul]
      have xz : (x 0 : ℕ) = 0 := by omega
      simp only [Jb, J, h0, h1, xz, Nat.add_zero, Nat.zero_add, reduceIte, Nat.one_ne_zero, Nat.reduceEqDiff, OfNat.ofNat_ne_zero, OfNat.ofNat_ne_one, EReal.coe_zero, zero_add]
      rfl
  · rw [canon_drop _ _ 4 _ _ (by
        simp only [List.take_succ_cons, List.take_zero, List.forall_mem_cons, Rect.mem_set_unit, Fin.forall_fin_two, Matrix.cons_val_zero, Matrix.cons_val_one, List.not_mem_nil, false_implies, implies_true, and_true]
        omega)]
    simp only [List.drop_succ_cons, List.drop_zero]
    rw [View.canon_cons_unit_lit _ _ _ (by decide), fill8, show Jb a D t (y 0) (y 1) = 0 by
      simp only [Jb, J, if_neg (show ¬ (y 0 : ℕ) = 0 by omega), if_neg (show ¬ (y 0 : ℕ) = 1 by omega), if_neg (show ¬ (y 0 : ℕ) = 2 by omega), if_neg (show ¬ (y 0 : ℕ) = 3 by omega), Finset.sum_const_zero]]
    rfl

end Cert.NormTwoBwdIdeal.Norm
end
-- ==== Proof.NormTwoFinal.lean ====
module

public import proofs.«01_k».proof.Defs
public import proofs.«01_k».proof.Proof.NormTwoValue

set_option maxRecDepth 16384
set_option pp.maxSteps 2000

@[expose] public section

/-! The second norm's three arrays after the last grid point, and what the precondition says. -/

noncomputable section
open Idealize.ShloMosaic Idealize.ShloMosaic.TcCoe Idealize.SL.Sem
namespace Cert.NormTwoBwdIdeal.Norm
open Cert.NormTwoBwdIdeal Cert.NormTwoBwdIdeal.Gen Cert.Rms Cert.Reals
open Cert.NormTwoBwdRefIdeal.Norm (Args J)

variable (m : (ℓ : Loc nD τ sig) → Buf (Elt Ideal) ℓ) (c : Dev nD)

theorem fin_of_pre [hP : Cert.Pre_finite_norm_two_bwd.Facts] (h : Cert.Pre_NormTwoBwdIdeal_finite_norm_two_bwd m) : Fin1 m c := by
  obtain ⟨h0, h1, h2, h3, h4, h5⟩ := h c
  exact ⟨fun i => abs_lt_of_bit (congrFun h0 i), fun i => abs_lt_of_bit (congrFun h1 i), fun i => abs_lt_of_bit (congrFun h2 i),
    fun i => abs_lt_of_bit (congrFun h3 i), fun i => abs_lt_of_bit (congrFun h4 i), fun i => abs_lt_of_bit (congrFun h5 i)⟩

variable (f : Fin1 m c)
include f

theorem vec_upto (n : ℕ) (h : n < cfg0.N) (y : S8x2048.Idx) :
    (outsAt0 m c n h).2.1 y = ∑ i ∈ Finset.range (n + 1), Jb (args m c) (atE (A7 m c)) i (y 0) (y 1) :=
  upto (fun n h => (outsAt0 m c n h).2.1 y) (fun i => Jb (args m c) (atE (A7 m c)) i (y 0) (y 1))
    (fun h => vec_reset (t := ⟨0, h⟩) (blocks m c f _) rfl y)
    (fun n h => vec_step (t := ⟨n + 1, h⟩) (blocks m c f _) (by show n < _; omega)
      (by have := lt_of_lt_of_eq h N_0; show ¬ (n + 1) % 8 = 0; omega) y) n h

theorem final7 : (dats m 0 c).arrAt 7 cfg0.N
    = Cert.NormTwoBwdRefIdeal.Read.val_main_v72 (F := Ideal) (A0 m c) (A1 m c) (A2 m c) (A3 m c) (A4 m c) (A6 m c) (A7 m c) := by
  refine (dats m 0 c).arrAt_eq_of_covers 7 _ (by decide +kernel) fun t _ y => ?_
  have ht := t_lt t
  have e0 : ((((cfg0.win 7).blk t).view.emb y) 0 : ℕ) = 256 * t.val + (y 0 : ℕ) := by blk_simp [idx t]; try omega
  have e1 : ((((cfg0.win 7).blk t).view.emb y) 1 : ℕ) = (y 1 : ℕ) := by blk_simp [idx t]; try omega
  rw [Cert.NormTwoBwdRefIdeal.Norm.r72 (A7 m c) (real_args m c f) (atE (A7 m c)) (atE_eq _)]
  rw [e0, e1]
  blk_simp
  rw [after0_7]
  exact dx_at (blocks m c f t) y

theorem final9 : (dats m 0 c).arrAt 9 cfg0.N
    = Cert.NormTwoBwdRefIdeal.Read.val_main_v76 (F := Ideal) (A0 m c) (A1 m c) (A2 m c) (A3 m c) (A4 m c) (A6 m c) (A7 m c) := by
  refine (dats m 0 c).arrAt_eq_of_covers 9 _ (by decide +kernel) fun t _ y => ?_
  have ht := t_lt t
  have e0 : ((((cfg0.win 9).blk t).view.emb y) 0 : ℕ) = 256 * t.val + (y 0 : ℕ) := by blk_simp [idx t]; try omega
  have e1 : ((((cfg0.win 9).blk t).view.emb y) 1 : ℕ) = (y 1 : ℕ) := by blk_simp [idx t]; try omega
  rw [Cert.NormTwoBwdRefIdeal.Norm.r76 (A7 m c) (real_args m c f) (atE (A7 m c)) (atE_eq _)]
  rw [e0, e1]
  blk_simp
  rw [after0_9, mul_comm]
  exact do_at (blocks m c f t) y

theorem final8 : (dats m 0 c).arrAt 8 cfg0.N
    = Cert.NormTwoBwdRefIdeal.Read.val_main_v74 (F := Ideal) (A0 m c) (A1 m c) (A2 m c) (A3 m c) (A4 m c) (A6 m c) (A7 m c) := by
  refine (dats m 0 c).arrAt_eq_of_after_last 8 t0_7 (by decide +kernel) _ fun j => ?_
  rw [Cert.NormTwoBwdRefIdeal.Norm.r74 (A7 m c) (real_args m c f) (atE (A7 m c)) (atE_eq _)]
  blk_simp
  rw [after0_8]
  refine (vec_upto m c f 7 _ j).trans ?_
  rw [Finset.sum_range]
  exact (sum_rows (fun r => J (args m c) (atE (A7 m c)) (j 0) r (j 1))).symm

end Cert.NormTwoBwdIdeal.Norm
end
-- ==== Proof.NormOneRef.lean ====
module

public import proofs.«01_k».proof.Proof.Gen.NormOneBwdRefIdeal.Read
public import proofs.«01_k».proof.Proof.RmsModel

set_option maxRecDepth 16384
set_option pp.maxSteps 2000

@[expose] public section

/-! What the gradient of the first norm's forward lines computes, stage by stage. -/

noncomputable section
open Idealize.ShloMosaic Idealize.ShloMosaic.TcCoe Idealize.SL.Sem
namespace Cert.NormOneBwdRefIdeal.Norm
open Cert.NormOneBwdRefIdeal Cert.NormOneBwdRefIdeal.Read Cert.Rms Cert.Reals

/-- The finite arguments' real numbers: input, norm scale, modulation scale, cotangent. -/
structure Args where
  P : ℕ → ℕ → ℝ
  G : ℕ → ℝ
  S : ℕ → ℝ
  H : ℕ → ℕ → ℝ

def Args.E (a : Args) (r k : ℕ) : ℝ := a.H r k * (1 + a.S k) * a.G k

structure Args' (a : Args) (x0 : FVec Ideal S1x2048x2048 .f32) (x1 x2 : FVec Ideal S1x2048 .f32)
    (x4 : FVec Ideal S1x2048x2048 .f32) : Prop where
  p : ∀ i, x0 i = ((a.P (i 1) (i 2) : ℝ) : EReal)
  g : ∀ i, x1 i = ((a.G (i 1) : ℝ) : EReal)
  s : ∀ i, x2 i = ((a.S (i 1) : ℝ) : EReal)
  h : ∀ i, x4 i = ((a.H (i 1) (i 2) : ℝ) : EReal)

variable {a : Args} {x0 : FVec Ideal S1x2048x2048 .f32} {x1 x2 : FVec Ideal S1x2048 .f32}
    {x4 : FVec Ideal S1x2048x2048 .f32} (x5 : FVec Ideal S1x2048x2048 .f32) (h : Args' a x0 x1 x2 x4)
include h

theorem r7 (i : S1x2048x1.Idx) : val_main_v7 (F := Ideal) x0 i = ((ms a.P (i 1) : ℝ) : EReal) := by
  pointwise [val_main_v7, val_main_v6, val_main_cst_1, val_main_v5, val_main_v4, val_main_cst_0, val_main_v3, val_main_v2, val_main_cst, val_main_v1]
  simp only [h.p, lit_2048, lit_eps, ← EReal.coe_mul, lift_zero, sum_coe, ← EReal.coe_add, div_real _ (2048 : ℝ) (by norm_num), zero_add]
  rfl

theorem r8 (i : S1x2048x1.Idx) : val_main_v8 (F := Ideal) x0 i = ((rs a.P (i 1) : ℝ) : EReal) := by
  pointwise [val_main_v8]
  rw [r7 h, rsqrt_real _ (ms_pos _ _)]
  rfl

theorem r11 (i : S1x2048x1.Idx) : val_main_v11 (F := Ideal) x0 i = ((-(1 / 2) * (rs a.P (i 1) / ms a.P (i 1)) : ℝ) : EReal) := by
  pointwise [val_main_v11, val_main_v10, val_main_cst_2, val_main_v9]
  rw [r7 h, r8 h, div_real _ _ (ms_pos _ _).ne', lit_neg_half, ← EReal.coe_mul]

theorem r13 (i : S1x2048x2048.Idx) : val_main_v13 (F := Ideal) x0 i = ((xn a.P (i 1) (i 2) : ℝ) : EReal) := by
  pointwise [val_main_v13, val_main_v12]
  simp only [h.p, r8 h, ← EReal.coe_mul]
  rfl

theorem r41 (i : S1x2048x2048.Idx) : val_main_v41 (F := Ideal) x1 x2 x4 i = ((a.E (i 1) (i 2) : ℝ) : EReal) := by
  pointwise [val_main_v41, val_main_v40, val_main_v34, val_main_v33, val_main_v25, val_main_v19, val_main_v18, val_main_cst_3, val_main_v17, val_main_v14, val_main_v0]
  simp only [h.g, h.s, h.h, lift_one, lit_one, ← EReal.coe_add, ← EReal.coe_mul]
  rfl

theorem r45 (i : S1x2048x1.Idx) : val_main_v45 (F := Ideal) x0 x1 x2 x4 i = ((∑ j : Fin 2048, a.P (i 1) j * a.E (i 1) j : ℝ) : EReal) := by
  pointwise [val_main_v45, val_main_v44, val_main_v43, val_main_cst_10]
  simp only [h.p, r41 h, ← EReal.coe_mul, lift_zero, sum_coe, ← EReal.coe_add, zero_add]
  rfl

theorem r54 (i : S1x2048x2048.Idx) : val_main_v54 (F := Ideal) x0 x1 x2 x4 i = ((cf a.P a.E (i 1) : ℝ) : EReal) := by
  pointwise [val_main_v54, val_main_v53]
  rw [val_main_v52]
  pointwise [val_main_cst_12]
  rw [red_02]
  pointwise [val_main_v51, val_main_v50, val_main_cst_11, val_main_v49]
  simp only [r45 h, r11 h, lit_2048, ← EReal.coe_mul, lift_zero, ← EReal.coe_add, zero_add, div_real _ (2048 : ℝ) (by norm_num)]
  rfl

/-- The gradient of the gated sum, the residual's cotangent added. -/
theorem r58 (i : S1x2048x2048.Idx) : val_main_v58 (F := Ideal) x0 x1 x2 x4 x5 i = x5 i + ((gr a.P a.E (i 1) (i 2) : ℝ) : EReal) := by
  pointwise [val_main_v58, val_main_v57, val_main_v56, val_main_v55, val_main_v48, val_main_v47, val_main_v46]
  simp only [r54 h, h.p, r41 h, r8 h, ← EReal.coe_mul]
  rw [add_assoc, add_assoc, ← EReal.coe_add, ← EReal.coe_add]
  exact congrArg (fun y : ℝ => x5 i + (y : EReal)) (gr_eq _ _ _ _)

theorem r60 (D : ℕ → ℕ → EReal) (hD : ∀ i, x5 i = D (i 1) (i 2)) (i : S2048x2048.Idx) :
    val_main_v60 (F := Ideal) x0 x1 x2 x4 x5 i = D (i 0) (i 1) + ((gr a.P a.E (i 0) (i 1) : ℝ) : EReal) := by
  pointwise [val_main_v60]
  rw [r58 x5 h, hD]
  rfl

/-- The three sums over the rows. -/
def J (a : Args) (q r k : ℕ) : EReal :=
  if q = 0 then ((a.H r k : ℝ) : EReal) else if q = 1 then ((a.H r k * (xn a.P r k * a.G k) : ℝ) : EReal)
  else if q = 2 then ((a.H r k * (1 + a.S k) * xn a.P r k : ℝ) : EReal)
  else 0

theorem r62 (i : S8x2048.Idx) :
    val_main_v62 (F := Ideal) x0 x1 x2 x4 i = ∑ r : Fin 2048, J a (i 0) r (i 1) := by
  have e29 : ∀ j : S1x2048.Idx, val_main_v29 (F := Ideal) x4 j = ∑ r : Fin 2048, J a 0 r (j 1) := by
    intro j
    pointwise [val_main_v29]
    rw [val_main_v28]
    pointwise [val_main_cst_5]
    rw [red_01]
    pointwise [val_main_v27, val_main_v26, val_main_cst_4]
    simp only [h.h, lit_zero, EReal.coe_zero, zero_add]
    rfl
  have e36 : ∀ j : S1x2048.Idx, val_main_v36 (F := Ideal) x0 x1 x4 j = ∑ r : Fin 2048, J a 1 r (j 1) := by
    intro j
    pointwise [val_main_v36]
    rw [val_main_v35]
    pointwise [val_main_cst_7]
    rw [red_01]
    pointwise [val_main_v32, val_main_v31, val_main_cst_6, val_main_v30, val_main_v16, val_main_v15, val_main_v14, val_main_v0, val_main_v25]
    simp only [h.h, h.g, r13 h, lit_zero, EReal.coe_zero, zero_add, ← EReal.coe_mul]
    exact Finset.sum_congr rfl fun r _ => congrArg _ (mul_comm _ _)
  have e59 : ∀ j : S1x2048.Idx, val_main_v59 (F := Ideal) x0 x2 x4 j = ∑ r : Fin 2048, J a 2 r (j 1) := by
    intro j
    pointwise [val_main_v59]
    rw [val_main_v42]
    pointwise [val_main_cst_9]
    rw [red_01]
    pointwise [val_main_v39, val_main_v38, val_main_cst_8, val_main_v37, val_main_v34, val_main_v33, val_main_v25, val_main_v19, val_main_v18, val_main_cst_3, val_main_v17]
    simp only [h.h, h.s, r13 h, lit_zero, lit_one, lift_one, EReal.coe_zero, zero_add, ← EReal.coe_mul, ← EReal.coe_add]
    exact Finset.sum_congr rfl fun r _ => congrArg _ (mul_comm _ _)
  pointwise [val_main_v62, val_main_v61, val_main_cst_13]
  simp only [e29, e36, e59]
  by_cases h0 : (i 0 : ℕ) = 0
  · rw [dif_pos (by omega)]; exact Finset.sum_congr rfl fun r _ => (congrArg (fun q : ℕ => J a q r (i 1)) h0).symm
  by_cases h1 : (i 0 : ℕ) = 1
  · rw [dif_neg (by omega), dif_pos (by omega)]; exact Finset.sum_congr rfl fun r _ => (congrArg (fun q : ℕ => J a q r (i 1)) h1).symm
  by_cases h2 : (i 0 : ℕ) = 2
  · rw [dif_neg (by omega), dif_neg (by omega), dif_pos (by omega)]; exact Finset.sum_congr rfl fun r _ => (congrArg (fun q : ℕ => J a q r (i 1)) h2).symm
  rw [dif_neg (by omega), dif_neg (by omega), dif_neg (by omega)]
  simp only [J, if_neg h0, if_neg h1, if_neg h2, Finset.sum_const_zero, lit_zero, EReal.coe_zero]

end Cert.NormOneBwdRefIdeal.Norm
end
-- ==== Proof.NormOneValue.lean ====
module

public import proofs.«01_k».proof.Proof.Gen.NormOneBwdIdeal.Value
public import proofs.«01_k».proof.Proof.NormOneRef
public import Idealize.ShloMosaic.Lib.Pipeline.ReadBack

set_option maxRecDepth 16384
set_option maxHeartbeats 1600000
set_option pp.maxSteps 2000

@[expose] public section

/-! The two arrays the first norm's kernel leaves are those of the reference's gradient. -/

noncomputable section
open Idealize.ShloMosaic Idealize.ShloMosaic.TcCoe Idealize.SL.Sem
namespace Cert.NormOneBwdIdeal.Norm
open Cert.NormOneBwdIdeal Cert.NormOneBwdIdeal.Gen Cert.Rms Cert.Reals
open Cert.NormOneBwdRefIdeal.Norm (Args J)
open Cert.GmlpBwdIdeal.Gmlp (at2 at3 canon_take canon_drop read_writes_of_not_mem)

variable (m : (ℓ : Loc nD τ sig) → Buf (Elt Ideal) ℓ) (c : Dev nD)

abbrev A0 : S1x2048x2048.Idx → EReal := m ((c : Thread nD τ).loc main_arg0)
abbrev A1 : S1x2048.Idx → EReal := m ((c : Thread nD τ).loc main_arg1)
abbrev A2 : S1x2048.Idx → EReal := m ((c : Thread nD τ).loc main_arg2)
abbrev A4 : S1x2048x2048.Idx → EReal := m ((c : Thread nD τ).loc main_arg4)
abbrev A5 : S1x2048x2048.Idx → EReal := m ((c : Thread nD τ).loc main_arg5)

/-- The entry of a matrix of one layer, of an argument that may be infinite. -/
def atE (x : S1x2048x2048.Idx → EReal) (r k : ℕ) : EReal := if h : r < 2048 ∧ k < 2048 then x (ix3 0 ⟨r, h.1⟩ ⟨k, h.2⟩) else 0
def at1 (x : S1x2048.Idx → EReal) (k : ℕ) : EReal := if h : k < 2048 then x (ix2 0 ⟨k, h⟩) else 0

theorem atE_eq (x : S1x2048x2048.Idx → EReal) (i : S1x2048x2048.Idx) : x i = atE x (i 1) (i 2) := by
  have z0 : ((i 0 : Fin _) : ℕ) < 1 := (i 0).isLt
  have h : (i 1 : ℕ) < 2048 ∧ (i 2 : ℕ) < 2048 := ⟨(i 1).isLt, (i 2).isLt⟩
  rw [atE, dif_pos h, at3 i 0 ⟨_, h.1⟩ ⟨_, h.2⟩ (by show 0 = (i 0 : ℕ); omega) rfl rfl]

theorem at1_eq (x : S1x2048.Idx → EReal) (i : S1x2048.Idx) : x i = at1 x (i 1) := by
  have z0 : ((i 0 : Fin _) : ℕ) < 1 := (i 0).isLt
  have h : (i 1 : ℕ) < 2048 := (i 1).isLt
  rw [at1, dif_pos h, at2 i 0 ⟨_, h⟩ (by show 0 = (i 0 : ℕ); omega) rfl]

/-- The arguments' real parts. -/
abbrev args : Args where
  P r k := (atE (A0 m c) r k).toReal
  G k := (at1 (A1 m c) k).toReal
  S k := (at1 (A2 m c) k).toReal
  H r k := (atE (A4 m c) r k).toReal

/-- What the precondition says of the arguments. -/
structure Fin1 : Prop where
  p : ∀ i, max (A0 m c i) (-A0 m c i) < ⊤
  g : ∀ i, max (A1 m c i) (-A1 m c i) < ⊤
  s : ∀ i, max (A2 m c i) (-A2 m c i) < ⊤
  h : ∀ i, max (A4 m c i) (-A4 m c i) < ⊤

theorem realE {x : S1x2048x2048.Idx → EReal} (f : ∀ i, max (x i) (-x i) < ⊤) (i : S1x2048x2048.Idx) :
    x i = (((atE x (i 1) (i 2)).toReal : ℝ) : EReal) := by rw [← atE_eq]; exact toReal_of_abs (f i)
theorem real1 {x : S1x2048.Idx → EReal} (f : ∀ i, max (x i) (-x i) < ⊤) (i : S1x2048.Idx) :
    x i = (((at1 x (i 1)).toReal : ℝ) : EReal) := by rw [← at1_eq]; exact toReal_of_abs (f i)

theorem real_args (f : Fin1 m c) : Cert.NormOneBwdRefIdeal.Norm.Args' (args m c) (A0 m c) (A1 m c) (A2 m c) (A4 m c) :=
  ⟨realE f.p, real1 f.g, real1 f.s, realE f.h⟩

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0] :=
  (by decide +kernel : ∀ t : Fin grid0.N, _)

theorem t_lt (t : Fin cfg0.N) : t.val < 8 := lt_of_lt_of_eq t.isLt N_0

theorem blk0 (t : Fin cfg0.N) (i : S256x2048.Idx) (h : 256 * t.val + (i 0 : ℕ) < 2048) :
    iblk m c 0 t i = A4 m c (ix3 0 ⟨256 * t.val + i 0, h⟩ (i 1)) := by
  blk_point [iblk, V, idx t]
theorem blk1 (t : Fin cfg0.N) (i : S256x2048.Idx) (h : 256 * t.val + (i 0 : ℕ) < 2048) :
    iblk m c 1 t i = A0 m c (ix3 0 ⟨256 * t.val + i 0, h⟩ (i 1)) := by
  blk_point [iblk, V, idx t]
theorem blk2 (t : Fin cfg0.N) (i : S1x2048.Idx) : iblk m c 2 t i = A1 m c (ix2 0 (i 1)) := by
  blk_point [iblk, V, idx t]
theorem blk3 (t : Fin cfg0.N) (i : S1x2048.Idx) : iblk m c 3 t i = A2 m c (ix2 0 (i 1)) := by
  blk_point [iblk, V, idx t]
theorem blk4 (t : Fin cfg0.N) (i : S256x2048.Idx) (h : 256 * t.val + (i 0 : ℕ) < 2048) :
    iblk m c 4 t i = A5 m c (ix3 0 ⟨256 * t.val + i 0, h⟩ (i 1)) := by
  blk_point [iblk, V, idx t]
/-- The arguments' blocks at a grid point. -/
structure Blocks (a : Args) (D : ℕ → ℕ → EReal) (t : Fin cfg0.N) : Prop where
  h : ∀ i : S256x2048.Idx, iblk m c 0 t i = ((a.H (256 * t.val + i 0) (i 1) : ℝ) : EReal)
  x : ∀ i : S256x2048.Idx, iblk m c 1 t i = ((a.P (256 * t.val + i 0) (i 1) : ℝ) : EReal)
  g : ∀ i : S1x2048.Idx, iblk m c 2 t i = ((a.G (i 1) : ℝ) : EReal)
  s : ∀ i : S1x2048.Idx, iblk m c 3 t i = ((a.S (i 1) : ℝ) : EReal)
  d : ∀ i : S256x2048.Idx, iblk m c 4 t i = D (256 * t.val + i 0) (i 1)

theorem blocks (f : Fin1 m c) (t : Fin cfg0.N) : Blocks m c (args m c) (atE (A5 m c)) t := by
  have ht := t_lt t
  have r := real_args m c f
  constructor
  · intro i; have h0 : (i 0 : ℕ) < 256 := (i 0).isLt
    rw [blk0 m c t i (by omega)]; exact r.h _
  · intro i; have h0 : (i 0 : ℕ) < 256 := (i 0).isLt
    rw [blk1 m c t i (by omega)]; exact r.p _
  · intro i; rw [blk2 m c t i]; exact r.g _
  · intro i; rw [blk3 m c t i]; exact r.s _
  · intro i; have h0 : (i 0 : ℕ) < 256 := (i 0).isLt
    rw [blk4 m c t i (by omega)]; exact atE_eq _ _

section stages
variable {m c} {a : Args} {D : ℕ → ℕ → EReal} {t : Fin cfg0.N} (b : Blocks m c a D t)
include b

theorem p5 (i : S256x1.Idx) : k0_pay6 (iblk m c 1 t) i = ((rs a.P (256 * t.val + i 0) : ℝ) : EReal) := by
  pointwise [k0_pay6, k0_pay5]
  simp only [b.x, lit_2048, lit_eps, ← EReal.coe_mul, lift_zero, sum_coe, ← EReal.coe_add, div_real _ (2048 : ℝ) (by norm_num), zero_add]
  exact rsqrt_real _ (ms_pos a.P _)

theorem p6 (i : S256x2048.Idx) : k0_pay7 (iblk m c 1 t) i = ((xn a.P (256 * t.val + i 0) (i 1) : ℝ) : EReal) := by
  pointwise [k0_pay7, k0_pay5]
  simp only [b.x, p5 b, ← EReal.coe_mul]
  rfl

theorem p7 (i : S1x2048.Idx) : k0_pay8 (iblk m c 3 t) i = ((1 + a.S (i 1) : ℝ) : EReal) := by
  pointwise [k0_pay8]
  simp only [b.s, lit_one, lift_one, ← EReal.coe_add]

theorem p2 (i : S256x2048.Idx) : k0_pay3 (iblk m c 0 t) i = ((a.H (256 * t.val + i 0) (i 1) : ℝ) : EReal) := by
  pointwise [k0_pay3]
  exact b.h i

theorem p11 (i : S256x2048.Idx) : k0_pay2 (k0_pay3 (iblk m c 0 t)) (iblk m c 2 t) (k0_pay6 (iblk m c 1 t)) (k0_pay7 (iblk m c 1 t)) (k0_pay8 (iblk m c 3 t)) (iblk m c 4 t) i
    = D (256 * t.val + i 0) (i 1) + ((gr a.P a.E (256 * t.val + i 0) (i 1) : ℝ) : EReal) := by
  pointwise [k0_pay2]
  simp only [p2 b, p5 b, p6 b, p7 b, b.g, b.d, lit_2048, ← EReal.coe_mul, ← EReal.coe_sub, lift_zero, sum_coe, ← EReal.coe_add, div_real _ (2048 : ℝ) (by norm_num), zero_add]
  rfl

end stages

variable {m c} {a : Args} {D : ℕ → ℕ → EReal} {t : Fin cfg0.N} (b : Blocks m c a D t)
include b

theorem dx_at (y : S256x2048.Idx) : (outsAt0 m c t.val t.isLt).1 y
    = D (256 * t.val + y 0) (y 1) + ((gr a.P a.E (256 * t.val + y 0) (y 1) : ℝ) : EReal) := by
  by_cases hA : t.val % 8 = 0
  on_goal 1 => rw [outsAt0_A m c t hA]
  on_goal 2 => rw [outsAt0_B m c t hA]
  all_goals
    frame_open
    frame_out
    exact p11 b y

/-- One block's part of the sums over the rows. -/
def Jb (a : Args) (n q k : ℕ) : EReal := ∑ t : Fin 256, J a q (256 * n + t) k

omit b in
theorem rows4 {r k : ℕ} (Q : Prop) (hr : r < 3) (hk : k < 2048) :
    ((2 ≤ r ∧ r < 2 + 1) ∧ 0 ≤ k ∧ k < 0 + 2048)
      ∨ ((1 ≤ r ∧ r < 1 + 1) ∧ 0 ≤ k ∧ k < 0 + 2048) ∨ ((0 ≤ r ∧ r < 0 + 1) ∧ 0 ≤ k ∧ k < 0 + 2048) ∨ Q := by
  omega

theorem vec_step (hp : t.val - 1 < cfg0.N) (hA : ¬t.val % 8 = 0) (y : S8x2048.Idx) :
    (outsAt0 m c t.val t.isLt).2 y = (outsAt0 m c (t.val - 1) hp).2 y + Jb a t (y 0) (y 1) := by
  have hy1 : (y 1 : ℕ) < 2048 := (y 1).isLt
  rw [outsAt0_B m c t hA]
  frame_open
  simp (disch := decide) only [↓ View.readCov_skip, ↓ View.readCov_cons_toLoadRect, ↓ View.readCov_fill]
  frame_out
  by_cases hy : (y 0 : ℕ) < 3
  · rw [View.read_writes_apply_eq_canon _ _ _ _ (by
      simp only [List.exists_mem_cons_iff, Rect.mem_set_unit, Fin.forall_fin_two, Matrix.cons_val_zero, Matrix.cons_val_one]
      exact rows4 _ hy hy1)]
    canon_tiles x h using (by
      simp only [List.exists_mem_cons_iff, Rect.mem_set_unit, Fin.forall_fin_two, Matrix.cons_val_zero, Matrix.cons_val_one]
      exact rows4 _ hy hy1)
    all_goals
      pointwise [k0_pay9, k0_pay10, k0_pay1]
      simp only [p2 b, p6 b, p7 b, b.g, lift_zero, ← EReal.coe_mul]
      have xz : (x 0 : ℕ) = 0 := by omega
      refine congrArg₂ (· + ·) (congrArg _ (at2 _ _ _ (h0.trans (by rw [xz]; rfl)).symm h1.symm)) ?_
      simp only [Jb, J, h0, h1, xz, Nat.add_zero, Nat.zero_add, reduceIte, Nat.one_ne_zero, Nat.reduceEqDiff, OfNat.ofNat_ne_zero, OfNat.ofNat_ne_one]
      rfl
  · rw [read_writes_of_not_mem _ _ _ _ (by
      simp only [List.forall_mem_cons, Rect.mem_set_unit, Fin.forall_fin_two, Matrix.cons_val_zero, Matrix.cons_val_one, List.not_mem_nil, false_implies, implies_true, and_true]
      omega)]
    rw [show Jb a t (y 0) (y 1) = 0 by
      simp only [Jb, J, if_neg (show ¬ (y 0 : ℕ) = 0 by omega), if_neg (show ¬ (y 0 : ℕ) = 1 by omega), if_neg (show ¬ (y 0 : ℕ) = 2 by omega), Finset.sum_const_zero],
      Memref.IsWhole.read_unread, add_zero]

omit b in
theorem fill8 (y : S8x2048.Idx) : k0_pay4 (F := Ideal) y = ((0 : ℝ) : EReal) := by
  pointwise [k0_pay4]; rfl

theorem vec_reset (hA : t.val % 8 = 0) (y : S8x2048.Idx) : (outsAt0 m c t.val t.isLt).2 y = Jb a t (y 0) (y 1) := by
  have hy1 : (y 1 : ℕ) < 2048 := (y 1).isLt
  rw [outsAt0_A m c t hA]
  frame_open
  simp (disch := decide) only [↓ View.readCov_skip, ↓ View.readCov_cons_toLoadRect, ↓ View.readCov_fill]
  frame_out
  by_cases hy : (y 0 : ℕ) < 3
  · rw [canon_take _ _ 3 _ _ (by
        simp only [List.take_succ_cons, List.take_zero, List.exists_mem_cons_iff, Rect.mem_set_unit, Fin.forall_fin_two, Matrix.cons_val_zero, Matrix.cons_val_one]
        exact rows4 _ hy hy1)]
    simp only [List.take_succ_cons, List.take_zero]
    canon_tiles x h using (by
      simp only [List.exists_mem_cons_iff, Rect.mem_set_unit, Fin.forall_fin_two, Matrix.cons_val_zero, Matrix.cons_val_one]
      exact rows4 _ hy hy1)
    all_goals
      pointwise [k0_pay9, k0_pay10, k0_pay1]
      simp only [fill8, p2 b, p6 b, p7 b, b.g, lift_zero, ← EReal.coe_mul]
      have xz : (x 0 : ℕ) = 0 := by omega
      simp only [Jb, J, h0, h1, xz, Nat.add_zero, Nat.zero_add, reduceIte, Nat.one_ne_zero, Nat.reduceEqDiff, OfNat.ofNat_ne_zero, OfNat.ofNat_ne_one, EReal.coe_zero, zero_add]
      rfl
  · rw [canon_drop _ _ 3 _ _ (by
        simp only [List.take_succ_cons, List.take_zero, List.forall_mem_cons, Rect.mem_set_unit, Fin.forall_fin_two, Matrix.cons_val_zero, Matrix.cons_val_one, List.not_mem_nil, false_implies, implies_true, and_true]
        omega)]
    simp only [List.drop_succ_cons, List.drop_zero]
    rw [View.canon_cons_unit_lit _ _ _ (by decide), fill8, show Jb a t (y 0) (y 1) = 0 by
      simp only [Jb, J, if_neg (show ¬ (y 0 : ℕ) = 0 by omega), if_neg (show ¬ (y 0 : ℕ) = 1 by omega), if_neg (show ¬ (y 0 : ℕ) = 2 by omega), Finset.sum_const_zero]]
    rfl

end Cert.NormOneBwdIdeal.Norm
end
-- ==== Proof.NormOneFinal.lean ====
module

public import proofs.«01_k».proof.Defs
public import proofs.«01_k».proof.Proof.NormOneValue

set_option maxRecDepth 16384
set_option pp.maxSteps 2000

@[expose] public section

/-! The first norm's two arrays after the last grid point, and what the precondition says. -/

noncomputable section
open Idealize.ShloMosaic Idealize.ShloMosaic.TcCoe Idealize.SL.Sem
namespace Cert.NormOneBwdIdeal.Norm
open Cert.NormOneBwdIdeal Cert.NormOneBwdIdeal.Gen Cert.Rms Cert.Reals
open Cert.NormOneBwdRefIdeal.Norm (Args J)

variable (m : (ℓ : Loc nD τ sig) → Buf (Elt Ideal) ℓ) (c : Dev nD)

theorem fin_of_pre [hP : Cert.Pre_finite_norm_one_bwd.Facts] (h : Cert.Pre_NormOneBwdIdeal_finite_norm_one_bwd m) : Fin1 m c := by
  obtain ⟨h0, h1, h2, h3⟩ := h c
  exact ⟨fun i => abs_lt_of_bit (congrFun h0 i), fun i => abs_lt_of_bit (congrFun h1 i), fun i => abs_lt_of_bit (congrFun h2 i),
    fun i => abs_lt_of_bit (congrFun h3 i)⟩

variable (f : Fin1 m c)
include f

theorem vec_upto (n : ℕ) (h : n < cfg0.N) (y : S8x2048.Idx) :
    (outsAt0 m c n h).2 y = ∑ i ∈ Finset.range (n + 1), Jb (args m c) i (y 0) (y 1) :=
  upto (fun n h => (outsAt0 m c n h).2 y) (fun i => Jb (args m c) i (y 0) (y 1))
    (fun h => vec_reset (t := ⟨0, h⟩) (blocks m c f _) rfl y)
    (fun n h => vec_step (t := ⟨n + 1, h⟩) (blocks m c f _) (by show n < _; omega)
      (by have := lt_of_lt_of_eq h N_0; show ¬ (n + 1) % 8 = 0; omega) y) n h

theorem final5 : (dats m 0 c).arrAt 5 cfg0.N
    = Cert.NormOneBwdRefIdeal.Read.val_main_v60 (F := Ideal) (A0 m c) (A1 m c) (A2 m c) (A4 m c) (A5 m c) := by
  refine (dats m 0 c).arrAt_eq_of_covers 5 _ (by decide +kernel) fun t _ y => ?_
  have ht := t_lt t
  have e0 : ((((cfg0.win 5).blk t).view.emb y) 0 : ℕ) = 256 * t.val + (y 0 : ℕ) := by blk_simp [idx t]; try omega
  have e1 : ((((cfg0.win 5).blk t).view.emb y) 1 : ℕ) = (y 1 : ℕ) := by blk_simp [idx t]; try omega
  rw [Cert.NormOneBwdRefIdeal.Norm.r60 (A5 m c) (real_args m c f) (atE (A5 m c)) (atE_eq _)]
  rw [e0, e1]
  blk_simp
  rw [after0_5]
  exact dx_at (blocks m c f t) y

theorem final6 : (dats m 0 c).arrAt 6 cfg0.N
    = Cert.NormOneBwdRefIdeal.Read.val_main_v62 (F := Ideal) (A0 m c) (A1 m c) (A2 m c) (A4 m c) := by
  refine (dats m 0 c).arrAt_eq_of_after_last 6 t0_7 (by decide +kernel) _ fun j => ?_
  rw [Cert.NormOneBwdRefIdeal.Norm.r62 (real_args m c f)]
  blk_simp
  rw [after0_6]
  refine (vec_upto m c f 7 _ j).trans ?_
  rw [Finset.sum_range]
  exact (sum_rows (fun r => J (args m c) (j 0) r (j 1))).symm

end Cert.NormOneBwdIdeal.Norm
end
-- ==== Proof.LossRef.lean ====
module

public import proofs.«01_k».proof.Proof.Gen.LossHeadRefIdeal.Read
public import proofs.«01_k».proof.Proof.RmsModel

set_option maxRecDepth 16384
set_option pp.maxSteps 2000

@[expose] public section

/-! What the loss and the gradient of its lines compute, stage by stage. -/

noncomputable section
open Idealize.ShloMosaic Idealize.ShloMosaic.TcCoe Idealize.SL.Sem
namespace Cert.LossHeadRefIdeal.Loss
open Cert.LossHeadRefIdeal Cert.LossHeadRefIdeal.Read Cert.Rms Cert.Reals

/-- The arguments' real numbers: residual stream, gated branch, gate, norm scale, target. -/
structure Args where
  P : ℕ → ℕ → ℝ
  O : ℕ → ℕ → ℝ
  T : ℕ → ℝ
  G : ℕ → ℝ
  L : ℕ → ℕ → ℝ

def Args.X (a : Args) (r k : ℕ) : ℝ := a.P r k + a.T k * a.O r k
/-- The difference from the target. -/
def Args.e (a : Args) (r k : ℕ) : ℝ := xn a.X r k * a.G k - a.L r k
def Args.dy (a : Args) (r k : ℕ) : ℝ := a.e r k * (1 / 2048)
def Args.E (a : Args) (r k : ℕ) : ℝ := a.dy r k * a.G k
/-- One row's loss. -/
def Args.tok (a : Args) (r : ℕ) : ℝ := 1 / 2 * ((∑ k : Fin 2048, a.e r k * a.e r k) / 2048)

structure Args' (a : Args) (x0 x1 : FVec Ideal S1x2048x2048 .f32) (x2 : FVec Ideal S1x2048 .f32) (x3 : FVec Ideal S2048 .f32)
    (x4 : FVec Ideal S1x2048x2048 .f32) : Prop where
  p : ∀ i, x0 i = ((a.P (i 1) (i 2) : ℝ) : EReal)
  o : ∀ i, x1 i = ((a.O (i 1) (i 2) : ℝ) : EReal)
  t : ∀ i, x2 i = ((a.T (i 1) : ℝ) : EReal)
  g : ∀ i, x3 i = ((a.G (i 0) : ℝ) : EReal)
  l : ∀ i, x4 i = ((a.L (i 1) (i 2) : ℝ) : EReal)

variable {a : Args} {x0 x1 : FVec Ideal S1x2048x2048 .f32} {x2 : FVec Ideal S1x2048 .f32} {x3 : FVec Ideal S2048 .f32}
    {x4 : FVec Ideal S1x2048x2048 .f32} (h : Args' a x0 x1 x2 x3 x4)
include h

theorem r3 (i : S1x2048x2048.Idx) : val_main_v3 (F := Ideal) x0 x1 x2 i = ((a.X (i 1) (i 2) : ℝ) : EReal) := by
  pointwise [val_main_v3, val_main_v2, val_main_v1, val_main_v0]
  simp only [h.p, h.o, h.t, ← EReal.coe_mul, ← EReal.coe_add]
  rfl

theorem r10 (i : S1x2048x1.Idx) : val_main_v10 (F := Ideal) x0 x1 x2 i = ((ms a.X (i 1) : ℝ) : EReal) := by
  pointwise [val_main_v10, val_main_v9, val_main_cst_1, val_main_v8, val_main_v7, val_main_cst_0, val_main_v6, val_main_v5, val_main_cst, val_main_v4]
  simp only [r3 h, lit_2048, lit_eps, ← EReal.coe_mul, lift_zero, sum_coe, ← EReal.coe_add, div_real _ (2048 : ℝ) (by norm_num), zero_add]
  rfl

theorem r11 (i : S1x2048x1.Idx) : val_main_v11 (F := Ideal) x0 x1 x2 i = ((rs a.X (i 1) : ℝ) : EReal) := by
  pointwise [val_main_v11]
  rw [r10 h, rsqrt_real _ (ms_pos _ _)]
  rfl

theorem r14 (i : S1x2048x1.Idx) : val_main_v14 (F := Ideal) x0 x1 x2 i = ((-(1 / 2) * (rs a.X (i 1) / ms a.X (i 1)) : ℝ) : EReal) := by
  pointwise [val_main_v14, val_main_v13, val_main_cst_2, val_main_v12]
  rw [r10 h, r11 h, div_real _ _ (ms_pos _ _).ne', lit_neg_half, ← EReal.coe_mul]

theorem r16 (i : S1x2048x2048.Idx) : val_main_v16 (F := Ideal) x0 x1 x2 i = ((xn a.X (i 1) (i 2) : ℝ) : EReal) := by
  pointwise [val_main_v16, val_main_v15]
  simp only [r3 h, r11 h, ← EReal.coe_mul]
  rfl

theorem r20 (i : S1x2048x2048.Idx) : val_main_v20 (F := Ideal) x0 x1 x2 x3 x4 i = ((a.e (i 1) (i 2) : ℝ) : EReal) := by
  pointwise [val_main_v20, val_main_v19, val_main_v18, val_main_v17]
  simp only [r16 h, h.g, h.l, ← EReal.coe_mul, ← EReal.coe_sub]
  rfl

theorem r28 (i : S_.Idx) : val_main_v28 (F := Ideal) x0 x1 x2 x3 x4 i = ((∑ r : Fin 2048, a.tok r : ℝ) : EReal) := by
  pointwise [val_main_v28, val_main_cst_7]
  rw [val_main_v27]
  pointwise [val_main_cst_6]
  pointwise [val_main_v26, val_main_v25, val_main_cst_5, val_main_v24, val_main_cst_4, val_main_v21]
  simp only [r20 h, Fin.sum_univ_one, lit_half, lit_2048, ← EReal.coe_mul, lift_zero, sum_coe, ← EReal.coe_add, zero_add, div_real _ (2048 : ℝ) (by norm_num)]
  rw [Finset.mul_sum]
  rfl

theorem r34 (i : S1x2048x2048.Idx) : val_main_v34 (F := Ideal) x0 x1 x2 x3 x4 i = ((a.dy (i 1) (i 2) : ℝ) : EReal) := by
  pointwise [val_main_v34, val_main_v33, val_main_v32, val_main_v31, val_main_cst_10, val_main_v30, val_main_v29, val_main_cst_8, val_main_cst_9, val_main_v23, val_main_v22, val_main_cst_3]
  simp only [r20 h, lit_half, lit_two, lit_one, lift_one, lit_2048, ← EReal.coe_mul, div_real _ (2048 : ℝ) (by norm_num)]
  refine congrArg _ ?_
  simp only [Args.dy]
  ring

theorem r39 (i : S1x2048x2048.Idx) : val_main_v39 (F := Ideal) x0 x1 x2 x3 x4 i = ((a.E (i 1) (i 2) : ℝ) : EReal) := by
  pointwise [val_main_v39, val_main_v38, val_main_v17]
  simp only [r34 h, h.g, ← EReal.coe_mul]
  rfl

theorem r43 (i : S1x2048x1.Idx) : val_main_v43 (F := Ideal) x0 x1 x2 x3 x4 i = ((∑ j : Fin 2048, a.X (i 1) j * a.E (i 1) j : ℝ) : EReal) := by
  pointwise [val_main_v43, val_main_v42, val_main_v41, val_main_cst_13]
  simp only [r3 h, r39 h, ← EReal.coe_mul, lift_zero, sum_coe, ← EReal.coe_add, zero_add]
  rfl

theorem r51 (i : S1x2048x2048.Idx) : val_main_v51 (F := Ideal) x0 x1 x2 x3 x4 i = ((cf a.X a.E (i 1) : ℝ) : EReal) := by
  pointwise [val_main_v51, val_main_v50]
  rw [val_main_v49]
  pointwise [val_main_cst_15]
  rw [red_02]
  pointwise [val_main_v48, val_main_v47, val_main_cst_14, val_main_v46]
  simp only [r43 h, r14 h, lit_2048, ← EReal.coe_mul, lift_zero, ← EReal.coe_add, zero_add, div_real _ (2048 : ℝ) (by norm_num)]
  rfl

/-- The gradient of the gated sum. -/
theorem r55 (i : S1x2048x2048.Idx) : val_main_v55 (F := Ideal) x0 x1 x2 x3 x4 i = ((gr a.X a.E (i 1) (i 2) : ℝ) : EReal) := by
  pointwise [val_main_v55, val_main_v54, val_main_v53, val_main_v52, val_main_v45, val_main_v44]
  simp only [r51 h, r3 h, r39 h, r11 h, ← EReal.coe_mul, ← EReal.coe_add, add_assoc]
  exact congrArg (fun y : ℝ => (y : EReal)) (gr_eq _ _ _ _)

theorem r68 (i : S2048x2048.Idx) : val_main_v68 (F := Ideal) x0 x1 x2 x3 x4 i = ((gr a.X a.E (i 0) (i 1) : ℝ) : EReal) := by
  pointwise [val_main_v68]
  rw [r55 h]
  rfl

theorem r70 (i : S2048x2048.Idx) : val_main_v70 (F := Ideal) x0 x1 x2 x3 x4 i
    = ((gr a.X a.E (i 0) (i 1) : ℝ) : EReal) * ((a.T (i 1) : ℝ) : EReal) := by
  pointwise [val_main_v70, val_main_v69, val_main_v57, val_main_v56, val_main_v0]
  rw [r55 h, h.t]
  exact mul_comm _ _

/-- The loss and the two sums over the rows. -/
def J (a : Args) (q r k : ℕ) : EReal :=
  if q = 0 then ((a.tok r : ℝ) : EReal) else if q = 1 then ((a.dy r k * xn a.X r k : ℝ) : EReal)
  else if q = 2 then ((gr a.X a.E r k * a.O r k : ℝ) : EReal) else 0

theorem r67 (i : S8x2048.Idx) : val_main_v67 (F := Ideal) x0 x1 x2 x3 x4 i = ∑ r : Fin 2048, J a (i 0) r (i 1) := by
  have e64 : ∀ j : S1x2048.Idx, val_main_v64 (F := Ideal) x0 x1 x2 x3 x4 j = ∑ r : Fin 2048, J a 0 r (j 1) := by
    intro j
    pointwise [val_main_v64, val_main_v63]
    rw [r28 h, ← sum_coe]
    rfl
  have e65 : ∀ j : S1x2048.Idx, val_main_v65 (F := Ideal) x0 x1 x2 x3 x4 j = ∑ r : Fin 2048, J a 1 r (j 1) := by
    intro j
    pointwise [val_main_v65]
    rw [val_main_v40]
    pointwise [val_main_cst_12]
    rw [red_01]
    pointwise [val_main_v37, val_main_v36, val_main_cst_11, val_main_v35]
    simp only [r16 h, r34 h, lit_zero, EReal.coe_zero, zero_add, ← EReal.coe_mul]
    exact Finset.sum_congr rfl fun r _ => congrArg _ (mul_comm _ _)
  have e62 : ∀ j : S1x2048.Idx, val_main_v62 (F := Ideal) x0 x1 x2 x3 x4 j = ∑ r : Fin 2048, J a 2 r (j 1) := by
    intro j
    pointwise [val_main_v62]
    rw [val_main_v61]
    pointwise [val_main_cst_17]
    rw [red_01]
    pointwise [val_main_v60, val_main_v59, val_main_cst_16, val_main_v58]
    simp only [r55 h, h.o, lit_zero, EReal.coe_zero, zero_add, ← EReal.coe_mul]
    rfl
  pointwise [val_main_v67, val_main_v66, val_main_cst_18]
  simp only [e62, e64, e65]
  by_cases h0 : (i 0 : ℕ) = 0
  · rw [dif_pos (by omega)]; exact Finset.sum_congr rfl fun r _ => (congrArg (fun q : ℕ => J a q r (i 1)) h0).symm
  by_cases h1 : (i 0 : ℕ) = 1
  · rw [dif_neg (by omega), dif_pos (by omega)]; exact Finset.sum_congr rfl fun r _ => (congrArg (fun q : ℕ => J a q r (i 1)) h1).symm
  by_cases h2 : (i 0 : ℕ) = 2
  · rw [dif_neg (by omega), dif_neg (by omega), dif_pos (by omega)]; exact Finset.sum_congr rfl fun r _ => (congrArg (fun q : ℕ => J a q r (i 1)) h2).symm
  rw [dif_neg (by omega), dif_neg (by omega), dif_neg (by omega)]
  simp only [J, if_neg h0, if_neg h1, if_neg h2, Finset.sum_const_zero, lit_zero, EReal.coe_zero]

end Cert.LossHeadRefIdeal.Loss
end
-- ==== Proof.LossValue.lean ====
module

public import proofs.«01_k».proof.Proof.Gen.LossHeadIdeal.Value
public import proofs.«01_k».proof.Proof.LossRef
public import Idealize.ShloMosaic.Lib.Pipeline.ReadBack

set_option maxRecDepth 16384
set_option maxHeartbeats 1600000
set_option pp.maxSteps 2000

@[expose] public section

/-! The three arrays the loss head's kernel leaves are those of the reference's gradient. -/

noncomputable section
open Idealize.ShloMosaic Idealize.ShloMosaic.TcCoe Idealize.SL.Sem
namespace Cert.LossHeadIdeal.Loss
open Cert.LossHeadIdeal Cert.LossHeadIdeal.Gen Cert.Rms Cert.Reals
open Cert.LossHeadRefIdeal.Loss (Args J)
open Cert.GmlpBwdIdeal.Gmlp (at2 at3 canon_take canon_drop read_writes_of_not_mem)

variable (m : (ℓ : Loc nD τ sig) → Buf (Elt Ideal) ℓ) (c : Dev nD)

abbrev A0 : S1x2048x2048.Idx → EReal := m ((c : Thread nD τ).loc main_arg0)
abbrev A1 : S1x2048x2048.Idx → EReal := m ((c : Thread nD τ).loc main_arg1)
abbrev A2 : S1x2048.Idx → EReal := m ((c : Thread nD τ).loc main_arg2)
abbrev A3 : S2048.Idx → EReal := m ((c : Thread nD τ).loc main_arg3)
abbrev A4 : S1x2048x2048.Idx → EReal := m ((c : Thread nD τ).loc main_arg4)

/-- The entry of a matrix of one layer, of an argument that may be infinite. -/
def atE (x : S1x2048x2048.Idx → EReal) (r k : ℕ) : EReal := if h : r < 2048 ∧ k < 2048 then x (ix3 0 ⟨r, h.1⟩ ⟨k, h.2⟩) else 0
def at1 (x : S1x2048.Idx → EReal) (k : ℕ) : EReal := if h : k < 2048 then x (ix2 0 ⟨k, h⟩) else 0

def atV (x : S2048.Idx → EReal) (k : ℕ) : EReal := if h : k < 2048 then x (ix1 ⟨k, h⟩) else 0

theorem atV_eq (x : S2048.Idx → EReal) (i : S2048.Idx) : x i = atV x (i 0) := by
  have h : (i 0 : ℕ) < 2048 := (i 0).isLt
  rw [atV, dif_pos h]
  exact congrArg x (eq_ix1 i)

theorem atE_eq (x : S1x2048x2048.Idx → EReal) (i : S1x2048x2048.Idx) : x i = atE x (i 1) (i 2) := by
  have z0 : ((i 0 : Fin _) : ℕ) < 1 := (i 0).isLt
  have h : (i 1 : ℕ) < 2048 ∧ (i 2 : ℕ) < 2048 := ⟨(i 1).isLt, (i 2).isLt⟩
  rw [atE, dif_pos h, at3 i 0 ⟨_, h.1⟩ ⟨_, h.2⟩ (by show 0 = (i 0 : ℕ); omega) rfl rfl]

theorem at1_eq (x : S1x2048.Idx → EReal) (i : S1x2048.Idx) : x i = at1 x (i 1) := by
  have z0 : ((i 0 : Fin _) : ℕ) < 1 := (i 0).isLt
  have h : (i 1 : ℕ) < 2048 := (i 1).isLt
  rw [at1, dif_pos h, at2 i 0 ⟨_, h⟩ (by show 0 = (i 0 : ℕ); omega) rfl]

/-- The arguments' real parts. -/
abbrev args : Args where
  P r k := (atE (A0 m c) r k).toReal
  O r k := (atE (A1 m c) r k).toReal
  T k := (at1 (A2 m c) k).toReal
  G k := (atV (A3 m c) k).toReal
  L r k := (atE (A4 m c) r k).toReal

/-- What the precondition says of the arguments. -/
structure Fin1 : Prop where
  p : ∀ i, max (A0 m c i) (-A0 m c i) < ⊤
  o : ∀ i, max (A1 m c i) (-A1 m c i) < ⊤
  t : ∀ i, max (A2 m c i) (-A2 m c i) < ⊤
  g : ∀ i, max (A3 m c i) (-A3 m c i) < ⊤
  l : ∀ i, max (A4 m c i) (-A4 m c i) < ⊤

theorem realE {x : S1x2048x2048.Idx → EReal} (f : ∀ i, max (x i) (-x i) < ⊤) (i : S1x2048x2048.Idx) :
    x i = (((atE x (i 1) (i 2)).toReal : ℝ) : EReal) := by rw [← atE_eq]; exact toReal_of_abs (f i)
theorem real1 {x : S1x2048.Idx → EReal} (f : ∀ i, max (x i) (-x i) < ⊤) (i : S1x2048.Idx) :
    x i = (((at1 x (i 1)).toReal : ℝ) : EReal) := by rw [← at1_eq]; exact toReal_of_abs (f i)

theorem realV {x : S2048.Idx → EReal} (f : ∀ i, max (x i) (-x i) < ⊤) (i : S2048.Idx) :
    x i = (((atV x (i 0)).toReal : ℝ) : EReal) := by rw [← atV_eq]; exact toReal_of_abs (f i)

theorem real_args (f : Fin1 m c) : Cert.LossHeadRefIdeal.Loss.Args' (args m c) (A0 m c) (A1 m c) (A2 m c) (A3 m c) (A4 m c) :=
  ⟨realE f.p, realE f.o, real1 f.t, realV f.g, realE f.l⟩

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0] ∧ win0_6.index t = ![t.val, 0]
    ∧ win0_7.index t = ![0, 0] :=
  (by decide +kernel : ∀ t : Fin grid0.N, _)

theorem t_lt (t : Fin cfg0.N) : t.val < 8 := lt_of_lt_of_eq t.isLt N_0

theorem blk0 (t : Fin cfg0.N) (i : S256x2048.Idx) (h : 256 * t.val + (i 0 : ℕ) < 2048) :
    iblk m c 0 t i = Cert.LossHeadRefIdeal.Read.val_main_v3 (F := Ideal) (A0 m c) (A1 m c) (A2 m c) (ix3 0 ⟨256 * t.val + i 0, h⟩ (i 1)) := by
  open Cert.LossHeadRefIdeal.Read in
  pointwise [val_main_v3, val_main_v2, val_main_v1, val_main_v0]
  have e0 : ((((cfg0.win 0).blk t).view.emb i) 0 : ℕ) = 256 * t.val + (i 0 : ℕ) := by blk_simp [idx t]; try omega
  have e1 : ((((cfg0.win 0).blk t).view.emb i) 1 : ℕ) = (i 1 : ℕ) := by blk_simp [idx t]; try omega
  blk_simp [iblk, V]
  entry_read
  pointwise
  refine congrArg₂ (· + ·) (congrArg _ (congrArg₂ (ix3 0) (Fin.ext e0) (Fin.ext e1))) (congrArg₂ (· * ·) (congrArg _ (congrArg (ix2 0) (Fin.ext e1)))
    (congrArg _ (congrArg₂ (ix3 0) (Fin.ext e0) (Fin.ext e1))))
theorem blk1 (t : Fin cfg0.N) (i : S256x2048.Idx) (h : 256 * t.val + (i 0 : ℕ) < 2048) :
    iblk m c 1 t i = A4 m c (ix3 0 ⟨256 * t.val + i 0, h⟩ (i 1)) := by
  blk_point [iblk, V, idx t]
theorem blk2 (t : Fin cfg0.N) (i : S1x2048.Idx) : iblk m c 2 t i = A3 m c (ix1 (i 1)) := by
  blk_point [iblk, V, idx t]
theorem blk3 (t : Fin cfg0.N) (i : S256x2048.Idx) (h : 256 * t.val + (i 0 : ℕ) < 2048) :
    iblk m c 3 t i = A1 m c (ix3 0 ⟨256 * t.val + i 0, h⟩ (i 1)) := by
  blk_point [iblk, V, idx t]
theorem blk4 (t : Fin cfg0.N) (i : S1x2048.Idx) : iblk m c 4 t i = A2 m c (ix2 0 (i 1)) := by
  blk_point [iblk, V, idx t]

/-- The arguments' blocks at a grid point. -/
structure Blocks (a : Args) (t : Fin cfg0.N) : Prop where
  x : ∀ i : S256x2048.Idx, iblk m c 0 t i = ((a.X (256 * t.val + i 0) (i 1) : ℝ) : EReal)
  l : ∀ i : S256x2048.Idx, iblk m c 1 t i = ((a.L (256 * t.val + i 0) (i 1) : ℝ) : EReal)
  g : ∀ i : S1x2048.Idx, iblk m c 2 t i = ((a.G (i 1) : ℝ) : EReal)
  o : ∀ i : S256x2048.Idx, iblk m c 3 t i = ((a.O (256 * t.val + i 0) (i 1) : ℝ) : EReal)
  t : ∀ i : S1x2048.Idx, iblk m c 4 t i = ((a.T (i 1) : ℝ) : EReal)

theorem blocks (f : Fin1 m c) (t : Fin cfg0.N) : Blocks m c (args m c) t := by
  have ht := t_lt t
  have r := real_args m c f
  constructor
  · intro i; have h0 : (i 0 : ℕ) < 256 := (i 0).isLt
    rw [blk0 m c t i (by omega)]; exact Cert.LossHeadRefIdeal.Loss.r3 r _
  · intro i; have h0 : (i 0 : ℕ) < 256 := (i 0).isLt
    rw [blk1 m c t i (by omega)]; exact r.l _
  · intro i; rw [blk2 m c t i]; exact r.g _
  · intro i; have h0 : (i 0 : ℕ) < 256 := (i 0).isLt
    rw [blk3 m c t i (by omega)]; exact r.o _
  · intro i; rw [blk4 m c t i]; exact r.t _

theorem lit_inv : Ideal.ofBits .f32 0x3A000000#32 = ((1 / 2048 : ℝ) : EReal) := by
  simp [Ideal.ofBits, Ideal.ieee, -EReal.coe_mul]; norm_num

section stages
variable {m c} {a : Args} {t : Fin cfg0.N} (b : Blocks m c a t)
include b

theorem p2 (i : S256x2048.Idx) : k0_pay2 (iblk m c 0 t) i = ((a.X (256 * t.val + i 0) (i 1) : ℝ) : EReal) := by
  pointwise [k0_pay2]
  exact b.x i

theorem p3 (i : S1x2048.Idx) : k0_pay3 (iblk m c 2 t) i = ((a.G (i 1) : ℝ) : EReal) := by
  pointwise [k0_pay3]
  exact b.g i

theorem p4 (i : S256x1.Idx) : k0_pay4 (iblk m c 0 t) i = ((rs a.X (256 * t.val + i 0) : ℝ) : EReal) := by
  pointwise [k0_pay4]
  simp only [p2 b, lit_2048, lit_eps, ← EReal.coe_mul, lift_zero, sum_coe, ← EReal.coe_add, div_real _ (2048 : ℝ) (by norm_num), zero_add]
  exact rsqrt_real _ (ms_pos a.X _)

theorem p5 (i : S256x2048.Idx) : k0_pay5 (iblk m c 0 t) i = ((xn a.X (256 * t.val + i 0) (i 1) : ℝ) : EReal) := by
  pointwise [k0_pay5]
  simp only [p2 b, p4 b, ← EReal.coe_mul]
  rfl

theorem p6 (i : S256x2048.Idx) : k0_pay6 (iblk m c 0 t) (iblk m c 2 t) (iblk m c 1 t) i = ((a.e (256 * t.val + i 0) (i 1) : ℝ) : EReal) := by
  pointwise [k0_pay6]
  simp only [p3 b, p5 b, b.l, ← EReal.coe_mul, ← EReal.coe_sub]
  rfl

theorem p8 (i : S256x2048.Idx) : k0_pay8 (k0_pay6 (iblk m c 0 t) (iblk m c 2 t) (iblk m c 1 t)) (Ideal.ofBits .f32 0x3A000000#32) i
    = ((a.dy (256 * t.val + i 0) (i 1) : ℝ) : EReal) := by
  pointwise [k0_pay8]
  simp only [p6 b, lit_inv, ← EReal.coe_mul]
  rfl

theorem p10 (i : S256x2048.Idx) : k0_pay10 (k0_pay3 (iblk m c 2 t)) (k0_pay4 (iblk m c 0 t)) (k0_pay5 (iblk m c 0 t)) (k0_pay6 (iblk m c 0 t) (iblk m c 2 t) (iblk m c 1 t)) (Ideal.ofBits .f32 0x3A000000#32) i
    = ((gr a.X a.E (256 * t.val + i 0) (i 1) : ℝ) : EReal) := by
  pointwise [k0_pay10]
  simp only [p3 b, p4 b, p5 b, p8 b, lit_2048, ← EReal.coe_mul, ← EReal.coe_sub, lift_zero, sum_coe, ← EReal.coe_add, div_real _ (2048 : ℝ) (by norm_num), zero_add]
  rfl

end stages

variable {m c} {a : Args} {t : Fin cfg0.N} (b : Blocks m c a t)
include b

theorem dx_at (y : S256x2048.Idx) : (outsAt0 m c t.val t.isLt).1 y = ((gr a.X a.E (256 * t.val + y 0) (y 1) : ℝ) : EReal) := by
  by_cases hA : t.val % 8 = 0
  on_goal 1 => rw [outsAt0_A m c t hA]
  on_goal 2 => rw [outsAt0_B m c t hA]
  all_goals
    frame_open
    frame_out
    exact p10 b y

theorem do_at (y : S256x2048.Idx) : (outsAt0 m c t.val t.isLt).2.1 y
    = ((gr a.X a.E (256 * t.val + y 0) (y 1) : ℝ) : EReal) * ((a.T (y 1) : ℝ) : EReal) := by
  by_cases hA : t.val % 8 = 0
  on_goal 1 => rw [outsAt0_A m c t hA]
  on_goal 2 => rw [outsAt0_B m c t hA]
  all_goals
    frame_open
    frame_out
    pointwise [k0_pay12]
    simp only [p10 b, b.t]
    rfl

/-- One block's part of the sums over the rows. -/
def Jb (a : Args) (n q k : ℕ) : EReal := ∑ t : Fin 256, J a q (256 * n + t) k

omit b in
theorem rows3 {r k : ℕ} (Q : Prop) (hr : r < 3) (hk : k < 2048) :
    ((2 ≤ r ∧ r < 2 + 1) ∧ 0 ≤ k ∧ k < 0 + 2048)
      ∨ ((1 ≤ r ∧ r < 1 + 1) ∧ 0 ≤ k ∧ k < 0 + 2048) ∨ ((0 ≤ r ∧ r < 0 + 1) ∧ 0 ≤ k ∧ k < 0 + 2048) ∨ Q := by
  omega

theorem vec_step (hp : t.val - 1 < cfg0.N) (hA : ¬t.val % 8 = 0) (y : S8x2048.Idx) :
    (outsAt0 m c t.val t.isLt).2.2 y = (outsAt0 m c (t.val - 1) hp).2.2 y + Jb a t (y 0) (y 1) := by
  have hy1 : (y 1 : ℕ) < 2048 := (y 1).isLt
  rw [outsAt0_B m c t hA]
  frame_open
  simp (disch := decide) only [↓ View.readCov_skip, ↓ View.readCov_cons_toLoadRect, ↓ View.readCov_fill]
  frame_out
  by_cases hy : (y 0 : ℕ) < 3
  · rw [View.read_writes_apply_eq_canon _ _ _ _ (by
      simp only [List.exists_mem_cons_iff, Rect.mem_set_unit, Fin.forall_fin_two, Matrix.cons_val_zero, Matrix.cons_val_one]
      exact rows3 _ hy hy1)]
    canon_tiles x h using (by
      simp only [List.exists_mem_cons_iff, Rect.mem_set_unit, Fin.forall_fin_two, Matrix.cons_val_zero, Matrix.cons_val_one]
      exact rows3 _ hy hy1)
    all_goals
      pointwise [k0_pay7, k0_pay9, k0_pay11]
      simp only [p5 b, p6 b, p8 b, p10 b, b.o, lit_half, lit_2048, lift_zero, ← EReal.coe_mul, sum_coe, ← EReal.coe_add, zero_add, div_real _ (2048 : ℝ) (by norm_num)]
      have xz : (x 0 : ℕ) = 0 := by omega
      refine congrArg₂ (· + ·) (congrArg _ (at2 _ _ _ (h0.trans (by rw [xz]; rfl)).symm h1.symm)) ?_
      simp only [Jb, J, h0, h1, xz, Nat.add_zero, Nat.zero_add, reduceIte, Nat.one_ne_zero, Nat.reduceEqDiff, OfNat.ofNat_ne_zero, OfNat.ofNat_ne_one]
      rfl
  · rw [read_writes_of_not_mem _ _ _ _ (by
      simp only [List.forall_mem_cons, Rect.mem_set_unit, Fin.forall_fin_two, Matrix.cons_val_zero, Matrix.cons_val_one, List.not_mem_nil, false_implies, implies_true, and_true]
      omega)]
    rw [show Jb a t (y 0) (y 1) = 0 by
      simp only [Jb, J, if_neg (show ¬ (y 0 : ℕ) = 0 by omega), if_neg (show ¬ (y 0 : ℕ) = 1 by omega), if_neg (show ¬ (y 0 : ℕ) = 2 by omega), Finset.sum_const_zero],
      Memref.IsWhole.read_unread, add_zero]

omit b in
theorem fill8 (y : S8x2048.Idx) : k0_pay1 (F := Ideal) y = ((0 : ℝ) : EReal) := by
  pointwise [k0_pay1]; rfl

theorem vec_reset (hA : t.val % 8 = 0) (y : S8x2048.Idx) : (outsAt0 m c t.val t.isLt).2.2 y = Jb a t (y 0) (y 1) := by
  have hy1 : (y 1 : ℕ) < 2048 := (y 1).isLt
  rw [outsAt0_A m c t hA]
  frame_open
  simp (disch := decide) only [↓ View.readCov_skip, ↓ View.readCov_cons_toLoadRect, ↓ View.readCov_fill]
  frame_out
  by_cases hy : (y 0 : ℕ) < 3
  · rw [canon_take _ _ 3 _ _ (by
        simp only [List.take_succ_cons, List.take_zero, List.exists_mem_cons_iff, Rect.mem_set_unit, Fin.forall_fin_two, Matrix.cons_val_zero, Matrix.cons_val_one]
        exact rows3 _ hy hy1)]
    simp only [List.take_succ_cons, List.take_zero]
    canon_tiles x h using (by
      simp only [List.exists_mem_cons_iff, Rect.mem_set_unit, Fin.forall_fin_two, Matrix.cons_val_zero, Matrix.cons_val_one]
      exact rows3 _ hy hy1)
    all_goals
      pointwise [k0_pay7, k0_pay9, k0_pay11]
      simp only [fill8, p5 b, p6 b, p8 b, p10 b, b.o, lit_half, lit_2048, lift_zero, ← EReal.coe_mul, sum_coe, ← EReal.coe_add, zero_add, div_real _ (2048 : ℝ) (by norm_num)]
      have xz : (x 0 : ℕ) = 0 := by omega
      simp only [Jb, J, h0, h1, xz, Nat.add_zero, Nat.zero_add, reduceIte, Nat.one_ne_zero, Nat.reduceEqDiff, OfNat.ofNat_ne_zero, OfNat.ofNat_ne_one, EReal.coe_zero, zero_add]
      rfl
  · rw [canon_drop _ _ 3 _ _ (by
        simp only [List.take_succ_cons, List.take_zero, List.forall_mem_cons, Rect.mem_set_unit, Fin.forall_fin_two, Matrix.cons_val_zero, Matrix.cons_val_one, List.not_mem_nil, false_implies, implies_true, and_true]
        omega)]
    simp only [List.drop_succ_cons, List.drop_zero]
    rw [View.canon_cons_unit_lit _ _ _ (by decide), fill8, show Jb a t (y 0) (y 1) = 0 by
      simp only [Jb, J, if_neg (show ¬ (y 0 : ℕ) = 0 by omega), if_neg (show ¬ (y 0 : ℕ) = 1 by omega), if_neg (show ¬ (y 0 : ℕ) = 2 by omega), Finset.sum_const_zero]]
    rfl

end Cert.LossHeadIdeal.Loss
end
-- ==== Proof.LossFinal.lean ====
module

public import proofs.«01_k».proof.Defs
public import proofs.«01_k».proof.Proof.LossValue

set_option maxRecDepth 16384
set_option pp.maxSteps 2000

@[expose] public section

/-! The loss head's three arrays after the last grid point, and what the precondition says. -/

noncomputable section
open Idealize.ShloMosaic Idealize.ShloMosaic.TcCoe Idealize.SL.Sem
namespace Cert.LossHeadIdeal.Loss
open Cert.LossHeadIdeal Cert.LossHeadIdeal.Gen Cert.Rms Cert.Reals
open Cert.LossHeadRefIdeal.Loss (Args J)

variable (m : (ℓ : Loc nD τ sig) → Buf (Elt Ideal) ℓ) (c : Dev nD)

theorem fin_of_pre [hP : Cert.Pre_finite_loss_head.Facts] (h : Cert.Pre_LossHeadIdeal_finite_loss_head m) : Fin1 m c := by
  obtain ⟨h0, h1, h2, h3, h4⟩ := h c
  exact ⟨fun i => abs_lt_of_bit (congrFun h0 i), fun i => abs_lt_of_bit (congrFun h1 i), fun i => abs_lt_of_bit (congrFun h2 i),
    fun i => abs_lt_of_bit (congrFun h3 i), fun i => abs_lt_of_bit (congrFun h4 i)⟩

variable (f : Fin1 m c)
include f

theorem vec_upto (n : ℕ) (h : n < cfg0.N) (y : S8x2048.Idx) :
    (outsAt0 m c n h).2.2 y = ∑ i ∈ Finset.range (n + 1), Jb (args m c) i (y 0) (y 1) :=
  upto (fun n h => (outsAt0 m c n h).2.2 y) (fun i => Jb (args m c) i (y 0) (y 1))
    (fun h => vec_reset (t := ⟨0, h⟩) (blocks m c f _) rfl y)
    (fun n h => vec_step (t := ⟨n + 1, h⟩) (blocks m c f _) (by show n < _; omega)
      (by have := lt_of_lt_of_eq h N_0; show ¬ (n + 1) % 8 = 0; omega) y) n h

theorem final5 : (dats m 0 c).arrAt 5 cfg0.N
    = Cert.LossHeadRefIdeal.Read.val_main_v68 (F := Ideal) (A0 m c) (A1 m c) (A2 m c) (A3 m c) (A4 m c) := by
  refine (dats m 0 c).arrAt_eq_of_covers 5 _ (by decide +kernel) fun t _ y => ?_
  have ht := t_lt t
  have e0 : ((((cfg0.win 5).blk t).view.emb y) 0 : ℕ) = 256 * t.val + (y 0 : ℕ) := by blk_simp [idx t]; try omega
  have e1 : ((((cfg0.win 5).blk t).view.emb y) 1 : ℕ) = (y 1 : ℕ) := by blk_simp [idx t]; try omega
  rw [Cert.LossHeadRefIdeal.Loss.r68 (real_args m c f)]
  rw [e0, e1]
  blk_simp
  rw [after0_5]
  exact dx_at (blocks m c f t) y

theorem final6 : (dats m 0 c).arrAt 6 cfg0.N
    = Cert.LossHeadRefIdeal.Read.val_main_v70 (F := Ideal) (A0 m c) (A1 m c) (A2 m c) (A3 m c) (A4 m c) := by
  refine (dats m 0 c).arrAt_eq_of_covers 6 _ (by decide +kernel) fun t _ y => ?_
  have ht := t_lt t
  have e0 : ((((cfg0.win 6).blk t).view.emb y) 0 : ℕ) = 256 * t.val + (y 0 : ℕ) := by blk_simp [idx t]; try omega
  have e1 : ((((cfg0.win 6).blk t).view.emb y) 1 : ℕ) = (y 1 : ℕ) := by blk_simp [idx t]; try omega
  rw [Cert.LossHeadRefIdeal.Loss.r70 (real_args m c f)]
  rw [e0, e1]
  blk_simp
  rw [after0_6]
  exact do_at (blocks m c f t) y

theorem final7 : (dats m 0 c).arrAt 7 cfg0.N
    = Cert.LossHeadRefIdeal.Read.val_main_v67 (F := Ideal) (A0 m c) (A1 m c) (A2 m c) (A3 m c) (A4 m c) := by
  refine (dats m 0 c).arrAt_eq_of_after_last 7 t0_7 (by decide +kernel) _ fun j => ?_
  rw [Cert.LossHeadRefIdeal.Loss.r67 (real_args m c f)]
  blk_simp
  rw [after0_7]
  refine (vec_upto m c f 7 _ j).trans ?_
  rw [Finset.sum_range]
  exact (sum_rows (fun r => J (args m c) (j 0) r (j 1))).symm

end Cert.LossHeadIdeal.Loss
end
-- ==== Proof.SwigluRef.lean ====
module

public import proofs.«01_k».proof.Proof.Gen.SwigluBwdRefIdeal.Read
public import proofs.«01_k».proof.Proof.Reals
public import Idealize.ShloMosaic.Lib.Pointwise

set_option maxRecDepth 16384
set_option pp.maxSteps 2000

@[expose] public section

/-! What the gradient of the feed-forward gate computes, stage by stage. -/

noncomputable section
open Idealize.ShloMosaic Idealize.ShloMosaic.TcCoe Idealize.SL.Sem
namespace Cert.SwigluBwdRefIdeal.Swiglu
open Cert.SwigluBwdRefIdeal Cert.SwigluBwdRefIdeal.Read Cert.Reals

/-- The arguments' real numbers: the normalized stream, the two weight matrices, the cotangent. -/
structure Args where
  H : ℕ → ℕ → ℝ
  W : ℕ → ℕ → ℝ
  U : ℕ → ℕ → ℝ
  D : ℕ → ℕ → ℝ

/-- The first product; its columns from 5632 on are the values the gate multiplies. -/
def Args.A (a : Args) (r f : ℕ) : ℝ := ∑ k : Fin 2048, a.H r k * a.W k f
def Args.sg (a : Args) (r f : ℕ) : ℝ := 1 / (1 + Real.exp (-a.A r f))
/-- The cotangent of the gated product. -/
def Args.dg (a : Args) (r f : ℕ) : ℝ := ∑ k : Fin 2048, a.D r k * a.U f k
/-- The gate's two derivatives: by its argument, by the value it multiplies. -/
def Args.fac (a : Args) (q r f : ℕ) : ℝ :=
  if q = 0 then a.A r (5632 + f) * (a.sg r f * (1 + a.A r f * (1 - a.sg r f))) else a.A r f * a.sg r f

theorem sg_pos (a : Args) (r f : ℕ) : (1 + Real.exp (-a.A r f)) ≠ 0 := by positivity

structure Args' (a : Args) (x0 : FVec Ideal S1x2048x2048 .f32) (x1 : FVec Ideal S1x2048x11264 .f32) (x2 : FVec Ideal S1x5632x2048 .f32)
    (x3 : FVec Ideal S1x2048x2048 .f32) : Prop where
  h : ∀ i, x0 i = ((a.H (i 1) (i 2) : ℝ) : EReal)
  w : ∀ i, x1 i = ((a.W (i 1) (i 2) : ℝ) : EReal)
  u : ∀ i, x2 i = ((a.U (i 1) (i 2) : ℝ) : EReal)
  d : ∀ i, x3 i = ((a.D (i 1) (i 2) : ℝ) : EReal)

variable {a : Args} {x0 : FVec Ideal S1x2048x2048 .f32} {x1 : FVec Ideal S1x2048x11264 .f32} {x2 : FVec Ideal S1x5632x2048 .f32}
    {x3 : FVec Ideal S1x2048x2048 .f32} (h : Args' a x0 x1 x2 x3)
include h

theorem r1 (i : S1x2048x11264.Idx) : val_main_v1 (F := Ideal) x0 x1 i = ((a.A (i 1) (i 2) : ℝ) : EReal) := by
  pointwise [val_main_v1, val_main_v0]
  simp only [h.h, h.w, ← EReal.coe_mul, sum_coe]
  rfl

theorem r2 (i : S1x2048x5632.Idx) : val_main_v2 (F := Ideal) x0 x1 i = ((a.A (i 1) (i 2) : ℝ) : EReal) := by
  pointwise [val_main_v2]
  rw [r1 h]
  rfl

theorem r3 (i : S1x2048x5632.Idx) : val_main_v3 (F := Ideal) x0 x1 i = ((a.A (i 1) (5632 + i 2) : ℝ) : EReal) := by
  pointwise [val_main_v3]
  rw [r1 h]
  rfl

theorem r4 (i : S1x2048x5632.Idx) : val_main_v4_2 (F := Ideal) x0 x1 i = ((a.sg (i 1) (i 2) : ℝ) : EReal) := by
  pointwise [val_main_v4_2, val_main_call0_v4, val_main_call0_cst_0, val_main_call0_v3, val_main_call0_v2, val_main_call0_cst, val_main_call0_v1, val_main_call0_v0]
  rw [r2 h]
  simp only [lit_one, lift_one, ← EReal.coe_neg, exp_real, ← EReal.coe_add, div_real _ _ (sg_pos _ _ _)]
  rfl

theorem r8 (i : S1x2048x5632.Idx) : val_main_v8 (F := Ideal) x2 x3 i = ((a.dg (i 1) (i 2) : ℝ) : EReal) := by
  pointwise [val_main_v8, val_main_v6]
  simp only [h.d, h.u, ← EReal.coe_mul, sum_coe]
  rfl

theorem r9 (i : S1x2048x5632.Idx) : val_main_v9 (F := Ideal) x0 x1 x2 x3 i = ((a.dg (i 1) (i 2) * a.fac 1 (i 1) (i 2) : ℝ) : EReal) := by
  pointwise [val_main_v9, val_main_v4_0]
  simp only [r2 h, r4 h, r8 h, ← EReal.coe_mul]
  exact congrArg _ (mul_comm _ _)

theorem r11 (i : S1x2048x5632.Idx) : val_main_v11 (F := Ideal) x0 x1 x2 x3 i = ((a.dg (i 1) (i 2) * a.fac 0 (i 1) (i 2) : ℝ) : EReal) := by
  pointwise [val_main_v11, val_main_call1_v1, val_main_call1_v2, val_main_call1_v0, val_main_v10, val_main_v4_1, val_main_call0_v7, val_main_call0_v6, val_main_call0_cst_1]
  simp only [r2 h, r3 h, r4 h, r8 h, lit_one, lift_one, ← EReal.coe_mul, ← EReal.coe_sub, ← EReal.coe_add]
  refine congrArg _ ?_
  simp only [Args.fac, if_true]
  ring

/-- Both gradients, one above the other. -/
theorem r13 (i : S2x2048x5632.Idx) : val_main_v13 (F := Ideal) x0 x1 x2 x3 i = ((a.dg (i 1) (i 2) * a.fac (i 0) (i 1) (i 2) : ℝ) : EReal) := by
  pointwise [val_main_v13, val_main_v12]
  simp only [r9 h, r11 h]
  have z0 : ((i 0 : Fin _) : ℕ) < 2 := (i 0).isLt
  by_cases h0 : (i 0 : ℕ) = 0
  · rw [dif_pos (by omega)]
    exact (congrArg (fun q : ℕ => ((a.dg (i 1) (i 2) * a.fac q (i 1) (i 2) : ℝ) : EReal)) h0).symm
  · have h1 : (i 0 : ℕ) = 1 := by omega
    rw [dif_neg (by omega)]
    exact (congrArg (fun q : ℕ => ((a.dg (i 1) (i 2) * a.fac q (i 1) (i 2) : ℝ) : EReal)) h1).symm

end Cert.SwigluBwdRefIdeal.Swiglu
end
-- ==== Proof.SwigluFactor.lean ====
module

public import proofs.«01_k».proof.Proof.Gen.SwigluBwdIdeal.Frame
public import proofs.«01_k».proof.Proof.SwigluRef
public import proofs.«01_k».proof.Proof.GmlpPieces
public import Idealize.ShloMosaic.Lib.Pipeline.ReadBack
public import Idealize.ShloMosaic.Lib.Pipeline.ValueKit

set_option maxRecDepth 16384
set_option maxHeartbeats 1600000
set_option pp.maxSteps 2000

@[expose] public section

/-! The gate's factors, as the forward call leaves them. -/

noncomputable section
open Idealize.ShloMosaic Idealize.ShloMosaic.TcCoe Idealize.SL.Sem
namespace Cert.SwigluBwdIdeal.Swiglu
open Cert.SwigluBwdIdeal Cert.SwigluBwdIdeal.Gen Cert.Reals
open Cert.SwigluBwdRefIdeal.Swiglu (Args sg_pos)
open Cert.GmlpBwdIdeal.Gmlp (at3)

variable (m : (ℓ : Loc nD τ sig) → Buf (Elt Ideal) ℓ) (ρ : Dev nD → PrngReg) (c : Dev nD)

abbrev A0 : S1x2048x2048.Idx → EReal := m ((c : Thread nD τ).loc main_arg0)
abbrev A1 : S1x2048x11264.Idx → EReal := m ((c : Thread nD τ).loc main_arg1)
abbrev A2 : S1x5632x2048.Idx → EReal := m ((c : Thread nD τ).loc main_arg2)
abbrev A3 : S1x2048x2048.Idx → EReal := m ((c : Thread nD τ).loc main_arg3)

/-- The entry of a matrix of one layer, of an argument that may be infinite. -/
def atN {n k : ℕ} (x : (⟨3, ![1, n, k]⟩ : Shape).Idx → EReal) (r f : ℕ) : EReal :=
  if h : r < n ∧ f < k then x (ix3 0 ⟨r, h.1⟩ ⟨f, h.2⟩) else 0

theorem atN_eq {n k : ℕ} (x : (⟨3, ![1, n, k]⟩ : Shape).Idx → EReal) (i : (⟨3, ![1, n, k]⟩ : Shape).Idx) : x i = atN x (i 1) (i 2) := by
  have z0 : ((i 0 : Fin _) : ℕ) < 1 := (i 0).isLt
  have h : (i 1 : ℕ) < n ∧ (i 2 : ℕ) < k := ⟨(i 1).isLt, (i 2).isLt⟩
  rw [atN, dif_pos h, at3 i 0 ⟨_, h.1⟩ ⟨_, h.2⟩ (by show 0 = (i 0 : ℕ); omega) rfl rfl]

/-- The arguments' real parts. -/
abbrev args : Args where
  H r k := (atN (A0 m c) r k).toReal
  W r k := (atN (A1 m c) r k).toReal
  U r k := (atN (A2 m c) r k).toReal
  D r k := (atN (A3 m c) r k).toReal

/-- What the precondition says of the arguments. -/
structure Fin1 : Prop where
  h : ∀ i, max (A0 m c i) (-A0 m c i) < ⊤
  w : ∀ i, max (A1 m c i) (-A1 m c i) < ⊤
  u : ∀ i, max (A2 m c i) (-A2 m c i) < ⊤
  d : ∀ i, max (A3 m c i) (-A3 m c i) < ⊤

theorem realN {n k : ℕ} {x : (⟨3, ![1, n, k]⟩ : Shape).Idx → EReal} (f : ∀ i, max (x i) (-x i) < ⊤) (i : (⟨3, ![1, n, k]⟩ : Shape).Idx) :
    x i = (((atN x (i 1) (i 2)).toReal : ℝ) : EReal) := by rw [← atN_eq]; exact toReal_of_abs (f i)

theorem real_args (f : Fin1 m c) : Cert.SwigluBwdRefIdeal.Swiglu.Args' (args m c) (A0 m c) (A1 m c) (A2 m c) (A3 m c) :=
  ⟨realN f.h, realN f.w, realN f.u, realN f.d⟩

theorem idx0 : ∀ t : Fin cfg0.N, win0_0.index t = ![t.val % 8, 0] ∧ win0_1.index t = ![t.val / 8, 0, 0] ∧ win0_2.index t = ![t.val / 8 + 4, 0, 0]
    ∧ win0_4.index t = ![0, t.val % 8, t.val / 8] :=
  (by decide +kernel : ∀ t : Fin grid0.N, _)

theorem t_lt0 (t : Fin cfg0.N) : t.val < 32 := lt_of_lt_of_eq t.isLt N_0

theorem blk0_0 (t : Fin cfg0.N) (i : S256x2048.Idx) (h : 256 * (t.val % 8) + (i 0 : ℕ) < 2048) :
    iblk0 (V1 m ρ) c 0 t i = A0 m c (ix3 0 ⟨256 * (t.val % 8) + i 0, h⟩ (i 1)) := by
  blk_point [iblk0, V1, W1, W0, s₀, idx0 t]
theorem blk0_1 (t : Fin cfg0.N) (i : S1x2048x1408.Idx) (h : 1408 * (t.val / 8) + (i 2 : ℕ) < 11264) :
    iblk0 (V1 m ρ) c 1 t i = A1 m c (ix3 0 (i 1) ⟨1408 * (t.val / 8) + i 2, h⟩) := by
  blk_point [iblk0, V1, W1, W0, s₀, idx0 t]
theorem blk0_2 (t : Fin cfg0.N) (i : S1x2048x1408.Idx) (h : 1408 * (t.val / 8 + 4) + (i 2 : ℕ) < 11264) :
    iblk0 (V1 m ρ) c 2 t i = A1 m c (ix3 0 (i 1) ⟨1408 * (t.val / 8 + 4) + i 2, h⟩) := by
  blk_point [iblk0, V1, W1, W0, s₀, idx0 t]

/-- The arguments' blocks at a grid point of the forward call. -/
structure Blocks0 (a : Args) (t : Fin cfg0.N) : Prop where
  h : ∀ i : S256x2048.Idx, iblk0 (V1 m ρ) c 0 t i = ((a.H (256 * (t.val % 8) + i 0) (i 1) : ℝ) : EReal)
  w : ∀ i : S1x2048x1408.Idx, iblk0 (V1 m ρ) c 1 t i = ((a.W (i 1) (1408 * (t.val / 8) + i 2) : ℝ) : EReal)
  v : ∀ i : S1x2048x1408.Idx, iblk0 (V1 m ρ) c 2 t i = ((a.W (i 1) (5632 + (1408 * (t.val / 8) + i 2)) : ℝ) : EReal)

theorem blocks0 (f : Fin1 m c) (t : Fin cfg0.N) : Blocks0 m ρ c (args m c) t := by
  have ht := t_lt0 t
  have r := real_args m c f
  constructor
  · intro i; have h0 : (i 0 : ℕ) < 256 := (i 0).isLt
    rw [blk0_0 m ρ c t i (by omega)]; exact r.h _
  · intro i; have h0 : (i 2 : ℕ) < 1408 := (i 2).isLt
    rw [blk0_1 m ρ c t i (by omega)]; exact r.w _
  · intro i; have h0 : (i 2 : ℕ) < 1408 := (i 2).isLt
    rw [blk0_2 m ρ c t i (by omega)]
    refine (r.w _).trans ?_
    show (((args m c).W (i 1) (1408 * (t.val / 8 + 4) + i 2) : ℝ) : EReal) = _
    rw [show 1408 * (t.val / 8 + 4) + (i 2 : ℕ) = 5632 + (1408 * (t.val / 8) + i 2) by omega]

theorem ld0 (x : Vec Ideal S256x2048 .bf16) : View.ld x r0_0 = x := View.ld_unit_lit _ _ (by decide)
theorem ld1 (x : Vec Ideal S1x2048x1408 .bf16) : View.ld x r0_1 = x := View.ld_unit_lit _ _ (by decide)

section stages
variable {m ρ c} {a : Args} {t : Fin cfg0.N} (b : Blocks0 m ρ c a t)
include b

theorem p3 (i : S256x1408.Idx) : k0_pay3 (iblk0 (V1 m ρ) c 0 t) (iblk0 (V1 m ρ) c 1 t) i
    = ((a.A (256 * (t.val % 8) + i 0) (1408 * (t.val / 8) + i 1) : ℝ) : EReal) := by
  pointwise [k0_pay3, k0_pay2]
  simp only [b.h, b.w, ← EReal.coe_mul, sum_coe, lift_zero, ← EReal.coe_add, zero_add]
  rfl

theorem p4 (i : S256x1408.Idx) : k0_pay4 (iblk0 (V1 m ρ) c 0 t) (iblk0 (V1 m ρ) c 2 t) i
    = ((a.A (256 * (t.val % 8) + i 0) (5632 + (1408 * (t.val / 8) + i 1)) : ℝ) : EReal) := by
  pointwise [k0_pay4, k0_pay2]
  simp only [b.h, b.v, ← EReal.coe_mul, sum_coe, lift_zero, ← EReal.coe_add, zero_add]
  rfl

theorem p5 (i : S256x1408.Idx) : k0_pay5 (iblk0 (V1 m ρ) c 0 t) (iblk0 (V1 m ρ) c 1 t) i
    = ((a.sg (256 * (t.val % 8) + i 0) (1408 * (t.val / 8) + i 1) : ℝ) : EReal) := by
  pointwise [k0_pay5]
  simp only [p3 b, zero_sub, lit_one, lift_one, ← EReal.coe_neg, exp_real, ← EReal.coe_add, div_real _ _ (sg_pos _ _ _)]
  rfl

/-- The two factors a grid point leaves. -/
theorem fac_at (y : S2x256x1408.Idx) : out0_4 (iblk0 (V1 m ρ) c 0 t) (iblk0 (V1 m ρ) c 1 t) (iblk0 (V1 m ρ) c 2 t) y
    = ((a.fac (y 0) (256 * (t.val % 8) + y 1) (1408 * (t.val / 8) + y 2) : ℝ) : EReal) := by
  canon_tiles x h
  all_goals
    pointwise [k0_pay1, k0_pay9, k0_pay6, k0_pay8]
    simp only [ld0, ld1]
    simp only [p3 b, p4 b, p5 b, lit_one, lift_one, ← EReal.coe_mul, ← EReal.coe_add, ← EReal.coe_sub]
    have xz : (x 0 : ℕ) = 0 := by omega
    simp only [Cert.SwigluBwdRefIdeal.Swiglu.Args.fac, h0, h1, h2, xz, reduceIte, Nat.add_zero, Nat.one_ne_zero]
    rfl

end stages

theorem factors (f : Fin1 m c) (i : S2x2048x5632.Idx) : (dat0 (V1 m ρ) c).arrAt 4 cfg0.N i
    = (((args m c).fac (i 0) (i 1) (i 2) : ℝ) : EReal) := by
  refine congrFun (?_ : _ = fun i : S2x2048x5632.Idx => (((args m c).fac (i 0) (i 1) (i 2) : ℝ) : EReal)) i
  refine (dat0 (V1 m ρ) c).arrAt_eq_of_covers 4 _ (by decide +kernel) fun t _ y => ?_
  have ht := t_lt0 t
  have e0 : ((((cfg0.win 4).blk t).view.emb y) 0 : ℕ) = (y 0 : ℕ) := by blk_simp [idx0 t]; try omega
  have e1 : ((((cfg0.win 4).blk t).view.emb y) 1 : ℕ) = 256 * (t.val % 8) + (y 1 : ℕ) := by blk_simp [idx0 t]; try omega
  have e2 : ((((cfg0.win 4).blk t).view.emb y) 2 : ℕ) = 1408 * (t.val / 8) + (y 2 : ℕ) := by blk_simp [idx0 t]; try omega
  simp only [e0, e1, e2]
  blk_simp
  rw [after0_4]
  exact fac_at (blocks0 m ρ c f t) y

end Cert.SwigluBwdIdeal.Swiglu
end
-- ==== Proof.SwigluValue.lean ====
module

public import proofs.«01_k».proof.Proof.SwigluFactor

set_option maxRecDepth 16384
set_option maxHeartbeats 1600000
set_option pp.maxSteps 2000

@[expose] public section

/-! The product with the gate's factors in its last step, and the whole program's run. -/

noncomputable section
open Idealize.ShloMosaic Idealize.ShloMosaic.TcCoe Idealize.SL.Sem
namespace Cert.SwigluBwdIdeal.Swiglu
open Cert.SwigluBwdIdeal Cert.SwigluBwdIdeal.Gen Cert.Reals
open Cert.SwigluBwdRefIdeal.Swiglu (Args sg_pos)

variable (m : (ℓ : Loc nD τ sig) → Buf (Elt Ideal) ℓ) (ρ : Dev nD → PrngReg) (c : Dev nD)

theorem idx1 : ∀ t : Fin cfg1.N, win1_0.index t = ![t.val % 4, 0] ∧ win1_1.index t = ![t.val / 4, 0] ∧ win1_2.index t = ![0, t.val % 4, t.val / 4]
    ∧ win1_3.index t = ![0, t.val % 4, t.val / 4] :=
  (by decide +kernel : ∀ t : Fin grid1.N, _)

theorem t_lt1 (t : Fin cfg1.N) : t.val < 16 := lt_of_lt_of_eq t.isLt N_1

theorem kept3 : V3 m ρ c (Pipeline.arrRef spec1 0) = V1 m ρ c main_v3 :=
  (W3_of m ρ c main_v3 (by decide)).trans (W2_of m ρ c main_v3 (by decide))
theorem kept8 : V3 m ρ c (Pipeline.arrRef spec1 2) = (dat0 (V1 m ρ) c).arrAt 4 cfg0.N :=
  (W3_of m ρ c main_v8_1 (by decide)).trans (W2_arr m ρ c 4)

theorem blk1_0 (t : Fin cfg1.N) (i : S512x2048.Idx) (h : 512 * (t.val % 4) + (i 0 : ℕ) < 2048) :
    iblk1 (V3 m ρ) c 0 t i = A3 m c (ix3 0 ⟨512 * (t.val % 4) + i 0, h⟩ (i 1)) := by
  unfold iblk1
  rw [kept3]
  blk_point [V1, W1, W0, s₀, idx1 t]
theorem blk1_1 (t : Fin cfg1.N) (i : S1408x2048.Idx) (h : 1408 * (t.val / 4) + (i 0 : ℕ) < 5632) :
    iblk1 (V3 m ρ) c 1 t i = A2 m c (ix3 0 ⟨1408 * (t.val / 4) + i 0, h⟩ (i 1)) := by
  rw [← show W2 m ρ c (Proc.devRef .tc main_arg2) = A2 m c from W2_args m ρ c main_arg2 (by decide)]
  blk_point [iblk1, V3, W3, idx1 t]
theorem blk1_2 (f : Fin1 m c) (t : Fin cfg1.N) (i : S2x512x1408.Idx) : iblk1 (V3 m ρ) c 2 t i
    = (((args m c).fac (i 0) (512 * (t.val % 4) + i 1) (1408 * (t.val / 4) + i 2) : ℝ) : EReal) := by
  have e0 : ((((cfg1.win 2).blk t).view.emb i) 0 : ℕ) = (i 0 : ℕ) := by blk_simp [idx1 t]; try omega
  have e1 : ((((cfg1.win 2).blk t).view.emb i) 1 : ℕ) = 512 * (t.val % 4) + (i 1 : ℕ) := by blk_simp [idx1 t]; try omega
  have e2 : ((((cfg1.win 2).blk t).view.emb i) 2 : ℕ) = 1408 * (t.val / 4) + (i 2 : ℕ) := by blk_simp [idx1 t]; try omega
  rw [← e0, ← e1, ← e2]
  refine Eq.trans ?_ (factors m ρ c f (((cfg1.win 2).blk t).view.emb i))
  unfold iblk1
  rw [kept8]
  rfl

/-- The arguments' and the factors' blocks at a grid point of the backward call. -/
structure Blocks1 (a : Args) (t : Fin cfg1.N) : Prop where
  d : ∀ i : S512x2048.Idx, iblk1 (V3 m ρ) c 0 t i = ((a.D (512 * (t.val % 4) + i 0) (i 1) : ℝ) : EReal)
  u : ∀ i : S1408x2048.Idx, iblk1 (V3 m ρ) c 1 t i = ((a.U (1408 * (t.val / 4) + i 0) (i 1) : ℝ) : EReal)
  f : ∀ i : S2x512x1408.Idx, iblk1 (V3 m ρ) c 2 t i = ((a.fac (i 0) (512 * (t.val % 4) + i 1) (1408 * (t.val / 4) + i 2) : ℝ) : EReal)

theorem blocks1 (f : Fin1 m c) (t : Fin cfg1.N) : Blocks1 m ρ c (args m c) t := by
  have ht := t_lt1 t
  have r := real_args m c f
  constructor
  · intro i; have h0 : (i 0 : ℕ) < 512 := (i 0).isLt
    rw [blk1_0 m ρ c t i (by omega)]; exact r.d _
  · intro i; have h0 : (i 0 : ℕ) < 1408 := (i 0).isLt
    rw [blk1_1 m ρ c t i (by omega)]; exact r.u _
  · exact blk1_2 m ρ c f t

theorem ld10 (x : Vec Ideal S512x2048 .bf16) : View.ld x r1_0 = x := View.ld_unit_lit _ _ (by decide)
theorem ld11 (x : Vec Ideal S1408x2048 .bf16) : View.ld x r1_1 = x := View.ld_unit_lit _ _ (by decide)

variable {m ρ c} {a : Args} {t : Fin cfg1.N} (b : Blocks1 m ρ c a t)

include b in
theorem q1 (i : S512x1408.Idx) : k1_pay1 (iblk1 (V3 m ρ) c 0 t) (iblk1 (V3 m ρ) c 1 t) i
    = ((a.dg (512 * (t.val % 4) + i 0) (1408 * (t.val / 4) + i 1) : ℝ) : EReal) := by
  pointwise [k1_pay1]
  simp only [b.d, b.u, ← EReal.coe_mul, sum_coe, lift_zero, ← EReal.coe_add, zero_add]
  rfl

include b in
theorem grad_at (y : S2x512x1408.Idx) : out1_3 (iblk1 (V3 m ρ) c 0 t) (iblk1 (V3 m ρ) c 1 t) (iblk1 (V3 m ρ) c 2 t) y
    = ((a.dg (512 * (t.val % 4) + y 1) (1408 * (t.val / 4) + y 2) * a.fac (y 0) (512 * (t.val % 4) + y 1) (1408 * (t.val / 4) + y 2) : ℝ) : EReal) := by
  canon_tiles x h
  all_goals
    pointwise [k1_pay2, k1_pay3]
    simp only [ld10, ld11]
    simp only [q1 b, b.f, ← EReal.coe_mul]
    have xz : (x 0 : ℕ) = 0 := by omega
    simp only [h0, h1, h2, xz, Nat.add_zero]
    rfl

variable (m ρ c)

theorem final (f : Fin1 m c) : (dat1 (V3 m ρ) c).arrAt 3 cfg1.N
    = Cert.SwigluBwdRefIdeal.Read.val_main_v13 (F := Ideal) (A0 m c) (A1 m c) (A2 m c) (A3 m c) := by
  refine (dat1 (V3 m ρ) c).arrAt_eq_of_covers 3 _ (by decide +kernel) fun t _ y => ?_
  have ht := t_lt1 t
  have e0 : ((((cfg1.win 3).blk t).view.emb y) 0 : ℕ) = (y 0 : ℕ) := by blk_simp [idx1 t]; try omega
  have e1 : ((((cfg1.win 3).blk t).view.emb y) 1 : ℕ) = 512 * (t.val % 4) + (y 1 : ℕ) := by blk_simp [idx1 t]; try omega
  have e2 : ((((cfg1.win 3).blk t).view.emb y) 2 : ℕ) = 1408 * (t.val / 4) + (y 2 : ℕ) := by blk_simp [idx1 t]; try omega
  rw [Cert.SwigluBwdRefIdeal.Swiglu.r13 (real_args m c f)]
  rw [e0, e1, e2]
  blk_simp
  rw [after1_3]
  exact grad_at (blocks1 m ρ c f t) y

end Cert.SwigluBwdIdeal.Swiglu
end
-- ==== Proof.SwigluFinal.lean ====
module
public import proofs.«01_k».proof.Defs
public import proofs.«01_k».proof.Proof.SwigluValue
import Idealize.ShloMosaic.Lib.Pointwise

@[expose] public section
set_option pp.maxSteps 2000
set_option maxRecDepth 16384
noncomputable section

namespace Cert.SwigluBwdIdeal.Swiglu
open Cert.SwigluBwdIdeal Cert.SwigluBwdIdeal.Gen Cert.Reals
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The resources of the program's run. -/
abbrev Mdl := MT nD τ sig Unit (Elt Ideal) ℕ (UR sig nD τ) ℕ

variable (m : (ℓ : Loc nD τ sig) → Buf (Elt Ideal) ℓ) (ρ : Dev nD → PrngReg) (c : Dev nD)

set_option backward.isDefEq.respectTransparency.types false in
/-- The program's run: the result array holds what the second call leaves, and the arguments are unchanged. -/
theorem run : θ_run defs (onTc (τ := τ) (main (F := Ideal))) ⟨m, fun _ => 0, ρ⟩ (fun r => ∀ c : Dev nD,
      r.2.mem ((c : Thread nD τ).loc main_v11) = (dat1 (V3 m ρ) c).arrAt 3 cfg1.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Mdl)
            ⊢ BI.own (emb₁ (initOf (Pipeline.cells cfgs cellOf_inj) (Pipeline.launchToks cfgs cellOf_inj))) from .rfl)
        iexact Hu
      iapply (show (BI.emp : sProp Mdl) ⊢ bigSep Finset.univ (fun _ : Dev nD => (BI.emp : sProp Mdl)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v11 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

/-- Finite arguments give the factors' and products' real forms. -/
theorem fin_of_pre [hP : Cert.Pre_finite_swiglu_bwd.Facts] (h : Cert.Pre_SwigluBwdIdeal_finite_swiglu_bwd m) : Fin1 m c := by
  obtain ⟨h0, h1, h2, h3⟩ := h c
  exact ⟨fun i => abs_lt_of_bit (congrFun h0 i), fun i => abs_lt_of_bit (congrFun h1 i), fun i => abs_lt_of_bit (congrFun h2 i),
    fun i => abs_lt_of_bit (congrFun h3 i)⟩

end Cert.SwigluBwdIdeal.Swiglu
end
-- ==== Proof.HgModel.lean ====
module

public import proofs.«01_k».proof.Proof.Reals

@[expose] public section

/-! The gated recurrence over real numbers: decay gates, their running logarithms in a chunk of 64 rows, the state before
each chunk and a chunk's outputs. Columns are counted over all heads, 128 to a head. -/

noncomputable section
open Idealize.ShloMosaic
namespace Cert.Hg
open Cert.Reals

/-- The real arguments: queries, forget gates' inputs, values, and the two rows of the lower bound's logits. -/
structure Args where
  Q : ℕ → ℕ → ℝ
  F : ℕ → ℕ → ℝ
  I : ℕ → ℕ → ℝ
  A : ℕ → ℝ
  B : ℕ → ℝ

variable (a : Args)

/-- The logistic function. -/
def sg (x : ℝ) : ℝ := 1 / (1 + Real.exp (-x))

theorem sg_den (x : ℝ) : 0 < 1 + Real.exp (-x) := by have := Real.exp_pos (-x); linarith
theorem sg_pos (x : ℝ) : 0 < sg x := div_pos one_pos (sg_den x)
theorem sg_lt (x : ℝ) : sg x < 1 := by
  unfold sg
  rw [div_lt_one (sg_den x)]
  have := Real.exp_pos (-x); linarith

/-- The lower bound of the forget gate. -/
def lb (k : ℕ) : ℝ := sg (a.A k - a.B k)
/-- The forget gate. -/
def fg (r k : ℕ) : ℝ := lb a k + (1 - lb a k) * sg (a.F r k)

theorem fg_pos (r k : ℕ) : 0 < fg a r k := by
  have h1 := sg_pos (a.A k - a.B k)
  have h2 := sg_lt (a.A k - a.B k)
  have h3 := sg_pos (a.F r k)
  have := mul_pos (sub_pos.mpr h2) h3
  unfold fg lb
  linarith

/-- The gate's logarithm. -/
def lf (r k : ℕ) : ℝ := Real.log (fg a r k)
/-- The key. -/
def kk (r k : ℕ) : ℝ := 1 - fg a r k
/-- The activated query. -/
def qa (r k : ℕ) : ℝ := a.Q r k * sg (a.Q r k)

/-- The gates' logarithms summed over the first rows of chunk `n`, up to row `t`. -/
def cu (n t k : ℕ) : ℝ := ∑ s : Fin 64, if (s : ℕ) ≤ t then lf a (64 * n + s) k else 0

/-- The state before chunk `n`, value column `v`, key column `k`. -/
def St : ℕ → ℕ → ℕ → ℝ
  | 0, _, _ => 0
  | n + 1, v, k => St n v k * Real.exp (cu a n 63 k)
      + ∑ s : Fin 64, a.I (64 * n + s) v * (kk a (64 * n + s) k * Real.exp (cu a n 63 k - cu a n s k))

/-- The weight of row `s` in row `t` of chunk `n`, head `h`. -/
def at' (n h t s : ℕ) : ℝ := if s ≤ t then ∑ d : Fin 128,
  qa a (64 * n + t) (128 * h + d) * kk a (64 * n + s) (128 * h + d) * Real.exp (cu a n t (128 * h + d) - cu a n s (128 * h + d)) else 0

/-- Row `t` of chunk `n`, head `h`, value column `v` of that head. -/
def ou (n h t v : ℕ) : ℝ := (∑ s : Fin 64, at' a n h t s * a.I (64 * n + s) (128 * h + v))
  + ∑ d : Fin 128, qa a (64 * n + t) (128 * h + d) * Real.exp (cu a n t (128 * h + d)) * St a n (128 * h + v) (128 * h + d)

/-- The reciprocal root of a head's mean square. -/
def rr (n h t : ℕ) : ℝ := (Real.sqrt ((∑ v : Fin 128, ou a n h t v * ou a n h t v) / 128 + eps))⁻¹

theorem ms_pos (n h t : ℕ) : 0 < (∑ v : Fin 128, ou a n h t v * ou a n h t v) / 128 + eps := by
  have : 0 ≤ ∑ v : Fin 128, ou a n h t v * ou a n h t v := Finset.sum_nonneg fun v _ => mul_self_nonneg _
  have := eps_pos
  positivity

theorem log_real (x : ℝ) (h : 0 < x) : Ideal.log (x : EReal) = ((Real.log x : ℝ) : EReal) :=
  if_neg (not_le.mpr h)

end Cert.Hg
end
-- ==== Proof.HgSums.lean ====
module

public import proofs.«01_k».proof.Proof.HgModel
public import Idealize.ShloMosaic.Lib.Pointwise

set_option maxRecDepth 16384

@[expose] public section

/-! The host's running sum, written as a sum over a window that reaches back to the first row, opened as a sum over the
rows so far; and the softmax of two logits. -/

noncomputable section
open Idealize.ShloMosaic
namespace Cert.Hg
open Cert.Reals

theorem foldl_add {ι : Type*} (L : List ι) (g : ι → EReal) (v : EReal) : L.foldl (fun r n => r + g n) v = v + (L.map g).sum := by
  induction L generalizing v with
  | nil => simp
  | cons n L ih => rw [List.foldl_cons, ih, List.map_cons, List.sum_cons, add_assoc]

theorem window_sum {s t u : Shape} (w st lo hi : Fin s.rank → Nat) (x : s.Idx → EReal) (i0 : u.Idx → EReal)
    (h : s.ReduceWindows w st lo hi t) (hu : 0 < u.numel) (j : t.Idx) (φ : FTy) (hz : i0 (Shape.Idx.first hu) = 0) :
    Host.reduceWindowAdd (F := Ideal) (φ := φ) w st lo hi x i0 h hu j
      = ∑ k : (⟨s.rank, w⟩ : Shape).Idx,
          if hin : ∀ a, lo a ≤ (j (a.cast h.1.symm)).val * st a + (k a).val ∧ (j (a.cast h.1.symm)).val * st a + (k a).val - lo a < s.size a
          then x (fun a => ⟨(j (a.cast h.1.symm)).val * st a + (k a).val - lo a, (hin a).2⟩) else 0 := by
  unfold Host.reduceWindowAdd
  simp only [Ideal.hostReduceWindowAdd_def, Ideal.hostReduceWindowAdd, Host.reduceWindow]
  rw [foldl_add, hz, zero_add, ← Fin.sum_univ_def]
  exact Equiv.sum_comp (⟨s.rank, w⟩ : Shape).rowMajor.symm (fun k => if hin : ∀ a, lo a ≤ (j (a.cast h.1.symm)).val * st a + (k a).val ∧ (j (a.cast h.1.symm)).val * st a + (k a).val - lo a < s.size a
          then x (fun a => ⟨(j (a.cast h.1.symm)).val * st a + (k a).val - lo a, (hin a).2⟩) else 0)

/-- A window of 64 rows that ends at row `t` holds the rows up to `t`. -/
theorem back_sum (t : ℕ) (ht : t < 64) (f : ℕ → EReal) :
    (∑ w : Fin 64, if 63 ≤ t + (w : ℕ) then f (t + w - 63) else 0) = ∑ s : Fin 64, if (s : ℕ) ≤ t then f s else 0 := by
  rw [← Finset.sum_filter, ← Finset.sum_filter]
  refine Finset.sum_bij' (fun w h => ⟨t + (w : ℕ) - 63, by omega⟩) (fun s h => ⟨(s : ℕ) + 63 - t, ?_⟩) ?_ ?_ ?_ ?_ ?_
  · have := (Finset.mem_filter.mp h).2; omega
  · intro w h; exact Finset.mem_filter.mpr ⟨Finset.mem_univ _, by have := (Finset.mem_filter.mp h).2; show t + (w : ℕ) - 63 ≤ t; omega⟩
  · intro s h; exact Finset.mem_filter.mpr ⟨Finset.mem_univ _, by have := (Finset.mem_filter.mp h).2; show 63 ≤ t + ((s : ℕ) + 63 - t); omega⟩
  · intro w h; have := (Finset.mem_filter.mp h).2; apply Fin.ext; show t + (w : ℕ) - 63 + 63 - t = w; omega
  · intro s h; have := (Finset.mem_filter.mp h).2; apply Fin.ext; show t + ((s : ℕ) + 63 - t) - 63 = s; omega
  · intro w h; rfl

theorem cumsum4 {A B D : ℕ} {u : Shape} (x : (⟨4, ![A, B, 64, D]⟩ : Shape).Idx → EReal) (g : ℕ → ℕ → ℕ → ℕ → EReal)
    (hx : ∀ i, x i = g (i 0) (i 1) (i 2) (i 3)) (i0 : u.Idx → EReal)
    (h : (⟨4, ![A, B, 64, D]⟩ : Shape).ReduceWindows ![1, 1, 64, 1] ![1, 1, 1, 1] ![0, 0, 63, 0] ![0, 0, 0, 0] (⟨4, ![A, B, 64, D]⟩ : Shape))
    (hu : 0 < u.numel) (j : (⟨4, ![A, B, 64, D]⟩ : Shape).Idx) (φ : FTy) (hz : i0 (Shape.Idx.first hu) = 0) :
    Host.reduceWindowAdd (F := Ideal) (φ := φ) ![1, 1, 64, 1] ![1, 1, 1, 1] ![0, 0, 63, 0] ![0, 0, 0, 0] x i0 h hu j
      = ∑ s : Fin 64, if (s : ℕ) ≤ (j 2 : ℕ) then g (j 0) (j 1) s (j 3) else 0 := by
  have l0 : (j 0 : ℕ) < A := (j 0).isLt
  have l1 : (j 1 : ℕ) < B := (j 1).isLt
  have l2 : (j 2 : ℕ) < 64 := (j 2).isLt
  have l3 : (j 3 : ℕ) < D := (j 3).isLt
  rw [window_sum _ _ _ _ _ _ _ _ _ _ hz]
  refine (sum_idx4 (n0 := 1) (n1 := 1) (n2 := 64) (n3 := 1) _).trans ?_
  rw [Fin.sum_univ_one, Fin.sum_univ_one]
  simp only [Fin.sum_univ_one]
  refine Eq.trans ?_ (back_sum (j 2) l2 (fun s => g (j 0) (j 1) s (j 3)))
  refine Finset.sum_congr rfl fun w _ => ?_
  have lw := w.isLt
  by_cases c : 63 ≤ (j 2 : ℕ) + w
  · rw [if_pos c, dif_pos (by
      intro a
      match a with
      | 0 => exact ⟨Nat.zero_le _, by show (j 0 : ℕ) * 1 + 0 - 0 < A; omega⟩
      | 1 => exact ⟨Nat.zero_le _, by show (j 1 : ℕ) * 1 + 0 - 0 < B; omega⟩
      | 2 => exact ⟨by show 63 ≤ (j 2 : ℕ) * 1 + w; omega, by show (j 2 : ℕ) * 1 + w - 63 < 64; omega⟩
      | 3 => exact ⟨Nat.zero_le _, by show (j 3 : ℕ) * 1 + 0 - 0 < D; omega⟩), hx]
    have e0 : (j 0 : ℕ) * 1 + 0 - 0 = j 0 := by omega
    have e1 : (j 1 : ℕ) * 1 + 0 - 0 = j 1 := by omega
    have e2 : (j 2 : ℕ) * 1 + w - 63 = j 2 + w - 63 := by omega
    have e3 : (j 3 : ℕ) * 1 + 0 - 0 = j 3 := by omega
    show g ((j 0 : ℕ) * 1 + 0 - 0) ((j 1 : ℕ) * 1 + 0 - 0) ((j 2 : ℕ) * 1 + w - 63) ((j 3 : ℕ) * 1 + 0 - 0) = _
    rw [e0, e1, e2, e3]
  · rw [if_neg c, dif_neg]
    intro hin
    have := (hin 2).1
    exact c (by have e : 63 ≤ (j 2 : ℕ) * 1 + w := this; omega)

theorem cumsum2_first {D : ℕ} {u : Shape} (x : (⟨2, ![2, D]⟩ : Shape).Idx → EReal) (i0 : u.Idx → EReal)
    (h : (⟨2, ![2, D]⟩ : Shape).ReduceWindows ![2, 1] ![1, 1] ![1, 0] ![0, 0] (⟨2, ![2, D]⟩ : Shape))
    (hu : 0 < u.numel) (k : Fin D) (φ : FTy) (hz : i0 (Shape.Idx.first hu) = 0) :
    Host.reduceWindowAdd (F := Ideal) (φ := φ) ![2, 1] ![1, 1] ![1, 0] ![0, 0] x i0 h hu (ix2 0 k) = x (ix2 0 k) := by
  rw [window_sum _ _ _ _ _ _ _ _ _ _ hz]
  refine (sum_idx2 (n0 := 2) (n1 := 1) _).trans ?_
  simp only [Fin.sum_univ_one, Fin.sum_univ_two]
  rw [dif_neg (by intro hin; have := (hin 0).1; exact absurd (show 1 ≤ 0 * 1 + 0 from this) (by omega)), zero_add, dif_pos (by
      intro a
      match a with
      | 0 => exact ⟨by show 1 ≤ 0 * 1 + 1; omega, by show 0 * 1 + 1 - 1 < 2; omega⟩
      | 1 => exact ⟨Nat.zero_le _, by show (k : ℕ) * 1 + 0 - 0 < D; omega⟩)]
  congr 1
  funext a
  apply Fin.ext
  match a with
  | 0 => rfl
  | 1 => show (k : ℕ) * 1 + 0 - 0 = k; omega

/-- The first of two logits' softmax is the logistic function of their difference, whatever is taken off both. -/
theorem softmax_two (x y m : ℝ) : Real.exp (x - m) / (Real.exp (x - m) + Real.exp (y - m)) = sg (x - y) := by
  have e : Real.exp (y - m) = Real.exp (x - m) * Real.exp (-(x - y)) := by rw [← Real.exp_add]; ring_nf
  have p := Real.exp_pos (x - m)
  unfold sg
  rw [e, ← mul_one_add, div_mul_eq_div_div, div_self p.ne']

end Cert.Hg
end
-- ==== Proof.HgRef.lean ====
module

public import proofs.«01_k».proof.Proof.HgSums
public import proofs.«01_k».proof.Proof.Gen.HgFwdRefIdeal.Step
public import Idealize.ShloMosaic.Lib.Pointwise

set_option maxRecDepth 16384
set_option maxHeartbeats 1600000

@[expose] public section

/-! The reference's gates, queries and keys at real arguments, laid out by chunk and head. -/

noncomputable section
open Idealize.ShloMosaic Idealize.ShloMosaic.TcCoe Idealize.SL.Sem
namespace Cert.HgFwdRefIdeal.Hg
open Cert.HgFwdRefIdeal Cert.HgFwdRefIdeal.Step Cert.Hg Cert.Reals

/-- The arguments the recurrence reads are real numbers. -/
structure Args' (a : Args) (x0 : S1x2048x10240.Idx → EReal) (x1 : S2x1024.Idx → EReal) : Prop where
  q : ∀ i, 2048 ≤ (i 2 : ℕ) → (i 2 : ℕ) < 3072 → x0 i = ((a.Q (i 1) (i 2 - 2048) : ℝ) : EReal)
  f : ∀ i, 3072 ≤ (i 2 : ℕ) → (i 2 : ℕ) < 4096 → x0 i = ((a.F (i 1) (i 2 - 3072) : ℝ) : EReal)
  i : ∀ i, 4096 ≤ (i 2 : ℕ) → (i 2 : ℕ) < 5120 → x0 i = ((a.I (i 1) (i 2 - 4096) : ℝ) : EReal)
  l : ∀ i, x1 i = ((if (i 0 : ℕ) = 0 then a.A (i 1) else a.B (i 1) : ℝ) : EReal)

theorem sg_host (x : ℝ) : Ideal.div ((1 : ℝ) : EReal) (((1 + Real.exp (-x) : ℝ)) : EReal) = ((sg x : ℝ) : EReal) :=
  div_real _ _ (sg_den x).ne'

theorem lit_bot : Ideal.ofBits .f32 0xFF800000#32 = (⊥ : EReal) := by
  simp [Ideal.ofBits, Ideal.ieee]

variable {a : Args} {x0 : S1x2048x10240.Idx → EReal} {x1 : S2x1024.Idx → EReal} (h : Args' a x0 x1)
include h

theorem maxR (i : S1024.Idx) : ∃ m : ℝ, A_main_v2 (F := Ideal) x0 x1 i = ((m : ℝ) : EReal) := by
  pointwise [A_main_v2, A_main_v0, K_main_v1, K_main_cst, K_main_cst_0]
  rw [lit_bot, show (Finset.univ : Finset (Fin 2)) = {0, 1} from rfl, Finset.fold_insert (by decide), Finset.fold_singleton, h.l, h.l]
  refine ⟨max (a.A (i 0)) (a.B (i 0)), ?_⟩
  simp only [ix2_0, ix2_1, Fin.val_zero, Fin.val_one, reduceIte, one_ne_zero, max_bot_left, max_bot_right]
  exact (EReal.coe_strictMono.monotone.map_max).symm

theorem lbR (i : S1024.Idx) : A_main_v13 (F := Ideal) x0 x1 i = ((lb a (i 0) : ℝ) : EReal) := by
  pointwise [A_main_v13, A_main_v12]
  unfold A_main_v11
  refine (cumsum2_first (A_main_v10 (F := Ideal) x0 x1) _ _ _ (i 0) .f32 (by pointwise [K_main_call0_call0_v0, K_main_call0_call0_cst, lit_zero, lift_zero])).trans ?_
  obtain ⟨m, hm⟩ := maxR h i
  pointwise [A_main_v10, A_main_v9, A_main_v8, A_main_v7, A_main_v6, A_main_v5, A_main_v4, A_main_v3, K_main_cst_1]
  simp only [hm, h.l, Fin.sum_univ_two, ix2_0, ix2_1, Fin.val_zero, Fin.val_one, reduceIte, one_ne_zero, ← EReal.coe_sub, exp_real, ← EReal.coe_add]
  rw [div_real _ _ (by positivity)]
  exact congrArg _ (softmax_two _ _ m)

theorem fgR (i : S1x2048x1024.Idx) : A_main_v30 (F := Ideal) x0 x1 i = ((fg a (i 1) (i 2) : ℝ) : EReal) := by
  pointwise [A_main_v30, A_main_v29, A_main_v28, A_main_v27, A_main_v26, A_main_v25, A_main_v24, A_main_v22, A_main_v20, A_main_v19, A_main_v18, A_main_v15,
    K_main_v17, K_main_v21, K_main_v23, K_main_cst_2, K_main_cst_3, K_main_cst_4]
  rw [lbR h, h.f _ (Nat.le_add_right _ _) (by show 3072 + (i 2 : ℕ) < 4096; have : (i 2 : ℕ) < 1024 := (i 2).isLt; omega)]
  simp only [lift_one, ← EReal.coe_neg, exp_real, ← EReal.coe_add, ← EReal.coe_sub, ← EReal.coe_mul, sg_host]
  congr 1
  show lb a (i 2) + (1 - lb a (i 2)) * sg (a.F (i 1) (3072 + (i 2 : ℕ) - 3072)) = _
  rw [Nat.add_sub_cancel_left]
  rfl

theorem lfR (i : S1x2048x1024.Idx) : A_main_v31 (F := Ideal) x0 x1 i = ((lf a (i 1) (i 2) : ℝ) : EReal) := by
  pointwise [A_main_v31]
  rw [fgR h]
  exact log_real _ (fg_pos a _ _)

theorem kkR (i : S1x2048x1024.Idx) : A_main_v33 (F := Ideal) x0 x1 i = ((kk a (i 1) (i 2) : ℝ) : EReal) := by
  pointwise [A_main_v33, K_main_v32, K_main_cst_5]
  rw [fgR h, lift_one, ← EReal.coe_sub]
  rfl

theorem qaR (i : S1x2048x1024.Idx) : A_main_v34 (F := Ideal) x0 x1 i = ((qa a (i 1) (i 2) : ℝ) : EReal) := by
  pointwise [A_main_v34, A_main_call1_v5, A_main_call1_v3, A_main_call1_v1, A_main_call1_v0, A_main_v14, K_main_call1_v2, K_main_call1_v4, K_main_call1_cst, K_main_call1_cst_0]
  rw [h.q _ (Nat.le_add_right _ _) (by show 2048 + (i 2 : ℕ) < 3072; have : (i 2 : ℕ) < 1024 := (i 2).isLt; omega)]
  simp only [lift_one, ← EReal.coe_neg, exp_real, ← EReal.coe_add, ← EReal.coe_sub, ← EReal.coe_mul, sg_host]
  congr 1
  show a.Q (i 1) (2048 + (i 2 : ℕ) - 2048) * sg (a.Q (i 1) (2048 + (i 2 : ℕ) - 2048)) = _
  rw [Nat.add_sub_cancel_left]
  rfl

theorem qR (i : S32x1x8x64x128.Idx) : A_main_v36 (F := Ideal) x0 x1 i = ((qa a (64 * i 0 + i 3) (128 * i 2 + i 4) : ℝ) : EReal) := by
  pointwise [A_main_v36, A_main_v35]
  rw [qaR h]
  simp only [ix3_1, ix3_2, Nat.mul_comm _ 64, Nat.mul_comm _ 128]

theorem kR (i : S32x1x8x64x128.Idx) : A_main_v38 (F := Ideal) x0 x1 i = ((kk a (64 * i 0 + i 3) (128 * i 2 + i 4) : ℝ) : EReal) := by
  pointwise [A_main_v38, A_main_v37]
  rw [kkR h]
  simp only [ix3_1, ix3_2, Nat.mul_comm _ 64, Nat.mul_comm _ 128]

theorem lR (i : S32x1x8x64x128.Idx) : A_main_v40 (F := Ideal) x0 x1 i = ((lf a (64 * i 0 + i 3) (128 * i 2 + i 4) : ℝ) : EReal) := by
  pointwise [A_main_v40, A_main_v39]
  rw [lfR h]
  simp only [ix3_1, ix3_2, Nat.mul_comm _ 64, Nat.mul_comm _ 128]

theorem iR (i : S32x1x8x64x128.Idx) : A_main_v42 (F := Ideal) x0 x1 i = ((a.I (64 * i 0 + i 3) (128 * i 2 + i 4) : ℝ) : EReal) := by
  have l2 : (i 2 : ℕ) < 8 := (i 2).isLt
  have l4 : (i 4 : ℕ) < 128 := (i 4).isLt
  pointwise [A_main_v42, A_main_v41, A_main_v16]
  rw [h.i _ (Nat.le_add_right _ _) (by show 4096 + ((i 2 : ℕ) * 128 + (i 4 : ℕ)) < 5120; omega)]
  simp only [ix3_1, ix3_2, Nat.mul_comm _ 64, Nat.mul_comm _ 128, Nat.add_sub_cancel_left]

end Cert.HgFwdRefIdeal.Hg
end
-- ==== Proof.HgTrip.lean ====
module

public import proofs.«01_k».proof.Proof.HgRef
public import Idealize.ShloMosaic.Lib.WordCmp

set_option maxRecDepth 16384
set_option maxHeartbeats 1600000

@[expose] public section

/-! One trip of the reference's scan at real values: the chunk's outputs and the next state. -/

noncomputable section
open Idealize.ShloMosaic Idealize.ShloMosaic.TcCoe Idealize.SL.Sem
namespace Cert.HgFwdRefIdeal.Hg
open Cert.HgFwdRefIdeal Cert.HgFwdRefIdeal.Step Cert.Hg Cert.Reals

/-- What the scan carries before chunk `n`. -/
structure Inv (a : Args) (n : ℕ) (s : State Ideal) : Prop where
  q : ∀ i, s.main_v48_0 i = ((qa a (64 * i 0 + i 3) (128 * i 2 + i 4) : ℝ) : EReal)
  k : ∀ i, s.main_v48_1 i = ((kk a (64 * i 0 + i 3) (128 * i 2 + i 4) : ℝ) : EReal)
  v : ∀ i, s.main_v48_2 i = ((a.I (64 * i 0 + i 3) (128 * i 2 + i 4) : ℝ) : EReal)
  l : ∀ i, s.main_v48_3 i = ((lf a (64 * i 0 + i 3) (128 * i 2 + i 4) : ℝ) : EReal)
  st : ∀ i, s.main_v48_6 i = ((St a n (128 * i 1 + i 3) (128 * i 1 + i 2) : ℝ) : EReal)
  o : ∀ i, (i 0 : ℕ) < n → s.main_v48_7 i = ((ou a (i 0) (i 2) (i 3) (i 4) : ℝ) : EReal)
  ss : ∀ i, (i 0 : ℕ) < n → s.main_v48_8 i = ((St a (i 0) (128 * i 2 + i 4) (128 * i 2 + i 3) : ℝ) : EReal)

theorem start0 {n : ℕ} (hn : n < 32) : (BitVec.ofNat 32 n).toInt = (n : Int) := by
  rw [BitVec.toInt_ofNat', Int.bmod_def]
  omega

theorem slice5 (x : S32x1x8x64x128.Idx → EReal) (g : ℕ → ℕ → EReal) (hx : ∀ i, x i = g (64 * i 0 + i 3) (128 * i 2 + i 4)) (n : ℕ) (hn : n < 32)
    (start : Fin 5 → Int) (hs : S32x1x8x64x128.Slices (fun _ => 0) S1x1x8x64x128) (h0 : start 0 = n) (h1 : start 1 = 0) (h2 : start 2 = 0) (h3 : start 3 = 0) (h4 : start 4 = 0)
    (hc : S1x1x8x64x128.ShapeCasts S1x8x64x128) (i : S1x8x64x128.Idx) :
    shapeCast S1x8x64x128 (Host.dynamicSlice S1x1x8x64x128 x start hs) hc i = g (64 * n + i 2) (128 * i 1 + i 3) := by
  pointwise []
  rw [hx]
  have c0 := Host.clampedStart_of_le hs.1 start 0 n h0 (show n + 1 ≤ 32 by omega)
  have c2 := Host.clampedStart_of_le hs.1 start 2 0 h2 (show 0 + 8 ≤ 8 by omega)
  have c3 := Host.clampedStart_of_le hs.1 start 3 0 h3 (show 0 + 64 ≤ 64 by omega)
  have c4 := Host.clampedStart_of_le hs.1 start 4 0 h4 (show 0 + 128 ≤ 128 by omega)
  refine congrArg₂ g ?_ ?_
  · show 64 * Host.clampedStart S32x1x8x64x128 S1x1x8x64x128 hs.1 start 0 + (Host.clampedStart S32x1x8x64x128 S1x1x8x64x128 hs.1 start 3 + (i 2 : ℕ)) = _
    rw [c0, c3]; omega
  · show 128 * (Host.clampedStart S32x1x8x64x128 S1x1x8x64x128 hs.1 start 2 + (i 1 : ℕ)) + (Host.clampedStart S32x1x8x64x128 S1x1x8x64x128 hs.1 start 4 + (i 3 : ℕ)) = _
    rw [c2, c4]; omega

variable {a : Args} {n : ℕ} (hn : n < 32) {s : State Ideal} (h : Inv a n s)
include hn h

set_option pp.maxSteps 3000 in
theorem b5R (i : S1x8x64x128.Idx) : b5 (F := Ideal) n s i = ((qa a (64 * n + i 2) (128 * i 1 + i 3) : ℝ) : EReal) := by
  unfold b5 b4
  exact slice5 _ (fun r k => ((qa a r k : ℝ) : EReal)) h.q n hn _ _ (start0 hn) rfl rfl rfl rfl _ i

theorem b11R (i : S1x8x64x128.Idx) : b11 (F := Ideal) n s i = ((kk a (64 * n + i 2) (128 * i 1 + i 3) : ℝ) : EReal) := by
  unfold b11 b10
  exact slice5 _ (fun r k => ((kk a r k : ℝ) : EReal)) h.k n hn _ _ (start0 hn) rfl rfl rfl rfl _ i

theorem b17R (i : S1x8x64x128.Idx) : b17 (F := Ideal) n s i = ((a.I (64 * n + i 2) (128 * i 1 + i 3) : ℝ) : EReal) := by
  unfold b17 b16
  exact slice5 _ (fun r k => ((a.I r k : ℝ) : EReal)) h.v n hn _ _ (start0 hn) rfl rfl rfl rfl _ i

theorem b23R (i : S1x8x64x128.Idx) : b23 (F := Ideal) n s i = ((lf a (64 * n + i 2) (128 * i 1 + i 3) : ℝ) : EReal) := by
  unfold b23 b22
  exact slice5 _ (fun r k => ((lf a r k : ℝ) : EReal)) h.l n hn _ _ (start0 hn) rfl rfl rfl rfl _ i

theorem b26R (i : S1x8x64x128.Idx) : b26 (F := Ideal) n s i = ((cu a n (i 2) (128 * i 1 + i 3) : ℝ) : EReal) := by
  unfold b26
  refine (cumsum4 (b23 (F := Ideal) n s) (fun _ p t d => ((lf a (64 * n + t) (128 * p + d) : ℝ) : EReal)) (b23R hn h) _ _ _ i .f32
    (by pointwise [b25, b24, lit_zero, lift_zero])).trans ?_
  simp only [lift_zero, ite_real, sum_coe]
  rfl

set_option pp.maxSteps 3000 in
theorem b41R (i : S1x8x64x64x128.Idx) : b41 (F := Ideal) n s i
    = ((if (i 3 : ℕ) ≤ (i 2 : ℕ) then Real.exp (cu a n (i 2) (128 * i 1 + i 4) - cu a n (i 3) (128 * i 1 + i 4)) else 0 : ℝ) : EReal) := by
  pointwise [b41, b40, b39, b38, b37, b36, b35, b34, b33, b32, b31, b30, K_main_v44, K_main_call2_v5, K_main_call2_c_0, K_main_call2_v4, K_main_call2_v3, K_main_call2_v2, K_main_call2_v1, K_main_call2_c, K_main_call2_v0, K_main_v43, K_main_c]
  rw [b26R hn h, b26R hn h, lit_bot, show IntOp.addi (BitVec.ofNat 32 ↑(i 2)) 0#32 = BitVec.ofNat 32 ↑(i 2) from BitVec.add_zero _,
    WordCmp.cmpi_sge_ofNat (by have : (i 2 : ℕ) < 64 := (i 2).isLt; omega) (by have : (i 3 : ℕ) < 64 := (i 3).isLt; omega)]
  by_cases hle : (i 3 : ℕ) ≤ (i 2 : ℕ)
  · simp [hle, Scalar.select]
    rw [← EReal.coe_sub]
    exact exp_real _
  · simp [hle, Scalar.select]

set_option pp.maxSteps 3000 in
theorem b49R (i : S1x8x64x64.Idx) : b49 (F := Ideal) n s i = ((at' a n (i 1) (i 2) (i 3) : ℝ) : EReal) := by
  pointwise [b49, b48, b47, b46, b45, b44, b43, b42]
  simp only [b5R hn h, b11R hn h, b41R hn h, ← EReal.coe_mul, sum_coe]
  refine congrArg _ ?_
  show (∑ d : Fin 128, _) = _
  unfold at'
  by_cases hle : (i 3 : ℕ) ≤ (i 2 : ℕ)
  · rw [if_pos hle]
    exact Finset.sum_congr rfl fun d _ => by rw [if_pos]; rfl; exact hle
  · rw [if_neg hle]
    exact Finset.sum_eq_zero fun d _ => by rw [if_neg, mul_zero]; exact hle

set_option pp.maxSteps 3000 in
theorem b51R (i : S1x8x64x128.Idx) : b51 (F := Ideal) n s i = ((ou a n (i 1) (i 2) (i 3) : ℝ) : EReal) := by
  pointwise [b51, b50, b29, b28, b27]
  simp only [b5R hn h, b26R hn h, b49R hn h, b17R hn h, h.st, exp_real, ← EReal.coe_mul, sum_coe, ← EReal.coe_add]
  exact congrArg _ (add_comm _ _)

set_option pp.maxSteps 3000 in
theorem b63R (i : S1x8x128x128.Idx) : b63 (F := Ideal) n s i = ((St a (n + 1) (128 * i 1 + i 3) (128 * i 1 + i 2) : ℝ) : EReal) := by
  pointwise [b63, b62, b61, b60, b59, b58, b57, b56, b55, b54, b53, b52]
  simp only [b11R hn h, b26R hn h, b17R hn h, h.st, exp_real, ← EReal.coe_mul, sum_coe, ← EReal.coe_sub, ← EReal.coe_add]
  refine congrArg _ (congrArg₂ (· + ·) (mul_comm _ _) (Finset.sum_congr rfl fun t _ => mul_comm _ _))

/-- The stacked write of row `n`: the rows before keep theirs. -/
theorem update5 {p q : ℕ} (x : (⟨5, ![32, 1, 8, p, q]⟩ : Shape).Idx → EReal) (u : (⟨5, ![1, 1, 8, p, q]⟩ : Shape).Idx → EReal) (start : Fin 5 → Int) (hs : Shape.Slices (⟨5, ![32, 1, 8, p, q]⟩ : Shape) (fun _ => 0) ⟨5, ![1, 1, 8, p, q]⟩)
    (h0 : start 0 = n) (h1 : start 1 = 0) (h2 : start 2 = 0) (h3 : start 3 = 0) (h4 : start 4 = 0) (i : (⟨5, ![32, 1, 8, p, q]⟩ : Shape).Idx) :
    Host.dynamicUpdateSlice x u start hs i = if (i 0 : ℕ) = n then u (ix5 0 0 (i 2) (i 3) (i 4)) else x i := by
  have b0 := Host.clampedStart_of_le hs.1 start 0 n h0 (show n + 1 ≤ 32 by omega)
  have b1 := Host.clampedStart_of_le hs.1 start 1 0 h1 (show 0 + 1 ≤ 1 by omega)
  have b2 := Host.clampedStart_of_le hs.1 start 2 0 h2 (show 0 + 8 ≤ 8 by omega)
  have b3 := Host.clampedStart_of_le hs.1 start 3 0 h3 (show 0 + p ≤ p by omega)
  have b4 := Host.clampedStart_of_le hs.1 start 4 0 h4 (show 0 + q ≤ q by omega)
  have i1 : (i 1 : ℕ) < 1 := (i 1).isLt
  have i2 : (i 2 : ℕ) < 8 := (i 2).isLt
  have i3 : (i 3 : ℕ) < p := (i 3).isLt
  have i4 : (i 4 : ℕ) < q := (i 4).isLt
  rw [Host.dynamicUpdateSlice_apply]
  by_cases e : (i 0 : ℕ) = n
  · rw [if_pos e, dif_pos (by
      intro k
      fin_cases k
      · have e1 : Host.clampedStart _ _ hs.1 start 0 ≤ (i 0 : ℕ) ∧ (i 0 : ℕ) < Host.clampedStart _ _ hs.1 start 0 + 1 := by rw [b0]; omega
        exact e1
      · have e1 : Host.clampedStart _ _ hs.1 start 1 ≤ (i 1 : ℕ) ∧ (i 1 : ℕ) < Host.clampedStart _ _ hs.1 start 1 + 1 := by rw [b1]; omega
        exact e1
      · have e1 : Host.clampedStart _ _ hs.1 start 2 ≤ (i 2 : ℕ) ∧ (i 2 : ℕ) < Host.clampedStart _ _ hs.1 start 2 + 8 := by rw [b2]; omega
        exact e1
      · have e1 : Host.clampedStart _ _ hs.1 start 3 ≤ (i 3 : ℕ) ∧ (i 3 : ℕ) < Host.clampedStart _ _ hs.1 start 3 + p := by rw [b3]; omega
        exact e1
      · have e1 : Host.clampedStart _ _ hs.1 start 4 ≤ (i 4 : ℕ) ∧ (i 4 : ℕ) < Host.clampedStart _ _ hs.1 start 4 + q := by rw [b4]; omega
        exact e1)]
    refine congrArg u (funext fun k => Fin.ext ?_)
    fin_cases k
    · show (i 0 : ℕ) - Host.clampedStart _ _ hs.1 start 0 = 0
      rw [b0]; omega
    · show (i 1 : ℕ) - Host.clampedStart _ _ hs.1 start 1 = 0
      rw [b1]; omega
    · show (i 2 : ℕ) - Host.clampedStart _ _ hs.1 start 2 = i 2
      rw [b2]; rfl
    · show (i 3 : ℕ) - Host.clampedStart _ _ hs.1 start 3 = i 3
      rw [b3]; rfl
    · show (i 4 : ℕ) - Host.clampedStart _ _ hs.1 start 4 = i 4
      rw [b4]; rfl
  · rw [if_neg e, dif_neg]
    intro hk
    have t2 : Host.clampedStart _ _ hs.1 start 0 ≤ (i 0 : ℕ) ∧ (i 0 : ℕ) < Host.clampedStart _ _ hs.1 start 0 + 1 := hk 0
    rw [b0] at t2
    omega

theorem next : Inv a (n + 1) (step n s) where
  q := h.q
  k := h.k
  v := h.v
  l := h.l
  st i := by rw [step_main_v48_6]; exact b63R hn h i
  o i hi := by
    rw [step_main_v48_7]
    unfold b69
    rw [update5 hn h _ _ _ _ (start0 hn) rfl rfl rfl rfl]
    by_cases e : (i 0 : ℕ) = n
    · rw [if_pos e]
      pointwise [b64]
      rw [b51R hn h, e]
      rfl
    · rw [if_neg e]
      exact h.o i (by omega)
  ss i hi := by
    rw [step_main_v48_8]
    unfold b75
    rw [update5 hn h _ _ _ _ (start0 hn) rfl rfl rfl rfl]
    by_cases e : (i 0 : ℕ) = n
    · rw [if_pos e]
      pointwise [b70]
      rw [h.st, e]
      rfl
    · rw [if_neg e]
      exact h.ss i (by omega)

end Cert.HgFwdRefIdeal.Hg
end
-- ==== Proof.HgLoop.lean ====
module

public import proofs.«01_k».proof.Proof.Gen.HgFwdRefIdeal.Run
public import proofs.«01_k».proof.Proof.Gen.HgFwdRefIdeal.Step

set_option maxRecDepth 65536
set_option maxHeartbeats 400000

@[expose] public section

/-! The reference's loop as its step iterated: the buffers hold a state before every trip. -/

noncomputable section
open Idealize.ShloMosaic Idealize.ShloMosaic.TcCoe Idealize.SL.Sem Idealize.ShloMosaic.StableHlo
namespace Cert.HgFwdRefIdeal.Loop
open Cert.HgFwdRefIdeal Cert.HgFwdRefIdeal.Gen Cert.HgFwdRefIdeal.Value Cert.HgFwdRefIdeal.Step

variable {F : FTy → Type} [FloatOps F]

/-- The state the buffers hold. -/
def held (V : Valuation τ sig (Elt F)) : State F where
  main_v48_6 := V (Proc.devRef .tc main_v48_6)
  main_v48_7 := V (Proc.devRef .tc main_v48_7)
  main_v48_8 := V (Proc.devRef .tc main_v48_8)
  main_v48_0 := V (Proc.devRef .tc main_v48_0)
  main_v48_1 := V (Proc.devRef .tc main_v48_1)
  main_v48_2 := V (Proc.devRef .tc main_v48_2)
  main_v48_3 := V (Proc.devRef .tc main_v48_3)

/-- The trip's number and the mask at their buffers. -/
structure At (V : Valuation τ sig (Elt F)) (j : ℕ) : Prop where
  j : V (Proc.devRef .tc main_v48_5) = constantI S_ 32 (BitVec.ofNat 32 j)
  k : V (Proc.devRef .tc main_v48_4) = K_main_v44 (F := F)

variable {V : Valuation τ sig (Elt F)} {j : ℕ} (h : At V j)
include h

theorem held6 : Value.step_main_v48_6 V = b63 j (held V) := by
  unfold Value.step_main_v48_6 res_main_while0b_v99 res_main_while0b_v75 res_main_while0b_v76 res_main_while0b_v78
  rw [h.j]
  rfl

theorem held7 : Value.step_main_v48_7 V = b69 j (held V) := by
  unfold Value.step_main_v48_7 res_main_while0b_v74 res_main_while0b_v75 res_main_while0b_v76 res_main_while0b_v78
  rw [h.j, h.k]
  rfl

theorem held8 : Value.step_main_v48_8 V = b75 j (held V) := by
  unfold Value.step_main_v48_8
  rw [h.j]
  rfl

/-- One trip steps the held state. -/
theorem held_step : held (STEP V) = step j (held V) := by
  unfold held step
  rw [STEP_main_v48_6, STEP_main_v48_7, STEP_main_v48_8, STEP_main_v48_0, STEP_main_v48_1, STEP_main_v48_2, STEP_main_v48_3,
    held6 h, held7 h, held8 h]
  rfl

theorem at_step : At (STEP V) (j + 1) where
  j := by
    rw [STEP_main_v48_5]
    unfold step_main_v48_5
    rw [h.j]
    funext i
    show BitVec.ofNat 32 j + 1#32 = BitVec.ofNat 32 (j + 1)
    simp only [BitVec.ofNat_add]
  k := by rw [STEP_main_v48_4]; exact h.k

omit h
variable (m : (ℓ : Loc nD τ sig) → Buf (Elt F) ℓ) (c : Dev nD)

/-- The state the first trip starts from. -/
def start : State F := init (m ((c.tc : Thread nD τ).loc main_arg0)) (m ((c.tc : Thread nD τ).loc main_arg1))

theorem entry_at : At (entryContents preI m c) 0 := by
  constructor <;> (simp only [entryContents, afterL_cons, afterL_nil]; after_reads_simp) <;> rfl

theorem entry_held : held (entryContents preI m c) = start m c := by
  unfold held start init
  congr 1 <;> (simp only [entryContents, afterL_cons, afterL_nil]; after_reads_simp) <;> rfl

/-- The states before the trips. -/
def it (n : ℕ) : State F := held (STEP^[n] (entryContents preI m c))

theorem it_at (n : ℕ) : At (STEP^[n] (entryContents preI m c)) n := by
  induction n with
  | zero => exact entry_at m c
  | succ n ih => rw [Function.iterate_succ_apply']; exact at_step ih

theorem it_succ (n : ℕ) : it m c (n + 1) = step n (it m c n) := by
  unfold it
  rw [Function.iterate_succ_apply']
  exact held_step (it_at m c n)

theorem it_zero : it m c 0 = start m c := entry_held m c

theorem read70 (V : Valuation τ sig (Elt F)) {x0 : (⟨S1x2048x10240, .f32⟩ : BufTy).Contents (Elt F)} (h0 : V (Proc.devRef .tc main_arg0) = x0)
    {x2 : (⟨S1x1024, .f32⟩ : BufTy).Contents (Elt F)} (h2 : V (Proc.devRef .tc main_arg2) = x2) : out_main_v70 V = R_main_v70 (held V) x0 x2 := by
  unfold out_main_v70 R_main_v70
  rw [h0, h2, show V (Proc.devRef .tc main_v48_7) = (held V).main_v48_7 from rfl]
  try rfl

theorem read71 (V : Valuation τ sig (Elt F)) : out_main_v71 V = R_main_v71 (held V) := by
  unfold out_main_v71 R_main_v71
  rw [show V (Proc.devRef .tc main_v48_7) = (held V).main_v48_7 from rfl]
  try rfl

theorem read73 (V : Valuation τ sig (Elt F)) : out_main_v73 V = R_main_v73 (held V) := by
  unfold out_main_v73 R_main_v73
  rw [show V (Proc.devRef .tc main_v48_8) = (held V).main_v48_8 from rfl]
  try rfl

theorem it_eq (n : ℕ) : it m c n = held (STEP^[n] (entryContents preI m c)) := rfl

/-- Every run ends with the results at their reads of the last state. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v70) = R_main_v70 (it m c 32) (m ((c.tc : Thread nD τ).loc main_arg0)) (m ((c.tc : Thread nD τ).loc main_arg2))
      ∧ r.2.mem ((c.tc : Thread nD τ).loc main_v71) = R_main_v71 (it m c 32)
      ∧ r.2.mem ((c.tc : Thread nD τ).loc main_v73) = R_main_v73 (it m c 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    rw [it_eq]
    have k0 := iter_main_arg0 m c 32
    have k2 := iter_main_arg2 m c 32
    obtain ⟨h1, h2, h3, h4⟩ := h c
    generalize STEP^[32] (entryContents preI m c) = V at *
    exact ⟨h1.trans (read70 V k0 k2), h2.trans (read71 V), h3.trans (read73 V), h4⟩) (Value.run m ρ)

end Cert.HgFwdRefIdeal.Loop
end
-- ==== Proof.HgStages.lean ====
module

public import proofs.«01_k».proof.Proof.HgModel
public import proofs.«01_k».proof.Proof.Gen.HgFwdIdeal.Frame
public import Idealize.ShloMosaic.Lib.Pointwise

set_option maxRecDepth 16384
set_option maxHeartbeats 800000

@[expose] public section

/-! What the kernel computes for a whole chunk before it splits into heads: the gates, their summed logarithms, and the
queries and keys scaled by the decays. -/

noncomputable section
open Idealize.ShloMosaic Idealize.ShloMosaic.TcCoe Idealize.SL.Sem
namespace Cert.HgFwdIdeal.Hg
open Cert.HgFwdIdeal Cert.HgFwdIdeal.Gen Cert.Hg Cert.Reals

theorem name_inf (b : BitVec (FTy.bits .f32)) : (Named.named (F := Ideal) κ "exp_clamp" (φ := .f32) b : EReal) = ⊤ :=
  IdealRules.named_const.ideal_named_scalar κ "exp_clamp" b _ (by rfl)

theorem sg_kernel (x : ℝ) : Ideal.div ((1 : ℝ) : EReal) (((1 + Real.exp (0 - x) : ℝ)) : EReal) = ((sg x : ℝ) : EReal) := by
  rw [zero_sub, div_real _ _ (sg_den x).ne']
  rfl

/-- The lower triangle's ones, as the kernel makes them of 32-bit row and column numbers. -/
theorem ones_sge {t s : ℕ} (ht : t < 64) (hs : s < 64) :
    FloatOps.sitofp (F := Ideal) FTy.f32 (BitVec.setWidth 32 (IntOp.cmpi CmpIPredicate.sge (BitVec.ofNat 32 t) (BitVec.ofNat 32 s)))
      = ((if s ≤ t then 1 else 0 : ℝ) : EReal) := by
  rw [WordCmp.cmpi_sge_ofNat (by omega) (by omega)]
  by_cases h : s ≤ t
  · rw [if_pos h]
    simp [h, FloatOps.sitofp]
  · rw [if_neg h]
    simp [h, FloatOps.sitofp]

variable (a : Args) (n : ℕ)

section
variable (x1 : Vec Ideal S64x1024 .f32) (h1 : ∀ i, x1 i = ((a.F (64 * n + i 0) (i 1) : ℝ) : EReal))
variable (x4 : Vec Ideal S2x1024 .f32) (h4 : ∀ i, x4 i = ((if (i 0 : ℕ) = 0 then a.A (i 1) else a.B (i 1) : ℝ) : EReal))
include h1 h4

theorem gateV (y : S64x1024.Idx) : k0_pay3 x4 x1 y = ((fg a (64 * n + y 0) (y 1) : ℝ) : EReal) := by
  pointwise [k0_pay3]
  simp only [h1, h4, ix2_0, ix2_1, Fin.val_zero, Fin.val_one, reduceIte, one_ne_zero, lift_one, lift_zero, ← EReal.coe_add, ← EReal.coe_sub, ← EReal.coe_mul, exp_real, sg_kernel]
  rfl

theorem lfV (y : S64x1024.Idx) : k0_pay4 x4 x1 y = ((lf a (64 * n + y 0) (y 1) : ℝ) : EReal) := by
  pointwise [k0_pay4]
  rw [gateV a n x1 h1 x4 h4]
  exact log_real _ (fg_pos a _ _)

theorem kkV (y : S64x1024.Idx) : k0_pay5 x4 x1 y = ((kk a (64 * n + y 0) (y 1) : ℝ) : EReal) := by
  pointwise [k0_pay5]
  rw [gateV a n x1 h1 x4 h4, lift_one, ← EReal.coe_sub]
  rfl
end

section
variable (x0 : Vec Ideal S64x1024 .f32) (h0 : ∀ i, x0 i = ((a.Q (64 * n + i 0) (i 1) : ℝ) : EReal))
include h0

theorem qaV (y : S64x1024.Idx) : k0_pay8 (k0_pay6 x0) (k0_pay7 x0) (Scalar.ofBits .f32 0x3F800000#32) y = ((qa a (64 * n + y 0) (y 1) : ℝ) : EReal) := by
  pointwise [k0_pay8, k0_pay7, k0_pay6]
  simp only [h0, lift_one, lift_zero, ← EReal.coe_add, ← EReal.coe_sub, ← EReal.coe_mul, exp_real, sg_kernel]
  rfl

theorem qaV1 (y : S64x1024.Idx) : k0_pay8 (k0_pay6 x0) (k0_pay7 x0) (1 : EReal) y = ((qa a (64 * n + y 0) (y 1) : ℝ) : EReal) := by
  pointwise [k0_pay8, k0_pay7, k0_pay6]
  simp only [h0, lift_one, lift_zero, ← EReal.coe_add, ← EReal.coe_sub, ← EReal.coe_mul, exp_real, sg_kernel]
  rfl
end

section
variable (l : FVec Ideal S64x1024 .f32) (hl : ∀ i, l i = ((lf a (64 * n + i 0) (i 1) : ℝ) : EReal))
include hl

set_option pp.maxSteps 3000 in
theorem cuV (y : S64x1024.Idx) : k0_pay10 l y = ((cu a n (y 0) (y 1) : ℝ) : EReal) := by
  pointwise [k0_pay10, k0_pay9]
  simp only [hl, ← EReal.coe_sub, sub_self, ones_sge (y 0).isLt (Fin.is_lt _), ← EReal.coe_mul, mul_zero, sum_coe, ← EReal.coe_add, Finset.sum_const_zero, add_zero, ix2_0, ix2_1, ite_mul, one_mul, zero_mul]
  rfl

theorem elV (y : S1x1024.Idx) : k0_pay13 l y = ((Real.exp (cu a n 63 (y 1)) : ℝ) : EReal) := by
  pointwise [k0_pay13, k0_pay12]
  rw [cuV a n l hl, exp_real]
  rfl

theorem khV (k : FVec Ideal S64x1024 .f32) (hk : ∀ i, k i = ((kk a (64 * n + i 0) (i 1) : ℝ) : EReal)) (y : S64x1024.Idx) :
    k0_pay17 l k y = ((kk a (64 * n + y 0) (y 1) * Real.exp (cu a n 63 (y 1) - cu a n (y 0) (y 1)) : ℝ) : EReal) := by
  pointwise [k0_pay17, k0_pay12]
  rw [cuV a n l hl, cuV a n l hl, hk, ← EReal.coe_sub, exp_real, ← EReal.coe_mul]
  rfl

theorem ktV (k : FVec Ideal S64x1024 .f32) (hk : ∀ i, k i = ((kk a (64 * n + i 0) (i 1) : ℝ) : EReal)) (y : S64x1024.Idx) :
    k0_pay16 l k y = ((kk a (64 * n + y 0) (y 1) * Real.exp (cu a n 31 (y 1) - cu a n (y 0) (y 1)) : ℝ) : EReal) := by
  pointwise [k0_pay16, k0_pay11]
  rw [name_inf, min_eq_left le_top, cuV a n l hl, cuV a n l hl, hk, ← EReal.coe_sub, exp_real, ← EReal.coe_mul]
  rfl

section
variable (x0 : Vec Ideal S64x1024 .f32) (h0 : ∀ i, x0 i = ((a.Q (64 * n + i 0) (i 1) : ℝ) : EReal))
include h0

theorem qhV (y : S64x1024.Idx) : k0_pay14 l (k0_pay6 x0) (k0_pay7 x0) (1 : EReal) y
    = ((qa a (64 * n + y 0) (y 1) * Real.exp (cu a n (y 0) (y 1)) : ℝ) : EReal) := by
  pointwise [k0_pay14]
  rw [cuV a n l hl, qaV1 a n x0 h0, exp_real, ← EReal.coe_mul]

theorem qtV (y : S64x1024.Idx) : k0_pay15 l (k0_pay6 x0) (k0_pay7 x0) (1 : EReal) y
    = ((qa a (64 * n + y 0) (y 1) * Real.exp (cu a n (y 0) (y 1) - cu a n 31 (y 1)) : ℝ) : EReal) := by
  pointwise [k0_pay15, k0_pay11]
  rw [name_inf, min_eq_left le_top, cuV a n l hl, cuV a n l hl, qaV1 a n x0 h0, ← EReal.coe_sub, exp_real, ← EReal.coe_mul]
  rfl
end

end

end Cert.HgFwdIdeal.Hg
end
-- ==== Proof.HgPieces.lean ====
module

public import proofs.«01_k».proof.Proof.HgStages
public import proofs.«01_k».proof.Proof.GmlpPieces
public import Idealize.ShloMosaic.Lib.Pipeline.ReadBack

set_option maxRecDepth 16384
set_option maxHeartbeats 800000

@[expose] public section

/-! What one chunk of the kernel leaves in its three results and in the carried state. -/

noncomputable section
open Idealize.ShloMosaic Idealize.ShloMosaic.TcCoe Idealize.SL.Sem
namespace Cert.HgFwdIdeal.Hg
open Cert.HgFwdIdeal Cert.HgFwdIdeal.Gen Cert.Hg Cert.Reals
open Cert.GmlpBwdIdeal.Gmlp (canon_take canon_drop at2 at3)

/-- The arguments' blocks at a chunk. -/
structure Blocks (m : (ℓ : Loc nD τ sig) → Buf (Elt Ideal) ℓ) (a : Args) (og : ℕ → ℕ → EReal) (g : ℕ → EReal) (c : Dev nD) (t : Fin cfg0.N) : Prop where
  q : ∀ i : S64x1024.Idx, iblk m c 0 t i = ((a.Q (64 * t.val + i 0) (i 1) : ℝ) : EReal)
  f : ∀ i : S64x1024.Idx, iblk m c 1 t i = ((a.F (64 * t.val + i 0) (i 1) : ℝ) : EReal)
  v : ∀ i : S64x1024.Idx, iblk m c 2 t i = ((a.I (64 * t.val + i 0) (i 1) : ℝ) : EReal)
  og : ∀ i : S64x1024.Idx, iblk m c 3 t i = og (64 * t.val + i 0) (i 1)
  l : ∀ i : S2x1024.Idx, iblk m c 4 t i = ((if (i 0 : ℕ) = 0 then a.A (i 1) else a.B (i 1) : ℝ) : EReal)
  g : ∀ i : S1x1024.Idx, iblk m c 5 t i = g (i 1)

variable (m : (ℓ : Loc nD τ sig) → Buf (Elt Ideal) ℓ)
variable (a : Args) (og : ℕ → ℕ → EReal) (g : ℕ → EReal)

theorem lit_128 : Ideal.ofBits .f32 0x43000000#32 = ((128 : ℝ) : EReal) := by
  simp [Ideal.ofBits, Ideal.ieee, -EReal.coe_mul]; norm_num

/-! One head, whatever the head: the stages at its columns close to the model. -/

section
variable (n : ℕ) (k : Fin 8)
variable {S : S8x128x128.Idx → EReal} (hS : ∀ y : S8x128x128.Idx, S y = ((St a n (128 * y 0 + y 1) (128 * y 0 + y 2) : ℝ) : EReal))
variable {v : S64x1024.Idx → EReal} (hv : ∀ i : S64x1024.Idx, v i = ((a.I (64 * n + i 0) (i 1) : ℝ) : EReal))
include hS hv

theorem st_close {el : S1x1024.Idx → EReal} (hel : ∀ i : S1x1024.Idx, el i = ((Real.exp (cu a n 63 (i 1)) : ℝ) : EReal))
    {kh : S64x1024.Idx → EReal} (hkh : ∀ i : S64x1024.Idx, kh i = ((kk a (64 * n + i 0) (i 1) * Real.exp (cu a n 63 (i 1) - cu a n (i 0) (i 1)) : ℝ) : EReal))
    (x1 x2 : Fin 128) {p q : Fin 1024} (hp : (p : ℕ) = 128 * k + x1) (hq : (q : ℕ) = 128 * k + x2) :
    S (ix3 k x1 x2) * el (ix2 0 q) + ∑ s : Fin 64, v (ix2 s p) * kh (ix2 s q) = ((St a (n + 1) (128 * k + x1) (128 * k + x2) : ℝ) : EReal) := by
  simp only [hS, hv, hel, hkh, ← EReal.coe_mul, sum_coe, ← EReal.coe_add]
  show ((St a n (128 * k + x1) (128 * k + x2) * Real.exp (cu a n 63 q)
    + ∑ s : Fin 64, a.I (64 * n + s) p * (kk a (64 * n + s) q * Real.exp (cu a n 63 q - cu a n s q)) : ℝ) : EReal) = _
  rw [hp, hq]
  rfl
end

/-- The result's element of row `t` of chunk `n`, head `hd`, column `v` of the head. -/
def yv (n hd t v : ℕ) : EReal := ((ou a n hd t v : ℝ) : EReal) * ((rr a n hd t : ℝ) : EReal) * g (128 * hd + v)
  * (og (64 * n + t) (128 * hd + v) * Ideal.div ((1 : ℝ) : EReal) (((1 : ℝ) : EReal) + Ideal.exp (((0 : ℝ) : EReal) - og (64 * n + t) (128 * hd + v))))

/-- One head's output row, as the kernel sums it from the stages. -/
def oE (qt kt qh iv : S64x1024.Idx → EReal) (S : S8x128x128.Idx → EReal) (k : Fin 8) (e : Fin 128 → Fin 1024) (y0 : Fin 64) (v : Fin 128) : EReal :=
  (∑ s : Fin 64, Scalar.select (IntOp.cmpi CmpIPredicate.sge (BitVec.ofNat 32 (y0 : ℕ)) (BitVec.ofNat 32 (s : ℕ)))
      ((∑ d : Fin 128, qt (ix2 y0 (e d)) * kt (ix2 s (e d))) * iv (ix2 s (e v))) 0)
    + ∑ d : Fin 128, qh (ix2 y0 (e d)) * S (ix3 k v d)

section
variable (n : ℕ) (k : Fin 8)
variable {S : S8x128x128.Idx → EReal} (hS : ∀ y : S8x128x128.Idx, S y = ((St a n (128 * y 0 + y 1) (128 * y 0 + y 2) : ℝ) : EReal))
variable {v : S64x1024.Idx → EReal} (hv : ∀ i : S64x1024.Idx, v i = ((a.I (64 * n + i 0) (i 1) : ℝ) : EReal))
variable {qt : S64x1024.Idx → EReal} (hqt : ∀ i : S64x1024.Idx, qt i = ((qa a (64 * n + i 0) (i 1) * Real.exp (cu a n (i 0) (i 1) - cu a n 31 (i 1)) : ℝ) : EReal))
variable {kt : S64x1024.Idx → EReal} (hkt : ∀ i : S64x1024.Idx, kt i = ((kk a (64 * n + i 0) (i 1) * Real.exp (cu a n 31 (i 1) - cu a n (i 0) (i 1)) : ℝ) : EReal))
variable {qh : S64x1024.Idx → EReal} (hqh : ∀ i : S64x1024.Idx, qh i = ((qa a (64 * n + i 0) (i 1) * Real.exp (cu a n (i 0) (i 1)) : ℝ) : EReal))
variable (y0 : Fin 64) (x1 : Fin 128) (e : Fin 128 → Fin 1024) (he : ∀ d, (e d : ℕ) = 128 * (k : ℕ) + d)
include hS hv hqt hkt hqh he

theorem o_close : oE qt kt qh v S k e y0 x1 = ((ou a n k y0 x1 : ℝ) : EReal) := by
  have hy : (y0 : ℕ) < 128 := by omega
  have hs : ∀ s : Fin 64, (s : ℕ) < 128 := fun s => by omega
  unfold oE
  simp only [hS, hv, hqt, hkt, hqh, lift_zero, ← EReal.coe_mul, sum_coe, select_sge hy (hs _), ← EReal.coe_add]
  refine congrArg _ (congrArg₂ (· + ·) (Finset.sum_congr rfl fun s _ => ?_) (Finset.sum_congr rfl fun d _ => ?_))
  · unfold at'
    by_cases h : (s : ℕ) ≤ (y0 : ℕ)
    · rw [if_pos h, if_pos h]
      refine congrArg₂ (· * ·) (Finset.sum_congr rfl fun d _ => ?_) (congrArg _ (he x1))
      show (qa a (64 * n + y0) (e d) * Real.exp (cu a n y0 (e d) - cu a n 31 (e d))) * (kk a (64 * n + s) (e d) * Real.exp (cu a n 31 (e d) - cu a n s (e d))) = _
      rw [he, show cu a n y0 (128 * k + d) - cu a n s (128 * k + d) = (cu a n y0 (128 * k + d) - cu a n 31 (128 * k + d)) + (cu a n 31 (128 * k + d) - cu a n s (128 * k + d)) by ring,
        Real.exp_add]
      ring
    · rw [if_neg h, if_neg h, zero_mul]
  · show qa a (64 * n + y0) (e d) * Real.exp (cu a n y0 (e d)) * St a n (128 * k + x1) (128 * k + d) = _
    rw [he]

theorem y_close : oE qt kt qh v S k e y0 x1
      * Ideal.rsqrt (Ideal.div (∑ w : Fin 128, oE qt kt qh v S k e y0 w * oE qt kt qh v S k e y0 w) (Ideal.ofBits .f32 0x43000000#32) + Ideal.ofBits .f32 0x358637BD#32)
      * g (e x1) * (og (64 * n + y0) (e x1) * Ideal.div ((1 : ℝ) : EReal) (((1 : ℝ) : EReal) + Ideal.exp (((0 : ℝ) : EReal) - og (64 * n + y0) (e x1))))
    = yv a og g n k y0 x1 := by
  simp only [o_close a n k hS hv hqt hkt hqh y0 _ e he, lit_128, lit_eps, ← EReal.coe_mul, sum_coe]
  rw [div_real _ _ (by norm_num), ← EReal.coe_add, rsqrt_real _ (ms_pos a n k y0), he]
  rfl
end

theorem ivV (n : ℕ) (x : Vec Ideal S64x1024 .f32) (hx : ∀ i : S64x1024.Idx, x i = ((a.I (64 * n + i 0) (i 1) : ℝ) : EReal)) (i : S64x1024.Idx) :
    k0_pay18 x i = ((a.I (64 * n + i 0) (i 1) : ℝ) : EReal) := by
  pointwise [k0_pay18]
  exact hx i

theorem zeroS (c : Dev nD) (t : Fin cfg0.N) (hA : t.val % 32 = 0) (y : S8x128x128.Idx) :
    (fun _ : S8x128x128.Idx => (0 : EReal)) y = ((St a t.val (128 * y 0 + y 1) (128 * y 0 + y 2) : ℝ) : EReal) := by
  have t0 : t.val = 0 := by have := lt_of_lt_of_eq t.isLt (show cfg0.N = 32 from N_0); omega
  rw [t0]
  rfl

theorem st_at (c : Dev nD) (t : Fin cfg0.N) (b : Blocks m a og g c t) (hp : t.val - 1 < cfg0.N)
    (hS : ¬t.val % 32 = 0 → ∀ y : S8x128x128.Idx, (outsAt0 m c (t.val - 1) hp).2.2.2 y = ((St a t.val (128 * y 0 + y 1) (128 * y 0 + y 2) : ℝ) : EReal)) (y : S8x128x128.Idx) :
    (outsAt0 m c t.val t.isLt).2.2.2 y = ((St a (t.val + 1) (128 * y 0 + y 1) (128 * y 0 + y 2) : ℝ) : EReal) := by
  have L := lfV a t.val _ b.f _ b.l
  have K := kkV a t.val _ b.f _ b.l
  have V := ivV a t.val _ b.v
  have E := elV a t.val _ L
  have KH := khV a t.val _ L _ K
  by_cases hA : t.val % 32 = 0
  · have Z := zeroS a c t hA
    rw [outsAt0_A m c t hA]
    frame_open
    simp (disch := decide) only [↓ View.readCov_skip, ↓ View.readCov_cons_toLoadRect, ↓ View.readCov_fill]
    frame_out
    rw [canon_take _ _ 8 _ _ (by simp only [List.take_succ_cons, List.take_zero]; exact View.cover_of_tiledBy _ ![1, 128, 128] (by sl_kernel_rfl) y)]
    simp only [List.take_succ_cons, List.take_zero]
    canon_tiles x h using View.cover_of_tiledBy _ ![1, 128, 128] (by sl_kernel_rfl) y
    all_goals
      pointwise [k0_pay1, k0_pay2, k0_pay9, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
      have xz : (x 0 : ℕ) = 0 := by omega
      rw [h0, h1, h2, xz]
      generalize k0_pay13 (k0_pay4 (iblk m c 4 t) (iblk m c 1 t)) = el at E ⊢
      generalize k0_pay17 (k0_pay4 (iblk m c 4 t) (iblk m c 1 t)) (k0_pay5 (iblk m c 4 t) (iblk m c 1 t)) = kh at KH ⊢
      generalize k0_pay18 (iblk m c 2 t) = iv at V ⊢
      clear L K
    case piece7 => exact st_close a t.val 0 Z V E KH (x 1) (x 2) (Nat.zero_add _).symm (Nat.zero_add _).symm
    case piece6 => exact st_close a t.val 1 Z V E KH (x 1) (x 2) rfl rfl
    case piece5 => exact st_close a t.val 2 Z V E KH (x 1) (x 2) rfl rfl
    case piece4 => exact st_close a t.val 3 Z V E KH (x 1) (x 2) rfl rfl
    case piece3 => exact st_close a t.val 4 Z V E KH (x 1) (x 2) rfl rfl
    case piece2 => exact st_close a t.val 5 Z V E KH (x 1) (x 2) rfl rfl
    case piece1 => exact st_close a t.val 6 Z V E KH (x 1) (x 2) rfl rfl
    case piece0 => exact st_close a t.val 7 Z V E KH (x 1) (x 2) rfl rfl
  · replace hS := hS hA
    rw [outsAt0_B m c t hA]
    frame_open
    simp (disch := decide) only [↓ View.readCov_skip, ↓ View.readCov_cons_toLoadRect, ↓ View.readCov_fill]
    frame_out
    canon_tiles x h using View.cover_of_tiledBy _ ![1, 128, 128] (by sl_kernel_rfl) y
    all_goals
      simp only [read_unread_whole]
      pointwise [k0_pay1, k0_pay2, k0_pay9, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
      have xz : (x 0 : ℕ) = 0 := by omega
      rw [h0, h1, h2, xz]
      generalize k0_pay13 (k0_pay4 (iblk m c 4 t) (iblk m c 1 t)) = el at E ⊢
      generalize k0_pay17 (k0_pay4 (iblk m c 4 t) (iblk m c 1 t)) (k0_pay5 (iblk m c 4 t) (iblk m c 1 t)) = kh at KH ⊢
      generalize k0_pay18 (iblk m c 2 t) = iv at V ⊢
      generalize (outsAt0 m c (t.val - 1) hp).2.2.2 = S at hS ⊢
      clear L K
    case piece7 => exact st_close a t.val 0 hS V E KH (x 1) (x 2) (Nat.zero_add _).symm (Nat.zero_add _).symm
    case piece6 => exact st_close a t.val 1 hS V E KH (x 1) (x 2) rfl rfl
    case piece5 => exact st_close a t.val 2 hS V E KH (x 1) (x 2) rfl rfl
    case piece4 => exact st_close a t.val 3 hS V E KH (x 1) (x 2) rfl rfl
    case piece3 => exact st_close a t.val 4 hS V E KH (x 1) (x 2) rfl rfl
    case piece2 => exact st_close a t.val 5 hS V E KH (x 1) (x 2) rfl rfl
    case piece1 => exact st_close a t.val 6 hS V E KH (x 1) (x 2) rfl rfl
    case piece0 => exact st_close a t.val 7 hS V E KH (x 1) (x 2) rfl rfl

theorem o_at (c : Dev nD) (t : Fin cfg0.N) (b : Blocks m a og g c t) (hp : t.val - 1 < cfg0.N)
    (hS : ¬t.val % 32 = 0 → ∀ y : S8x128x128.Idx, (outsAt0 m c (t.val - 1) hp).2.2.2 y = ((St a t.val (128 * y 0 + y 1) (128 * y 0 + y 2) : ℝ) : EReal)) (y : S64x1024.Idx) :
    (outsAt0 m c t.val t.isLt).2.1 y = ((ou a t.val ((y 1 : ℕ) / 128) (y 0) ((y 1 : ℕ) % 128) : ℝ) : EReal) := by
  have L := lfV a t.val _ b.f _ b.l
  have K := kkV a t.val _ b.f _ b.l
  have V := ivV a t.val _ b.v
  have KT := ktV a t.val _ L _ K
  have QT := qtV a t.val _ L _ b.q
  have QH := qhV a t.val _ L _ b.q
  by_cases hA : t.val % 32 = 0
  · have Z := zeroS a c t hA
    rw [outsAt0_A m c t hA]
    frame_open
    simp (disch := decide) only [↓ View.readCov_skip, ↓ View.readCov_cons_toLoadRect, ↓ View.readCov_fill]
    frame_out
    canon_tiles x h using View.cover_of_tiledBy _ ![64, 128] (by sl_kernel_rfl) y
    all_goals
      pointwise [k0_pay1, k0_pay2, k0_pay9, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
      have x1_lt : (x 1 : ℕ) < 128 := (x 1).isLt
      generalize k0_pay14 (k0_pay4 (iblk m c 4 t) (iblk m c 1 t)) (k0_pay6 (iblk m c 0 t)) (k0_pay7 (iblk m c 0 t)) (1 : EReal) = qh at QH ⊢
      generalize k0_pay15 (k0_pay4 (iblk m c 4 t) (iblk m c 1 t)) (k0_pay6 (iblk m c 0 t)) (k0_pay7 (iblk m c 0 t)) (1 : EReal) = qt at QT ⊢
      generalize k0_pay16 (k0_pay4 (iblk m c 4 t) (iblk m c 1 t)) (k0_pay5 (iblk m c 4 t) (iblk m c 1 t)) = kt at KT ⊢
      generalize k0_pay18 (iblk m c 2 t) = iv at V ⊢
      clear L K
      rw [h0, h1]
    case piece7 => rw [show ((x 1 : ℕ)) / 128 = 0 by omega, show ((x 1 : ℕ)) % 128 = x 1 by omega]; exact o_close a t.val 0 Z V QT KT QH (x 0) (x 1) _ (fun d => (Nat.zero_add _).symm)
    case piece6 => rw [show (128 + (x 1 : ℕ)) / 128 = 1 by omega, show (128 + (x 1 : ℕ)) % 128 = x 1 by omega]; exact o_close a t.val 1 Z V QT KT QH (x 0) (x 1) _ (fun d => rfl)
    case piece5 => rw [show (256 + (x 1 : ℕ)) / 128 = 2 by omega, show (256 + (x 1 : ℕ)) % 128 = x 1 by omega]; exact o_close a t.val 2 Z V QT KT QH (x 0) (x 1) _ (fun d => rfl)
    case piece4 => rw [show (384 + (x 1 : ℕ)) / 128 = 3 by omega, show (384 + (x 1 : ℕ)) % 128 = x 1 by omega]; exact o_close a t.val 3 Z V QT KT QH (x 0) (x 1) _ (fun d => rfl)
    case piece3 => rw [show (512 + (x 1 : ℕ)) / 128 = 4 by omega, show (512 + (x 1 : ℕ)) % 128 = x 1 by omega]; exact o_close a t.val 4 Z V QT KT QH (x 0) (x 1) _ (fun d => rfl)
    case piece2 => rw [show (640 + (x 1 : ℕ)) / 128 = 5 by omega, show (640 + (x 1 : ℕ)) % 128 = x 1 by omega]; exact o_close a t.val 5 Z V QT KT QH (x 0) (x 1) _ (fun d => rfl)
    case piece1 => rw [show (768 + (x 1 : ℕ)) / 128 = 6 by omega, show (768 + (x 1 : ℕ)) % 128 = x 1 by omega]; exact o_close a t.val 6 Z V QT KT QH (x 0) (x 1) _ (fun d => rfl)
    case piece0 => rw [show (896 + (x 1 : ℕ)) / 128 = 7 by omega, show (896 + (x 1 : ℕ)) % 128 = x 1 by omega]; exact o_close a t.val 7 Z V QT KT QH (x 0) (x 1) _ (fun d => rfl)
  · replace hS := hS hA
    rw [outsAt0_B m c t hA]
    frame_open
    simp (disch := decide) only [↓ View.readCov_skip, ↓ View.readCov_cons_toLoadRect, ↓ View.readCov_fill]
    frame_out
    canon_tiles x h using View.cover_of_tiledBy _ ![64, 128] (by sl_kernel_rfl) y
    all_goals
      simp only [read_unread_whole]
      pointwise [k0_pay1, k0_pay2, k0_pay9, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
      have x1_lt : (x 1 : ℕ) < 128 := (x 1).isLt
      generalize k0_pay14 (k0_pay4 (iblk m c 4 t) (iblk m c 1 t)) (k0_pay6 (iblk m c 0 t)) (k0_pay7 (iblk m c 0 t)) (1 : EReal) = qh at QH ⊢
      generalize k0_pay15 (k0_pay4 (iblk m c 4 t) (iblk m c 1 t)) (k0_pay6 (iblk m c 0 t)) (k0_pay7 (iblk m c 0 t)) (1 : EReal) = qt at QT ⊢
      generalize k0_pay16 (k0_pay4 (iblk m c 4 t) (iblk m c 1 t)) (k0_pay5 (iblk m c 4 t) (iblk m c 1 t)) = kt at KT ⊢
      generalize k0_pay18 (iblk m c 2 t) = iv at V ⊢
      generalize (outsAt0 m c (t.val - 1) hp).2.2.2 = S at hS ⊢
      clear L K
      rw [h0, h1]
    case piece7 => rw [show ((x 1 : ℕ)) / 128 = 0 by omega, show ((x 1 : ℕ)) % 128 = x 1 by omega]; exact o_close a t.val 0 hS V QT KT QH (x 0) (x 1) _ (fun d => (Nat.zero_add _).symm)
    case piece6 => rw [show (128 + (x 1 : ℕ)) / 128 = 1 by omega, show (128 + (x 1 : ℕ)) % 128 = x 1 by omega]; exact o_close a t.val 1 hS V QT KT QH (x 0) (x 1) _ (fun d => rfl)
    case piece5 => rw [show (256 + (x 1 : ℕ)) / 128 = 2 by omega, show (256 + (x 1 : ℕ)) % 128 = x 1 by omega]; exact o_close a t.val 2 hS V QT KT QH (x 0) (x 1) _ (fun d => rfl)
    case piece4 => rw [show (384 + (x 1 : ℕ)) / 128 = 3 by omega, show (384 + (x 1 : ℕ)) % 128 = x 1 by omega]; exact o_close a t.val 3 hS V QT KT QH (x 0) (x 1) _ (fun d => rfl)
    case piece3 => rw [show (512 + (x 1 : ℕ)) / 128 = 4 by omega, show (512 + (x 1 : ℕ)) % 128 = x 1 by omega]; exact o_close a t.val 4 hS V QT KT QH (x 0) (x 1) _ (fun d => rfl)
    case piece2 => rw [show (640 + (x 1 : ℕ)) / 128 = 5 by omega, show (640 + (x 1 : ℕ)) % 128 = x 1 by omega]; exact o_close a t.val 5 hS V QT KT QH (x 0) (x 1) _ (fun d => rfl)
    case piece1 => rw [show (768 + (x 1 : ℕ)) / 128 = 6 by omega, show (768 + (x 1 : ℕ)) % 128 = x 1 by omega]; exact o_close a t.val 6 hS V QT KT QH (x 0) (x 1) _ (fun d => rfl)
    case piece0 => rw [show (896 + (x 1 : ℕ)) / 128 = 7 by omega, show (896 + (x 1 : ℕ)) % 128 = x 1 by omega]; exact o_close a t.val 7 hS V QT KT QH (x 0) (x 1) _ (fun d => rfl)

theorem y_at (c : Dev nD) (t : Fin cfg0.N) (b : Blocks m a og g c t) (hp : t.val - 1 < cfg0.N)
    (hS : ¬t.val % 32 = 0 → ∀ y : S8x128x128.Idx, (outsAt0 m c (t.val - 1) hp).2.2.2 y = ((St a t.val (128 * y 0 + y 1) (128 * y 0 + y 2) : ℝ) : EReal)) (y : S64x1024.Idx) :
    (outsAt0 m c t.val t.isLt).1 y = yv a og g t.val ((y 1 : ℕ) / 128) (y 0) ((y 1 : ℕ) % 128) := by
  have L := lfV a t.val _ b.f _ b.l
  have K := kkV a t.val _ b.f _ b.l
  have V := ivV a t.val _ b.v
  have KT := ktV a t.val _ L _ K
  have QT := qtV a t.val _ L _ b.q
  have QH := qhV a t.val _ L _ b.q
  by_cases hA : t.val % 32 = 0
  · have Z := zeroS a c t hA
    rw [outsAt0_A m c t hA]
    frame_open
    simp (disch := decide) only [↓ View.readCov_skip, ↓ View.readCov_cons_toLoadRect, ↓ View.readCov_fill]
    frame_out
    canon_tiles x h using View.cover_of_tiledBy _ ![64, 128] (by sl_kernel_rfl) y
    all_goals
      pointwise [k0_pay1, k0_pay2, k0_pay9, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
      have x1_lt : (x 1 : ℕ) < 128 := (x 1).isLt
      simp only [b.og, b.g]
      generalize k0_pay14 (k0_pay4 (iblk m c 4 t) (iblk m c 1 t)) (k0_pay6 (iblk m c 0 t)) (k0_pay7 (iblk m c 0 t)) (1 : EReal) = qh at QH ⊢
      generalize k0_pay15 (k0_pay4 (iblk m c 4 t) (iblk m c 1 t)) (k0_pay6 (iblk m c 0 t)) (k0_pay7 (iblk m c 0 t)) (1 : EReal) = qt at QT ⊢
      generalize k0_pay16 (k0_pay4 (iblk m c 4 t) (iblk m c 1 t)) (k0_pay5 (iblk m c 4 t) (iblk m c 1 t)) = kt at KT ⊢
      generalize k0_pay18 (iblk m c 2 t) = iv at V ⊢
      clear L K
      rw [h0, h1]
    case piece7 => rw [show ((x 1 : ℕ)) / 128 = 0 by omega, show ((x 1 : ℕ)) % 128 = x 1 by omega]; exact y_close a og g t.val 0 Z V QT KT QH (x 0) (x 1) _ (fun d => (Nat.zero_add _).symm)
    case piece6 => rw [show (128 + (x 1 : ℕ)) / 128 = 1 by omega, show (128 + (x 1 : ℕ)) % 128 = x 1 by omega]; exact y_close a og g t.val 1 Z V QT KT QH (x 0) (x 1) _ (fun d => rfl)
    case piece5 => rw [show (256 + (x 1 : ℕ)) / 128 = 2 by omega, show (256 + (x 1 : ℕ)) % 128 = x 1 by omega]; exact y_close a og g t.val 2 Z V QT KT QH (x 0) (x 1) _ (fun d => rfl)
    case piece4 => rw [show (384 + (x 1 : ℕ)) / 128 = 3 by omega, show (384 + (x 1 : ℕ)) % 128 = x 1 by omega]; exact y_close a og g t.val 3 Z V QT KT QH (x 0) (x 1) _ (fun d => rfl)
    case piece3 => rw [show (512 + (x 1 : ℕ)) / 128 = 4 by omega, show (512 + (x 1 : ℕ)) % 128 = x 1 by omega]; exact y_close a og g t.val 4 Z V QT KT QH (x 0) (x 1) _ (fun d => rfl)
    case piece2 => rw [show (640 + (x 1 : ℕ)) / 128 = 5 by omega, show (640 + (x 1 : ℕ)) % 128 = x 1 by omega]; exact y_close a og g t.val 5 Z V QT KT QH (x 0) (x 1) _ (fun d => rfl)
    case piece1 => rw [show (768 + (x 1 : ℕ)) / 128 = 6 by omega, show (768 + (x 1 : ℕ)) % 128 = x 1 by omega]; exact y_close a og g t.val 6 Z V QT KT QH (x 0) (x 1) _ (fun d => rfl)
    case piece0 => rw [show (896 + (x 1 : ℕ)) / 128 = 7 by omega, show (896 + (x 1 : ℕ)) % 128 = x 1 by omega]; exact y_close a og g t.val 7 Z V QT KT QH (x 0) (x 1) _ (fun d => rfl)
  · replace hS := hS hA
    rw [outsAt0_B m c t hA]
    frame_open
    simp (disch := decide) only [↓ View.readCov_skip, ↓ View.readCov_cons_toLoadRect, ↓ View.readCov_fill]
    frame_out
    canon_tiles x h using View.cover_of_tiledBy _ ![64, 128] (by sl_kernel_rfl) y
    all_goals
      simp only [read_unread_whole]
      pointwise [k0_pay1, k0_pay2, k0_pay9, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
      have x1_lt : (x 1 : ℕ) < 128 := (x 1).isLt
      simp only [b.og, b.g]
      generalize k0_pay14 (k0_pay4 (iblk m c 4 t) (iblk m c 1 t)) (k0_pay6 (iblk m c 0 t)) (k0_pay7 (iblk m c 0 t)) (1 : EReal) = qh at QH ⊢
      generalize k0_pay15 (k0_pay4 (iblk m c 4 t) (iblk m c 1 t)) (k0_pay6 (iblk m c 0 t)) (k0_pay7 (iblk m c 0 t)) (1 : EReal) = qt at QT ⊢
      generalize k0_pay16 (k0_pay4 (iblk m c 4 t) (iblk m c 1 t)) (k0_pay5 (iblk m c 4 t) (iblk m c 1 t)) = kt at KT ⊢
      generalize k0_pay18 (iblk m c 2 t) = iv at V ⊢
      generalize (outsAt0 m c (t.val - 1) hp).2.2.2 = S at hS ⊢
      clear L K
      rw [h0, h1]
    case piece7 => rw [show ((x 1 : ℕ)) / 128 = 0 by omega, show ((x 1 : ℕ)) % 128 = x 1 by omega]; exact y_close a og g t.val 0 hS V QT KT QH (x 0) (x 1) _ (fun d => (Nat.zero_add _).symm)
    case piece6 => rw [show (128 + (x 1 : ℕ)) / 128 = 1 by omega, show (128 + (x 1 : ℕ)) % 128 = x 1 by omega]; exact y_close a og g t.val 1 hS V QT KT QH (x 0) (x 1) _ (fun d => rfl)
    case piece5 => rw [show (256 + (x 1 : ℕ)) / 128 = 2 by omega, show (256 + (x 1 : ℕ)) % 128 = x 1 by omega]; exact y_close a og g t.val 2 hS V QT KT QH (x 0) (x 1) _ (fun d => rfl)
    case piece4 => rw [show (384 + (x 1 : ℕ)) / 128 = 3 by omega, show (384 + (x 1 : ℕ)) % 128 = x 1 by omega]; exact y_close a og g t.val 3 hS V QT KT QH (x 0) (x 1) _ (fun d => rfl)
    case piece3 => rw [show (512 + (x 1 : ℕ)) / 128 = 4 by omega, show (512 + (x 1 : ℕ)) % 128 = x 1 by omega]; exact y_close a og g t.val 4 hS V QT KT QH (x 0) (x 1) _ (fun d => rfl)
    case piece2 => rw [show (640 + (x 1 : ℕ)) / 128 = 5 by omega, show (640 + (x 1 : ℕ)) % 128 = x 1 by omega]; exact y_close a og g t.val 5 hS V QT KT QH (x 0) (x 1) _ (fun d => rfl)
    case piece1 => rw [show (768 + (x 1 : ℕ)) / 128 = 6 by omega, show (768 + (x 1 : ℕ)) % 128 = x 1 by omega]; exact y_close a og g t.val 6 hS V QT KT QH (x 0) (x 1) _ (fun d => rfl)
    case piece0 => rw [show (896 + (x 1 : ℕ)) / 128 = 7 by omega, show (896 + (x 1 : ℕ)) % 128 = x 1 by omega]; exact y_close a og g t.val 7 hS V QT KT QH (x 0) (x 1) _ (fun d => rfl)

theorem ss_at (c : Dev nD) (t : Fin cfg0.N) (b : Blocks m a og g c t) (hp : t.val - 1 < cfg0.N)
    (hS : ¬t.val % 32 = 0 → ∀ y : S8x128x128.Idx, (outsAt0 m c (t.val - 1) hp).2.2.2 y = ((St a t.val (128 * y 0 + y 1) (128 * y 0 + y 2) : ℝ) : EReal)) (y : S1x8x128x128.Idx) :
    (outsAt0 m c t.val t.isLt).2.2.1 y = ((St a t.val (128 * y 1 + y 2) (128 * y 1 + y 3) : ℝ) : EReal) := by
  by_cases hA : t.val % 32 = 0
  · have Z := zeroS a c t hA
    rw [outsAt0_A m c t hA]
    frame_open
    simp (disch := decide) only [↓ View.readCov_skip, ↓ View.readCov_cons_toLoadRect, ↓ View.readCov_fill]
    frame_out
    canon_tiles x h using View.cover_of_tiledBy _ ![1, 1, 128, 128] (by sl_kernel_rfl) y
    all_goals
      pointwise [k0_pay1, k0_pay2, k0_pay9, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
      exact Z (ix3 (y 1) (y 2) (y 3))
  · replace hS := hS hA
    rw [outsAt0_B m c t hA]
    frame_open
    simp (disch := decide) only [↓ View.readCov_skip, ↓ View.readCov_cons_toLoadRect, ↓ View.readCov_fill]
    frame_out
    canon_tiles x h using View.cover_of_tiledBy _ ![1, 1, 128, 128] (by sl_kernel_rfl) y
    all_goals
      simp only [read_unread_whole]
      pointwise [k0_pay1, k0_pay2, k0_pay9, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
      have xz : (x 1 : ℕ) = 0 := by omega
      rw [h1, h2, h3, xz, hS]
      rfl

end Cert.HgFwdIdeal.Hg
end
-- ==== Proof.HgRead.lean ====
module

public import proofs.«01_k».proof.Proof.HgTrip
public import proofs.«01_k».proof.Proof.HgLoop
public import proofs.«01_k».proof.Proof.HgPieces

set_option maxRecDepth 16384
set_option maxHeartbeats 800000

@[expose] public section

/-! The reference's three results over the model: the scan's invariant after every trip and the reads of its last state. -/

noncomputable section
open Idealize.ShloMosaic Idealize.ShloMosaic.TcCoe Idealize.SL.Sem
namespace Cert.HgFwdRefIdeal.Hg
open Cert.HgFwdRefIdeal Cert.HgFwdRefIdeal.Step Cert.HgFwdRefIdeal.Loop Cert.Hg Cert.Reals
open Cert.HgFwdIdeal.Hg (yv lit_128)

variable {a : Args}

theorem inv_zero {x0 : S1x2048x10240.Idx → EReal} {x1 : S2x1024.Idx → EReal} (h : Args' a x0 x1) : Inv a 0 (init (F := Ideal) x0 x1) where
  q := qR h
  k := kR h
  v := iR h
  l := lR h
  st i := by
    show K_main_v45 (F := Ideal) i = _
    pointwise [K_main_v45, K_main_cst_6]
    rfl
  o i hi := absurd hi (Nat.not_lt_zero _)
  ss i hi := absurd hi (Nat.not_lt_zero _)

theorem inv_upto (m : (ℓ : Loc nD τ sig) → Buf (Elt Ideal) ℓ) (c : Dev nD)
    (h : Args' a (m ((c.tc : Thread nD τ).loc main_arg0)) (m ((c.tc : Thread nD τ).loc main_arg1))) :
    ∀ n, n ≤ 32 → Inv a n (it (F := Ideal) m c n) := by
  intro n
  induction n with
  | zero => intro _; rw [it_zero]; exact inv_zero h
  | succ n ih => intro hn; rw [it_succ]; exact next (by omega) (ih (by omega))

section
variable {s : State Ideal} (h : Inv a 32 s)
include h

/-- The outputs in rows, a head at a time. -/
theorem oR (i : S1x2048x8x128.Idx) :
    shapeCast S1x2048x8x128 (transpose S1x32x64x8x128 [1, 0, 3, 2, 4] (s.main_v48_7) Gen.transposes_S32x1x8x64x128_S1x32x64x8x128_1_0_3_2_4) Gen.shapeCasts_S1x32x64x8x128_S1x2048x8x128 i
      = ((ou a ((i 1 : ℕ) / 64) (i 2) ((i 1 : ℕ) % 64) (i 3) : ℝ) : EReal) := by
  have h1 : (i 1 : ℕ) < 2048 := (i 1).isLt
  pointwise []
  rw [h.o _ (by show (i 1 : ℕ) / 64 < 32; omega)]
  rfl

theorem r71 (i : S2048x1024.Idx) : R_main_v71 (F := Ideal) s i = ((ou a ((i 0 : ℕ) / 64) ((i 1 : ℕ) / 128) ((i 0 : ℕ) % 64) ((i 1 : ℕ) % 128) : ℝ) : EReal) := by
  unfold R_main_v71
  have e := oR h
  generalize shapeCast S1x2048x8x128 (transpose S1x32x64x8x128 [1, 0, 3, 2, 4] (s.main_v48_7) Gen.transposes_S32x1x8x64x128_S1x32x64x8x128_1_0_3_2_4) Gen.shapeCasts_S1x32x64x8x128_S1x2048x8x128 = o at e ⊢
  pointwise []
  rw [e]
  rfl

theorem r73 (i : S32x8x128x128.Idx) : R_main_v73 (F := Ideal) s i = ((St a (i 0) (128 * i 1 + i 2) (128 * i 1 + i 3) : ℝ) : EReal) := by
  pointwise [R_main_v73]
  rw [h.ss _ (i 0).isLt]
  rfl

theorem r70 {x0 : S1x2048x10240.Idx → EReal} {x2 : S1x1024.Idx → EReal} {og : ℕ → ℕ → EReal} {g : ℕ → EReal}
    (hog : ∀ i : S1x2048x10240.Idx, 5120 ≤ (i 2 : ℕ) → (i 2 : ℕ) < 6144 → x0 i = og (i 1) (i 2 - 5120)) (hg : ∀ i : S1x1024.Idx, x2 i = g (i 1)) (i : S2048x1024.Idx) :
    R_main_v70 (F := Ideal) s x0 x2 i = yv a og g ((i 0 : ℕ) / 64) ((i 1 : ℕ) / 128) ((i 0 : ℕ) % 64) ((i 1 : ℕ) % 128) := by
  have h0 : (i 0 : ℕ) < 2048 := (i 0).isLt
  have h1 : (i 1 : ℕ) < 1024 := (i 1).isLt
  unfold R_main_v70
  have e := oR h
  generalize shapeCast S1x2048x8x128 (transpose S1x32x64x8x128 [1, 0, 3, 2, 4] (s.main_v48_7) Gen.transposes_S32x1x8x64x128_S1x32x64x8x128_1_0_3_2_4) Gen.shapeCasts_S1x32x64x8x128_S1x2048x8x128 = o at e ⊢
  pointwise []
  simp only [e, hg]
  rw [hog _ (Nat.le_add_right _ _) (by show 5120 + (i 1 : ℕ) < 6144; omega)]
  show ((ou a ((i 0 : ℕ) / 64) ((i 1 : ℕ) / 128) ((i 0 : ℕ) % 64) ((i 1 : ℕ) % 128) : ℝ) : EReal)
      * Ideal.rsqrt (Ideal.div (∑ x : Fin 128, ((ou a ((i 0 : ℕ) / 64) ((i 1 : ℕ) / 128) ((i 0 : ℕ) % 64) x : ℝ) : EReal)
        * ((ou a ((i 0 : ℕ) / 64) ((i 1 : ℕ) / 128) ((i 0 : ℕ) % 64) x : ℝ) : EReal)) (Ideal.ofBits .f32 0x43000000#32) + Ideal.ofBits .f32 0x358637BD#32)
      * g (i 1) * (og (i 0) (5120 + (i 1 : ℕ) - 5120) * Ideal.div 1 (1 + Ideal.exp (-og (i 0) (5120 + (i 1 : ℕ) - 5120)))) = _
  simp only [lit_128, lit_eps, ← EReal.coe_mul, sum_coe]
  rw [div_real _ _ (by norm_num), ← EReal.coe_add, rsqrt_real _ (ms_pos a _ _ _), Nat.add_sub_cancel_left]
  unfold yv rr
  rw [Nat.div_add_mod, Nat.div_add_mod, EReal.coe_one, EReal.coe_zero, zero_sub]

end
end Cert.HgFwdRefIdeal.Hg
end
-- ==== Proof.HgValue.lean ====
module

public import proofs.«01_k».proof.Defs
public import proofs.«01_k».proof.Proof.HgRead

set_option maxRecDepth 16384

@[expose] public section

/-! The recurrence's forward kernel: the arguments' blocks, the carried state after every chunk and the three final arrays. -/

noncomputable section
open Idealize.ShloMosaic Idealize.ShloMosaic.TcCoe Idealize.SL.Sem
namespace Cert.HgFwdIdeal.Hg
open Cert.HgFwdIdeal Cert.HgFwdIdeal.Gen Cert.Hg Cert.Reals
open Cert.GmlpBwdIdeal.Gmlp (at2 at3)
open Cert.HgFwdRefIdeal.Hg (Args')

/-- The arguments' real parts. -/
def mkArgs (x0 : S1x2048x10240.Idx → EReal) (x1 : S2x1024.Idx → EReal) : Args where
  Q r k := if h : r < 2048 ∧ k + 2048 < 10240 then (x0 (ix3 0 ⟨r, h.1⟩ ⟨k + 2048, h.2⟩)).toReal else 0
  F r k := if h : r < 2048 ∧ k + 3072 < 10240 then (x0 (ix3 0 ⟨r, h.1⟩ ⟨k + 3072, h.2⟩)).toReal else 0
  I r k := if h : r < 2048 ∧ k + 4096 < 10240 then (x0 (ix3 0 ⟨r, h.1⟩ ⟨k + 4096, h.2⟩)).toReal else 0
  A k := if h : k < 1024 then (x1 (ix2 0 ⟨k, h⟩)).toReal else 0
  B k := if h : k < 1024 then (x1 (ix2 1 ⟨k, h⟩)).toReal else 0

/-- The output gate's inputs. -/
def ogOf (x0 : S1x2048x10240.Idx → EReal) (r k : ℕ) : EReal :=
  if h : r < 2048 ∧ k + 5120 < 10240 then x0 (ix3 0 ⟨r, h.1⟩ ⟨k + 5120, h.2⟩) else 0
/-- The norm's gains. -/
def gOf (x2 : S1x1024.Idx → EReal) (k : ℕ) : EReal := if h : k < 1024 then x2 (ix2 0 ⟨k, h⟩) else 0

/-- What the precondition says of the arguments. -/
structure Finite (x0 : S1x2048x10240.Idx → EReal) (x1 : S2x1024.Idx → EReal) : Prop where
  z : ∀ i, 2048 ≤ (i 2 : ℕ) → (i 2 : ℕ) < 5120 → max (x0 i) (-x0 i) < ⊤
  l : ∀ i, max (x1 i) (-x1 i) < ⊤

theorem col (x0 : S1x2048x10240.Idx → EReal) (i : S1x2048x10240.Idx) (d : ℕ) (hd : d ≤ (i 2 : ℕ))
    (h : (i 1 : ℕ) < 2048 ∧ (i 2 : ℕ) - d + d < 10240) : x0 (ix3 0 ⟨i 1, h.1⟩ ⟨(i 2 : ℕ) - d + d, h.2⟩) = x0 i := by
  have z0 : ((i 0 : Fin _) : ℕ) < 1 := (i 0).isLt
  exact congrArg x0 (at3 i 0 ⟨_, h.1⟩ ⟨_, h.2⟩ (by show 0 = (i 0 : ℕ); omega) rfl (by show (i 2 : ℕ) - d + d = i 2; omega))

theorem real_args {x0 x1} (f : Finite x0 x1) : Args' (mkArgs x0 x1) x0 x1 := by
  constructor
  · intro i hl hi
    have h : (i 1 : ℕ) < 2048 ∧ (i 2 : ℕ) - 2048 + 2048 < 10240 := ⟨(i 1).isLt, by omega⟩
    rw [toReal_of_abs (f.z i (by omega) (by omega))]
    simp only [mkArgs, dif_pos h]
    rw [col x0 i 2048 hl h]
  · intro i hl hi
    have h : (i 1 : ℕ) < 2048 ∧ (i 2 : ℕ) - 3072 + 3072 < 10240 := ⟨(i 1).isLt, by omega⟩
    rw [toReal_of_abs (f.z i (by omega) (by omega))]
    simp only [mkArgs, dif_pos h]
    rw [col x0 i 3072 hl h]
  · intro i hl hi
    have h : (i 1 : ℕ) < 2048 ∧ (i 2 : ℕ) - 4096 + 4096 < 10240 := ⟨(i 1).isLt, by omega⟩
    rw [toReal_of_abs (f.z i (by omega) (by omega))]
    simp only [mkArgs, dif_pos h]
    rw [col x0 i 4096 hl h]
  · intro i
    have z0 : ((i 0 : Fin _) : ℕ) < 2 := (i 0).isLt
    have h : (i 1 : ℕ) < 1024 := (i 1).isLt
    rw [toReal_of_abs (f.l i)]
    simp only [mkArgs, dif_pos h]
    by_cases e : (i 0 : ℕ) = 0
    · rw [if_pos e, at2 i 0 ⟨_, h⟩ (by show 0 = (i 0 : ℕ); omega) rfl]
    · rw [if_neg e, at2 i 1 ⟨_, h⟩ (by show 1 = (i 0 : ℕ); omega) rfl]

theorem og_eq (x0 : S1x2048x10240.Idx → EReal) (i : S1x2048x10240.Idx) (hl : 5120 ≤ (i 2 : ℕ)) (hi : (i 2 : ℕ) < 6144) :
    x0 i = ogOf x0 (i 1) (i 2 - 5120) := by
  have h : (i 1 : ℕ) < 2048 ∧ (i 2 : ℕ) - 5120 + 5120 < 10240 := ⟨(i 1).isLt, by omega⟩
  simp only [ogOf, dif_pos h]
  rw [col x0 i 5120 hl h]

theorem g_eq (x2 : S1x1024.Idx → EReal) (i : S1x1024.Idx) : x2 i = gOf x2 (i 1) := by
  have z0 : ((i 0 : Fin _) : ℕ) < 1 := (i 0).isLt
  have h : (i 1 : ℕ) < 1024 := (i 1).isLt
  simp only [gOf, dif_pos h]
  rw [at2 i 0 ⟨_, h⟩ (by show 0 = (i 0 : ℕ); omega) rfl]

variable (m : (ℓ : Loc nD τ sig) → Buf (Elt Ideal) ℓ) (c : Dev nD)

/-- One device's arguments. -/
abbrev A0 : S1x2048x10240.Idx → EReal := m ((c : Thread nD τ).loc main_arg0)
abbrev A1 : S2x1024.Idx → EReal := m ((c : Thread nD τ).loc main_arg1)
abbrev A2 : S1x1024.Idx → EReal := m ((c : Thread nD τ).loc main_arg2)

theorem idx : ∀ t : Fin cfg0.N, win0_0.index t = ![t.val, 2] ∧ win0_1.index t = ![t.val, 3] ∧ win0_2.index t = ![t.val, 4]
    ∧ win0_3.index t = ![t.val, 5] ∧ win0_4.index t = ![0, 0] ∧ win0_5.index t = ![0, 0] ∧ win0_6.index t = ![t.val, 0]
    ∧ win0_7.index t = ![t.val, 0] ∧ win0_8.index t = ![t.val, 0, 0, 0] :=
  (by decide +kernel : ∀ t : Fin grid0.N, _)

theorem t_lt (t : Fin cfg0.N) : t.val < 32 := lt_of_lt_of_eq t.isLt N_0

theorem blk0 (t : Fin cfg0.N) (i : S64x1024.Idx) (h : 64 * t.val + (i 0 : ℕ) < 2048) (h' : 2048 + (i 1 : ℕ) < 10240) :
    iblk m c 0 t i = A0 m c (ix3 0 ⟨64 * t.val + i 0, h⟩ ⟨2048 + i 1, h'⟩) := by
  blk_point [iblk, V, idx t]
theorem blk1 (t : Fin cfg0.N) (i : S64x1024.Idx) (h : 64 * t.val + (i 0 : ℕ) < 2048) (h' : 3072 + (i 1 : ℕ) < 10240) :
    iblk m c 1 t i = A0 m c (ix3 0 ⟨64 * t.val + i 0, h⟩ ⟨3072 + i 1, h'⟩) := by
  blk_point [iblk, V, idx t]
theorem blk2 (t : Fin cfg0.N) (i : S64x1024.Idx) (h : 64 * t.val + (i 0 : ℕ) < 2048) (h' : 4096 + (i 1 : ℕ) < 10240) :
    iblk m c 2 t i = A0 m c (ix3 0 ⟨64 * t.val + i 0, h⟩ ⟨4096 + i 1, h'⟩) := by
  blk_point [iblk, V, idx t]
theorem blk3 (t : Fin cfg0.N) (i : S64x1024.Idx) (h : 64 * t.val + (i 0 : ℕ) < 2048) (h' : 5120 + (i 1 : ℕ) < 10240) :
    iblk m c 3 t i = A0 m c (ix3 0 ⟨64 * t.val + i 0, h⟩ ⟨5120 + i 1, h'⟩) := by
  blk_point [iblk, V, idx t]
theorem blk4 (t : Fin cfg0.N) (i : S2x1024.Idx) : iblk m c 4 t i = A1 m c i := by
  blk_point [iblk, V, idx t]
theorem blk5 (t : Fin cfg0.N) (i : S1x1024.Idx) : iblk m c 5 t i = A2 m c i := by
  blk_point [iblk, V, idx t]

/-- The precondition, at one device's arguments. -/
def Fin1 : Prop := Finite (A0 m c) (A1 m c)

abbrev args : Args := mkArgs (A0 m c) (A1 m c)

theorem blocks (f : Fin1 m c) (t : Fin cfg0.N) : Blocks m (args m c) (ogOf (A0 m c)) (gOf (A2 m c)) c t := by
  have ht := t_lt t
  have h := real_args f
  constructor
  · intro i
    have h0 : (i 0 : ℕ) < 64 := (i 0).isLt
    have h1 : (i 1 : ℕ) < 1024 := (i 1).isLt
    rw [blk0 m c t i (by omega) (by omega), h.q _ (Nat.le_add_right _ _) (by show 2048 + (i 1 : ℕ) < 3072; omega)]
    exact congrArg (fun k : ℕ => (((args m c).Q (64 * t.val + i 0) k : ℝ) : EReal)) (Nat.add_sub_cancel_left 2048 _)
  · intro i
    have h0 : (i 0 : ℕ) < 64 := (i 0).isLt
    have h1 : (i 1 : ℕ) < 1024 := (i 1).isLt
    rw [blk1 m c t i (by omega) (by omega), h.f _ (Nat.le_add_right _ _) (by show 3072 + (i 1 : ℕ) < 4096; omega)]
    exact congrArg (fun k : ℕ => (((args m c).F (64 * t.val + i 0) k : ℝ) : EReal)) (Nat.add_sub_cancel_left 3072 _)
  · intro i
    have h0 : (i 0 : ℕ) < 64 := (i 0).isLt
    have h1 : (i 1 : ℕ) < 1024 := (i 1).isLt
    rw [blk2 m c t i (by omega) (by omega), h.i _ (Nat.le_add_right _ _) (by show 4096 + (i 1 : ℕ) < 5120; omega)]
    exact congrArg (fun k : ℕ => (((args m c).I (64 * t.val + i 0) k : ℝ) : EReal)) (Nat.add_sub_cancel_left 4096 _)
  · intro i
    have h0 : (i 0 : ℕ) < 64 := (i 0).isLt
    have h1 : (i 1 : ℕ) < 1024 := (i 1).isLt
    rw [blk3 m c t i (by omega) (by omega), og_eq (A0 m c) _ (Nat.le_add_right _ _) (by show 5120 + (i 1 : ℕ) < 6144; omega)]
    exact congrArg (ogOf (A0 m c) (64 * t.val + i 0)) (Nat.add_sub_cancel_left 5120 _)
  · intro i; rw [blk4 m c t i]; exact h.l _
  · intro i; rw [blk5 m c t i]; exact g_eq _ _

variable (f : Fin1 m c)
include f

/-- The carried state after every chunk. -/
theorem state_upto (n : ℕ) : ∀ (h : n < cfg0.N) (y : S8x128x128.Idx),
    (outsAt0 m c n h).2.2.2 y = ((St (args m c) (n + 1) (128 * y 0 + y 1) (128 * y 0 + y 2) : ℝ) : EReal) := by
  induction n with
  | zero =>
    intro h y
    exact st_at m (args m c) _ _ c ⟨0, h⟩ (blocks m c f _) h (fun hne => absurd rfl hne) y
  | succ n ih =>
    intro h y
    exact st_at m (args m c) _ _ c ⟨n + 1, h⟩ (blocks m c f _) (by show n < _; omega) (fun _ => ih (by omega)) y

/-- The carried state before a chunk that reads it. -/
theorem state_before (t : Fin cfg0.N) (hp : t.val - 1 < cfg0.N) (hne : ¬t.val % 32 = 0) (y : S8x128x128.Idx) :
    (outsAt0 m c (t.val - 1) hp).2.2.2 y = ((St (args m c) t.val (128 * y 0 + y 1) (128 * y 0 + y 2) : ℝ) : EReal) := by
  have e : t.val - 1 + 1 = t.val := by omega
  have := state_upto m c f (t.val - 1) hp y
  rwa [e] at this

theorem before_lt (t : Fin cfg0.N) : t.val - 1 < cfg0.N := lt_of_le_of_lt (Nat.sub_le _ _) t.isLt

theorem final7 (s : Cert.HgFwdRefIdeal.Step.State Ideal) (hs : Cert.HgFwdRefIdeal.Hg.Inv (args m c) 32 s) :
    (dats m 0 c).arrAt 7 cfg0.N = Cert.HgFwdRefIdeal.Step.R_main_v71 (F := Ideal) s := by
  refine (dats m 0 c).arrAt_eq_of_covers 7 _ (by decide +kernel) fun t _ y => ?_
  have ht := t_lt t
  have h0 : (y 0 : ℕ) < 64 := (y 0).isLt
  have e0 : ((((cfg0.win 7).blk t).view.emb y) 0 : ℕ) = 64 * t.val + (y 0 : ℕ) := by blk_simp [idx t]; try omega
  have e1 : ((((cfg0.win 7).blk t).view.emb y) 1 : ℕ) = (y 1 : ℕ) := by blk_simp [idx t]; try omega
  rw [Cert.HgFwdRefIdeal.Hg.r71 hs, e0, e1, show (64 * t.val + (y 0 : ℕ)) / 64 = t.val by omega, show (64 * t.val + (y 0 : ℕ)) % 64 = y 0 by omega]
  blk_simp
  rw [after0_7]
  exact o_at m (args m c) _ _ c t (blocks m c f t) (before_lt m c f t) (state_before m c f t _) y

theorem final6 (s : Cert.HgFwdRefIdeal.Step.State Ideal) (hs : Cert.HgFwdRefIdeal.Hg.Inv (args m c) 32 s) :
    (dats m 0 c).arrAt 6 cfg0.N = Cert.HgFwdRefIdeal.Step.R_main_v70 (F := Ideal) s (A0 m c) (A2 m c) := by
  refine (dats m 0 c).arrAt_eq_of_covers 6 _ (by decide +kernel) fun t _ y => ?_
  have ht := t_lt t
  have h0 : (y 0 : ℕ) < 64 := (y 0).isLt
  have e0 : ((((cfg0.win 6).blk t).view.emb y) 0 : ℕ) = 64 * t.val + (y 0 : ℕ) := by blk_simp [idx t]; try omega
  have e1 : ((((cfg0.win 6).blk t).view.emb y) 1 : ℕ) = (y 1 : ℕ) := by blk_simp [idx t]; try omega
  rw [Cert.HgFwdRefIdeal.Hg.r70 hs (og_eq (A0 m c)) (g_eq (A2 m c)), e0, e1, show (64 * t.val + (y 0 : ℕ)) / 64 = t.val by omega,
    show (64 * t.val + (y 0 : ℕ)) % 64 = y 0 by omega]
  blk_simp
  rw [after0_6]
  exact y_at m (args m c) _ _ c t (blocks m c f t) (before_lt m c f t) (state_before m c f t _) y

theorem final8 (s : Cert.HgFwdRefIdeal.Step.State Ideal) (hs : Cert.HgFwdRefIdeal.Hg.Inv (args m c) 32 s) :
    (dats m 0 c).arrAt 8 cfg0.N = Cert.HgFwdRefIdeal.Step.R_main_v73 (F := Ideal) s := by
  refine (dats m 0 c).arrAt_eq_of_covers 8 _ (by decide +kernel) fun t _ y => ?_
  have ht := t_lt t
  have h0 : (y 0 : ℕ) < 1 := (y 0).isLt
  have e0 : ((((cfg0.win 8).blk t).view.emb y) 0 : ℕ) = t.val := by blk_simp [idx t]; try omega
  have e1 : ((((cfg0.win 8).blk t).view.emb y) 1 : ℕ) = (y 1 : ℕ) := by blk_simp [idx t]; try omega
  have e2 : ((((cfg0.win 8).blk t).view.emb y) 2 : ℕ) = (y 2 : ℕ) := by blk_simp [idx t]; try omega
  have e3 : ((((cfg0.win 8).blk t).view.emb y) 3 : ℕ) = (y 3 : ℕ) := by blk_simp [idx t]; try omega
  rw [Cert.HgFwdRefIdeal.Hg.r73 hs, e0, e1, e2, e3]
  blk_simp
  rw [after0_8]
  exact ss_at m (args m c) _ _ c t (blocks m c f t) (before_lt m c f t) (state_before m c f t _) y

omit f
theorem fin_of_pre [hP : Cert.Pre_finite_hg_fwd.Facts] (h : Cert.Pre_HgFwdIdeal_finite_hg_fwd m) : Fin1 m c := by
  obtain ⟨h0, h1⟩ := h c
  constructor
  · intro i hl hi
    have z0 : ((i 0 : Fin _) : ℕ) < 1 := (i 0).isLt
    have e := congrFun h0 (ix3 (i 0) (i 1) ⟨(i 2 : ℕ) - 2048, by omega⟩)
    pointwise [Cert.Pre_finite_hg_fwd.fn] at e
    have e' := abs_lt_of_bit e
    rwa [at3 i 0 (i 1) _ (by show 0 = (i 0 : ℕ); omega) rfl (by show 2048 + ((i 2 : ℕ) - 2048) = (i 2 : ℕ); omega)] at e'
  · exact fun i => abs_lt_of_bit (congrFun h1 i)

end Cert.HgFwdIdeal.Hg
end
-- ==== Proof.SwigluFwdRef.lean ====
module

public import proofs.«01_k».proof.Proof.Gen.SwigluFwdRefIdeal.Read
public import proofs.«01_k».proof.Proof.SwigluFactor
public import Idealize.ShloMosaic.Lib.Pointwise

set_option maxRecDepth 16384
set_option pp.maxSteps 2000

@[expose] public section

/-! What the feed-forward gate and its two derivatives compute, stage by stage. -/

noncomputable section
open Idealize.ShloMosaic Idealize.ShloMosaic.TcCoe Idealize.SL.Sem
namespace Cert.SwigluFwdRefIdeal.Swiglu
open Cert.SwigluFwdRefIdeal Cert.SwigluFwdRefIdeal.Read Cert.Reals
open Cert.SwigluBwdRefIdeal.Swiglu (Args sg_pos)

structure Args' (a : Args) (x0 : FVec Ideal S1x2048x2048 .f32) (x1 : FVec Ideal S1x2048x11264 .f32) : Prop where
  h : ∀ i, x0 i = ((a.H (i 1) (i 2) : ℝ) : EReal)
  w : ∀ i, x1 i = ((a.W (i 1) (i 2) : ℝ) : EReal)

variable {a : Args} {x0 : FVec Ideal S1x2048x2048 .f32} {x1 : FVec Ideal S1x2048x11264 .f32} (h : Args' a x0 x1)
include h

theorem r1 (i : S1x2048x11264.Idx) : val_main_v1 (F := Ideal) x0 x1 i = ((a.A (i 1) (i 2) : ℝ) : EReal) := by
  pointwise [val_main_v1, val_main_v0]
  simp only [h.h, h.w, ← EReal.coe_mul, sum_coe]
  rfl

theorem r2 (i : S1x2048x5632.Idx) : val_main_v2 (F := Ideal) x0 x1 i = ((a.A (i 1) (i 2) : ℝ) : EReal) := by
  pointwise [val_main_v2]
  rw [r1 h]
  rfl

theorem r3 (i : S1x2048x5632.Idx) : val_main_v3 (F := Ideal) x0 x1 i = ((a.A (i 1) (5632 + i 2) : ℝ) : EReal) := by
  pointwise [val_main_v3]
  rw [r1 h]
  rfl

theorem r4 (i : S1x2048x5632.Idx) : val_main_v4_2 (F := Ideal) x0 x1 i = ((a.sg (i 1) (i 2) : ℝ) : EReal) := by
  pointwise [val_main_v4_2, val_main_call0_v4, val_main_call0_cst_0, val_main_call0_v3, val_main_call0_v2, val_main_call0_cst, val_main_call0_v1, val_main_call0_v0]
  rw [r2 h]
  simp only [lit_one, lift_one, ← EReal.coe_neg, exp_real, ← EReal.coe_add, div_real _ _ (sg_pos _ _ _)]
  rfl

/-- The gated values. -/
theorem r11 (i : S2048x5632.Idx) : val_main_v11 (F := Ideal) x0 x1 i
    = ((a.A (i 0) (i 1) * a.sg (i 0) (i 1) * a.A (i 0) (5632 + i 1) : ℝ) : EReal) := by
  pointwise [val_main_v11, val_main_v10, val_main_v5, val_main_v4_0]
  simp only [r2 h, r3 h, r4 h, ← EReal.coe_mul]
  rfl

theorem r7 (i : S1x2048x5632.Idx) : val_main_v7 (F := Ideal) x0 x1 i = ((a.fac 1 (i 1) (i 2) : ℝ) : EReal) := by
  pointwise [val_main_v7, val_main_v4_0, val_main_v6, val_main_cst]
  simp only [r2 h, r4 h, lit_one, lift_one, ← EReal.coe_mul]
  refine congrArg _ ?_
  simp only [Args.fac, Nat.one_ne_zero, if_false, mul_one]

theorem r9 (i : S1x2048x5632.Idx) : val_main_v9 (F := Ideal) x0 x1 i = ((a.fac 0 (i 1) (i 2) : ℝ) : EReal) := by
  pointwise [val_main_v9, val_main_call1_v2, val_main_call1_v1, val_main_call1_v0, val_main_v8, val_main_v6, val_main_cst, val_main_v4_1, val_main_call0_v7, val_main_call0_v6, val_main_call0_cst_1]
  simp only [r2 h, r3 h, r4 h, lit_one, lift_one, ← EReal.coe_mul, ← EReal.coe_sub, ← EReal.coe_add]
  refine congrArg _ ?_
  simp only [Args.fac, if_true]
  ring

/-- Both derivatives, one above the other. -/
theorem r13 (i : S2x2048x5632.Idx) : val_main_v13 (F := Ideal) x0 x1 i = ((a.fac (i 0) (i 1) (i 2) : ℝ) : EReal) := by
  pointwise [val_main_v13, val_main_v12]
  simp only [r7 h, r9 h]
  have z0 : ((i 0 : Fin _) : ℕ) < 2 := (i 0).isLt
  by_cases h0 : (i 0 : ℕ) = 0
  · rw [dif_pos (by omega)]
    exact (congrArg (fun q : ℕ => ((a.fac q (i 1) (i 2) : ℝ) : EReal)) h0).symm
  · have h1 : (i 0 : ℕ) = 1 := by omega
    rw [dif_neg (by omega)]
    exact (congrArg (fun q : ℕ => ((a.fac q (i 1) (i 2) : ℝ) : EReal)) h1).symm

end Cert.SwigluFwdRefIdeal.Swiglu
end
-- ==== Proof.SwigluFwdValue.lean ====
module

public import proofs.«01_k».proof.Proof.Gen.SwigluFwdIdeal.Value
public import proofs.«01_k».proof.Proof.SwigluFwdRef
public import Idealize.ShloMosaic.Lib.Pipeline.ReadBack
public import Idealize.ShloMosaic.Lib.Pipeline.ValueKit

public import proofs.«01_k».proof.Defs

set_option maxRecDepth 16384
set_option maxHeartbeats 1600000
set_option pp.maxSteps 2000

@[expose] public section

/-! The two arrays the feed-forward gate's kernel leaves: the gated values, and the gate's two derivatives. -/

noncomputable section
open Idealize.ShloMosaic Idealize.ShloMosaic.TcCoe Idealize.SL.Sem
namespace Cert.SwigluFwdIdeal.Swiglu
open Cert.SwigluFwdIdeal Cert.SwigluFwdIdeal.Gen Cert.Reals
open Cert.SwigluBwdRefIdeal.Swiglu (Args sg_pos)
open Cert.SwigluBwdIdeal.Swiglu (atN realN)

variable (m : (ℓ : Loc nD τ sig) → Buf (Elt Ideal) ℓ) (c : Dev nD)

abbrev A0 : S1x2048x2048.Idx → EReal := m ((c : Thread nD τ).loc main_arg0)
abbrev A1 : S1x2048x11264.Idx → EReal := m ((c : Thread nD τ).loc main_arg1)

/-- The arguments' real parts; the second product's are not used. -/
abbrev args : Args where
  H r k := (atN (A0 m c) r k).toReal
  W r k := (atN (A1 m c) r k).toReal
  U _ _ := 0
  D _ _ := 0

/-- What the precondition says of the arguments. -/
structure Fin1 : Prop where
  h : ∀ i, max (A0 m c i) (-A0 m c i) < ⊤
  w : ∀ i, max (A1 m c i) (-A1 m c i) < ⊤

theorem real_args (f : Fin1 m c) : Cert.SwigluFwdRefIdeal.Swiglu.Args' (args m c) (A0 m c) (A1 m c) := ⟨realN f.h, realN f.w⟩

theorem idx : ∀ t : Fin cfg0.N, win0_0.index t = ![t.val % 8, 0] ∧ win0_1.index t = ![t.val / 8, 0, 0] ∧ win0_2.index t = ![t.val / 8 + 4, 0, 0]
    ∧ win0_3.index t = ![t.val % 8, t.val / 8] ∧ win0_4.index t = ![0, t.val % 8, t.val / 8] :=
  (by decide +kernel : ∀ t : Fin grid0.N, _)

theorem t_lt (t : Fin cfg0.N) : t.val < 32 := lt_of_lt_of_eq t.isLt N_0

theorem blk0 (t : Fin cfg0.N) (i : S256x2048.Idx) (h : 256 * (t.val % 8) + (i 0 : ℕ) < 2048) :
    iblk m c 0 t i = A0 m c (ix3 0 ⟨256 * (t.val % 8) + i 0, h⟩ (i 1)) := by
  blk_point [iblk, V, idx t]
theorem blk1 (t : Fin cfg0.N) (i : S1x2048x1408.Idx) (h : 1408 * (t.val / 8) + (i 2 : ℕ) < 11264) :
    iblk m c 1 t i = A1 m c (ix3 0 (i 1) ⟨1408 * (t.val / 8) + i 2, h⟩) := by
  blk_point [iblk, V, idx t]
theorem blk2 (t : Fin cfg0.N) (i : S1x2048x1408.Idx) (h : 1408 * (t.val / 8 + 4) + (i 2 : ℕ) < 11264) :
    iblk m c 2 t i = A1 m c (ix3 0 (i 1) ⟨1408 * (t.val / 8 + 4) + i 2, h⟩) := by
  blk_point [iblk, V, idx t]

/-- The arguments' blocks at a grid point. -/
structure Blocks (a : Args) (t : Fin cfg0.N) : Prop where
  h : ∀ i : S256x2048.Idx, iblk m c 0 t i = ((a.H (256 * (t.val % 8) + i 0) (i 1) : ℝ) : EReal)
  w : ∀ i : S1x2048x1408.Idx, iblk m c 1 t i = ((a.W (i 1) (1408 * (t.val / 8) + i 2) : ℝ) : EReal)
  v : ∀ i : S1x2048x1408.Idx, iblk m c 2 t i = ((a.W (i 1) (5632 + (1408 * (t.val / 8) + i 2)) : ℝ) : EReal)

theorem blocks (f : Fin1 m c) (t : Fin cfg0.N) : Blocks m c (args m c) t := by
  have ht := t_lt t
  have r := real_args m c f
  constructor
  · intro i; have h0 : (i 0 : ℕ) < 256 := (i 0).isLt
    rw [blk0 m c t i (by omega)]; exact r.h _
  · intro i; have h0 : (i 2 : ℕ) < 1408 := (i 2).isLt
    rw [blk1 m c t i (by omega)]; exact r.w _
  · intro i; have h0 : (i 2 : ℕ) < 1408 := (i 2).isLt
    rw [blk2 m c t i (by omega)]
    refine (r.w _).trans ?_
    show (((args m c).W (i 1) (1408 * (t.val / 8 + 4) + i 2) : ℝ) : EReal) = _
    rw [show 1408 * (t.val / 8 + 4) + (i 2 : ℕ) = 5632 + (1408 * (t.val / 8) + i 2) by omega]

theorem ld0 (x : Vec Ideal S256x2048 .bf16) : View.ld x r0_0 = x := View.ld_unit_lit _ _ (by decide)
theorem ld1 (x : Vec Ideal S1x2048x1408 .bf16) : View.ld x r0_1 = x := View.ld_unit_lit _ _ (by decide)

section stages
variable {m c} {a : Args} {t : Fin cfg0.N} (b : Blocks m c a t)
include b

theorem p3 (i : S256x1408.Idx) : k0_pay3 (iblk m c 0 t) (iblk m c 1 t) i
    = ((a.A (256 * (t.val % 8) + i 0) (1408 * (t.val / 8) + i 1) : ℝ) : EReal) := by
  pointwise [k0_pay3, k0_pay2]
  simp only [b.h, b.w, ← EReal.coe_mul, sum_coe, lift_zero, ← EReal.coe_add, zero_add]
  rfl

theorem p4 (i : S256x1408.Idx) : k0_pay4 (iblk m c 0 t) (iblk m c 2 t) i
    = ((a.A (256 * (t.val % 8) + i 0) (5632 + (1408 * (t.val / 8) + i 1)) : ℝ) : EReal) := by
  pointwise [k0_pay4, k0_pay2]
  simp only [b.h, b.v, ← EReal.coe_mul, sum_coe, lift_zero, ← EReal.coe_add, zero_add]
  rfl

theorem p5 (i : S256x1408.Idx) : k0_pay5 (iblk m c 0 t) (iblk m c 1 t) i
    = ((a.sg (256 * (t.val % 8) + i 0) (1408 * (t.val / 8) + i 1) : ℝ) : EReal) := by
  pointwise [k0_pay5]
  simp only [p3 b, zero_sub, lit_one, lift_one, ← EReal.coe_neg, exp_real, ← EReal.coe_add, div_real _ _ (sg_pos _ _ _)]
  rfl

/-- The gated values a grid point leaves. -/
theorem gated_at (y : S256x1408.Idx) : out0_3 (iblk m c 0 t) (iblk m c 1 t) (iblk m c 2 t) y
    = ((a.A (256 * (t.val % 8) + y 0) (1408 * (t.val / 8) + y 1) * a.sg (256 * (t.val % 8) + y 0) (1408 * (t.val / 8) + y 1)
      * a.A (256 * (t.val % 8) + y 0) (5632 + (1408 * (t.val / 8) + y 1)) : ℝ) : EReal) := by
  frame_out
  pointwise [k0_pay7, k0_pay6]
  simp only [ld0, ld1, p3 b, p4 b, p5 b, ← EReal.coe_mul]

/-- The two derivatives a grid point leaves. -/
theorem fac_at (y : S2x256x1408.Idx) : out0_4 (iblk m c 0 t) (iblk m c 1 t) (iblk m c 2 t) y
    = ((a.fac (y 0) (256 * (t.val % 8) + y 1) (1408 * (t.val / 8) + y 2) : ℝ) : EReal) := by
  canon_tiles x h
  all_goals
    pointwise [k0_pay1, k0_pay9, k0_pay6, k0_pay8]
    simp only [ld0, ld1]
    simp only [p3 b, p4 b, p5 b, lit_one, lift_one, ← EReal.coe_mul, ← EReal.coe_add, ← EReal.coe_sub]
    have xz : (x 0 : ℕ) = 0 := by omega
    simp only [Args.fac, h0, h1, h2, xz, reduceIte, Nat.add_zero, Nat.one_ne_zero]
    rfl

end stages

theorem final3 (f : Fin1 m c) : (dats m 0 c).arrAt 3 cfg0.N = Cert.SwigluFwdRefIdeal.Read.val_main_v11 (F := Ideal) (A0 m c) (A1 m c) := by
  refine (dats m 0 c).arrAt_eq_of_covers 3 _ (by decide +kernel) fun t _ y => ?_
  have ht := t_lt t
  have e0 : ((((cfg0.win 3).blk t).view.emb y) 0 : ℕ) = 256 * (t.val % 8) + (y 0 : ℕ) := by blk_simp [idx t]; try omega
  have e1 : ((((cfg0.win 3).blk t).view.emb y) 1 : ℕ) = 1408 * (t.val / 8) + (y 1 : ℕ) := by blk_simp [idx t]; try omega
  rw [Cert.SwigluFwdRefIdeal.Swiglu.r11 (real_args m c f)]
  rw [e0, e1]
  blk_simp
  rw [after0_3]
  exact gated_at (blocks m c f t) y

theorem final4 (f : Fin1 m c) : (dats m 0 c).arrAt 4 cfg0.N = Cert.SwigluFwdRefIdeal.Read.val_main_v13 (F := Ideal) (A0 m c) (A1 m c) := by
  refine (dats m 0 c).arrAt_eq_of_covers 4 _ (by decide +kernel) fun t _ y => ?_
  have ht := t_lt t
  have e0 : ((((cfg0.win 4).blk t).view.emb y) 0 : ℕ) = (y 0 : ℕ) := by blk_simp [idx t]; try omega
  have e1 : ((((cfg0.win 4).blk t).view.emb y) 1 : ℕ) = 256 * (t.val % 8) + (y 1 : ℕ) := by blk_simp [idx t]; try omega
  have e2 : ((((cfg0.win 4).blk t).view.emb y) 2 : ℕ) = 1408 * (t.val / 8) + (y 2 : ℕ) := by blk_simp [idx t]; try omega
  rw [Cert.SwigluFwdRefIdeal.Swiglu.r13 (real_args m c f)]
  rw [e0, e1, e2]
  blk_simp
  rw [after0_4]
  exact fac_at (blocks m c f t) y

theorem fin_of_pre [hP : Cert.Pre_finite_swiglu_fwd.Facts] (h : Cert.Pre_SwigluFwdIdeal_finite_swiglu_fwd m) : Fin1 m c := by
  obtain ⟨h0, h1⟩ := h c
  exact ⟨fun i => abs_lt_of_bit (congrFun h0 i), fun i => abs_lt_of_bit (congrFun h1 i)⟩

end Cert.SwigluFwdIdeal.Swiglu
end
-- ==== Proof.MergeFwdValue.lean ====
module

public import proofs.«01_k».proof.Proof.Gen.MergeFwdIdeal.Value
public import proofs.«01_k».proof.Proof.Gen.MergeFwdRefIdeal.Read
public import Idealize.ShloMosaic.Lib.Pointwise
public import Idealize.ShloMosaic.Lib.Pipeline.ValueKit
public import proofs.«01_k».proof.Proof.Reals

set_option maxRecDepth 16384
set_option maxHeartbeats 1600000
set_option pp.maxSteps 2000

@[expose] public section

/-! The two arrays the merge's kernel leaves are the reference's. -/

noncomputable section
open Idealize.ShloMosaic Idealize.ShloMosaic.TcCoe Idealize.SL.Sem
namespace Cert.MergeFwdIdeal.Merge
open Cert.MergeFwdIdeal Cert.MergeFwdIdeal.Gen Cert.Reals

variable (m : (ℓ : Loc nD τ sig) → Buf (Elt Ideal) ℓ) (c : Dev nD)

abbrev A0 : S1x2048x10240.Idx → EReal := m ((c : Thread nD τ).loc main_arg0)
abbrev A1 : S1x2048x2048.Idx → EReal := m ((c : Thread nD τ).loc main_arg1)
abbrev A2 : S1x2048x1024.Idx → EReal := m ((c : Thread nD τ).loc main_arg2)
abbrev A3 : S1x4096.Idx → EReal := m ((c : Thread nD τ).loc main_arg3)
abbrev A4 : S1x1024x2048.Idx → EReal := m ((c : Thread nD τ).loc main_arg4)

theorem idx : ∀ t : Fin cfg0.N, win0_0.index t = ![t.val / 2, 0] ∧ win0_1.index t = ![0, t.val % 2]
    ∧ win0_2.index t = ![t.val / 2, t.val % 2] ∧ win0_3.index t = ![t.val / 2, 6 + t.val % 2]
    ∧ win0_4.index t = ![t.val / 2, 8 + t.val % 2] ∧ win0_5.index t = ![0, t.val % 2] ∧ win0_6.index t = ![0, 2 + t.val % 2]
    ∧ win0_7.index t = ![t.val / 2, t.val % 2] ∧ win0_8.index t = ![t.val / 2, t.val % 2] :=
  (by decide +kernel : ∀ t : Fin grid0.N, _)

theorem point7 (t : Fin cfg0.N) (y : S512x1024.Idx) :
    out0_7 (iblk m c 0 t) (iblk m c 1 t) (iblk m c 2 t) (iblk m c 3 t) (iblk m c 4 t) (iblk m c 5 t) (iblk m c 6 t) y
      = Cert.MergeFwdRefIdeal.Read.val_main_v30 (F := Ideal) (A2 m c) (A4 m c) (((cfg0.win 7).blk t).view.emb y) := by
  frame_out
  open Cert.MergeFwdRefIdeal.Read in
  pointwise [k0_pay5, k0_pay2, val_main_v30, val_main_v29, val_main_v1, val_main_v0]
  blk_point [iblk, V, idx t]

theorem point8 (t : Fin cfg0.N) (y : S512x1024.Idx) :
    out0_8 (iblk m c 0 t) (iblk m c 1 t) (iblk m c 2 t) (iblk m c 3 t) (iblk m c 4 t) (iblk m c 5 t) (iblk m c 6 t) y
      = Cert.MergeFwdRefIdeal.Read.val_main_v32 (F := Ideal) (A0 m c) (A1 m c) (A2 m c) (A3 m c) (A4 m c) (((cfg0.win 8).blk t).view.emb y) := by
  frame_out
  open Cert.MergeFwdRefIdeal.Read in
  pointwise [k0_pay1, k0_pay2, k0_pay3, k0_pay4, k0_pay6, val_main_v32, val_main_v31, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  simp only [EReal.coe_zero, zero_sub]
  blk_point [iblk, V, idx t]

theorem final7 : (dats m 0 c).arrAt 7 cfg0.N = Cert.MergeFwdRefIdeal.Read.val_main_v30 (F := Ideal) (A2 m c) (A4 m c) := by
  refine (dats m 0 c).arrAt_eq_of_covers 7 _ (by decide +kernel) fun t _ y => ?_
  blk_simp
  rw [after0_7]
  exact point7 m c t y

theorem final8 : (dats m 0 c).arrAt 8 cfg0.N
    = Cert.MergeFwdRefIdeal.Read.val_main_v32 (F := Ideal) (A0 m c) (A1 m c) (A2 m c) (A3 m c) (A4 m c) := by
  refine (dats m 0 c).arrAt_eq_of_covers 8 _ (by decide +kernel) fun t _ y => ?_
  blk_simp
  rw [after0_8]
  exact point8 m c t y

end Cert.MergeFwdIdeal.Merge
end
-- ==== Proof.NormOneFwdValue.lean ====
module

public import proofs.«01_k».proof.Proof.Gen.NormOneFwdIdeal.Value
public import proofs.«01_k».proof.Proof.Gen.NormOneFwdRefIdeal.Read
public import Idealize.ShloMosaic.Lib.Pointwise
public import Idealize.ShloMosaic.Lib.Pipeline.ValueKit
public import proofs.«01_k».proof.Proof.Reals

set_option maxRecDepth 16384
set_option maxHeartbeats 1600000
set_option pp.maxSteps 2000

@[expose] public section

/-! The array the first norm's kernel leaves is the reference's. -/

noncomputable section
open Idealize.ShloMosaic Idealize.ShloMosaic.TcCoe Idealize.SL.Sem
namespace Cert.NormOneFwdIdeal.Norm
open Cert.NormOneFwdIdeal Cert.NormOneFwdIdeal.Gen Cert.Reals

variable (m : (ℓ : Loc nD τ sig) → Buf (Elt Ideal) ℓ) (c : Dev nD)

abbrev A0 : S1x2048x2048.Idx → EReal := m ((c : Thread nD τ).loc main_arg0)
abbrev A1 : S1x2048.Idx → EReal := m ((c : Thread nD τ).loc main_arg1)
abbrev A2 : S1x2048.Idx → EReal := m ((c : Thread nD τ).loc main_arg2)
abbrev A3 : S1x2048.Idx → EReal := m ((c : Thread nD τ).loc main_arg3)

theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

theorem point (t : Fin cfg0.N) (y : S256x2048.Idx) : out0_4 (iblk m c 0 t) (iblk m c 1 t) (iblk m c 2 t) (iblk m c 3 t) y
      = Cert.NormOneFwdRefIdeal.Read.val_main_v23 (F := Ideal) (A0 m c) (A1 m c) (A2 m c) (A3 m c) (((cfg0.win 4).blk t).view.emb y) := by
  frame_out
  open Cert.NormOneFwdRefIdeal.Read in
  pointwise [k0_pay1, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  blk_point [iblk, V, idx t]

theorem final : (dats m 0 c).arrAt 4 cfg0.N
    = Cert.NormOneFwdRefIdeal.Read.val_main_v23 (F := Ideal) (A0 m c) (A1 m c) (A2 m c) (A3 m c) := by
  refine (dats m 0 c).arrAt_eq_of_covers 4 _ (by decide +kernel) fun t _ y => ?_
  blk_simp
  rw [after0_4]
  exact point m c t y

end Cert.NormOneFwdIdeal.Norm
end
-- ==== Proof.NormTwoFwdValue.lean ====
module

public import proofs.«01_k».proof.Proof.Gen.NormTwoFwdIdeal.Value
public import proofs.«01_k».proof.Proof.Gen.NormTwoFwdRefIdeal.Read
public import Idealize.ShloMosaic.Lib.Pointwise
public import Idealize.ShloMosaic.Lib.Pipeline.ValueKit
public import proofs.«01_k».proof.Proof.Reals

set_option maxRecDepth 16384
set_option maxHeartbeats 1600000
set_option pp.maxSteps 2000

@[expose] public section

/-! The array the second norm's kernel leaves is the reference's. -/

noncomputable section
open Idealize.ShloMosaic Idealize.ShloMosaic.TcCoe Idealize.SL.Sem
namespace Cert.NormTwoFwdIdeal.Norm
open Cert.NormTwoFwdIdeal Cert.NormTwoFwdIdeal.Gen Cert.Reals

variable (m : (ℓ : Loc nD τ sig) → Buf (Elt Ideal) ℓ) (c : Dev nD)

abbrev A0 : S1x2048x2048.Idx → EReal := m ((c : Thread nD τ).loc main_arg0)
abbrev A1 : S1x2048x2048.Idx → EReal := m ((c : Thread nD τ).loc main_arg1)
abbrev A2 : S1x2048.Idx → EReal := m ((c : Thread nD τ).loc main_arg2)
abbrev A3 : S1x2048.Idx → EReal := m ((c : Thread nD τ).loc main_arg3)
abbrev A4 : S1x2048.Idx → EReal := m ((c : Thread nD τ).loc main_arg4)
abbrev A5 : S1x2048.Idx → EReal := m ((c : Thread nD τ).loc main_arg5)

theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- The sum the host prepares is the reference's. -/
theorem blk0 (t : Fin cfg0.N) : iblk m c 0 t = fun i : S256x2048.Idx =>
    Cert.NormTwoFwdRefIdeal.Read.val_main_v3 (F := Ideal) (A0 m c) (A1 m c) (A2 m c)
      (ix3 0 ⟨256 * t.val + i 0, by have h := lt_of_lt_of_eq t.isLt N_0; have h0 : (i 0 : ℕ) < 256 := (i 0).isLt; omega⟩ (i 1)) := by
  funext i
  open Cert.NormTwoFwdRefIdeal.Read in
  pointwise [val_main_v3, val_main_v2, val_main_v1, val_main_v0]
  have e0 : ((((cfg0.win 0).blk t).view.emb i) 0 : ℕ) = 256 * t.val + (i 0 : ℕ) := by blk_simp [idx t]; try omega
  have e1 : ((((cfg0.win 0).blk t).view.emb i) 1 : ℕ) = (i 1 : ℕ) := by blk_simp [idx t]; try omega
  blk_simp [iblk, V]
  entry_read
  pointwise
  refine congrArg₂ (· + ·) (congrArg _ (congrArg₂ (ix3 0) (Fin.ext e0) (Fin.ext e1))) (congrArg₂ (· * ·) (congrArg _ (congrArg (ix2 0) (Fin.ext e1)))
    (congrArg _ (congrArg₂ (ix3 0) (Fin.ext e0) (Fin.ext e1))))

theorem point (t : Fin cfg0.N) (y : S256x2048.Idx) : out0_4 (iblk m c 0 t) (iblk m c 1 t) (iblk m c 2 t) (iblk m c 3 t) y
      = Cert.NormTwoFwdRefIdeal.Read.val_main_v27 (F := Ideal) (A0 m c) (A1 m c) (A2 m c) (A3 m c) (A4 m c) (A5 m c) (((cfg0.win 4).blk t).view.emb y) := by
  rw [blk0 m c t]
  frame_out
  open Cert.NormTwoFwdRefIdeal.Read in
  pointwise [k0_pay1, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1, val_main_cst_2]
  generalize Cert.NormTwoFwdRefIdeal.Read.val_main_v3 (F := Ideal) (A0 m c) (A1 m c) (A2 m c) = X
  blk_point [iblk, V, idx t]

theorem final : (dats m 0 c).arrAt 4 cfg0.N
    = Cert.NormTwoFwdRefIdeal.Read.val_main_v27 (F := Ideal) (A0 m c) (A1 m c) (A2 m c) (A3 m c) (A4 m c) (A5 m c) := by
  refine (dats m 0 c).arrAt_eq_of_covers 4 _ (by decide +kernel) fun t _ y => ?_
  blk_simp
  rw [after0_4]
  exact point m c t y

end Cert.NormTwoFwdIdeal.Norm
end
-- ==== Proof.FfnOutValue.lean ====
module

public import proofs.«01_k».proof.Proof.Gen.FfnOutIdeal.Value
public import proofs.«01_k».proof.Proof.Gen.FfnOutRefIdeal.Read
public import Idealize.ShloMosaic.Lib.Pointwise
public import Idealize.ShloMosaic.Lib.Pipeline.ValueKit
public import proofs.«01_k».proof.Proof.Reals

set_option maxRecDepth 16384
set_option maxHeartbeats 1600000
set_option pp.maxSteps 2000

@[expose] public section

/-! The feed-forward's output projection with the gated residual sum: the kernel's two arrays are the reference's. -/

noncomputable section
open Idealize.ShloMosaic Idealize.ShloMosaic.TcCoe Idealize.SL.Sem
namespace Cert.FfnOutIdeal.Product
open Cert.FfnOutIdeal Cert.FfnOutIdeal.Gen Cert.Reals

variable (m : (ℓ : Loc nD τ sig) → Buf (Elt Ideal) ℓ) (c : Dev nD)

abbrev A0 : S1x2048x2048.Idx → EReal := m ((c : Thread nD τ).loc main_arg0)
abbrev A1 : S1x2048x5632.Idx → EReal := m ((c : Thread nD τ).loc main_arg1)
abbrev A2 : S1x2048.Idx → EReal := m ((c : Thread nD τ).loc main_arg2)
abbrev A3 : S1x5632x2048.Idx → EReal := m ((c : Thread nD τ).loc main_arg3)

theorem idx : ∀ t : Fin cfg0.N, win0_0.index t = ![t.val / 8, 0]
    ∧ win0_1.index t = ![0, t.val % 8]
    ∧ win0_2.index t = ![t.val / 8, t.val % 8]
    ∧ win0_3.index t = ![0, t.val % 8]
    ∧ win0_4.index t = ![t.val / 8, t.val % 8]
    ∧ win0_5.index t = ![t.val / 8, t.val % 8] :=
  (by decide +kernel : ∀ t : Fin grid0.N, _)

theorem point4 (t : Fin cfg0.N) (y : S1024x256.Idx) : out0_4 (iblk m c 0 t) (iblk m c 1 t) (iblk m c 2 t) (iblk m c 3 t) y
      = Cert.FfnOutRefIdeal.Read.val_main_v3 (F := Ideal) (A1 m c) (A3 m c) (((cfg0.win 4).blk t).view.emb y) := by
  frame_out
  open Cert.FfnOutRefIdeal.Read in
  pointwise [k0_pay2, k0_pay1, val_main_v3, val_main_v2, val_main_v1, val_main_v0]
  blk_point [iblk, V, idx t]

theorem final4 : (dats m 0 c).arrAt 4 cfg0.N = Cert.FfnOutRefIdeal.Read.val_main_v3 (F := Ideal) (A1 m c) (A3 m c) := by
  refine (dats m 0 c).arrAt_eq_of_covers 4 _ (by decide +kernel) fun t _ y => ?_
  blk_simp
  rw [after0_4]
  exact point4 m c t y

theorem point5 (t : Fin cfg0.N) (y : S1024x256.Idx) : out0_5 (iblk m c 0 t) (iblk m c 1 t) (iblk m c 2 t) (iblk m c 3 t) y
      = Cert.FfnOutRefIdeal.Read.val_main_v8 (F := Ideal) (A0 m c) (A1 m c) (A2 m c) (A3 m c) (((cfg0.win 5).blk t).view.emb y) := by
  frame_out
  open Cert.FfnOutRefIdeal.Read in
  pointwise [k0_pay3, k0_pay1, val_main_v8, val_main_v7, val_main_v6, val_main_v5, val_main_v4, val_main_v1, val_main_v0]
  blk_point [iblk, V, idx t]

theorem final5 : (dats m 0 c).arrAt 5 cfg0.N = Cert.FfnOutRefIdeal.Read.val_main_v8 (F := Ideal) (A0 m c) (A1 m c) (A2 m c) (A3 m c) := by
  refine (dats m 0 c).arrAt_eq_of_covers 5 _ (by decide +kernel) fun t _ y => ?_
  blk_simp
  rw [after0_5]
  exact point5 m c t y

end Cert.FfnOutIdeal.Product
end
-- ==== Proof.AdaModValue.lean ====
module

public import proofs.«01_k».proof.Proof.Gen.AdaModIdeal.Value
public import proofs.«01_k».proof.Proof.Gen.AdaModRefIdeal.Read
public import Idealize.ShloMosaic.Lib.Pointwise
public import Idealize.ShloMosaic.Lib.Pipeline.ValueKit
public import proofs.«01_k».proof.Proof.Reals

set_option maxRecDepth 16384
set_option maxHeartbeats 1600000
set_option pp.maxSteps 2000

@[expose] public section

/-! The conditioning's product: the activation is read point by point, the product carried over the blocks of its long axis. -/

noncomputable section
open Idealize.ShloMosaic Idealize.ShloMosaic.TcCoe Idealize.SL.Sem
namespace Cert.AdaModIdeal.Product
open Cert.AdaModIdeal Cert.AdaModIdeal.Gen Cert.Reals

variable (m : (ℓ : Loc nD τ sig) → Buf (Elt Ideal) ℓ) (c : Dev nD)

abbrev A0 : S8x2048.Idx → EReal := m ((c : Thread nD τ).loc main_arg0)
abbrev A1 : S1x2048x1536.Idx → EReal := m ((c : Thread nD τ).loc main_arg1)

theorem idx : ∀ t : Fin cfg0.N, win0_0.index t = ![0, t.val]
    ∧ win0_1.index t = ![t.val, 0]
    ∧ win0_2.index t = ![0, 0]
    ∧ win0_3.index t = ![0, t.val] :=
  (by decide +kernel : ∀ t : Fin grid0.N, _)

theorem blk0 (t : Fin cfg0.N) (y : S16x512.Idx) : iblk m c 0 t y
    = Cert.AdaModRefIdeal.Read.val_main_v0 (F := Ideal) (A0 m c) (((cfg0.win 3).blk t).view.emb y) := by
  have e : ((cfg0.win 0).blk t).view.emb y = ((cfg0.win 3).blk t).view.emb y := by
    funext i; apply Fin.ext
    match i with
    | 0 => blk_simp [idx t]
    | 1 => blk_simp [idx t]
  show V m c main_v0 (((cfg0.win 0).blk t).view.emb y) = _
  rw [e]
  generalize ((cfg0.win 3).blk t).view.emb y = z
  blk_simp [iblk, V]
  simp only [hostOps0, hostOps0_1, hostOps0_2, List.flatten_cons, List.flatten_nil, List.append_nil, List.cons_append, List.nil_append]
  entry_read
  rfl

theorem sil (t : Fin cfg0.N) (y : S16x512.Idx) : k0_pay2 (iblk m c 0 t) y
    = Cert.AdaModRefIdeal.Read.val_main_v1 (F := Ideal) (A0 m c) (((cfg0.win 3).blk t).view.emb y) := by
  open Cert.AdaModRefIdeal.Read in
  pointwise [k0_pay2, val_main_v1, val_main_call1_v5, val_main_call1_v4, val_main_call1_v3, val_main_call1_v2, val_main_call1_v1, val_main_call1_v0, val_main_call1_cst, val_main_call1_cst_0]
  rw [blk0 m c t]
  simp only [EReal.coe_zero, zero_sub]

theorem point3 (t : Fin cfg0.N) (y : S16x512.Idx) : (outsAt0 m c t.val t.isLt).2 y
    = Cert.AdaModRefIdeal.Read.val_main_v1 (F := Ideal) (A0 m c) (((cfg0.win 3).blk t).view.emb y) := by
  by_cases hA : t.val % 4 = 0
  on_goal 1 => rw [outsAt0_A m c t hA]
  on_goal 2 => rw [outsAt0_B m c t hA]
  all_goals
    frame_open
    frame_out
    exact sil m c t y

theorem final3 : (dats m 0 c).arrAt 3 cfg0.N = Cert.AdaModRefIdeal.Read.val_main_v1 (F := Ideal) (A0 m c) := by
  refine (dats m 0 c).arrAt_eq_of_covers 3 _ (by decide +kernel) fun t _ y => ?_
  blk_simp
  rw [after0_3]
  exact point3 m c t y

abbrev B1 (t : Fin cfg0.N) : S512x1536.Idx → EReal := iblk m c 1 t

/-- One term of the product's sum, the position a natural number. -/
def G (r : Fin 16) (j : Fin 1536) (k : ℕ) : EReal :=
  if h : k < 2048 then Cert.AdaModRefIdeal.Read.val_main_v1 (F := Ideal) (A0 m c) (ix2 r ⟨k, h⟩)
    * Cert.AdaModRefIdeal.Read.val_main_v2 (F := Ideal) (A1 m c) (ix2 ⟨k, h⟩ j) else 0

theorem term (t : Fin cfg0.N) (r : Fin 16) (j : Fin 1536) (x : Fin 512) :
    k0_pay2 (iblk m c 0 t) (ix2 r x) * B1 m c t (ix2 x j) = G m c r j (512 * t.val + x.val) := by
  have ht : t.val < 4 := lt_of_lt_of_eq t.isLt N_0
  rw [sil m c t, G, dif_pos (by have := x.isLt; omega)]
  generalize Cert.AdaModRefIdeal.Read.val_main_v1 (F := Ideal) (A0 m c) = X
  open Cert.AdaModRefIdeal.Read in
  pointwise [val_main_v2]
  have e0 : ((((cfg0.win 1).blk t).view.emb (ix2 x j)) 0 : ℕ) = 512 * t.val + (x : ℕ) := by blk_simp [idx t]; try omega
  have e1 : ((((cfg0.win 1).blk t).view.emb (ix2 x j)) 1 : ℕ) = (j : ℕ) := by blk_simp [idx t]; try omega
  have e2 : ((((cfg0.win 3).blk t).view.emb (ix2 r x)) 0 : ℕ) = (r : ℕ) := by blk_simp [idx t]; try omega
  have e3 : ((((cfg0.win 3).blk t).view.emb (ix2 r x)) 1 : ℕ) = 512 * t.val + (x : ℕ) := by blk_simp [idx t]; try omega
  refine congrArg₂ (· * ·) (congrArg X (by funext i; apply Fin.ext; match i with | 0 => exact e2 | 1 => exact e3)) ?_
  blk_simp [iblk, V]
  simp only [hostOps0, hostOps0_1, hostOps0_2, List.flatten_cons, List.flatten_nil, List.append_nil, List.cons_append, List.nil_append]
  entry_read
  pointwise
  exact congrArg (A1 m c) (congrArg₂ (ix3 (0 : Fin 1)) (Fin.ext e0 : _ = (⟨_, _⟩ : Fin 2048)) (Fin.ext e1 : _ = j))

theorem step (t : Fin cfg0.N) (hA : ¬t.val % 4 = 0) (hp : t.val - 1 < cfg0.N) (y : S16x1536.Idx) :
    (outsAt0 m c t.val t.isLt).1 y = (outsAt0 m c (t.val - 1) hp).1 y + ∑ x : Fin 512, G m c (y 0) (y 1) (512 * t.val + x.val) := by
  rw [outsAt0_B m c t hA]
  frame_open
  frame_out
  pointwise [k0_pay3]
  exact congrArg _ (Finset.sum_congr rfl fun x _ => term m c t (y 0) (y 1) x)

theorem reset (t : Fin cfg0.N) (hA : t.val % 4 = 0) (y : S16x1536.Idx) :
    (outsAt0 m c t.val t.isLt).1 y = ∑ x : Fin 512, G m c (y 0) (y 1) (512 * t.val + x.val) := by
  rw [outsAt0_A m c t hA]
  frame_open
  frame_out
  pointwise [k0_pay3, k0_pay1]
  exact Finset.sum_congr rfl fun x _ => term m c t (y 0) (y 1) x

theorem upto (y : S16x1536.Idx) : ∀ (n : ℕ) (h : n < cfg0.N), (outsAt0 m c n h).1 y
    = ∑ i ∈ Finset.range (n + 1), ∑ x : Fin 512, G m c (y 0) (y 1) (512 * i + x.val) := by
  intro n
  induction n with
  | zero => exact fun h => (reset m c ⟨0, h⟩ rfl y).trans (Finset.sum_range_one
    (fun i => ∑ x : Fin 512, G m c (y 0) (y 1) (512 * i + x.val))).symm
  | succ n ih =>
    intro h
    have h4 := lt_of_lt_of_eq h N_0
    rw [Finset.sum_range_succ, ← ih (by omega)]
    exact step m c ⟨n + 1, h⟩ (by show ¬ (n + 1) % 4 = 0; omega) (by show n < _; omega) y

/-- A sum over the long axis is the sum over its four blocks. -/
theorem sum_long (f : ℕ → EReal) : ∑ k : Fin 2048, f k = ∑ i ∈ Finset.range 4, ∑ x : Fin 512, f (512 * i + x) := by
  rw [Finset.sum_range, ← Fintype.sum_prod_type', ← (finProdFinEquiv (m := 4) (n := 512)).sum_comp]
  refine Finset.sum_congr rfl fun x _ => ?_
  simp [finProdFinEquiv, add_comm]

theorem final2 : (dats m 0 c).arrAt 2 cfg0.N = Cert.AdaModRefIdeal.Read.val_main_v3 (F := Ideal) (A0 m c) (A1 m c) := by
  refine (dats m 0 c).arrAt_eq_of_after_last 2 t0_3 (by decide +kernel) _ fun j => ?_
  rw [Cert.AdaModRefIdeal.Read.val_main_v3_apply]
  blk_simp
  rw [after0_2]
  refine (upto m c j 3 _).trans ?_
  refine (sum_long (fun k => G m c (j 0) (j 1) k)).symm.trans ?_
  refine Finset.sum_congr rfl fun k _ => ?_
  refine (dif_pos k.isLt).trans ?_
  refine congrArg₂ (· * ·) (congrArg _ ?_) (congrArg _ ?_)
  all_goals
    funext i; apply Fin.ext
    match i with
    | 0 => rfl
    | 1 => rfl

end Cert.AdaModIdeal.Product
end
-- ==== Proof.ProjInValue.lean ====
module

public import proofs.«01_k».proof.Proof.Gen.ProjInIdeal.Value
public import proofs.«01_k».proof.Proof.Gen.ProjInRefIdeal.Read
public import Idealize.ShloMosaic.Lib.Pointwise
public import Idealize.ShloMosaic.Lib.Pipeline.ValueKit
public import proofs.«01_k».proof.Proof.Reals

set_option maxRecDepth 16384
set_option maxHeartbeats 1600000
set_option pp.maxSteps 2000

@[expose] public section

/-! The input projection: the kernel's array is the reference's. -/

noncomputable section
open Idealize.ShloMosaic Idealize.ShloMosaic.TcCoe Idealize.SL.Sem
namespace Cert.ProjInIdeal.Product
open Cert.ProjInIdeal Cert.ProjInIdeal.Gen Cert.Reals

variable (m : (ℓ : Loc nD τ sig) → Buf (Elt Ideal) ℓ) (c : Dev nD)

abbrev A0 : S1x2048x2048.Idx → EReal := m ((c : Thread nD τ).loc main_arg0)
abbrev A1 : S1x2048x10240.Idx → EReal := m ((c : Thread nD τ).loc main_arg1)

theorem idx : ∀ t : Fin cfg0.N, win0_0.index t = ![t.val / 8, 0]
    ∧ win0_1.index t = ![t.val % 8, 0, 0]
    ∧ win0_2.index t = ![t.val / 8, t.val % 8] :=
  (by decide +kernel : ∀ t : Fin grid0.N, _)

theorem point2 (t : Fin cfg0.N) (y : S1024x1280.Idx) : out0_2 (iblk m c 0 t) (iblk m c 1 t) y
      = Cert.ProjInRefIdeal.Read.val_main_v2 (F := Ideal) (A0 m c) (A1 m c) (((cfg0.win 2).blk t).view.emb y) := by
  frame_out
  open Cert.ProjInRefIdeal.Read in
  pointwise [k0_pay1, val_main_v2, val_main_v1, val_main_v0]
  blk_point [iblk, V, idx t]

theorem final2 : (dats m 0 c).arrAt 2 cfg0.N = Cert.ProjInRefIdeal.Read.val_main_v2 (F := Ideal) (A0 m c) (A1 m c) := by
  refine (dats m 0 c).arrAt_eq_of_covers 2 _ (by decide +kernel) fun t _ y => ?_
  blk_simp
  rw [after0_2]
  exact point2 m c t y

end Cert.ProjInIdeal.Product
end
-- ==== Proof.FfnInDwValue.lean ====
module

public import proofs.«01_k».proof.Proof.Gen.FfnInDwIdeal.Value
public import proofs.«01_k».proof.Proof.Gen.FfnInDwRefIdeal.Read
public import Idealize.ShloMosaic.Lib.Pointwise
public import Idealize.ShloMosaic.Lib.Pipeline.ValueKit
public import proofs.«01_k».proof.Proof.Reals

set_option maxRecDepth 16384
set_option maxHeartbeats 1600000
set_option pp.maxSteps 2000

@[expose] public section

/-! The gradient of the feed-forward's input matrix: the kernel's array is the reference's. -/

noncomputable section
open Idealize.ShloMosaic Idealize.ShloMosaic.TcCoe Idealize.SL.Sem
namespace Cert.FfnInDwIdeal.Product
open Cert.FfnInDwIdeal Cert.FfnInDwIdeal.Gen Cert.Reals

variable (m : (ℓ : Loc nD τ sig) → Buf (Elt Ideal) ℓ) (c : Dev nD)

abbrev A0 : S1x2048x2048.Idx → EReal := m ((c : Thread nD τ).loc main_arg0)
abbrev A1 : S1x2048x11264.Idx → EReal := m ((c : Thread nD τ).loc main_arg1)

theorem idx : ∀ t : Fin cfg0.N, win0_0.index t = ![0, 0]
    ∧ win0_1.index t = ![t.val / 4, 0, t.val % 4]
    ∧ win0_2.index t = ![t.val, 0, 0] :=
  (by decide +kernel : ∀ t : Fin grid0.N, _)

theorem point2 (t : Fin cfg0.N) (y : S1x2048x1408.Idx) : out0_2 (iblk m c 0 t) (iblk m c 1 t) y
      = Cert.FfnInDwRefIdeal.Read.val_main_v8 (F := Ideal) (A0 m c) (A1 m c) (((cfg0.win 2).blk t).view.emb y) := by
  frame_out
  open Cert.FfnInDwRefIdeal.Read in
  pointwise [k0_pay1, val_main_v8, val_main_v7, val_main_v6, val_main_v5, val_main_v4, val_main_v3, val_main_v1]
  refine (Finset.sum_congr rfl fun x _ => mul_comm _ _).trans ?_
  blk_point [iblk, V, idx t]

theorem final2 : (dats m 0 c).arrAt 2 cfg0.N = Cert.FfnInDwRefIdeal.Read.val_main_v8 (F := Ideal) (A0 m c) (A1 m c) := by
  refine (dats m 0 c).arrAt_eq_of_covers 2 _ (by decide +kernel) fun t _ y => ?_
  blk_simp
  rw [after0_2]
  exact point2 m c t y

end Cert.FfnInDwIdeal.Product
end
-- ==== Proof.BranchDxValue.lean ====
module

public import proofs.«01_k».proof.Proof.Gen.BranchDxIdeal.Value
public import proofs.«01_k».proof.Proof.Gen.BranchDxRefIdeal.Read
public import Idealize.ShloMosaic.Lib.Pointwise
public import Idealize.ShloMosaic.Lib.Pipeline.ValueKit
public import proofs.«01_k».proof.Proof.Reals

set_option maxRecDepth 16384
set_option maxHeartbeats 1600000
set_option pp.maxSteps 2000

@[expose] public section

/-! The gradient through a branch's output projection: the kernel's array is the reference's. -/

noncomputable section
open Idealize.ShloMosaic Idealize.ShloMosaic.TcCoe Idealize.SL.Sem
namespace Cert.BranchDxIdeal.Product
open Cert.BranchDxIdeal Cert.BranchDxIdeal.Gen Cert.Reals

variable (m : (ℓ : Loc nD τ sig) → Buf (Elt Ideal) ℓ) (c : Dev nD)

abbrev A0 : S1x2048x2048.Idx → EReal := m ((c : Thread nD τ).loc main_arg0)
abbrev A1 : S1x1024x2048.Idx → EReal := m ((c : Thread nD τ).loc main_arg1)

theorem idx : ∀ t : Fin cfg0.N, win0_0.index t = ![t.val / 2, 0]
    ∧ win0_1.index t = ![t.val % 2, 0]
    ∧ win0_2.index t = ![t.val / 2, t.val % 2] :=
  (by decide +kernel : ∀ t : Fin grid0.N, _)

theorem point2 (t : Fin cfg0.N) (y : S1024x512.Idx) : out0_2 (iblk m c 0 t) (iblk m c 1 t) y
      = Cert.BranchDxRefIdeal.Read.val_main_v4 (F := Ideal) (A0 m c) (A1 m c) (((cfg0.win 2).blk t).view.emb y) := by
  frame_out
  open Cert.BranchDxRefIdeal.Read in
  pointwise [k0_pay1, val_main_v4, val_main_v3, val_main_v1]
  blk_point [iblk, V, idx t]

theorem final2 : (dats m 0 c).arrAt 2 cfg0.N = Cert.BranchDxRefIdeal.Read.val_main_v4 (F := Ideal) (A0 m c) (A1 m c) := by
  refine (dats m 0 c).arrAt_eq_of_covers 2 _ (by decide +kernel) fun t _ y => ?_
  blk_simp
  rw [after0_2]
  exact point2 m c t y

end Cert.BranchDxIdeal.Product
end
-- ==== Proof.FfnInDxValue.lean ====
module

public import proofs.«01_k».proof.Proof.Gen.FfnInDxIdeal.Value
public import proofs.«01_k».proof.Proof.Gen.FfnInDxRefIdeal.Read
public import Idealize.ShloMosaic.Lib.Pointwise
public import Idealize.ShloMosaic.Lib.Pipeline.ValueKit
public import proofs.«01_k».proof.Proof.Reals

set_option maxRecDepth 16384
set_option maxHeartbeats 1600000
set_option pp.maxSteps 2000

@[expose] public section

/-! The gradient through the feed-forward's input product: the sum carried over the blocks of its long axis is the reference's. -/

noncomputable section
open Idealize.ShloMosaic Idealize.ShloMosaic.TcCoe Idealize.SL.Sem
namespace Cert.FfnInDxIdeal.Product
open Cert.FfnInDxIdeal Cert.FfnInDxIdeal.Gen Cert.Reals

variable (m : (ℓ : Loc nD τ sig) → Buf (Elt Ideal) ℓ) (c : Dev nD)

abbrev A0 : S1x2048x11264.Idx → EReal := m ((c : Thread nD τ).loc main_arg0)
abbrev A1 : S1x2048x11264.Idx → EReal := m ((c : Thread nD τ).loc main_arg1)

theorem idx : ∀ t : Fin cfg0.N, win0_0.index t = ![t.val % 8 / 4, t.val / 8, t.val % 4]
    ∧ win0_1.index t = ![t.val % 8, 0, 0]
    ∧ win0_2.index t = ![t.val / 8, 0] :=
  (by decide +kernel : ∀ t : Fin grid0.N, _)

abbrev B0 (t : Fin cfg0.N) : S1x1024x1408.Idx → EReal := iblk m c 0 t
abbrev B1 (t : Fin cfg0.N) : S1x2048x1408.Idx → EReal := iblk m c 1 t

/-- One term of the product's sum, the position a natural number. -/
def G (r j k : ℕ) : EReal :=
  if h : r < 2048 ∧ j < 2048 ∧ k < 11264 then A0 m c (ix3 0 ⟨r, h.1⟩ ⟨k, h.2.2⟩) * A1 m c (ix3 0 ⟨j, h.2.1⟩ ⟨k, h.2.2⟩) else 0

theorem term (t : Fin cfg0.N) (r : Fin 1024) (j : Fin 2048) (x : Fin 1408) :
    B0 m c t (ix3 0 r x) * B1 m c t (ix3 0 j x) = G m c (1024 * (t.val / 8) + r.val) j.val (1408 * (t.val % 8) + x.val) := by
  have ht : t.val < 16 := lt_of_lt_of_eq t.isLt N_0
  rw [G, dif_pos (by have := x.isLt; have := r.isLt; have := j.isLt; omega)]
  blk_point [iblk, V, idx t]

theorem step (t : Fin cfg0.N) (h0 : ¬t.val % 8 = 0) (hp : t.val - 1 < cfg0.N) (y : S1024x2048.Idx) :
    (outsAt0 m c t.val t.isLt).2 y = (outsAt0 m c (t.val - 1) hp).2 y
      + ∑ x : Fin 1408, G m c (1024 * (t.val / 8) + (y 0 : ℕ)) (y 1) (1408 * (t.val % 8) + x.val) := by
  by_cases h1 : t.val % 8 = 7
  on_goal 1 => rw [outsAt0_C m c t h0 h1]
  on_goal 2 => rw [outsAt0_B m c t h0 h1]
  all_goals
    frame_open
    frame_out
    pointwise [k0_pay2]
    exact congrArg₂ (· + ·) (congrFun ((Memref.isWhole_whole cc0_scratch0).read_unread _) y) (Finset.sum_congr rfl fun x _ => term m c t (y 0) (y 1) x)

theorem reset (t : Fin cfg0.N) (h0 : t.val % 8 = 0) (y : S1024x2048.Idx) :
    (outsAt0 m c t.val t.isLt).2 y = ∑ x : Fin 1408, G m c (1024 * (t.val / 8) + (y 0 : ℕ)) (y 1) (1408 * (t.val % 8) + x.val) := by
  rw [outsAt0_A m c t h0 (by omega)]
  frame_open
  frame_out
  pointwise [k0_pay2, k0_pay1]
  exact Finset.sum_congr rfl fun x _ => term m c t (y 0) (y 1) x

theorem out_eq (t : Fin cfg0.N) (h0 : ¬t.val % 8 = 0) (h1 : t.val % 8 = 7) (y : S1024x2048.Idx) :
    (outsAt0 m c t.val t.isLt).1 y = (outsAt0 m c t.val t.isLt).2 y := by
  rw [outsAt0_C m c t h0 h1]
  frame_open
  frame_out

theorem upto (t : Fin cfg0.N) (y : S1024x2048.Idx) (n : ℕ) (hn : n < 8) (h : 8 * (t.val / 8) + n < cfg0.N) :
    (outsAt0 m c (8 * (t.val / 8) + n) h).2 y
      = ∑ i ∈ Finset.range (n + 1), ∑ x : Fin 1408, G m c (1024 * (t.val / 8) + (y 0 : ℕ)) (y 1) (1408 * i + x.val) := by
  induction n with
  | zero =>
    refine (reset m c ⟨8 * (t.val / 8) + 0, h⟩ (by show (8 * (t.val / 8) + 0) % 8 = 0; omega) y).trans ?_
    show ∑ x : Fin 1408, G m c (1024 * ((8 * (t.val / 8) + 0) / 8) + (y 0 : ℕ)) (y 1) (1408 * ((8 * (t.val / 8) + 0) % 8) + x.val) = _
    rw [show (8 * (t.val / 8) + 0) / 8 = t.val / 8 by omega, show (8 * (t.val / 8) + 0) % 8 = 0 by omega, Finset.sum_range_one]
  | succ n ih =>
    refine (step m c ⟨8 * (t.val / 8) + (n + 1), h⟩ (by show ¬ (8 * (t.val / 8) + (n + 1)) % 8 = 0; omega)
      (by show 8 * (t.val / 8) + (n + 1) - 1 < _; omega) y).trans ?_
    rw [Finset.sum_range_succ, ← ih (by omega) (by omega)]
    show _ + ∑ x : Fin 1408, G m c (1024 * ((8 * (t.val / 8) + (n + 1)) / 8) + (y 0 : ℕ)) (y 1) (1408 * ((8 * (t.val / 8) + (n + 1)) % 8) + x.val) = _
    rw [show (8 * (t.val / 8) + (n + 1)) / 8 = t.val / 8 by omega, show (8 * (t.val / 8) + (n + 1)) % 8 = n + 1 by omega]
    rfl

/-- A sum over the long axis is the sum over its eight blocks. -/
theorem sum_long (f : ℕ → EReal) : ∑ k : Fin 11264, f k = ∑ i ∈ Finset.range 8, ∑ x : Fin 1408, f (1408 * i + x) := by
  rw [Finset.sum_range, ← Fintype.sum_prod_type', ← (finProdFinEquiv (m := 8) (n := 1408)).sum_comp]
  refine Finset.sum_congr rfl fun x _ => ?_
  simp [finProdFinEquiv, add_comm]

theorem ref_eq (i : S2048x2048.Idx) : Cert.FfnInDxRefIdeal.Read.val_main_v4 (F := Ideal) (A0 m c) (A1 m c) i
    = ∑ k : Fin 11264, G m c (i 0) (i 1) k := by
  open Cert.FfnInDxRefIdeal.Read in
  pointwise [val_main_v4, val_main_v3, val_main_v1]
  refine Finset.sum_congr rfl fun k _ => ?_
  have h0 : (i 0 : ℕ) < 2048 := (i 0).isLt
  have h1 : (i 1 : ℕ) < 2048 := (i 1).isLt
  rw [G, dif_pos ⟨h0, h1, k.isLt⟩]
  rfl

theorem last_only : ∀ t : Fin cfg0.N, (cfg0.win 2).flush t = true → t.val % 8 = 7 :=
  (by decide +kernel : ∀ t : Fin grid0.N, _)

theorem final2 : (dats m 0 c).arrAt 2 cfg0.N = Cert.FfnInDxRefIdeal.Read.val_main_v4 (F := Ideal) (A0 m c) (A1 m c) := by
  refine (dats m 0 c).arrAt_eq_of_covers 2 _ (by decide +kernel) fun t hw y => ?_
  have h7 : t.val % 8 = 7 := last_only t hw
  have e0 : ((((cfg0.win 2).blk t).view.emb y) 0 : ℕ) = 1024 * (t.val / 8) + (y 0 : ℕ) := by blk_simp [idx t]; try omega
  have e1 : ((((cfg0.win 2).blk t).view.emb y) 1 : ℕ) = (y 1 : ℕ) := by blk_simp [idx t]; try omega
  rw [ref_eq, e0, e1, sum_long]
  blk_simp
  rw [after0_2]
  refine (out_eq m c t (by omega) h7 y).trans ?_
  have ht : 8 * (t.val / 8) + 7 = t.val := by omega
  have := upto m c t y 7 (by omega) (by rw [ht]; exact t.isLt)
  simp only [ht] at this
  exact this

end Cert.FfnInDxIdeal.Product
end
-- ==== Proof.GmlpFwdPieces.lean ====
module

public import proofs.«01_k».proof.Proof.Gen.GmlpFwdIdeal.Frame
public import proofs.«01_k».proof.Proof.GmlpPieces
public import Idealize.ShloMosaic.Lib.Pipeline.ReadBack

set_option maxRecDepth 16384
set_option maxHeartbeats 1600000

@[expose] public section

/-! What one chunk of the forward gating kernel leaves in its result. -/

noncomputable section
open Idealize.ShloMosaic Idealize.ShloMosaic.TcCoe Idealize.SL.Sem
namespace Cert.GmlpFwdIdeal.Gmlp
open Cert.GmlpFwdIdeal Cert.GmlpFwdIdeal.Gen Cert.Gmlp Cert.Reals
open Cert.GmlpBwdIdeal.Gmlp (at2 at3 grp row_mod row_div)

theorem name_cub (b : BitVec (FTy.bits .f32)) : (Named.named (F := Ideal) κ "gelu_cubic" (φ := .f32) b : EReal) = ((cub : ℝ) : EReal) :=
  IdealRules.named_const.ideal_named_scalar κ "gelu_cubic" b _ (by rfl)

variable (a : Args) (n : ℕ)

theorem gelU (x0 : Vec Ideal S128x1024 .f32) (h0 : ∀ i, x0 i = ((a.U (128 * n + i 0) (i 1) : ℝ) : EReal)) (y : S128x1024.Idx) :
    k0_pay7 x0 y = ((gel (a.U (128 * n + y 0) (y 1)) : ℝ) : EReal) := by
  pointwise [k0_pay7]
  simp only [h0, name_cub, lit_half, lit_gk, lift_one, ← EReal.coe_add, ← EReal.coe_mul, tanh_real]
  congr 1
  unfold gel th
  ring_nf

section
variable (x1 : Vec Ideal S128x1024 .f32) (h1 : ∀ i, x1 i = ((a.V (128 * n + i 0) (i 1) : ℝ) : EReal))
include h1

theorem vcV (y : S128x1024.Idx) : k0_pay8 x1 y = ((vc a (128 * n + y 0) (y 1) : ℝ) : EReal) := by
  have e : ∀ x : ℝ, 1 / 2 * x * (1 + Real.tanh (gk * (x + cub * x * (x * x)))) = gel x := fun x => by unfold gel th; ring_nf
  pointwise [k0_pay8]
  simp only [h1, name_cub, lit_half, lit_gk, lit_1024, lift_one, ← EReal.coe_add, ← EReal.coe_sub, ← EReal.coe_mul, tanh_real, e, sum_coe,
    div_real _ (1024 : ℝ) (by norm_num)]
  rfl

theorem varV (y : S128x1.Idx) : k0_pay9 x1 y = ((var a (128 * n + y 0) : ℝ) : EReal) := by
  pointwise [k0_pay9]
  simp only [vcV a n x1 h1, lit_1024, ← EReal.coe_add, ← EReal.coe_mul, sum_coe, div_real _ (1024 : ℝ) (by norm_num)]
  rfl

variable (x2 x3 : Vec Ideal S1x1024 .f32) (h2 : ∀ i, x2 i = ((a.G (i 1) : ℝ) : EReal)) (h3 : ∀ i, x3 i = ((a.B (i 1) : ℝ) : EReal))
include h2 h3

theorem vnV (y : S128x1024.Idx) : k0_pay11 (k0_pay8 x1) (k0_pay9 x1) k0_pay10 x2 x3 y = ((vn a (128 * n + y 0) (y 1) : ℝ) : EReal) := by
  pointwise [k0_pay11, k0_pay10]
  simp only [varV a n x1 h1, vcV a n x1 h1, h2, h3, lit_eps, ← EReal.coe_add, rsqrt_real _ (var_pos a _), ← EReal.coe_mul]
  rfl
end

/-- The arguments' blocks at a chunk hold real numbers. -/
structure Blocks (m : (ℓ : Loc nD τ sig) → Buf (Elt Ideal) ℓ) (a : Args) (c : Dev nD) (t : Fin cfg0.N) : Prop where
  u : ∀ i : S128x1024.Idx, iblk m c 0 t i = ((a.U (128 * t.val + i 0) (i 1) : ℝ) : EReal)
  v : ∀ i : S128x1024.Idx, iblk m c 1 t i = ((a.V (128 * t.val + i 0) (i 1) : ℝ) : EReal)
  g : ∀ i : S1x1024.Idx, iblk m c 2 t i = ((a.G (i 1) : ℝ) : EReal)
  b : ∀ i : S1x1024.Idx, iblk m c 3 t i = ((a.B (i 1) : ℝ) : EReal)
  w : ∀ i : S8x128x128.Idx, iblk m c 4 t i = ((a.W (i 0) (i 1) (i 2) : ℝ) : EReal)
  s : ∀ i : S8x128x128.Idx, iblk m c 5 t i = ((a.S (i 0) (i 1) : ℝ) : EReal)

variable (m : (ℓ : Loc nD τ sig) → Buf (Elt Ideal) ℓ)

theorem ya_at (c : Dev nD) (t : Fin cfg0.N) (b : Blocks m a c t) (y : S128x1024.Idx) :
    out0_6 (iblk m c 0 t) (iblk m c 1 t) (iblk m c 2 t) (iblk m c 3 t) (iblk m c 4 t) (iblk m c 5 t) y
      = ((gel (a.U (128 * t.val + y 0) (y 1)) * sp a (128 * t.val + y 0) (y 1) : ℝ) : EReal) := by
  have VN := vnV a t.val _ b.v _ _ b.g b.b
  unfold_out out0_6
  frame_out
  canon_tiles x h using View.cover_of_tiledBy _ ![128, 128] (by sl_kernel_rfl) y
  all_goals
    pointwise [k0_pay1, k0_pay2, k0_pay3, k0_pay4, k0_pay5, k0_pay6, k0_pay12, k0_pay13, k0_pay14, k0_pay15, k0_pay16, k0_pay17, k0_pay18, k0_pay19, k0_pay20, k0_pay21, k0_pay22, k0_pay23, k0_pay24]
    simp only [b.w, b.s, gelU a _ _ b.u, VN, lift_zero, ix2_0, ix2_1, ix3_0, ix3_1, ix3_2, ← EReal.coe_add, ← EReal.coe_mul,
       select_sge, x0_lt, x1_lt, Fin.is_lt, sum_coe]
    congr 1
    simp only [sp, tri, h0, h1, row_mod x0_lt, row_div x0_lt, grp x1_lt, ite_mul, zero_mul]
    rfl

end Cert.GmlpFwdIdeal.Gmlp
end
-- ==== Proof.GmlpFwdRef.lean ====
module

public import proofs.«01_k».proof.Proof.Gen.GmlpFwdRefIdeal.Read
public import proofs.«01_k».proof.Proof.GmlpModel
public import Idealize.ShloMosaic.Lib.Pointwise
public import Idealize.ShloMosaic.Lib.Pipeline.ValueKit

set_option maxRecDepth 16384
set_option maxHeartbeats 1600000

@[expose] public section

/-! What the reference's gating lines compute, stage by stage, as real numbers. -/

noncomputable section
open Idealize.ShloMosaic Idealize.ShloMosaic.TcCoe Idealize.SL.Sem
namespace Cert.GmlpFwdRefIdeal.Gmlp
open Cert.GmlpFwdRefIdeal Cert.GmlpFwdRefIdeal.Read Cert.Gmlp Cert.Reals

theorem lit_num : Ideal.ofBits .f32 0x472EAB00#32 = ((44715 : ℝ) : EReal) := by
  simp [Ideal.ofBits, Ideal.ieee, -EReal.coe_mul]; norm_num
theorem lit_den : Ideal.ofBits .f32 0x49742400#32 = ((1000000 : ℝ) : EReal) := by
  simp [Ideal.ofBits, Ideal.ieee, -EReal.coe_mul]; norm_num

theorem sel_bit (c : BitVec 1) : Scalar.select c 1#1 0#1 = c := by revert c; decide
theorem addi_zero (x : BitVec 32) : IntOp.addi x 0#32 = x := BitVec.add_zero x
theorem sit_zero : (FloatOps.sitofp (F := Ideal) .f32 (0#32) : EReal) = ((0 : ℝ) : EReal) := by
  show ((((0#32 : BitVec 32).toInt : ℝ)) : EReal) = _
  norm_num

/-- The arguments hold real numbers, where the reference reads them. -/
structure Args' (a : Args) (x0 : FVec Ideal S1x2048x10240 .f32) (x1 x2 : FVec Ideal S1x1024 .f32)
    (x3 : FVec Ideal S1x8x128x128 .f32) (x4 : FVec Ideal S1x8x128 .f32) : Prop where
  u : ∀ i, (i 2 : ℕ) < 1024 → x0 i = ((a.U (i 1) (i 2) : ℝ) : EReal)
  v : ∀ i, 1024 ≤ (i 2 : ℕ) → (i 2 : ℕ) < 2048 → x0 i = ((a.V (i 1) (i 2 - 1024) : ℝ) : EReal)
  g : ∀ i, x1 i = ((a.G (i 1) : ℝ) : EReal)
  b : ∀ i, x2 i = ((a.B (i 1) : ℝ) : EReal)
  w : ∀ i, x3 i = ((a.W (i 1) (i 2) (i 3) : ℝ) : EReal)
  s : ∀ i, x4 i = ((a.S (i 1) (i 2) : ℝ) : EReal)

variable {a : Args} {x0 : FVec Ideal S1x2048x10240 .f32} {x1 x2 : FVec Ideal S1x1024 .f32}
    {x3 : FVec Ideal S1x8x128x128 .f32} {x4 : FVec Ideal S1x8x128 .f32} (h : Args' a x0 x1 x2 x3 x4)
include h

theorem r0 (i : S1x2048x1024.Idx) : val_main_v0 (F := Ideal) x0 i = ((a.U (i 1) (i 2) : ℝ) : EReal) := by
  rw [val_main_v0_apply]; exact h.u _ (i 2).isLt

theorem r1 (i : S1x2048x1024.Idx) : val_main_v1 (F := Ideal) x0 i = ((a.V (i 1) (i 2) : ℝ) : EReal) := by
  have hi : (i 2 : ℕ) < 1024 := (i 2).isLt
  rw [val_main_v1_apply, h.v _ (Nat.le_add_right 1024 _) (by show 1024 + (i 2 : ℕ) < 2048; omega)]
  exact congrArg (fun k : ℕ => ((a.V (i 1) k : ℝ) : EReal)) (Nat.add_sub_cancel_left 1024 _)

theorem r11 (i : S1x2048x1024.Idx) : val_main_v11 (F := Ideal) x0 i = ((th (a.U (i 1) (i 2)) : ℝ) : EReal) := by
  pointwise [val_main_v11, val_main_v10, val_main_v9, val_main_cst_1, val_main_v8, val_main_v7, val_main_v6, val_main_cst_0, val_main_v5, val_main_v4, val_main_cst, val_main_v3, val_main_v2]
  simp only [r0 h, lit_num, lit_den, lit_gk, ← EReal.coe_add, ← EReal.coe_mul, div_real _ (1000000 : ℝ) (by norm_num), tanh_real]
  congr 1
  unfold th cub
  ring_nf

theorem r26 (i : S1x2048x1024.Idx) : val_main_v26 (F := Ideal) x0 i = ((th (a.V (i 1) (i 2)) : ℝ) : EReal) := by
  pointwise [val_main_v26, val_main_v25, val_main_v24, val_main_cst_6, val_main_v23, val_main_v22, val_main_v21, val_main_cst_5, val_main_v20, val_main_v19, val_main_cst_4, val_main_v18, val_main_v17]
  simp only [r1 h, lit_num, lit_den, lit_gk, ← EReal.coe_add, ← EReal.coe_mul, div_real _ (1000000 : ℝ) (by norm_num), tanh_real]
  congr 1
  unfold th cub
  ring_nf

theorem r16 (i : S1x2048x1024.Idx) : val_main_v16 (F := Ideal) x0 i = ((gel (a.U (i 1) (i 2)) : ℝ) : EReal) := by
  pointwise [val_main_v16, val_main_v15, val_main_v14, val_main_cst_3, val_main_v13, val_main_v12, val_main_cst_2]
  simp only [r0 h, r11 h, lit_half, lift_one, ← EReal.coe_add, ← EReal.coe_mul]
  rfl

theorem r31 (i : S1x2048x1024.Idx) : val_main_v31 (F := Ideal) x0 i = ((gel (a.V (i 1) (i 2)) : ℝ) : EReal) := by
  pointwise [val_main_v31, val_main_v30, val_main_v29, val_main_cst_8, val_main_v28, val_main_v27, val_main_cst_7]
  simp only [r1 h, r26 h, lit_half, lift_one, ← EReal.coe_add, ← EReal.coe_mul]
  rfl

theorem r39 (i : S1x2048x1.Idx) : val_main_v39 (F := Ideal) x0 i = ((mu a (i 1) : ℝ) : EReal) := by
  pointwise [val_main_v39, val_main_v38, val_main_cst_10, val_main_v37, val_main_v36, val_main_cst_9]
  simp only [r31 h, lit_1024, lift_zero, sum_coe, ← EReal.coe_add, zero_add, div_real _ (1024 : ℝ) (by norm_num)]
  rfl

theorem r41 (i : S1x2048x1024.Idx) : val_main_v41 (F := Ideal) x0 i = ((vc a (i 1) (i 2) : ℝ) : EReal) := by
  pointwise [val_main_v41, val_main_v40]
  simp only [r31 h, r39 h, ← EReal.coe_sub]
  rfl

theorem r48 (i : S1x2048x1024.Idx) : val_main_v48 (F := Ideal) x0 i = ((vc a (i 1) (i 2) : ℝ) : EReal) := by
  pointwise [val_main_v48, val_main_v47]
  simp only [r31 h, r39 h, ← EReal.coe_sub]
  rfl

theorem r50 (i : S1x2048x1.Idx) : val_main_v50 (F := Ideal) x0 i = ((var a (i 1) + eps : ℝ) : EReal) := by
  pointwise [val_main_v50, val_main_v49, val_main_cst_13, val_main_v46, val_main_v45, val_main_cst_12, val_main_v44, val_main_v43, val_main_cst_11, val_main_v42]
  simp only [r41 h, lit_1024, lit_eps, lift_zero, sum_coe, ← EReal.coe_add, ← EReal.coe_mul, zero_add, div_real _ (1024 : ℝ) (by norm_num)]
  rfl

theorem r51 (i : S1x2048x1.Idx) : val_main_v51 (F := Ideal) x0 i = ((rstd a (i 1) : ℝ) : EReal) := by
  pointwise [val_main_v51]
  rw [r50 h]
  exact rsqrt_real _ (var_pos a _)

theorem r53 (i : S1x2048x1024.Idx) : val_main_v53 (F := Ideal) x0 i = ((vh a (i 1) (i 2) : ℝ) : EReal) := by
  pointwise [val_main_v53, val_main_v52]
  simp only [r48 h, r51 h, ← EReal.coe_mul]
  rfl

theorem r59 (i : S1x2048x1024.Idx) : val_main_v59 (F := Ideal) x0 x1 x2 i = ((vn a (i 1) (i 2) : ℝ) : EReal) := by
  pointwise [val_main_v59, val_main_v58, val_main_v57, val_main_v33, val_main_v56, val_main_v55, val_main_v54, val_main_v32]
  simp only [r53 h, h.g, h.b, ← EReal.coe_mul, ← EReal.coe_add]
  rfl

theorem r60 (i : S1x16x128x8x128.Idx) : val_main_v60 (F := Ideal) x0 x1 x2 i = ((vn a (128 * i 1 + i 2) (128 * i 3 + i 4) : ℝ) : EReal) := by
  pointwise [val_main_v60]
  simp only [r59 h, Nat.mul_comm 128]
  rfl

theorem r64 (i : S8x128x128.Idx) : val_main_v64 (F := Ideal) x3 i = ((tri a (i 0) (i 1) (i 2) : ℝ) : EReal) := by
  pointwise [val_main_v64, val_main_v63, val_main_v62, val_main_v61, val_main_c, val_main_v34, val_main_c_14, val_main_call0_v4, val_main_call0_v5, val_main_call0_v3, val_main_call0_v2, val_main_call0_v1, val_main_call0_v0, val_main_call0_c, val_main_call0_c_0, val_main_call1_v2, val_main_call1_v1, val_main_call1_v0]
  simp only [h.w, sel_bit, addi_zero, sit_zero]
  rw [select_sge (i 1).isLt (i 2).isLt]
  rfl

theorem r65 (i : S8x1x16x128x128.Idx) : val_main_v65 (F := Ideal) x0 x1 x2 x3 i = ((∑ j : Fin 128, tri a (i 0) (i 4) j * vn a (128 * i 2 + j) (128 * i 0 + i 3) : ℝ) : EReal) := by
  pointwise [val_main_v65]
  simp only [r60 h, r64 h, ← EReal.coe_mul, sum_coe, mul_comm (vn _ _ _)]
  rfl

theorem r71 (i : S1x2048x1024.Idx) : val_main_v71 (F := Ideal) x0 x1 x2 x3 x4 i = ((sp a (i 1) (i 2) : ℝ) : EReal) := by
  pointwise [val_main_v71, val_main_v70, val_main_v69, val_main_v68, val_main_v67, val_main_v66, val_main_v35]
  simp only [r65 h, h.s, ← EReal.coe_add]
  simp only [sp]
  refine congrArg _ (congrArg₂ (· + ·) (Finset.sum_congr rfl fun j _ => congrArg₂ (· * ·) rfl (congrArg₂ (vn a) ?_ ?_)) rfl)
  · exact congrArg (· + (j : ℕ)) (Nat.mul_comm 128 _)
  · exact Nat.div_add_mod _ _

theorem r74 (i : S2048x1024.Idx) : val_main_v74 (F := Ideal) x0 x1 x2 x3 x4 i = ((gel (a.U (i 0) (i 1)) * sp a (i 0) (i 1) : ℝ) : EReal) := by
  pointwise [val_main_v74, val_main_v73, val_main_v72]
  simp only [r16 h, r71 h, ← EReal.coe_mul]
  rfl

end Cert.GmlpFwdRefIdeal.Gmlp
end
-- ==== Proof.GmlpFwdValue.lean ====
module

public import proofs.«01_k».proof.Proof.Gen.GmlpFwdIdeal.Value
public import proofs.«01_k».proof.Proof.GmlpFwdPieces
public import proofs.«01_k».proof.Proof.GmlpFwdRef
public import proofs.«01_k».proof.Proof.GmlpValue
public import proofs.«01_k».proof.Pre_finite_gmlp_fwd
public import proofs.«01_k».proof.Defs

set_option maxRecDepth 16384
set_option maxHeartbeats 1600000

@[expose] public section

/-! The array the forward gating kernel leaves is the reference's, the arguments being finite. -/

noncomputable section
open Idealize.ShloMosaic Idealize.ShloMosaic.TcCoe Idealize.SL.Sem
namespace Cert.GmlpFwdIdeal.Gmlp
open Cert.GmlpFwdIdeal Cert.GmlpFwdIdeal.Gen Cert.Gmlp Cert.Reals
open Cert.GmlpBwdIdeal.Gmlp (at2 at3 at4 mkArgs)

variable (m : (ℓ : Loc nD τ sig) → Buf (Elt Ideal) ℓ) (c : Dev nD)

/-- One device's arguments. -/
abbrev A0 : S1x2048x10240.Idx → EReal := m ((c : Thread nD τ).loc main_arg0)
abbrev A1 : S1x1024.Idx → EReal := m ((c : Thread nD τ).loc main_arg1)
abbrev A2 : S1x1024.Idx → EReal := m ((c : Thread nD τ).loc main_arg2)
abbrev A3 : S1x8x128x128.Idx → EReal := m ((c : Thread nD τ).loc main_arg3)
abbrev A4 : S1x8x128.Idx → EReal := m ((c : Thread nD τ).loc main_arg4)

/-- The precondition, at one device's arguments: the gradient's, with a zero cotangent. -/
def Fin1 : Prop := Cert.GmlpBwdIdeal.Gmlp.Finite (A0 m c) (fun _ => 0) (A1 m c) (A2 m c) (A3 m c) (A4 m c)

abbrev args : Args := mkArgs (A0 m c) (fun _ => 0) (A1 m c) (A2 m c) (A3 m c) (A4 m c)

theorem real_args (f : Fin1 m c) : Cert.GmlpFwdRefIdeal.Gmlp.Args' (args m c) (A0 m c) (A1 m c) (A2 m c) (A3 m c) (A4 m c) := by
  have h := Cert.GmlpBwdIdeal.Gmlp.real_args f
  exact ⟨h.u, h.v, h.g, h.b, h.w, h.s⟩

theorem idx : ∀ t : Fin cfg0.N, win0_0.index t = ![t.val, 0] ∧ win0_1.index t = ![t.val, 1] ∧ win0_2.index t = ![0, 0]
    ∧ win0_3.index t = ![0, 0] ∧ win0_4.index t = ![0, 0, 0] ∧ win0_5.index t = ![0, 0, 0] ∧ win0_6.index t = ![t.val, 0] :=
  (by decide +kernel : ∀ t : Fin grid0.N, _)

theorem t_lt (t : Fin cfg0.N) : t.val < 16 := lt_of_lt_of_eq t.isLt N_0

theorem blk0 (t : Fin cfg0.N) (i : S128x1024.Idx) (h : 128 * t.val + (i 0 : ℕ) < 2048) (h' : (i 1 : ℕ) < 10240) :
    iblk m c 0 t i = A0 m c (ix3 0 ⟨128 * t.val + i 0, h⟩ ⟨i 1, h'⟩) := by
  blk_point [iblk, V, idx t]
theorem blk1 (t : Fin cfg0.N) (i : S128x1024.Idx) (h : 128 * t.val + (i 0 : ℕ) < 2048) (h' : 1024 + (i 1 : ℕ) < 10240) :
    iblk m c 1 t i = A0 m c (ix3 0 ⟨128 * t.val + i 0, h⟩ ⟨1024 + i 1, h'⟩) := by
  blk_point [iblk, V, idx t]
theorem blk2 (t : Fin cfg0.N) (i : S1x1024.Idx) : iblk m c 2 t i = A1 m c (ix2 0 (i 1)) := by
  blk_point [iblk, V, idx t]
theorem blk3 (t : Fin cfg0.N) (i : S1x1024.Idx) : iblk m c 3 t i = A2 m c (ix2 0 (i 1)) := by
  blk_point [iblk, V, idx t]
theorem blk4 (t : Fin cfg0.N) (i : S8x128x128.Idx) : iblk m c 4 t i = A3 m c (ix4 0 (i 0) (i 1) (i 2)) := by
  blk_point [iblk, V, idx t]
theorem blk5 (t : Fin cfg0.N) (i : S8x128x128.Idx) : iblk m c 5 t i = A4 m c (ix3 0 (i 0) (i 1)) := by
  blk_point [iblk, V, idx t]

theorem blocks (f : Fin1 m c) (t : Fin cfg0.N) : Blocks m (args m c) c t := by
  have ht := t_lt t
  have h := real_args m c f
  constructor
  · intro i
    have h0 : (i 0 : ℕ) < 128 := (i 0).isLt
    have h1 : (i 1 : ℕ) < 1024 := (i 1).isLt
    rw [blk0 m c t i (by omega) (by omega)]
    exact h.u _ h1
  · intro i
    have h0 : (i 0 : ℕ) < 128 := (i 0).isLt
    have h1 : (i 1 : ℕ) < 1024 := (i 1).isLt
    rw [blk1 m c t i (by omega) (by omega), h.v _ (Nat.le_add_right _ _) (by show 1024 + (i 1 : ℕ) < 2048; omega)]
    exact congrArg (fun k : ℕ => (((args m c).V (128 * t.val + i 0) k : ℝ) : EReal)) (Nat.add_sub_cancel_left 1024 _)
  · intro i; rw [blk2 m c t i]; exact h.g _
  · intro i; rw [blk3 m c t i]; exact h.b _
  · intro i; rw [blk4 m c t i]; exact h.w _
  · intro i; rw [blk5 m c t i]; exact h.s _

theorem final6 (f : Fin1 m c) : (dats m 0 c).arrAt 6 cfg0.N
    = Cert.GmlpFwdRefIdeal.Read.val_main_v74 (F := Ideal) (A0 m c) (A1 m c) (A2 m c) (A3 m c) (A4 m c) := by
  refine (dats m 0 c).arrAt_eq_of_covers 6 _ (by decide +kernel) fun t _ y => ?_
  have ht := t_lt t
  have h0 : (y 0 : ℕ) < 128 := (y 0).isLt
  have e0 : ((((cfg0.win 6).blk t).view.emb y) 0 : ℕ) = 128 * t.val + (y 0 : ℕ) := by blk_simp [idx t]; try omega
  have e1 : ((((cfg0.win 6).blk t).view.emb y) 1 : ℕ) = (y 1 : ℕ) := by blk_simp [idx t]; try omega
  rw [Cert.GmlpFwdRefIdeal.Gmlp.r74 (real_args m c f)]
  rw [e0, e1]
  blk_simp
  rw [after0_6]
  exact ya_at (args m c) m c t (blocks m c f t) y

theorem fin_of_pre [hP : Cert.Pre_finite_gmlp_fwd.Facts] (h : Cert.Pre_GmlpFwdIdeal_finite_gmlp_fwd m) : Fin1 m c := by
  obtain ⟨h0, h1, h2, h3, h4⟩ := h c
  constructor
  · intro i hi
    have z0 : ((i 0 : Fin _) : ℕ) < 1 := (i 0).isLt
    have e := congrFun h0 (ix3 (i 0) (i 1) ⟨i 2, hi⟩)
    pointwise [Cert.Pre_finite_gmlp_fwd.fn] at e
    have e' := abs_lt_of_bit e
    rwa [at3 i 0 (i 1) (i 2) (by show 0 = (i 0 : ℕ); omega) rfl rfl] at e'
  · intro i
    show max (0 : EReal) (-0) < ⊤
    simp
  · exact fun i => abs_lt_of_bit (congrFun h1 i)
  · exact fun i => abs_lt_of_bit (congrFun h2 i)
  · exact fun i => abs_lt_of_bit (congrFun h3 i)
  · exact fun i => abs_lt_of_bit (congrFun h4 i)

end Cert.GmlpFwdIdeal.Gmlp
end
-- ==== Proof.lean ====
module

public import proofs.«01_k».proof.Defs
public import proofs.«01_k».proof.Proof.Gen.MergeBwd
public import proofs.«01_k».proof.Proof.Gen.MergeBwd.Frame
public import proofs.«01_k».proof.Proof.Gen.MergeBwdIdeal
public import proofs.«01_k».proof.Proof.Gen.MergeBwdIdeal.Frame
public import proofs.«01_k».proof.Proof.Gen.MergeBwdIdeal.Value
public import proofs.«01_k».proof.Proof.Gen.MergeBwdRefIdeal
public import proofs.«01_k».proof.Proof.Gen.MergeBwdRefIdeal.Run
public import proofs.«01_k».proof.Proof.Gen.MergeBwdRefIdeal.Read
public import proofs.«01_k».proof.Proof.Gen.GmlpBwd
public import proofs.«01_k».proof.Proof.Gen.GmlpBwd.Frame
public import proofs.«01_k».proof.Proof.Gen.GmlpBwdIdeal
public import proofs.«01_k».proof.Proof.Gen.GmlpBwdIdeal.Frame
public import proofs.«01_k».proof.Proof.Gen.GmlpBwdIdeal.Value
public import proofs.«01_k».proof.Proof.Gen.GmlpBwdRefIdeal
public import proofs.«01_k».proof.Proof.Gen.GmlpBwdRefIdeal.Run
public import proofs.«01_k».proof.Proof.Gen.GmlpBwdRefIdeal.Read
public import proofs.«01_k».proof.Proof.Gen.NormTwoBwd
public import proofs.«01_k».proof.Proof.Gen.NormTwoBwd.Frame
public import proofs.«01_k».proof.Proof.Gen.NormTwoBwdIdeal
public import proofs.«01_k».proof.Proof.Gen.NormTwoBwdIdeal.Frame
public import proofs.«01_k».proof.Proof.Gen.NormTwoBwdIdeal.Value
public import proofs.«01_k».proof.Proof.Gen.NormTwoBwdRefIdeal
public import proofs.«01_k».proof.Proof.Gen.NormTwoBwdRefIdeal.Run
public import proofs.«01_k».proof.Proof.Gen.NormTwoBwdRefIdeal.Read
public import proofs.«01_k».proof.Proof.Gen.NormOneBwd
public import proofs.«01_k».proof.Proof.Gen.NormOneBwd.Frame
public import proofs.«01_k».proof.Proof.Gen.NormOneBwdIdeal
public import proofs.«01_k».proof.Proof.Gen.NormOneBwdIdeal.Frame
public import proofs.«01_k».proof.Proof.Gen.NormOneBwdIdeal.Value
public import proofs.«01_k».proof.Proof.Gen.NormOneBwdRefIdeal
public import proofs.«01_k».proof.Proof.Gen.NormOneBwdRefIdeal.Run
public import proofs.«01_k».proof.Proof.Gen.NormOneBwdRefIdeal.Read
public import proofs.«01_k».proof.Proof.Gen.LossHead
public import proofs.«01_k».proof.Proof.Gen.LossHead.Frame
public import proofs.«01_k».proof.Proof.Gen.LossHeadIdeal
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Gen.LossHeadRefIdeal.Read
public import proofs.«01_k».proof.Proof.Gen.SwigluBwd
public import proofs.«01_k».proof.Proof.Gen.SwigluBwd.Frame
public import proofs.«01_k».proof.Proof.Gen.SwigluBwdIdeal
public import proofs.«01_k».proof.Proof.Gen.SwigluBwdIdeal.Frame
public import proofs.«01_k».proof.Proof.Gen.SwigluBwdRefIdeal
public import proofs.«01_k».proof.Proof.Gen.SwigluBwdRefIdeal.Run
public import proofs.«01_k».proof.Proof.Gen.SwigluBwdRefIdeal.Read
public import proofs.«01_k».proof.Proof.Gen.HgFwd
public import proofs.«01_k».proof.Proof.Gen.HgFwd.Frame
public import proofs.«01_k».proof.Proof.Gen.HgFwdIdeal
public import proofs.«01_k».proof.Proof.Gen.HgFwdIdeal.Frame
public import proofs.«01_k».proof.Proof.Gen.HgFwdIdeal.Value
public import proofs.«01_k».proof.Proof.Gen.HgFwdRefIdeal
public import proofs.«01_k».proof.Proof.Gen.HgFwdRefIdeal.Run
public import proofs.«01_k».proof.Proof.Gen.HgFwdRefIdeal.Step
public import proofs.«01_k».proof.Proof.Gen.HgBwd
public import proofs.«01_k».proof.Proof.Gen.HgBwd.Frame
public import proofs.«01_k».proof.Proof.Gen.HgBwdIdeal
public import proofs.«01_k».proof.Proof.Gen.HgBwdIdeal.Frame
public import proofs.«01_k».proof.Proof.Gen.HgBwdIdeal.Value
public import proofs.«01_k».proof.Proof.Gen.HgBwdRefIdeal
public import proofs.«01_k».proof.Proof.Gen.HgBwdRefIdeal.Run
public import proofs.«01_k».proof.Proof.Gen.HgBwdRefIdeal.Read
public import proofs.«01_k».proof.Proof.Gen.GmlpFwd
public import proofs.«01_k».proof.Proof.Gen.GmlpFwd.Frame
public import proofs.«01_k».proof.Proof.Gen.GmlpFwdIdeal
public import proofs.«01_k».proof.Proof.Gen.GmlpFwdIdeal.Frame
public import proofs.«01_k».proof.Proof.Gen.GmlpFwdIdeal.Value
public import proofs.«01_k».proof.Proof.Gen.GmlpFwdRefIdeal
public import proofs.«01_k».proof.Proof.Gen.GmlpFwdRefIdeal.Run
public import proofs.«01_k».proof.Proof.Gen.GmlpFwdRefIdeal.Read
public import proofs.«01_k».proof.Proof.Gen.SwigluFwd
public import proofs.«01_k».proof.Proof.Gen.SwigluFwd.Frame
public import proofs.«01_k».proof.Proof.Gen.SwigluFwdIdeal
public import proofs.«01_k».proof.Proof.Gen.SwigluFwdIdeal.Frame
public import proofs.«01_k».proof.Proof.Gen.SwigluFwdIdeal.Value
public import proofs.«01_k».proof.Proof.Gen.SwigluFwdRefIdeal
public import proofs.«01_k».proof.Proof.Gen.SwigluFwdRefIdeal.Run
public import proofs.«01_k».proof.Proof.Gen.SwigluFwdRefIdeal.Read
public import proofs.«01_k».proof.Proof.Gen.MergeFwd
public import proofs.«01_k».proof.Proof.Gen.MergeFwd.Frame
public import proofs.«01_k».proof.Proof.Gen.MergeFwdIdeal
public import proofs.«01_k».proof.Proof.Gen.MergeFwdIdeal.Frame
public import proofs.«01_k».proof.Proof.Gen.MergeFwdIdeal.Value
public import proofs.«01_k».proof.Proof.Gen.MergeFwdRefIdeal
public import proofs.«01_k».proof.Proof.Gen.MergeFwdRefIdeal.Run
public import proofs.«01_k».proof.Proof.Gen.MergeFwdRefIdeal.Read
public import proofs.«01_k».proof.Proof.Gen.NormOneFwd
public import proofs.«01_k».proof.Proof.Gen.NormOneFwd.Frame
public import proofs.«01_k».proof.Proof.Gen.NormOneFwdIdeal
public import proofs.«01_k».proof.Proof.Gen.NormOneFwdIdeal.Frame
public import proofs.«01_k».proof.Proof.Gen.NormOneFwdIdeal.Value
public import proofs.«01_k».proof.Proof.Gen.NormOneFwdRefIdeal
public import proofs.«01_k».proof.Proof.Gen.NormOneFwdRefIdeal.Run
public import proofs.«01_k».proof.Proof.Gen.NormOneFwdRefIdeal.Read
public import proofs.«01_k».proof.Proof.Gen.NormTwoFwd
public import proofs.«01_k».proof.Proof.Gen.NormTwoFwd.Frame
public import proofs.«01_k».proof.Proof.Gen.NormTwoFwdIdeal
public import proofs.«01_k».proof.Proof.Gen.NormTwoFwdIdeal.Frame
public import proofs.«01_k».proof.Proof.Gen.NormTwoFwdIdeal.Value
public import proofs.«01_k».proof.Proof.Gen.NormTwoFwdRefIdeal
public import proofs.«01_k».proof.Proof.Gen.NormTwoFwdRefIdeal.Run
public import proofs.«01_k».proof.Proof.Gen.NormTwoFwdRefIdeal.Read
public import proofs.«01_k».proof.Proof.Gen.FfnOut
public import proofs.«01_k».proof.Proof.Gen.FfnOut.Frame
public import proofs.«01_k».proof.Proof.Gen.FfnOutIdeal
public import proofs.«01_k».proof.Proof.Gen.FfnOutIdeal.Frame
public import proofs.«01_k».proof.Proof.Gen.FfnOutIdeal.Value
public import proofs.«01_k».proof.Proof.Gen.FfnOutRefIdeal
public import proofs.«01_k».proof.Proof.Gen.FfnOutRefIdeal.Run
public import proofs.«01_k».proof.Proof.Gen.FfnOutRefIdeal.Read
public import proofs.«01_k».proof.Proof.Gen.AdaMod
public import proofs.«01_k».proof.Proof.Gen.AdaMod.Frame
public import proofs.«01_k».proof.Proof.Gen.AdaModIdeal
public import proofs.«01_k».proof.Proof.Gen.AdaModIdeal.Frame
public import proofs.«01_k».proof.Proof.Gen.AdaModIdeal.Value
public import proofs.«01_k».proof.Proof.Gen.AdaModRefIdeal
public import proofs.«01_k».proof.Proof.Gen.AdaModRefIdeal.Run
public import proofs.«01_k».proof.Proof.Gen.AdaModRefIdeal.Read
public import proofs.«01_k».proof.Proof.Gen.ProjIn
public import proofs.«01_k».proof.Proof.Gen.ProjIn.Frame
public import proofs.«01_k».proof.Proof.Gen.ProjInIdeal
public import proofs.«01_k».proof.Proof.Gen.ProjInIdeal.Frame
public import proofs.«01_k».proof.Proof.Gen.ProjInIdeal.Value
public import proofs.«01_k».proof.Proof.Gen.ProjInRefIdeal
public import proofs.«01_k».proof.Proof.Gen.ProjInRefIdeal.Run
public import proofs.«01_k».proof.Proof.Gen.ProjInRefIdeal.Read
public import proofs.«01_k».proof.Proof.Gen.FfnInDw
public import proofs.«01_k».proof.Proof.Gen.FfnInDw.Frame
public import proofs.«01_k».proof.Proof.Gen.FfnInDwIdeal
public import proofs.«01_k».proof.Proof.Gen.FfnInDwIdeal.Frame
public import proofs.«01_k».proof.Proof.Gen.FfnInDwIdeal.Value
public import proofs.«01_k».proof.Proof.Gen.FfnInDwRefIdeal
public import proofs.«01_k».proof.Proof.Gen.FfnInDwRefIdeal.Run
public import proofs.«01_k».proof.Proof.Gen.FfnInDwRefIdeal.Read
public import proofs.«01_k».proof.Proof.Gen.BranchDx
public import proofs.«01_k».proof.Proof.Gen.BranchDx.Frame
public import proofs.«01_k».proof.Proof.Gen.BranchDxIdeal
public import proofs.«01_k».proof.Proof.Gen.BranchDxIdeal.Frame
public import proofs.«01_k».proof.Proof.Gen.BranchDxIdeal.Value
public import proofs.«01_k».proof.Proof.Gen.BranchDxRefIdeal
public import proofs.«01_k».proof.Proof.Gen.BranchDxRefIdeal.Run
public import proofs.«01_k».proof.Proof.Gen.BranchDxRefIdeal.Read
public import proofs.«01_k».proof.Proof.Gen.FfnInDx
public import proofs.«01_k».proof.Proof.Gen.FfnInDx.Frame
public import proofs.«01_k».proof.Proof.Gen.FfnInDxIdeal
public import proofs.«01_k».proof.Proof.Gen.FfnInDxIdeal.Frame
public import proofs.«01_k».proof.Proof.Gen.FfnInDxIdeal.Value
public import proofs.«01_k».proof.Proof.Gen.FfnInDxRefIdeal
public import proofs.«01_k».proof.Proof.Gen.FfnInDxRefIdeal.Run
public import proofs.«01_k».proof.Proof.Gen.FfnInDxRefIdeal.Read
public import proofs.«01_k».proof.Proof.MergeValue
public import proofs.«01_k».proof.Proof.GmlpFinite
public import proofs.«01_k».proof.Proof.NormTwoFinal
public import proofs.«01_k».proof.Proof.NormOneFinal
public import proofs.«01_k».proof.Proof.LossFinal
public import proofs.«01_k».proof.Proof.SwigluFinal
public import proofs.«01_k».proof.Proof.HgValue
public import proofs.«01_k».proof.Proof.SwigluFwdValue
public import proofs.«01_k».proof.Proof.MergeFwdValue
public import proofs.«01_k».proof.Proof.NormOneFwdValue
public import proofs.«01_k».proof.Proof.NormTwoFwdValue
public import proofs.«01_k».proof.Proof.FfnOutValue
public import proofs.«01_k».proof.Proof.AdaModValue
public import proofs.«01_k».proof.Proof.ProjInValue
public import proofs.«01_k».proof.Proof.FfnInDwValue
public import proofs.«01_k».proof.Proof.BranchDxValue
public import proofs.«01_k».proof.Proof.FfnInDxValue
public import proofs.«01_k».proof.Proof.GmlpFwdValue
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

theorem frame_mergeRef : Cert.quiescent_MergeBwdRefIdeal := fun m ρ _ =>
  (θ_run Cert.MergeBwdRefIdeal.defs _ _).mono (fun r h => ⟨fun c => (h c).2.2.2,
      Idealize.ShloMosaic.sem_eq_zero_of_no_sems (by decide) r.2⟩)
    (Cert.MergeBwdRefIdeal.Value.run (F := Ideal) m ρ)

theorem algebraic_merge : Cert.algebraic_MergeBwdIdeal_MergeBwdRefIdeal := by
  intro m ρ m' ρ' _ hagree
  refine ⟨_, _, _, (θ_run Cert.MergeBwdIdeal.defs _ _).mono (fun r h c => h c)
    (Cert.MergeBwdIdeal.Value.run_blocks (F := Ideal) m ρ), ?_⟩
  refine (θ_run Cert.MergeBwdRefIdeal.defs _ _).mono
    (fun r h c => ⟨(h c).1.trans ?_, (h c).2.1.trans ?_, (h c).2.2.1.trans ?_, (h c).2.2.2⟩)
    (Cert.MergeBwdRefIdeal.Value.run (F := Ideal) m' ρ')
  all_goals obtain ⟨h0, h1, h2, h3, h4, h5⟩ := hagree c
  · rw [Cert.MergeBwdIdeal.Merge.final8 m c, h0, h3, h4, h5, Cert.MergeBwdRefIdeal.Read.val_main_v43_eq]
  · rw [Cert.MergeBwdIdeal.Merge.final9 m c, h0, h3, h4, h5, Cert.MergeBwdRefIdeal.Read.val_main_v45_eq]
  · rw [Cert.MergeBwdIdeal.Merge.final10 m c, h0, h1, h2, h3, h4, h5, Cert.MergeBwdRefIdeal.Read.val_main_v47_eq]

theorem frame_gmlpRef : Cert.quiescent_GmlpBwdRefIdeal := fun m ρ _ =>
  (θ_run Cert.GmlpBwdRefIdeal.defs _ _).mono (fun r h => ⟨fun c => (h c).2.2.2.2,
      Idealize.ShloMosaic.sem_eq_zero_of_no_sems (by decide) r.2⟩)
    (Cert.GmlpBwdRefIdeal.Value.run (F := Ideal) m ρ)

instance facts_finite_gmlp : Cert.Pre_finite_gmlp_bwd.Facts where
  slices_S1x2048x10240_S1x2048x2048_0_0_0 := by decide
  bcast_S_S1x2048x2048 := by decide
  bcast_S_S1x2048x1024 := by decide
  bcast_S_S1x1024 := by decide
  bcast_S_S1x8x128x128 := by decide
  bcast_S_S1x8x128 := by decide

theorem preserves_gmlp : Cert.preserves_GmlpBwd_GmlpBwdIdeal :=
  ⟨IdealRules.named_const.statement _ _ _ _ _ (by rfl), IdealRules.named_const.statement _ _ _ _ _ (by rfl)⟩

theorem algebraic_gmlp : Cert.algebraic_GmlpBwdIdeal_GmlpBwdRefIdeal_pre_finite_gmlp_bwd := by
  intro m ρ m' ρ' hpre hagree
  refine ⟨_, _, _, _, (θ_run Cert.GmlpBwdIdeal.defs _ _).mono (fun r h c => h c)
    (Cert.GmlpBwdIdeal.Value.run_blocks (F := Ideal) m ρ), ?_⟩
  refine (θ_run Cert.GmlpBwdRefIdeal.defs _ _).mono
    (fun r h c => ⟨(h c).1.trans ?_, (h c).2.1.trans ?_, (h c).2.2.1.trans ?_, (h c).2.2.2.1.trans ?_, (h c).2.2.2.2⟩)
    (Cert.GmlpBwdRefIdeal.Value.run (F := Ideal) m' ρ')
  all_goals
    obtain ⟨h0, h1, h2, h3, h4, h5⟩ := hagree c
    have f := Cert.GmlpBwdIdeal.Gmlp.fin_of_pre m c hpre
  · rw [Cert.GmlpBwdIdeal.Gmlp.final7 m c f, Cert.GmlpBwdRefIdeal.Read.val_main_v177_eq]
    simp only [Cert.GmlpBwdIdeal.Gmlp.A0, Cert.GmlpBwdIdeal.Gmlp.A1, Cert.GmlpBwdIdeal.Gmlp.A2, Cert.GmlpBwdIdeal.Gmlp.A3, Cert.GmlpBwdIdeal.Gmlp.A4, Cert.GmlpBwdIdeal.Gmlp.A5, ← h0, ← h1, ← h2, ← h3, ← h4, ← h5]
  · rw [Cert.GmlpBwdIdeal.Gmlp.final8 m c f, Cert.GmlpBwdRefIdeal.Read.val_main_v179_eq]
    simp only [Cert.GmlpBwdIdeal.Gmlp.A0, Cert.GmlpBwdIdeal.Gmlp.A1, Cert.GmlpBwdIdeal.Gmlp.A4, ← h0, ← h1, ← h4]
  · rw [Cert.GmlpBwdIdeal.Gmlp.final9 m c f, Cert.GmlpBwdRefIdeal.Read.val_main_v180_eq]
    simp only [Cert.GmlpBwdIdeal.Gmlp.A0, Cert.GmlpBwdIdeal.Gmlp.A1, Cert.GmlpBwdIdeal.Gmlp.A2, Cert.GmlpBwdIdeal.Gmlp.A3, ← h0, ← h1, ← h2, ← h3]
  · rw [Cert.GmlpBwdIdeal.Gmlp.final10 m c f, Cert.GmlpBwdRefIdeal.Read.val_main_v182_eq]
    simp only [Cert.GmlpBwdIdeal.Gmlp.A0, Cert.GmlpBwdIdeal.Gmlp.A1, ← h0, ← h1]

instance facts_finite_norm_two_bwd : Cert.Pre_finite_norm_two_bwd.Facts where
  bcast_S_S1x2048x2048 := by decide
  bcast_S_S1x2048 := by decide

theorem frame_norm_twoRef : Cert.quiescent_NormTwoBwdRefIdeal := fun m ρ _ =>
  (θ_run Cert.NormTwoBwdRefIdeal.defs _ _).mono (fun r h => ⟨fun c => (h c).2.2.2,
      Idealize.ShloMosaic.sem_eq_zero_of_no_sems (by decide) r.2⟩)
    (Cert.NormTwoBwdRefIdeal.Value.run (F := Ideal) m ρ)

theorem algebraic_norm_two : Cert.algebraic_NormTwoBwdIdeal_NormTwoBwdRefIdeal_pre_finite_norm_two_bwd := by
  intro m ρ m' ρ' hpre hagree
  refine ⟨_, _, _, (θ_run Cert.NormTwoBwdIdeal.defs _ _).mono (fun r h c => h c)
    (Cert.NormTwoBwdIdeal.Value.run_blocks (F := Ideal) m ρ), ?_⟩
  refine (θ_run Cert.NormTwoBwdRefIdeal.defs _ _).mono
    (fun r h c => ⟨(h c).1.trans ?_, (h c).2.1.trans ?_, (h c).2.2.1.trans ?_, (h c).2.2.2⟩)
    (Cert.NormTwoBwdRefIdeal.Value.run (F := Ideal) m' ρ')
  all_goals
    obtain ⟨h0, h1, h2, h3, h4, h5, h6, h7⟩ := hagree c
    have f := Cert.NormTwoBwdIdeal.Norm.fin_of_pre m c hpre
  · rw [Cert.NormTwoBwdIdeal.Norm.final7 m c f, Cert.NormTwoBwdRefIdeal.Read.val_main_v72_eq]
    simp only [Cert.NormTwoBwdIdeal.Norm.A0, Cert.NormTwoBwdIdeal.Norm.A1, Cert.NormTwoBwdIdeal.Norm.A2, Cert.NormTwoBwdIdeal.Norm.A3, Cert.NormTwoBwdIdeal.Norm.A4, Cert.NormTwoBwdIdeal.Norm.A6, Cert.NormTwoBwdIdeal.Norm.A7, ← h0, ← h1, ← h2, ← h3, ← h4, ← h6, ← h7]
  · rw [Cert.NormTwoBwdIdeal.Norm.final8 m c f, Cert.NormTwoBwdRefIdeal.Read.val_main_v74_eq]
    simp only [Cert.NormTwoBwdIdeal.Norm.A0, Cert.NormTwoBwdIdeal.Norm.A1, Cert.NormTwoBwdIdeal.Norm.A2, Cert.NormTwoBwdIdeal.Norm.A3, Cert.NormTwoBwdIdeal.Norm.A4, Cert.NormTwoBwdIdeal.Norm.A6, Cert.NormTwoBwdIdeal.Norm.A7, ← h0, ← h1, ← h2, ← h3, ← h4, ← h6, ← h7]
  · rw [Cert.NormTwoBwdIdeal.Norm.final9 m c f, Cert.NormTwoBwdRefIdeal.Read.val_main_v76_eq]
    simp only [Cert.NormTwoBwdIdeal.Norm.A0, Cert.NormTwoBwdIdeal.Norm.A1, Cert.NormTwoBwdIdeal.Norm.A2, Cert.NormTwoBwdIdeal.Norm.A3, Cert.NormTwoBwdIdeal.Norm.A4, Cert.NormTwoBwdIdeal.Norm.A6, Cert.NormTwoBwdIdeal.Norm.A7, ← h0, ← h1, ← h2, ← h3, ← h4, ← h6, ← h7]

instance facts_finite_norm_one_bwd : Cert.Pre_finite_norm_one_bwd.Facts where
  bcast_S_S1x2048x2048 := by decide
  bcast_S_S1x2048 := by decide

theorem frame_norm_oneRef : Cert.quiescent_NormOneBwdRefIdeal := fun m ρ _ =>
  (θ_run Cert.NormOneBwdRefIdeal.defs _ _).mono (fun r h => ⟨fun c => (h c).2.2,
      Idealize.ShloMosaic.sem_eq_zero_of_no_sems (by decide) r.2⟩)
    (Cert.NormOneBwdRefIdeal.Value.run (F := Ideal) m ρ)

theorem algebraic_norm_one : Cert.algebraic_NormOneBwdIdeal_NormOneBwdRefIdeal_pre_finite_norm_one_bwd := by
  intro m ρ m' ρ' hpre hagree
  refine ⟨_, _, (θ_run Cert.NormOneBwdIdeal.defs _ _).mono (fun r h c => h c)
    (Cert.NormOneBwdIdeal.Value.run_blocks (F := Ideal) m ρ), ?_⟩
  refine (θ_run Cert.NormOneBwdRefIdeal.defs _ _).mono
    (fun r h c => ⟨(h c).1.trans ?_, (h c).2.1.trans ?_, (h c).2.2⟩)
    (Cert.NormOneBwdRefIdeal.Value.run (F := Ideal) m' ρ')
  all_goals
    obtain ⟨h0, h1, h2, h3, h4, h5⟩ := hagree c
    have f := Cert.NormOneBwdIdeal.Norm.fin_of_pre m c hpre
  · rw [Cert.NormOneBwdIdeal.Norm.final5 m c f, Cert.NormOneBwdRefIdeal.Read.val_main_v60_eq]
    simp only [Cert.NormOneBwdIdeal.Norm.A0, Cert.NormOneBwdIdeal.Norm.A1, Cert.NormOneBwdIdeal.Norm.A2, Cert.NormOneBwdIdeal.Norm.A4, Cert.NormOneBwdIdeal.Norm.A5, ← h0, ← h1, ← h2, ← h4, ← h5]
  · rw [Cert.NormOneBwdIdeal.Norm.final6 m c f]
    simp only [Cert.NormOneBwdIdeal.Norm.A0, Cert.NormOneBwdIdeal.Norm.A1, Cert.NormOneBwdIdeal.Norm.A2, Cert.NormOneBwdIdeal.Norm.A4, ← h0, ← h1, ← h2, ← h4]
    exact Cert.NormOneBwdRefIdeal.Read.val_main_v62_eq (F := Ideal) _ _ _ _

instance facts_finite_loss_head : Cert.Pre_finite_loss_head.Facts where
  bcast_S_S1x2048x2048 := by decide
  bcast_S_S1x2048 := by decide
  bcast_S_S2048 := by decide

theorem frame_lossRef : Cert.quiescent_LossHeadRefIdeal := fun m ρ _ =>
  (θ_run Cert.LossHeadRefIdeal.defs _ _).mono (fun r h => ⟨fun c => (h c).2.2.2,
      Idealize.ShloMosaic.sem_eq_zero_of_no_sems (by decide) r.2⟩)
    (Cert.LossHeadRefIdeal.Value.run (F := Ideal) m ρ)

theorem algebraic_loss : Cert.algebraic_LossHeadIdeal_LossHeadRefIdeal_pre_finite_loss_head := by
  intro m ρ m' ρ' hpre hagree
  refine ⟨_, _, _, (θ_run Cert.LossHeadIdeal.defs _ _).mono (fun r h c => h c)
    (Cert.LossHeadIdeal.Value.run_blocks (F := Ideal) m ρ), ?_⟩
  refine (θ_run Cert.LossHeadRefIdeal.defs _ _).mono
    (fun r h c => ⟨(h c).1.trans ?_, (h c).2.1.trans ?_, (h c).2.2.1.trans ?_, (h c).2.2.2⟩)
    (Cert.LossHeadRefIdeal.Value.run (F := Ideal) m' ρ')
  all_goals
    obtain ⟨h0, h1, h2, h3, h4⟩ := hagree c
    have f := Cert.LossHeadIdeal.Loss.fin_of_pre m c hpre
  · rw [Cert.LossHeadIdeal.Loss.final5 m c f, Cert.LossHeadRefIdeal.Read.val_main_v68_eq]
    simp only [Cert.LossHeadIdeal.Loss.A0, Cert.LossHeadIdeal.Loss.A1, Cert.LossHeadIdeal.Loss.A2, Cert.LossHeadIdeal.Loss.A3, Cert.LossHeadIdeal.Loss.A4, ← h0, ← h1, ← h2, ← h3, ← h4]
  · rw [Cert.LossHeadIdeal.Loss.final6 m c f, Cert.LossHeadRefIdeal.Read.val_main_v70_eq]
    simp only [Cert.LossHeadIdeal.Loss.A0, Cert.LossHeadIdeal.Loss.A1, Cert.LossHeadIdeal.Loss.A2, Cert.LossHeadIdeal.Loss.A3, Cert.LossHeadIdeal.Loss.A4, ← h0, ← h1, ← h2, ← h3, ← h4]
  · rw [Cert.LossHeadIdeal.Loss.final7 m c f, Cert.LossHeadRefIdeal.Read.val_main_v67_eq]
    simp only [Cert.LossHeadIdeal.Loss.A0, Cert.LossHeadIdeal.Loss.A1, Cert.LossHeadIdeal.Loss.A2, Cert.LossHeadIdeal.Loss.A3, Cert.LossHeadIdeal.Loss.A4, ← h0, ← h1, ← h2, ← h3, ← h4]

instance facts_finite_swiglu_bwd : Cert.Pre_finite_swiglu_bwd.Facts where
  bcast_S_S1x2048x2048 := by decide
  bcast_S_S1x2048x11264 := by decide
  bcast_S_S1x5632x2048 := by decide

theorem frame_swigluRef : Cert.quiescent_SwigluBwdRefIdeal := fun m ρ _ =>
  (θ_run Cert.SwigluBwdRefIdeal.defs _ _).mono (fun r h => ⟨fun c => (h c).2,
      Idealize.ShloMosaic.sem_eq_zero_of_no_sems (by decide) r.2⟩)
    (Cert.SwigluBwdRefIdeal.Value.run (F := Ideal) m ρ)

theorem algebraic_swiglu : Cert.algebraic_SwigluBwdIdeal_SwigluBwdRefIdeal_pre_finite_swiglu_bwd := by
  intro m ρ m' ρ' hpre hagree
  refine ⟨_, (θ_run Cert.SwigluBwdIdeal.defs _ _).mono (fun r h c => h c)
    (Cert.SwigluBwdIdeal.Swiglu.run m ρ), ?_⟩
  refine (θ_run Cert.SwigluBwdRefIdeal.defs _ _).mono
    (fun r h c => ⟨(h c).1.trans ?_, (h c).2⟩)
    (Cert.SwigluBwdRefIdeal.Value.run (F := Ideal) m' ρ')
  all_goals
    obtain ⟨h0, h1, h2, h3⟩ := hagree c
    have f := Cert.SwigluBwdIdeal.Swiglu.fin_of_pre m c hpre
  · rw [Cert.SwigluBwdIdeal.Swiglu.final m ρ c f, Cert.SwigluBwdRefIdeal.Read.val_main_v13_eq]
    simp only [Cert.SwigluBwdIdeal.Swiglu.A0, Cert.SwigluBwdIdeal.Swiglu.A1, Cert.SwigluBwdIdeal.Swiglu.A2, Cert.SwigluBwdIdeal.Swiglu.A3, ← h0, ← h1, ← h2, ← h3]

instance facts_finite_hg_fwd : Cert.Pre_finite_hg_fwd.Facts where
  slices_S1x2048x10240_S1x2048x3072_0_0_2048 := by decide
  bcast_S_S1x2048x3072 := by decide
  bcast_S_S2x1024 := by decide

theorem frame_hgRef : Cert.quiescent_HgFwdRefIdeal := fun m ρ _ =>
  (θ_run Cert.HgFwdRefIdeal.defs _ _).mono (fun r h => ⟨fun c => (h c).2.2.2,
      Idealize.ShloMosaic.sem_eq_zero_of_no_sems (by decide) r.2⟩)
    (Cert.HgFwdRefIdeal.Value.run (F := Ideal) m ρ)

theorem preserves_hg : Cert.preserves_HgFwd_HgFwdIdeal := IdealRules.named_const.statement _ _ _ _ _ (by rfl)

theorem algebraic_hg : Cert.algebraic_HgFwdIdeal_HgFwdRefIdeal_pre_finite_hg_fwd := by
  intro m ρ m' ρ' hpre hagree
  refine ⟨_, _, _, (θ_run Cert.HgFwdIdeal.defs _ _).mono (fun r h c => h c)
    (Cert.HgFwdIdeal.Value.run_blocks (F := Ideal) m ρ), ?_⟩
  refine (θ_run Cert.HgFwdRefIdeal.defs _ _).mono
    (fun r h c => ⟨(h c).1.trans ?_, (h c).2.1.trans ?_, (h c).2.2.1.trans ?_, (h c).2.2.2⟩)
    (Cert.HgFwdRefIdeal.Loop.run (F := Ideal) m' ρ')
  all_goals
    obtain ⟨h0, h1, h2⟩ := hagree c
    have f := Cert.HgFwdIdeal.Hg.fin_of_pre m c hpre
    have hs := Cert.HgFwdRefIdeal.Hg.inv_upto (a := Cert.HgFwdIdeal.Hg.args m c) m' c
      (by rw [h0, h1]; exact Cert.HgFwdIdeal.Hg.real_args f) 32 le_rfl
  · rw [Cert.HgFwdIdeal.Hg.final6 m c f _ hs]
    simp only [Cert.HgFwdIdeal.Hg.A0, Cert.HgFwdIdeal.Hg.A2, ← h0, ← h2]
  · rw [Cert.HgFwdIdeal.Hg.final7 m c f _ hs]
  · rw [Cert.HgFwdIdeal.Hg.final8 m c f _ hs]

instance facts_finite_gmlp_fwd : Cert.Pre_finite_gmlp_fwd.Facts where
  slices_S1x2048x10240_S1x2048x2048_0_0_0 := by decide
  bcast_S_S1x2048x2048 := by decide
  bcast_S_S1x1024 := by decide
  bcast_S_S1x8x128x128 := by decide
  bcast_S_S1x8x128 := by decide

theorem frame_hg_bwdRef : Cert.quiescent_HgBwdRefIdeal := fun m ρ _ =>
  (θ_run Cert.HgBwdRefIdeal.defs _ _).mono (fun r h => ⟨fun c => (h c).2.2.2.2,
      Idealize.ShloMosaic.sem_eq_zero_of_no_sems (by decide) r.2⟩)
    (Cert.HgBwdRefIdeal.Value.run (F := Ideal) m ρ)

theorem preserves_hg_bwd : Cert.preserves_HgBwd_HgBwdIdeal := IdealRules.named_const.statement _ _ _ _ _ (by rfl)

theorem frame_gmlp_fwdRef : Cert.quiescent_GmlpFwdRefIdeal := fun m ρ _ =>
  (θ_run Cert.GmlpFwdRefIdeal.defs _ _).mono (fun r h => ⟨fun c => (h c).2,
      Idealize.ShloMosaic.sem_eq_zero_of_no_sems (by decide) r.2⟩)
    (Cert.GmlpFwdRefIdeal.Value.run (F := Ideal) m ρ)

theorem preserves_gmlp_fwd : Cert.preserves_GmlpFwd_GmlpFwdIdeal := IdealRules.named_const.statement _ _ _ _ _ (by rfl)

theorem algebraic_gmlp_fwd : Cert.algebraic_GmlpFwdIdeal_GmlpFwdRefIdeal_pre_finite_gmlp_fwd := by
  intro m ρ m' ρ' hpre hagree
  refine ⟨_, (θ_run Cert.GmlpFwdIdeal.defs _ _).mono (fun r h c => h c)
    (Cert.GmlpFwdIdeal.Value.run_blocks (F := Ideal) m ρ), ?_⟩
  refine (θ_run Cert.GmlpFwdRefIdeal.defs _ _).mono
    (fun r h c => ⟨(h c).1.trans ?_, (h c).2⟩)
    (Cert.GmlpFwdRefIdeal.Value.run (F := Ideal) m' ρ')
  all_goals
    obtain ⟨h0, h1, h2, h3, h4⟩ := hagree c
    have f := Cert.GmlpFwdIdeal.Gmlp.fin_of_pre m c hpre
  · rw [Cert.GmlpFwdIdeal.Gmlp.final6 m c f, Cert.GmlpFwdRefIdeal.Read.val_main_v74_eq]
    simp only [Cert.GmlpFwdIdeal.Gmlp.A0, Cert.GmlpFwdIdeal.Gmlp.A1, Cert.GmlpFwdIdeal.Gmlp.A2, Cert.GmlpFwdIdeal.Gmlp.A3, Cert.GmlpFwdIdeal.Gmlp.A4, ← h0, ← h1, ← h2, ← h3, ← h4]

theorem frame_swiglu_fwdRef : Cert.quiescent_SwigluFwdRefIdeal := fun m ρ _ =>
  (θ_run Cert.SwigluFwdRefIdeal.defs _ _).mono (fun r h => ⟨fun c => (h c).2.2,
      Idealize.ShloMosaic.sem_eq_zero_of_no_sems (by decide) r.2⟩)
    (Cert.SwigluFwdRefIdeal.Value.run (F := Ideal) m ρ)

instance facts_finite_swiglu_fwd : Cert.Pre_finite_swiglu_fwd.Facts where
  bcast_S_S1x2048x2048 := by decide
  bcast_S_S1x2048x11264 := by decide

theorem algebraic_swiglu_fwd : Cert.algebraic_SwigluFwdIdeal_SwigluFwdRefIdeal_pre_finite_swiglu_fwd := by
  intro m ρ m' ρ' hpre hagree
  refine ⟨_, _, (θ_run Cert.SwigluFwdIdeal.defs _ _).mono (fun r h c => h c)
    (Cert.SwigluFwdIdeal.Value.run_blocks (F := Ideal) m ρ), ?_⟩
  refine (θ_run Cert.SwigluFwdRefIdeal.defs _ _).mono
    (fun r h c => ⟨(h c).1.trans ?_, (h c).2.1.trans ?_, (h c).2.2⟩)
    (Cert.SwigluFwdRefIdeal.Value.run (F := Ideal) m' ρ')
  all_goals obtain ⟨h0, h1⟩ := hagree c
  all_goals have f := Cert.SwigluFwdIdeal.Swiglu.fin_of_pre m c hpre
  · rw [Cert.SwigluFwdIdeal.Swiglu.final3 m c f, h0, h1, Cert.SwigluFwdRefIdeal.Read.val_main_v11_eq]
  · rw [Cert.SwigluFwdIdeal.Swiglu.final4 m c f, h0, h1, Cert.SwigluFwdRefIdeal.Read.val_main_v13_eq]

theorem frame_merge_fwdRef : Cert.quiescent_MergeFwdRefIdeal := fun m ρ _ =>
  (θ_run Cert.MergeFwdRefIdeal.defs _ _).mono (fun r h => ⟨fun c => (h c).2.2,
      Idealize.ShloMosaic.sem_eq_zero_of_no_sems (by decide) r.2⟩)
    (Cert.MergeFwdRefIdeal.Value.run (F := Ideal) m ρ)

theorem algebraic_merge_fwd : Cert.algebraic_MergeFwdIdeal_MergeFwdRefIdeal := by
  intro m ρ m' ρ' _ hagree
  refine ⟨_, _, (θ_run Cert.MergeFwdIdeal.defs _ _).mono (fun r h c => h c)
    (Cert.MergeFwdIdeal.Value.run_blocks (F := Ideal) m ρ), ?_⟩
  refine (θ_run Cert.MergeFwdRefIdeal.defs _ _).mono
    (fun r h c => ⟨(h c).1.trans ?_, (h c).2.1.trans ?_, (h c).2.2⟩)
    (Cert.MergeFwdRefIdeal.Value.run (F := Ideal) m' ρ')
  all_goals obtain ⟨h0, h1, h2, h3, h4⟩ := hagree c
  · rw [Cert.MergeFwdIdeal.Merge.final7 m c, h2, h4, Cert.MergeFwdRefIdeal.Read.val_main_v30_eq]
  · rw [Cert.MergeFwdIdeal.Merge.final8 m c, h0, h1, h2, h3, h4, Cert.MergeFwdRefIdeal.Read.val_main_v32_eq]

theorem frame_norm_one_fwdRef : Cert.quiescent_NormOneFwdRefIdeal := fun m ρ _ =>
  (θ_run Cert.NormOneFwdRefIdeal.defs _ _).mono (fun r h => ⟨fun c => (h c).2,
      Idealize.ShloMosaic.sem_eq_zero_of_no_sems (by decide) r.2⟩)
    (Cert.NormOneFwdRefIdeal.Value.run (F := Ideal) m ρ)

theorem algebraic_norm_one_fwd : Cert.algebraic_NormOneFwdIdeal_NormOneFwdRefIdeal := by
  intro m ρ m' ρ' _ hagree
  refine ⟨_, (θ_run Cert.NormOneFwdIdeal.defs _ _).mono (fun r h c => h c)
    (Cert.NormOneFwdIdeal.Value.run_blocks (F := Ideal) m ρ), ?_⟩
  refine (θ_run Cert.NormOneFwdRefIdeal.defs _ _).mono
    (fun r h c => ⟨(h c).1.trans ?_, (h c).2⟩)
    (Cert.NormOneFwdRefIdeal.Value.run (F := Ideal) m' ρ')
  all_goals obtain ⟨h0, h1, h2, h3⟩ := hagree c
  · rw [Cert.NormOneFwdIdeal.Norm.final m c, h0, h1, h2, h3, Cert.NormOneFwdRefIdeal.Read.val_main_v23_eq]

theorem frame_norm_two_fwdRef : Cert.quiescent_NormTwoFwdRefIdeal := fun m ρ _ =>
  (θ_run Cert.NormTwoFwdRefIdeal.defs _ _).mono (fun r h => ⟨fun c => (h c).2,
      Idealize.ShloMosaic.sem_eq_zero_of_no_sems (by decide) r.2⟩)
    (Cert.NormTwoFwdRefIdeal.Value.run (F := Ideal) m ρ)

theorem algebraic_norm_two_fwd : Cert.algebraic_NormTwoFwdIdeal_NormTwoFwdRefIdeal := by
  intro m ρ m' ρ' _ hagree
  refine ⟨_, (θ_run Cert.NormTwoFwdIdeal.defs _ _).mono (fun r h c => h c)
    (Cert.NormTwoFwdIdeal.Value.run_blocks (F := Ideal) m ρ), ?_⟩
  refine (θ_run Cert.NormTwoFwdRefIdeal.defs _ _).mono
    (fun r h c => ⟨(h c).1.trans ?_, (h c).2⟩)
    (Cert.NormTwoFwdRefIdeal.Value.run (F := Ideal) m' ρ')
  all_goals obtain ⟨h0, h1, h2, h3, h4, h5⟩ := hagree c
  · rw [Cert.NormTwoFwdIdeal.Norm.final m c, h0, h1, h2, h3, h4, h5, Cert.NormTwoFwdRefIdeal.Read.val_main_v27_eq]

theorem frame_ffn_outRef : Cert.quiescent_FfnOutRefIdeal := fun m ρ _ =>
  (θ_run Cert.FfnOutRefIdeal.defs _ _).mono (fun r h => ⟨fun c => (h c).2.2,
      Idealize.ShloMosaic.sem_eq_zero_of_no_sems (by decide) r.2⟩)
    (Cert.FfnOutRefIdeal.Value.run (F := Ideal) m ρ)

theorem algebraic_ffn_out : Cert.algebraic_FfnOutIdeal_FfnOutRefIdeal := by
  intro m ρ m' ρ' _ hagree
  refine ⟨_, _, (θ_run Cert.FfnOutIdeal.defs _ _).mono (fun r h c => h c)
    (Cert.FfnOutIdeal.Value.run_blocks (F := Ideal) m ρ), ?_⟩
  refine (θ_run Cert.FfnOutRefIdeal.defs _ _).mono
    (fun r h c => ⟨(h c).1.trans ?_, (h c).2.1.trans ?_, (h c).2.2⟩)
    (Cert.FfnOutRefIdeal.Value.run (F := Ideal) m' ρ')
  all_goals obtain ⟨h0, h1, h2, h3⟩ := hagree c
  · rw [Cert.FfnOutIdeal.Product.final4 m c, h1, h3, Cert.FfnOutRefIdeal.Read.val_main_v3_eq]
  · rw [Cert.FfnOutIdeal.Product.final5 m c, h0, h1, h2, h3, Cert.FfnOutRefIdeal.Read.val_main_v8_eq]

theorem frame_ada_modRef : Cert.quiescent_AdaModRefIdeal := fun m ρ _ =>
  (θ_run Cert.AdaModRefIdeal.defs _ _).mono (fun r h => ⟨fun c => (h c).2.2,
      Idealize.ShloMosaic.sem_eq_zero_of_no_sems (by decide) r.2⟩)
    (Cert.AdaModRefIdeal.Value.run (F := Ideal) m ρ)

theorem algebraic_ada_mod : Cert.algebraic_AdaModIdeal_AdaModRefIdeal := by
  intro m ρ m' ρ' _ hagree
  refine ⟨_, _, (θ_run Cert.AdaModIdeal.defs _ _).mono (fun r h c => h c)
    (Cert.AdaModIdeal.Value.run_blocks (F := Ideal) m ρ), ?_⟩
  refine (θ_run Cert.AdaModRefIdeal.defs _ _).mono
    (fun r h c => ⟨(h c).1.trans ?_, (h c).2.1.trans ?_, (h c).2.2⟩)
    (Cert.AdaModRefIdeal.Value.run (F := Ideal) m' ρ')
  all_goals obtain ⟨h0, h1⟩ := hagree c
  · rw [Cert.AdaModIdeal.Product.final2 m c, h0, h1, Cert.AdaModRefIdeal.Read.val_main_v3_eq]
  · rw [Cert.AdaModIdeal.Product.final3 m c, h0, Cert.AdaModRefIdeal.Read.val_main_v1_eq]

theorem frame_proj_inRef : Cert.quiescent_ProjInRefIdeal := fun m ρ _ =>
  (θ_run Cert.ProjInRefIdeal.defs _ _).mono (fun r h => ⟨fun c => (h c).2,
      Idealize.ShloMosaic.sem_eq_zero_of_no_sems (by decide) r.2⟩)
    (Cert.ProjInRefIdeal.Value.run (F := Ideal) m ρ)

theorem algebraic_proj_in : Cert.algebraic_ProjInIdeal_ProjInRefIdeal := by
  intro m ρ m' ρ' _ hagree
  refine ⟨_, (θ_run Cert.ProjInIdeal.defs _ _).mono (fun r h c => h c)
    (Cert.ProjInIdeal.Value.run_blocks (F := Ideal) m ρ), ?_⟩
  refine (θ_run Cert.ProjInRefIdeal.defs _ _).mono
    (fun r h c => ⟨(h c).1.trans ?_, (h c).2⟩)
    (Cert.ProjInRefIdeal.Value.run (F := Ideal) m' ρ')
  all_goals obtain ⟨h0, h1⟩ := hagree c
  · rw [Cert.ProjInIdeal.Product.final2 m c, h0, h1, Cert.ProjInRefIdeal.Read.val_main_v2_eq]

theorem frame_ffn_in_dwRef : Cert.quiescent_FfnInDwRefIdeal := fun m ρ _ =>
  (θ_run Cert.FfnInDwRefIdeal.defs _ _).mono (fun r h => ⟨fun c => (h c).2,
      Idealize.ShloMosaic.sem_eq_zero_of_no_sems (by decide) r.2⟩)
    (Cert.FfnInDwRefIdeal.Value.run (F := Ideal) m ρ)

theorem algebraic_ffn_in_dw : Cert.algebraic_FfnInDwIdeal_FfnInDwRefIdeal := by
  intro m ρ m' ρ' _ hagree
  refine ⟨_, (θ_run Cert.FfnInDwIdeal.defs _ _).mono (fun r h c => h c)
    (Cert.FfnInDwIdeal.Value.run_blocks (F := Ideal) m ρ), ?_⟩
  refine (θ_run Cert.FfnInDwRefIdeal.defs _ _).mono
    (fun r h c => ⟨(h c).1.trans ?_, (h c).2⟩)
    (Cert.FfnInDwRefIdeal.Value.run (F := Ideal) m' ρ')
  all_goals obtain ⟨h0, h1⟩ := hagree c
  · rw [Cert.FfnInDwIdeal.Product.final2 m c, h0, h1, Cert.FfnInDwRefIdeal.Read.val_main_v8_eq]

theorem frame_branch_dxRef : Cert.quiescent_BranchDxRefIdeal := fun m ρ _ =>
  (θ_run Cert.BranchDxRefIdeal.defs _ _).mono (fun r h => ⟨fun c => (h c).2,
      Idealize.ShloMosaic.sem_eq_zero_of_no_sems (by decide) r.2⟩)
    (Cert.BranchDxRefIdeal.Value.run (F := Ideal) m ρ)

theorem algebraic_branch_dx : Cert.algebraic_BranchDxIdeal_BranchDxRefIdeal := by
  intro m ρ m' ρ' _ hagree
  refine ⟨_, (θ_run Cert.BranchDxIdeal.defs _ _).mono (fun r h c => h c)
    (Cert.BranchDxIdeal.Value.run_blocks (F := Ideal) m ρ), ?_⟩
  refine (θ_run Cert.BranchDxRefIdeal.defs _ _).mono
    (fun r h c => ⟨(h c).1.trans ?_, (h c).2⟩)
    (Cert.BranchDxRefIdeal.Value.run (F := Ideal) m' ρ')
  all_goals obtain ⟨h0, h1⟩ := hagree c
  · rw [Cert.BranchDxIdeal.Product.final2 m c, h0, h1, Cert.BranchDxRefIdeal.Read.val_main_v4_eq]

theorem frame_ffn_in_dxRef : Cert.quiescent_FfnInDxRefIdeal := fun m ρ _ =>
  (θ_run Cert.FfnInDxRefIdeal.defs _ _).mono (fun r h => ⟨fun c => (h c).2,
      Idealize.ShloMosaic.sem_eq_zero_of_no_sems (by decide) r.2⟩)
    (Cert.FfnInDxRefIdeal.Value.run (F := Ideal) m ρ)

theorem algebraic_ffn_in_dx : Cert.algebraic_FfnInDxIdeal_FfnInDxRefIdeal := by
  intro m ρ m' ρ' _ hagree
  refine ⟨_, (θ_run Cert.FfnInDxIdeal.defs _ _).mono (fun r h c => h c)
    (Cert.FfnInDxIdeal.Value.run_blocks (F := Ideal) m ρ), ?_⟩
  refine (θ_run Cert.FfnInDxRefIdeal.defs _ _).mono
    (fun r h c => ⟨(h c).1.trans ?_, (h c).2⟩)
    (Cert.FfnInDxRefIdeal.Value.run (F := Ideal) m' ρ')
  all_goals obtain ⟨h0, h1⟩ := hagree c
  · rw [Cert.FfnInDxIdeal.Product.final2 m c, h0, h1, Cert.FfnInDxRefIdeal.Read.val_main_v4_eq]

theorem claim : Cert.Claim :=
  ⟨Cert.MergeBwd.Gen.facts, Cert.MergeBwdIdeal.Gen.facts, Cert.MergeBwdRefIdeal.Gen.facts,
    Cert.GmlpBwd.Gen.facts, Cert.GmlpBwdIdeal.Gen.facts, Cert.GmlpBwdRefIdeal.Gen.facts,
    Cert.NormTwoBwd.Gen.facts, Cert.NormTwoBwdIdeal.Gen.facts, Cert.NormTwoBwdRefIdeal.Gen.facts,
    Cert.NormOneBwd.Gen.facts, Cert.NormOneBwdIdeal.Gen.facts, Cert.NormOneBwdRefIdeal.Gen.facts,
    Cert.LossHead.Gen.facts, Cert.LossHeadIdeal.Gen.facts, Cert.LossHeadRefIdeal.Gen.facts,
    Cert.SwigluBwd.Gen.facts, Cert.SwigluBwdIdeal.Gen.facts, Cert.SwigluBwdRefIdeal.Gen.facts,
    Cert.HgFwd.Gen.facts, Cert.HgFwdIdeal.Gen.facts, Cert.HgFwdRefIdeal.Gen.facts,
    Cert.HgBwd.Gen.facts, Cert.HgBwdIdeal.Gen.facts, Cert.HgBwdRefIdeal.Gen.facts,
    Cert.GmlpFwd.Gen.facts, Cert.GmlpFwdIdeal.Gen.facts, Cert.GmlpFwdRefIdeal.Gen.facts,
    Cert.SwigluFwd.Gen.facts, Cert.SwigluFwdIdeal.Gen.facts, Cert.SwigluFwdRefIdeal.Gen.facts,
    Cert.MergeFwd.Gen.facts, Cert.MergeFwdIdeal.Gen.facts, Cert.MergeFwdRefIdeal.Gen.facts,
    Cert.NormOneFwd.Gen.facts, Cert.NormOneFwdIdeal.Gen.facts, Cert.NormOneFwdRefIdeal.Gen.facts,
    Cert.NormTwoFwd.Gen.facts, Cert.NormTwoFwdIdeal.Gen.facts, Cert.NormTwoFwdRefIdeal.Gen.facts,
    Cert.FfnOut.Gen.facts, Cert.FfnOutIdeal.Gen.facts, Cert.FfnOutRefIdeal.Gen.facts,
    Cert.AdaMod.Gen.facts, Cert.AdaModIdeal.Gen.facts, Cert.AdaModRefIdeal.Gen.facts,
    Cert.ProjIn.Gen.facts, Cert.ProjInIdeal.Gen.facts, Cert.ProjInRefIdeal.Gen.facts,
    Cert.FfnInDw.Gen.facts, Cert.FfnInDwIdeal.Gen.facts, Cert.FfnInDwRefIdeal.Gen.facts,
    Cert.BranchDx.Gen.facts, Cert.BranchDxIdeal.Gen.facts, Cert.BranchDxRefIdeal.Gen.facts,
    Cert.FfnInDx.Gen.facts, Cert.FfnInDxIdeal.Gen.facts, Cert.FfnInDxRefIdeal.Gen.facts,
    facts_finite_gmlp, facts_finite_norm_two_bwd, facts_finite_norm_one_bwd, facts_finite_loss_head, facts_finite_swiglu_bwd, facts_finite_hg_fwd, facts_finite_gmlp_fwd, facts_finite_swiglu_fwd,
    fun m ρ _ => Cert.MergeBwd.Gen.frame m ρ, fun m ρ _ => Cert.MergeBwdIdeal.Gen.frame m ρ, frame_mergeRef,
    fun m ρ _ => Cert.GmlpBwd.Gen.frame m ρ, fun m ρ _ => Cert.GmlpBwdIdeal.Gen.frame m ρ, fun m ρ _ => Cert.GmlpBwdIdeal.Gen.frame m ρ,
    frame_gmlpRef, fun m ρ _ => frame_gmlpRef m ρ trivial,
    fun m ρ _ => Cert.NormTwoBwd.Gen.frame m ρ, fun m ρ _ => Cert.NormTwoBwdIdeal.Gen.frame m ρ, fun m ρ _ => Cert.NormTwoBwdIdeal.Gen.frame m ρ,
    frame_norm_twoRef, fun m ρ _ => frame_norm_twoRef m ρ trivial,
    fun m ρ _ => Cert.NormOneBwd.Gen.frame m ρ, fun m ρ _ => Cert.NormOneBwdIdeal.Gen.frame m ρ, fun m ρ _ => Cert.NormOneBwdIdeal.Gen.frame m ρ,
    frame_norm_oneRef, fun m ρ _ => frame_norm_oneRef m ρ trivial,
    fun m ρ _ => Cert.LossHead.Gen.frame m ρ, fun m ρ _ => Cert.LossHeadIdeal.Gen.frame m ρ, fun m ρ _ => Cert.LossHeadIdeal.Gen.frame m ρ,
    frame_lossRef, fun m ρ _ => frame_lossRef m ρ trivial,
    fun m ρ _ => Cert.SwigluBwd.Gen.frame m ρ, fun m ρ _ => Cert.SwigluBwdIdeal.Gen.frame m ρ, fun m ρ _ => Cert.SwigluBwdIdeal.Gen.frame m ρ,
    frame_swigluRef, fun m ρ _ => frame_swigluRef m ρ trivial,
    fun m ρ _ => Cert.HgFwd.Gen.frame m ρ, fun m ρ _ => Cert.HgFwdIdeal.Gen.frame m ρ, fun m ρ _ => Cert.HgFwdIdeal.Gen.frame m ρ,
    frame_hgRef, fun m ρ _ => frame_hgRef m ρ trivial,
    fun m ρ _ => Cert.HgBwd.Gen.frame m ρ, fun m ρ _ => Cert.HgBwdIdeal.Gen.frame m ρ, frame_hg_bwdRef,
    fun m ρ _ => Cert.GmlpFwd.Gen.frame m ρ, fun m ρ _ => Cert.GmlpFwdIdeal.Gen.frame m ρ, fun m ρ _ => Cert.GmlpFwdIdeal.Gen.frame m ρ,
    frame_gmlp_fwdRef, fun m ρ _ => frame_gmlp_fwdRef m ρ trivial,
    fun m ρ _ => Cert.SwigluFwd.Gen.frame m ρ, fun m ρ _ => Cert.SwigluFwdIdeal.Gen.frame m ρ, fun m ρ _ => Cert.SwigluFwdIdeal.Gen.frame m ρ,
    frame_swiglu_fwdRef, fun m ρ _ => frame_swiglu_fwdRef m ρ trivial,
    fun m ρ _ => Cert.MergeFwd.Gen.frame m ρ, fun m ρ _ => Cert.MergeFwdIdeal.Gen.frame m ρ, frame_merge_fwdRef,
    fun m ρ _ => Cert.NormOneFwd.Gen.frame m ρ, fun m ρ _ => Cert.NormOneFwdIdeal.Gen.frame m ρ, frame_norm_one_fwdRef,
    fun m ρ _ => Cert.NormTwoFwd.Gen.frame m ρ, fun m ρ _ => Cert.NormTwoFwdIdeal.Gen.frame m ρ, frame_norm_two_fwdRef,
    fun m ρ _ => Cert.FfnOut.Gen.frame m ρ, fun m ρ _ => Cert.FfnOutIdeal.Gen.frame m ρ, frame_ffn_outRef,
    fun m ρ _ => Cert.AdaMod.Gen.frame m ρ, fun m ρ _ => Cert.AdaModIdeal.Gen.frame m ρ, frame_ada_modRef,
    fun m ρ _ => Cert.ProjIn.Gen.frame m ρ, fun m ρ _ => Cert.ProjInIdeal.Gen.frame m ρ, frame_proj_inRef,
    fun m ρ _ => Cert.FfnInDw.Gen.frame m ρ, fun m ρ _ => Cert.FfnInDwIdeal.Gen.frame m ρ, frame_ffn_in_dwRef,
    fun m ρ _ => Cert.BranchDx.Gen.frame m ρ, fun m ρ _ => Cert.BranchDxIdeal.Gen.frame m ρ, frame_branch_dxRef,
    fun m ρ _ => Cert.FfnInDx.Gen.frame m ρ, fun m ρ _ => Cert.FfnInDxIdeal.Gen.frame m ρ, frame_ffn_in_dxRef,
    trivial, algebraic_merge, preserves_gmlp, algebraic_gmlp,
    trivial, algebraic_norm_two,
    trivial, algebraic_norm_one,
    trivial, algebraic_loss,
    trivial, algebraic_swiglu,
    preserves_hg, algebraic_hg,
    preserves_hg_bwd,
    preserves_gmlp_fwd, algebraic_gmlp_fwd,
    trivial, algebraic_swiglu_fwd,
    trivial, algebraic_merge_fwd,
    trivial, algebraic_norm_one_fwd,
    trivial, algebraic_norm_two_fwd,
    trivial, algebraic_ffn_out,
    trivial, algebraic_ada_mod,
    trivial, algebraic_proj_in,
    trivial, algebraic_ffn_in_dw,
    trivial, algebraic_branch_dx,
    trivial, algebraic_ffn_in_dx⟩

end Cert.Proof

end
